-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))).2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  IdealRules.named_const.Statement Cert.KernelIdeal.κ "expo" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v32) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v278_0)) (v1 : (c : Dev Cert.Kernel3Ideal.nD) → Buf (Elt Ideal) ((c.tc : Thread Cert.Kernel3Ideal.nD Cert.Kernel3Ideal.τ).loc Cert.Kernel3Ideal.main_v278_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v278_0) = v0 c
          ∧ r.2.mem ((c.tc : Thread Cert.Kernel3Ideal.nD Cert.Kernel3Ideal.τ).loc Cert.Kernel3Ideal.main_v278_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "cube" .f32 0x3D122279#32 (((6693141 / 8388608) * (12003091 / 268435456) : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v59_0)) (v1 : (c : Dev Cert.Kernel5Ideal.nD) → Buf (Elt Ideal) ((c.tc : Thread Cert.Kernel5Ideal.nD Cert.Kernel5Ideal.τ).loc Cert.Kernel5Ideal.main_v59_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v59_0) = v0 c
          ∧ r.2.mem ((c.tc : Thread Cert.Kernel5Ideal.nD Cert.Kernel5Ideal.τ).loc Cert.Kernel5Ideal.main_v59_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v59_0)) (v1 : (c : Dev Cert.Kernel6Ideal.nD) → Buf (Elt Ideal) ((c.tc : Thread Cert.Kernel6Ideal.nD Cert.Kernel6Ideal.τ).loc Cert.Kernel6Ideal.main_v59_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v59_0) = v0 c
          ∧ r.2.mem ((c.tc : Thread Cert.Kernel6Ideal.nD Cert.Kernel6Ideal.τ).loc Cert.Kernel6Ideal.main_v59_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v278_0)) (v1 : (c : Dev Cert.Kernel7Ideal.nD) → Buf (Elt Ideal) ((c.tc : Thread Cert.Kernel7Ideal.nD Cert.Kernel7Ideal.τ).loc Cert.Kernel7Ideal.main_v278_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v278_0) = v0 c
          ∧ r.2.mem ((c.tc : Thread Cert.Kernel7Ideal.nD Cert.Kernel7Ideal.τ).loc Cert.Kernel7Ideal.main_v278_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v78) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v278_0)) (v1 : (c : Dev Cert.Kernel8Ideal.nD) → Buf (Elt Ideal) ((c.tc : Thread Cert.Kernel8Ideal.nD Cert.Kernel8Ideal.τ).loc Cert.Kernel8Ideal.main_v278_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v278_0) = v0 c
          ∧ r.2.mem ((c.tc : Thread Cert.Kernel8Ideal.nD Cert.Kernel8Ideal.τ).loc Cert.Kernel8Ideal.main_v278_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v39) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "mask" .f32 0xF149F2CA#32 ⊥
  ∧ IdealRules.named_const.Statement Cert.Kernel10Ideal.κ "expo" .f32 0x3E0293EE#32 (((11863283 / 134217728) * (Real.log 2)⁻¹ : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v70) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v280_0)) (v1 : (c : Dev Cert.Kernel12Ideal.nD) → Buf (Elt Ideal) ((c.tc : Thread Cert.Kernel12Ideal.nD Cert.Kernel12Ideal.τ).loc Cert.Kernel12Ideal.main_v280_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v280_0) = v0 c
          ∧ r.2.mem ((c.tc : Thread Cert.Kernel12Ideal.nD Cert.Kernel12Ideal.τ).loc Cert.Kernel12Ideal.main_v280_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v61) = v0 c
          ∧ r.2.mem ((c.tc : Thread Cert.Reference12Ideal.nD Cert.Reference12Ideal.τ).loc Cert.Reference12Ideal.main_v60) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite4 : Cert.Pre_finite4.Facts) (hPre_finite5 : Cert.Pre_finite5.Facts) (hPre_finite6 : Cert.Pre_finite6.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S24x8704x256 : Shape := ⟨3, ![24, 8704, 256]⟩
abbrev S1x128 : Shape := ⟨2, ![1, 128]⟩
abbrev S1x256 : Shape := ⟨2, ![1, 256]⟩
abbrev S_ : Shape := ⟨0, ![]⟩

class Facts : Prop where
  bitsLt_bf16_f32 : FTy.bits .bf16 < FTy.bits .f32
  bcast_S_S24x8704x256 : S_.BroadcastsInDim S24x8704x256 (![] : Fin 0 → Fin S24x8704x256.rank)
  bcast_S_S1x128 : S_.BroadcastsInDim S1x128 (![] : Fin 0 → Fin S1x128.rank)

variable [Facts]

def fn {F : FTy → Type} [FloatOps F] (main_arg0 : FVec F S24x8704x256 .bf16) (main_arg1 : FVec F S1x128 .f32) (main_arg2 : FVec F S1x128 .f32) (main_arg3 : FVec F S1x128 .f32) (main_arg4 : FVec F S1x128 .f32) (main_arg5 : FVec F S1x256 .f32) : IVec S24x8704x256 1 × IVec S1x128 1 × IVec S1x128 1 × IVec S1x128 1 × IVec S1x128 1 :=
  let main_v0 : FVec F S24x8704x256 .f32 := (extf .f32 · bitsLt_bf16_f32) main_arg0
  let main_v1 : FVec F S24x8704x256 .f32 := Host.absf main_v0
  let main_cst : FVec F S_ .f32 := constant S_ .f32 0x7F800000#32
  let main_v2 : FVec F S24x8704x256 .f32 := broadcastInDim S24x8704x256 ![] bcast_S_S24x8704x256 main_cst
  let main_v3 : IVec S24x8704x256 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S1x128 .f32 := Host.absf main_arg3
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_v13 : FVec F S1x128 .f32 := Host.absf main_arg4
  let main_cst_3 : FVec F S_ .f32 := constant S_ .f32 0x7F800000#32
  let main_v14 : FVec F S1x128 .f32 := broadcastInDim S1x128 ![] bcast_S_S1x128 main_cst_3
  let main_v15 : IVec S1x128 1 := cmpf .olt main_v13 main_v14
  (main_v3, main_v6, main_v9, main_v12, main_v15)
-- ==== Pre_finite10.lean ====
abbrev S8704x3072 : Shape := ⟨2, ![8704, 3072]⟩
abbrev S2x16 : Shape := ⟨2, ![2, 16]⟩
abbrev S_ : Shape := ⟨0, ![]⟩

class Facts : Prop where
  bitsLt_bf16_f32 : FTy.bits .bf16 < FTy.bits .f32
  bcast_S_S8704x3072 : S_.BroadcastsInDim S8704x3072 (![] : Fin 0 → Fin S8704x3072.rank)
  bcast_S_S2x16 : S_.BroadcastsInDim S2x16 (![] : Fin 0 → Fin S2x16.rank)

variable [Facts]

def fn {F : FTy → Type} [FloatOps F] (main_arg0 : FVec F S8704x3072 .bf16) (main_arg1 : FVec F S2x16 .f32) : IVec S8704x3072 1 × IVec S2x16 1 :=
  let main_v0 : FVec F S8704x3072 .f32 := (extf .f32 · bitsLt_bf16_f32) main_arg0
  let main_v1 : FVec F S8704x3072 .f32 := Host.absf main_v0
  let main_cst : FVec F S_ .f32 := constant S_ .f32 0x7F800000#32
  let main_v2 : FVec F S8704x3072 .f32 := broadcastInDim S8704x3072 ![] bcast_S_S8704x3072 main_cst
  let main_v3 : IVec S8704x3072 1 := cmpf .olt main_v1 main_v2
  let main_v4 : FVec F S2x16 .f32 := Host.absf main_arg1
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  (main_v3, main_v6)
-- ==== Pre_finite4.lean ====
abbrev S8704x2048 : Shape := ⟨2, ![8704, 2048]⟩
abbrev S2048x12288 : Shape := ⟨2, ![2048, 12288]⟩
abbrev S1x6144x2048 : Shape := ⟨3, ![1, 6144, 2048]⟩
abbrev S4x2x2048x11008 : Shape := ⟨4, ![4, 2, 2048, 11008]⟩
abbrev S_ : Shape := ⟨0, ![]⟩

class Facts : Prop where
  bitsLt_bf16_f32 : FTy.bits .bf16 < FTy.bits .f32
  bcast_S_S8704x2048 : S_.BroadcastsInDim S8704x2048 (![] : Fin 0 → Fin S8704x2048.rank)
  bcast_S_S2048x12288 : S_.BroadcastsInDim S2048x12288 (![] : Fin 0 → Fin S2048x12288.rank)

variable [Facts]

def fn {F : FTy → Type} [FloatOps F] (main_arg0 : FVec F S8704x2048 .bf16) (main_arg1 : FVec F S2048x12288 .bf16) (main_arg2 : FVec F S1x6144x2048 .f32) (main_arg3 : FVec F S4x2x2048x11008 .f32) : IVec S8704x2048 1 × IVec S2048x12288 1 :=
  let main_v0 : FVec F S8704x2048 .f32 := (extf .f32 · bitsLt_bf16_f32) main_arg0
  let main_v1 : FVec F S8704x2048 .f32 := Host.absf main_v0
  let main_cst : FVec F S_ .f32 := constant S_ .f32 0x7F800000#32
  let main_v2 : FVec F S8704x2048 .f32 := broadcastInDim S8704x2048 ![] bcast_S_S8704x2048 main_cst
  let main_v3 : IVec S8704x2048 1 := cmpf .olt main_v1 main_v2
  let main_v4 : FVec F S2048x12288 .f32 := (extf .f32 · bitsLt_bf16_f32) main_arg1
  let main_v5 : FVec F S2048x12288 .f32 := Host.absf main_v4
  let main_cst_0 : FVec F S_ .f32 := constant S_ .f32 0x7F800000#32
  let main_v6 : FVec F S2048x12288 .f32 := broadcastInDim S2048x12288 ![] bcast_S_S2048x12288 main_cst_0
  let main_v7 : IVec S2048x12288 1 := cmpf .olt main_v5 main_v6
  (main_v3, main_v7)
-- ==== Pre_finite5.lean ====
abbrev S8704x2048 : Shape := ⟨2, ![8704, 2048]⟩
abbrev S2048x6144 : Shape := ⟨2, ![2048, 6144]⟩
abbrev S1x2048x2048 : Shape := ⟨3, ![1, 2048, 2048]⟩
abbrev S_ : Shape := ⟨0, ![]⟩

class Facts : Prop where
  bitsLt_bf16_f32 : FTy.bits .bf16 < FTy.bits .f32
  bcast_S_S8704x2048 : S_.BroadcastsInDim S8704x2048 (![] : Fin 0 → Fin S8704x2048.rank)
  bcast_S_S2048x6144 : S_.BroadcastsInDim S2048x6144 (![] : Fin 0 → Fin S2048x6144.rank)

variable [Facts]

def fn {F : FTy → Type} [FloatOps F] (main_arg0 : FVec F S8704x2048 .bf16) (main_arg1 : FVec F S2048x6144 .bf16) (main_arg2 : FVec F S1x2048x2048 .f32) : IVec S8704x2048 1 × IVec S2048x6144 1 :=
  let main_v0 : FVec F S8704x2048 .f32 := (extf .f32 · bitsLt_bf16_f32) main_arg0
  let main_v1 : FVec F S8704x2048 .f32 := Host.absf main_v0
  let main_cst : FVec F S_ .f32 := constant S_ .f32 0x7F800000#32
  let main_v2 : FVec F S8704x2048 .f32 := broadcastInDim S8704x2048 ![] bcast_S_S8704x2048 main_cst
  let main_v3 : IVec S8704x2048 1 := cmpf .olt main_v1 main_v2
  let main_v4 : FVec F S2048x6144 .f32 := (extf .f32 · bitsLt_bf16_f32) main_arg1
  let main_v5 : FVec F S2048x6144 .f32 := Host.absf main_v4
  let main_cst_0 : FVec F S_ .f32 := constant S_ .f32 0x7F800000#32
  let main_v6 : FVec F S2048x6144 .f32 := broadcastInDim S2048x6144 ![] bcast_S_S2048x6144 main_cst_0
  let main_v7 : IVec S2048x6144 1 := cmpf .olt main_v5 main_v6
  (main_v3, main_v7)
-- ==== Pre_finite6.lean ====
abbrev S8704x2048 : Shape := ⟨2, ![8704, 2048]⟩
abbrev S2048x3072 : Shape := ⟨2, ![2048, 3072]⟩
abbrev S2x2048x2048 : Shape := ⟨3, ![2, 2048, 2048]⟩
abbrev S_ : Shape := ⟨0, ![]⟩

class Facts : Prop where
  bitsLt_bf16_f32 : FTy.bits .bf16 < FTy.bits .f32
  bcast_S_S8704x2048 : S_.BroadcastsInDim S8704x2048 (![] : Fin 0 → Fin S8704x2048.rank)
  bcast_S_S2048x3072 : S_.BroadcastsInDim S2048x3072 (![] : Fin 0 → Fin S2048x3072.rank)

variable [Facts]

def fn {F : FTy → Type} [FloatOps F] (main_arg0 : FVec F S8704x2048 .bf16) (main_arg1 : FVec F S2048x3072 .bf16) (main_arg2 : FVec F S2x2048x2048 .f32) : IVec S8704x2048 1 × IVec S2048x3072 1 :=
  let main_v0 : FVec F S8704x2048 .f32 := (extf .f32 · bitsLt_bf16_f32) main_arg0
  let main_v1 : FVec F S8704x2048 .f32 := Host.absf main_v0
  let main_cst : FVec F S_ .f32 := constant S_ .f32 0x7F800000#32
  let main_v2 : FVec F S8704x2048 .f32 := broadcastInDim S8704x2048 ![] bcast_S_S8704x2048 main_cst
  let main_v3 : IVec S8704x2048 1 := cmpf .olt main_v1 main_v2
  let main_v4 : FVec F S2048x3072 .f32 := (extf .f32 · bitsLt_bf16_f32) main_arg1
  let main_v5 : FVec F S2048x3072 .f32 := Host.absf main_v4
  let main_cst_0 : FVec F S_ .f32 := constant S_ .f32 0x7F800000#32
  let main_v6 : FVec F S2048x3072 .f32 := broadcastInDim S2048x3072 ![] bcast_S_S2048x3072 main_cst_0
  let main_v7 : IVec S2048x3072 1 := cmpf .olt main_v5 main_v6
  (main_v3, main_v7)
-- ==== Kernel.lean ====
abbrev S24x8704x256 : Shape := ⟨3, ![24, 8704, 256]⟩
abbrev S1x128 : Shape := ⟨2, ![1, 128]⟩
abbrev S1x256 : Shape := ⟨2, ![1, 256]⟩
abbrev S128 : Shape := ⟨1, ![128]⟩
abbrev S256 : Shape := ⟨1, ![256]⟩
abbrev S256x1 : Shape := ⟨2, ![256, 1]⟩
abbrev S8704x2048 : Shape := ⟨2, ![8704, 2048]⟩
abbrev S1x256x256 : Shape := ⟨3, ![1, 256, 256]⟩
abbrev S1x4096x256 : Shape := ⟨3, ![1, 4096, 256]⟩
abbrev S256x256 : Shape := ⟨2, ![256, 256]⟩
abbrev S256x4352 : Shape := ⟨2, ![256, 4352]⟩
abbrev S1 : Shape := ⟨1, ![1]⟩
abbrev S1x1 : Shape := ⟨2, ![1, 1]⟩
abbrev S1x1024x256 : Shape := ⟨3, ![1, 1024, 256]⟩
abbrev S1024x256 : Shape := ⟨2, ![1024, 256]⟩
abbrev S256x1024 : Shape := ⟨2, ![256, 1024]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩

abbrev nBuf : Space → Nat
  | .hbm => 17
  | .vmem => 18
  | .smem => 0
  | _ => 0

abbrev bufTy : (tb : Table) → Fin (tcTables nBuf tb) → BufTy
  | .hbm, ⟨0, _⟩ => ⟨S24x8704x256, .bf16⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x256, .f32⟩
  | .hbm, ⟨6, _⟩ => ⟨S128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S256, .f32⟩
  | .hbm, ⟨15, _⟩ => ⟨S256x1, .f32⟩
  | .hbm, ⟨16, _⟩ => ⟨S8704x2048, .bf16⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S256x1, .f32⟩
  | .local _ .vmem, ⟨5, _⟩ => ⟨S1x256x256, .bf16⟩
  | .local _ .vmem, ⟨6, _⟩ => ⟨S1x256x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S256x256, .bf16⟩
  | .local _ .vmem, ⟨16, _⟩ => ⟨S256x256, .bf16⟩
  | .local _ .vmem, ⟨17, _⟩ => ⟨S256x4352, .bf16⟩
  | _, _ => ⟨S24x8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![2, 8, 17], ![false, false, false]⟩

def k0_cond2 (i : grid0.Coords) : BitVec 1 :=
  let arg2 : BitVec 32 := BitVec.ofNat 32 (i 2).val
  let c16_i32 : BitVec 32 := 16#32
  let v22 : BitVec 1 := Scalar.cmpi .slt arg2 c16_i32
  let v23 : BitVec 32 := Scalar.extui v22
  let c0_i32_10 : BitVec 32 := 0#32
  let v24 : BitVec 1 := Scalar.cmpi .ne v23 c0_i32_10
  v24

def k0_cond3 (i : grid0.Coords) : BitVec 1 :=
  let arg2 : BitVec 32 := BitVec.ofNat 32 (i 2).val
  let c16_i32_11 : BitVec 32 := 16#32
  let v25 : BitVec 1 := Scalar.cmpi .sge arg2 c16_i32_11
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c32_i32 : BitVec 32 := 32#32
  let v4 : BitVec 32 := Scalar.addi c32_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  let c0_i32_2 : BitVec 32 := 0#32
  ![arg1.toNat, v7.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c32_i32 : BitVec 32 := 32#32
  let v1 : BitVec 32 := Scalar.addi c32_i32 arg0
  let c0_i32 : BitVec 32 := 0#32
  let c0_i32_0 : BitVec 32 := 0#32
  ![v0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c32_i32 : BitVec 32 := 32#32
  let v1 : BitVec 32 := Scalar.addi c32_i32 arg0
  let c0_i32 : BitVec 32 := 0#32
  let c0_i32_0 : BitVec 32 := 0#32
  ![v0.toNat, v1.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 1 := Scalar.cmpi .slt arg2 c16_i32
  let c16_i32_0 : BitVec 32 := 16#32
  let v1 : BitVec 32 := Scalar.muli arg0 c16_i32_0
  let v2 : BitVec 32 := Scalar.addi v1 arg2
  let c1_i32 : BitVec 32 := 1#32
  let v3 : BitVec 32 := Scalar.muli arg0 c1_i32
  let c32_i32 : BitVec 32 := 32#32
  let v4 : BitVec 32 := Scalar.addi c32_i32 v3
  let c16_i32_1 : BitVec 32 := 16#32
  let v5 : BitVec 32 := Scalar.subi arg2 c16_i32_1
  let v6 : BitVec 32 := Scalar.addi v4 v5
  let v7 : BitVec 32 := Scalar.select v0 v2 v6
  let c0_i32 : BitVec 32 := 0#32
  ![v7.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
variable {F : FTy → Type} [FloatOps F] [Named F]
def κ : String → Option EReal := fun
  | "expo" => some (((11863283 / 134217728) * (Real.log 2)⁻¹ : ℝ) : EReal)
  | _ => none
-- ==== ReferenceIdeal.lean ====
abbrev S24x8704x256 : Shape := ⟨3, ![24, 8704, 256]⟩
abbrev S1x128 : Shape := ⟨2, ![1, 128]⟩
abbrev S1x256 : Shape := ⟨2, ![1, 256]⟩
abbrev S128 : Shape := ⟨1, ![128]⟩
abbrev S_ : Shape := ⟨0, ![]⟩
abbrev S24x8192x256 : Shape := ⟨3, ![24, 8192, 256]⟩
abbrev S3x8x2x4096x256 : Shape := ⟨5, ![3, 8, 2, 4096, 256]⟩
abbrev S24x512x256 : Shape := ⟨3, ![24, 512, 256]⟩
abbrev S3x8x2x256x256 : Shape := ⟨5, ![3, 8, 2, 256, 256]⟩
abbrev S1x8x2x4096x256 : Shape := ⟨5, ![1, 8, 2, 4096, 256]⟩
abbrev S8x2x4096x256 : Shape := ⟨4, ![8, 2, 4096, 256]⟩
abbrev S8x2x4096x2x128 : Shape := ⟨5, ![8, 2, 4096, 2, 128]⟩
abbrev S1x8x2x256x256 : Shape := ⟨5, ![1, 8, 2, 256, 256]⟩
abbrev S8x2x256x256 : Shape := ⟨4, ![8, 2, 256, 256]⟩
abbrev S8x2x256x2x128 : Shape := ⟨5, ![8, 2, 256, 2, 128]⟩
abbrev S8x2x2x4096x256 : Shape := ⟨5, ![8, 2, 2, 4096, 256]⟩
abbrev S8x2x2x4096x4096 : Shape := ⟨5, ![8, 2, 2, 4096, 4096]⟩
abbrev S8x2x2x4096x4352 : Shape := ⟨5, ![8, 2, 2, 4096, 4352]⟩
abbrev S8x2x2x4096 : Shape := ⟨4, ![8, 2, 2, 4096]⟩
abbrev S8x2x2x4096x1 : Shape := ⟨5, ![8, 2, 2, 4096, 1]⟩
abbrev S8x2x1x4096x4352 : Shape := ⟨5, ![8, 2, 1, 4096, 4352]⟩
abbrev S8x2x4096x4352 : Shape := ⟨4, ![8, 2, 4096, 4352]⟩
abbrev S8x2x4096x4096 : Shape := ⟨4, ![8, 2, 4096, 4096]⟩
abbrev S8x2x4096 : Shape := ⟨3, ![8, 2, 4096]⟩
abbrev S8x2x4096x1 : Shape := ⟨4, ![8, 2, 4096, 1]⟩
abbrev S256 : Shape := ⟨1, ![256]⟩
abbrev S1x1x1x256 : Shape := ⟨4, ![1, 1, 1, 256]⟩
abbrev S2x4096x8x256 : Shape := ⟨4, ![2, 4096, 8, 256]⟩
abbrev S8192x2048 : Shape := ⟨2, ![8192, 2048]⟩
abbrev S8x2x2x256x256 : Shape := ⟨5, ![8, 2, 2, 256, 256]⟩
abbrev S8x2x2x256 : Shape := ⟨4, ![8, 2, 2, 256]⟩
abbrev S8x2x2x256x1 : Shape := ⟨5, ![8, 2, 2, 256, 1]⟩
abbrev S8x2x1x256x256 : Shape := ⟨5, ![8, 2, 1, 256, 256]⟩
abbrev S8x2x256 : Shape := ⟨3, ![8, 2, 256]⟩
abbrev S8x2x256x1 : Shape := ⟨4, ![8, 2, 256, 1]⟩
abbrev S2x256x8x256 : Shape := ⟨4, ![2, 256, 8, 256]⟩
abbrev S512x2048 : Shape := ⟨2, ![512, 2048]⟩
abbrev S8704x2048 : Shape := ⟨2, ![8704, 2048]⟩

abbrev nBuf : Space → Nat
  | .hbm => 150
  | .vmem => 0
  | .smem => 0
  | _ => 0

abbrev hbmTy0_0 (i : Nat) : BufTy := match i % 128 with
  | 0 => ⟨S24x8704x256, .bf16⟩
  | 1 => ⟨S1x128, .f32⟩
  | 2 => ⟨S1x128, .f32⟩
  | 3 => ⟨S1x128, .f32⟩
  | 4 => ⟨S1x128, .f32⟩
  | 5 => ⟨S1x256, .f32⟩
  | 6 => ⟨S24x8704x256, .f32⟩
  | 7 => ⟨S128, .f32⟩
  | 8 => ⟨S128, .f32⟩
  | 9 => ⟨S128, .f32⟩
  | 10 => ⟨S_, .f32⟩
  | 11 => ⟨S_, .f32⟩
  | 12 => ⟨S_, .f32⟩
  | 13 => ⟨S128, .f32⟩
  | 14 => ⟨S128, .f32⟩
  | 15 => ⟨S128, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S24x8192x256, .f32⟩
  | 23 => ⟨S3x8x2x4096x256, .f32⟩
  | 24 => ⟨S24x512x256, .f32⟩
  | 25 => ⟨S3x8x2x256x256, .f32⟩
  | 26 => ⟨S1x8x2x4096x256, .f32⟩
  | 27 => ⟨S8x2x4096x256, .f32⟩
  | 28 => ⟨S8x2x4096x2x128, .f32⟩
  | 29 => ⟨S1x8x2x4096x256, .f32⟩
  | 30 => ⟨S8x2x4096x256, .f32⟩
  | 31 => ⟨S8x2x4096x2x128, .f32⟩
  | 32 => ⟨S1x8x2x4096x256, .f32⟩
  | 33 => ⟨S8x2x4096x256, .f32⟩
  | 34 => ⟨S1x8x2x256x256, .f32⟩
  | 35 => ⟨S8x2x256x256, .f32⟩
  | 36 => ⟨S8x2x256x2x128, .f32⟩
  | 37 => ⟨S1x8x2x256x256, .f32⟩
  | 38 => ⟨S8x2x256x256, .f32⟩
  | 39 => ⟨S8x2x256x2x128, .f32⟩
  | 40 => ⟨S1x8x2x256x256, .f32⟩
  | 41 => ⟨S8x2x256x256, .f32⟩
  | 42 => ⟨S8x2x2x4096x256, .f32⟩
  | 43 => ⟨S_, .f32⟩
  | 44 => ⟨S8x2x2x4096x256, .f32⟩
  | 45 => ⟨S8x2x2x4096x256, .f32⟩
  | 46 => ⟨S8x2x2x4096x4096, .f32⟩
  | 47 => ⟨S_, .f32⟩
  | 48 => ⟨S8x2x2x4096x4096, .f32⟩
  | 49 => ⟨S8x2x2x4096x4096, .f32⟩
  | 50 => ⟨S8x2x2x4096x4352, .f32⟩
  | 51 => ⟨S_, .f32⟩
  | 52 => ⟨S8x2x2x4096, .f32⟩
  | 53 => ⟨S_, .f32⟩
  | 54 => ⟨S8x2x2x4096, .f32⟩
  | 55 => ⟨S8x2x2x4096, .f32⟩
  | 56 => ⟨S8x2x2x4096x1, .f32⟩
  | 57 => ⟨S8x2x2x4096x4352, .f32⟩
  | 58 => ⟨S8x2x2x4096x4352, .f32⟩
  | 59 => ⟨S8x2x2x4096x4352, .f32⟩
  | 60 => ⟨S_, .f32⟩
  | 61 => ⟨S8x2x2x4096, .f32⟩
  | 62 => ⟨S8x2x2x4096x1, .f32⟩
  | 63 => ⟨S8x2x2x4096x4352, .f32⟩
  | 64 => ⟨S8x2x2x4096x4352, .f32⟩
  | 65 => ⟨S8x2x1x4096x4352, .f32⟩
  | 66 => ⟨S8x2x4096x4352, .f32⟩
  | 67 => ⟨S8x2x1x4096x4352, .f32⟩
  | 68 => ⟨S8x2x4096x4352, .f32⟩
  | 69 => ⟨S8x2x4096x4352, .f32⟩
  | 70 => ⟨S8x2x4096x4352, .f32⟩
  | 71 => ⟨S8x2x4096x4352, .f32⟩
  | 72 => ⟨S8x2x4096x256, .f32⟩
  | 73 => ⟨S8x2x4096x256, .f32⟩
  | 74 => ⟨S8x2x4096x4096, .f32⟩
  | 75 => ⟨S8x2x4096x256, .f32⟩
  | 76 => ⟨S8x2x4096x256, .f32⟩
  | 77 => ⟨S8x2x4096x256, .f32⟩
  | 78 => ⟨S_, .f32⟩
  | 79 => ⟨S8x2x4096, .f32⟩
  | 80 => ⟨S8x2x4096x1, .f32⟩
  | 81 => ⟨S_, .f32⟩
  | 82 => ⟨S8x2x4096x1, .f32⟩
  | 83 => ⟨S8x2x4096x1, .f32⟩
  | 84 => ⟨S_, .f32⟩
  | 85 => ⟨S8x2x4096x1, .f32⟩
  | 86 => ⟨S8x2x4096x1, .f32⟩
  | 87 => ⟨S8x2x4096x1, .f32⟩
  | 88 => ⟨S8x2x4096x256, .f32⟩
  | 89 => ⟨S8x2x4096x256, .f32⟩
  | 90 => ⟨S256, .f32⟩
  | 91 => ⟨S1x1x1x256, .f32⟩
  | 92 => ⟨S8x2x4096x256, .f32⟩
  | 93 => ⟨S8x2x4096x256, .f32⟩
  | 94 => ⟨S_, .f32⟩
  | 95 => ⟨S8x2x4096x256, .f32⟩
  | 96 => ⟨S8x2x4096x256, .f32⟩
  | 97 => ⟨S2x4096x8x256, .f32⟩
  | 98 => ⟨S8192x2048, .f32⟩
  | 99 => ⟨S8192x2048, .bf16⟩
  | 100 => ⟨S8x2x2x256x256, .f32⟩
  | 101 => ⟨S_, .f32⟩
  | 102 => ⟨S8x2x2x256x256, .f32⟩
  | 103 => ⟨S8x2x2x256x256, .f32⟩
  | 104 => ⟨S_, .f32⟩
  | 105 => ⟨S8x2x2x256, .f32⟩
  | 106 => ⟨S_, .f32⟩
  | 107 => ⟨S8x2x2x256, .f32⟩
  | 108 => ⟨S8x2x2x256, .f32⟩
  | 109 => ⟨S8x2x2x256x1, .f32⟩
  | 110 => ⟨S8x2x2x256x256, .f32⟩
  | 111 => ⟨S8x2x2x256x256, .f32⟩
  | 112 => ⟨S8x2x2x256x256, .f32⟩
  | 113 => ⟨S_, .f32⟩
  | 114 => ⟨S8x2x2x256, .f32⟩
  | 115 => ⟨S8x2x2x256x1, .f32⟩
  | 116 => ⟨S8x2x2x256x256, .f32⟩
  | 117 => ⟨S8x2x2x256x256, .f32⟩
  | 118 => ⟨S8x2x1x256x256, .f32⟩
  | 119 => ⟨S8x2x256x256, .f32⟩
  | 120 => ⟨S8x2x1x256x256, .f32⟩
  | 121 => ⟨S8x2x256x256, .f32⟩
  | 122 => ⟨S8x2x256x256, .f32⟩
  | 123 => ⟨S8x2x256x256, .f32⟩
  | 124 => ⟨S8x2x256x256, .f32⟩
  | 125 => ⟨S8x2x256x256, .f32⟩
  | 126 => ⟨S8x2x256x256, .f32⟩
  | 127 => ⟨S_, .f32⟩
  | _ => ⟨S24x8704x256, .bf16⟩

abbrev hbmTy0_1 (i : Nat) : BufTy := match i % 128 with
  | 0 => ⟨S8x2x256, .f32⟩
  | 1 => ⟨S8x2x256x1, .f32⟩
  | 2 => ⟨S_, .f32⟩
  | 3 => ⟨S8x2x256x1, .f32⟩
  | 4 => ⟨S8x2x256x1, .f32⟩
  | 5 => ⟨S_, .f32⟩
  | 6 => ⟨S8x2x256x1, .f32⟩
  | 7 => ⟨S8x2x256x1, .f32⟩
  | 8 => ⟨S8x2x256x1, .f32⟩
  | 9 => ⟨S8x2x256x256, .f32⟩
  | 10 => ⟨S8x2x256x256, .f32⟩
  | 11 => ⟨S256, .f32⟩
  | 12 => ⟨S1x1x1x256, .f32⟩
  | 13 => ⟨S8x2x256x256, .f32⟩
  | 14 => ⟨S8x2x256x256, .f32⟩
  | 15 => ⟨S_, .f32⟩
  | 16 => ⟨S8x2x256x256, .f32⟩
  | 17 => ⟨S8x2x256x256, .f32⟩
  | 18 => ⟨S2x256x8x256, .f32⟩
  | 19 => ⟨S512x2048, .f32⟩
  | 20 => ⟨S512x2048, .bf16⟩
  | 21 => ⟨S8704x2048, .bf16⟩
  | _ => ⟨S24x8704x256, .bf16⟩

abbrev hbmTy (i : Nat) : BufTy := match i / 128 with
  | 0 => hbmTy0_0 i
  | 1 => hbmTy0_1 i
  | _ => ⟨S24x8704x256, .bf16⟩

abbrev bufTy : (tb : Table) → Fin (tcTables nBuf tb) → BufTy
  | .hbm, ⟨i, _⟩ => hbmTy i
  | _, _ => ⟨S24x8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_cst_9 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_cst_13 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_14 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_15 : Ref sig .tc := ⟨.hbm, 127, rfl⟩
abbrev main_v105 : Ref sig .tc := ⟨.hbm, 128, rfl⟩
abbrev main_v106 : Ref sig .tc := ⟨.hbm, 129, rfl⟩
abbrev main_cst_16 : Ref sig .tc := ⟨.hbm, 130, rfl⟩
abbrev main_v107 : Ref sig .tc := ⟨.hbm, 131, rfl⟩
abbrev main_v108 : Ref sig .tc := ⟨.hbm, 132, rfl⟩
abbrev main_cst_17 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_18 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩

abbrev nD : Nat := 1
abbrev τ : Topo := Topo.v7x

variable {F : FTy → Type} [FloatOps F]
-- ==== Kernel2.lean ====
abbrev S8704x2048 : Shape := ⟨2, ![8704, 2048]⟩
abbrev S2x2048x5632 : Shape := ⟨3, ![2, 2048, 5632]⟩
abbrev S4x2x5504x2048 : Shape := ⟨4, ![4, 2, 5504, 2048]⟩
abbrev S2x2048x3072 : Shape := ⟨3, ![2, 2048, 3072]⟩
abbrev S4x2x2048x11008 : Shape := ⟨4, ![4, 2, 2048, 11008]⟩
abbrev S8704x5632 : Shape := ⟨2, ![8704, 5632]⟩
abbrev S5632x2048 : Shape := ⟨2, ![5632, 2048]⟩
abbrev S2048x3072 : Shape := ⟨2, ![2048, 3072]⟩
abbrev S2176x2048 : Shape := ⟨2, ![2176, 2048]⟩
abbrev S1x2048x512 : Shape := ⟨3, ![1, 2048, 512]⟩
abbrev S1x1x128x2048 : Shape := ⟨4, ![1, 1, 128, 2048]⟩
abbrev S1x64x3072 : Shape := ⟨3, ![1, 64, 3072]⟩
abbrev S1x1x64x11008 : Shape := ⟨4, ![1, 1, 64, 11008]⟩
abbrev S2176x512 : Shape := ⟨2, ![2176, 512]⟩
abbrev S128x2048 : Shape := ⟨2, ![128, 2048]⟩
abbrev S64x3072 : Shape := ⟨2, ![64, 3072]⟩
abbrev S2x64x5632 : Shape := ⟨3, ![2, 64, 5632]⟩
abbrev S1x2048x256 : Shape := ⟨3, ![1, 2048, 256]⟩
abbrev S2048x256 : Shape := ⟨2, ![2048, 256]⟩
abbrev S2176x256 : Shape := ⟨2, ![2176, 256]⟩
abbrev S1x1x64x5504 : Shape := ⟨4, ![1, 1, 64, 5504]⟩
abbrev S64x5504 : Shape := ⟨2, ![64, 5504]⟩
abbrev S1x64x5504 : Shape := ⟨3, ![1, 64, 5504]⟩
abbrev S64x128 : Shape := ⟨2, ![64, 128]⟩
abbrev S1x64x128 : Shape := ⟨3, ![1, 64, 128]⟩

abbrev nBuf : Space → Nat
  | .hbm => 9
  | .vmem => 20
  | .smem => 0
  | _ => 0

abbrev bufTy : (tb : Table) → Fin (tcTables nBuf tb) → BufTy
  | .hbm, ⟨0, _⟩ => ⟨S8704x2048, .bf16⟩
  | .hbm, ⟨1, _⟩ => ⟨S2x2048x5632, .bf16⟩
  | .hbm, ⟨2, _⟩ => ⟨S4x2x5504x2048, .f32⟩
  | .hbm, ⟨3, _⟩ => ⟨S2x2048x3072, .f32⟩
  | .hbm, ⟨4, _⟩ => ⟨S4x2x2048x11008, .f32⟩
  | .hbm, ⟨5, _⟩ => ⟨S8704x5632, .bf16⟩
  | .hbm, ⟨6, _⟩ => ⟨S5632x2048, .bf16⟩
  | .hbm, ⟨7, _⟩ => ⟨S2048x3072, .bf16⟩
  | .hbm, ⟨8, _⟩ => ⟨S2x2048x5632, .bf16⟩
  | .local _ .vmem, ⟨0, _⟩ => ⟨S2176x2048, .bf16⟩
  | .local _ .vmem, ⟨1, _⟩ => ⟨S2176x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x128x2048, .f32⟩
  | .local _ .vmem, ⟨7, _⟩ => ⟨S1x1x128x2048, .f32⟩
  | .local _ .vmem, ⟨8, _⟩ => ⟨S1x64x3072, .f32⟩
  | .local _ .vmem, ⟨9, _⟩ => ⟨S1x64x3072, .f32⟩
  | .local _ .vmem, ⟨10, _⟩ => ⟨S1x1x64x11008, .f32⟩
  | .local _ .vmem, ⟨11, _⟩ => ⟨S1x1x64x11008, .f32⟩
  | .local _ .vmem, ⟨12, _⟩ => ⟨S2176x512, .bf16⟩
  | .local _ .vmem, ⟨13, _⟩ => ⟨S2176x512, .bf16⟩
  | .local _ .vmem, ⟨14, _⟩ => ⟨S128x2048, .bf16⟩
  | .local _ .vmem, ⟨15, _⟩ => ⟨S128x2048, .bf16⟩
  | .local _ .vmem, ⟨16, _⟩ => ⟨S64x3072, .bf16⟩
  | .local _ .vmem, ⟨17, _⟩ => ⟨S64x3072, .bf16⟩
  | .local _ .vmem, ⟨18, _⟩ => ⟨S2x64x5632, .bf16⟩
  | .local _ .vmem, ⟨19, _⟩ => ⟨S2x64x5632, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c42_i32 : BitVec 32 := 42#32
  let v4 : BitVec 32 := Scalar.minsi v3 c42_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v4.toNat, c0_i32_2.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  let c0_i32_2 : BitVec 32 := 0#32
  ![c0_i32_0.toNat, v4.toNat, c0_i32_1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c1_i32_1 : BitVec 32 := 1#32
  let c0_i32_2 : BitVec 32 := 0#32
  let c0_i32_3 : BitVec 32 := 0#32
  ![c0_i32_0.toNat, c1_i32_1.toNat, v4.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c43_i32 : BitVec 32 := 43#32
  let v4 : BitVec 32 := Scalar.minsi v3 c43_i32
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  ![v4.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  let c0_i32_2 : BitVec 32 := 0#32
  ![c0_i32_0.toNat, v4.toNat, c0_i32_1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x11008 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x64x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8704x2048 : Shape := ⟨2, ![8704, 2048]⟩
abbrev S2x2048x5632 : Shape := ⟨3, ![2, 2048, 5632]⟩
abbrev S4x2x5504x2048 : Shape := ⟨4, ![4, 2, 5504, 2048]⟩
abbrev S2x2048x3072 : Shape := ⟨3, ![2, 2048, 3072]⟩
abbrev S4x2x2048x11008 : Shape := ⟨4, ![4, 2, 2048, 11008]⟩
abbrev S1x2048x5632 : Shape := ⟨3, ![1, 2048, 5632]⟩
abbrev S2048x5632 : Shape := ⟨2, ![2048, 5632]⟩
abbrev S8704x5632 : Shape := ⟨2, ![8704, 5632]⟩
abbrev S_ : Shape := ⟨0, ![]⟩
abbrev S1x1x5504x2048 : Shape := ⟨4, ![1, 1, 5504, 2048]⟩
abbrev S5504x2048 : Shape := ⟨2, ![5504, 2048]⟩
abbrev S128x2048 : Shape := ⟨2, ![128, 2048]⟩
abbrev S5632x2048 : Shape := ⟨2, ![5632, 2048]⟩
abbrev S1x1x2048x11008 : Shape := ⟨4, ![1, 1, 2048, 11008]⟩
abbrev S2048x11008 : Shape := ⟨2, ![2048, 11008]⟩
abbrev S2048x5504 : Shape := ⟨2, ![2048, 5504]⟩
abbrev S2x2048x128 : Shape := ⟨3, ![2, 2048, 128]⟩
abbrev S1x2048x5504 : Shape := ⟨3, ![1, 2048, 5504]⟩
abbrev S2x2048x5504 : Shape := ⟨3, ![2, 2048, 5504]⟩
abbrev S1x2048x3072 : Shape := ⟨3, ![1, 2048, 3072]⟩
abbrev S2048x3072 : Shape := ⟨2, ![2048, 3072]⟩

abbrev nBuf : Space → Nat
  | .hbm => 48
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x5632, .bf16⟩
  | .hbm, ⟨2, _⟩ => ⟨S4x2x5504x2048, .f32⟩
  | .hbm, ⟨3, _⟩ => ⟨S2x2048x3072, .f32⟩
  | .hbm, ⟨4, _⟩ => ⟨S4x2x2048x11008, .f32⟩
  | .hbm, ⟨5, _⟩ => ⟨S8704x2048, .f32⟩
  | .hbm, ⟨6, _⟩ => ⟨S1x2048x5632, .bf16⟩
  | .hbm, ⟨7, _⟩ => ⟨S2048x5632, .bf16⟩
  | .hbm, ⟨8, _⟩ => ⟨S2048x5632, .f32⟩
  | .hbm, ⟨9, _⟩ => ⟨S8704x5632, .f32⟩
  | .hbm, ⟨10, _⟩ => ⟨S8704x2048, .f32⟩
  | .hbm, ⟨11, _⟩ => ⟨S1x2048x5632, .bf16⟩
  | .hbm, ⟨12, _⟩ => ⟨S2048x5632, .bf16⟩
  | .hbm, ⟨13, _⟩ => ⟨S2048x5632, .f32⟩
  | .hbm, ⟨14, _⟩ => ⟨S8704x5632, .f32⟩
  | .hbm, ⟨15, _⟩ => ⟨S8704x5632, .f32⟩
  | .hbm, ⟨16, _⟩ => ⟨S8704x5632, .f32⟩
  | .hbm, ⟨17, _⟩ => ⟨S_, .f32⟩
  | .hbm, ⟨18, _⟩ => ⟨S8704x5632, .f32⟩
  | .hbm, ⟨19, _⟩ => ⟨S8704x5632, .f32⟩
  | .hbm, ⟨20, _⟩ => ⟨S_, .f32⟩
  | .hbm, ⟨21, _⟩ => ⟨S8704x5632, .f32⟩
  | .hbm, ⟨22, _⟩ => ⟨S8704x5632, .f32⟩
  | .hbm, ⟨23, _⟩ => ⟨S8704x5632, .f32⟩
  | .hbm, ⟨24, _⟩ => ⟨S8704x5632, .f32⟩
  | .hbm, ⟨25, _⟩ => ⟨S8704x5632, .bf16⟩
  | .hbm, ⟨26, _⟩ => ⟨S1x1x5504x2048, .f32⟩
  | .hbm, ⟨27, _⟩ => ⟨S5504x2048, .f32⟩
  | .hbm, ⟨28, _⟩ => ⟨S_, .f32⟩
  | .hbm, ⟨29, _⟩ => ⟨S128x2048, .f32⟩
  | .hbm, ⟨30, _⟩ => ⟨S5632x2048, .f32⟩
  | .hbm, ⟨31, _⟩ => ⟨S5632x2048, .bf16⟩
  | .hbm, ⟨32, _⟩ => ⟨S1x1x2048x11008, .f32⟩
  | .hbm, ⟨33, _⟩ => ⟨S2048x11008, .f32⟩
  | .hbm, ⟨34, _⟩ => ⟨S2048x5504, .f32⟩
  | .hbm, ⟨35, _⟩ => ⟨S1x1x2048x11008, .f32⟩
  | .hbm, ⟨36, _⟩ => ⟨S2048x11008, .f32⟩
  | .hbm, ⟨37, _⟩ => ⟨S2048x5504, .f32⟩
  | .hbm, ⟨38, _⟩ => ⟨S_, .f32⟩
  | .hbm, ⟨39, _⟩ => ⟨S2x2048x128, .f32⟩
  | .hbm, ⟨40, _⟩ => ⟨S1x2048x5504, .f32⟩
  | .hbm, ⟨41, _⟩ => ⟨S1x2048x5504, .f32⟩
  | .hbm, ⟨42, _⟩ => ⟨S2x2048x5504, .f32⟩
  | .hbm, ⟨43, _⟩ => ⟨S2x2048x5632, .f32⟩
  | .hbm, ⟨44, _⟩ => ⟨S2x2048x5632, .bf16⟩
  | .hbm, ⟨45, _⟩ => ⟨S1x2048x3072, .f32⟩
  | .hbm, ⟨46, _⟩ => ⟨S2048x3072, .f32⟩
  | .hbm, ⟨47, _⟩ => ⟨S2048x3072, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel3.lean ====
abbrev S8704x5632 : Shape := ⟨2, ![8704, 5632]⟩
abbrev S5632x2048 : Shape := ⟨2, ![5632, 2048]⟩
abbrev S8704x2048 : Shape := ⟨2, ![8704, 2048]⟩
abbrev S4x8x18432 : Shape := ⟨3, ![4, 8, 18432]⟩
abbrev S4x6x2048 : Shape := ⟨3, ![4, 6, 2048]⟩
abbrev S4x3x18432 : Shape := ⟨3, ![4, 3, 18432]⟩
abbrev S4x3x9x2048 : Shape := ⟨4, ![4, 3, 9, 2048]⟩
abbrev S_ : Shape := ⟨0, ![]⟩
abbrev S3x2048 : Shape := ⟨2, ![3, 2048]⟩
abbrev S1x1x2048 : Shape := ⟨3, ![1, 1, 2048]⟩
abbrev S2048 : Shape := ⟨1, ![2048]⟩
abbrev S1x3x1x2048 : Shape := ⟨4, ![1, 3, 1, 2048]⟩
abbrev S3x1x2048 : Shape := ⟨3, ![3, 1, 2048]⟩
abbrev S3x8x2048 : Shape := ⟨3, ![3, 8, 2048]⟩
abbrev S1x3x8x2048 : Shape := ⟨4, ![1, 3, 8, 2048]⟩
abbrev S13x3x8x2048 : Shape := ⟨4, ![13, 3, 8, 2048]⟩
abbrev S512x5632 : Shape := ⟨2, ![512, 5632]⟩
abbrev S1x1x8x2048 : Shape := ⟨4, ![1, 1, 8, 2048]⟩
abbrev S512x2048 : Shape := ⟨2, ![512, 2048]⟩
abbrev S1x1x1x2048 : Shape := ⟨4, ![1, 1, 1, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 286
  | .vmem => 11
  | .smem => 0
  | _ => 0

abbrev hbmTy0_0 (i : Nat) : BufTy := match i % 128 with
  | 0 => ⟨S8704x5632, .bf16⟩
  | 1 => ⟨S5632x2048, .bf16⟩
  | 2 => ⟨S8704x2048, .f32⟩
  | 3 => ⟨S4x8x18432, .f32⟩
  | 4 => ⟨S4x6x2048, .f32⟩
  | 5 => ⟨S4x3x18432, .f32⟩
  | 6 => ⟨S4x3x9x2048, .f32⟩
  | 7 => ⟨S_, .f32⟩
  | 8 => ⟨S3x2048, .f32⟩
  | 9 => ⟨S1x1x2048, .f32⟩
  | 10 => ⟨S2048, .f32⟩
  | 11 => ⟨S3x2048, .f32⟩
  | 12 => ⟨S1x3x1x2048, .f32⟩
  | 13 => ⟨S3x2048, .f32⟩
  | 14 => ⟨S1x3x1x2048, .f32⟩
  | 15 => ⟨S3x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x1x2048, .f32⟩
  | 23 => ⟨S3x1x2048, .f32⟩
  | 24 => ⟨S3x8x2048, .f32⟩
  | 25 => ⟨S1x1x2048, .f32⟩
  | 26 => ⟨S2048, .f32⟩
  | 27 => ⟨S3x2048, .f32⟩
  | 28 => ⟨S1x3x1x2048, .f32⟩
  | 29 => ⟨S3x2048, .f32⟩
  | 30 => ⟨S1x1x2048, .f32⟩
  | 31 => ⟨S2048, .f32⟩
  | 32 => ⟨S3x2048, .f32⟩
  | 33 => ⟨S1x3x1x2048, .f32⟩
  | 34 => ⟨S3x2048, .f32⟩
  | 35 => ⟨S1x3x1x2048, .f32⟩
  | 36 => ⟨S3x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x1x2048, .f32⟩
  | 44 => ⟨S3x1x2048, .f32⟩
  | 45 => ⟨S3x8x2048, .f32⟩
  | 46 => ⟨S1x1x2048, .f32⟩
  | 47 => ⟨S2048, .f32⟩
  | 48 => ⟨S3x2048, .f32⟩
  | 49 => ⟨S1x3x1x2048, .f32⟩
  | 50 => ⟨S3x2048, .f32⟩
  | 51 => ⟨S1x1x2048, .f32⟩
  | 52 => ⟨S2048, .f32⟩
  | 53 => ⟨S3x2048, .f32⟩
  | 54 => ⟨S1x3x1x2048, .f32⟩
  | 55 => ⟨S3x2048, .f32⟩
  | 56 => ⟨S1x3x1x2048, .f32⟩
  | 57 => ⟨S3x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x1x2048, .f32⟩
  | 65 => ⟨S3x1x2048, .f32⟩
  | 66 => ⟨S3x8x2048, .f32⟩
  | 67 => ⟨S1x1x2048, .f32⟩
  | 68 => ⟨S2048, .f32⟩
  | 69 => ⟨S3x2048, .f32⟩
  | 70 => ⟨S1x3x1x2048, .f32⟩
  | 71 => ⟨S3x2048, .f32⟩
  | 72 => ⟨S1x1x2048, .f32⟩
  | 73 => ⟨S2048, .f32⟩
  | 74 => ⟨S3x2048, .f32⟩
  | 75 => ⟨S1x3x1x2048, .f32⟩
  | 76 => ⟨S3x2048, .f32⟩
  | 77 => ⟨S1x3x1x2048, .f32⟩
  | 78 => ⟨S3x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x1x2048, .f32⟩
  | 86 => ⟨S3x1x2048, .f32⟩
  | 87 => ⟨S3x8x2048, .f32⟩
  | 88 => ⟨S1x1x2048, .f32⟩
  | 89 => ⟨S2048, .f32⟩
  | 90 => ⟨S3x2048, .f32⟩
  | 91 => ⟨S1x3x1x2048, .f32⟩
  | 92 => ⟨S3x2048, .f32⟩
  | 93 => ⟨S1x1x2048, .f32⟩
  | 94 => ⟨S2048, .f32⟩
  | 95 => ⟨S3x2048, .f32⟩
  | 96 => ⟨S1x3x1x2048, .f32⟩
  | 97 => ⟨S3x2048, .f32⟩
  | 98 => ⟨S1x3x1x2048, .f32⟩
  | 99 => ⟨S3x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x1x2048, .f32⟩
  | 107 => ⟨S3x1x2048, .f32⟩
  | 108 => ⟨S3x8x2048, .f32⟩
  | 109 => ⟨S1x1x2048, .f32⟩
  | 110 => ⟨S2048, .f32⟩
  | 111 => ⟨S3x2048, .f32⟩
  | 112 => ⟨S1x3x1x2048, .f32⟩
  | 113 => ⟨S3x2048, .f32⟩
  | 114 => ⟨S1x1x2048, .f32⟩
  | 115 => ⟨S2048, .f32⟩
  | 116 => ⟨S3x2048, .f32⟩
  | 117 => ⟨S1x3x1x2048, .f32⟩
  | 118 => ⟨S3x2048, .f32⟩
  | 119 => ⟨S1x3x1x2048, .f32⟩
  | 120 => ⟨S3x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x1x2048, .f32⟩
  | _ => ⟨S8704x5632, .bf16⟩

abbrev hbmTy0_1 (i : Nat) : BufTy := match i % 128 with
  | 0 => ⟨S3x1x2048, .f32⟩
  | 1 => ⟨S3x8x2048, .f32⟩
  | 2 => ⟨S1x1x2048, .f32⟩
  | 3 => ⟨S2048, .f32⟩
  | 4 => ⟨S3x2048, .f32⟩
  | 5 => ⟨S1x3x1x2048, .f32⟩
  | 6 => ⟨S3x2048, .f32⟩
  | 7 => ⟨S1x1x2048, .f32⟩
  | 8 => ⟨S2048, .f32⟩
  | 9 => ⟨S3x2048, .f32⟩
  | 10 => ⟨S1x3x1x2048, .f32⟩
  | 11 => ⟨S3x2048, .f32⟩
  | 12 => ⟨S1x3x1x2048, .f32⟩
  | 13 => ⟨S3x2048, .f32⟩
  | 14 => ⟨S3x1x2048, .f32⟩
  | 15 => ⟨S3x1x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x8x2048, .f32⟩
  | 23 => ⟨S1x1x2048, .f32⟩
  | 24 => ⟨S2048, .f32⟩
  | 25 => ⟨S3x2048, .f32⟩
  | 26 => ⟨S1x3x1x2048, .f32⟩
  | 27 => ⟨S3x2048, .f32⟩
  | 28 => ⟨S1x1x2048, .f32⟩
  | 29 => ⟨S2048, .f32⟩
  | 30 => ⟨S3x2048, .f32⟩
  | 31 => ⟨S1x3x1x2048, .f32⟩
  | 32 => ⟨S3x2048, .f32⟩
  | 33 => ⟨S1x3x1x2048, .f32⟩
  | 34 => ⟨S3x2048, .f32⟩
  | 35 => ⟨S3x1x2048, .f32⟩
  | 36 => ⟨S3x1x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x8x2048, .f32⟩
  | 44 => ⟨S1x1x2048, .f32⟩
  | 45 => ⟨S2048, .f32⟩
  | 46 => ⟨S3x2048, .f32⟩
  | 47 => ⟨S1x3x1x2048, .f32⟩
  | 48 => ⟨S3x2048, .f32⟩
  | 49 => ⟨S1x1x2048, .f32⟩
  | 50 => ⟨S2048, .f32⟩
  | 51 => ⟨S3x2048, .f32⟩
  | 52 => ⟨S1x3x1x2048, .f32⟩
  | 53 => ⟨S3x2048, .f32⟩
  | 54 => ⟨S1x3x1x2048, .f32⟩
  | 55 => ⟨S3x2048, .f32⟩
  | 56 => ⟨S3x1x2048, .f32⟩
  | 57 => ⟨S3x1x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x8x2048, .f32⟩
  | 65 => ⟨S1x1x2048, .f32⟩
  | 66 => ⟨S2048, .f32⟩
  | 67 => ⟨S3x2048, .f32⟩
  | 68 => ⟨S1x3x1x2048, .f32⟩
  | 69 => ⟨S3x2048, .f32⟩
  | 70 => ⟨S1x1x2048, .f32⟩
  | 71 => ⟨S2048, .f32⟩
  | 72 => ⟨S3x2048, .f32⟩
  | 73 => ⟨S1x3x1x2048, .f32⟩
  | 74 => ⟨S3x2048, .f32⟩
  | 75 => ⟨S1x3x1x2048, .f32⟩
  | 76 => ⟨S3x2048, .f32⟩
  | 77 => ⟨S3x1x2048, .f32⟩
  | 78 => ⟨S3x1x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x8x2048, .f32⟩
  | 86 => ⟨S1x1x2048, .f32⟩
  | 87 => ⟨S2048, .f32⟩
  | 88 => ⟨S3x2048, .f32⟩
  | 89 => ⟨S1x3x1x2048, .f32⟩
  | 90 => ⟨S3x2048, .f32⟩
  | 91 => ⟨S1x1x2048, .f32⟩
  | 92 => ⟨S2048, .f32⟩
  | 93 => ⟨S3x2048, .f32⟩
  | 94 => ⟨S1x3x1x2048, .f32⟩
  | 95 => ⟨S3x2048, .f32⟩
  | 96 => ⟨S1x3x1x2048, .f32⟩
  | 97 => ⟨S3x2048, .f32⟩
  | 98 => ⟨S3x1x2048, .f32⟩
  | 99 => ⟨S3x1x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x8x2048, .f32⟩
  | 107 => ⟨S1x1x2048, .f32⟩
  | 108 => ⟨S2048, .f32⟩
  | 109 => ⟨S3x2048, .f32⟩
  | 110 => ⟨S1x3x1x2048, .f32⟩
  | 111 => ⟨S3x2048, .f32⟩
  | 112 => ⟨S1x1x2048, .f32⟩
  | 113 => ⟨S2048, .f32⟩
  | 114 => ⟨S3x2048, .f32⟩
  | 115 => ⟨S1x3x1x2048, .f32⟩
  | 116 => ⟨S3x2048, .f32⟩
  | 117 => ⟨S1x3x1x2048, .f32⟩
  | 118 => ⟨S3x2048, .f32⟩
  | 119 => ⟨S3x1x2048, .f32⟩
  | 120 => ⟨S3x1x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x8x2048, .f32⟩
  | _ => ⟨S8704x5632, .bf16⟩

abbrev hbmTy0_2 (i : Nat) : BufTy := match i % 128 with
  | 0 => ⟨S1x1x2048, .f32⟩
  | 1 => ⟨S2048, .f32⟩
  | 2 => ⟨S3x2048, .f32⟩
  | 3 => ⟨S1x3x1x2048, .f32⟩
  | 4 => ⟨S3x2048, .f32⟩
  | 5 => ⟨S3x1x2048, .f32⟩
  | 6 => ⟨S3x1x2048, .f32⟩
  | 7 => ⟨S3x1x2048, .f32⟩
  | 8 => ⟨S3x1x2048, .f32⟩
  | 9 => ⟨S3x1x2048, .f32⟩
  | 10 => ⟨S3x1x2048, .f32⟩
  | 11 => ⟨S3x1x2048, .f32⟩
  | 12 => ⟨S3x1x2048, .f32⟩
  | 13 => ⟨S3x8x2048, .f32⟩
  | 14 => ⟨S1x3x8x2048, .f32⟩
  | 15 => ⟨S1x3x8x2048, .f32⟩
  | 16 => ⟨S1x3x8x2048, .f32⟩
  | 17 => ⟨S1x3x8x2048, .f32⟩
  | 18 => ⟨S1x3x8x2048, .f32⟩
  | 19 => ⟨S1x3x8x2048, .f32⟩
  | 20 => ⟨S1x3x8x2048, .f32⟩
  | 21 => ⟨S1x3x8x2048, .f32⟩
  | 22 => ⟨S1x3x8x2048, .f32⟩
  | 23 => ⟨S1x3x8x2048, .f32⟩
  | 24 => ⟨S1x3x8x2048, .f32⟩
  | 25 => ⟨S1x3x8x2048, .f32⟩
  | 26 => ⟨S1x3x8x2048, .f32⟩
  | 27 => ⟨S13x3x8x2048, .f32⟩
  | 28 => ⟨S8704x2048, .f32⟩
  | 29 => ⟨S8704x2048, .bf16⟩
  | _ => ⟨S8704x5632, .bf16⟩

abbrev hbmTy (i : Nat) : BufTy := match i / 128 with
  | 0 => hbmTy0_0 i
  | 1 => hbmTy0_1 i
  | 2 => hbmTy0_2 i
  | _ => ⟨S8704x5632, .bf16⟩

abbrev bufTy : (tb : Table) → Fin (tcTables nBuf tb) → BufTy
  | .hbm, ⟨i, _⟩ => hbmTy i
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S1x1x8x2048, .f32⟩
  | .local _ .vmem, ⟨4, _⟩ => ⟨S1x1x8x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278_0 : Ref sig .tc := ⟨.hbm, 284, rfl⟩
abbrev main_v278_1 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8704x5632 : Shape := ⟨2, ![8704, 5632]⟩
abbrev S5632x2048 : Shape := ⟨2, ![5632, 2048]⟩
abbrev S8704x2048 : Shape := ⟨2, ![8704, 2048]⟩
abbrev S4x8x18432 : Shape := ⟨3, ![4, 8, 18432]⟩
abbrev S4x6x2048 : Shape := ⟨3, ![4, 6, 2048]⟩
abbrev S1x3x18432 : Shape := ⟨3, ![1, 3, 18432]⟩
abbrev S3x18432 : Shape := ⟨2, ![3, 18432]⟩
abbrev S3x9x2048 : Shape := ⟨3, ![3, 9, 2048]⟩
abbrev S3x1x2048 : Shape := ⟨3, ![3, 1, 2048]⟩
abbrev S3x2048 : Shape := ⟨2, ![3, 2048]⟩
abbrev S1x2048 : Shape := ⟨2, ![1, 2048]⟩
abbrev S2048 : Shape := ⟨1, ![2048]⟩
abbrev S4096x2048 : Shape := ⟨2, ![4096, 2048]⟩
abbrev S512x2048 : Shape := ⟨2, ![512, 2048]⟩
abbrev S1x1x2048 : Shape := ⟨3, ![1, 1, 2048]⟩
abbrev S_ : Shape := ⟨0, ![]⟩
abbrev S8704 : Shape := ⟨1, ![8704]⟩
abbrev S8704x1 : Shape := ⟨2, ![8704, 1]⟩

abbrev nBuf : Space → Nat
  | .hbm => 97
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S5632x2048, .bf16⟩
  | .hbm, ⟨2, _⟩ => ⟨S8704x2048, .f32⟩
  | .hbm, ⟨3, _⟩ => ⟨S4x8x18432, .f32⟩
  | .hbm, ⟨4, _⟩ => ⟨S4x6x2048, .f32⟩
  | .hbm, ⟨5, _⟩ => ⟨S1x3x18432, .f32⟩
  | .hbm, ⟨6, _⟩ => ⟨S3x18432, .f32⟩
  | .hbm, ⟨7, _⟩ => ⟨S3x9x2048, .f32⟩
  | .hbm, ⟨8, _⟩ => ⟨S1x3x18432, .f32⟩
  | .hbm, ⟨9, _⟩ => ⟨S3x18432, .f32⟩
  | .hbm, ⟨10, _⟩ => ⟨S3x9x2048, .f32⟩
  | .hbm, ⟨11, _⟩ => ⟨S8704x5632, .f32⟩
  | .hbm, ⟨12, _⟩ => ⟨S5632x2048, .f32⟩
  | .hbm, ⟨13, _⟩ => ⟨S8704x2048, .f32⟩
  | .hbm, ⟨14, _⟩ => ⟨S3x1x2048, .f32⟩
  | .hbm, ⟨15, _⟩ => ⟨S3x2048, .f32⟩
  | .hbm, ⟨16, _⟩ => ⟨S1x2048, .f32⟩
  | .hbm, ⟨17, _⟩ => ⟨S2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S512x2048, .f32⟩
  | .hbm, ⟨25, _⟩ => ⟨S8704x2048, .f32⟩
  | .hbm, ⟨26, _⟩ => ⟨S1x1x2048, .f32⟩
  | .hbm, ⟨27, _⟩ => ⟨S2048, .f32⟩
  | .hbm, ⟨28, _⟩ => ⟨S8704x2048, .f32⟩
  | .hbm, ⟨29, _⟩ => ⟨S_, .f32⟩
  | .hbm, ⟨30, _⟩ => ⟨S8704, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S_, .f32⟩
  | .hbm, ⟨36, _⟩ => ⟨S8704x1, .f32⟩
  | .hbm, ⟨37, _⟩ => ⟨S8704x1, .f32⟩
  | .hbm, ⟨38, _⟩ => ⟨S8704x1, .f32⟩
  | .hbm, ⟨39, _⟩ => ⟨S8704x2048, .f32⟩
  | .hbm, ⟨40, _⟩ => ⟨S8704x2048, .f32⟩
  | .hbm, ⟨41, _⟩ => ⟨S1x2048, .f32⟩
  | .hbm, ⟨42, _⟩ => ⟨S8704x2048, .f32⟩
  | .hbm, ⟨43, _⟩ => ⟨S8704x2048, .f32⟩
  | .hbm, ⟨44, _⟩ => ⟨S8704x2048, .f32⟩
  | .hbm, ⟨45, _⟩ => ⟨S_, .f32⟩
  | .hbm, ⟨46, _⟩ => ⟨S8704x2048, .f32⟩
  | .hbm, ⟨47, _⟩ => ⟨S8704x2048, .f32⟩
  | .hbm, ⟨48, _⟩ => ⟨S8704x2048, .f32⟩
  | .hbm, ⟨49, _⟩ => ⟨S1x1x2048, .f32⟩
  | .hbm, ⟨50, _⟩ => ⟨S2048, .f32⟩
  | .hbm, ⟨51, _⟩ => ⟨S8704x2048, .f32⟩
  | .hbm, ⟨52, _⟩ => ⟨S_, .f32⟩
  | .hbm, ⟨53, _⟩ => ⟨S8704, .f32⟩
  | .hbm, ⟨54, _⟩ => ⟨S8704x1, .f32⟩
  | .hbm, ⟨55, _⟩ => ⟨S_, .f32⟩
  | .hbm, ⟨56, _⟩ => ⟨S8704x1, .f32⟩
  | .hbm, ⟨57, _⟩ => ⟨S8704x1, .f32⟩
  | .hbm, ⟨58, _⟩ => ⟨S_, .f32⟩
  | .hbm, ⟨59, _⟩ => ⟨S8704x1, .f32⟩
  | .hbm, ⟨60, _⟩ => ⟨S8704x1, .f32⟩
  | .hbm, ⟨61, _⟩ => ⟨S8704x1, .f32⟩
  | .hbm, ⟨62, _⟩ => ⟨S8704x2048, .f32⟩
  | .hbm, ⟨63, _⟩ => ⟨S8704x2048, .f32⟩
  | .hbm, ⟨64, _⟩ => ⟨S1x2048, .f32⟩
  | .hbm, ⟨65, _⟩ => ⟨S8704x2048, .f32⟩
  | .hbm, ⟨66, _⟩ => ⟨S8704x2048, .f32⟩
  | .hbm, ⟨67, _⟩ => ⟨S3x1x2048, .f32⟩
  | .hbm, ⟨68, _⟩ => ⟨S3x2048, .f32⟩
  | .hbm, ⟨69, _⟩ => ⟨S1x2048, .f32⟩
  | .hbm, ⟨70, _⟩ => ⟨S2048, .f32⟩
  | .hbm, ⟨71, _⟩ => ⟨S4096x2048, .f32⟩
  | .hbm, ⟨72, _⟩ => ⟨S1x2048, .f32⟩
  | .hbm, ⟨73, _⟩ => ⟨S2048, .f32⟩
  | .hbm, ⟨74, _⟩ => ⟨S4096x2048, .f32⟩
  | .hbm, ⟨75, _⟩ => ⟨S1x2048, .f32⟩
  | .hbm, ⟨76, _⟩ => ⟨S2048, .f32⟩
  | .hbm, ⟨77, _⟩ => ⟨S512x2048, .f32⟩
  | .hbm, ⟨78, _⟩ => ⟨S8704x2048, .f32⟩
  | .hbm, ⟨79, _⟩ => ⟨S_, .f32⟩
  | .hbm, ⟨80, _⟩ => ⟨S8704x2048, .f32⟩
  | .hbm, ⟨81, _⟩ => ⟨S8704x2048, .f32⟩
  | .hbm, ⟨82, _⟩ => ⟨S8704x2048, .f32⟩
  | .hbm, ⟨83, _⟩ => ⟨S3x1x2048, .f32⟩
  | .hbm, ⟨84, _⟩ => ⟨S3x2048, .f32⟩
  | .hbm, ⟨85, _⟩ => ⟨S1x2048, .f32⟩
  | .hbm, ⟨86, _⟩ => ⟨S2048, .f32⟩
  | .hbm, ⟨87, _⟩ => ⟨S4096x2048, .f32⟩
  | .hbm, ⟨88, _⟩ => ⟨S1x2048, .f32⟩
  | .hbm, ⟨89, _⟩ => ⟨S2048, .f32⟩
  | .hbm, ⟨90, _⟩ => ⟨S4096x2048, .f32⟩
  | .hbm, ⟨91, _⟩ => ⟨S1x2048, .f32⟩
  | .hbm, ⟨92, _⟩ => ⟨S2048, .f32⟩
  | .hbm, ⟨93, _⟩ => ⟨S512x2048, .f32⟩
  | .hbm, ⟨94, _⟩ => ⟨S8704x2048, .f32⟩
  | .hbm, ⟨95, _⟩ => ⟨S8704x2048, .f32⟩
  | .hbm, ⟨96, _⟩ => ⟨S8704x2048, .bf16⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩

abbrev nD : Nat := 1
abbrev τ : Topo := Topo.v7x

variable {F : FTy → Type} [FloatOps F]
-- ==== Kernel4.lean ====
abbrev S8704x2048 : Shape := ⟨2, ![8704, 2048]⟩
abbrev S2048x12288 : Shape := ⟨2, ![2048, 12288]⟩
abbrev S1x6144x2048 : Shape := ⟨3, ![1, 6144, 2048]⟩
abbrev S4x2x2048x11008 : Shape := ⟨4, ![4, 2, 2048, 11008]⟩
abbrev S8704x12288 : Shape := ⟨2, ![8704, 12288]⟩
abbrev S6144x2048 : Shape := ⟨2, ![6144, 2048]⟩
abbrev S2x2048x5632 : Shape := ⟨3, ![2, 2048, 5632]⟩
abbrev S1088x2048 : Shape := ⟨2, ![1088, 2048]⟩
abbrev S2048x2048 : Shape := ⟨2, ![2048, 2048]⟩
abbrev S1x128x2048 : Shape := ⟨3, ![1, 128, 2048]⟩
abbrev S1x1x64x11008 : Shape := ⟨4, ![1, 1, 64, 11008]⟩
abbrev S128x2048 : Shape := ⟨2, ![128, 2048]⟩
abbrev S2x64x5632 : Shape := ⟨3, ![2, 64, 5632]⟩
abbrev S544x2048 : Shape := ⟨2, ![544, 2048]⟩
abbrev S1x1x64x5504 : Shape := ⟨4, ![1, 1, 64, 5504]⟩
abbrev S64x5504 : Shape := ⟨2, ![64, 5504]⟩
abbrev S1x64x5504 : Shape := ⟨3, ![1, 64, 5504]⟩
abbrev S64x128 : Shape := ⟨2, ![64, 128]⟩
abbrev S1x64x128 : Shape := ⟨3, ![1, 64, 128]⟩

abbrev nBuf : Space → Nat
  | .hbm => 7
  | .vmem => 14
  | .smem => 0
  | _ => 0

abbrev bufTy : (tb : Table) → Fin (tcTables nBuf tb) → BufTy
  | .hbm, ⟨0, _⟩ => ⟨S8704x2048, .bf16⟩
  | .hbm, ⟨1, _⟩ => ⟨S2048x12288, .bf16⟩
  | .hbm, ⟨2, _⟩ => ⟨S1x6144x2048, .f32⟩
  | .hbm, ⟨3, _⟩ => ⟨S4x2x2048x11008, .f32⟩
  | .hbm, ⟨4, _⟩ => ⟨S8704x12288, .bf16⟩
  | .hbm, ⟨5, _⟩ => ⟨S6144x2048, .bf16⟩
  | .hbm, ⟨6, _⟩ => ⟨S2x2048x5632, .bf16⟩
  | .local _ .vmem, ⟨0, _⟩ => ⟨S1088x2048, .bf16⟩
  | .local _ .vmem, ⟨1, _⟩ => ⟨S1088x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x1x64x11008, .f32⟩
  | .local _ .vmem, ⟨7, _⟩ => ⟨S1x1x64x11008, .f32⟩
  | .local _ .vmem, ⟨8, _⟩ => ⟨S1088x2048, .bf16⟩
  | .local _ .vmem, ⟨9, _⟩ => ⟨S1088x2048, .bf16⟩
  | .local _ .vmem, ⟨10, _⟩ => ⟨S128x2048, .bf16⟩
  | .local _ .vmem, ⟨11, _⟩ => ⟨S128x2048, .bf16⟩
  | .local _ .vmem, ⟨12, _⟩ => ⟨S2x64x5632, .bf16⟩
  | .local _ .vmem, ⟨13, _⟩ => ⟨S2x64x5632, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c47_i32 : BitVec 32 := 47#32
  let v4 : BitVec 32 := Scalar.minsi v3 c47_i32
  let c0_i32_0 : BitVec 32 := 0#32
  let c0_i32_1 : BitVec 32 := 0#32
  let c0_i32_2 : BitVec 32 := 0#32
  ![c0_i32_0.toNat, v4.toNat, c0_i32_1.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c1_i32_0 : BitVec 32 := 1#32
  let c1_i32_1 : BitVec 32 := 1#32
  let c0_i32_2 : BitVec 32 := 0#32
  let c0_i32_3 : BitVec 32 := 0#32
  ![c1_i32_0.toNat, c1_i32_1.toNat, v4.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c47_i32 : BitVec 32 := 47#32
  let v4 : BitVec 32 := Scalar.minsi v3 c47_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  let c0_i32_2 : BitVec 32 := 0#32
  ![c0_i32_0.toNat, v4.toNat, c0_i32_1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x64x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "cube" => some (((6693141 / 8388608) * (12003091 / 268435456) : ℝ) : EReal)
  | _ => none
-- ==== Reference4Ideal.lean ====
abbrev S8704x2048 : Shape := ⟨2, ![8704, 2048]⟩
abbrev S2048x12288 : Shape := ⟨2, ![2048, 12288]⟩
abbrev S1x6144x2048 : Shape := ⟨3, ![1, 6144, 2048]⟩
abbrev S4x2x2048x11008 : Shape := ⟨4, ![4, 2, 2048, 11008]⟩
abbrev S8704x12288 : Shape := ⟨2, ![8704, 12288]⟩
abbrev S_ : Shape := ⟨0, ![]⟩
abbrev S1x1x2048x11008 : Shape := ⟨4, ![1, 1, 2048, 11008]⟩
abbrev S2048x11008 : Shape := ⟨2, ![2048, 11008]⟩
abbrev S2048x5504 : Shape := ⟨2, ![2048, 5504]⟩
abbrev S2x2048x128 : Shape := ⟨3, ![2, 2048, 128]⟩
abbrev S1x2048x5504 : Shape := ⟨3, ![1, 2048, 5504]⟩
abbrev S2x2048x5504 : Shape := ⟨3, ![2, 2048, 5504]⟩
abbrev S2x2048x5632 : Shape := ⟨3, ![2, 2048, 5632]⟩
abbrev S6144x2048 : Shape := ⟨2, ![6144, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x12288, .bf16⟩
  | .hbm, ⟨2, _⟩ => ⟨S1x6144x2048, .f32⟩
  | .hbm, ⟨3, _⟩ => ⟨S4x2x2048x11008, .f32⟩
  | .hbm, ⟨4, _⟩ => ⟨S8704x2048, .f32⟩
  | .hbm, ⟨5, _⟩ => ⟨S2048x12288, .f32⟩
  | .hbm, ⟨6, _⟩ => ⟨S8704x12288, .f32⟩
  | .hbm, ⟨7, _⟩ => ⟨S8704x12288, .f32⟩
  | .hbm, ⟨8, _⟩ => ⟨S8704x12288, .f32⟩
  | .hbm, ⟨9, _⟩ => ⟨S_, .f32⟩
  | .hbm, ⟨10, _⟩ => ⟨S8704x12288, .f32⟩
  | .hbm, ⟨11, _⟩ => ⟨S8704x12288, .f32⟩
  | .hbm, ⟨12, _⟩ => ⟨S8704x12288, .f32⟩
  | .hbm, ⟨13, _⟩ => ⟨S_, .f32⟩
  | .hbm, ⟨14, _⟩ => ⟨S8704x12288, .f32⟩
  | .hbm, ⟨15, _⟩ => ⟨S8704x12288, .f32⟩
  | .hbm, ⟨16, _⟩ => ⟨S8704x12288, .f32⟩
  | .hbm, ⟨17, _⟩ => ⟨S_, .f32⟩
  | .hbm, ⟨18, _⟩ => ⟨S8704x12288, .f32⟩
  | .hbm, ⟨19, _⟩ => ⟨S8704x12288, .f32⟩
  | .hbm, ⟨20, _⟩ => ⟨S_, .f32⟩
  | .hbm, ⟨21, _⟩ => ⟨S8704x12288, .f32⟩
  | .hbm, ⟨22, _⟩ => ⟨S8704x12288, .f32⟩
  | .hbm, ⟨23, _⟩ => ⟨S8704x12288, .f32⟩
  | .hbm, ⟨24, _⟩ => ⟨S8704x12288, .bf16⟩
  | .hbm, ⟨25, _⟩ => ⟨S1x1x2048x11008, .f32⟩
  | .hbm, ⟨26, _⟩ => ⟨S2048x11008, .f32⟩
  | .hbm, ⟨27, _⟩ => ⟨S2048x5504, .f32⟩
  | .hbm, ⟨28, _⟩ => ⟨S1x1x2048x11008, .f32⟩
  | .hbm, ⟨29, _⟩ => ⟨S2048x11008, .f32⟩
  | .hbm, ⟨30, _⟩ => ⟨S2048x5504, .f32⟩
  | .hbm, ⟨31, _⟩ => ⟨S_, .f32⟩
  | .hbm, ⟨32, _⟩ => ⟨S2x2048x128, .f32⟩
  | .hbm, ⟨33, _⟩ => ⟨S1x2048x5504, .f32⟩
  | .hbm, ⟨34, _⟩ => ⟨S1x2048x5504, .f32⟩
  | .hbm, ⟨35, _⟩ => ⟨S2x2048x5504, .f32⟩
  | .hbm, ⟨36, _⟩ => ⟨S2x2048x5632, .f32⟩
  | .hbm, ⟨37, _⟩ => ⟨S2x2048x5632, .bf16⟩
  | .hbm, ⟨38, _⟩ => ⟨S6144x2048, .f32⟩
  | .hbm, ⟨39, _⟩ => ⟨S6144x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S8704x2048 : Shape := ⟨2, ![8704, 2048]⟩
abbrev S2048x6144 : Shape := ⟨2, ![2048, 6144]⟩
abbrev S1x2048x2048 : Shape := ⟨3, ![1, 2048, 2048]⟩
abbrev S2 : Shape := ⟨1, ![2]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S1x2 : Shape := ⟨2, ![1, 2]⟩
abbrev S64x2 : Shape := ⟨2, ![64, 2]⟩
abbrev S128 : Shape := ⟨1, ![128]⟩
abbrev S1x128 : Shape := ⟨2, ![1, 128]⟩
abbrev S1x4096x1x128 : Shape := ⟨4, ![1, 4096, 1, 128]⟩
abbrev S2x4096x2x128 : Shape := ⟨4, ![2, 4096, 2, 128]⟩
abbrev S8192x256 : Shape := ⟨2, ![8192, 256]⟩
abbrev S512x256 : Shape := ⟨2, ![512, 256]⟩
abbrev S8704x256 : Shape := ⟨2, ![8704, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S24x8704x256 : Shape := ⟨3, ![24, 8704, 256]⟩
abbrev S2048x2048 : Shape := ⟨2, ![2048, 2048]⟩
abbrev S2176x2048 : Shape := ⟨2, ![2176, 2048]⟩
abbrev S2048x512 : Shape := ⟨2, ![2048, 512]⟩
abbrev S2176x256 : Shape := ⟨2, ![2176, 256]⟩
abbrev S1x64x2048 : Shape := ⟨3, ![1, 64, 2048]⟩
abbrev S2x2176x256 : Shape := ⟨3, ![2, 2176, 256]⟩
abbrev S64x2048 : Shape := ⟨2, ![64, 2048]⟩
abbrev S2176x512 : Shape := ⟨2, ![2176, 512]⟩
abbrev S1x2176x256 : Shape := ⟨3, ![1, 2176, 256]⟩

abbrev nBuf : Space → Nat
  | .hbm => 72
  | .vmem => 15
  | .smem => 0
  | _ => 0

abbrev bufTy : (tb : Table) → Fin (tcTables nBuf tb) → BufTy
  | .hbm, ⟨0, _⟩ => ⟨S8704x2048, .bf16⟩
  | .hbm, ⟨1, _⟩ => ⟨S2048x6144, .bf16⟩
  | .hbm, ⟨2, _⟩ => ⟨S1x2048x2048, .f32⟩
  | .hbm, ⟨3, _⟩ => ⟨S2, .f32⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x1, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x64, .f32⟩
  | .hbm, ⟨36, _⟩ => ⟨S4096x64, .f32⟩
  | .hbm, ⟨37, _⟩ => ⟨S4096x64x2, .f32⟩
  | .hbm, ⟨38, _⟩ => ⟨S4096x128, .f32⟩
  | .hbm, ⟨39, _⟩ => ⟨S4096x64, .f32⟩
  | .hbm, ⟨40, _⟩ => ⟨S4096x64x2, .f32⟩
  | .hbm, ⟨41, _⟩ => ⟨S4096x128, .f32⟩
  | .hbm, ⟨42, _⟩ => ⟨S1x2, .f32⟩
  | .hbm, ⟨43, _⟩ => ⟨S64x2, .f32⟩
  | .hbm, ⟨44, _⟩ => ⟨S128, .f32⟩
  | .hbm, ⟨45, _⟩ => ⟨S1x128, .f32⟩
  | .hbm, ⟨46, _⟩ => ⟨S4096x128, .f32⟩
  | .hbm, ⟨47, _⟩ => ⟨S4096x128, .f32⟩
  | .hbm, ⟨48, _⟩ => ⟨S1x4096x1x128, .f32⟩
  | .hbm, ⟨49, _⟩ => ⟨S2x4096x2x128, .f32⟩
  | .hbm, ⟨50, _⟩ => ⟨S8192x256, .f32⟩
  | .hbm, ⟨51, _⟩ => ⟨S_, .f32⟩
  | .hbm, ⟨52, _⟩ => ⟨S512x256, .f32⟩
  | .hbm, ⟨53, _⟩ => ⟨S8704x256, .f32⟩
  | .hbm, ⟨54, _⟩ => ⟨S1x4096x1x128, .f32⟩
  | .hbm, ⟨55, _⟩ => ⟨S2x4096x2x128, .f32⟩
  | .hbm, ⟨56, _⟩ => ⟨S8192x256, .f32⟩
  | .hbm, ⟨57, _⟩ => ⟨S_, .f32⟩
  | .hbm, ⟨58, _⟩ => ⟨S512x256, .f32⟩
  | .hbm, ⟨59, _⟩ => ⟨S8704x256, .f32⟩
  | .hbm, ⟨60, _⟩ => ⟨S256, .i32⟩
  | .hbm, ⟨61, _⟩ => ⟨S256x1, .i32⟩
  | .hbm, ⟨62, _⟩ => ⟨S1x256, .i32⟩
  | .hbm, ⟨63, _⟩ => ⟨S_, .i32⟩
  | .hbm, ⟨64, _⟩ => ⟨S1x256, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x256, .bf16⟩
  | .hbm, ⟨70, _⟩ => ⟨S24x8704x256, .bf16⟩
  | .hbm, ⟨71, _⟩ => ⟨S2048x2048, .bf16⟩
  | .local _ .vmem, ⟨0, _⟩ => ⟨S2176x2048, .bf16⟩
  | .local _ .vmem, ⟨1, _⟩ => ⟨S2176x2048, .bf16⟩
  | .local _ .vmem, ⟨2, _⟩ => ⟨S2048x512, .bf16⟩
  | .local _ .vmem, ⟨3, _⟩ => ⟨S2048x512, .bf16⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S256x256, .bf16⟩
  | .local _ .vmem, ⟨9, _⟩ => ⟨S1x64x2048, .f32⟩
  | .local _ .vmem, ⟨10, _⟩ => ⟨S1x64x2048, .f32⟩
  | .local _ .vmem, ⟨11, _⟩ => ⟨S2x2176x256, .bf16⟩
  | .local _ .vmem, ⟨12, _⟩ => ⟨S2x2176x256, .bf16⟩
  | .local _ .vmem, ⟨13, _⟩ => ⟨S64x2048, .bf16⟩
  | .local _ .vmem, ⟨14, _⟩ => ⟨S64x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59_0 : Ref sig .tc := ⟨.hbm, 70, rfl⟩
abbrev main_v59_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 12], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  let c0_i32_2 : BitVec 32 := 0#32
  ![c0_i32_0.toNat, v4.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c31_i32 : BitVec 32 := 31#32
  let v4 : BitVec 32 := Scalar.minsi v3 c31_i32
  let c0_i32_0 : BitVec 32 := 0#32
  let c0_i32_1 : BitVec 32 := 0#32
  ![v4.toNat, c0_i32_0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2176x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8704x2048 : Shape := ⟨2, ![8704, 2048]⟩
abbrev S2048x6144 : Shape := ⟨2, ![2048, 6144]⟩
abbrev S1x2048x2048 : Shape := ⟨3, ![1, 2048, 2048]⟩
abbrev S8704x6144 : Shape := ⟨2, ![8704, 6144]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x1x64 : Shape := ⟨3, ![4096, 1, 64]⟩
abbrev S8192x4096 : Shape := ⟨2, ![8192, 4096]⟩
abbrev S2x4096x32x64x2 : Shape := ⟨5, ![2, 4096, 32, 64, 2]⟩
abbrev S2x4096x32x64x1 : Shape := ⟨5, ![2, 4096, 32, 64, 1]⟩
abbrev S2x4096x32x64 : Shape := ⟨4, ![2, 4096, 32, 64]⟩
abbrev S1x4096x1x64 : Shape := ⟨4, ![1, 4096, 1, 64]⟩
abbrev S8192x2048 : Shape := ⟨2, ![8192, 2048]⟩
abbrev S8192x6144 : Shape := ⟨2, ![8192, 6144]⟩
abbrev S512x6144 : Shape := ⟨2, ![512, 6144]⟩
abbrev S8704x24x256 : Shape := ⟨3, ![8704, 24, 256]⟩
abbrev S24x8704x256 : Shape := ⟨3, ![24, 8704, 256]⟩
abbrev S2048x2048 : Shape := ⟨2, ![2048, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x6144, .bf16⟩
  | .hbm, ⟨2, _⟩ => ⟨S1x2048x2048, .f32⟩
  | .hbm, ⟨3, _⟩ => ⟨S8704x2048, .f32⟩
  | .hbm, ⟨4, _⟩ => ⟨S2048x6144, .f32⟩
  | .hbm, ⟨5, _⟩ => ⟨S8704x6144, .f32⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x64, .f32⟩
  | .hbm, ⟨38, _⟩ => ⟨S4096x64, .f32⟩
  | .hbm, ⟨39, _⟩ => ⟨S4096x1x64, .f32⟩
  | .hbm, ⟨40, _⟩ => ⟨S4096x64, .f32⟩
  | .hbm, ⟨41, _⟩ => ⟨S4096x1x64, .f32⟩
  | .hbm, ⟨42, _⟩ => ⟨S8192x4096, .f32⟩
  | .hbm, ⟨43, _⟩ => ⟨S2x4096x32x64x2, .f32⟩
  | .hbm, ⟨44, _⟩ => ⟨S2x4096x32x64x1, .f32⟩
  | .hbm, ⟨45, _⟩ => ⟨S2x4096x32x64, .f32⟩
  | .hbm, ⟨46, _⟩ => ⟨S2x4096x32x64x1, .f32⟩
  | .hbm, ⟨47, _⟩ => ⟨S2x4096x32x64, .f32⟩
  | .hbm, ⟨48, _⟩ => ⟨S1x4096x1x64, .f32⟩
  | .hbm, ⟨49, _⟩ => ⟨S2x4096x32x64, .f32⟩
  | .hbm, ⟨50, _⟩ => ⟨S2x4096x32x64, .f32⟩
  | .hbm, ⟨51, _⟩ => ⟨S1x4096x1x64, .f32⟩
  | .hbm, ⟨52, _⟩ => ⟨S2x4096x32x64, .f32⟩
  | .hbm, ⟨53, _⟩ => ⟨S2x4096x32x64, .f32⟩
  | .hbm, ⟨54, _⟩ => ⟨S2x4096x32x64, .f32⟩
  | .hbm, ⟨55, _⟩ => ⟨S1x4096x1x64, .f32⟩
  | .hbm, ⟨56, _⟩ => ⟨S2x4096x32x64, .f32⟩
  | .hbm, ⟨57, _⟩ => ⟨S2x4096x32x64, .f32⟩
  | .hbm, ⟨58, _⟩ => ⟨S1x4096x1x64, .f32⟩
  | .hbm, ⟨59, _⟩ => ⟨S2x4096x32x64, .f32⟩
  | .hbm, ⟨60, _⟩ => ⟨S2x4096x32x64, .f32⟩
  | .hbm, ⟨61, _⟩ => ⟨S2x4096x32x64, .f32⟩
  | .hbm, ⟨62, _⟩ => ⟨S2x4096x32x64x1, .f32⟩
  | .hbm, ⟨63, _⟩ => ⟨S2x4096x32x64x1, .f32⟩
  | .hbm, ⟨64, _⟩ => ⟨S2x4096x32x64x2, .f32⟩
  | .hbm, ⟨65, _⟩ => ⟨S8192x4096, .f32⟩
  | .hbm, ⟨66, _⟩ => ⟨S8192x2048, .f32⟩
  | .hbm, ⟨67, _⟩ => ⟨S8192x6144, .f32⟩
  | .hbm, ⟨68, _⟩ => ⟨S512x6144, .f32⟩
  | .hbm, ⟨69, _⟩ => ⟨S8704x6144, .f32⟩
  | .hbm, ⟨70, _⟩ => ⟨S8704x24x256, .f32⟩
  | .hbm, ⟨71, _⟩ => ⟨S24x8704x256, .f32⟩
  | .hbm, ⟨72, _⟩ => ⟨S24x8704x256, .bf16⟩
  | .hbm, ⟨73, _⟩ => ⟨S2048x2048, .f32⟩
  | .hbm, ⟨74, _⟩ => ⟨S2048x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩

abbrev nD : Nat := 1
abbrev τ : Topo := Topo.v7x

variable {F : FTy → Type} [FloatOps F]
-- ==== Kernel6.lean ====
abbrev S8704x2048 : Shape := ⟨2, ![8704, 2048]⟩
abbrev S2048x3072 : Shape := ⟨2, ![2048, 3072]⟩
abbrev S2x2048x2048 : Shape := ⟨3, ![2, 2048, 2048]⟩
abbrev S2 : Shape := ⟨1, ![2]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S1x2 : Shape := ⟨2, ![1, 2]⟩
abbrev S64x2 : Shape := ⟨2, ![64, 2]⟩
abbrev S128 : Shape := ⟨1, ![128]⟩
abbrev S1x128 : Shape := ⟨2, ![1, 128]⟩
abbrev S1x4096x1x128 : Shape := ⟨4, ![1, 4096, 1, 128]⟩
abbrev S2x4096x2x128 : Shape := ⟨4, ![2, 4096, 2, 128]⟩
abbrev S8192x256 : Shape := ⟨2, ![8192, 256]⟩
abbrev S512x256 : Shape := ⟨2, ![512, 256]⟩
abbrev S8704x256 : Shape := ⟨2, ![8704, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8704x3072 : Shape := ⟨2, ![8704, 3072]⟩
abbrev S2048x2048 : Shape := ⟨2, ![2048, 2048]⟩
abbrev S2176x2048 : Shape := ⟨2, ![2176, 2048]⟩
abbrev S2048x512 : Shape := ⟨2, ![2048, 512]⟩
abbrev S2176x256 : Shape := ⟨2, ![2176, 256]⟩
abbrev S1x128x2048 : Shape := ⟨3, ![1, 128, 2048]⟩
abbrev S2176x512 : Shape := ⟨2, ![2176, 512]⟩
abbrev S128x2048 : Shape := ⟨2, ![128, 2048]⟩

abbrev nBuf : Space → Nat
  | .hbm => 72
  | .vmem => 15
  | .smem => 0
  | _ => 0

abbrev bufTy : (tb : Table) → Fin (tcTables nBuf tb) → BufTy
  | .hbm, ⟨0, _⟩ => ⟨S8704x2048, .bf16⟩
  | .hbm, ⟨1, _⟩ => ⟨S2048x3072, .bf16⟩
  | .hbm, ⟨2, _⟩ => ⟨S2x2048x2048, .f32⟩
  | .hbm, ⟨3, _⟩ => ⟨S2, .f32⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x1, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x64, .f32⟩
  | .hbm, ⟨36, _⟩ => ⟨S4096x64, .f32⟩
  | .hbm, ⟨37, _⟩ => ⟨S4096x64x2, .f32⟩
  | .hbm, ⟨38, _⟩ => ⟨S4096x128, .f32⟩
  | .hbm, ⟨39, _⟩ => ⟨S4096x64, .f32⟩
  | .hbm, ⟨40, _⟩ => ⟨S4096x64x2, .f32⟩
  | .hbm, ⟨41, _⟩ => ⟨S4096x128, .f32⟩
  | .hbm, ⟨42, _⟩ => ⟨S1x2, .f32⟩
  | .hbm, ⟨43, _⟩ => ⟨S64x2, .f32⟩
  | .hbm, ⟨44, _⟩ => ⟨S128, .f32⟩
  | .hbm, ⟨45, _⟩ => ⟨S1x128, .f32⟩
  | .hbm, ⟨46, _⟩ => ⟨S4096x128, .f32⟩
  | .hbm, ⟨47, _⟩ => ⟨S4096x128, .f32⟩
  | .hbm, ⟨48, _⟩ => ⟨S1x4096x1x128, .f32⟩
  | .hbm, ⟨49, _⟩ => ⟨S2x4096x2x128, .f32⟩
  | .hbm, ⟨50, _⟩ => ⟨S8192x256, .f32⟩
  | .hbm, ⟨51, _⟩ => ⟨S_, .f32⟩
  | .hbm, ⟨52, _⟩ => ⟨S512x256, .f32⟩
  | .hbm, ⟨53, _⟩ => ⟨S8704x256, .f32⟩
  | .hbm, ⟨54, _⟩ => ⟨S1x4096x1x128, .f32⟩
  | .hbm, ⟨55, _⟩ => ⟨S2x4096x2x128, .f32⟩
  | .hbm, ⟨56, _⟩ => ⟨S8192x256, .f32⟩
  | .hbm, ⟨57, _⟩ => ⟨S_, .f32⟩
  | .hbm, ⟨58, _⟩ => ⟨S512x256, .f32⟩
  | .hbm, ⟨59, _⟩ => ⟨S8704x256, .f32⟩
  | .hbm, ⟨60, _⟩ => ⟨S256, .i32⟩
  | .hbm, ⟨61, _⟩ => ⟨S256x1, .i32⟩
  | .hbm, ⟨62, _⟩ => ⟨S1x256, .i32⟩
  | .hbm, ⟨63, _⟩ => ⟨S_, .i32⟩
  | .hbm, ⟨64, _⟩ => ⟨S1x256, .i32⟩
  | .hbm, ⟨65, _⟩ => ⟨S1x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x256, .bf16⟩
  | .hbm, ⟨70, _⟩ => ⟨S8704x3072, .bf16⟩
  | .hbm, ⟨71, _⟩ => ⟨S2048x2048, .bf16⟩
  | .local _ .vmem, ⟨0, _⟩ => ⟨S2176x2048, .bf16⟩
  | .local _ .vmem, ⟨1, _⟩ => ⟨S2176x2048, .bf16⟩
  | .local _ .vmem, ⟨2, _⟩ => ⟨S2048x512, .bf16⟩
  | .local _ .vmem, ⟨3, _⟩ => ⟨S2048x512, .bf16⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S256x256, .bf16⟩
  | .local _ .vmem, ⟨9, _⟩ => ⟨S1x128x2048, .f32⟩
  | .local _ .vmem, ⟨10, _⟩ => ⟨S1x128x2048, .f32⟩
  | .local _ .vmem, ⟨11, _⟩ => ⟨S2176x512, .bf16⟩
  | .local _ .vmem, ⟨12, _⟩ => ⟨S2176x512, .bf16⟩
  | .local _ .vmem, ⟨13, _⟩ => ⟨S128x2048, .bf16⟩
  | .local _ .vmem, ⟨14, _⟩ => ⟨S128x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59_0 : Ref sig .tc := ⟨.hbm, 70, rfl⟩
abbrev main_v59_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c5_i32 : BitVec 32 := 5#32
  let v0 : BitVec 1 := Scalar.cmpi .slt arg1 c5_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c5_i32_0 : BitVec 32 := 5#32
  let v3 : BitVec 1 := Scalar.cmpi .sge arg1 c5_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c15_i32 : BitVec 32 := 15#32
  let v4 : BitVec 32 := Scalar.minsi v3 c15_i32
  let c0_i32_0 : BitVec 32 := 0#32
  let c0_i32_1 : BitVec 32 := 0#32
  let c0_i32_2 : BitVec 32 := 0#32
  ![c0_i32_0.toNat, v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c15_i32 : BitVec 32 := 15#32
  let v4 : BitVec 32 := Scalar.minsi v3 c15_i32
  let c0_i32_0 : BitVec 32 := 0#32
  let c0_i32_1 : BitVec 32 := 0#32
  ![v4.toNat, c0_i32_0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2176x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8704x2048 : Shape := ⟨2, ![8704, 2048]⟩
abbrev S2048x3072 : Shape := ⟨2, ![2048, 3072]⟩
abbrev S2x2048x2048 : Shape := ⟨3, ![2, 2048, 2048]⟩
abbrev S8704x3072 : Shape := ⟨2, ![8704, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x1x64 : Shape := ⟨3, ![4096, 1, 64]⟩
abbrev S8192x2560 : Shape := ⟨2, ![8192, 2560]⟩
abbrev S2x4096x20x64x2 : Shape := ⟨5, ![2, 4096, 20, 64, 2]⟩
abbrev S2x4096x20x64x1 : Shape := ⟨5, ![2, 4096, 20, 64, 1]⟩
abbrev S2x4096x20x64 : Shape := ⟨4, ![2, 4096, 20, 64]⟩
abbrev S1x4096x1x64 : Shape := ⟨4, ![1, 4096, 1, 64]⟩
abbrev S8192x512 : Shape := ⟨2, ![8192, 512]⟩
abbrev S8192x3072 : Shape := ⟨2, ![8192, 3072]⟩
abbrev S512x3072 : Shape := ⟨2, ![512, 3072]⟩
abbrev S1x2048x2048 : Shape := ⟨3, ![1, 2048, 2048]⟩
abbrev S2048x2048 : Shape := ⟨2, ![2048, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x3072, .bf16⟩
  | .hbm, ⟨2, _⟩ => ⟨S2x2048x2048, .f32⟩
  | .hbm, ⟨3, _⟩ => ⟨S8704x2048, .f32⟩
  | .hbm, ⟨4, _⟩ => ⟨S2048x3072, .f32⟩
  | .hbm, ⟨5, _⟩ => ⟨S8704x3072, .f32⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x64, .f32⟩
  | .hbm, ⟨38, _⟩ => ⟨S4096x64, .f32⟩
  | .hbm, ⟨39, _⟩ => ⟨S4096x1x64, .f32⟩
  | .hbm, ⟨40, _⟩ => ⟨S4096x64, .f32⟩
  | .hbm, ⟨41, _⟩ => ⟨S4096x1x64, .f32⟩
  | .hbm, ⟨42, _⟩ => ⟨S8192x2560, .f32⟩
  | .hbm, ⟨43, _⟩ => ⟨S2x4096x20x64x2, .f32⟩
  | .hbm, ⟨44, _⟩ => ⟨S2x4096x20x64x1, .f32⟩
  | .hbm, ⟨45, _⟩ => ⟨S2x4096x20x64, .f32⟩
  | .hbm, ⟨46, _⟩ => ⟨S2x4096x20x64x1, .f32⟩
  | .hbm, ⟨47, _⟩ => ⟨S2x4096x20x64, .f32⟩
  | .hbm, ⟨48, _⟩ => ⟨S1x4096x1x64, .f32⟩
  | .hbm, ⟨49, _⟩ => ⟨S2x4096x20x64, .f32⟩
  | .hbm, ⟨50, _⟩ => ⟨S2x4096x20x64, .f32⟩
  | .hbm, ⟨51, _⟩ => ⟨S1x4096x1x64, .f32⟩
  | .hbm, ⟨52, _⟩ => ⟨S2x4096x20x64, .f32⟩
  | .hbm, ⟨53, _⟩ => ⟨S2x4096x20x64, .f32⟩
  | .hbm, ⟨54, _⟩ => ⟨S2x4096x20x64, .f32⟩
  | .hbm, ⟨55, _⟩ => ⟨S1x4096x1x64, .f32⟩
  | .hbm, ⟨56, _⟩ => ⟨S2x4096x20x64, .f32⟩
  | .hbm, ⟨57, _⟩ => ⟨S2x4096x20x64, .f32⟩
  | .hbm, ⟨58, _⟩ => ⟨S1x4096x1x64, .f32⟩
  | .hbm, ⟨59, _⟩ => ⟨S2x4096x20x64, .f32⟩
  | .hbm, ⟨60, _⟩ => ⟨S2x4096x20x64, .f32⟩
  | .hbm, ⟨61, _⟩ => ⟨S2x4096x20x64, .f32⟩
  | .hbm, ⟨62, _⟩ => ⟨S2x4096x20x64x1, .f32⟩
  | .hbm, ⟨63, _⟩ => ⟨S2x4096x20x64x1, .f32⟩
  | .hbm, ⟨64, _⟩ => ⟨S2x4096x20x64x2, .f32⟩
  | .hbm, ⟨65, _⟩ => ⟨S8192x2560, .f32⟩
  | .hbm, ⟨66, _⟩ => ⟨S8192x512, .f32⟩
  | .hbm, ⟨67, _⟩ => ⟨S8192x3072, .f32⟩
  | .hbm, ⟨68, _⟩ => ⟨S512x3072, .f32⟩
  | .hbm, ⟨69, _⟩ => ⟨S8704x3072, .f32⟩
  | .hbm, ⟨70, _⟩ => ⟨S8704x3072, .bf16⟩
  | .hbm, ⟨71, _⟩ => ⟨S1x2048x2048, .f32⟩
  | .hbm, ⟨72, _⟩ => ⟨S2048x2048, .f32⟩
  | .hbm, ⟨73, _⟩ => ⟨S2048x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩

abbrev nD : Nat := 1
abbrev τ : Topo := Topo.v7x

variable {F : FTy → Type} [FloatOps F]
-- ==== Kernel7.lean ====
abbrev S8704x2048 : Shape := ⟨2, ![8704, 2048]⟩
abbrev S2048x2048 : Shape := ⟨2, ![2048, 2048]⟩
abbrev S4x8x18432 : Shape := ⟨3, ![4, 8, 18432]⟩
abbrev S4x6x2048 : Shape := ⟨3, ![4, 6, 2048]⟩
abbrev S4x3x18432 : Shape := ⟨3, ![4, 3, 18432]⟩
abbrev S4x3x9x2048 : Shape := ⟨4, ![4, 3, 9, 2048]⟩
abbrev S_ : Shape := ⟨0, ![]⟩
abbrev S3x2048 : Shape := ⟨2, ![3, 2048]⟩
abbrev S1x1x2048 : Shape := ⟨3, ![1, 1, 2048]⟩
abbrev S2048 : Shape := ⟨1, ![2048]⟩
abbrev S1x3x1x2048 : Shape := ⟨4, ![1, 3, 1, 2048]⟩
abbrev S3x1x2048 : Shape := ⟨3, ![3, 1, 2048]⟩
abbrev S3x8x2048 : Shape := ⟨3, ![3, 8, 2048]⟩
abbrev S1x3x8x2048 : Shape := ⟨4, ![1, 3, 8, 2048]⟩
abbrev S13x3x8x2048 : Shape := ⟨4, ![13, 3, 8, 2048]⟩
abbrev S512x2048 : Shape := ⟨2, ![512, 2048]⟩
abbrev S1x1x8x2048 : Shape := ⟨4, ![1, 1, 8, 2048]⟩
abbrev S1x1x1x2048 : Shape := ⟨4, ![1, 1, 1, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 286
  | .vmem => 11
  | .smem => 0
  | _ => 0

abbrev hbmTy0_0 (i : Nat) : BufTy := match i % 128 with
  | 0 => ⟨S8704x2048, .bf16⟩
  | 1 => ⟨S2048x2048, .bf16⟩
  | 2 => ⟨S8704x2048, .f32⟩
  | 3 => ⟨S4x8x18432, .f32⟩
  | 4 => ⟨S4x6x2048, .f32⟩
  | 5 => ⟨S4x3x18432, .f32⟩
  | 6 => ⟨S4x3x9x2048, .f32⟩
  | 7 => ⟨S_, .f32⟩
  | 8 => ⟨S3x2048, .f32⟩
  | 9 => ⟨S1x1x2048, .f32⟩
  | 10 => ⟨S2048, .f32⟩
  | 11 => ⟨S3x2048, .f32⟩
  | 12 => ⟨S1x3x1x2048, .f32⟩
  | 13 => ⟨S3x2048, .f32⟩
  | 14 => ⟨S1x3x1x2048, .f32⟩
  | 15 => ⟨S3x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x1x2048, .f32⟩
  | 23 => ⟨S3x1x2048, .f32⟩
  | 24 => ⟨S3x8x2048, .f32⟩
  | 25 => ⟨S1x1x2048, .f32⟩
  | 26 => ⟨S2048, .f32⟩
  | 27 => ⟨S3x2048, .f32⟩
  | 28 => ⟨S1x3x1x2048, .f32⟩
  | 29 => ⟨S3x2048, .f32⟩
  | 30 => ⟨S1x1x2048, .f32⟩
  | 31 => ⟨S2048, .f32⟩
  | 32 => ⟨S3x2048, .f32⟩
  | 33 => ⟨S1x3x1x2048, .f32⟩
  | 34 => ⟨S3x2048, .f32⟩
  | 35 => ⟨S1x3x1x2048, .f32⟩
  | 36 => ⟨S3x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x1x2048, .f32⟩
  | 44 => ⟨S3x1x2048, .f32⟩
  | 45 => ⟨S3x8x2048, .f32⟩
  | 46 => ⟨S1x1x2048, .f32⟩
  | 47 => ⟨S2048, .f32⟩
  | 48 => ⟨S3x2048, .f32⟩
  | 49 => ⟨S1x3x1x2048, .f32⟩
  | 50 => ⟨S3x2048, .f32⟩
  | 51 => ⟨S1x1x2048, .f32⟩
  | 52 => ⟨S2048, .f32⟩
  | 53 => ⟨S3x2048, .f32⟩
  | 54 => ⟨S1x3x1x2048, .f32⟩
  | 55 => ⟨S3x2048, .f32⟩
  | 56 => ⟨S1x3x1x2048, .f32⟩
  | 57 => ⟨S3x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x1x2048, .f32⟩
  | 65 => ⟨S3x1x2048, .f32⟩
  | 66 => ⟨S3x8x2048, .f32⟩
  | 67 => ⟨S1x1x2048, .f32⟩
  | 68 => ⟨S2048, .f32⟩
  | 69 => ⟨S3x2048, .f32⟩
  | 70 => ⟨S1x3x1x2048, .f32⟩
  | 71 => ⟨S3x2048, .f32⟩
  | 72 => ⟨S1x1x2048, .f32⟩
  | 73 => ⟨S2048, .f32⟩
  | 74 => ⟨S3x2048, .f32⟩
  | 75 => ⟨S1x3x1x2048, .f32⟩
  | 76 => ⟨S3x2048, .f32⟩
  | 77 => ⟨S1x3x1x2048, .f32⟩
  | 78 => ⟨S3x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x1x2048, .f32⟩
  | 86 => ⟨S3x1x2048, .f32⟩
  | 87 => ⟨S3x8x2048, .f32⟩
  | 88 => ⟨S1x1x2048, .f32⟩
  | 89 => ⟨S2048, .f32⟩
  | 90 => ⟨S3x2048, .f32⟩
  | 91 => ⟨S1x3x1x2048, .f32⟩
  | 92 => ⟨S3x2048, .f32⟩
  | 93 => ⟨S1x1x2048, .f32⟩
  | 94 => ⟨S2048, .f32⟩
  | 95 => ⟨S3x2048, .f32⟩
  | 96 => ⟨S1x3x1x2048, .f32⟩
  | 97 => ⟨S3x2048, .f32⟩
  | 98 => ⟨S1x3x1x2048, .f32⟩
  | 99 => ⟨S3x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x1x2048, .f32⟩
  | 107 => ⟨S3x1x2048, .f32⟩
  | 108 => ⟨S3x8x2048, .f32⟩
  | 109 => ⟨S1x1x2048, .f32⟩
  | 110 => ⟨S2048, .f32⟩
  | 111 => ⟨S3x2048, .f32⟩
  | 112 => ⟨S1x3x1x2048, .f32⟩
  | 113 => ⟨S3x2048, .f32⟩
  | 114 => ⟨S1x1x2048, .f32⟩
  | 115 => ⟨S2048, .f32⟩
  | 116 => ⟨S3x2048, .f32⟩
  | 117 => ⟨S1x3x1x2048, .f32⟩
  | 118 => ⟨S3x2048, .f32⟩
  | 119 => ⟨S1x3x1x2048, .f32⟩
  | 120 => ⟨S3x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x1x2048, .f32⟩
  | _ => ⟨S8704x2048, .bf16⟩

abbrev hbmTy0_1 (i : Nat) : BufTy := match i % 128 with
  | 0 => ⟨S3x1x2048, .f32⟩
  | 1 => ⟨S3x8x2048, .f32⟩
  | 2 => ⟨S1x1x2048, .f32⟩
  | 3 => ⟨S2048, .f32⟩
  | 4 => ⟨S3x2048, .f32⟩
  | 5 => ⟨S1x3x1x2048, .f32⟩
  | 6 => ⟨S3x2048, .f32⟩
  | 7 => ⟨S1x1x2048, .f32⟩
  | 8 => ⟨S2048, .f32⟩
  | 9 => ⟨S3x2048, .f32⟩
  | 10 => ⟨S1x3x1x2048, .f32⟩
  | 11 => ⟨S3x2048, .f32⟩
  | 12 => ⟨S1x3x1x2048, .f32⟩
  | 13 => ⟨S3x2048, .f32⟩
  | 14 => ⟨S3x1x2048, .f32⟩
  | 15 => ⟨S3x1x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x8x2048, .f32⟩
  | 23 => ⟨S1x1x2048, .f32⟩
  | 24 => ⟨S2048, .f32⟩
  | 25 => ⟨S3x2048, .f32⟩
  | 26 => ⟨S1x3x1x2048, .f32⟩
  | 27 => ⟨S3x2048, .f32⟩
  | 28 => ⟨S1x1x2048, .f32⟩
  | 29 => ⟨S2048, .f32⟩
  | 30 => ⟨S3x2048, .f32⟩
  | 31 => ⟨S1x3x1x2048, .f32⟩
  | 32 => ⟨S3x2048, .f32⟩
  | 33 => ⟨S1x3x1x2048, .f32⟩
  | 34 => ⟨S3x2048, .f32⟩
  | 35 => ⟨S3x1x2048, .f32⟩
  | 36 => ⟨S3x1x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x8x2048, .f32⟩
  | 44 => ⟨S1x1x2048, .f32⟩
  | 45 => ⟨S2048, .f32⟩
  | 46 => ⟨S3x2048, .f32⟩
  | 47 => ⟨S1x3x1x2048, .f32⟩
  | 48 => ⟨S3x2048, .f32⟩
  | 49 => ⟨S1x1x2048, .f32⟩
  | 50 => ⟨S2048, .f32⟩
  | 51 => ⟨S3x2048, .f32⟩
  | 52 => ⟨S1x3x1x2048, .f32⟩
  | 53 => ⟨S3x2048, .f32⟩
  | 54 => ⟨S1x3x1x2048, .f32⟩
  | 55 => ⟨S3x2048, .f32⟩
  | 56 => ⟨S3x1x2048, .f32⟩
  | 57 => ⟨S3x1x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x8x2048, .f32⟩
  | 65 => ⟨S1x1x2048, .f32⟩
  | 66 => ⟨S2048, .f32⟩
  | 67 => ⟨S3x2048, .f32⟩
  | 68 => ⟨S1x3x1x2048, .f32⟩
  | 69 => ⟨S3x2048, .f32⟩
  | 70 => ⟨S1x1x2048, .f32⟩
  | 71 => ⟨S2048, .f32⟩
  | 72 => ⟨S3x2048, .f32⟩
  | 73 => ⟨S1x3x1x2048, .f32⟩
  | 74 => ⟨S3x2048, .f32⟩
  | 75 => ⟨S1x3x1x2048, .f32⟩
  | 76 => ⟨S3x2048, .f32⟩
  | 77 => ⟨S3x1x2048, .f32⟩
  | 78 => ⟨S3x1x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x8x2048, .f32⟩
  | 86 => ⟨S1x1x2048, .f32⟩
  | 87 => ⟨S2048, .f32⟩
  | 88 => ⟨S3x2048, .f32⟩
  | 89 => ⟨S1x3x1x2048, .f32⟩
  | 90 => ⟨S3x2048, .f32⟩
  | 91 => ⟨S1x1x2048, .f32⟩
  | 92 => ⟨S2048, .f32⟩
  | 93 => ⟨S3x2048, .f32⟩
  | 94 => ⟨S1x3x1x2048, .f32⟩
  | 95 => ⟨S3x2048, .f32⟩
  | 96 => ⟨S1x3x1x2048, .f32⟩
  | 97 => ⟨S3x2048, .f32⟩
  | 98 => ⟨S3x1x2048, .f32⟩
  | 99 => ⟨S3x1x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x8x2048, .f32⟩
  | 107 => ⟨S1x1x2048, .f32⟩
  | 108 => ⟨S2048, .f32⟩
  | 109 => ⟨S3x2048, .f32⟩
  | 110 => ⟨S1x3x1x2048, .f32⟩
  | 111 => ⟨S3x2048, .f32⟩
  | 112 => ⟨S1x1x2048, .f32⟩
  | 113 => ⟨S2048, .f32⟩
  | 114 => ⟨S3x2048, .f32⟩
  | 115 => ⟨S1x3x1x2048, .f32⟩
  | 116 => ⟨S3x2048, .f32⟩
  | 117 => ⟨S1x3x1x2048, .f32⟩
  | 118 => ⟨S3x2048, .f32⟩
  | 119 => ⟨S3x1x2048, .f32⟩
  | 120 => ⟨S3x1x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x8x2048, .f32⟩
  | _ => ⟨S8704x2048, .bf16⟩

abbrev hbmTy0_2 (i : Nat) : BufTy := match i % 128 with
  | 0 => ⟨S1x1x2048, .f32⟩
  | 1 => ⟨S2048, .f32⟩
  | 2 => ⟨S3x2048, .f32⟩
  | 3 => ⟨S1x3x1x2048, .f32⟩
  | 4 => ⟨S3x2048, .f32⟩
  | 5 => ⟨S3x1x2048, .f32⟩
  | 6 => ⟨S3x1x2048, .f32⟩
  | 7 => ⟨S3x1x2048, .f32⟩
  | 8 => ⟨S3x1x2048, .f32⟩
  | 9 => ⟨S3x1x2048, .f32⟩
  | 10 => ⟨S3x1x2048, .f32⟩
  | 11 => ⟨S3x1x2048, .f32⟩
  | 12 => ⟨S3x1x2048, .f32⟩
  | 13 => ⟨S3x8x2048, .f32⟩
  | 14 => ⟨S1x3x8x2048, .f32⟩
  | 15 => ⟨S1x3x8x2048, .f32⟩
  | 16 => ⟨S1x3x8x2048, .f32⟩
  | 17 => ⟨S1x3x8x2048, .f32⟩
  | 18 => ⟨S1x3x8x2048, .f32⟩
  | 19 => ⟨S1x3x8x2048, .f32⟩
  | 20 => ⟨S1x3x8x2048, .f32⟩
  | 21 => ⟨S1x3x8x2048, .f32⟩
  | 22 => ⟨S1x3x8x2048, .f32⟩
  | 23 => ⟨S1x3x8x2048, .f32⟩
  | 24 => ⟨S1x3x8x2048, .f32⟩
  | 25 => ⟨S1x3x8x2048, .f32⟩
  | 26 => ⟨S1x3x8x2048, .f32⟩
  | 27 => ⟨S13x3x8x2048, .f32⟩
  | 28 => ⟨S8704x2048, .f32⟩
  | 29 => ⟨S8704x2048, .bf16⟩
  | _ => ⟨S8704x2048, .bf16⟩

abbrev hbmTy (i : Nat) : BufTy := match i / 128 with
  | 0 => hbmTy0_0 i
  | 1 => hbmTy0_1 i
  | 2 => hbmTy0_2 i
  | _ => ⟨S8704x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x1x8x2048, .f32⟩
  | .local _ .vmem, ⟨4, _⟩ => ⟨S1x1x8x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278_0 : Ref sig .tc := ⟨.hbm, 284, rfl⟩
abbrev main_v278_1 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c2_i32_4 : BitVec 32 := 2#32
  let c0_i32_5 : BitVec 32 := 0#32
  let c0_i32_6 : BitVec 32 := 0#32
  let c0_i32_7 : BitVec 32 := 0#32
  ![c2_i32_4.toNat, v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8704x2048 : Shape := ⟨2, ![8704, 2048]⟩
abbrev S2048x2048 : Shape := ⟨2, ![2048, 2048]⟩
abbrev S4x8x18432 : Shape := ⟨3, ![4, 8, 18432]⟩
abbrev S4x6x2048 : Shape := ⟨3, ![4, 6, 2048]⟩
abbrev S1x3x18432 : Shape := ⟨3, ![1, 3, 18432]⟩
abbrev S3x18432 : Shape := ⟨2, ![3, 18432]⟩
abbrev S3x9x2048 : Shape := ⟨3, ![3, 9, 2048]⟩
abbrev S3x1x2048 : Shape := ⟨3, ![3, 1, 2048]⟩
abbrev S3x2048 : Shape := ⟨2, ![3, 2048]⟩
abbrev S1x2048 : Shape := ⟨2, ![1, 2048]⟩
abbrev S2048 : Shape := ⟨1, ![2048]⟩
abbrev S4096x2048 : Shape := ⟨2, ![4096, 2048]⟩
abbrev S512x2048 : Shape := ⟨2, ![512, 2048]⟩
abbrev S1x1x2048 : Shape := ⟨3, ![1, 1, 2048]⟩
abbrev S_ : Shape := ⟨0, ![]⟩
abbrev S8704 : Shape := ⟨1, ![8704]⟩
abbrev S8704x1 : Shape := ⟨2, ![8704, 1]⟩

abbrev nBuf : Space → Nat
  | .hbm => 91
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .bf16⟩
  | .hbm, ⟨2, _⟩ => ⟨S8704x2048, .f32⟩
  | .hbm, ⟨3, _⟩ => ⟨S4x8x18432, .f32⟩
  | .hbm, ⟨4, _⟩ => ⟨S4x6x2048, .f32⟩
  | .hbm, ⟨5, _⟩ => ⟨S1x3x18432, .f32⟩
  | .hbm, ⟨6, _⟩ => ⟨S3x18432, .f32⟩
  | .hbm, ⟨7, _⟩ => ⟨S3x9x2048, .f32⟩
  | .hbm, ⟨8, _⟩ => ⟨S8704x2048, .f32⟩
  | .hbm, ⟨9, _⟩ => ⟨S2048x2048, .f32⟩
  | .hbm, ⟨10, _⟩ => ⟨S8704x2048, .f32⟩
  | .hbm, ⟨11, _⟩ => ⟨S3x1x2048, .f32⟩
  | .hbm, ⟨12, _⟩ => ⟨S3x2048, .f32⟩
  | .hbm, ⟨13, _⟩ => ⟨S1x2048, .f32⟩
  | .hbm, ⟨14, _⟩ => ⟨S2048, .f32⟩
  | .hbm, ⟨15, _⟩ => ⟨S4096x2048, .f32⟩
  | .hbm, ⟨16, _⟩ => ⟨S1x2048, .f32⟩
  | .hbm, ⟨17, _⟩ => ⟨S2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S512x2048, .f32⟩
  | .hbm, ⟨22, _⟩ => ⟨S8704x2048, .f32⟩
  | .hbm, ⟨23, _⟩ => ⟨S1x1x2048, .f32⟩
  | .hbm, ⟨24, _⟩ => ⟨S2048, .f32⟩
  | .hbm, ⟨25, _⟩ => ⟨S8704x2048, .f32⟩
  | .hbm, ⟨26, _⟩ => ⟨S_, .f32⟩
  | .hbm, ⟨27, _⟩ => ⟨S8704, .f32⟩
  | .hbm, ⟨28, _⟩ => ⟨S8704x1, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S1x2048, .f32⟩
  | .hbm, ⟨39, _⟩ => ⟨S8704x2048, .f32⟩
  | .hbm, ⟨40, _⟩ => ⟨S8704x2048, .f32⟩
  | .hbm, ⟨41, _⟩ => ⟨S8704x2048, .f32⟩
  | .hbm, ⟨42, _⟩ => ⟨S8704x2048, .f32⟩
  | .hbm, ⟨43, _⟩ => ⟨S1x1x2048, .f32⟩
  | .hbm, ⟨44, _⟩ => ⟨S2048, .f32⟩
  | .hbm, ⟨45, _⟩ => ⟨S8704x2048, .f32⟩
  | .hbm, ⟨46, _⟩ => ⟨S_, .f32⟩
  | .hbm, ⟨47, _⟩ => ⟨S8704, .f32⟩
  | .hbm, ⟨48, _⟩ => ⟨S8704x1, .f32⟩
  | .hbm, ⟨49, _⟩ => ⟨S_, .f32⟩
  | .hbm, ⟨50, _⟩ => ⟨S8704x1, .f32⟩
  | .hbm, ⟨51, _⟩ => ⟨S8704x1, .f32⟩
  | .hbm, ⟨52, _⟩ => ⟨S_, .f32⟩
  | .hbm, ⟨53, _⟩ => ⟨S8704x1, .f32⟩
  | .hbm, ⟨54, _⟩ => ⟨S8704x1, .f32⟩
  | .hbm, ⟨55, _⟩ => ⟨S8704x1, .f32⟩
  | .hbm, ⟨56, _⟩ => ⟨S8704x2048, .f32⟩
  | .hbm, ⟨57, _⟩ => ⟨S8704x2048, .f32⟩
  | .hbm, ⟨58, _⟩ => ⟨S1x2048, .f32⟩
  | .hbm, ⟨59, _⟩ => ⟨S8704x2048, .f32⟩
  | .hbm, ⟨60, _⟩ => ⟨S8704x2048, .f32⟩
  | .hbm, ⟨61, _⟩ => ⟨S3x1x2048, .f32⟩
  | .hbm, ⟨62, _⟩ => ⟨S3x2048, .f32⟩
  | .hbm, ⟨63, _⟩ => ⟨S1x2048, .f32⟩
  | .hbm, ⟨64, _⟩ => ⟨S2048, .f32⟩
  | .hbm, ⟨65, _⟩ => ⟨S4096x2048, .f32⟩
  | .hbm, ⟨66, _⟩ => ⟨S1x2048, .f32⟩
  | .hbm, ⟨67, _⟩ => ⟨S2048, .f32⟩
  | .hbm, ⟨68, _⟩ => ⟨S4096x2048, .f32⟩
  | .hbm, ⟨69, _⟩ => ⟨S1x2048, .f32⟩
  | .hbm, ⟨70, _⟩ => ⟨S2048, .f32⟩
  | .hbm, ⟨71, _⟩ => ⟨S512x2048, .f32⟩
  | .hbm, ⟨72, _⟩ => ⟨S8704x2048, .f32⟩
  | .hbm, ⟨73, _⟩ => ⟨S_, .f32⟩
  | .hbm, ⟨74, _⟩ => ⟨S8704x2048, .f32⟩
  | .hbm, ⟨75, _⟩ => ⟨S8704x2048, .f32⟩
  | .hbm, ⟨76, _⟩ => ⟨S8704x2048, .f32⟩
  | .hbm, ⟨77, _⟩ => ⟨S3x1x2048, .f32⟩
  | .hbm, ⟨78, _⟩ => ⟨S3x2048, .f32⟩
  | .hbm, ⟨79, _⟩ => ⟨S1x2048, .f32⟩
  | .hbm, ⟨80, _⟩ => ⟨S2048, .f32⟩
  | .hbm, ⟨81, _⟩ => ⟨S4096x2048, .f32⟩
  | .hbm, ⟨82, _⟩ => ⟨S1x2048, .f32⟩
  | .hbm, ⟨83, _⟩ => ⟨S2048, .f32⟩
  | .hbm, ⟨84, _⟩ => ⟨S4096x2048, .f32⟩
  | .hbm, ⟨85, _⟩ => ⟨S1x2048, .f32⟩
  | .hbm, ⟨86, _⟩ => ⟨S2048, .f32⟩
  | .hbm, ⟨87, _⟩ => ⟨S512x2048, .f32⟩
  | .hbm, ⟨88, _⟩ => ⟨S8704x2048, .f32⟩
  | .hbm, ⟨89, _⟩ => ⟨S8704x2048, .f32⟩
  | .hbm, ⟨90, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]
-- ==== Kernel8.lean ====
abbrev S8704x6144 : Shape := ⟨2, ![8704, 6144]⟩
abbrev S6144x2048 : Shape := ⟨2, ![6144, 2048]⟩
abbrev S8704x2048 : Shape := ⟨2, ![8704, 2048]⟩
abbrev S4x8x18432 : Shape := ⟨3, ![4, 8, 18432]⟩
abbrev S4x6x2048 : Shape := ⟨3, ![4, 6, 2048]⟩
abbrev S4x3x18432 : Shape := ⟨3, ![4, 3, 18432]⟩
abbrev S4x3x9x2048 : Shape := ⟨4, ![4, 3, 9, 2048]⟩
abbrev S_ : Shape := ⟨0, ![]⟩
abbrev S3x2048 : Shape := ⟨2, ![3, 2048]⟩
abbrev S1x1x2048 : Shape := ⟨3, ![1, 1, 2048]⟩
abbrev S2048 : Shape := ⟨1, ![2048]⟩
abbrev S1x3x1x2048 : Shape := ⟨4, ![1, 3, 1, 2048]⟩
abbrev S3x1x2048 : Shape := ⟨3, ![3, 1, 2048]⟩
abbrev S3x8x2048 : Shape := ⟨3, ![3, 8, 2048]⟩
abbrev S1x3x8x2048 : Shape := ⟨4, ![1, 3, 8, 2048]⟩
abbrev S13x3x8x2048 : Shape := ⟨4, ![13, 3, 8, 2048]⟩
abbrev S512x6144 : Shape := ⟨2, ![512, 6144]⟩
abbrev S1x1x8x2048 : Shape := ⟨4, ![1, 1, 8, 2048]⟩
abbrev S512x2048 : Shape := ⟨2, ![512, 2048]⟩
abbrev S1x1x1x2048 : Shape := ⟨4, ![1, 1, 1, 2048]⟩
abbrev S1x2048 : Shape := ⟨2, ![1, 2048]⟩
abbrev S256x6144 : Shape := ⟨2, ![256, 6144]⟩
abbrev S256x2048 : Shape := ⟨2, ![256, 2048]⟩
abbrev S256 : Shape := ⟨1, ![256]⟩
abbrev S256x1 : Shape := ⟨2, ![256, 1]⟩

abbrev nBuf : Space → Nat
  | .hbm => 286
  | .vmem => 11
  | .smem => 0
  | _ => 0

abbrev hbmTy0_0 (i : Nat) : BufTy := match i % 128 with
  | 0 => ⟨S8704x6144, .bf16⟩
  | 1 => ⟨S6144x2048, .bf16⟩
  | 2 => ⟨S8704x2048, .f32⟩
  | 3 => ⟨S4x8x18432, .f32⟩
  | 4 => ⟨S4x6x2048, .f32⟩
  | 5 => ⟨S4x3x18432, .f32⟩
  | 6 => ⟨S4x3x9x2048, .f32⟩
  | 7 => ⟨S_, .f32⟩
  | 8 => ⟨S3x2048, .f32⟩
  | 9 => ⟨S1x1x2048, .f32⟩
  | 10 => ⟨S2048, .f32⟩
  | 11 => ⟨S3x2048, .f32⟩
  | 12 => ⟨S1x3x1x2048, .f32⟩
  | 13 => ⟨S3x2048, .f32⟩
  | 14 => ⟨S1x3x1x2048, .f32⟩
  | 15 => ⟨S3x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x1x2048, .f32⟩
  | 23 => ⟨S3x1x2048, .f32⟩
  | 24 => ⟨S3x8x2048, .f32⟩
  | 25 => ⟨S1x1x2048, .f32⟩
  | 26 => ⟨S2048, .f32⟩
  | 27 => ⟨S3x2048, .f32⟩
  | 28 => ⟨S1x3x1x2048, .f32⟩
  | 29 => ⟨S3x2048, .f32⟩
  | 30 => ⟨S1x1x2048, .f32⟩
  | 31 => ⟨S2048, .f32⟩
  | 32 => ⟨S3x2048, .f32⟩
  | 33 => ⟨S1x3x1x2048, .f32⟩
  | 34 => ⟨S3x2048, .f32⟩
  | 35 => ⟨S1x3x1x2048, .f32⟩
  | 36 => ⟨S3x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x1x2048, .f32⟩
  | 44 => ⟨S3x1x2048, .f32⟩
  | 45 => ⟨S3x8x2048, .f32⟩
  | 46 => ⟨S1x1x2048, .f32⟩
  | 47 => ⟨S2048, .f32⟩
  | 48 => ⟨S3x2048, .f32⟩
  | 49 => ⟨S1x3x1x2048, .f32⟩
  | 50 => ⟨S3x2048, .f32⟩
  | 51 => ⟨S1x1x2048, .f32⟩
  | 52 => ⟨S2048, .f32⟩
  | 53 => ⟨S3x2048, .f32⟩
  | 54 => ⟨S1x3x1x2048, .f32⟩
  | 55 => ⟨S3x2048, .f32⟩
  | 56 => ⟨S1x3x1x2048, .f32⟩
  | 57 => ⟨S3x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x1x2048, .f32⟩
  | 65 => ⟨S3x1x2048, .f32⟩
  | 66 => ⟨S3x8x2048, .f32⟩
  | 67 => ⟨S1x1x2048, .f32⟩
  | 68 => ⟨S2048, .f32⟩
  | 69 => ⟨S3x2048, .f32⟩
  | 70 => ⟨S1x3x1x2048, .f32⟩
  | 71 => ⟨S3x2048, .f32⟩
  | 72 => ⟨S1x1x2048, .f32⟩
  | 73 => ⟨S2048, .f32⟩
  | 74 => ⟨S3x2048, .f32⟩
  | 75 => ⟨S1x3x1x2048, .f32⟩
  | 76 => ⟨S3x2048, .f32⟩
  | 77 => ⟨S1x3x1x2048, .f32⟩
  | 78 => ⟨S3x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x1x2048, .f32⟩
  | 86 => ⟨S3x1x2048, .f32⟩
  | 87 => ⟨S3x8x2048, .f32⟩
  | 88 => ⟨S1x1x2048, .f32⟩
  | 89 => ⟨S2048, .f32⟩
  | 90 => ⟨S3x2048, .f32⟩
  | 91 => ⟨S1x3x1x2048, .f32⟩
  | 92 => ⟨S3x2048, .f32⟩
  | 93 => ⟨S1x1x2048, .f32⟩
  | 94 => ⟨S2048, .f32⟩
  | 95 => ⟨S3x2048, .f32⟩
  | 96 => ⟨S1x3x1x2048, .f32⟩
  | 97 => ⟨S3x2048, .f32⟩
  | 98 => ⟨S1x3x1x2048, .f32⟩
  | 99 => ⟨S3x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x1x2048, .f32⟩
  | 107 => ⟨S3x1x2048, .f32⟩
  | 108 => ⟨S3x8x2048, .f32⟩
  | 109 => ⟨S1x1x2048, .f32⟩
  | 110 => ⟨S2048, .f32⟩
  | 111 => ⟨S3x2048, .f32⟩
  | 112 => ⟨S1x3x1x2048, .f32⟩
  | 113 => ⟨S3x2048, .f32⟩
  | 114 => ⟨S1x1x2048, .f32⟩
  | 115 => ⟨S2048, .f32⟩
  | 116 => ⟨S3x2048, .f32⟩
  | 117 => ⟨S1x3x1x2048, .f32⟩
  | 118 => ⟨S3x2048, .f32⟩
  | 119 => ⟨S1x3x1x2048, .f32⟩
  | 120 => ⟨S3x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x1x2048, .f32⟩
  | _ => ⟨S8704x6144, .bf16⟩

abbrev hbmTy0_1 (i : Nat) : BufTy := match i % 128 with
  | 0 => ⟨S3x1x2048, .f32⟩
  | 1 => ⟨S3x8x2048, .f32⟩
  | 2 => ⟨S1x1x2048, .f32⟩
  | 3 => ⟨S2048, .f32⟩
  | 4 => ⟨S3x2048, .f32⟩
  | 5 => ⟨S1x3x1x2048, .f32⟩
  | 6 => ⟨S3x2048, .f32⟩
  | 7 => ⟨S1x1x2048, .f32⟩
  | 8 => ⟨S2048, .f32⟩
  | 9 => ⟨S3x2048, .f32⟩
  | 10 => ⟨S1x3x1x2048, .f32⟩
  | 11 => ⟨S3x2048, .f32⟩
  | 12 => ⟨S1x3x1x2048, .f32⟩
  | 13 => ⟨S3x2048, .f32⟩
  | 14 => ⟨S3x1x2048, .f32⟩
  | 15 => ⟨S3x1x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x8x2048, .f32⟩
  | 23 => ⟨S1x1x2048, .f32⟩
  | 24 => ⟨S2048, .f32⟩
  | 25 => ⟨S3x2048, .f32⟩
  | 26 => ⟨S1x3x1x2048, .f32⟩
  | 27 => ⟨S3x2048, .f32⟩
  | 28 => ⟨S1x1x2048, .f32⟩
  | 29 => ⟨S2048, .f32⟩
  | 30 => ⟨S3x2048, .f32⟩
  | 31 => ⟨S1x3x1x2048, .f32⟩
  | 32 => ⟨S3x2048, .f32⟩
  | 33 => ⟨S1x3x1x2048, .f32⟩
  | 34 => ⟨S3x2048, .f32⟩
  | 35 => ⟨S3x1x2048, .f32⟩
  | 36 => ⟨S3x1x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x8x2048, .f32⟩
  | 44 => ⟨S1x1x2048, .f32⟩
  | 45 => ⟨S2048, .f32⟩
  | 46 => ⟨S3x2048, .f32⟩
  | 47 => ⟨S1x3x1x2048, .f32⟩
  | 48 => ⟨S3x2048, .f32⟩
  | 49 => ⟨S1x1x2048, .f32⟩
  | 50 => ⟨S2048, .f32⟩
  | 51 => ⟨S3x2048, .f32⟩
  | 52 => ⟨S1x3x1x2048, .f32⟩
  | 53 => ⟨S3x2048, .f32⟩
  | 54 => ⟨S1x3x1x2048, .f32⟩
  | 55 => ⟨S3x2048, .f32⟩
  | 56 => ⟨S3x1x2048, .f32⟩
  | 57 => ⟨S3x1x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x8x2048, .f32⟩
  | 65 => ⟨S1x1x2048, .f32⟩
  | 66 => ⟨S2048, .f32⟩
  | 67 => ⟨S3x2048, .f32⟩
  | 68 => ⟨S1x3x1x2048, .f32⟩
  | 69 => ⟨S3x2048, .f32⟩
  | 70 => ⟨S1x1x2048, .f32⟩
  | 71 => ⟨S2048, .f32⟩
  | 72 => ⟨S3x2048, .f32⟩
  | 73 => ⟨S1x3x1x2048, .f32⟩
  | 74 => ⟨S3x2048, .f32⟩
  | 75 => ⟨S1x3x1x2048, .f32⟩
  | 76 => ⟨S3x2048, .f32⟩
  | 77 => ⟨S3x1x2048, .f32⟩
  | 78 => ⟨S3x1x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x8x2048, .f32⟩
  | 86 => ⟨S1x1x2048, .f32⟩
  | 87 => ⟨S2048, .f32⟩
  | 88 => ⟨S3x2048, .f32⟩
  | 89 => ⟨S1x3x1x2048, .f32⟩
  | 90 => ⟨S3x2048, .f32⟩
  | 91 => ⟨S1x1x2048, .f32⟩
  | 92 => ⟨S2048, .f32⟩
  | 93 => ⟨S3x2048, .f32⟩
  | 94 => ⟨S1x3x1x2048, .f32⟩
  | 95 => ⟨S3x2048, .f32⟩
  | 96 => ⟨S1x3x1x2048, .f32⟩
  | 97 => ⟨S3x2048, .f32⟩
  | 98 => ⟨S3x1x2048, .f32⟩
  | 99 => ⟨S3x1x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x8x2048, .f32⟩
  | 107 => ⟨S1x1x2048, .f32⟩
  | 108 => ⟨S2048, .f32⟩
  | 109 => ⟨S3x2048, .f32⟩
  | 110 => ⟨S1x3x1x2048, .f32⟩
  | 111 => ⟨S3x2048, .f32⟩
  | 112 => ⟨S1x1x2048, .f32⟩
  | 113 => ⟨S2048, .f32⟩
  | 114 => ⟨S3x2048, .f32⟩
  | 115 => ⟨S1x3x1x2048, .f32⟩
  | 116 => ⟨S3x2048, .f32⟩
  | 117 => ⟨S1x3x1x2048, .f32⟩
  | 118 => ⟨S3x2048, .f32⟩
  | 119 => ⟨S3x1x2048, .f32⟩
  | 120 => ⟨S3x1x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x8x2048, .f32⟩
  | _ => ⟨S8704x6144, .bf16⟩

abbrev hbmTy0_2 (i : Nat) : BufTy := match i % 128 with
  | 0 => ⟨S1x1x2048, .f32⟩
  | 1 => ⟨S2048, .f32⟩
  | 2 => ⟨S3x2048, .f32⟩
  | 3 => ⟨S1x3x1x2048, .f32⟩
  | 4 => ⟨S3x2048, .f32⟩
  | 5 => ⟨S3x1x2048, .f32⟩
  | 6 => ⟨S3x1x2048, .f32⟩
  | 7 => ⟨S3x1x2048, .f32⟩
  | 8 => ⟨S3x1x2048, .f32⟩
  | 9 => ⟨S3x1x2048, .f32⟩
  | 10 => ⟨S3x1x2048, .f32⟩
  | 11 => ⟨S3x1x2048, .f32⟩
  | 12 => ⟨S3x1x2048, .f32⟩
  | 13 => ⟨S3x8x2048, .f32⟩
  | 14 => ⟨S1x3x8x2048, .f32⟩
  | 15 => ⟨S1x3x8x2048, .f32⟩
  | 16 => ⟨S1x3x8x2048, .f32⟩
  | 17 => ⟨S1x3x8x2048, .f32⟩
  | 18 => ⟨S1x3x8x2048, .f32⟩
  | 19 => ⟨S1x3x8x2048, .f32⟩
  | 20 => ⟨S1x3x8x2048, .f32⟩
  | 21 => ⟨S1x3x8x2048, .f32⟩
  | 22 => ⟨S1x3x8x2048, .f32⟩
  | 23 => ⟨S1x3x8x2048, .f32⟩
  | 24 => ⟨S1x3x8x2048, .f32⟩
  | 25 => ⟨S1x3x8x2048, .f32⟩
  | 26 => ⟨S1x3x8x2048, .f32⟩
  | 27 => ⟨S13x3x8x2048, .f32⟩
  | 28 => ⟨S8704x2048, .f32⟩
  | 29 => ⟨S8704x2048, .bf16⟩
  | _ => ⟨S8704x6144, .bf16⟩

abbrev hbmTy (i : Nat) : BufTy := match i / 128 with
  | 0 => hbmTy0_0 i
  | 1 => hbmTy0_1 i
  | 2 => hbmTy0_2 i
  | _ => ⟨S8704x6144, .bf16⟩

abbrev bufTy : (tb : Table) → Fin (tcTables nBuf tb) → BufTy
  | .hbm, ⟨i, _⟩ => hbmTy i
  | .local _ .vmem, ⟨0, _⟩ => ⟨S512x6144, .bf16⟩
  | .local _ .vmem, ⟨1, _⟩ => ⟨S512x6144, .bf16⟩
  | .local _ .vmem, ⟨2, _⟩ => ⟨S6144x2048, .bf16⟩
  | .local _ .vmem, ⟨3, _⟩ => ⟨S1x1x8x2048, .f32⟩
  | .local _ .vmem, ⟨4, _⟩ => ⟨S1x1x8x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278_0 : Ref sig .tc := ⟨.hbm, 284, rfl⟩
abbrev main_v278_1 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c5_i32 : BitVec 32 := 5#32
  let c0_i32_4 : BitVec 32 := 0#32
  let c0_i32_5 : BitVec 32 := 0#32
  let c0_i32_6 : BitVec 32 := 0#32
  ![c5_i32.toNat, v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6144x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8704x6144 : Shape := ⟨2, ![8704, 6144]⟩
abbrev S6144x2048 : Shape := ⟨2, ![6144, 2048]⟩
abbrev S8704x2048 : Shape := ⟨2, ![8704, 2048]⟩
abbrev S4x8x18432 : Shape := ⟨3, ![4, 8, 18432]⟩
abbrev S4x6x2048 : Shape := ⟨3, ![4, 6, 2048]⟩
abbrev S1x3x18432 : Shape := ⟨3, ![1, 3, 18432]⟩
abbrev S3x18432 : Shape := ⟨2, ![3, 18432]⟩
abbrev S3x9x2048 : Shape := ⟨3, ![3, 9, 2048]⟩
abbrev S3x1x2048 : Shape := ⟨3, ![3, 1, 2048]⟩
abbrev S3x2048 : Shape := ⟨2, ![3, 2048]⟩
abbrev S1x2048 : Shape := ⟨2, ![1, 2048]⟩
abbrev S2048 : Shape := ⟨1, ![2048]⟩
abbrev S4096x2048 : Shape := ⟨2, ![4096, 2048]⟩
abbrev S512x2048 : Shape := ⟨2, ![512, 2048]⟩
abbrev S1x1x2048 : Shape := ⟨3, ![1, 1, 2048]⟩
abbrev S_ : Shape := ⟨0, ![]⟩
abbrev S8704 : Shape := ⟨1, ![8704]⟩
abbrev S8704x1 : Shape := ⟨2, ![8704, 1]⟩

abbrev nBuf : Space → Nat
  | .hbm => 91
  | .vmem => 0
  | .smem => 0
  | _ => 0

abbrev bufTy : (tb : Table) → Fin (tcTables nBuf tb) → BufTy
  | .hbm, ⟨0, _⟩ => ⟨S8704x6144, .bf16⟩
  | .hbm, ⟨1, _⟩ => ⟨S6144x2048, .bf16⟩
  | .hbm, ⟨2, _⟩ => ⟨S8704x2048, .f32⟩
  | .hbm, ⟨3, _⟩ => ⟨S4x8x18432, .f32⟩
  | .hbm, ⟨4, _⟩ => ⟨S4x6x2048, .f32⟩
  | .hbm, ⟨5, _⟩ => ⟨S1x3x18432, .f32⟩
  | .hbm, ⟨6, _⟩ => ⟨S3x18432, .f32⟩
  | .hbm, ⟨7, _⟩ => ⟨S3x9x2048, .f32⟩
  | .hbm, ⟨8, _⟩ => ⟨S8704x6144, .f32⟩
  | .hbm, ⟨9, _⟩ => ⟨S6144x2048, .f32⟩
  | .hbm, ⟨10, _⟩ => ⟨S8704x2048, .f32⟩
  | .hbm, ⟨11, _⟩ => ⟨S3x1x2048, .f32⟩
  | .hbm, ⟨12, _⟩ => ⟨S3x2048, .f32⟩
  | .hbm, ⟨13, _⟩ => ⟨S1x2048, .f32⟩
  | .hbm, ⟨14, _⟩ => ⟨S2048, .f32⟩
  | .hbm, ⟨15, _⟩ => ⟨S4096x2048, .f32⟩
  | .hbm, ⟨16, _⟩ => ⟨S1x2048, .f32⟩
  | .hbm, ⟨17, _⟩ => ⟨S2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S512x2048, .f32⟩
  | .hbm, ⟨22, _⟩ => ⟨S8704x2048, .f32⟩
  | .hbm, ⟨23, _⟩ => ⟨S1x1x2048, .f32⟩
  | .hbm, ⟨24, _⟩ => ⟨S2048, .f32⟩
  | .hbm, ⟨25, _⟩ => ⟨S8704x2048, .f32⟩
  | .hbm, ⟨26, _⟩ => ⟨S_, .f32⟩
  | .hbm, ⟨27, _⟩ => ⟨S8704, .f32⟩
  | .hbm, ⟨28, _⟩ => ⟨S8704x1, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S1x2048, .f32⟩
  | .hbm, ⟨39, _⟩ => ⟨S8704x2048, .f32⟩
  | .hbm, ⟨40, _⟩ => ⟨S8704x2048, .f32⟩
  | .hbm, ⟨41, _⟩ => ⟨S8704x2048, .f32⟩
  | .hbm, ⟨42, _⟩ => ⟨S8704x2048, .f32⟩
  | .hbm, ⟨43, _⟩ => ⟨S1x1x2048, .f32⟩
  | .hbm, ⟨44, _⟩ => ⟨S2048, .f32⟩
  | .hbm, ⟨45, _⟩ => ⟨S8704x2048, .f32⟩
  | .hbm, ⟨46, _⟩ => ⟨S_, .f32⟩
  | .hbm, ⟨47, _⟩ => ⟨S8704, .f32⟩
  | .hbm, ⟨48, _⟩ => ⟨S8704x1, .f32⟩
  | .hbm, ⟨49, _⟩ => ⟨S_, .f32⟩
  | .hbm, ⟨50, _⟩ => ⟨S8704x1, .f32⟩
  | .hbm, ⟨51, _⟩ => ⟨S8704x1, .f32⟩
  | .hbm, ⟨52, _⟩ => ⟨S_, .f32⟩
  | .hbm, ⟨53, _⟩ => ⟨S8704x1, .f32⟩
  | .hbm, ⟨54, _⟩ => ⟨S8704x1, .f32⟩
  | .hbm, ⟨55, _⟩ => ⟨S8704x1, .f32⟩
  | .hbm, ⟨56, _⟩ => ⟨S8704x2048, .f32⟩
  | .hbm, ⟨57, _⟩ => ⟨S8704x2048, .f32⟩
  | .hbm, ⟨58, _⟩ => ⟨S1x2048, .f32⟩
  | .hbm, ⟨59, _⟩ => ⟨S8704x2048, .f32⟩
  | .hbm, ⟨60, _⟩ => ⟨S8704x2048, .f32⟩
  | .hbm, ⟨61, _⟩ => ⟨S3x1x2048, .f32⟩
  | .hbm, ⟨62, _⟩ => ⟨S3x2048, .f32⟩
  | .hbm, ⟨63, _⟩ => ⟨S1x2048, .f32⟩
  | .hbm, ⟨64, _⟩ => ⟨S2048, .f32⟩
  | .hbm, ⟨65, _⟩ => ⟨S4096x2048, .f32⟩
  | .hbm, ⟨66, _⟩ => ⟨S1x2048, .f32⟩
  | .hbm, ⟨67, _⟩ => ⟨S2048, .f32⟩
  | .hbm, ⟨68, _⟩ => ⟨S4096x2048, .f32⟩
  | .hbm, ⟨69, _⟩ => ⟨S1x2048, .f32⟩
  | .hbm, ⟨70, _⟩ => ⟨S2048, .f32⟩
  | .hbm, ⟨71, _⟩ => ⟨S512x2048, .f32⟩
  | .hbm, ⟨72, _⟩ => ⟨S8704x2048, .f32⟩
  | .hbm, ⟨73, _⟩ => ⟨S_, .f32⟩
  | .hbm, ⟨74, _⟩ => ⟨S8704x2048, .f32⟩
  | .hbm, ⟨75, _⟩ => ⟨S8704x2048, .f32⟩
  | .hbm, ⟨76, _⟩ => ⟨S8704x2048, .f32⟩
  | .hbm, ⟨77, _⟩ => ⟨S3x1x2048, .f32⟩
  | .hbm, ⟨78, _⟩ => ⟨S3x2048, .f32⟩
  | .hbm, ⟨79, _⟩ => ⟨S1x2048, .f32⟩
  | .hbm, ⟨80, _⟩ => ⟨S2048, .f32⟩
  | .hbm, ⟨81, _⟩ => ⟨S4096x2048, .f32⟩
  | .hbm, ⟨82, _⟩ => ⟨S1x2048, .f32⟩
  | .hbm, ⟨83, _⟩ => ⟨S2048, .f32⟩
  | .hbm, ⟨84, _⟩ => ⟨S4096x2048, .f32⟩
  | .hbm, ⟨85, _⟩ => ⟨S1x2048, .f32⟩
  | .hbm, ⟨86, _⟩ => ⟨S2048, .f32⟩
  | .hbm, ⟨87, _⟩ => ⟨S512x2048, .f32⟩
  | .hbm, ⟨88, _⟩ => ⟨S8704x2048, .f32⟩
  | .hbm, ⟨89, _⟩ => ⟨S8704x2048, .f32⟩
  | .hbm, ⟨90, _⟩ => ⟨S8704x2048, .bf16⟩
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_5 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩

abbrev nD : Nat := 1
abbrev τ : Topo := Topo.v7x

variable {F : FTy → Type} [FloatOps F]
-- ==== Kernel9.lean ====
abbrev S8704x12288 : Shape := ⟨2, ![8704, 12288]⟩
abbrev S1x6144 : Shape := ⟨2, ![1, 6144]⟩
abbrev S1x8x128x128 : Shape := ⟨4, ![1, 8, 128, 128]⟩
abbrev S1x8x128 : Shape := ⟨3, ![1, 8, 128]⟩
abbrev S6144 : Shape := ⟨1, ![6144]⟩
abbrev S8x128x128 : Shape := ⟨3, ![8, 128, 128]⟩
abbrev S8x128 : Shape := ⟨2, ![8, 128]⟩
abbrev S128x8 : Shape := ⟨2, ![128, 8]⟩
abbrev S8704x6144 : Shape := ⟨2, ![8704, 6144]⟩
abbrev S256x6144 : Shape := ⟨2, ![256, 6144]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x768 : Shape := ⟨2, ![128, 768]⟩
abbrev S128x1 : Shape := ⟨2, ![128, 1]⟩

abbrev nBuf : Space → Nat
  | .hbm => 13
  | .vmem => 10
  | .smem => 0
  | _ => 0

abbrev bufTy : (tb : Table) → Fin (tcTables nBuf tb) → BufTy
  | .hbm, ⟨0, _⟩ => ⟨S8704x12288, .bf16⟩
  | .hbm, ⟨1, _⟩ => ⟨S1x6144, .f32⟩
  | .hbm, ⟨2, _⟩ => ⟨S1x6144, .f32⟩
  | .hbm, ⟨3, _⟩ => ⟨S1x8x128x128, .f32⟩
  | .hbm, ⟨4, _⟩ => ⟨S1x8x128, .f32⟩
  | .hbm, ⟨5, _⟩ => ⟨S6144, .f32⟩
  | .hbm, ⟨6, _⟩ => ⟨S1x6144, .f32⟩
  | .hbm, ⟨7, _⟩ => ⟨S6144, .f32⟩
  | .hbm, ⟨8, _⟩ => ⟨S1x6144, .f32⟩
  | .hbm, ⟨9, _⟩ => ⟨S8x128x128, .f32⟩
  | .hbm, ⟨10, _⟩ => ⟨S8x128, .f32⟩
  | .hbm, ⟨11, _⟩ => ⟨S128x8, .f32⟩
  | .hbm, ⟨12, _⟩ => ⟨S8704x6144, .bf16⟩
  | .local _ .vmem, ⟨0, _⟩ => ⟨S256x6144, .bf16⟩
  | .local _ .vmem, ⟨1, _⟩ => ⟨S256x6144, .bf16⟩
  | .local _ .vmem, ⟨2, _⟩ => ⟨S256x6144, .bf16⟩
  | .local _ .vmem, ⟨3, _⟩ => ⟨S256x6144, .bf16⟩
  | .local _ .vmem, ⟨4, _⟩ => ⟨S1x6144, .f32⟩
  | .local _ .vmem, ⟨5, _⟩ => ⟨S1x6144, .f32⟩
  | .local _ .vmem, ⟨6, _⟩ => ⟨S8x128x128, .f32⟩
  | .local _ .vmem, ⟨7, _⟩ => ⟨S128x8, .f32⟩
  | .local _ .vmem, ⟨8, _⟩ => ⟨S256x6144, .bf16⟩
  | .local _ .vmem, ⟨9, _⟩ => ⟨S256x6144, .bf16⟩
  | _, _ => ⟨S8704x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S8704x12288 : Shape := ⟨2, ![8704, 12288]⟩
abbrev S1x6144 : Shape := ⟨2, ![1, 6144]⟩
abbrev S1x8x128x128 : Shape := ⟨4, ![1, 8, 128, 128]⟩
abbrev S1x8x128 : Shape := ⟨3, ![1, 8, 128]⟩
abbrev S8704x6144 : Shape := ⟨2, ![8704, 6144]⟩
abbrev S_ : Shape := ⟨0, ![]⟩
abbrev S8704 : Shape := ⟨1, ![8704]⟩
abbrev S8704x1 : Shape := ⟨2, ![8704, 1]⟩
abbrev S6144 : Shape := ⟨1, ![6144]⟩
abbrev S8x128x128 : Shape := ⟨3, ![8, 128, 128]⟩
abbrev S68x128x8x768 : Shape := ⟨4, ![68, 128, 8, 768]⟩
abbrev S8x68x768x128 : Shape := ⟨4, ![8, 68, 768, 128]⟩
abbrev S8x128 : Shape := ⟨2, ![8, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 50
  | .vmem => 0
  | .smem => 0
  | _ => 0

abbrev bufTy : (tb : Table) → Fin (tcTables nBuf tb) → BufTy
  | .hbm, ⟨0, _⟩ => ⟨S8704x12288, .bf16⟩
  | .hbm, ⟨1, _⟩ => ⟨S1x6144, .f32⟩
  | .hbm, ⟨2, _⟩ => ⟨S1x6144, .f32⟩
  | .hbm, ⟨3, _⟩ => ⟨S1x8x128x128, .f32⟩
  | .hbm, ⟨4, _⟩ => ⟨S1x8x128, .f32⟩
  | .hbm, ⟨5, _⟩ => ⟨S8704x12288, .f32⟩
  | .hbm, ⟨6, _⟩ => ⟨S8704x6144, .f32⟩
  | .hbm, ⟨7, _⟩ => ⟨S8704x6144, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x6144, .f32⟩
  | .hbm, ⟨15, _⟩ => ⟨S8704x6144, .f32⟩
  | .hbm, ⟨16, _⟩ => ⟨S8704x6144, .f32⟩
  | .hbm, ⟨17, _⟩ => ⟨S_, .f32⟩
  | .hbm, ⟨18, _⟩ => ⟨S8704, .f32⟩
  | .hbm, ⟨19, _⟩ => ⟨S8704x1, .f32⟩
  | .hbm, ⟨20, _⟩ => ⟨S_, .f32⟩
  | .hbm, ⟨21, _⟩ => ⟨S8704x1, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S8704x1, .f32⟩
  | .hbm, ⟨27, _⟩ => ⟨S8704x6144, .f32⟩
  | .hbm, ⟨28, _⟩ => ⟨S8704x6144, .f32⟩
  | .hbm, ⟨29, _⟩ => ⟨S6144, .f32⟩
  | .hbm, ⟨30, _⟩ => ⟨S1x6144, .f32⟩
  | .hbm, ⟨31, _⟩ => ⟨S8704x6144, .f32⟩
  | .hbm, ⟨32, _⟩ => ⟨S8704x6144, .f32⟩
  | .hbm, ⟨33, _⟩ => ⟨S6144, .f32⟩
  | .hbm, ⟨34, _⟩ => ⟨S1x6144, .f32⟩
  | .hbm, ⟨35, _⟩ => ⟨S8704x6144, .f32⟩
  | .hbm, ⟨36, _⟩ => ⟨S8704x6144, .f32⟩
  | .hbm, ⟨37, _⟩ => ⟨S8x128x128, .f32⟩
  | .hbm, ⟨38, _⟩ => ⟨S68x128x8x768, .f32⟩
  | .hbm, ⟨39, _⟩ => ⟨S8x68x768x128, .f32⟩
  | .hbm, ⟨40, _⟩ => ⟨S68x128x8x768, .f32⟩
  | .hbm, ⟨41, _⟩ => ⟨S8x128, .f32⟩
  | .hbm, ⟨42, _⟩ => ⟨S128x8, .f32⟩
  | .hbm, ⟨43, _⟩ => ⟨S128x8x1, .f32⟩
  | .hbm, ⟨44, _⟩ => ⟨S1x128x8x1, .f32⟩
  | .hbm, ⟨45, _⟩ => ⟨S68x128x8x768, .f32⟩
  | .hbm, ⟨46, _⟩ => ⟨S68x128x8x768, .f32⟩
  | .hbm, ⟨47, _⟩ => ⟨S8704x6144, .f32⟩
  | .hbm, ⟨48, _⟩ => ⟨S8704x6144, .f32⟩
  | .hbm, ⟨49, _⟩ => ⟨S8704x6144, .bf16⟩
  | _, _ => ⟨S8704x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel10.lean ====
abbrev S8704x3072 : Shape := ⟨2, ![8704, 3072]⟩
abbrev S2x16 : Shape := ⟨2, ![2, 16]⟩
abbrev S1x16 : Shape := ⟨2, ![1, 16]⟩
abbrev S16 : Shape := ⟨1, ![16]⟩
abbrev S8704x2048 : Shape := ⟨2, ![8704, 2048]⟩
abbrev S128x2048 : Shape := ⟨2, ![128, 2048]⟩
abbrev S4096x1024 : Shape := ⟨2, ![4096, 1024]⟩
abbrev S256x1024 : Shape := ⟨2, ![256, 1024]⟩
abbrev S1x512 : Shape := ⟨2, ![1, 512]⟩
abbrev S128x512 : Shape := ⟨2, ![128, 512]⟩
abbrev S128x128 : Shape := ⟨2, ![128, 128]⟩
abbrev S512x128 : Shape := ⟨2, ![512, 128]⟩
abbrev S1 : Shape := ⟨1, ![1]⟩
abbrev S256x128 : Shape := ⟨2, ![256, 128]⟩
abbrev S256x512 : Shape := ⟨2, ![256, 512]⟩
abbrev S512 : Shape := ⟨1, ![512]⟩

abbrev nBuf : Space → Nat
  | .hbm => 5
  | .vmem => 8
  | .smem => 1
  | _ => 0

abbrev bufTy : (tb : Table) → Fin (tcTables nBuf tb) → BufTy
  | .hbm, ⟨0, _⟩ => ⟨S8704x3072, .bf16⟩
  | .hbm, ⟨1, _⟩ => ⟨S2x16, .f32⟩
  | .hbm, ⟨2, _⟩ => ⟨S1x16, .f32⟩
  | .hbm, ⟨3, _⟩ => ⟨S16, .f32⟩
  | .hbm, ⟨4, _⟩ => ⟨S8704x2048, .bf16⟩
  | .local _ .vmem, ⟨0, _⟩ => ⟨S128x2048, .bf16⟩
  | .local _ .vmem, ⟨1, _⟩ => ⟨S128x2048, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | .local _ .vmem, ⟨6, _⟩ => ⟨S128x2048, .bf16⟩
  | .local _ .vmem, ⟨7, _⟩ => ⟨S128x2048, .bf16⟩
  | .local _ .smem, ⟨0, _⟩ => ⟨S16, .f32⟩
  | _, _ => ⟨S8704x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 34], ![false, false]⟩

def k0_cond1 (i : grid0.Coords) : BitVec 1 :=
  let arg1 : BitVec 32 := BitVec.ofNat 32 (i 1).val
  let c32_i32 : BitVec 32 := 32#32
  let v5 : BitVec 1 := Scalar.cmpi .slt arg1 c32_i32
  let v6 : BitVec 32 := Scalar.extui v5
  let c0_i32 : BitVec 32 := 0#32
  let v7 : BitVec 1 := Scalar.cmpi .ne v6 c0_i32
  v7

def k0_mult1 (i : grid0.Coords) : BitVec 32 :=
  let c31_i32_7 : BitVec 32 := 31#32
  let c0_i32_6 : BitVec 32 := 0#32
  let arg1 : BitVec 32 := BitVec.ofNat 32 (i 1).val
  let c_m1_i32 : BitVec 32 := 4294967295#32
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  v24
def k0_mult2 (i : grid0.Coords) : BitVec 32 :=
  let c31_i32_10 : BitVec 32 := 31#32
  let c0_i32_9 : BitVec 32 := 0#32
  let arg1 : BitVec 32 := BitVec.ofNat 32 (i 1).val
  let c0_i32_8 : BitVec 32 := 0#32
  let v26 : BitVec 32 := Scalar.addi arg1 c0_i32_8
  let v27 : BitVec 32 := Scalar.maxsi c0_i32_9 v26
  let v28 : BitVec 32 := Scalar.minsi c31_i32_10 v27
  let c128_i32_11 : BitVec 32 := 128#32
  let v29 : BitVec 32 := Scalar.muli v28 c128_i32_11
  v29
def k0_mult3 (i : grid0.Coords) : BitVec 32 :=
  let c31_i32_13 : BitVec 32 := 31#32
  let c0_i32_12 : BitVec 32 := 0#32
  let arg1 : BitVec 32 := BitVec.ofNat 32 (i 1).val
  let c1_i32 : BitVec 32 := 1#32
  let v31 : BitVec 32 := Scalar.addi arg1 c1_i32
  let v32 : BitVec 32 := Scalar.maxsi c0_i32_12 v31
  let v33 : BitVec 32 := Scalar.minsi c31_i32_13 v32
  let c128_i32_14 : BitVec 32 := 128#32
  let v34 : BitVec 32 := Scalar.muli v33 c128_i32_14
  v34
def k0_off1 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v62 : Index := Scalar.indexCast v25
  let c0_25 : Index := 0#32
  ![v62.toNat, 0]
def k0_off1_at (r : Fin 3) : BitVec 32 :=
  if r.val < 1 then
    4294967295#32
  else
    if r.val < 2 then
      1#32
    else
      0#32
def k0_off2 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v75 : Index := Scalar.indexCast v25
  let c512_35 : Index := 512#32
  ![v75.toNat, 512]
def k0_off2_at (r : Fin 3) : BitVec 32 :=
  if r.val < 1 then
    4294967295#32
  else
    if r.val < 2 then
      0#32
    else
      1#32
def k0_off3 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v110 : Index := Scalar.indexCast v25
  let c128_52 : Index := 128#32
  ![v110.toNat, 128]
def k0_off3_at (r : Fin 3) : BitVec 32 :=
  if r.val < 1 then
    4294967295#32
  else
    if r.val < 2 then
      1#32
    else
      0#32
def k0_off4 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v123 : Index := Scalar.indexCast v25
  let c640_63 : Index := 640#32
  ![v123.toNat, 640]
def k0_off4_at (r : Fin 3) : BitVec 32 :=
  if r.val < 1 then
    4294967295#32
  else
    if r.val < 2 then
      0#32
    else
      1#32
def k0_off5 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v235 : Index := Scalar.indexCast v25
  let c256_104 : Index := 256#32
  ![v235.toNat, 256]
def k0_off5_at (r : Fin 3) : BitVec 32 :=
  if r.val < 1 then
    4294967295#32
  else
    if r.val < 2 then
      1#32
    else
      0#32
def k0_off6 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v248 : Index := Scalar.indexCast v25
  let c768_115 : Index := 768#32
  ![v248.toNat, 768]
def k0_off6_at (r : Fin 3) : BitVec 32 :=
  if r.val < 1 then
    4294967295#32
  else
    if r.val < 2 then
      0#32
    else
      1#32
def k0_off7 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v360 : Index := Scalar.indexCast v25
  let c384_156 : Index := 384#32
  ![v360.toNat, 384]
def k0_off7_at (r : Fin 3) : BitVec 32 :=
  if r.val < 1 then
    4294967295#32
  else
    if r.val < 2 then
      1#32
    else
      0#32
def k0_off8 (i : grid0.Coords) (c_m1_i32 : BitVec 32) : Fin 2 → Nat :=
  let c31_i32_7 : BitVec 32 := 31#32
  let c0_i32_6 : BitVec 32 := 0#32
  let arg1 : BitVec 32 := BitVec.ofNat 32 (i 1).val
  let v21 : BitVec 32 := Scalar.addi arg1 c_m1_i32
  let v22 : BitVec 32 := Scalar.maxsi c0_i32_6 v21
  let v23 : BitVec 32 := Scalar.minsi c31_i32_7 v22
  let c128_i32 : BitVec 32 := 128#32
  let v24 : BitVec 32 := Scalar.muli v23 c128_i32
  let v25 : BitVec 32 := v24
  let v373 : Index := Scalar.indexCast v25
  let c896_167 : Index := 896#32
  ![v373.toNat, 896]
def k0_off8_at (r : Fin 3) : BitVec 32 :=
  if r.val < 1 then
    4294967295#32
  else
    if r.val < 2 then
      0#32
    else
      1#32
def k0_cond2 (i : grid0.Coords) : BitVec 1 :=
  let arg1 : BitVec 32 := BitVec.ofNat 32 (i 1).val
  let c32_i32_0 : BitVec 32 := 32#32
  let v8 : BitVec 1 := Scalar.cmpi .sge arg1 c32_i32_0
  let v9 : BitVec 32 := Scalar.extui v8
  let c0_i32_1 : BitVec 32 := 0#32
  let v10 : BitVec 1 := Scalar.cmpi .ne v9 c0_i32_1
  v10

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.muli arg0 c32_i32_0
  let v2 : BitVec 32 := Scalar.addi v1 arg1
  let c2_i32 : BitVec 32 := 2#32
  let v3 : BitVec 32 := Scalar.muli arg0 c2_i32
  let c64_i32 : BitVec 32 := 64#32
  let v4 : BitVec 32 := Scalar.addi c64_i32 v3
  let c32_i32_1 : BitVec 32 := 32#32
  let v5 : BitVec 32 := Scalar.subi arg1 c32_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c32_i32_0 : BitVec 32 := 32#32
  let v1 : BitVec 32 := Scalar.muli arg0 c32_i32_0
  let v2 : BitVec 32 := Scalar.addi v1 arg1
  let c2_i32 : BitVec 32 := 2#32
  let v3 : BitVec 32 := Scalar.muli arg0 c2_i32
  let c64_i32 : BitVec 32 := 64#32
  let v4 : BitVec 32 := Scalar.addi c64_i32 v3
  let c32_i32_1 : BitVec 32 := 32#32
  let v5 : BitVec 32 := Scalar.subi arg1 c32_i32_1
  let v6 : BitVec 32 := Scalar.addi v4 v5
  let v7 : BitVec 32 := Scalar.select v0 v2 v6
  let c0_i32 : BitVec 32 := 0#32
  let c0_i32_2 : BitVec 32 := 0#32
  ![v7.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel10Ideal.lean ====
variable {F : FTy → Type} [FloatOps F] [Named F]
def κ : String → Option EReal := fun
  | "expo" => some (((11863283 / 134217728) * (Real.log 2)⁻¹ : ℝ) : EReal)
  | "mask" => some ⊥
  | _ => none
-- ==== Reference10Ideal.lean ====
abbrev S8704x3072 : Shape := ⟨2, ![8704, 3072]⟩
abbrev S2x16 : Shape := ⟨2, ![2, 16]⟩
abbrev S8192x3072 : Shape := ⟨2, ![8192, 3072]⟩
abbrev S2x4096x3072 : Shape := ⟨3, ![2, 4096, 3072]⟩
abbrev S512x3072 : Shape := ⟨2, ![512, 3072]⟩
abbrev S2x256x3072 : Shape := ⟨3, ![2, 256, 3072]⟩
abbrev S2x4096x2048 : Shape := ⟨3, ![2, 4096, 2048]⟩
abbrev S2x4096x4x4x128 : Shape := ⟨5, ![2, 4096, 4, 4, 128]⟩
abbrev S2x4096x512 : Shape := ⟨3, ![2, 4096, 512]⟩
abbrev S2x4096x4x128 : Shape := ⟨4, ![2, 4096, 4, 128]⟩
abbrev S2x256x2048 : Shape := ⟨3, ![2, 256, 2048]⟩
abbrev S2x256x4x4x128 : Shape := ⟨5, ![2, 256, 4, 4, 128]⟩
abbrev S2x256x512 : Shape := ⟨3, ![2, 256, 512]⟩
abbrev S2x256x4x128 : Shape := ⟨4, ![2, 256, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x16 : Shape := ⟨2, ![1, 16]⟩
abbrev S16 : Shape := ⟨1, ![16]⟩
abbrev S4x4 : Shape := ⟨2, ![4, 4]⟩
abbrev S1x4x4x1 : Shape := ⟨4, ![1, 4, 4, 1]⟩
abbrev S2x4x256x4096x4 : Shape := ⟨5, ![2, 4, 256, 4096, 4]⟩
abbrev S2x4x4x4096x256 : Shape := ⟨5, ![2, 4, 4, 4096, 256]⟩
abbrev S2x4x4096x4096x4 : Shape := ⟨5, ![2, 4, 4096, 4096, 4]⟩
abbrev S2x4x4x4096x4096 : Shape := ⟨5, ![2, 4, 4, 4096, 4096]⟩
abbrev S2x4x4x4096 : Shape := ⟨4, ![2, 4, 4, 4096]⟩
abbrev S2x4x4x4096x128 : Shape := ⟨5, ![2, 4, 4, 4096, 128]⟩
abbrev S2x4x4x4096x1 : Shape := ⟨5, ![2, 4, 4, 4096, 1]⟩
abbrev S8192x2048 : Shape := ⟨2, ![8192, 2048]⟩
abbrev S2x4x256x256x4 : Shape := ⟨5, ![2, 4, 256, 256, 4]⟩
abbrev S2x4x4x256x256 : Shape := ⟨5, ![2, 4, 4, 256, 256]⟩
abbrev S2x4x4x256x128 : Shape := ⟨5, ![2, 4, 4, 256, 128]⟩
abbrev S2x4x4x256 : Shape := ⟨4, ![2, 4, 4, 256]⟩
abbrev S2x4x4x256x1 : Shape := ⟨5, ![2, 4, 4, 256, 1]⟩
abbrev S512x2048 : Shape := ⟨2, ![512, 2048]⟩
abbrev S8704x2048 : Shape := ⟨2, ![8704, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8704x3072, .bf16⟩
  | .hbm, ⟨1, _⟩ => ⟨S2x16, .f32⟩
  | .hbm, ⟨2, _⟩ => ⟨S8704x3072, .f32⟩
  | .hbm, ⟨3, _⟩ => ⟨S8192x3072, .f32⟩
  | .hbm, ⟨4, _⟩ => ⟨S2x4096x3072, .f32⟩
  | .hbm, ⟨5, _⟩ => ⟨S512x3072, .f32⟩
  | .hbm, ⟨6, _⟩ => ⟨S2x256x3072, .f32⟩
  | .hbm, ⟨7, _⟩ => ⟨S2x4096x2048, .f32⟩
  | .hbm, ⟨8, _⟩ => ⟨S2x4096x4x4x128, .f32⟩
  | .hbm, ⟨9, _⟩ => ⟨S2x4096x512, .f32⟩
  | .hbm, ⟨10, _⟩ => ⟨S2x4096x4x128, .f32⟩
  | .hbm, ⟨11, _⟩ => ⟨S2x4096x512, .f32⟩
  | .hbm, ⟨12, _⟩ => ⟨S2x4096x4x128, .f32⟩
  | .hbm, ⟨13, _⟩ => ⟨S2x256x2048, .f32⟩
  | .hbm, ⟨14, _⟩ => ⟨S2x256x4x4x128, .f32⟩
  | .hbm, ⟨15, _⟩ => ⟨S2x256x512, .f32⟩
  | .hbm, ⟨16, _⟩ => ⟨S2x256x4x128, .f32⟩
  | .hbm, ⟨17, _⟩ => ⟨S2x256x512, .f32⟩
  | .hbm, ⟨18, _⟩ => ⟨S2x256x4x128, .f32⟩
  | .hbm, ⟨19, _⟩ => ⟨S4096, .i32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i1⟩
  | .hbm, ⟨29, _⟩ => ⟨S1x16, .f32⟩
  | .hbm, ⟨30, _⟩ => ⟨S16, .f32⟩
  | .hbm, ⟨31, _⟩ => ⟨S16, .f32⟩
  | .hbm, ⟨32, _⟩ => ⟨S4x4, .f32⟩
  | .hbm, ⟨33, _⟩ => ⟨S1x4x4x1, .f32⟩
  | .hbm, ⟨34, _⟩ => ⟨S2x4x256x4096x4, .f32⟩
  | .hbm, ⟨35, _⟩ => ⟨S2x4x4x4096x256, .f32⟩
  | .hbm, ⟨36, _⟩ => ⟨S_, .f32⟩
  | .hbm, ⟨37, _⟩ => ⟨S2x4x4x4096x256, .f32⟩
  | .hbm, ⟨38, _⟩ => ⟨S2x4x4x4096x256, .f32⟩
  | .hbm, ⟨39, _⟩ => ⟨S2x4x4x4096x256, .f32⟩
  | .hbm, ⟨40, _⟩ => ⟨S2x4x4096x4096x4, .f32⟩
  | .hbm, ⟨41, _⟩ => ⟨S2x4x4x4096x4096, .f32⟩
  | .hbm, ⟨42, _⟩ => ⟨S_, .f32⟩
  | .hbm, ⟨43, _⟩ => ⟨S2x4x4x4096x4096, .f32⟩
  | .hbm, ⟨44, _⟩ => ⟨S2x4x4x4096x4096, .f32⟩
  | .hbm, ⟨45, _⟩ => ⟨S2x4x4x4096x4096, .f32⟩
  | .hbm, ⟨46, _⟩ => ⟨S_, .i32⟩
  | .hbm, ⟨47, _⟩ => ⟨S_, .f32⟩
  | .hbm, ⟨48, _⟩ => ⟨S2x4x4x4096x4096, .i1⟩
  | .hbm, ⟨49, _⟩ => ⟨S2x4x4x4096x4096, .f32⟩
  | .hbm, ⟨50, _⟩ => ⟨S2x4x4x4096x4096, .f32⟩
  | .hbm, ⟨51, _⟩ => ⟨S_, .f32⟩
  | .hbm, ⟨52, _⟩ => ⟨S2x4x4x4096, .f32⟩
  | .hbm, ⟨53, _⟩ => ⟨S2x4x4x4096, .f32⟩
  | .hbm, ⟨54, _⟩ => ⟨S2x4x4x4096, .f32⟩
  | .hbm, ⟨55, _⟩ => ⟨S_, .f32⟩
  | .hbm, ⟨56, _⟩ => ⟨S2x4x4x4096, .f32⟩
  | .hbm, ⟨57, _⟩ => ⟨S2x4x4x4096, .f32⟩
  | .hbm, ⟨58, _⟩ => ⟨S2x4x4x4096x128, .f32⟩
  | .hbm, ⟨59, _⟩ => ⟨S2x4x4x4096x128, .f32⟩
  | .hbm, ⟨60, _⟩ => ⟨S2x4x4x4096x128, .f32⟩
  | .hbm, ⟨61, _⟩ => ⟨S2x4x4x4096x1, .f32⟩
  | .hbm, ⟨62, _⟩ => ⟨S2x4x4x4096x128, .f32⟩
  | .hbm, ⟨63, _⟩ => ⟨S2x4x4x4096x128, .f32⟩
  | .hbm, ⟨64, _⟩ => ⟨S2x4096x4x4x128, .f32⟩
  | .hbm, ⟨65, _⟩ => ⟨S8192x2048, .f32⟩
  | .hbm, ⟨66, _⟩ => ⟨S2x4x256x256x4, .f32⟩
  | .hbm, ⟨67, _⟩ => ⟨S2x4x4x256x256, .f32⟩
  | .hbm, ⟨68, _⟩ => ⟨S_, .f32⟩
  | .hbm, ⟨69, _⟩ => ⟨S2x4x4x256x256, .f32⟩
  | .hbm, ⟨70, _⟩ => ⟨S2x4x4x256x256, .f32⟩
  | .hbm, ⟨71, _⟩ => ⟨S2x4x4x256x256, .f32⟩
  | .hbm, ⟨72, _⟩ => ⟨S2x4x4x256x128, .f32⟩
  | .hbm, ⟨73, _⟩ => ⟨S_, .f32⟩
  | .hbm, ⟨74, _⟩ => ⟨S2x4x4x256, .f32⟩
  | .hbm, ⟨75, _⟩ => ⟨S2x4x4x256, .f32⟩
  | .hbm, ⟨76, _⟩ => ⟨S2x4x4x256, .f32⟩
  | .hbm, ⟨77, _⟩ => ⟨S2x4x4x256x1, .f32⟩
  | .hbm, ⟨78, _⟩ => ⟨S2x4x4x256x128, .f32⟩
  | .hbm, ⟨79, _⟩ => ⟨S2x4x4x256x128, .f32⟩
  | .hbm, ⟨80, _⟩ => ⟨S2x256x4x4x128, .f32⟩
  | .hbm, ⟨81, _⟩ => ⟨S512x2048, .f32⟩
  | .hbm, ⟨82, _⟩ => ⟨S8704x2048, .f32⟩
  | .hbm, ⟨83, _⟩ => ⟨S8704x2048, .bf16⟩
  | _, _ => ⟨S8704x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_c : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_0 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_c_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v41 : Ref sig .tc := ⟨.hbm, 50, rfl⟩
abbrev main_cst_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_3 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩

abbrev nD : Nat := 1
abbrev τ : Topo := Topo.v7x

variable {F : FTy → Type} [FloatOps F]
-- ==== Kernel11.lean ====
abbrev S8x2048 : Shape := ⟨2, ![8, 2048]⟩
abbrev S4x2048x18432 : Shape := ⟨3, ![4, 2048, 18432]⟩
abbrev S4x18432 : Shape := ⟨2, ![4, 18432]⟩
abbrev S4x1x18432 : Shape := ⟨3, ![4, 1, 18432]⟩
abbrev S4x8x18432 : Shape := ⟨3, ![4, 8, 18432]⟩
abbrev S8x128 : Shape := ⟨2, ![8, 128]⟩
abbrev S1x128x18432 : Shape := ⟨3, ![1, 128, 18432]⟩
abbrev S1x1x18432 : Shape := ⟨3, ![1, 1, 18432]⟩
abbrev S1x8x18432 : Shape := ⟨3, ![1, 8, 18432]⟩
abbrev S1x18432 : Shape := ⟨2, ![1, 18432]⟩
abbrev S8x18432 : Shape := ⟨2, ![8, 18432]⟩
abbrev S128x18432 : Shape := ⟨2, ![128, 18432]⟩

abbrev nBuf : Space → Nat
  | .hbm => 5
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S4x2048x18432, .f32⟩
  | .hbm, ⟨2, _⟩ => ⟨S4x18432, .f32⟩
  | .hbm, ⟨3, _⟩ => ⟨S4x1x18432, .f32⟩
  | .hbm, ⟨4, _⟩ => ⟨S4x8x18432, .f32⟩
  | .local _ .vmem, ⟨0, _⟩ => ⟨S8x128, .f32⟩
  | .local _ .vmem, ⟨1, _⟩ => ⟨S8x128, .f32⟩
  | .local _ .vmem, ⟨2, _⟩ => ⟨S1x128x18432, .f32⟩
  | .local _ .vmem, ⟨3, _⟩ => ⟨S1x128x18432, .f32⟩
  | .local _ .vmem, ⟨4, _⟩ => ⟨S1x1x18432, .f32⟩
  | .local _ .vmem, ⟨5, _⟩ => ⟨S1x1x18432, .f32⟩
  | .local _ .vmem, ⟨6, _⟩ => ⟨S1x8x18432, .f32⟩
  | .local _ .vmem, ⟨7, _⟩ => ⟨S1x8x18432, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x128x18432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x18432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x18432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference11Ideal.lean ====
abbrev S8x2048 : Shape := ⟨2, ![8, 2048]⟩
abbrev S4x2048x18432 : Shape := ⟨3, ![4, 2048, 18432]⟩
abbrev S4x18432 : Shape := ⟨2, ![4, 18432]⟩
abbrev S_ : Shape := ⟨0, ![]⟩
abbrev S4x18432x8 : Shape := ⟨3, ![4, 18432, 8]⟩
abbrev S4x8x18432 : Shape := ⟨3, ![4, 8, 18432]⟩
abbrev S4x1x18432 : Shape := ⟨3, ![4, 1, 18432]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x18432, .f32⟩
  | .hbm, ⟨2, _⟩ => ⟨S4x18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x18432x8, .f32⟩
  | .hbm, ⟨13, _⟩ => ⟨S4x8x18432, .f32⟩
  | .hbm, ⟨14, _⟩ => ⟨S4x1x18432, .f32⟩
  | .hbm, ⟨15, _⟩ => ⟨S4x8x18432, .f32⟩
  | .hbm, ⟨16, _⟩ => ⟨S4x8x18432, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel12.lean ====
abbrev S2x4096x2048 : Shape := ⟨3, ![2, 4096, 2048]⟩
abbrev S2x256x2048 : Shape := ⟨3, ![2, 256, 2048]⟩
abbrev S4x8x18432 : Shape := ⟨3, ![4, 8, 18432]⟩
abbrev S4x6x2048 : Shape := ⟨3, ![4, 6, 2048]⟩
abbrev S4x2x2048x11008 : Shape := ⟨4, ![4, 2, 2048, 11008]⟩
abbrev S8192x2048 : Shape := ⟨2, ![8192, 2048]⟩
abbrev S512x2048 : Shape := ⟨2, ![512, 2048]⟩
abbrev S4x3x18432 : Shape := ⟨3, ![4, 3, 18432]⟩
abbrev S4x3x9x2048 : Shape := ⟨4, ![4, 3, 9, 2048]⟩
abbrev S_ : Shape := ⟨0, ![]⟩
abbrev S3x2048 : Shape := ⟨2, ![3, 2048]⟩
abbrev S1x1x2048 : Shape := ⟨3, ![1, 1, 2048]⟩
abbrev S2048 : Shape := ⟨1, ![2048]⟩
abbrev S1x3x1x2048 : Shape := ⟨4, ![1, 3, 1, 2048]⟩
abbrev S3x1x2048 : Shape := ⟨3, ![3, 1, 2048]⟩
abbrev S3x8x2048 : Shape := ⟨3, ![3, 8, 2048]⟩
abbrev S1x3x8x2048 : Shape := ⟨4, ![1, 3, 8, 2048]⟩
abbrev S13x3x8x2048 : Shape := ⟨4, ![13, 3, 8, 2048]⟩
abbrev S8704x2048 : Shape := ⟨2, ![8704, 2048]⟩
abbrev S2x2048x5632 : Shape := ⟨3, ![2, 2048, 5632]⟩
abbrev S1x1x8x2048 : Shape := ⟨4, ![1, 1, 8, 2048]⟩
abbrev S1x1x128x11008 : Shape := ⟨4, ![1, 1, 128, 11008]⟩
abbrev S2x128x5632 : Shape := ⟨3, ![2, 128, 5632]⟩
abbrev S1x1x1x2048 : Shape := ⟨4, ![1, 1, 1, 2048]⟩
abbrev S1x2048 : Shape := ⟨2, ![1, 2048]⟩
abbrev S512 : Shape := ⟨1, ![512]⟩
abbrev S512x1 : Shape := ⟨2, ![512, 1]⟩
abbrev S1x1x128x5504 : Shape := ⟨4, ![1, 1, 128, 5504]⟩
abbrev S128x5504 : Shape := ⟨2, ![128, 5504]⟩
abbrev S1x128x5504 : Shape := ⟨3, ![1, 128, 5504]⟩
abbrev S128x128 : Shape := ⟨2, ![128, 128]⟩
abbrev S1x128x128 : Shape := ⟨3, ![1, 128, 128]⟩

abbrev nBuf : Space → Nat
  | .hbm => 288
  | .vmem => 12
  | .smem => 0
  | _ => 0

abbrev hbmTy0_0 (i : Nat) : BufTy := match i % 128 with
  | 0 => ⟨S2x4096x2048, .f32⟩
  | 1 => ⟨S2x256x2048, .f32⟩
  | 2 => ⟨S4x8x18432, .f32⟩
  | 3 => ⟨S4x6x2048, .f32⟩
  | 4 => ⟨S4x2x2048x11008, .f32⟩
  | 5 => ⟨S8192x2048, .f32⟩
  | 6 => ⟨S512x2048, .f32⟩
  | 7 => ⟨S4x3x18432, .f32⟩
  | 8 => ⟨S4x3x9x2048, .f32⟩
  | 9 => ⟨S_, .f32⟩
  | 10 => ⟨S3x2048, .f32⟩
  | 11 => ⟨S1x1x2048, .f32⟩
  | 12 => ⟨S2048, .f32⟩
  | 13 => ⟨S3x2048, .f32⟩
  | 14 => ⟨S1x3x1x2048, .f32⟩
  | 15 => ⟨S3x2048, .f32⟩
  | 16 => ⟨S1x3x1x2048, .f32⟩
  | 17 => ⟨S3x2048, .f32⟩
  | 18 => ⟨S3x1x2048, .f32⟩
  | 19 => ⟨S3x1x2048, .f32⟩
  | 20 => ⟨S3x1x2048, .f32⟩
  | 21 => ⟨S3x1x2048, .f32⟩
  | 22 => ⟨S3x1x2048, .f32⟩
  | 23 => ⟨S3x1x2048, .f32⟩
  | 24 => ⟨S3x1x2048, .f32⟩
  | 25 => ⟨S3x1x2048, .f32⟩
  | 26 => ⟨S3x8x2048, .f32⟩
  | 27 => ⟨S1x1x2048, .f32⟩
  | 28 => ⟨S2048, .f32⟩
  | 29 => ⟨S3x2048, .f32⟩
  | 30 => ⟨S1x3x1x2048, .f32⟩
  | 31 => ⟨S3x2048, .f32⟩
  | 32 => ⟨S1x1x2048, .f32⟩
  | 33 => ⟨S2048, .f32⟩
  | 34 => ⟨S3x2048, .f32⟩
  | 35 => ⟨S1x3x1x2048, .f32⟩
  | 36 => ⟨S3x2048, .f32⟩
  | 37 => ⟨S1x3x1x2048, .f32⟩
  | 38 => ⟨S3x2048, .f32⟩
  | 39 => ⟨S3x1x2048, .f32⟩
  | 40 => ⟨S3x1x2048, .f32⟩
  | 41 => ⟨S3x1x2048, .f32⟩
  | 42 => ⟨S3x1x2048, .f32⟩
  | 43 => ⟨S3x1x2048, .f32⟩
  | 44 => ⟨S3x1x2048, .f32⟩
  | 45 => ⟨S3x1x2048, .f32⟩
  | 46 => ⟨S3x1x2048, .f32⟩
  | 47 => ⟨S3x8x2048, .f32⟩
  | 48 => ⟨S1x1x2048, .f32⟩
  | 49 => ⟨S2048, .f32⟩
  | 50 => ⟨S3x2048, .f32⟩
  | 51 => ⟨S1x3x1x2048, .f32⟩
  | 52 => ⟨S3x2048, .f32⟩
  | 53 => ⟨S1x1x2048, .f32⟩
  | 54 => ⟨S2048, .f32⟩
  | 55 => ⟨S3x2048, .f32⟩
  | 56 => ⟨S1x3x1x2048, .f32⟩
  | 57 => ⟨S3x2048, .f32⟩
  | 58 => ⟨S1x3x1x2048, .f32⟩
  | 59 => ⟨S3x2048, .f32⟩
  | 60 => ⟨S3x1x2048, .f32⟩
  | 61 => ⟨S3x1x2048, .f32⟩
  | 62 => ⟨S3x1x2048, .f32⟩
  | 63 => ⟨S3x1x2048, .f32⟩
  | 64 => ⟨S3x1x2048, .f32⟩
  | 65 => ⟨S3x1x2048, .f32⟩
  | 66 => ⟨S3x1x2048, .f32⟩
  | 67 => ⟨S3x1x2048, .f32⟩
  | 68 => ⟨S3x8x2048, .f32⟩
  | 69 => ⟨S1x1x2048, .f32⟩
  | 70 => ⟨S2048, .f32⟩
  | 71 => ⟨S3x2048, .f32⟩
  | 72 => ⟨S1x3x1x2048, .f32⟩
  | 73 => ⟨S3x2048, .f32⟩
  | 74 => ⟨S1x1x2048, .f32⟩
  | 75 => ⟨S2048, .f32⟩
  | 76 => ⟨S3x2048, .f32⟩
  | 77 => ⟨S1x3x1x2048, .f32⟩
  | 78 => ⟨S3x2048, .f32⟩
  | 79 => ⟨S1x3x1x2048, .f32⟩
  | 80 => ⟨S3x2048, .f32⟩
  | 81 => ⟨S3x1x2048, .f32⟩
  | 82 => ⟨S3x1x2048, .f32⟩
  | 83 => ⟨S3x1x2048, .f32⟩
  | 84 => ⟨S3x1x2048, .f32⟩
  | 85 => ⟨S3x1x2048, .f32⟩
  | 86 => ⟨S3x1x2048, .f32⟩
  | 87 => ⟨S3x1x2048, .f32⟩
  | 88 => ⟨S3x1x2048, .f32⟩
  | 89 => ⟨S3x8x2048, .f32⟩
  | 90 => ⟨S1x1x2048, .f32⟩
  | 91 => ⟨S2048, .f32⟩
  | 92 => ⟨S3x2048, .f32⟩
  | 93 => ⟨S1x3x1x2048, .f32⟩
  | 94 => ⟨S3x2048, .f32⟩
  | 95 => ⟨S1x1x2048, .f32⟩
  | 96 => ⟨S2048, .f32⟩
  | 97 => ⟨S3x2048, .f32⟩
  | 98 => ⟨S1x3x1x2048, .f32⟩
  | 99 => ⟨S3x2048, .f32⟩
  | 100 => ⟨S1x3x1x2048, .f32⟩
  | 101 => ⟨S3x2048, .f32⟩
  | 102 => ⟨S3x1x2048, .f32⟩
  | 103 => ⟨S3x1x2048, .f32⟩
  | 104 => ⟨S3x1x2048, .f32⟩
  | 105 => ⟨S3x1x2048, .f32⟩
  | 106 => ⟨S3x1x2048, .f32⟩
  | 107 => ⟨S3x1x2048, .f32⟩
  | 108 => ⟨S3x1x2048, .f32⟩
  | 109 => ⟨S3x1x2048, .f32⟩
  | 110 => ⟨S3x8x2048, .f32⟩
  | 111 => ⟨S1x1x2048, .f32⟩
  | 112 => ⟨S2048, .f32⟩
  | 113 => ⟨S3x2048, .f32⟩
  | 114 => ⟨S1x3x1x2048, .f32⟩
  | 115 => ⟨S3x2048, .f32⟩
  | 116 => ⟨S1x1x2048, .f32⟩
  | 117 => ⟨S2048, .f32⟩
  | 118 => ⟨S3x2048, .f32⟩
  | 119 => ⟨S1x3x1x2048, .f32⟩
  | 120 => ⟨S3x2048, .f32⟩
  | 121 => ⟨S1x3x1x2048, .f32⟩
  | 122 => ⟨S3x2048, .f32⟩
  | 123 => ⟨S3x1x2048, .f32⟩
  | 124 => ⟨S3x1x2048, .f32⟩
  | 125 => ⟨S3x1x2048, .f32⟩
  | 126 => ⟨S3x1x2048, .f32⟩
  | 127 => ⟨S3x1x2048, .f32⟩
  | _ => ⟨S2x4096x2048, .f32⟩

abbrev hbmTy0_1 (i : Nat) : BufTy := match i % 128 with
  | 0 => ⟨S3x1x2048, .f32⟩
  | 1 => ⟨S3x1x2048, .f32⟩
  | 2 => ⟨S3x1x2048, .f32⟩
  | 3 => ⟨S3x8x2048, .f32⟩
  | 4 => ⟨S1x1x2048, .f32⟩
  | 5 => ⟨S2048, .f32⟩
  | 6 => ⟨S3x2048, .f32⟩
  | 7 => ⟨S1x3x1x2048, .f32⟩
  | 8 => ⟨S3x2048, .f32⟩
  | 9 => ⟨S1x1x2048, .f32⟩
  | 10 => ⟨S2048, .f32⟩
  | 11 => ⟨S3x2048, .f32⟩
  | 12 => ⟨S1x3x1x2048, .f32⟩
  | 13 => ⟨S3x2048, .f32⟩
  | 14 => ⟨S1x3x1x2048, .f32⟩
  | 15 => ⟨S3x2048, .f32⟩
  | 16 => ⟨S3x1x2048, .f32⟩
  | 17 => ⟨S3x1x2048, .f32⟩
  | 18 => ⟨S3x1x2048, .f32⟩
  | 19 => ⟨S3x1x2048, .f32⟩
  | 20 => ⟨S3x1x2048, .f32⟩
  | 21 => ⟨S3x1x2048, .f32⟩
  | 22 => ⟨S3x1x2048, .f32⟩
  | 23 => ⟨S3x1x2048, .f32⟩
  | 24 => ⟨S3x8x2048, .f32⟩
  | 25 => ⟨S1x1x2048, .f32⟩
  | 26 => ⟨S2048, .f32⟩
  | 27 => ⟨S3x2048, .f32⟩
  | 28 => ⟨S1x3x1x2048, .f32⟩
  | 29 => ⟨S3x2048, .f32⟩
  | 30 => ⟨S1x1x2048, .f32⟩
  | 31 => ⟨S2048, .f32⟩
  | 32 => ⟨S3x2048, .f32⟩
  | 33 => ⟨S1x3x1x2048, .f32⟩
  | 34 => ⟨S3x2048, .f32⟩
  | 35 => ⟨S1x3x1x2048, .f32⟩
  | 36 => ⟨S3x2048, .f32⟩
  | 37 => ⟨S3x1x2048, .f32⟩
  | 38 => ⟨S3x1x2048, .f32⟩
  | 39 => ⟨S3x1x2048, .f32⟩
  | 40 => ⟨S3x1x2048, .f32⟩
  | 41 => ⟨S3x1x2048, .f32⟩
  | 42 => ⟨S3x1x2048, .f32⟩
  | 43 => ⟨S3x1x2048, .f32⟩
  | 44 => ⟨S3x1x2048, .f32⟩
  | 45 => ⟨S3x8x2048, .f32⟩
  | 46 => ⟨S1x1x2048, .f32⟩
  | 47 => ⟨S2048, .f32⟩
  | 48 => ⟨S3x2048, .f32⟩
  | 49 => ⟨S1x3x1x2048, .f32⟩
  | 50 => ⟨S3x2048, .f32⟩
  | 51 => ⟨S1x1x2048, .f32⟩
  | 52 => ⟨S2048, .f32⟩
  | 53 => ⟨S3x2048, .f32⟩
  | 54 => ⟨S1x3x1x2048, .f32⟩
  | 55 => ⟨S3x2048, .f32⟩
  | 56 => ⟨S1x3x1x2048, .f32⟩
  | 57 => ⟨S3x2048, .f32⟩
  | 58 => ⟨S3x1x2048, .f32⟩
  | 59 => ⟨S3x1x2048, .f32⟩
  | 60 => ⟨S3x1x2048, .f32⟩
  | 61 => ⟨S3x1x2048, .f32⟩
  | 62 => ⟨S3x1x2048, .f32⟩
  | 63 => ⟨S3x1x2048, .f32⟩
  | 64 => ⟨S3x1x2048, .f32⟩
  | 65 => ⟨S3x1x2048, .f32⟩
  | 66 => ⟨S3x8x2048, .f32⟩
  | 67 => ⟨S1x1x2048, .f32⟩
  | 68 => ⟨S2048, .f32⟩
  | 69 => ⟨S3x2048, .f32⟩
  | 70 => ⟨S1x3x1x2048, .f32⟩
  | 71 => ⟨S3x2048, .f32⟩
  | 72 => ⟨S1x1x2048, .f32⟩
  | 73 => ⟨S2048, .f32⟩
  | 74 => ⟨S3x2048, .f32⟩
  | 75 => ⟨S1x3x1x2048, .f32⟩
  | 76 => ⟨S3x2048, .f32⟩
  | 77 => ⟨S1x3x1x2048, .f32⟩
  | 78 => ⟨S3x2048, .f32⟩
  | 79 => ⟨S3x1x2048, .f32⟩
  | 80 => ⟨S3x1x2048, .f32⟩
  | 81 => ⟨S3x1x2048, .f32⟩
  | 82 => ⟨S3x1x2048, .f32⟩
  | 83 => ⟨S3x1x2048, .f32⟩
  | 84 => ⟨S3x1x2048, .f32⟩
  | 85 => ⟨S3x1x2048, .f32⟩
  | 86 => ⟨S3x1x2048, .f32⟩
  | 87 => ⟨S3x8x2048, .f32⟩
  | 88 => ⟨S1x1x2048, .f32⟩
  | 89 => ⟨S2048, .f32⟩
  | 90 => ⟨S3x2048, .f32⟩
  | 91 => ⟨S1x3x1x2048, .f32⟩
  | 92 => ⟨S3x2048, .f32⟩
  | 93 => ⟨S1x1x2048, .f32⟩
  | 94 => ⟨S2048, .f32⟩
  | 95 => ⟨S3x2048, .f32⟩
  | 96 => ⟨S1x3x1x2048, .f32⟩
  | 97 => ⟨S3x2048, .f32⟩
  | 98 => ⟨S1x3x1x2048, .f32⟩
  | 99 => ⟨S3x2048, .f32⟩
  | 100 => ⟨S3x1x2048, .f32⟩
  | 101 => ⟨S3x1x2048, .f32⟩
  | 102 => ⟨S3x1x2048, .f32⟩
  | 103 => ⟨S3x1x2048, .f32⟩
  | 104 => ⟨S3x1x2048, .f32⟩
  | 105 => ⟨S3x1x2048, .f32⟩
  | 106 => ⟨S3x1x2048, .f32⟩
  | 107 => ⟨S3x1x2048, .f32⟩
  | 108 => ⟨S3x8x2048, .f32⟩
  | 109 => ⟨S1x1x2048, .f32⟩
  | 110 => ⟨S2048, .f32⟩
  | 111 => ⟨S3x2048, .f32⟩
  | 112 => ⟨S1x3x1x2048, .f32⟩
  | 113 => ⟨S3x2048, .f32⟩
  | 114 => ⟨S1x1x2048, .f32⟩
  | 115 => ⟨S2048, .f32⟩
  | 116 => ⟨S3x2048, .f32⟩
  | 117 => ⟨S1x3x1x2048, .f32⟩
  | 118 => ⟨S3x2048, .f32⟩
  | 119 => ⟨S1x3x1x2048, .f32⟩
  | 120 => ⟨S3x2048, .f32⟩
  | 121 => ⟨S3x1x2048, .f32⟩
  | 122 => ⟨S3x1x2048, .f32⟩
  | 123 => ⟨S3x1x2048, .f32⟩
  | 124 => ⟨S3x1x2048, .f32⟩
  | 125 => ⟨S3x1x2048, .f32⟩
  | 126 => ⟨S3x1x2048, .f32⟩
  | 127 => ⟨S3x1x2048, .f32⟩
  | _ => ⟨S2x4096x2048, .f32⟩

abbrev hbmTy0_2 (i : Nat) : BufTy := match i % 128 with
  | 0 => ⟨S3x1x2048, .f32⟩
  | 1 => ⟨S3x8x2048, .f32⟩
  | 2 => ⟨S1x1x2048, .f32⟩
  | 3 => ⟨S2048, .f32⟩
  | 4 => ⟨S3x2048, .f32⟩
  | 5 => ⟨S1x3x1x2048, .f32⟩
  | 6 => ⟨S3x2048, .f32⟩
  | 7 => ⟨S3x1x2048, .f32⟩
  | 8 => ⟨S3x1x2048, .f32⟩
  | 9 => ⟨S3x1x2048, .f32⟩
  | 10 => ⟨S3x1x2048, .f32⟩
  | 11 => ⟨S3x1x2048, .f32⟩
  | 12 => ⟨S3x1x2048, .f32⟩
  | 13 => ⟨S3x1x2048, .f32⟩
  | 14 => ⟨S3x1x2048, .f32⟩
  | 15 => ⟨S3x8x2048, .f32⟩
  | 16 => ⟨S1x3x8x2048, .f32⟩
  | 17 => ⟨S1x3x8x2048, .f32⟩
  | 18 => ⟨S1x3x8x2048, .f32⟩
  | 19 => ⟨S1x3x8x2048, .f32⟩
  | 20 => ⟨S1x3x8x2048, .f32⟩
  | 21 => ⟨S1x3x8x2048, .f32⟩
  | 22 => ⟨S1x3x8x2048, .f32⟩
  | 23 => ⟨S1x3x8x2048, .f32⟩
  | 24 => ⟨S1x3x8x2048, .f32⟩
  | 25 => ⟨S1x3x8x2048, .f32⟩
  | 26 => ⟨S1x3x8x2048, .f32⟩
  | 27 => ⟨S1x3x8x2048, .f32⟩
  | 28 => ⟨S1x3x8x2048, .f32⟩
  | 29 => ⟨S13x3x8x2048, .f32⟩
  | 30 => ⟨S8704x2048, .bf16⟩
  | 31 => ⟨S2x2048x5632, .bf16⟩
  | _ => ⟨S2x4096x2048, .f32⟩

abbrev hbmTy (i : Nat) : BufTy := match i / 128 with
  | 0 => hbmTy0_0 i
  | 1 => hbmTy0_1 i
  | 2 => hbmTy0_2 i
  | _ => ⟨S2x4096x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x8x2048, .f32⟩
  | .local _ .vmem, ⟨5, _⟩ => ⟨S1x1x8x2048, .f32⟩
  | .local _ .vmem, ⟨6, _⟩ => ⟨S1x1x128x11008, .f32⟩
  | .local _ .vmem, ⟨7, _⟩ => ⟨S1x1x128x11008, .f32⟩
  | .local _ .vmem, ⟨8, _⟩ => ⟨S512x2048, .bf16⟩
  | .local _ .vmem, ⟨9, _⟩ => ⟨S512x2048, .bf16⟩
  | .local _ .vmem, ⟨10, _⟩ => ⟨S2x128x5632, .bf16⟩
  | .local _ .vmem, ⟨11, _⟩ => ⟨S2x128x5632, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_v226 : Ref sig .tc := ⟨.hbm, 232, rfl⟩
abbrev main_v227 : Ref sig .tc := ⟨.hbm, 233, rfl⟩
abbrev main_v228 : Ref sig .tc := ⟨.hbm, 234, rfl⟩
abbrev main_v229 : Ref sig .tc := ⟨.hbm, 235, rfl⟩
abbrev main_v230 : Ref sig .tc := ⟨.hbm, 236, rfl⟩
abbrev main_v231 : Ref sig .tc := ⟨.hbm, 237, rfl⟩
abbrev main_v232 : Ref sig .tc := ⟨.hbm, 238, rfl⟩
abbrev main_v233 : Ref sig .tc := ⟨.hbm, 239, rfl⟩
abbrev main_v234 : Ref sig .tc := ⟨.hbm, 240, rfl⟩
abbrev main_v235 : Ref sig .tc := ⟨.hbm, 241, rfl⟩
abbrev main_v236 : Ref sig .tc := ⟨.hbm, 242, rfl⟩
abbrev main_v237 : Ref sig .tc := ⟨.hbm, 243, rfl⟩
abbrev main_v238 : Ref sig .tc := ⟨.hbm, 244, rfl⟩
abbrev main_v239 : Ref sig .tc := ⟨.hbm, 245, rfl⟩
abbrev main_v240 : Ref sig .tc := ⟨.hbm, 246, rfl⟩
abbrev main_v241 : Ref sig .tc := ⟨.hbm, 247, rfl⟩
abbrev main_v242 : Ref sig .tc := ⟨.hbm, 248, rfl⟩
abbrev main_v243 : Ref sig .tc := ⟨.hbm, 249, rfl⟩
abbrev main_v244 : Ref sig .tc := ⟨.hbm, 250, rfl⟩
abbrev main_v245 : Ref sig .tc := ⟨.hbm, 251, rfl⟩
abbrev main_v246 : Ref sig .tc := ⟨.hbm, 252, rfl⟩
abbrev main_v247 : Ref sig .tc := ⟨.hbm, 253, rfl⟩
abbrev main_v248 : Ref sig .tc := ⟨.hbm, 254, rfl⟩
abbrev main_v249 : Ref sig .tc := ⟨.hbm, 255, rfl⟩
abbrev main_v250 : Ref sig .tc := ⟨.hbm, 256, rfl⟩
abbrev main_v251 : Ref sig .tc := ⟨.hbm, 257, rfl⟩
abbrev main_v252 : Ref sig .tc := ⟨.hbm, 258, rfl⟩
abbrev main_v253 : Ref sig .tc := ⟨.hbm, 259, rfl⟩
abbrev main_v254 : Ref sig .tc := ⟨.hbm, 260, rfl⟩
abbrev main_v255 : Ref sig .tc := ⟨.hbm, 261, rfl⟩
abbrev main_v256 : Ref sig .tc := ⟨.hbm, 262, rfl⟩
abbrev main_v257 : Ref sig .tc := ⟨.hbm, 263, rfl⟩
abbrev main_v258 : Ref sig .tc := ⟨.hbm, 264, rfl⟩
abbrev main_v259 : Ref sig .tc := ⟨.hbm, 265, rfl⟩
abbrev main_v260 : Ref sig .tc := ⟨.hbm, 266, rfl⟩
abbrev main_v261 : Ref sig .tc := ⟨.hbm, 267, rfl⟩
abbrev main_v262 : Ref sig .tc := ⟨.hbm, 268, rfl⟩
abbrev main_v263 : Ref sig .tc := ⟨.hbm, 269, rfl⟩
abbrev main_v264 : Ref sig .tc := ⟨.hbm, 270, rfl⟩
abbrev main_v265 : Ref sig .tc := ⟨.hbm, 271, rfl⟩
abbrev main_v266 : Ref sig .tc := ⟨.hbm, 272, rfl⟩
abbrev main_v267 : Ref sig .tc := ⟨.hbm, 273, rfl⟩
abbrev main_v268 : Ref sig .tc := ⟨.hbm, 274, rfl⟩
abbrev main_v269 : Ref sig .tc := ⟨.hbm, 275, rfl⟩
abbrev main_v270 : Ref sig .tc := ⟨.hbm, 276, rfl⟩
abbrev main_v271 : Ref sig .tc := ⟨.hbm, 277, rfl⟩
abbrev main_v272 : Ref sig .tc := ⟨.hbm, 278, rfl⟩
abbrev main_v273 : Ref sig .tc := ⟨.hbm, 279, rfl⟩
abbrev main_v274 : Ref sig .tc := ⟨.hbm, 280, rfl⟩
abbrev main_v275 : Ref sig .tc := ⟨.hbm, 281, rfl⟩
abbrev main_v276 : Ref sig .tc := ⟨.hbm, 282, rfl⟩
abbrev main_v277 : Ref sig .tc := ⟨.hbm, 283, rfl⟩
abbrev main_v278 : Ref sig .tc := ⟨.hbm, 284, rfl⟩
abbrev main_v279 : Ref sig .tc := ⟨.hbm, 285, rfl⟩
abbrev main_v280_0 : Ref sig .tc := ⟨.hbm, 286, rfl⟩
abbrev main_v280_1 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_3 (i : grid0.Coords) : Fin 4 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi c0_i32 v0
  let c15_i32 : BitVec 32 := 15#32
  let v2 : BitVec 32 := Scalar.minsi v1 c15_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v2.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi c0_i32 v0
  let c15_i32 : BitVec 32 := 15#32
  let v2 : BitVec 32 := Scalar.minsi v1 c15_i32
  let c0_i32_0 : BitVec 32 := 0#32
  let c0_i32_1 : BitVec 32 := 0#32
  let c0_i32_2 : BitVec 32 := 0#32
  ![c0_i32_0.toNat, v2.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S2x4096x2048 : Shape := ⟨3, ![2, 4096, 2048]⟩
abbrev S2x256x2048 : Shape := ⟨3, ![2, 256, 2048]⟩
abbrev S4x8x18432 : Shape := ⟨3, ![4, 8, 18432]⟩
abbrev S4x6x2048 : Shape := ⟨3, ![4, 6, 2048]⟩
abbrev S4x2x2048x11008 : Shape := ⟨4, ![4, 2, 2048, 11008]⟩
abbrev S1x3x18432 : Shape := ⟨3, ![1, 3, 18432]⟩
abbrev S3x18432 : Shape := ⟨2, ![3, 18432]⟩
abbrev S3x9x2048 : Shape := ⟨3, ![3, 9, 2048]⟩
abbrev S8192x2048 : Shape := ⟨2, ![8192, 2048]⟩
abbrev S512x2048 : Shape := ⟨2, ![512, 2048]⟩
abbrev S8704x2048 : Shape := ⟨2, ![8704, 2048]⟩
abbrev S_ : Shape := ⟨0, ![]⟩
abbrev S8704 : Shape := ⟨1, ![8704]⟩
abbrev S8704x1 : Shape := ⟨2, ![8704, 1]⟩
abbrev S1x1x2048 : Shape := ⟨3, ![1, 1, 2048]⟩
abbrev S2048 : Shape := ⟨1, ![2048]⟩
abbrev S1x2048 : Shape := ⟨2, ![1, 2048]⟩
abbrev S3x1x2048 : Shape := ⟨3, ![3, 1, 2048]⟩
abbrev S3x2048 : Shape := ⟨2, ![3, 2048]⟩
abbrev S4096x2048 : Shape := ⟨2, ![4096, 2048]⟩
abbrev S1x1x2048x11008 : Shape := ⟨4, ![1, 1, 2048, 11008]⟩
abbrev S2048x11008 : Shape := ⟨2, ![2048, 11008]⟩
abbrev S2048x5504 : Shape := ⟨2, ![2048, 5504]⟩
abbrev S2x2048x128 : Shape := ⟨3, ![2, 2048, 128]⟩
abbrev S1x2048x5504 : Shape := ⟨3, ![1, 2048, 5504]⟩
abbrev S2x2048x5504 : Shape := ⟨3, ![2, 2048, 5504]⟩
abbrev S2x2048x5632 : Shape := ⟨3, ![2, 2048, 5632]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S4x8x18432, .f32⟩
  | .hbm, ⟨3, _⟩ => ⟨S4x6x2048, .f32⟩
  | .hbm, ⟨4, _⟩ => ⟨S4x2x2048x11008, .f32⟩
  | .hbm, ⟨5, _⟩ => ⟨S1x3x18432, .f32⟩
  | .hbm, ⟨6, _⟩ => ⟨S3x18432, .f32⟩
  | .hbm, ⟨7, _⟩ => ⟨S3x9x2048, .f32⟩
  | .hbm, ⟨8, _⟩ => ⟨S8192x2048, .f32⟩
  | .hbm, ⟨9, _⟩ => ⟨S512x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S8704x1, .f32⟩
  | .hbm, ⟨22, _⟩ => ⟨S8704x2048, .f32⟩
  | .hbm, ⟨23, _⟩ => ⟨S8704x2048, .f32⟩
  | .hbm, ⟨24, _⟩ => ⟨S1x1x2048, .f32⟩
  | .hbm, ⟨25, _⟩ => ⟨S2048, .f32⟩
  | .hbm, ⟨26, _⟩ => ⟨S1x2048, .f32⟩
  | .hbm, ⟨27, _⟩ => ⟨S8704x2048, .f32⟩
  | .hbm, ⟨28, _⟩ => ⟨S8704x2048, .f32⟩
  | .hbm, ⟨29, _⟩ => ⟨S3x1x2048, .f32⟩
  | .hbm, ⟨30, _⟩ => ⟨S3x2048, .f32⟩
  | .hbm, ⟨31, _⟩ => ⟨S1x2048, .f32⟩
  | .hbm, ⟨32, _⟩ => ⟨S2048, .f32⟩
  | .hbm, ⟨33, _⟩ => ⟨S4096x2048, .f32⟩
  | .hbm, ⟨34, _⟩ => ⟨S1x2048, .f32⟩
  | .hbm, ⟨35, _⟩ => ⟨S2048, .f32⟩
  | .hbm, ⟨36, _⟩ => ⟨S4096x2048, .f32⟩
  | .hbm, ⟨37, _⟩ => ⟨S1x2048, .f32⟩
  | .hbm, ⟨38, _⟩ => ⟨S2048, .f32⟩
  | .hbm, ⟨39, _⟩ => ⟨S512x2048, .f32⟩
  | .hbm, ⟨40, _⟩ => ⟨S8704x2048, .f32⟩
  | .hbm, ⟨41, _⟩ => ⟨S_, .f32⟩
  | .hbm, ⟨42, _⟩ => ⟨S8704x2048, .f32⟩
  | .hbm, ⟨43, _⟩ => ⟨S8704x2048, .f32⟩
  | .hbm, ⟨44, _⟩ => ⟨S8704x2048, .f32⟩
  | .hbm, ⟨45, _⟩ => ⟨S3x1x2048, .f32⟩
  | .hbm, ⟨46, _⟩ => ⟨S3x2048, .f32⟩
  | .hbm, ⟨47, _⟩ => ⟨S1x2048, .f32⟩
  | .hbm, ⟨48, _⟩ => ⟨S2048, .f32⟩
  | .hbm, ⟨49, _⟩ => ⟨S4096x2048, .f32⟩
  | .hbm, ⟨50, _⟩ => ⟨S1x2048, .f32⟩
  | .hbm, ⟨51, _⟩ => ⟨S2048, .f32⟩
  | .hbm, ⟨52, _⟩ => ⟨S4096x2048, .f32⟩
  | .hbm, ⟨53, _⟩ => ⟨S1x2048, .f32⟩
  | .hbm, ⟨54, _⟩ => ⟨S2048, .f32⟩
  | .hbm, ⟨55, _⟩ => ⟨S512x2048, .f32⟩
  | .hbm, ⟨56, _⟩ => ⟨S8704x2048, .f32⟩
  | .hbm, ⟨57, _⟩ => ⟨S8704x2048, .f32⟩
  | .hbm, ⟨58, _⟩ => ⟨S1x1x2048x11008, .f32⟩
  | .hbm, ⟨59, _⟩ => ⟨S2048x11008, .f32⟩
  | .hbm, ⟨60, _⟩ => ⟨S2048x5504, .f32⟩
  | .hbm, ⟨61, _⟩ => ⟨S1x1x2048x11008, .f32⟩
  | .hbm, ⟨62, _⟩ => ⟨S2048x11008, .f32⟩
  | .hbm, ⟨63, _⟩ => ⟨S2048x5504, .f32⟩
  | .hbm, ⟨64, _⟩ => ⟨S_, .f32⟩
  | .hbm, ⟨65, _⟩ => ⟨S2x2048x128, .f32⟩
  | .hbm, ⟨66, _⟩ => ⟨S1x2048x5504, .f32⟩
  | .hbm, ⟨67, _⟩ => ⟨S1x2048x5504, .f32⟩
  | .hbm, ⟨68, _⟩ => ⟨S2x2048x5504, .f32⟩
  | .hbm, ⟨69, _⟩ => ⟨S2x2048x5632, .f32⟩
  | .hbm, ⟨70, _⟩ => ⟨S2x2048x5632, .bf16⟩
  | .hbm, ⟨71, _⟩ => ⟨S8704x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_3 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩

abbrev nD : Nat := 1
abbrev τ : Topo := Topo.v7x

variable {F : FTy → Type} [FloatOps F]
-- ==== Proof.Attn.Online.lean ====
/-
The mathematics of a softmax taken piece by piece, over the extended reals.

A weighted mean `(∑ⱼ vⱼ·exp(sⱼ·σ)) / (∑ⱼ exp(sⱼ·σ))` is computed by an online softmax as a running maximum `m`, a running
denominator `l` and a running numerator `a`, both relative to `m`.  `Run` says what those three hold after some of the
keys; `Run.first` and `Run.step` say one more piece of keys keeps it; `Run.quot` reads the mean off at the end.
`soft_eq` is the same mean as an ordinary softmax computes it.
-/
module

public import Idealize.ShloMosaic.PureOps.Ideal.Laws

@[expose] public section

noncomputable section

namespace Attn

open Idealize.ShloMosaic

/-- The scale of the scores: the float32 word nearest `1/√128`, as a rational. -/
def σ : ℝ := 11863283 / 134217728

/-- The scale of the scores in base two, `σ/log 2`. -/
def κ₂ : ℝ := (11863283 / 134217728) * (Real.log 2)⁻¹

/-- A power of two at the base-two scale is an exponential at the scale. -/
theorem two_rpow (x : ℝ) : Real.rpow 2 (x * κ₂) = Real.exp (x * σ) := by
  have h2 : Real.log 2 ≠ 0 := (Real.log_pos one_lt_two).ne'
  show (2 : ℝ) ^ (x * κ₂) = _
  rw [Real.rpow_def_of_pos two_pos, κ₂, σ]
  congr 1
  field_simp

/-- The exponential of a difference of reals, taken in base two. -/
theorem exp2_sub (s μ : ℝ) :
    Ideal.exp2 (((s : EReal) - (μ : EReal)) * ((κ₂ : ℝ) : EReal)) = ((Real.exp (-μ * σ) * Real.exp (s * σ) : ℝ) : EReal) := by
  rw [← EReal.coe_sub, ← EReal.coe_mul, Ideal.exp2_coe, two_rpow, ← Real.exp_add]
  congr 2; ring

/-- A finite sum of reals is real. -/
theorem coe_sum {ι : Type} (t : Finset ι) (f : ι → ℝ) : ∑ k ∈ t, (f k : EReal) = ((∑ k ∈ t, f k : ℝ) : EReal) := by
  classical
  induction t using Finset.induction_on with
  | empty => simp
  | insert a t h ih => rw [Finset.sum_insert h, Finset.sum_insert h, ih, EReal.coe_add]

/-- The maximum of `⊥` and finitely many reals, at least one, is real. -/
theorem fold_max_real {ι : Type} [Fintype ι] [Nonempty ι] (f : ι → ℝ) :
    ∃ μ : ℝ, Finset.univ.fold max (⊥ : EReal) (fun k => (f k : EReal)) = (μ : EReal) := by
  classical
  have key : ∀ t : Finset ι, t.Nonempty → ∃ μ : ℝ, t.fold max (⊥ : EReal) (fun k => (f k : EReal)) = (μ : EReal) := by
    intro t ht
    induction ht using Finset.Nonempty.cons_induction with
    | singleton a => exact ⟨f a, by simp⟩
    | cons a s h hs ih =>
      obtain ⟨μ, hμ⟩ := ih
      exact ⟨max (f a) μ, by rw [Finset.fold_cons, hμ]; exact (EReal.coe_strictMono.monotone.map_max).symm⟩
  exact key _ Finset.univ_nonempty

/-- A quotient of reals with positive divisor is the real quotient. -/
theorem div_real (x y : ℝ) (hy : 0 < y) : Ideal.div (x : EReal) (y : EReal) = ((x / y : ℝ) : EReal) := by
  rw [Ideal.div, if_neg (by exact_mod_cast hy.ne'), ← EReal.coe_inv, ← EReal.coe_mul, div_eq_mul_inv]

/-- What a running maximum, denominator and numerator hold: the maximum is some real `μ`, and the other two are the
    plain denominator `L` and numerator `A` scaled by `exp(-μ·σ)`. -/
def Run (m l a : EReal) (L A : ℝ) : Prop :=
  ∃ μ : ℝ, m = (μ : EReal) ∧ l = ((Real.exp (-μ * σ) * L : ℝ) : EReal) ∧ a = ((Real.exp (-μ * σ) * A : ℝ) : EReal)

variable {ι : Type} [Fintype ι]

/-- The plain denominator of the keys `ι` with scores `s`. -/
def den (s : ι → ℝ) : ℝ := ∑ k, Real.exp (s k * σ)

/-- The plain numerator of the keys `ι` with scores `s` and values `v`. -/
def num (s v : ι → ℝ) : ℝ := ∑ k, v k * Real.exp (s k * σ)

theorem den_pos [Nonempty ι] (s : ι → ℝ) : 0 < den s :=
  Finset.sum_pos (fun _ _ => Real.exp_pos _) Finset.univ_nonempty

theorem part_den (s : ι → ℝ) (μ : ℝ) :
    ∑ k, Ideal.exp2 (((s k : ℝ) - (μ : EReal)) * ((κ₂ : ℝ) : EReal)) = ((Real.exp (-μ * σ) * den s : ℝ) : EReal) := by
  simp only [exp2_sub]
  rw [coe_sum, den, Finset.mul_sum]

theorem part_num (s v : ι → ℝ) (μ : ℝ) :
    ∑ k, (v k : EReal) * Ideal.exp2 (((s k : ℝ) - (μ : EReal)) * ((κ₂ : ℝ) : EReal))
      = ((Real.exp (-μ * σ) * num s v : ℝ) : EReal) := by
  simp only [exp2_sub, ← EReal.coe_mul]
  rw [coe_sum, num, Finset.mul_sum]
  congr 1
  exact Finset.sum_congr rfl fun k _ => by ring

/-- The first piece of keys. -/
theorem Run.first [Nonempty ι] (s v : ι → ℝ) {m l a : EReal}
    (hm : m = Finset.univ.fold max (⊥ : EReal) (fun k => (s k : EReal)))
    (hl : l = ∑ k, Ideal.exp2 (((s k : EReal) - m) * ((κ₂ : ℝ) : EReal)))
    (ha : a = ∑ k, (v k : EReal) * Ideal.exp2 (((s k : EReal) - m) * ((κ₂ : ℝ) : EReal))) :
    Run m l a (den s) (num s v) := by
  obtain ⟨μ, hμ⟩ := fold_max_real s
  rw [hμ] at hm
  subst hm
  exact ⟨μ, rfl, by rw [hl, part_den], by rw [ha, part_num]⟩

/-- One more piece of keys: the maximum is raised, the denominator and the numerator rescaled and added to. -/
theorem Run.step [Nonempty ι] (s v : ι → ℝ) {m l a m' l' a' : EReal} {L A : ℝ} (h : Run m l a L A)
    (hm : m' = max m (Finset.univ.fold max (⊥ : EReal) (fun k => (s k : EReal))))
    (hl : l' = Ideal.exp2 ((m - m') * ((κ₂ : ℝ) : EReal)) * l
      + ∑ k, Ideal.exp2 (((s k : EReal) - m') * ((κ₂ : ℝ) : EReal)))
    (ha : a' = Ideal.exp2 ((m - m') * ((κ₂ : ℝ) : EReal)) * a
      + ∑ k, (v k : EReal) * Ideal.exp2 (((s k : EReal) - m') * ((κ₂ : ℝ) : EReal))) :
    Run m' l' a' (L + den s) (A + num s v) := by
  obtain ⟨ν, hν⟩ := fold_max_real s
  obtain ⟨μ, rfl, rfl, rfl⟩ := h
  have hm' : m' = ((max μ ν : ℝ) : EReal) := by
    rw [hm, hν]; exact (EReal.coe_strictMono.monotone.map_max).symm
  subst hm'
  have e : Real.exp (μ * σ) * Real.exp (-μ * σ) = 1 := by rw [← Real.exp_add]; simp
  refine ⟨max μ ν, rfl, ?_, ?_⟩
  · rw [hl, part_den, exp2_sub, ← EReal.coe_mul, ← EReal.coe_add]
    congr 1
    linear_combination (Real.exp (-max μ ν * σ) * L) * e
  · rw [ha, part_num, exp2_sub, ← EReal.coe_mul, ← EReal.coe_add]
    congr 1
    linear_combination (Real.exp (-max μ ν * σ) * A) * e

/-- The quotient at the end is the plain weighted mean. -/
theorem Run.quot {m l a : EReal} {L A : ℝ} (h : Run m l a L A) (hL : 0 < L) : Ideal.div a l = ((A / L : ℝ) : EReal) := by
  obtain ⟨μ, rfl, rfl, rfl⟩ := h
  rw [div_real _ _ (mul_pos (Real.exp_pos _) hL), mul_div_mul_left _ _ (Real.exp_pos _).ne']

/-- A weight of an ordinary softmax: the exponential of a scaled score less any real, over the sum of those. -/
theorem soft_eq (x : ι → ℝ) [Nonempty ι] (μ : ℝ) (k : ι) :
    Ideal.div (Ideal.exp ((x k : EReal) - (μ : EReal))) (∑ j, Ideal.exp ((x j : EReal) - (μ : EReal)))
      = ((Real.exp (x k) / ∑ j, Real.exp (x j) : ℝ) : EReal) := by
  have e : ∀ j, Ideal.exp ((x j : EReal) - (μ : EReal)) = ((Real.exp (-μ) * Real.exp (x j) : ℝ) : EReal) := fun j => by
    rw [← EReal.coe_sub, Ideal.exp_coe, ← Real.exp_add]; congr 2; ring
  simp only [e]
  rw [coe_sum, ← Finset.mul_sum, div_real _ _ (mul_pos (Real.exp_pos _)
    (Finset.sum_pos (fun _ _ => Real.exp_pos _) Finset.univ_nonempty)), mul_div_mul_left _ _ (Real.exp_pos _).ne']

end Attn

end
-- ==== Proof.Attn.Pieces.lean ====
/-
What the differential-attention kernel computes from the keys and values it has loaded, piece by piece.

A piece is a block of keys with its values.  Over real data, the first piece of keys (`first256`) establishes `Attn.Run`
for every query row `r` and value column `e`, and every later piece of 1024 keys (`step1024`) keeps it.  `lat` composes
the context piece with the four latent pieces, which is what one map of a latent query block holds at the end; `finish`
turns the two maps' results into what is stored.
-/
module

public import proofs.«01_k».proof.Proof.Gen.KernelIdeal.Skeleton
public import proofs.«01_k».proof.Proof.Attn.Online
public import Idealize.ShloMosaic.Lib.Pointwise

@[expose] public section

set_option maxRecDepth 16384

noncomputable section

namespace Cert.KernelIdeal.Pieces

open Cert.KernelIdeal Cert.KernelIdeal.Gen Idealize.ShloMosaic Idealize.ShloMosaic.TcCoe Idealize.SL.Sem
open Attn

/-- The scale in base two, named in the program, is `1/(√128 · log 2)`. -/
theorem expo : (Named.named κ "expo" 0x3E0293EE#32 : Ideal .f32) = ((κ₂ : ℝ) : EReal) :=
  IdealRules.named_const.ideal_named_scalar _ _ _ _ rfl

/-- The pattern of minus infinity reads as `⊥`. -/
theorem ofBits_neg_inf : Ideal.ofBits .f32 0xFF800000#32 = ⊥ := by simp [Ideal.ofBits, Ideal.ieee]

/-- The running triple of a block of 256 query rows (`r`) against 256 value columns (`e`). -/
def RunV (M L : FVec Ideal S1x256 .f32) (A : FVec Ideal S256x256 .f32) (D : Fin 256 → ℝ) (N : Fin 256 → Fin 256 → ℝ) : Prop :=
  ∀ r e : Fin 256, Run (M (ix2 0 r)) (L (ix2 0 r)) (A (ix2 e r)) (D r) (N r e)

/-- The score of a query row with a key row: their inner product. -/
def dot (a b : Fin 128 → ℝ) : ℝ := ∑ d, b d * a d

/-- Scores of 256 keys. -/
theorem score256 (q k : Vec Ideal S1x256x128 .bf16) (qr kr : Fin 256 → Fin 128 → ℝ)
    (hq : ∀ r d, q (ix3 0 r d) = (qr r d : EReal)) (hk : ∀ j d, k (ix3 0 j d) = (kr j d : EReal)) (j r : Fin 256) :
    k0_pay11 (F := Ideal) q k (ix2 j r) = ((dot (qr r) (kr j) : ℝ) : EReal) := by
  pointwise [k0_pay11, k0_pay9]
  rw [dot, ← coe_sum]
  exact Finset.sum_congr rfl fun d _ => by rw [hq, hk, EReal.coe_mul]

/-- Scores of 1024 keys. -/
theorem score1024 (q : Vec Ideal S1x256x128 .bf16) (k : Vec Ideal S1x1024x128 .bf16) (qr : Fin 256 → Fin 128 → ℝ)
    (kr : Fin 1024 → Fin 128 → ℝ) (hq : ∀ r d, q (ix3 0 r d) = (qr r d : EReal))
    (hk : ∀ j d, k (ix3 0 j d) = (kr j d : EReal)) (j : Fin 1024) (r : Fin 256) :
    k0_pay13 (F := Ideal) q k (ix2 j r) = ((dot (qr r) (kr j) : ℝ) : EReal) := by
  pointwise [k0_pay13, k0_pay9]
  rw [dot, ← coe_sum]
  exact Finset.sum_congr rfl fun d _ => by rw [hq, hk, EReal.coe_mul]

/-- The first piece, 256 context keys: maximum, denominator and numerator. -/
theorem first256 (q k : Vec Ideal S1x256x128 .bf16) (v : Vec Ideal S256x256 .bf16) (qr kr : Fin 256 → Fin 128 → ℝ)
    (vr : Fin 256 → Fin 256 → ℝ) (hq : ∀ r d, q (ix3 0 r d) = (qr r d : EReal))
    (hk : ∀ j d, k (ix3 0 j d) = (kr j d : EReal)) (hv : ∀ e j, v (ix2 e j) = (vr e j : EReal)) :
    RunV (k0_pay15 (F := Ideal) q k) (k0_pay18 (F := Ideal) q k) (k0_pay17 (F := Ideal) q k v)
      (fun r => den fun j => dot (qr r) (kr j)) (fun r e => num (fun j => dot (qr r) (kr j)) (vr e)) := by
  intro r e
  refine Run.first _ _ ?_ ?_ ?_
  · pointwise [k0_pay15]
    simp only [score256 q k qr kr hq hk]
    rw [← ofBits_neg_inf]
  · pointwise [k0_pay18, k0_pay16]
    simp only [score256 q k qr kr hq hk]
    rw [← expo]; rfl
  · pointwise [k0_pay17, k0_pay16]
    simp only [score256 q k qr kr hq hk, hv]
    rw [← expo]; rfl

/-- A later piece, 1024 latent keys. -/
theorem step1024 (s : FVec Ideal S1024x256 .f32) (M L : FVec Ideal S1x256 .f32) (A : FVec Ideal S256x256 .f32)
    (v : Vec Ideal S256x1024 .bf16) (sr : Fin 256 → Fin 1024 → ℝ) (vr : Fin 256 → Fin 1024 → ℝ) (D : Fin 256 → ℝ)
    (N : Fin 256 → Fin 256 → ℝ) (hs : ∀ j r, s (ix2 j r) = (sr r j : EReal)) (hv : ∀ e j, v (ix2 e j) = (vr e j : EReal))
    (h : RunV M L A D N) :
    RunV (k0_pay26 (F := Ideal) s M) (k0_pay29 (F := Ideal) s M L) (k0_pay30 (F := Ideal) s M A v)
      (fun r => D r + den (sr r)) (fun r e => N r e + num (sr r) (vr e)) := by
  intro r e
  refine Run.step _ _ (h r e) ?_ ?_ ?_
  · pointwise [k0_pay26]
    simp only [hs]
    rw [← ofBits_neg_inf]
  · pointwise [k0_pay29, k0_pay27, k0_pay28]
    simp only [hs]
    rw [← expo]; rfl
  · pointwise [k0_pay30, k0_pay27, k0_pay28]
    simp only [hs, hv]
    rw [← expo]; rfl

/-- The normalised, gained row that is stored: `o · rsqrt(mean o² + ε) · (g · (1 - λ₀))` at value column `e`. -/
def norm (o g : Fin 256 → EReal) (e : Fin 256) : EReal :=
  o e * Ideal.rsqrt (Ideal.div (∑ x, o x * o x) (Ideal.ofBits .f32 0x43800000#32) + Ideal.ofBits .f32 0x358637BD#32)
    * (g e * Ideal.ofBits .f32 0x3F077F5A#32)

/-- The weight of the second map: `exp(lq₁·lk₁) - exp(lq₂·lk₂) + λ₀`. -/
def lam (a b c d : Fin 128 → EReal) : EReal :=
  Ideal.exp (∑ x, a x * b x) - Ideal.exp (∑ x, c x * d x) + Ideal.ofBits .f32 0x3EF1014C#32

/-- The stored block from the two maps' running triples. -/
theorem finish (a b c d : Vec Ideal S1x128 .f32) (A L A' L' sg) (M M' : FVec Ideal S1x256 .f32)
    (D D' : Fin 256 → ℝ) (N N' : Fin 256 → Fin 256 → ℝ) (h : RunV M L A D N) (h' : RunV M' L' A' D' N')
    (hD : ∀ r, 0 < D r) (hD' : ∀ r, 0 < D' r) (r e : Fin 256) :
    k0_pay3 (F := Ideal) a b c d A L A' L' sg (ix2 r e)
      = norm (fun x => ((N r x / D r : ℝ) : EReal)
          - lam (fun i => a (ix2 0 i)) (fun i => b (ix2 0 i)) (fun i => c (ix2 0 i)) (fun i => d (ix2 0 i))
            * ((N' r x / D' r : ℝ) : EReal)) (fun x => sg (ix2 x 0)) e := by
  have q : ∀ x, Ideal.div (A (ix2 x r)) (L (ix2 0 r)) = ((N r x / D r : ℝ) : EReal) := fun x => (h r x).quot (hD r)
  have q' : ∀ x, Ideal.div (A' (ix2 x r)) (L' (ix2 0 r)) = ((N' r x / D' r : ℝ) : EReal) := fun x => (h' r x).quot (hD' r)
  pointwise [k0_pay3, k0_pay1]
  simp only [q, q']
  rfl

end Cert.KernelIdeal.Pieces

end
-- ==== Proof.Attn.Stored.lean ====
/-
What the differential-attention kernel stores at a grid point, as one composition of its pieces.

`Tri.ctx` and `Tri.lat` are one piece of keys, `map0` and `map1` the two attention maps of a latent query block, `out` what is
stored from two maps.  `stored_A`, `stored_B` and `stored_C` say that this is what the program's three cases store: the first
latent block of a head (which also transposes the values), the other latent blocks, and the context block.
-/
module

public import proofs.«01_k».proof.Proof.Gen.KernelIdeal.Value
public import proofs.«01_k».proof.Proof.Attn.Pieces
public import Idealize.ShloMosaic.Lib.Pipeline.ValueKit
public import Idealize.ShloMosaic.Lib.Pipeline.ReadBack

@[expose] public section

set_option maxRecDepth 16384

noncomputable section

namespace Cert.KernelIdeal.Stored

open Cert.KernelIdeal Cert.KernelIdeal.Gen Idealize.ShloMosaic Idealize.ShloMosaic.TcCoe Idealize.SL.Sem
open Idealize.ShloMosaic.Pipeline (Dat)

/-! ## The loads -/

/-- The first and the second map's half of a block of 256 rows. -/
abbrev half0 (Q : Vec Ideal S1x256x256 .bf16) : Vec Ideal S1x256x128 .bf16 :=
  View.ld (Val := Elt Ideal) (e' := .bf16) Q (Rect.unit (s := S1x256x256) ![0, 0, 0] ![1, 256, 128] inb_S1x256x256_S1x256x128_0_0_0)
abbrev half1 (Q : Vec Ideal S1x256x256 .bf16) : Vec Ideal S1x256x128 .bf16 :=
  View.ld (Val := Elt Ideal) (e' := .bf16) Q (Rect.unit (s := S1x256x256) ![0, 0, 128] ![1, 256, 128] inb_S1x256x256_S1x256x128_0_0_128)

/-- A map's half of 1024 of the 4096 latent key rows. -/
abbrev keys00 (K : Vec Ideal S1x4096x256 .bf16) : Vec Ideal S1x1024x128 .bf16 :=
  View.ld (Val := Elt Ideal) (e' := .bf16) K (Rect.unit (s := S1x4096x256) ![0, 0, 0] ![1, 1024, 128] inb_S1x4096x256_S1x1024x128_0_0_0)
abbrev keys01 (K : Vec Ideal S1x4096x256 .bf16) : Vec Ideal S1x1024x128 .bf16 :=
  View.ld (Val := Elt Ideal) (e' := .bf16) K (Rect.unit (s := S1x4096x256) ![0, 0, 128] ![1, 1024, 128] inb_S1x4096x256_S1x1024x128_0_0_128)
abbrev keys10 (K : Vec Ideal S1x4096x256 .bf16) : Vec Ideal S1x1024x128 .bf16 :=
  View.ld (Val := Elt Ideal) (e' := .bf16) K (Rect.unit (s := S1x4096x256) ![0, 1024, 0] ![1, 1024, 128] inb_S1x4096x256_S1x1024x128_0_1024_0)
abbrev keys11 (K : Vec Ideal S1x4096x256 .bf16) : Vec Ideal S1x1024x128 .bf16 :=
  View.ld (Val := Elt Ideal) (e' := .bf16) K (Rect.unit (s := S1x4096x256) ![0, 1024, 128] ![1, 1024, 128] inb_S1x4096x256_S1x1024x128_0_1024_128)
abbrev keys20 (K : Vec Ideal S1x4096x256 .bf16) : Vec Ideal S1x1024x128 .bf16 :=
  View.ld (Val := Elt Ideal) (e' := .bf16) K (Rect.unit (s := S1x4096x256) ![0, 2048, 0] ![1, 1024, 128] inb_S1x4096x256_S1x1024x128_0_2048_0)
abbrev keys21 (K : Vec Ideal S1x4096x256 .bf16) : Vec Ideal S1x1024x128 .bf16 :=
  View.ld (Val := Elt Ideal) (e' := .bf16) K (Rect.unit (s := S1x4096x256) ![0, 2048, 128] ![1, 1024, 128] inb_S1x4096x256_S1x1024x128_0_2048_128)
abbrev keys30 (K : Vec Ideal S1x4096x256 .bf16) : Vec Ideal S1x1024x128 .bf16 :=
  View.ld (Val := Elt Ideal) (e' := .bf16) K (Rect.unit (s := S1x4096x256) ![0, 3072, 0] ![1, 1024, 128] inb_S1x4096x256_S1x1024x128_0_3072_0)
abbrev keys31 (K : Vec Ideal S1x4096x256 .bf16) : Vec Ideal S1x1024x128 .bf16 :=
  View.ld (Val := Elt Ideal) (e' := .bf16) K (Rect.unit (s := S1x4096x256) ![0, 3072, 128] ![1, 1024, 128] inb_S1x4096x256_S1x1024x128_0_3072_128)

/-- The context's columns and the four latent pieces' columns of the transposed values. -/
abbrev valsC (VT : Vec Ideal S256x4352 .bf16) : Vec Ideal S256x256 .bf16 :=
  View.ld (Val := Elt Ideal) (e' := .bf16) VT (Rect.unit (s := S256x4352) ![0, 0] ![256, 256] inb_S256x4352_S256x256_0_0)
abbrev vals0 (VT : Vec Ideal S256x4352 .bf16) : Vec Ideal S256x1024 .bf16 :=
  View.ld (Val := Elt Ideal) (e' := .bf16) VT (Rect.unit (s := S256x4352) ![0, 256] ![256, 1024] inb_S256x4352_S256x1024_0_256)
abbrev vals1 (VT : Vec Ideal S256x4352 .bf16) : Vec Ideal S256x1024 .bf16 :=
  View.ld (Val := Elt Ideal) (e' := .bf16) VT (Rect.unit (s := S256x4352) ![0, 1280] ![256, 1024] inb_S256x4352_S256x1024_0_1280)
abbrev vals2 (VT : Vec Ideal S256x4352 .bf16) : Vec Ideal S256x1024 .bf16 :=
  View.ld (Val := Elt Ideal) (e' := .bf16) VT (Rect.unit (s := S256x4352) ![0, 2304] ![256, 1024] inb_S256x4352_S256x1024_0_2304)
abbrev vals3 (VT : Vec Ideal S256x4352 .bf16) : Vec Ideal S256x1024 .bf16 :=
  View.ld (Val := Elt Ideal) (e' := .bf16) VT (Rect.unit (s := S256x4352) ![0, 3328] ![256, 1024] inb_S256x4352_S256x1024_0_3328)

/-- 1024 of the 4096 latent value rows. -/
abbrev rows0 (V : Vec Ideal S1x4096x256 .bf16) : Vec Ideal S1x1024x256 .bf16 :=
  View.ld (Val := Elt Ideal) (e' := .bf16) V (Rect.unit (s := S1x4096x256) ![0, 0, 0] ![1, 1024, 256] inb_S1x4096x256_S1x1024x256_0_0_0)
abbrev rows1 (V : Vec Ideal S1x4096x256 .bf16) : Vec Ideal S1x1024x256 .bf16 :=
  View.ld (Val := Elt Ideal) (e' := .bf16) V (Rect.unit (s := S1x4096x256) ![0, 1024, 0] ![1, 1024, 256] inb_S1x4096x256_S1x1024x256_0_1024_0)
abbrev rows2 (V : Vec Ideal S1x4096x256 .bf16) : Vec Ideal S1x1024x256 .bf16 :=
  View.ld (Val := Elt Ideal) (e' := .bf16) V (Rect.unit (s := S1x4096x256) ![0, 2048, 0] ![1, 1024, 256] inb_S1x4096x256_S1x1024x256_0_2048_0)
abbrev rows3 (V : Vec Ideal S1x4096x256 .bf16) : Vec Ideal S1x1024x256 .bf16 :=
  View.ld (Val := Elt Ideal) (e' := .bf16) V (Rect.unit (s := S1x4096x256) ![0, 3072, 0] ![1, 1024, 256] inb_S1x4096x256_S1x1024x256_0_3072_0)

/-! ## One map over the context and the latent pieces -/

/-- A running triple of a block of query rows. -/
structure Tri where
  M : FVec Ideal S1x256 .f32
  L : FVec Ideal S1x256 .f32
  A : FVec Ideal S256x256 .f32

/-- After the context piece. -/
def Tri.ctx (q k : Vec Ideal S1x256x128 .bf16) (v : Vec Ideal S256x256 .bf16) : Tri :=
  ⟨k0_pay15 q k, k0_pay18 q k, k0_pay17 q k v⟩

/-- After one more latent piece. -/
def Tri.lat (q : Vec Ideal S1x256x128 .bf16) (k : Vec Ideal S1x1024x128 .bf16) (v : Vec Ideal S256x1024 .bf16) (T : Tri) : Tri :=
  ⟨k0_pay26 (k0_pay13 q k) T.M, k0_pay29 (k0_pay13 q k) T.M T.L, k0_pay30 (k0_pay13 q k) T.M T.A v⟩

/-- The first map of a latent query block, over the five pieces' transposed values. -/
def map0 (Q Kc : Vec Ideal S1x256x256 .bf16) (K : Vec Ideal S1x4096x256 .bf16) (vC : Vec Ideal S256x256 .bf16)
    (v0 v1 v2 v3 : Vec Ideal S256x1024 .bf16) : Tri :=
  Tri.lat (half0 Q) (keys30 K) v3 (Tri.lat (half0 Q) (keys20 K) v2 (Tri.lat (half0 Q) (keys10 K) v1
    (Tri.lat (half0 Q) (keys00 K) v0 (Tri.ctx (half0 Q) (half0 Kc) vC))))

/-- The second map of a latent query block. -/
def map1 (Q Kc : Vec Ideal S1x256x256 .bf16) (K : Vec Ideal S1x4096x256 .bf16) (vC : Vec Ideal S256x256 .bf16)
    (v0 v1 v2 v3 : Vec Ideal S256x1024 .bf16) : Tri :=
  Tri.lat (half1 Q) (keys31 K) v3 (Tri.lat (half1 Q) (keys21 K) v2 (Tri.lat (half1 Q) (keys11 K) v1
    (Tri.lat (half1 Q) (keys01 K) v0 (Tri.ctx (half1 Q) (half1 Kc) vC))))

/-- What is stored from the two maps' running triples. -/
def out (a b c d : Vec Ideal S1x128 .f32) (g : Vec Ideal S256x1 .f32) (T T' : Tri) : FVec Ideal S256x256 .bf16 :=
  k0_pay3 a b c d T.A T.L T'.A T'.L g

/-! ## The program's text names these pieces several times over: each repetition is the piece itself -/

section
variable (q k : Vec Ideal S1x256x128 .bf16) (k' : Vec Ideal S1x1024x128 .bf16) (v : Vec Ideal S256x256 .bf16)
variable (s s' : FVec Ideal S1024x256 .f32) (M L M' L' : FVec Ideal S1x256 .f32) (A A' : FVec Ideal S256x256 .f32)
variable (w w' : Vec Ideal S256x1024 .bf16) (a b c d : Vec Ideal S1x128 .f32) (g : Vec Ideal S256x1 .f32)

theorem r10 : k0_pay10 q = k0_pay9 q := rfl
theorem r12 : k0_pay12 q k = k0_pay11 q k := rfl
theorem r14 : k0_pay14 q k' = k0_pay13 q k' := rfl
theorem r24 : k0_pay24 (k0_pay9 q) k' = k0_pay13 q k' := rfl
theorem r25 : k0_pay25 (k0_pay9 q) k' = k0_pay13 q k' := rfl
theorem r37 : k0_pay37 (k0_pay9 q) k' = k0_pay13 q k' := rfl
theorem r38 : k0_pay38 (k0_pay9 q) k' = k0_pay13 q k' := rfl
theorem r51 : k0_pay51 (k0_pay9 q) k' = k0_pay13 q k' := rfl
theorem r52 : k0_pay52 (k0_pay9 q) k' = k0_pay13 q k' := rfl
theorem r19 : k0_pay19 q k = k0_pay15 q k := rfl
theorem r22 : k0_pay22 (k0_pay11 q k) (k0_pay20 q k) v = k0_pay17 q k v := rfl
theorem r23 : k0_pay23 (k0_pay11 q k) (k0_pay20 q k) = k0_pay18 q k := rfl
theorem r70 : k0_pay70 q k v = k0_pay17 q k v := rfl
theorem r71 : k0_pay71 q k = k0_pay18 q k := rfl
theorem r73 : k0_pay73 q k v = k0_pay17 q k v := rfl
theorem r74 : k0_pay74 q k = k0_pay18 q k := rfl
theorem r32 : k0_pay32 M (k0_pay31 s) = k0_pay26 s M := rfl
theorem r35 : k0_pay35 s M L (k0_pay31 s) = k0_pay29 s M L := rfl
theorem r36 : k0_pay36 s M A (k0_pay31 s) w = k0_pay30 s M A w := rfl
theorem r39 : k0_pay39 s M = k0_pay26 s M := rfl
theorem r44 : k0_pay44 L (k0_pay40 s M) (k0_pay42 s M) = k0_pay29 s M L := rfl
theorem r45 : k0_pay45 A (k0_pay41 s M w) (k0_pay42 s M) = k0_pay30 s M A w := rfl
theorem r46 : k0_pay46 s M = k0_pay26 s M := rfl
theorem r49 : k0_pay49 s M L = k0_pay29 s M L := rfl
theorem r50 : k0_pay50 s M A w = k0_pay30 s M A w := rfl
theorem r53 : k0_pay53 s M = k0_pay26 s M := rfl
theorem r58 : k0_pay58 M L (k0_pay26 s M) (k0_pay54 s M) k0_pay55 = k0_pay29 s M L := rfl
theorem r59 : k0_pay59 M A (k0_pay26 s M) (k0_pay54 s M) k0_pay55 w = k0_pay30 s M A w := rfl
theorem r60 : k0_pay60 s M = k0_pay26 s M := rfl
theorem r63 : k0_pay63 s M L = k0_pay29 s M L := rfl
theorem r64 : k0_pay64 s M A w = k0_pay30 s M A w := rfl
theorem r65 : k0_pay65 s M = k0_pay26 s M := rfl
theorem r67 : k0_pay2 (k0_pay67 (k0_pay1 a b c d) s' M L A M' L' A' (k0_pay26 s M) (k0_pay66 s M) w w')
      (k0_pay68 (k0_pay1 a b c d) s' M L A M' L' A' (k0_pay26 s M) (k0_pay66 s M) w w')
      (Scalar.ofBits .f32 0x43800000#32) g
    = k0_pay3 a b c d (k0_pay30 s M A w) (k0_pay29 s M L) (k0_pay30 s' M' A' w') (k0_pay29 s' M' L') g := rfl

end

variable (m : (ℓ : Loc nD τ sig) → Buf (Elt Ideal) ℓ)

theorem stored_C (c : Dev nD) (t : Fin cfg0.N) (h0 : ¬t.val % 17 = 0) (h1 : ¬t.val % 17 ≤ 15) (h2 : t.val % 17 = 16)
    (hp : t.val - 1 < cfg0.N) :
    (outsAt0 m c t.val t.isLt).1 = out (iblk m c 0 t) (iblk m c 1 t) (iblk m c 2 t) (iblk m c 3 t) (iblk m c 4 t)
      (Tri.ctx (half0 (iblk m c 5 t)) (half0 (iblk m c 8 t)) (valsC (outsAt0 m c (t.val - 1) hp).2))
      (Tri.ctx (half1 (iblk m c 5 t)) (half1 (iblk m c 8 t)) (valsC (outsAt0 m c (t.val - 1) hp).2)) := by
  rw [outsAt0_C m c t h0 h1 h2]
  frame_out
  simp only [r10, r12, r14, r24, r25, r37, r38, r51, r52, r19, r22, r23, r70, r71, r73, r74, r32, r35, r36, r39, r44, r45, r46, r49,
    r50, r53, r58, r59, r60, r63, r64, r65, r67]
  rw [read_unread_whole]
  simp only [out, map0, map1, Tri.lat, Tri.ctx]

theorem stored_B (c : Dev nD) (t : Fin cfg0.N) (h0 : ¬t.val % 17 = 0) (h1 : t.val % 17 ≤ 15) (h2 : ¬t.val % 17 = 16)
    (hp : t.val - 1 < cfg0.N) :
    (outsAt0 m c t.val t.isLt).1 = out (iblk m c 0 t) (iblk m c 1 t) (iblk m c 2 t) (iblk m c 3 t) (iblk m c 4 t)
      (map0 (iblk m c 5 t) (iblk m c 8 t) (X0_6 m c t) (valsC (outsAt0 m c (t.val - 1) hp).2)
        (vals0 (outsAt0 m c (t.val - 1) hp).2) (vals1 (outsAt0 m c (t.val - 1) hp).2)
        (vals2 (outsAt0 m c (t.val - 1) hp).2) (vals3 (outsAt0 m c (t.val - 1) hp).2))
      (map1 (iblk m c 5 t) (iblk m c 8 t) (X0_6 m c t) (valsC (outsAt0 m c (t.val - 1) hp).2)
        (vals0 (outsAt0 m c (t.val - 1) hp).2) (vals1 (outsAt0 m c (t.val - 1) hp).2)
        (vals2 (outsAt0 m c (t.val - 1) hp).2) (vals3 (outsAt0 m c (t.val - 1) hp).2)) := by
  rw [outsAt0_B m c t h0 h1 h2]
  frame_out
  simp only [r10, r12, r14, r24, r25, r37, r38, r51, r52, r19, r22, r23, r70, r71, r73, r74, r32, r35, r36, r39, r44, r45, r46, r49,
    r50, r53, r58, r59, r60, r63, r64, r65, r67]
  rw [read_unread_whole]
  simp only [out, map0, map1, Tri.lat, Tri.ctx]

/-- A load of stored pieces is the load of the array they make up. -/
theorem readCov_ld {sig : RefSig} {κ : Kind} {sp : Space} {S : Shape} {e : EltTy} (v : View sig κ sp S e)
    (L : List (View.Piece (Elt Ideal) S e)) (r : Rect S) :
    v.readCov L r.toLoadRect = View.ld (View.canon L) r := by
  rw [View.readCov_eq_canon']

theorem stored_A (c : Dev nD) (t : Fin cfg0.N) (h0 : t.val % 17 = 0) (h1 : t.val % 17 ≤ 15) (h2 : ¬t.val % 17 = 16) :
    (outsAt0 m c t.val t.isLt).1 = out (iblk m c 0 t) (iblk m c 1 t) (iblk m c 2 t) (iblk m c 3 t) (iblk m c 4 t)
      (map0 (iblk m c 5 t) (iblk m c 8 t) (X0_6 m c t) (valsC (outsAt0 m c t.val t.isLt).2)
        (vals0 (outsAt0 m c t.val t.isLt).2) (vals1 (outsAt0 m c t.val t.isLt).2)
        (vals2 (outsAt0 m c t.val t.isLt).2) (vals3 (outsAt0 m c t.val t.isLt).2))
      (map1 (iblk m c 5 t) (iblk m c 8 t) (X0_6 m c t) (valsC (outsAt0 m c t.val t.isLt).2)
        (vals0 (outsAt0 m c t.val t.isLt).2) (vals1 (outsAt0 m c t.val t.isLt).2)
        (vals2 (outsAt0 m c t.val t.isLt).2) (vals3 (outsAt0 m c t.val t.isLt).2)) := by
  rw [outsAt0_A m c t h0 h1 h2]
  frame_out
  simp only [readCov_ld, r10, r12, r14, r24, r25, r37, r38, r51, r52, r19, r22, r23, r70, r71, r73, r74, r32, r35, r36, r39, r44, r45, r46, r49,
    r50, r53, r58, r59, r60, r63, r64, r65, r67]
  simp only [out, map0, map1, Tri.lat, Tri.ctx]

theorem scratch_B (c : Dev nD) (t : Fin cfg0.N) (h0 : ¬t.val % 17 = 0) (h1 : t.val % 17 ≤ 15) (h2 : ¬t.val % 17 = 16)
    (hp : t.val - 1 < cfg0.N) : (outsAt0 m c t.val t.isLt).2 = (outsAt0 m c (t.val - 1) hp).2 := by
  rw [outsAt0_B m c t h0 h1 h2]
  rfl

theorem scratch_C (c : Dev nD) (t : Fin cfg0.N) (h0 : ¬t.val % 17 = 0) (h1 : ¬t.val % 17 ≤ 15) (h2 : t.val % 17 = 16)
    (hp : t.val - 1 < cfg0.N) : (outsAt0 m c t.val t.isLt).2 = (outsAt0 m c (t.val - 1) hp).2 := by
  rw [outsAt0_C m c t h0 h1 h2]
  rfl

/-- A latent point stores the two maps' output over the transposed values its scratch holds. -/
theorem stored_lat (c : Dev nD) (t : Fin cfg0.N) (h1 : t.val % 17 ≤ 15) :
    (outsAt0 m c t.val t.isLt).1 = out (iblk m c 0 t) (iblk m c 1 t) (iblk m c 2 t) (iblk m c 3 t) (iblk m c 4 t)
      (map0 (iblk m c 5 t) (iblk m c 8 t) (X0_6 m c t) (valsC (outsAt0 m c t.val t.isLt).2)
        (vals0 (outsAt0 m c t.val t.isLt).2) (vals1 (outsAt0 m c t.val t.isLt).2)
        (vals2 (outsAt0 m c t.val t.isLt).2) (vals3 (outsAt0 m c t.val t.isLt).2))
      (map1 (iblk m c 5 t) (iblk m c 8 t) (X0_6 m c t) (valsC (outsAt0 m c t.val t.isLt).2)
        (vals0 (outsAt0 m c t.val t.isLt).2) (vals1 (outsAt0 m c t.val t.isLt).2)
        (vals2 (outsAt0 m c t.val t.isLt).2) (vals3 (outsAt0 m c t.val t.isLt).2)) := by
  by_cases h0 : t.val % 17 = 0
  · exact stored_A m c t h0 h1 (by omega)
  · have hp : t.val - 1 < cfg0.N := lt_of_le_of_lt (Nat.sub_le _ _) t.isLt
    rw [scratch_B m c t h0 h1 (by omega) hp]
    exact stored_B m c t h0 h1 (by omega) hp

/-- A context point stores the two maps' output over the context's columns of the transposed values its scratch holds. -/
theorem stored_ctx (c : Dev nD) (t : Fin cfg0.N) (h2 : t.val % 17 = 16) :
    (outsAt0 m c t.val t.isLt).1 = out (iblk m c 0 t) (iblk m c 1 t) (iblk m c 2 t) (iblk m c 3 t) (iblk m c 4 t)
      (Tri.ctx (half0 (iblk m c 5 t)) (half0 (iblk m c 8 t)) (valsC (outsAt0 m c t.val t.isLt).2))
      (Tri.ctx (half1 (iblk m c 5 t)) (half1 (iblk m c 8 t)) (valsC (outsAt0 m c t.val t.isLt).2)) := by
  have hp : t.val - 1 < cfg0.N := lt_of_le_of_lt (Nat.sub_le _ _) t.isLt
  rw [scratch_C m c t (by omega) (by omega) h2 hp]
  exact stored_C m c t (by omega) (by omega) h2 hp

/-- Between the points of one head and one half of the batch the scratch is kept. -/
theorem scratch_kept (c : Dev nD) (t : Fin cfg0.N) (h0 : ¬t.val % 17 = 0) (hp : t.val - 1 < cfg0.N) :
    (outsAt0 m c t.val t.isLt).2 = (outsAt0 m c (t.val - 1) hp).2 := by
  by_cases h1 : t.val % 17 ≤ 15
  · exact scratch_B m c t h0 h1 (by omega) hp
  · exact scratch_C m c t h0 h1 (by omega) hp

end Cert.KernelIdeal.Stored

end
-- ==== Proof.Attn.Loads.lean ====
module
public import proofs.«01_k».proof.Proof.Attn.Stored
public import Idealize.ShloMosaic.Lib.Pipeline.ValueKit
@[expose] public section
/-! The loads at an index. -/
set_option maxRecDepth 16384

noncomputable section

namespace Cert.KernelIdeal.Stored

open Cert.KernelIdeal Cert.KernelIdeal.Gen Idealize.ShloMosaic Idealize.ShloMosaic.TcCoe Idealize.SL.Sem

variable (Q : Vec Ideal S1x256x256 .bf16) (K : Vec Ideal S1x4096x256 .bf16) (S : Vec Ideal S256x4352 .bf16)
variable (r e u : Fin 256) (j : Fin 1024) (d : Fin 128)

theorem half0_at : half0 Q (ix3 0 r d) = Q (ix3 0 r ⟨d, by omega⟩) := by pointwise [half0]
theorem half1_at : half1 Q (ix3 0 r d) = Q (ix3 0 r ⟨128 + d, by omega⟩) := by pointwise [half1]

theorem keys00_at : keys00 K (ix3 0 j d) = K (ix3 0 ⟨j, by omega⟩ ⟨d, by omega⟩) := by pointwise [keys00]
theorem keys01_at : keys01 K (ix3 0 j d) = K (ix3 0 ⟨j, by omega⟩ ⟨128 + d, by omega⟩) := by pointwise [keys01]
theorem keys10_at : keys10 K (ix3 0 j d) = K (ix3 0 ⟨1024 + j, by omega⟩ ⟨d, by omega⟩) := by pointwise [keys10]
theorem keys11_at : keys11 K (ix3 0 j d) = K (ix3 0 ⟨1024 + j, by omega⟩ ⟨128 + d, by omega⟩) := by pointwise [keys11]
theorem keys20_at : keys20 K (ix3 0 j d) = K (ix3 0 ⟨2048 + j, by omega⟩ ⟨d, by omega⟩) := by pointwise [keys20]
theorem keys21_at : keys21 K (ix3 0 j d) = K (ix3 0 ⟨2048 + j, by omega⟩ ⟨128 + d, by omega⟩) := by pointwise [keys21]
theorem keys30_at : keys30 K (ix3 0 j d) = K (ix3 0 ⟨3072 + j, by omega⟩ ⟨d, by omega⟩) := by pointwise [keys30]
theorem keys31_at : keys31 K (ix3 0 j d) = K (ix3 0 ⟨3072 + j, by omega⟩ ⟨128 + d, by omega⟩) := by pointwise [keys31]

theorem valsC_at : valsC S (ix2 e u) = S (ix2 e ⟨u, by omega⟩) := by pointwise [valsC]
theorem vals0_at : vals0 S (ix2 e j) = S (ix2 e ⟨256 + j, by omega⟩) := by pointwise [vals0]
theorem vals1_at : vals1 S (ix2 e j) = S (ix2 e ⟨1280 + j, by omega⟩) := by pointwise [vals1]
theorem vals2_at : vals2 S (ix2 e j) = S (ix2 e ⟨2304 + j, by omega⟩) := by pointwise [vals2]
theorem vals3_at : vals3 S (ix2 e j) = S (ix2 e ⟨3328 + j, by omega⟩) := by pointwise [vals3]

end Cert.KernelIdeal.Stored

end
-- ==== Proof.Attn.Blocks.lean ====
/-
The differential-attention kernel's blocks: which rows and columns of the arguments each grid point has before it.

Grid point `t` of 272 is head `t / 17 % 8` of batch `t / 136` at query block `t % 17`; blocks 0 to 15 are latent queries
and block 16 is the context's.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block of 256 query rows a point works on: latent rows first, the context's after them. -/
abbrev qblk (t : ℕ) : ℕ := if t % 17 ≤ 15 then t / 136 * 16 + t % 17 else 32 + t / 136

theorem idx : ∀ t : Fin cfg0.N, win0_0.index t = ![0, 0] ∧ win0_1.index t = ![0, 0] ∧ win0_2.index t = ![0, 0]
    ∧ win0_3.index t = ![0, 0] ∧ win0_4.index t = ![0, 0]
    ∧ win0_5.index t = ![t.val / 17 % 8, qblk t.val, 0] ∧ win0_6.index t = ![8 + t.val / 17 % 8, t.val / 136, 0]
    ∧ win0_7.index t = ![16 + t.val / 17 % 8, t.val / 136, 0] ∧ win0_8.index t = ![8 + t.val / 17 % 8, 32 + t.val / 136, 0]
    ∧ win0_9.index t = ![16 + t.val / 17 % 8, 32 + t.val / 136, 0]
    ∧ win0_10.index t = ![qblk t.val, t.val / 17 % 8] :=
  (by decide +kernel : ∀ t : Fin grid0.N, _)

/-- The query rows before a point. -/
theorem q_at (c : Dev nD) (t : Fin cfg0.N) (r e : Fin 256) (hr : qblk t.val * 256 + r < 8704) :
    iblk m c 5 t (ix3 0 r e)
      = m ((c : Thread nD τ).loc main_arg0) (ix3 (⟨t.val / 17 % 8, by omega⟩ : Fin 24) ⟨qblk t.val * 256 + r, hr⟩ e) := by
  blk_point [iblk, V, idx t]

/-- The latent keys before a point. -/
theorem k_at (c : Dev nD) (t : Fin cfg0.N) (j : Fin 4096) (e : Fin 256) (hj : t.val / 136 * 4096 + j < 8704) :
    X0_6 m c t (ix3 0 j e)
      = m ((c : Thread nD τ).loc main_arg0) (ix3 (⟨8 + t.val / 17 % 8, by omega⟩ : Fin 24) ⟨t.val / 136 * 4096 + j, hj⟩ e) := by
  unfold X0_6 Pipeline.Window.fill
  rw [dif_pos (moved0_6 t _)]
  blk_point [iblk, V, idx t]

/-- The latent values before a point. -/
theorem v_at (c : Dev nD) (t : Fin cfg0.N) (j : Fin 4096) (e : Fin 256) (hj : t.val / 136 * 4096 + j < 8704) :
    X0_7 m c t (ix3 0 j e)
      = m ((c : Thread nD τ).loc main_arg0) (ix3 (⟨16 + t.val / 17 % 8, by omega⟩ : Fin 24) ⟨t.val / 136 * 4096 + j, hj⟩ e) := by
  unfold X0_7 Pipeline.Window.fill
  rw [dif_pos (moved0_7 t _)]
  blk_point [iblk, V, idx t]

/-- The context keys before a point. -/
theorem kc_at (c : Dev nD) (t : Fin cfg0.N) (j e : Fin 256) (hj : (32 + t.val / 136) * 256 + j < 8704) :
    iblk m c 8 t (ix3 0 j e)
      = m ((c : Thread nD τ).loc main_arg0) (ix3 (⟨8 + t.val / 17 % 8, by omega⟩ : Fin 24) ⟨(32 + t.val / 136) * 256 + j, hj⟩ e) := by
  blk_point [iblk, V, idx t]

/-- The context values before a point. -/
theorem vc_at (c : Dev nD) (t : Fin cfg0.N) (j e : Fin 256) (hj : (32 + t.val / 136) * 256 + j < 8704) :
    iblk m c 9 t (ix3 0 j e)
      = m ((c : Thread nD τ).loc main_arg0) (ix3 (⟨16 + t.val / 17 % 8, by omega⟩ : Fin 24) ⟨(32 + t.val / 136) * 256 + j, hj⟩ e) := by
  blk_point [iblk, V, idx t]

/-- The four vectors behind `λ`, and the gain, as every point has them. -/
theorem l0_at (c : Dev nD) (t : Fin cfg0.N) (i : Fin 128) :
    iblk m c 0 t (ix2 0 i) = m ((c : Thread nD τ).loc main_arg1) (ix2 0 i) := by
  blk_point [iblk, V, idx t]

theorem l1_at (c : Dev nD) (t : Fin cfg0.N) (i : Fin 128) :
    iblk m c 1 t (ix2 0 i) = m ((c : Thread nD τ).loc main_arg2) (ix2 0 i) := by
  blk_point [iblk, V, idx t]

theorem l2_at (c : Dev nD) (t : Fin cfg0.N) (i : Fin 128) :
    iblk m c 2 t (ix2 0 i) = m ((c : Thread nD τ).loc main_arg3) (ix2 0 i) := by
  blk_point [iblk, V, idx t]

theorem l3_at (c : Dev nD) (t : Fin cfg0.N) (i : Fin 128) :
    iblk m c 3 t (ix2 0 i) = m ((c : Thread nD τ).loc main_arg4) (ix2 0 i) := by
  blk_point [iblk, V, idx t]

theorem g_at (c : Dev nD) (t : Fin cfg0.N) (e : Fin 256) :
    iblk m c 4 t (ix2 e 0) = m ((c : Thread nD τ).loc main_arg5) (ix2 0 e) := by
  blk_point [iblk, V, idx t]

end Cert.KernelIdeal.Blocks

end
-- ==== Proof.Attn.Held.lean ====
module
public import proofs.«01_k».proof.Proof.Attn.Stored
public import proofs.«01_k».proof.Proof.Attn.Blocks
public import Idealize.ShloMosaic.Lib.Pipeline.ValueKit
@[expose] public section
/-! What the scratch holds: the head's values, transposed: the 256 context rows of the half of the batch, then its 4096 latent rows. -/
set_option maxRecDepth 16384

noncomputable section

namespace Cert.KernelIdeal.Held

open Cert.KernelIdeal Cert.KernelIdeal.Gen Idealize.ShloMosaic Idealize.ShloMosaic.TcCoe Idealize.SL.Sem
open Idealize.ShloMosaic.Pipeline (Dat)
open Cert.KernelIdeal.Stored Cert.KernelIdeal.Blocks

variable (m : (ℓ : Loc nD τ sig) → Buf (Elt Ideal) ℓ)

/-- The row of the value array that column `j` of the scratch holds, in half `b` of the batch. -/
def vrow (b j : ℕ) : ℕ := if j < 256 then (32 + b) * 256 + j else b * 4096 + (j - 256)

theorem vrow_lt (b : Fin 2) (j : Fin 4352) : vrow b j < 8704 := by unfold vrow; split <;> omega

/-! The stored pieces are transposed rows. -/

theorem pay4_at (x : Vec Ideal S1x256x256 .bf16) (e j : Fin 256) : k0_pay4 x (ix2 e j) = x (ix3 0 j e) := by
  pointwise [k0_pay4]

theorem pay5_at (V : Vec Ideal S1x4096x256 .bf16) (e : Fin 256) (j : Fin 1024) :
    k0_pay5 (rows0 V) (ix2 e j) = V (ix3 0 ⟨j, by omega⟩ e) := by
  pointwise [k0_pay5, rows0]

theorem pay6_at (V : Vec Ideal S1x4096x256 .bf16) (e : Fin 256) (j : Fin 1024) :
    k0_pay6 (rows1 V) (ix2 e j) = V (ix3 0 ⟨1024 + j, by omega⟩ e) := by
  pointwise [k0_pay6, rows1]

theorem pay7_at (V : Vec Ideal S1x4096x256 .bf16) (e : Fin 256) (j : Fin 1024) :
    k0_pay7 (rows2 V) (ix2 e j) = V (ix3 0 ⟨2048 + j, by omega⟩ e) := by
  pointwise [k0_pay7, rows2]

theorem pay8_at (V : Vec Ideal S1x4096x256 .bf16) (e : Fin 256) (j : Fin 1024) :
    k0_pay8 (rows3 V) (ix2 e j) = V (ix3 0 ⟨3072 + j, by omega⟩ e) := by
  pointwise [k0_pay8, rows3]

/-- Latent row `i` is the one column `256 + i` of the scratch holds. -/
theorem lat_col (c : Dev nD) (t : Fin cfg0.N) (e a : Fin 256) (i : Fin 4096) (j : Fin 4352)
    (hv : vrow (t.val / 136) j < 8704) (ha : (e : ℕ) = a) (hj : (j : ℕ) = 256 + i) :
    X0_7 m c t (ix3 0 i a)
      = m ((c : Thread nD τ).loc main_arg0) (ix3 (⟨16 + t.val / 17 % 8, by omega⟩ : Fin 24) ⟨vrow (t.val / 136) j, hv⟩ e) := by
  have hr : vrow (t.val / 136) j = t.val / 136 * 4096 + i := by unfold vrow; rw [if_neg (by omega)]; omega
  obtain rfl : e = a := Fin.ext ha
  rw [v_at m c t i e (by omega)]
  refine congrArg (m ((c : Thread nD τ).loc main_arg0)) ?_
  exact congrArg (fun r => ix3 (⟨16 + t.val / 17 % 8, by omega⟩ : Fin 24) r e) (Fin.ext hr.symm)

theorem ctx_col (c : Dev nD) (t : Fin cfg0.N) (e a i : Fin 256) (j : Fin 4352)
    (hv : vrow (t.val / 136) j < 8704) (ha : (e : ℕ) = a) (hj : (j : ℕ) = i) :
    iblk m c 9 t (ix3 0 i a)
      = m ((c : Thread nD τ).loc main_arg0) (ix3 (⟨16 + t.val / 17 % 8, by omega⟩ : Fin 24) ⟨vrow (t.val / 136) j, hv⟩ e) := by
  have hr : vrow (t.val / 136) j = (32 + t.val / 136) * 256 + i := by unfold vrow; rw [if_pos (by omega)]; omega
  obtain rfl : e = a := Fin.ext ha
  rw [vc_at m c t i e (by omega)]
  refine congrArg (m ((c : Thread nD τ).loc main_arg0)) ?_
  exact congrArg (fun r => ix3 (⟨16 + t.val / 17 % 8, by omega⟩ : Fin 24) r e) (Fin.ext hr.symm)

theorem held_A (c : Dev nD) (t : Fin cfg0.N) (p0 : t.val % 17 = 0) (e : Fin 256) (j : Fin 4352)
    (hv : vrow (t.val / 136) j < 8704) :
    (outsAt0 m c t.val t.isLt).2 (ix2 e j)
      = m ((c : Thread nD τ).loc main_arg0) (ix3 (⟨16 + t.val / 17 % 8, by omega⟩ : Fin 24) ⟨vrow (t.val / 136) j, hv⟩ e) := by
  rw [outsAt0_A m c t p0 (by omega) (by omega)]
  frame_out
  canon_tiles x h using View.cover_of_tiledBy _ ![256, 256] (by sl_kernel_rfl) _
  all_goals rw [eq_ix2 x]
  · exact (pay8_at (X0_7 m c t) _ _).trans (lat_col m c t e _ _ j hv h0 (by rw [← Nat.add_assoc]; exact h1))
  · exact (pay7_at (X0_7 m c t) _ _).trans (lat_col m c t e _ _ j hv h0 (by rw [← Nat.add_assoc]; exact h1))
  · exact (pay6_at (X0_7 m c t) _ _).trans (lat_col m c t e _ _ j hv h0 (by rw [← Nat.add_assoc]; exact h1))
  · exact (pay5_at (X0_7 m c t) _ _).trans (lat_col m c t e _ _ j hv h0 h1)
  · exact (pay4_at (iblk m c 9 t) _ _).trans (ctx_col m c t e _ _ j hv h0 h1)

/-- At every point the scratch holds its head's transposed values. -/
theorem held (c : Dev nD) : ∀ (n : ℕ) (hn : n < cfg0.N) (e : Fin 256) (j : Fin 4352) (hv : vrow (n / 136) j < 8704),
    (outsAt0 m c n hn).2 (ix2 e j)
      = m ((c : Thread nD τ).loc main_arg0) (ix3 (⟨16 + n / 17 % 8, by omega⟩ : Fin 24) ⟨vrow (n / 136) j, hv⟩ e) := by
  intro n
  induction n with
  | zero => exact fun hn e j hv => held_A m c ⟨0, hn⟩ rfl e j hv
  | succ n ih =>
    intro hn e j hv
    by_cases p0 : (n + 1) % 17 = 0
    · exact held_A m c ⟨n + 1, hn⟩ p0 e j hv
    · have hb : (n + 1) / 136 = n / 136 := by omega
      have hh : (n + 1) / 17 = n / 17 := by omega
      have k := scratch_kept m c ⟨n + 1, hn⟩ p0 (Nat.lt_of_succ_lt hn)
      refine (congrFun k (ix2 e j)).trans ((ih (Nat.lt_of_succ_lt hn) e j (by rw [← hb]; exact hv)).trans ?_)
      refine congrArg (m ((c : Thread nD τ).loc main_arg0)) ?_
      exact (ix3_inj ..).2 ⟨Fin.ext (by show 16 + n / 17 % 8 = 16 + (n + 1) / 17 % 8; rw [hh]),
        Fin.ext (by show vrow (n / 136) j = vrow ((n + 1) / 136) j; rw [hb]), rfl⟩

end Cert.KernelIdeal.Held

end
-- ==== Proof.Attn.Spec.lean ====
module
public import proofs.«01_k».proof.Proof.Attn.Pieces
@[expose] public section
/-! The layer's attention as a function of real projections: `x a r e` is column `e` of row `r` of slot `a`, where slots
`h`, `8 + h`, `16 + h` are head `h`'s queries, keys and values, rows `b·4096 + j` are the latent tokens of batch entry
`b` and rows `(32 + b)·256 + j` its context tokens. Columns `128·i + d` of queries and keys belong to map `i`. -/

noncomputable section

namespace Attn

open Idealize.ShloMosaic
open Cert.KernelIdeal.Pieces (dot norm)

variable (x : ℕ → ℕ → ℕ → ℝ) (l : EReal) (h b i r : ℕ)

/-- Scores of query row `r` with the context keys and with the latent keys, in map `i`. -/
def sC (j : Fin 256) : ℝ := dot (fun d => x h r (128 * i + d)) (fun d => x (8 + h) ((32 + b) * 256 + j) (128 * i + d))
def sL (j : Fin 4096) : ℝ := dot (fun d => x h r (128 * i + d)) (fun d => x (8 + h) (b * 4096 + j) (128 * i + d))

/-- The values' columns, over the context and over the latent tokens. -/
def vC (e : ℕ) (j : Fin 256) : ℝ := x (16 + h) ((32 + b) * 256 + j) e
def vL (e : ℕ) (j : Fin 4096) : ℝ := x (16 + h) (b * 4096 + j) e

/-- A latent query's softmax denominator and numerator, over context and latent keys. -/
def denL : ℝ := den (sC x h b i r) + den (sL x h b i r)
def numL (e : ℕ) : ℝ := num (sC x h b i r) (vC x h b e) + num (sL x h b i r) (vL x h b e)

/-- The difference of the two maps' outputs, for a latent query row. -/
def oL (e : Fin 256) : EReal :=
  ((numL x h b 0 r e / denL x h b 0 r : ℝ) : EReal) - l * ((numL x h b 1 r e / denL x h b 1 r : ℝ) : EReal)

/-- The same for a context query row, which sees the context keys only. -/
def oC (e : Fin 256) : EReal :=
  ((num (sC x h b 0 r) (vC x h b e) / den (sC x h b 0 r) : ℝ) : EReal)
    - l * ((num (sC x h b 1 r) (vC x h b e) / den (sC x h b 1 r) : ℝ) : EReal)

theorem denL_pos : 0 < denL x h b i r := add_pos (den_pos _) (den_pos _)

/-- Head `h`'s output at row `r` of all rows and column `e` of the head. -/
def row (g : Fin 256 → EReal) (e : Fin 256) : EReal :=
  if r < 8192 then norm (oL x l h (r / 4096) r) g e else norm (oC x l h ((r - 8192) / 256) r) g e

/-- 4096 latent keys are four pieces of 1024. -/
theorem den_four (s : Fin 4096 → ℝ) :
    den s = den (fun j : Fin 1024 => s ⟨j, by omega⟩) + den (fun j : Fin 1024 => s ⟨1024 + j, by omega⟩)
      + den (fun j : Fin 1024 => s ⟨2048 + j, by omega⟩) + den (fun j : Fin 1024 => s ⟨3072 + j, by omega⟩) := by
  unfold den
  rw [Fin.sum_univ_tiles 4 1024 rfl (fun k => Real.exp (s k * σ)), Fin.sum_univ_four]
  simp

theorem num_four (s v : Fin 4096 → ℝ) :
    num s v = num (fun j : Fin 1024 => s ⟨j, by omega⟩) (fun j => v ⟨j, by omega⟩)
      + num (fun j : Fin 1024 => s ⟨1024 + j, by omega⟩) (fun j => v ⟨1024 + j, by omega⟩)
      + num (fun j : Fin 1024 => s ⟨2048 + j, by omega⟩) (fun j => v ⟨2048 + j, by omega⟩)
      + num (fun j : Fin 1024 => s ⟨3072 + j, by omega⟩) (fun j => v ⟨3072 + j, by omega⟩) := by
  unfold num
  rw [Fin.sum_univ_tiles 4 1024 rfl (fun k => v k * Real.exp (s k * σ)), Fin.sum_univ_four]
  simp

end Attn

end
-- ==== Proof.Attn.Maps.lean ====
module
public import proofs.«01_k».proof.Proof.Attn.Loads
public import proofs.«01_k».proof.Proof.Attn.Held
public import proofs.«01_k».proof.Proof.Attn.Spec
@[expose] public section
/-! A block of query rows through the two maps: the running triples stand for the plain denominators and numerators. -/
set_option maxRecDepth 16384

noncomputable section

namespace Cert.KernelIdeal.Maps

open Cert.KernelIdeal Cert.KernelIdeal.Gen Idealize.ShloMosaic Idealize.ShloMosaic.TcCoe Idealize.SL.Sem
open Cert.KernelIdeal.Stored Cert.KernelIdeal.Pieces Cert.KernelIdeal.Held Attn

theorem ctx_run (q k : Vec Ideal S1x256x128 .bf16) (v : Vec Ideal S256x256 .bf16) (qr kr : Fin 256 → Fin 128 → ℝ)
    (vr : Fin 256 → Fin 256 → ℝ) (hq : ∀ r d, q (ix3 0 r d) = (qr r d : EReal))
    (hk : ∀ j d, k (ix3 0 j d) = (kr j d : EReal)) (hv : ∀ e j, v (ix2 e j) = (vr e j : EReal)) :
    RunV (Tri.ctx q k v).M (Tri.ctx q k v).L (Tri.ctx q k v).A
      (fun r => den fun j => dot (qr r) (kr j)) (fun r e => num (fun j => dot (qr r) (kr j)) (vr e)) := by
  simp only [Tri.ctx]
  exact first256 q k v qr kr vr hq hk hv

theorem lat_run (q : Vec Ideal S1x256x128 .bf16) (k : Vec Ideal S1x1024x128 .bf16) (v : Vec Ideal S256x1024 .bf16) (T : Tri)
    (qr : Fin 256 → Fin 128 → ℝ) (kr : Fin 1024 → Fin 128 → ℝ) (vr : Fin 256 → Fin 1024 → ℝ) (D : Fin 256 → ℝ)
    (N : Fin 256 → Fin 256 → ℝ) (hq : ∀ r d, q (ix3 0 r d) = (qr r d : EReal))
    (hk : ∀ j d, k (ix3 0 j d) = (kr j d : EReal)) (hv : ∀ e j, v (ix2 e j) = (vr e j : EReal))
    (h : RunV T.M T.L T.A D N) :
    RunV (Tri.lat q k v T).M (Tri.lat q k v T).L (Tri.lat q k v T).A (fun r => D r + den fun j => dot (qr r) (kr j))
      (fun r e => N r e + num (fun j => dot (qr r) (kr j)) (vr e)) :=
  step1024 (k0_pay13 q k) T.M T.L T.A v (fun r j => dot (qr r) (kr j)) vr D N (fun j r => score1024 q k qr kr hq hk j r) hv h

variable (x : ℕ → ℕ → ℕ → ℝ) (h b R₀ : ℕ)
variable (Q Kc : Vec Ideal S1x256x256 .bf16) (K : Vec Ideal S1x4096x256 .bf16) (S : Vec Ideal S256x4352 .bf16)

/-- Where the values of a piece lie in the scratch. -/
theorem vrow_lat (o o' j : ℕ) (ho : o = 256 + o') : vrow b (o + j) = b * 4096 + (o' + j) := by
  unfold vrow; rw [if_neg (by omega)]; omega

theorem vrow_ctx (j : Fin 256) : vrow b j = (32 + b) * 256 + j := by
  unfold vrow; rw [if_pos j.isLt]

section
variable (hQ : ∀ r e : Fin 256, Q (ix3 0 r e) = ((x h (R₀ + r) e : ℝ) : EReal))
  (hKc : ∀ j e : Fin 256, Kc (ix3 0 j e) = ((x (8 + h) ((32 + b) * 256 + j) e : ℝ) : EReal))
  (hS : ∀ (e : Fin 256) (j : Fin 4352), S (ix2 e j) = ((x (16 + h) (vrow b j) e : ℝ) : EReal))
include hQ hKc hS

theorem valsC_real (e u : Fin 256) : valsC S (ix2 e u) = ((vC x h b e u : ℝ) : EReal) := by
  rw [valsC_at, hS, vrow_ctx]; rfl

/-- The context's part of the first map. -/
theorem ctx0_run : RunV (Tri.ctx (half0 Q) (half0 Kc) (valsC S)).M (Tri.ctx (half0 Q) (half0 Kc) (valsC S)).L
      (Tri.ctx (half0 Q) (half0 Kc) (valsC S)).A (fun r => den (sC x h b 0 (R₀ + r)))
      (fun r e => num (sC x h b 0 (R₀ + r)) (vC x h b e)) := by
  have := ctx_run (half0 Q) (half0 Kc) (valsC S) (fun r d => x h (R₀ + r) (128 * 0 + d))
    (fun j d => x (8 + h) ((32 + b) * 256 + j) (128 * 0 + d)) (fun e => vC x h b e)
    (fun r d => by rw [half0_at, hQ]; simp only [Nat.mul_zero, Nat.zero_add])
    (fun j d => by rw [half0_at, hKc]; simp only [Nat.mul_zero, Nat.zero_add])
    (valsC_real x h b R₀ Q Kc S hQ hKc hS)
  exact this

/-- The context's part of the second map. -/
theorem ctx1_run : RunV (Tri.ctx (half1 Q) (half1 Kc) (valsC S)).M (Tri.ctx (half1 Q) (half1 Kc) (valsC S)).L
      (Tri.ctx (half1 Q) (half1 Kc) (valsC S)).A (fun r => den (sC x h b 1 (R₀ + r)))
      (fun r e => num (sC x h b 1 (R₀ + r)) (vC x h b e)) := by
  have := ctx_run (half1 Q) (half1 Kc) (valsC S) (fun r d => x h (R₀ + r) (128 * 1 + d))
    (fun j d => x (8 + h) ((32 + b) * 256 + j) (128 * 1 + d)) (fun e => vC x h b e)
    (fun r d => by rw [half1_at, hQ]) (fun j d => by rw [half1_at, hKc])
    (valsC_real x h b R₀ Q Kc S hQ hKc hS)
  exact this

variable (hK : ∀ (j : Fin 4096) (e : Fin 256), K (ix3 0 j e) = ((x (8 + h) (b * 4096 + j) e : ℝ) : EReal))
include hK

/-- The first map of a latent block. -/
theorem map0_run : RunV (map0 Q Kc K (valsC S) (vals0 S) (vals1 S) (vals2 S) (vals3 S)).M
      (map0 Q Kc K (valsC S) (vals0 S) (vals1 S) (vals2 S) (vals3 S)).L
      (map0 Q Kc K (valsC S) (vals0 S) (vals1 S) (vals2 S) (vals3 S)).A
      (fun r => denL x h b 0 (R₀ + r)) (fun r e => numL x h b 0 (R₀ + r) e) := by
  have q : ∀ (r : Fin 256) (d : Fin 128), half0 Q (ix3 0 r d) = ((x h (R₀ + r) (128 * 0 + d) : ℝ) : EReal) := fun r d => by
    rw [half0_at, hQ]; simp only [Nat.mul_zero, Nat.zero_add]
  have := lat_run (half0 Q) (keys30 K) (vals3 S) _ (fun r d => x h (R₀ + r) (128 * 0 + d))
    (fun j d => x (8 + h) (b * 4096 + (3072 + j)) (128 * 0 + d)) (fun e j => x (16 + h) (b * 4096 + (3072 + j)) e) _ _ q
    (fun j d => by rw [keys30_at, hK]; simp only [Nat.mul_zero, Nat.zero_add])
    (fun e j => by rw [vals3_at, hS, vrow_lat b 3328 3072 j rfl])
    (lat_run (half0 Q) (keys20 K) (vals2 S) _ (fun r d => x h (R₀ + r) (128 * 0 + d))
    (fun j d => x (8 + h) (b * 4096 + (2048 + j)) (128 * 0 + d)) (fun e j => x (16 + h) (b * 4096 + (2048 + j)) e) _ _ q
    (fun j d => by rw [keys20_at, hK]; simp only [Nat.mul_zero, Nat.zero_add])
    (fun e j => by rw [vals2_at, hS, vrow_lat b 2304 2048 j rfl])
    (lat_run (half0 Q) (keys10 K) (vals1 S) _ (fun r d => x h (R₀ + r) (128 * 0 + d))
    (fun j d => x (8 + h) (b * 4096 + (1024 + j)) (128 * 0 + d)) (fun e j => x (16 + h) (b * 4096 + (1024 + j)) e) _ _ q
    (fun j d => by rw [keys10_at, hK]; simp only [Nat.mul_zero, Nat.zero_add])
    (fun e j => by rw [vals1_at, hS, vrow_lat b 1280 1024 j rfl])
    (lat_run (half0 Q) (keys00 K) (vals0 S) _ (fun r d => x h (R₀ + r) (128 * 0 + d))
    (fun j d => x (8 + h) (b * 4096 + j) (128 * 0 + d)) (fun e j => x (16 + h) (b * 4096 + j) e) _ _ q
    (fun j d => by rw [keys00_at, hK]; simp only [Nat.mul_zero, Nat.zero_add])
    (fun e j => by rw [vals0_at, hS, vrow_lat b 256 0 j rfl, Nat.zero_add])
    (ctx0_run x h b R₀ Q Kc S hQ hKc hS))))
  intro r e
  show Run _ _ _ (denL x h b 0 (R₀ + r)) (numL x h b 0 (R₀ + r) e)
  rw [denL, numL, den_four, num_four]
  simp only [← add_assoc]
  have k := this r e
  exact k

/-- The second map of a latent block. -/
theorem map1_run : RunV (map1 Q Kc K (valsC S) (vals0 S) (vals1 S) (vals2 S) (vals3 S)).M
      (map1 Q Kc K (valsC S) (vals0 S) (vals1 S) (vals2 S) (vals3 S)).L
      (map1 Q Kc K (valsC S) (vals0 S) (vals1 S) (vals2 S) (vals3 S)).A
      (fun r => denL x h b 1 (R₀ + r)) (fun r e => numL x h b 1 (R₀ + r) e) := by
  have q : ∀ (r : Fin 256) (d : Fin 128), half1 Q (ix3 0 r d) = ((x h (R₀ + r) (128 * 1 + d) : ℝ) : EReal) := fun r d => by
    rw [half1_at, hQ]
  have := lat_run (half1 Q) (keys31 K) (vals3 S) _ (fun r d => x h (R₀ + r) (128 * 1 + d))
    (fun j d => x (8 + h) (b * 4096 + (3072 + j)) (128 * 1 + d)) (fun e j => x (16 + h) (b * 4096 + (3072 + j)) e) _ _ q
    (fun j d => by rw [keys31_at, hK])
    (fun e j => by rw [vals3_at, hS, vrow_lat b 3328 3072 j rfl])
    (lat_run (half1 Q) (keys21 K) (vals2 S) _ (fun r d => x h (R₀ + r) (128 * 1 + d))
    (fun j d => x (8 + h) (b * 4096 + (2048 + j)) (128 * 1 + d)) (fun e j => x (16 + h) (b * 4096 + (2048 + j)) e) _ _ q
    (fun j d => by rw [keys21_at, hK])
    (fun e j => by rw [vals2_at, hS, vrow_lat b 2304 2048 j rfl])
    (lat_run (half1 Q) (keys11 K) (vals1 S) _ (fun r d => x h (R₀ + r) (128 * 1 + d))
    (fun j d => x (8 + h) (b * 4096 + (1024 + j)) (128 * 1 + d)) (fun e j => x (16 + h) (b * 4096 + (1024 + j)) e) _ _ q
    (fun j d => by rw [keys11_at, hK])
    (fun e j => by rw [vals1_at, hS, vrow_lat b 1280 1024 j rfl])
    (lat_run (half1 Q) (keys01 K) (vals0 S) _ (fun r d => x h (R₀ + r) (128 * 1 + d))
    (fun j d => x (8 + h) (b * 4096 + j) (128 * 1 + d)) (fun e j => x (16 + h) (b * 4096 + j) e) _ _ q
    (fun j d => by rw [keys01_at, hK])
    (fun e j => by rw [vals0_at, hS, vrow_lat b 256 0 j rfl, Nat.zero_add])
    (ctx1_run x h b R₀ Q Kc S hQ hKc hS))))
  intro r e
  show Run _ _ _ (denL x h b 1 (R₀ + r)) (numL x h b 1 (R₀ + r) e)
  rw [denL, numL, den_four, num_four]
  simp only [← add_assoc]
  have k := this r e
  exact k

end

end Cert.KernelIdeal.Maps

end
-- ==== Proof.Attn.Final.lean ====
module
public import proofs.«01_k».proof.Proof.Attn.Maps
@[expose] public section
/-! The kernel's result array, for real projections. -/
set_option maxRecDepth 16384

noncomputable section

namespace Cert.KernelIdeal.Final

open Cert.KernelIdeal Cert.KernelIdeal.Gen Idealize.ShloMosaic Idealize.ShloMosaic.TcCoe Idealize.SL.Sem
open Idealize.ShloMosaic.Pipeline (Dat)
open Cert.KernelIdeal.Stored Cert.KernelIdeal.Pieces Cert.KernelIdeal.Held Cert.KernelIdeal.Blocks Cert.KernelIdeal.Maps Attn

variable (m : (ℓ : Loc nD τ sig) → Buf (Elt Ideal) ℓ) (x : ℕ → ℕ → ℕ → ℝ)

/-- The weight of the second map, from the argument vectors. -/
def lamK (c : Dev nD) : EReal :=
  lam (fun i => m ((c : Thread nD τ).loc main_arg1) (ix2 0 i)) (fun i => m ((c : Thread nD τ).loc main_arg2) (ix2 0 i))
    (fun i => m ((c : Thread nD τ).loc main_arg3) (ix2 0 i)) (fun i => m ((c : Thread nD τ).loc main_arg4) (ix2 0 i))

/-- The gain, from the argument row. -/
def gainK (c : Dev nD) (e : Fin 256) : EReal := m ((c : Thread nD τ).loc main_arg5) (ix2 0 e)

/-- The result array. -/
def G (c : Dev nD) (R : Fin 8704) (C : Fin 2048) : EReal :=
  row x (lamK m c) (C / 256) R (gainK m c) ⟨C % 256, Nat.mod_lt _ (by omega)⟩

theorem qblk_lt (t : Fin cfg0.N) : qblk t.val < 34 := by
  have ht : t.val < 272 := t.isLt
  unfold qblk; split <;> omega

theorem G_at (c : Dev nD) (R : Fin 8704) (C : Fin 2048) (h r : ℕ) (e : Fin 256) (hR : (R : ℕ) = r) (hC : (C : ℕ) = h * 256 + e) :
    G m x c R C = row x (lamK m c) h r (gainK m c) e := by
  have a : (C : ℕ) / 256 = h := by omega
  have b : (⟨(C : ℕ) % 256, Nat.mod_lt _ (by omega)⟩ : Fin 256) = e := Fin.ext (by show (C : ℕ) % 256 = e; omega)
  rw [G, a, b, hR]

section
variable (c : Dev nD) (hx : ∀ (a : Fin 24) (r : Fin 8704) (e : Fin 256),
  m ((c : Thread nD τ).loc main_arg0) (ix3 a r e) = ((x a r e : ℝ) : EReal))
include hx

/-- What a point stores. -/
theorem point (t : Fin cfg0.N) (r e : Fin 256) :
    (outsAt0 m c t.val t.isLt).1 (ix2 r e)
      = row x (lamK m c) (t.val / 17 % 8) (qblk t.val * 256 + r) (gainK m c) e := by
  have ht : t.val < 272 := t.isLt
  have hq := qblk_lt t
  have hQ : ∀ r e : Fin 256, iblk m c 5 t (ix3 0 r e) = ((x (t.val / 17 % 8) (qblk t.val * 256 + r) e : ℝ) : EReal) :=
    fun r e => (q_at m c t r e (by omega)).trans (hx _ _ _)
  have hKc : ∀ j e : Fin 256, iblk m c 8 t (ix3 0 j e) = ((x (8 + t.val / 17 % 8) ((32 + t.val / 136) * 256 + j) e : ℝ) : EReal) :=
    fun j e => (kc_at m c t j e (by omega)).trans (hx _ _ _)
  have hK : ∀ (j : Fin 4096) (e : Fin 256),
      X0_6 m c t (ix3 0 j e) = ((x (8 + t.val / 17 % 8) (t.val / 136 * 4096 + j) e : ℝ) : EReal) :=
    fun j e => (k_at m c t j e (by omega)).trans (hx _ _ _)
  have hS : ∀ (e : Fin 256) (j : Fin 4352), (outsAt0 m c t.val t.isLt).2 (ix2 e j)
      = ((x (16 + t.val / 17 % 8) (vrow (t.val / 136) j) e : ℝ) : EReal) :=
    fun e j => (held m c t.val t.isLt e j (vrow_lt ⟨t.val / 136, by omega⟩ j)).trans (hx _ _ _)
  have hl : lam (fun i => iblk m c 0 t (ix2 0 i)) (fun i => iblk m c 1 t (ix2 0 i)) (fun i => iblk m c 2 t (ix2 0 i))
      (fun i => iblk m c 3 t (ix2 0 i)) = lamK m c := by
    unfold lamK
    simp only [l0_at, l1_at, l2_at, l3_at]
  have hg : (fun e => iblk m c 4 t (ix2 e 0)) = gainK m c := funext fun e => g_at m c t e
  by_cases h1 : t.val % 17 ≤ 15
  · have hb : qblk t.val * 256 + r < 8192 := by unfold qblk; rw [if_pos h1]; omega
    have hb' : (qblk t.val * 256 + r) / 4096 = t.val / 136 := by unfold qblk; rw [if_pos h1]; omega
    rw [stored_lat m c t h1, row, if_pos hb, hb', ← hl, ← hg]
    exact finish _ _ _ _ _ _ _ _ _ _ _ _ _ _ _
      (map0_run x _ _ _ _ _ _ _ hQ hKc hS hK) (map1_run x _ _ _ _ _ _ _ hQ hKc hS hK)
      (fun r => denL_pos x _ _ _ _) (fun r => denL_pos x _ _ _ _) r e
  · have hb : ¬qblk t.val * 256 + r < 8192 := by unfold qblk; rw [if_neg h1]; omega
    have hb' : (qblk t.val * 256 + r - 8192) / 256 = t.val / 136 := by unfold qblk; rw [if_neg h1]; omega
    rw [stored_ctx m c t (by omega), row, if_neg hb, hb', ← hl, ← hg]
    exact finish _ _ _ _ _ _ _ _ _ _ _ _ _ _ _
      (ctx0_run x _ _ _ _ _ _ hQ hKc hS) (ctx1_run x _ _ _ _ _ _ hQ hKc hS)
      (fun r => den_pos _) (fun r => den_pos _) r e

/-- The result array after the run. -/
theorem final : (dats m 0 c).arrAt 10 (cfgs 0).N = fun i => G m x c (i 0) (i 1) := by
  refine (dats m 0 c).arrAt_eq_of_covers 10 _ (by decide +kernel) fun t hf y => ?_
  have e0 : (((cfg0.win 10).blk t).view.emb y 0 : ℕ) = qblk t.val * 256 + (y 0 : ℕ) := by blk_simp [idx t]
  have e1 : (((cfg0.win 10).blk t).view.emb y 1 : ℕ) = t.val / 17 % 8 * 256 + (y 1 : ℕ) := by blk_simp [idx t]
  have hy : (y 1 : ℕ) < 256 := (y 1).isLt
  refine Eq.trans ?_ (G_at m x c _ _ _ _ ⟨y 1, hy⟩ e0 e1).symm
  blk_simp
  rw [after0_10]
  rw [← point m x c hx t ⟨y 0, (y 0).isLt⟩ ⟨y 1, hy⟩]
  exact congrArg _ (eq_ix2 y)

end

end Cert.KernelIdeal.Final

end
-- ==== Proof.Attn.Ref.lean ====
module
public import proofs.«01_k».proof.Proof.Gen.ReferenceIdeal.Read
public import proofs.«01_k».proof.Proof.Attn.Spec
public import Idealize.ShloMosaic.Lib.Pipeline.ValueKit
@[expose] public section
/-! The reference's stages, for real projections. -/
set_option maxRecDepth 16384

noncomputable section

namespace Cert.ReferenceIdeal.Ref

open Cert.ReferenceIdeal Cert.ReferenceIdeal.Gen Cert.ReferenceIdeal.Read Idealize.ShloMosaic Idealize.ShloMosaic.TcCoe
open Attn
open Cert.KernelIdeal.Pieces (dot)

variable (X : FVec Ideal S24x8704x256 .bf16) (x : ℕ → ℕ → ℕ → ℝ)

/-- The scale's word. -/
theorem scale : Ideal.ofBits .f32 0x3DB504F3#32 = ((σ : ℝ) : EReal) := by
  simp [Ideal.ofBits, Ideal.ieee, σ, -EReal.coe_mul]
  norm_num

theorem neg_inf : Ideal.ofBits .f32 0xFF800000#32 = ⊥ := by simp [Ideal.ofBits, Ideal.ieee]

/-- A maximum over the keys, for any scores. -/
theorem max_apply (Y : FVec Ideal S8x2x2x4096x4352 .f32) (h : Fin 8) (b i : Fin 2) (q : Fin 4096) :
    Host.reduce FloatOps.maximumf Y (constant S_ .f32 0xFF800000#32) reducesTo_S8x2x2x4096x4352_S8x2x2x4096_d4 h_S_ (ix4 h b i q)
      = Finset.univ.fold max ⊥ (fun k : Fin 4352 => Y (ix5 h b i q k)) := by
  rw [← neg_inf]
  pointwise []

section
variable (hx : ∀ (a : Fin 24) (r : Fin 8704) (e : Fin 256), X (ix3 a r e) = ((x a r e : ℝ) : EReal))
include hx

/-- An entry whose position is given by numbers. -/
theorem entry (a : Fin 24) (r : Fin 8704) (e : Fin 256) (a' r' e' : ℕ) (ha : (a : ℕ) = a') (hr : (r : ℕ) = r') (he : (e : ℕ) = e') :
    X (ix3 a r e) = ((x a' r' e' : ℝ) : EReal) := by
  subst ha hr he
  exact hx a r e

/-! Queries, keys and values of the latent and of the context rows. -/

theorem q_at (h : Fin 8) (b : Fin 2) (q : Fin 4096) (i : Fin 2) (d : Fin 128) :
    val_main_v19 (F := Ideal) X (ix5 h b q i d) = ((x h (b * 4096 + q) (128 * i + d) : ℝ) : EReal) := by
  pointwise [val_main_v19, val_main_v18, val_main_v17, val_main_v14, val_main_v13, val_main_v0]
  exact entry X x hx _ _ _ _ _ _ (by dsimp only <;> omega) (by dsimp only <;> omega) (by dsimp only <;> omega)

theorem k_at (h : Fin 8) (b : Fin 2) (q : Fin 4096) (i : Fin 2) (d : Fin 128) :
    val_main_v22 (F := Ideal) X (ix5 h b q i d) = ((x (8 + h) (b * 4096 + q) (128 * i + d) : ℝ) : EReal) := by
  pointwise [val_main_v22, val_main_v21, val_main_v20, val_main_v14, val_main_v13, val_main_v0]
  exact entry X x hx _ _ _ _ _ _ (by dsimp only <;> omega) (by dsimp only <;> omega) (by dsimp only <;> omega)

theorem v_at (h : Fin 8) (b : Fin 2) (q : Fin 4096) (e : Fin 256) :
    val_main_v24 (F := Ideal) X (ix4 h b q e) = ((x (16 + h) (b * 4096 + q) e : ℝ) : EReal) := by
  pointwise [val_main_v24, val_main_v23, val_main_v14, val_main_v13, val_main_v0]
  exact entry X x hx _ _ _ _ _ _ (by dsimp only <;> omega) (by dsimp only <;> omega) (by dsimp only <;> omega)

theorem qc_at (h : Fin 8) (b : Fin 2) (q : Fin 256) (i : Fin 2) (d : Fin 128) :
    val_main_v27 (F := Ideal) X (ix5 h b q i d) = ((x h ((32 + b) * 256 + q) (128 * i + d) : ℝ) : EReal) := by
  pointwise [val_main_v27, val_main_v26, val_main_v25, val_main_v16, val_main_v15, val_main_v0]
  exact entry X x hx _ _ _ _ _ _ (by dsimp only <;> omega) (by dsimp only <;> omega) (by dsimp only <;> omega)

theorem kc_at (h : Fin 8) (b : Fin 2) (q : Fin 256) (i : Fin 2) (d : Fin 128) :
    val_main_v30 (F := Ideal) X (ix5 h b q i d) = ((x (8 + h) ((32 + b) * 256 + q) (128 * i + d) : ℝ) : EReal) := by
  pointwise [val_main_v30, val_main_v29, val_main_v28, val_main_v16, val_main_v15, val_main_v0]
  exact entry X x hx _ _ _ _ _ _ (by dsimp only <;> omega) (by dsimp only <;> omega) (by dsimp only <;> omega)

theorem vc_at (h : Fin 8) (b : Fin 2) (q : Fin 256) (e : Fin 256) :
    val_main_v32 (F := Ideal) X (ix4 h b q e) = ((x (16 + h) ((32 + b) * 256 + q) e : ℝ) : EReal) := by
  pointwise [val_main_v32, val_main_v31, val_main_v16, val_main_v15, val_main_v0]
  exact entry X x hx _ _ _ _ _ _ (by dsimp only <;> omega) (by dsimp only <;> omega) (by dsimp only <;> omega)

/-! Scaled scores. -/

theorem s35_at (h : Fin 8) (b : Fin 2) (i : Fin 2) (q : Fin 4096) (j : Fin 256) :
    val_main_v35 (F := Ideal) X (ix5 h b i q j) = ((sC x h b i (b * 4096 + q) j * σ : ℝ) : EReal) := by
  pointwise [val_main_v35, val_main_v33, val_main_v34, val_main_cst_2]
  rw [EReal.coe_mul, ← scale]
  refine congrArg (· * _) ?_
  rw [sC, dot, ← coe_sum]
  exact Finset.sum_congr rfl fun d _ => by rw [q_at X x hx, kc_at X x hx, EReal.coe_mul, mul_comm]

theorem s38_at (h : Fin 8) (b : Fin 2) (i : Fin 2) (q j : Fin 4096) :
    val_main_v38 (F := Ideal) X (ix5 h b i q j) = ((sL x h b i (b * 4096 + q) j * σ : ℝ) : EReal) := by
  pointwise [val_main_v38, val_main_v36, val_main_v37, val_main_cst_3]
  rw [EReal.coe_mul, ← scale]
  refine congrArg (· * _) ?_
  rw [sL, dot, ← coe_sum]
  exact Finset.sum_congr rfl fun d _ => by rw [q_at X x hx, k_at X x hx, EReal.coe_mul, mul_comm]

theorem s84_at (h : Fin 8) (b : Fin 2) (i : Fin 2) (q j : Fin 256) :
    val_main_v84 (F := Ideal) X (ix5 h b i q j) = ((sC x h b i ((32 + b) * 256 + q) j * σ : ℝ) : EReal) := by
  pointwise [val_main_v84, val_main_v82, val_main_v83, val_main_cst_11]
  rw [EReal.coe_mul, ← scale]
  refine congrArg (· * _) ?_
  rw [sC, dot, ← coe_sum]
  exact Finset.sum_congr rfl fun d _ => by rw [qc_at X x hx, kc_at X x hx, EReal.coe_mul, mul_comm]

/-- Context and latent scores side by side. -/
def sAll (h b i r : ℕ) (k : Fin 4352) : ℝ :=
  if hk : (k : ℕ) < 256 then sC x h b i r ⟨k, hk⟩ else sL x h b i r ⟨k - 256, by omega⟩

theorem s39_at (h : Fin 8) (b : Fin 2) (i : Fin 2) (q : Fin 4096) (k : Fin 4352) :
    val_main_v39 (F := Ideal) X (ix5 h b i q k) = ((sAll x h b i (b * 4096 + q) k * σ : ℝ) : EReal) := by
  pointwise [val_main_v39]
  by_cases hk : (k : ℕ) < 256
  · rw [dif_pos hk, s35_at X x hx, sAll, dif_pos hk]
  · rw [dif_neg hk, s38_at X x hx, sAll, dif_neg hk]

end

end Cert.ReferenceIdeal.Ref

end
-- ==== Proof.Attn.RefSoft.lean ====
module
public import proofs.«01_k».proof.Proof.Attn.Ref
@[expose] public section
/-! The reference's softmax weights and its weighted sums, for real projections. -/
set_option maxRecDepth 16384

noncomputable section

namespace Cert.ReferenceIdeal.Ref

open Cert.ReferenceIdeal Cert.ReferenceIdeal.Gen Cert.ReferenceIdeal.Read Idealize.ShloMosaic Idealize.ShloMosaic.TcCoe
open Attn
open Cert.KernelIdeal.Pieces (dot lam norm)

/-- The same maximum over the context keys only. -/
theorem max_apply' (Y : FVec Ideal S8x2x2x256x256 .f32) (h : Fin 8) (b i : Fin 2) (q : Fin 256) :
    Host.reduce FloatOps.maximumf Y (constant S_ .f32 0xFF800000#32) reducesTo_S8x2x2x256x256_S8x2x2x256_d4 h_S_ (ix4 h b i q)
      = Finset.univ.fold max ⊥ (fun k : Fin 256 => Y (ix5 h b i q k)) := by
  rw [← neg_inf]
  pointwise []

/-! ## Pure facts -/

/-- Weighted sums of the difference of two families of softmax weights. -/
theorem weigh {ι : Type} [Fintype ι] (s s' v : ι → ℝ) (D D' l : ℝ) :
    ∑ k, ((((Real.exp (s k * σ) / D - l * (Real.exp (s' k * σ) / D') : ℝ) : EReal)) * (v k : EReal))
      = ((num s v / D - l * (num s' v / D') : ℝ) : EReal) := by
  simp only [← EReal.coe_mul]
  rw [coe_sum]
  congr 1
  unfold num
  rw [Finset.sum_div, Finset.sum_div, Finset.mul_sum, ← Finset.sum_sub_distrib]
  exact Finset.sum_congr rfl fun k _ => by ring

theorem den_all (x : ℕ → ℕ → ℕ → ℝ) (h b i r : ℕ) : ∑ k, Real.exp (sAll x h b i r k * σ) = denL x h b i r := by
  rw [Fin.sum_univ_two_halves 256 4096 rfl (fun k => Real.exp (sAll x h b i r k * σ))]
  unfold denL den
  refine congrArg₂ (· + ·) (Finset.sum_congr rfl fun k _ => ?_) (Finset.sum_congr rfl fun k _ => ?_)
  · rw [sAll, dif_pos (by show (k : ℕ) < 256; omega)]
  · rw [sAll, dif_neg (by show ¬(256 + (k : ℕ)) < 256; omega)]
    simp only [Nat.add_sub_cancel_left]

theorem exp_real (a : ℝ) : Ideal.exp (a : EReal) = ((Real.exp a : ℝ) : EReal) := Ideal.exp_coe a

/-- The weight of the second map is a real number where its vectors are real. -/
theorem lam_real (a b c d : Fin 128 → ℝ) :
    ∃ l : ℝ, lam (fun i => (a i : EReal)) (fun i => (b i : EReal)) (fun i => (c i : EReal)) (fun i => (d i : EReal)) = (l : EReal) := by
  have e : ∃ r : ℝ, Ideal.ofBits .f32 0x3EF1014C#32 = (r : EReal) := by
    unfold Ideal.ofBits Ideal.ieee
    simp only []
    rw [if_neg (by decide), if_neg (by decide)]
    exact ⟨_, rfl⟩
  obtain ⟨r, hr⟩ := e
  refine ⟨Real.exp (∑ i, a i * b i) - Real.exp (∑ i, c i * d i) + r, ?_⟩
  unfold lam
  simp only [← EReal.coe_mul]
  rw [coe_sum, coe_sum, exp_real, exp_real, hr, ← EReal.coe_sub, ← EReal.coe_add]

variable (X : FVec Ideal S24x8704x256 .bf16) (x : ℕ → ℕ → ℕ → ℝ)
variable (A B C D : FVec Ideal S1x128 .f32) (g : FVec Ideal S1x256 .f32)

theorem lam_at (i : S_.Idx) : val_main_v12 (F := Ideal) A B C D i
    = lam (fun i => A (ix2 0 i)) (fun i => B (ix2 0 i)) (fun i => C (ix2 0 i)) (fun i => D (ix2 0 i)) := by
  pointwise [val_main_v12, val_main_v11, val_main_v10, val_main_v9, val_main_v8, val_main_v7, val_main_v6, val_main_v5,
    val_main_v4, val_main_v3, val_main_v2, val_main_v1, val_main_cst, val_main_cst_0, val_main_cst_1]
  rfl

section
variable (hx : ∀ (a : Fin 24) (r : Fin 8704) (e : Fin 256), X (ix3 a r e) = ((x a r e : ℝ) : EReal))
include hx

/-! ## The weights -/

theorem v40_at (h : Fin 8) (b : Fin 2) (i : Fin 2) (q : Fin 4096) :
    ∃ μ : ℝ, val_main_v40 (F := Ideal) X (ix4 h b i q) = (μ : EReal) := by
  unfold val_main_v40 val_main_cst_4
  rw [max_apply]
  simp only [s39_at X x hx]
  exact fold_max_real _

theorem v85_at (h : Fin 8) (b : Fin 2) (i : Fin 2) (q : Fin 256) :
    ∃ μ : ℝ, val_main_v85 (F := Ideal) X (ix4 h b i q) = (μ : EReal) := by
  unfold val_main_v85 val_main_cst_12
  rw [max_apply']
  simp only [s84_at X x hx]
  exact fold_max_real _

/-- The exponentials, given the row's maximum. -/
theorem e46_at (h : Fin 8) (b : Fin 2) (i : Fin 2) (q : Fin 4096) (μ : ℝ)
    (hμ : val_main_v40 (F := Ideal) X (ix4 h b i q) = (μ : EReal)) (k : Fin 4352) :
    val_main_v46 (F := Ideal) X (ix5 h b i q k)
      = Ideal.exp (((sAll x h b i (b * 4096 + q) k * σ : ℝ) : EReal) - (μ : EReal)) := by
  have hi : idx_main_v43 (idx_main_v44 (ix5 h b i q k)) = ix4 h b i q := by
    funext a
    match a with
    | ⟨0, _⟩ => rfl
    | ⟨1, _⟩ => rfl
    | ⟨2, _⟩ => rfl
    | ⟨3, _⟩ => rfl
  have hm : val_main_v42 (F := Ideal) X (ix4 h b i q) = (μ : EReal) := by
    rw [val_main_v42_apply, val_main_v41_apply, hμ, val_main_cst_5_apply]
    show max (Ideal.ofBits .f32 0xFF800000#32) (μ : EReal) = _
    rw [neg_inf, max_eq_right bot_le]
  rw [val_main_v46_apply, val_main_v45_apply, val_main_v44_apply, val_main_v43_apply, hi, hm, s39_at X x hx]
  rfl

theorem p_at (h : Fin 8) (b : Fin 2) (i : Fin 2) (q : Fin 4096) (k : Fin 4352) :
    val_main_v50 (F := Ideal) X (ix5 h b i q k)
      = ((Real.exp (sAll x h b i (b * 4096 + q) k * σ) / denL x h b i (b * 4096 + q) : ℝ) : EReal) := by
  obtain ⟨μ, hμ⟩ := v40_at X x hx h b i q
  have e := e46_at X x hx h b i q μ hμ
  pointwise [val_main_v50, val_main_v49, val_main_v48, val_main_v47, val_main_cst_6]
  simp only [e]
  exact (soft_eq (fun k => sAll x h b i (b * 4096 + q) k * σ) μ k).trans (by rw [den_all])

/-- The same for a context row. -/
theorem e91_at (h : Fin 8) (b : Fin 2) (i : Fin 2) (q : Fin 256) (μ : ℝ)
    (hμ : val_main_v85 (F := Ideal) X (ix4 h b i q) = (μ : EReal)) (k : Fin 256) :
    val_main_v91 (F := Ideal) X (ix5 h b i q k)
      = Ideal.exp (((sC x h b i ((32 + b) * 256 + q) k * σ : ℝ) : EReal) - (μ : EReal)) := by
  have hi : idx_main_v88 (idx_main_v89 (ix5 h b i q k)) = ix4 h b i q := by
    funext a
    match a with
    | ⟨0, _⟩ => rfl
    | ⟨1, _⟩ => rfl
    | ⟨2, _⟩ => rfl
    | ⟨3, _⟩ => rfl
  have hm : val_main_v87 (F := Ideal) X (ix4 h b i q) = (μ : EReal) := by
    rw [val_main_v87_apply, val_main_v86_apply, hμ, val_main_cst_13_apply]
    show max (Ideal.ofBits .f32 0xFF800000#32) (μ : EReal) = _
    rw [neg_inf, max_eq_right bot_le]
  rw [val_main_v91_apply, val_main_v90_apply, val_main_v89_apply, val_main_v88_apply, hi, hm, s84_at X x hx]
  rfl

theorem pc_at (h : Fin 8) (b : Fin 2) (i : Fin 2) (q k : Fin 256) :
    val_main_v95 (F := Ideal) X (ix5 h b i q k)
      = ((Real.exp (sC x h b i ((32 + b) * 256 + q) k * σ) / den (sC x h b i ((32 + b) * 256 + q)) : ℝ) : EReal) := by
  obtain ⟨μ, hμ⟩ := v85_at X x hx h b i q
  have e := e91_at X x hx h b i q μ hμ
  pointwise [val_main_v95, val_main_v94, val_main_v93, val_main_v92, val_main_cst_14]
  simp only [e]
  exact soft_eq (fun k => sC x h b i ((32 + b) * 256 + q) k * σ) μ k

end

end Cert.ReferenceIdeal.Ref

end
-- ==== Proof.Attn.RefA.lean ====
module
public import proofs.«01_k».proof.Proof.Attn.RefSoft
@[expose] public section
/-! The reference's weighted sums, for real projections. -/
set_option maxRecDepth 16384

noncomputable section

namespace Cert.ReferenceIdeal.Ref

open Cert.ReferenceIdeal Cert.ReferenceIdeal.Gen Cert.ReferenceIdeal.Read Idealize.ShloMosaic Idealize.ShloMosaic.TcCoe
open Attn
open Cert.KernelIdeal.Pieces (dot lam norm)

variable (X : FVec Ideal S24x8704x256 .bf16) (x : ℕ → ℕ → ℕ → ℝ)
variable (A B C D : FVec Ideal S1x128 .f32) (l : ℝ)

/-- Where the two maps' weights of a query and a key lie. -/
theorem at0 (h : Fin 8) (b : Fin 2) (q : Fin 4096) (k : Fin 4352) : idx_main_v51 (idx_main_v52 (ix4 h b q k)) = ix5 h b 0 q k := by
  funext a
  match a with
  | ⟨0, _⟩ => exact Fin.ext (by show ((((h : ℕ) * 2 + b) * 4096 + q) * 4352 + k) / 35651584 = (h : ℕ); omega)
  | ⟨1, _⟩ => exact Fin.ext (by show ((((h : ℕ) * 2 + b) * 4096 + q) * 4352 + k) / 17825792 % 2 = (b : ℕ); omega)
  | ⟨2, _⟩ => rfl
  | ⟨3, _⟩ => exact Fin.ext (by show ((((h : ℕ) * 2 + b) * 4096 + q) * 4352 + k) / 4352 % 4096 = (q : ℕ); omega)
  | ⟨4, _⟩ => exact Fin.ext (by show ((((h : ℕ) * 2 + b) * 4096 + q) * 4352 + k) % 4352 = (k : ℕ); omega)

theorem at1 (h : Fin 8) (b : Fin 2) (q : Fin 4096) (k : Fin 4352) : idx_main_v53 (idx_main_v54 (ix4 h b q k)) = ix5 h b 1 q k := by
  funext a
  match a with
  | ⟨0, _⟩ => exact Fin.ext (by show ((((h : ℕ) * 2 + b) * 4096 + q) * 4352 + k) / 35651584 = (h : ℕ); omega)
  | ⟨1, _⟩ => exact Fin.ext (by show ((((h : ℕ) * 2 + b) * 4096 + q) * 4352 + k) / 17825792 % 2 = (b : ℕ); omega)
  | ⟨2, _⟩ => rfl
  | ⟨3, _⟩ => exact Fin.ext (by show ((((h : ℕ) * 2 + b) * 4096 + q) * 4352 + k) / 4352 % 4096 = (q : ℕ); omega)
  | ⟨4, _⟩ => exact Fin.ext (by show ((((h : ℕ) * 2 + b) * 4096 + q) * 4352 + k) % 4352 = (k : ℕ); omega)

theorem sAll_low (h b i r : ℕ) (k : Fin 256) : sAll x h b i r ⟨k, by omega⟩ = sC x h b i r k := by
  rw [sAll, dif_pos k.isLt]

theorem sAll_high (h b i r : ℕ) (k : Fin 4096) : sAll x h b i r ⟨256 + k, by omega⟩ = sL x h b i r k := by
  rw [sAll, dif_neg (by show ¬(256 + (k : ℕ)) < 256; omega)]
  simp only [Nat.add_sub_cancel_left]

section
variable (hx : ∀ (a : Fin 24) (r : Fin 8704) (e : Fin 256), X (ix3 a r e) = ((x a r e : ℝ) : EReal))
variable (hl : lam (fun i => A (ix2 0 i)) (fun i => B (ix2 0 i)) (fun i => C (ix2 0 i)) (fun i => D (ix2 0 i)) = (l : EReal))
include hx hl

/-- The difference of the two maps' weights. -/
theorem a_at (h : Fin 8) (b : Fin 2) (q : Fin 4096) (k : Fin 4352) :
    val_main_v57 (F := Ideal) X A B C D (ix4 h b q k)
      = ((Real.exp (sAll x h b 0 (b * 4096 + q) k * σ) / denL x h b 0 (b * 4096 + q)
          - l * (Real.exp (sAll x h b 1 (b * 4096 + q) k * σ) / denL x h b 1 (b * 4096 + q)) : ℝ) : EReal) := by
  rw [val_main_v57_apply, val_main_v56_apply, val_main_v55_apply, val_main_v54_apply, val_main_v53_apply, val_main_v52_apply,
    val_main_v51_apply, at0, at1, p_at X x hx, p_at X x hx, lam_at, hl]
  rfl

/-- The context keys' part of the two maps' difference applied to the values. -/
theorem ctx_part (h : Fin 8) (b : Fin 2) (q : Fin 4096) (e : Fin 256) :
    val_main_v59 (F := Ideal) X A B C D (ix4 h b q e)
      = ((num (sC x h b 0 (b * 4096 + q)) (vC x h b e) / denL x h b 0 (b * 4096 + q)
          - l * (num (sC x h b 1 (b * 4096 + q)) (vC x h b e) / denL x h b 1 (b * 4096 + q)) : ℝ) : EReal) := by
  have i0 : ∀ k : Fin 256, idx_main_v58 (lidx_main_v59 (ix4 h b q e) k) = ix4 h b q ⟨k, by omega⟩ := fun k => by
    funext a
    match a with
    | ⟨0, _⟩ => rfl
    | ⟨1, _⟩ => rfl
    | ⟨2, _⟩ => rfl
    | ⟨3, _⟩ => rfl
  have i1 : ∀ k : Fin 256, ridx_main_v59 (ix4 h b q e) k = ix4 h b k e := fun k => by
    funext a
    match a with
    | ⟨0, _⟩ => rfl
    | ⟨1, _⟩ => rfl
    | ⟨2, _⟩ => rfl
    | ⟨3, _⟩ => rfl
  rw [val_main_v59_apply, ← weigh]
  refine Finset.sum_congr rfl fun k _ => ?_
  rw [val_main_v58_apply, i0, i1, a_at X x A B C D l hx hl, vc_at X x hx, sAll_low, sAll_low]
  rfl

/-- The latent keys' part. -/
theorem lat_part (h : Fin 8) (b : Fin 2) (q : Fin 4096) (e : Fin 256) :
    val_main_v61 (F := Ideal) X A B C D (ix4 h b q e)
      = ((num (sL x h b 0 (b * 4096 + q)) (vL x h b e) / denL x h b 0 (b * 4096 + q)
          - l * (num (sL x h b 1 (b * 4096 + q)) (vL x h b e) / denL x h b 1 (b * 4096 + q)) : ℝ) : EReal) := by
  have i0 : ∀ k : Fin 4096, idx_main_v60 (lidx_main_v61 (ix4 h b q e) k) = ix4 h b q ⟨256 + k, by omega⟩ := fun k => by
    funext a
    match a with
    | ⟨0, _⟩ => rfl
    | ⟨1, _⟩ => rfl
    | ⟨2, _⟩ => rfl
    | ⟨3, _⟩ => rfl
  have i1 : ∀ k : Fin 4096, ridx_main_v61 (ix4 h b q e) k = ix4 h b k e := fun k => by
    funext a
    match a with
    | ⟨0, _⟩ => rfl
    | ⟨1, _⟩ => rfl
    | ⟨2, _⟩ => rfl
    | ⟨3, _⟩ => rfl
  rw [val_main_v61_apply, ← weigh]
  refine Finset.sum_congr rfl fun k _ => ?_
  rw [val_main_v60_apply, i0, i1, a_at X x A B C D l hx hl, v_at X x hx, sAll_high, sAll_high]
  rfl

/-- The two maps' difference applied to the values, for a latent query. -/
theorem o_at (h : Fin 8) (b : Fin 2) (q : Fin 4096) (e : Fin 256) :
    val_main_v62 (F := Ideal) X A B C D (ix4 h b q e) = oL x (l : EReal) h b (b * 4096 + q) e := by
  rw [val_main_v62_apply, ctx_part X x A B C D l hx hl, lat_part X x A B C D l hx hl, oL, ← EReal.coe_mul, ← EReal.coe_sub]
  refine (EReal.coe_add _ _).symm.trans (congrArg _ ?_)
  unfold numL
  ring

/-- The difference of the two maps' weights, for a context query. -/
theorem ac_at (h : Fin 8) (b : Fin 2) (q k : Fin 256) :
    val_main_v102 (F := Ideal) X A B C D (ix4 h b q k)
      = ((Real.exp (sC x h b 0 ((32 + b) * 256 + q) k * σ) / den (sC x h b 0 ((32 + b) * 256 + q))
          - l * (Real.exp (sC x h b 1 ((32 + b) * 256 + q) k * σ) / den (sC x h b 1 ((32 + b) * 256 + q))) : ℝ) : EReal) := by
  have c0 : idx_main_v96 (idx_main_v97 (ix4 h b q k)) = ix5 h b 0 q k := by
    funext a
    match a with
    | ⟨0, _⟩ => exact Fin.ext (by show ((((h : ℕ) * 2 + b) * 256 + q) * 256 + k) / 131072 = (h : ℕ); omega)
    | ⟨1, _⟩ => exact Fin.ext (by show ((((h : ℕ) * 2 + b) * 256 + q) * 256 + k) / 65536 % 2 = (b : ℕ); omega)
    | ⟨2, _⟩ => rfl
    | ⟨3, _⟩ => exact Fin.ext (by show ((((h : ℕ) * 2 + b) * 256 + q) * 256 + k) / 256 % 256 = (q : ℕ); omega)
    | ⟨4, _⟩ => exact Fin.ext (by show ((((h : ℕ) * 2 + b) * 256 + q) * 256 + k) % 256 = (k : ℕ); omega)
  have c1 : idx_main_v98 (idx_main_v99 (ix4 h b q k)) = ix5 h b 1 q k := by
    funext a
    match a with
    | ⟨0, _⟩ => exact Fin.ext (by show ((((h : ℕ) * 2 + b) * 256 + q) * 256 + k) / 131072 = (h : ℕ); omega)
    | ⟨1, _⟩ => exact Fin.ext (by show ((((h : ℕ) * 2 + b) * 256 + q) * 256 + k) / 65536 % 2 = (b : ℕ); omega)
    | ⟨2, _⟩ => rfl
    | ⟨3, _⟩ => exact Fin.ext (by show ((((h : ℕ) * 2 + b) * 256 + q) * 256 + k) / 256 % 256 = (q : ℕ); omega)
    | ⟨4, _⟩ => exact Fin.ext (by show ((((h : ℕ) * 2 + b) * 256 + q) * 256 + k) % 256 = (k : ℕ); omega)
  rw [val_main_v102_apply, val_main_v101_apply, val_main_v100_apply, val_main_v99_apply, val_main_v98_apply, val_main_v97_apply,
    val_main_v96_apply, c0, c1, pc_at X x hx, pc_at X x hx, lam_at, hl]
  rfl

/-- The two maps' difference applied to the values, for a context query. -/
theorem oc_at (h : Fin 8) (b : Fin 2) (q e : Fin 256) :
    val_main_v103 (F := Ideal) X A B C D (ix4 h b q e) = oC x (l : EReal) h b ((32 + b) * 256 + q) e := by
  have i0 : ∀ k : Fin 256, lidx_main_v103 (ix4 h b q e) k = ix4 h b q k := fun k => by
    funext a
    match a with
    | ⟨0, _⟩ => rfl
    | ⟨1, _⟩ => rfl
    | ⟨2, _⟩ => rfl
    | ⟨3, _⟩ => rfl
  have i1 : ∀ k : Fin 256, ridx_main_v103 (ix4 h b q e) k = ix4 h b k e := fun k => by
    funext a
    match a with
    | ⟨0, _⟩ => rfl
    | ⟨1, _⟩ => rfl
    | ⟨2, _⟩ => rfl
    | ⟨3, _⟩ => rfl
  rw [val_main_v103_apply, oC, ← EReal.coe_mul, ← EReal.coe_sub, ← weigh]
  refine Finset.sum_congr rfl fun k _ => ?_
  rw [i0, i1, ac_at X x A B C D l hx hl, vc_at X x hx]
  rfl

end

end Cert.ReferenceIdeal.Ref

end
-- ==== Proof.Attn.RefOut.lean ====
module
public import proofs.«01_k».proof.Proof.Attn.RefA
@[expose] public section
/-! The reference's result, for real projections. -/
set_option maxRecDepth 16384

noncomputable section

namespace Cert.ReferenceIdeal.Ref

open Cert.ReferenceIdeal Cert.ReferenceIdeal.Gen Cert.ReferenceIdeal.Read Idealize.ShloMosaic Idealize.ShloMosaic.TcCoe
open Attn
open Cert.KernelIdeal.Pieces (dot lam norm)

variable (X : FVec Ideal S24x8704x256 .bf16) (x : ℕ → ℕ → ℕ → ℝ)
variable (A B C D : FVec Ideal S1x128 .f32) (g : FVec Ideal S1x256 .f32) (l : ℝ)

section
variable (hx : ∀ (a : Fin 24) (r : Fin 8704) (e : Fin 256), X (ix3 a r e) = ((x a r e : ℝ) : EReal))
variable (hl : lam (fun i => A (ix2 0 i)) (fun i => B (ix2 0 i)) (fun i => C (ix2 0 i)) (fun i => D (ix2 0 i)) = (l : EReal))
include hx hl

/-- A latent query's sum of squares. -/
theorem ss_at (h : Fin 8) (b : Fin 2) (q : Fin 4096) (j : S8x2x4096.Idx) (hj : j = ix3 h b q) :
    val_main_v64 (F := Ideal) X A B C D j
      = ∑ k, oL x (l : EReal) h b (b * 4096 + q) k * oL x (l : EReal) h b (b * 4096 + q) k := by
  subst hj
  have i0 : ∀ k : Fin 256, idx_main_v64 (ix3 h b q) k = ix4 h b q k := fun k => by
    funext a
    match a with
    | ⟨0, _⟩ => rfl
    | ⟨1, _⟩ => rfl
    | ⟨2, _⟩ => rfl
    | ⟨3, _⟩ => rfl
  rw [val_main_v64_apply, val_main_cst_7_apply]
  refine Eq.trans (congrArg₂ (· + ·) (Ideal.ofBits_zero_f32) (Finset.sum_congr rfl fun k _ => ?_)) (zero_add _)
  rw [i0, val_main_v63_apply, o_at X x A B C D l hx hl]
  rfl

/-- The root-mean-square norm with its gain, for a latent query. -/
theorem y_at (h : Fin 8) (b : Fin 2) (q : Fin 4096) (e : Fin 256) :
    val_main_v78 (F := Ideal) X A B C D g (ix4 h b q e)
      = norm (oL x (l : EReal) h b (b * 4096 + q)) (fun e => g (ix2 0 e)) e := by
  have i0 : idx_main_v65 (idx_main_v71 (ix4 h b q e)) = ix3 h b q := by
    funext a
    match a with
    | ⟨0, _⟩ => rfl
    | ⟨1, _⟩ => rfl
    | ⟨2, _⟩ => rfl
  have i1 : idx_main_v73 (idx_main_v74 (idx_main_v75 (ix4 h b q e))) = ix2 0 e := by
    funext a
    match a with
    | ⟨0, _⟩ => rfl
    | ⟨1, _⟩ => exact Fin.ext (by show (e : ℕ) % 256 = e; omega)
  rw [val_main_v78_apply, val_main_v77_apply, val_main_v76_apply, val_main_v75_apply, val_main_v74_apply, val_main_v73_apply,
    val_main_v72_apply, val_main_v71_apply, val_main_v70_apply, val_main_v69_apply, val_main_v68_apply, val_main_v67_apply,
    val_main_v66_apply, val_main_v65_apply, i1, o_at X x A B C D l hx hl, ss_at X x A B C D l hx hl h b q _ i0]
  exact mul_assoc _ _ _

/-- A context query's sum of squares. -/
theorem ssc_at (h : Fin 8) (b : Fin 2) (q : Fin 256) (j : S8x2x256.Idx) (hj : j = ix3 h b q) :
    val_main_v105 (F := Ideal) X A B C D j
      = ∑ k, oC x (l : EReal) h b ((32 + b) * 256 + q) k * oC x (l : EReal) h b ((32 + b) * 256 + q) k := by
  subst hj
  have i0 : ∀ k : Fin 256, idx_main_v105 (ix3 h b q) k = ix4 h b q k := fun k => by
    funext a
    match a with
    | ⟨0, _⟩ => rfl
    | ⟨1, _⟩ => rfl
    | ⟨2, _⟩ => rfl
    | ⟨3, _⟩ => rfl
  rw [val_main_v105_apply, val_main_cst_15_apply]
  refine Eq.trans (congrArg₂ (· + ·) (Ideal.ofBits_zero_f32) (Finset.sum_congr rfl fun k _ => ?_)) (zero_add _)
  rw [i0, val_main_v104_apply, oc_at X x A B C D l hx hl]
  rfl

/-- The root-mean-square norm with its gain, for a context query. -/
theorem yc_at (h : Fin 8) (b : Fin 2) (q : Fin 256) (e : Fin 256) :
    val_main_v119 (F := Ideal) X A B C D g (ix4 h b q e)
      = norm (oC x (l : EReal) h b ((32 + b) * 256 + q)) (fun e => g (ix2 0 e)) e := by
  have i0 : idx_main_v106 (idx_main_v112 (ix4 h b q e)) = ix3 h b q := by
    funext a
    match a with
    | ⟨0, _⟩ => rfl
    | ⟨1, _⟩ => rfl
    | ⟨2, _⟩ => rfl
  have i1 : idx_main_v114 (idx_main_v115 (idx_main_v116 (ix4 h b q e))) = ix2 0 e := by
    funext a
    match a with
    | ⟨0, _⟩ => rfl
    | ⟨1, _⟩ => exact Fin.ext (by show (e : ℕ) % 256 = e; omega)
  rw [val_main_v119_apply, val_main_v118_apply, val_main_v117_apply, val_main_v116_apply, val_main_v115_apply, val_main_v114_apply,
    val_main_v113_apply, val_main_v112_apply, val_main_v111_apply, val_main_v110_apply, val_main_v109_apply, val_main_v108_apply,
    val_main_v107_apply, val_main_v106_apply, i1, oc_at X x A B C D l hx hl, ssc_at X x A B C D l hx hl h b q _ i0]
  exact mul_assoc _ _ _

/-- The latent rows of the result, before the context rows are put below them. -/
theorem low_at (R : Fin 8192) (Cc : Fin 2048) :
    val_main_v81 (F := Ideal) X A B C D g (ix2 R Cc)
      = norm (oL x (l : EReal) (Cc / 256) (R / 4096) R) (fun e => g (ix2 0 e)) ⟨Cc % 256, Nat.mod_lt _ (by omega)⟩ := by
  have i : idx_main_v79 (idx_main_v80 (ix2 R Cc)) = ix4 ⟨Cc / 256, by omega⟩ ⟨R / 4096, by omega⟩ ⟨R % 4096, by omega⟩
      ⟨Cc % 256, Nat.mod_lt _ (by omega)⟩ := by
    funext a
    match a with
    | ⟨0, _⟩ => exact Fin.ext (by show ((R : ℕ) * 2048 + Cc) / 256 % 8 = (Cc : ℕ) / 256; omega)
    | ⟨1, _⟩ => exact Fin.ext (by show ((R : ℕ) * 2048 + Cc) / 8388608 = (R : ℕ) / 4096; omega)
    | ⟨2, _⟩ => exact Fin.ext (by show ((R : ℕ) * 2048 + Cc) / 2048 % 4096 = (R : ℕ) % 4096; omega)
    | ⟨3, _⟩ => exact Fin.ext (by show ((R : ℕ) * 2048 + Cc) % 256 = (Cc : ℕ) % 256; omega)
  have hr : (R : ℕ) / 4096 * 4096 + (R : ℕ) % 4096 = R := by omega
  rw [val_main_v81_apply, val_main_v80_apply, val_main_v79_apply, i, y_at X x A B C D g l hx hl]
  show norm (oL x (l : EReal) (Cc / 256) (R / 4096) ((R : ℕ) / 4096 * 4096 + (R : ℕ) % 4096)) _ _ = _
  rw [hr]

/-- The context rows. -/
theorem high_at (R : Fin 512) (Cc : Fin 2048) :
    val_main_v122 (F := Ideal) X A B C D g (ix2 R Cc)
      = norm (oC x (l : EReal) (Cc / 256) (R / 256) (8192 + R)) (fun e => g (ix2 0 e)) ⟨Cc % 256, Nat.mod_lt _ (by omega)⟩ := by
  have i : idx_main_v120 (idx_main_v121 (ix2 R Cc)) = ix4 ⟨Cc / 256, by omega⟩ ⟨R / 256, by omega⟩ ⟨R % 256, by omega⟩
      ⟨Cc % 256, Nat.mod_lt _ (by omega)⟩ := by
    funext a
    match a with
    | ⟨0, _⟩ => exact Fin.ext (by show ((R : ℕ) * 2048 + Cc) / 256 % 8 = (Cc : ℕ) / 256; omega)
    | ⟨1, _⟩ => exact Fin.ext (by show ((R : ℕ) * 2048 + Cc) / 524288 = (R : ℕ) / 256; omega)
    | ⟨2, _⟩ => exact Fin.ext (by show ((R : ℕ) * 2048 + Cc) / 2048 % 256 = (R : ℕ) % 256; omega)
    | ⟨3, _⟩ => exact Fin.ext (by show ((R : ℕ) * 2048 + Cc) % 256 = (Cc : ℕ) % 256; omega)
  have hr : (32 + (R : ℕ) / 256) * 256 + (R : ℕ) % 256 = 8192 + R := by omega
  rw [val_main_v122_apply, val_main_v121_apply, val_main_v120_apply, i, yc_at X x A B C D g l hx hl]
  show norm (oC x (l : EReal) (Cc / 256) (R / 256) ((32 + (R : ℕ) / 256) * 256 + (R : ℕ) % 256)) _ _ = _
  rw [hr]

omit hx hl in
/-- Two arrays put one below the other. -/
theorem below (Y : FVec Ideal S8192x2048 .bf16) (Z : FVec Ideal S512x2048 .bf16) (R : Fin 8704) (Cc : Fin 2048) :
    concatenate S8704x2048 0 [⟨S8192x2048, Y⟩, ⟨S512x2048, Z⟩] concatenates_S8192x2048_S512x2048_S8704x2048_d0 (ix2 R Cc) = if h : (R : ℕ) < 8192 then Y (ix2 ⟨R, h⟩ Cc) else Z (ix2 ⟨R - 8192, by omega⟩ Cc) := by
  pointwise []

/-- The result. -/
theorem out_at (R : Fin 8704) (Cc : Fin 2048) :
    val_main_v123 (F := Ideal) X A B C D g (ix2 R Cc)
      = row x (l : EReal) (Cc / 256) R (fun e => g (ix2 0 e)) ⟨Cc % 256, Nat.mod_lt _ (by omega)⟩ := by
  unfold val_main_v123
  rw [below, row]
  by_cases h : (R : ℕ) < 8192
  · rw [dif_pos h, if_pos h, low_at X x A B C D g l hx hl]
  · rw [dif_neg h, if_neg h, high_at X x A B C D g l hx hl]
    show norm (oC x (l : EReal) (Cc / 256) ((R - 8192) / 256) (8192 + (R - 8192))) _ _ = _
    rw [show 8192 + ((R : ℕ) - 8192) = R by omega]

end

end Cert.ReferenceIdeal.Ref

end
-- ==== Proof.Attn.Finite.lean ====
module
public import proofs.«01_k».proof.Proof.Gen.Pre_finite
public import proofs.«01_k».proof.Proof.Attn.Ref
@[expose] public section
/-! What the precondition says: every entry of the projections and of the four vectors is a real number. -/

noncomputable section

namespace Attn

open Cert.Pre_finite Cert.Pre_finite.Gen Idealize.ShloMosaic

theorem pos_inf : Ideal.ofBits .f32 0x7F800000#32 = ⊤ := by simp [Ideal.ofBits, Ideal.ieee]

/-- A number whose magnitude is below infinity is real. -/
theorem real_of_test (a : EReal) (h : Ideal.cmp .olt (max a (-a)) (Ideal.ofBits .f32 0x7F800000#32) = 1#1) :
    a = ((a.toReal : ℝ) : EReal) := by
  rw [pos_inf] at h
  have hlt : max a (-a) < ⊤ := by
    by_contra hn
    simp [Ideal.cmp, hn] at h
  refine (EReal.coe_toReal ?_ ?_).symm
  · rintro rfl; simp at hlt
  · rintro rfl; simp at hlt

variable (X : FVec Ideal S24x8704x256 .bf16) (A B C D : FVec Ideal S1x128 .f32) (g : FVec Ideal S1x256 .f32)

theorem finite_x (h : (fn (F := Ideal) X A B C D g).1 = fun _ => 1#1) (i : S24x8704x256.Idx) : X i = (((X i).toReal : ℝ) : EReal) :=
  real_of_test _ (congrFun h i)

theorem finite_a (h : (fn (F := Ideal) X A B C D g).2.1 = fun _ => 1#1) (i : S1x128.Idx) : A i = (((A i).toReal : ℝ) : EReal) :=
  real_of_test _ (congrFun h i)

theorem finite_b (h : (fn (F := Ideal) X A B C D g).2.2.1 = fun _ => 1#1) (i : S1x128.Idx) : B i = (((B i).toReal : ℝ) : EReal) :=
  real_of_test _ (congrFun h i)

theorem finite_c (h : (fn (F := Ideal) X A B C D g).2.2.2.1 = fun _ => 1#1) (i : S1x128.Idx) : C i = (((C i).toReal : ℝ) : EReal) :=
  real_of_test _ (congrFun h i)

theorem finite_d (h : (fn (F := Ideal) X A B C D g).2.2.2.2 = fun _ => 1#1) (i : S1x128.Idx) : D i = (((D i).toReal : ℝ) : EReal) :=
  real_of_test _ (congrFun h i)

/-- The real numbers of an array of real entries, by position. -/
def table (i j k : ℕ) : ℝ :=
  if h : i < 24 ∧ j < 8704 ∧ k < 256 then (X (ix3 ⟨i, h.1⟩ ⟨j, h.2.1⟩ ⟨k, h.2.2⟩)).toReal else 0

theorem table_at (h : (fn (F := Ideal) X A B C D g).1 = fun _ => 1#1) (a : Fin 24) (r : Fin 8704) (e : Fin 256) :
    X (ix3 a r e) = ((table X a r e : ℝ) : EReal) := by
  rw [table, dif_pos ⟨a.isLt, r.isLt, e.isLt⟩]
  exact finite_x X A B C D g h _

end Attn

end
-- ==== Proof.Attn.Claims.lean ====
module
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Attn.Final
public import proofs.«01_k».proof.Proof.Attn.RefOut
public import proofs.«01_k».proof.Proof.Attn.Finite
public import Idealize.ShloMosaic.Lib.Claim
public import Idealize.ShloMosaic.Lib.Quiescent
@[expose] public section
/-! The claims of the differential attention. -/

noncomputable section

open Idealize.ShloMosaic Idealize.ShloMosaic.TcCoe Idealize.SL.Sem
open Cert.KernelIdeal.Pieces (lam norm)
open Attn

namespace Cert.ReferenceIdeal.Ref

open Cert.ReferenceIdeal Cert.ReferenceIdeal.Gen Cert.ReferenceIdeal.Read Attn

/-- The reference's result array, for real projections and a real weight of the second map. -/
theorem result (X : FVec Ideal S24x8704x256 .bf16) (A B C D : FVec Ideal S1x128 .f32) (g : FVec Ideal S1x256 .f32)
    (x : ℕ → ℕ → ℕ → ℝ) (hx : ∀ (a : Fin 24) (r : Fin 8704) (e : Fin 256), X (ix3 a r e) = ((x a r e : ℝ) : EReal))
    (hA : ∀ i, A i = (((A i).toReal : ℝ) : EReal)) (hB : ∀ i, B i = (((B i).toReal : ℝ) : EReal))
    (hC : ∀ i, C i = (((C i).toReal : ℝ) : EReal)) (hD : ∀ i, D i = (((D i).toReal : ℝ) : EReal)) :
    val_main_v123 (F := Ideal) X A B C D g
      = fun i => row x (lam (fun i => A (ix2 0 i)) (fun i => B (ix2 0 i)) (fun i => C (ix2 0 i)) (fun i => D (ix2 0 i)))
          ((i 1 : ℕ) / 256) (i 0) (fun e => g (ix2 0 e)) ⟨(i 1 : ℕ) % 256, Nat.mod_lt _ (by omega)⟩ := by
  obtain ⟨l, hl⟩ := lam_real (fun i => (A (ix2 0 i)).toReal) (fun i => (B (ix2 0 i)).toReal) (fun i => (C (ix2 0 i)).toReal)
    (fun i => (D (ix2 0 i)).toReal)
  simp only [← hA, ← hB, ← hC, ← hD] at hl
  funext i
  rw [hl, eq_ix2 i]
  exact out_at X x A B C D g l hx hl (i 0) (i 1)

end Cert.ReferenceIdeal.Ref

namespace Cert.Proof.AttnClaims

theorem frame_p : Cert.quiescent_Kernel := fun m ρ _ => Cert.Kernel.Gen.frame m ρ
theorem frame_pi : Cert.quiescent_KernelIdeal := fun m ρ _ => Cert.KernelIdeal.Gen.frame m ρ
theorem frame_pi' : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri' : Cert.quiescent_ReferenceIdeal_pre_finite := fun m ρ _ => frame_ri m ρ trivial

/-- The named constant is the scale in base two. -/
theorem preserves : Cert.preserves_Kernel_KernelIdeal :=
  IdealRules.named_const.statement Cert.KernelIdeal.κ "expo" .f32 _ _ rfl

/-- The kernel's attention and the reference's are one function of real arguments. -/
theorem algebraic : Cert.algebraic_KernelIdeal_ReferenceIdeal_pre_finite := by
  pair_intro
  · run_from Cert.KernelIdeal.Gen.run_main m g
  · run_from Cert.ReferenceIdeal.Value.run m' g'
    obtain ⟨a0, a1, a2, a3, a4, a5⟩ := hagree c
    obtain ⟨p0, p1, p2, p3, p4⟩ := hpre c
    refine (Cert.ReferenceIdeal.Read.val_main_v123_eq (StableHlo.launchContents m' c)).trans ?_
    show Cert.ReferenceIdeal.Read.val_main_v123 (F := Ideal) (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4))
      (m' ((c.tc : Thread _ _).loc Cert.ReferenceIdeal.main_arg5)) = _
    rw [a0, a1, a2, a3, a4, a5]
    refine (Cert.ReferenceIdeal.Ref.result _ _ _ _ _ _ _ (table_at _ _ _ _ _ _ p0) (finite_a _ _ _ _ _ _ p1)
      (finite_b _ _ _ _ _ _ p2) (finite_c _ _ _ _ _ _ p3) (finite_d _ _ _ _ _ _ p4)).trans ?_
    exact (Cert.KernelIdeal.Final.final m _ c (table_at _ _ _ _ _ _ p0)).symm

end Cert.Proof.AttnClaims

end
-- ==== Proof.Ffn.Value.lean ====
/-
What the gated input call computes: the hidden units from both halves of the input weights, and three weight arrays that
later calls read.

Grid point `t` of 44 is row block `t % 4` of 2176 rows at column block `t / 4` of 512 columns.
-/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Ffn

open Idealize.ShloMosaic

/-- One hidden unit of one row: `silu` of the gate's product times the other product. -/
def hidden (h : FVec Ideal ⟨2, ![8704, 2048]⟩ .bf16) (w : FVec Ideal ⟨3, ![2, 2048, 5632]⟩ .bf16) (R : Fin 8704)
    (C : Fin 5632) : EReal :=
  (∑ k : Fin 2048, h (ix2 R k) * w (ix3 0 k C)) * Ideal.logistic (∑ k : Fin 2048, h (ix2 R k) * w (ix3 0 k C))
    * ∑ k : Fin 2048, h (ix2 R k) * w (ix3 1 k C)

/-- The output weights with rows of zeros below. -/
def padded (w : FVec Ideal ⟨4, ![4, 2, 5504, 2048]⟩ .f32) (R : Fin 5632) (C : Fin 2048) : EReal :=
  if h : (R : ℕ) < 5504 then w (ix4 0 0 ⟨R, h⟩ C) else 0

/-- The next input weights in two halves, each with columns of zeros. -/
def halves (w : FVec Ideal ⟨4, ![4, 2, 2048, 11008]⟩ .f32) (p : Fin 2) (R : Fin 2048) (C : Fin 5632) : EReal :=
  if h : (C : ℕ) < 5504 then w (ix4 0 1 R ⟨p * 5504 + C, by omega⟩) else 0

end Ffn

namespace Cert.Kernel2Ideal.Val

open Cert.Kernel2Ideal Cert.Kernel2Ideal.Gen Idealize.ShloMosaic Idealize.ShloMosaic.TcCoe Idealize.SL.Sem
open Idealize.ShloMosaic.Pipeline (Dat)

/-! ## The stored pieces, over the blocks read -/

theorem pay2_at (v0 : Vec Ideal S2176x2048 .bf16) (v1 v4 : Vec Ideal S1x2048x256 .bf16) (r : Fin 2176) (e : Fin 256) :
    k0_pay2 v0 v1 v4 (ix2 r e)
      = (∑ k : Fin 2048, v0 (ix2 r k) * v1 (ix3 0 k e)) * Ideal.logistic (∑ k : Fin 2048, v0 (ix2 r k) * v1 (ix3 0 k e))
          * ∑ k : Fin 2048, v0 (ix2 r k) * v4 (ix3 0 k e) := by
  pointwise [k0_pay2]

theorem pay3_at (v0 : Vec Ideal S2176x2048 .bf16) (v1 v4 : Vec Ideal S1x2048x256 .bf16) (r : Fin 2176) (e : Fin 256) :
    k0_pay3 v0 v1 v4 (ix2 r e)
      = (∑ k : Fin 2048, v0 (ix2 r k) * v1 (ix3 0 k e)) * Ideal.logistic (∑ k : Fin 2048, v0 (ix2 r k) * v1 (ix3 0 k e))
          * ∑ k : Fin 2048, v0 (ix2 r k) * v4 (ix3 0 k e) := by
  pointwise [k0_pay3]

variable (m : (ℓ : Loc nD τ sig) → Buf (Elt Ideal) ℓ)

theorem idx : ∀ t : Fin cfg0.N, win0_0.index t = ![t.val % 4, 0] ∧ win0_1.index t = ![0, 0, t.val / 4]
    ∧ win0_2.index t = ![1, 0, t.val / 4] ∧ win0_3.index t = ![0, 0, min t.val 42, 0]
    ∧ win0_4.index t = ![0, min t.val 31, 0] ∧ win0_5.index t = ![0, 1, min t.val 31, 0]
    ∧ win0_6.index t = ![t.val % 4, t.val / 4] ∧ win0_7.index t = ![t.val, 0]
    ∧ win0_8.index t = ![min t.val 31, 0] ∧ win0_9.index t = ![0, min t.val 31, 0] :=
  (by decide +kernel : ∀ t : Fin grid0.N, _)

/-! ## The hidden units -/

/-- A stored unit, from the values of the blocks read. -/
theorem unit_of (v0 : Vec Ideal S2176x2048 .bf16) (v1 v4 : Vec Ideal S1x2048x256 .bf16) (h : FVec Ideal S8704x2048 .bf16)
    (w : FVec Ideal S2x2048x5632 .bf16) (R : Fin 8704) (C : Fin 5632) (r : Fin 2176) (e : Fin 256)
    (a : ∀ k : Fin 2048, v0 (ix2 r k) = h (ix2 R k)) (b : ∀ k : Fin 2048, v1 (ix3 0 k e) = w (ix3 0 k C))
    (d : ∀ k : Fin 2048, v4 (ix3 0 k e) = w (ix3 1 k C)) :
    (∑ k : Fin 2048, v0 (ix2 r k) * v1 (ix3 0 k e)) * Ideal.logistic (∑ k : Fin 2048, v0 (ix2 r k) * v1 (ix3 0 k e))
      * ∑ k : Fin 2048, v0 (ix2 r k) * v4 (ix3 0 k e) = Ffn.hidden h w R C := by
  simp only [Ffn.hidden, a, b, d]

/-- What a point stores of the hidden units. -/
theorem hidden_point (c : Dev nD) (t : Fin cfg0.N) (y : S2176x512.Idx) (R : Fin 8704) (C : Fin 5632)
    (hR : (R : ℕ) = t.val % 4 * 2176 + (y 0 : ℕ)) (hC : (C : ℕ) = t.val / 4 * 512 + (y 1 : ℕ)) :
    (outsAt0 m c t).1 y
      = Ffn.hidden (m ((c : Thread nD τ).loc main_arg0)) (m ((c : Thread nD τ).loc main_arg1)) R C := by
  unfold outsAt0
  frame_out
  canon_tiles x h
  · rw [eq_ix2 x]
    refine (pay3_at _ _ _ ⟨x 0, x0_lt⟩ ⟨x 1, x1_lt⟩).trans (unit_of _ _ _ _ _ R C _ _ (fun k => ?_) (fun k => ?_) fun k => ?_)
    all_goals blk_point [iblk, V, idx t]
  · rw [eq_ix2 x]
    refine (pay2_at _ _ _ ⟨x 0, x0_lt⟩ ⟨x 1, x1_lt⟩).trans (unit_of _ _ _ _ _ R C _ _ (fun k => ?_) (fun k => ?_) fun k => ?_)
    all_goals blk_point [iblk, V, idx t]

theorem hidden_final (c : Dev nD) : (dats m 0 c).arrAt 6 (cfgs 0).N
    = fun i => Ffn.hidden (m ((c : Thread nD τ).loc main_arg0)) (m ((c : Thread nD τ).loc main_arg1)) (i 0) (i 1) := by
  refine (dats m 0 c).arrAt_eq_of_covers 6 _ (by decide +kernel) fun t hf y => ?_
  have e0 : (((cfg0.win 6).blk t).view.emb y 0 : ℕ) = t.val % 4 * 2176 + (y 0 : ℕ) := by blk_simp [idx t]
  have e1 : (((cfg0.win 6).blk t).view.emb y 1 : ℕ) = t.val / 4 * 512 + (y 1 : ℕ) := by blk_simp [idx t]
  refine Eq.trans ?_ (hidden_point m c t y _ _ e0 e1)
  blk_simp
  rw [after0_6]

/-! ## The weights -/

theorem pay4_at (b : BitVec 32) (v : Vec Ideal S1x1x128x2048 .f32) (r : Fin 128) (e : Fin 2048) :
    k0_pay4 b v (ix2 r e) = if Scalar.cmpi .slt b 43#32 = 1#1 then v (ix4 0 0 r e) else (0 : EReal) := by
  pointwise [k0_pay4]
  rfl

/-- Only the last row block of the output weights lies past the argument's rows. -/
theorem past : ∀ t : Fin cfg0.N, Scalar.cmpi .slt (Scalar.minsi
        (Scalar.addi (Scalar.addi (0#32) (Scalar.muli (BitVec.ofNat 32 ↑(grid0.coords t 0)) 4#32))
          (Scalar.muli (BitVec.ofNat 32 ↑(grid0.coords t 1)) 1#32)) 43#32) 43#32 = 1#1 ↔ t.val < 43 :=
  (by decide +kernel : ∀ t : Fin grid0.N, _)

theorem out_at (c : Dev nD) (t : Fin cfg0.N) (r : Fin 128) (e : Fin 2048) (h : t.val < 43) (hr : t.val * 128 + r < 5504) :
    iblk m c 3 t (ix4 0 0 r e)
      = m ((c : Thread nD τ).loc main_arg2) (ix4 (0 : Fin 4) (0 : Fin 2) (⟨t.val * 128 + r, hr⟩ : Fin 5504) e) := by
  blk_point [iblk, V, idx t]

theorem out_point (c : Dev nD) (t : Fin cfg0.N) (r : Fin 128) (e : Fin 2048) (R : Fin 5632) (hR : (R : ℕ) = t.val * 128 + r) :
    (outsAt0 m c t).2.1 (ix2 r e) = Ffn.padded (m ((c : Thread nD τ).loc main_arg2)) R e := by
  have ht : t.val < 44 := t.isLt
  unfold outsAt0
  frame_out
  rw [pay4_at, Ffn.padded]
  by_cases h : t.val < 43
  · rw [if_pos ((past t).2 h), dif_pos (by omega)]
    rw [out_at m c t r e h (by omega)]; congr 2; exact Fin.ext hR.symm
  · rw [if_neg (fun a => h ((past t).1 a)), dif_neg (by omega)]

theorem out_final (c : Dev nD) : (dats m 0 c).arrAt 7 (cfgs 0).N
    = fun i => Ffn.padded (m ((c : Thread nD τ).loc main_arg2)) (i 0) (i 1) := by
  refine (dats m 0 c).arrAt_eq_of_covers 7 _ (by decide +kernel) fun t hf y => ?_
  have e0 : (((cfg0.win 7).blk t).view.emb y 0 : ℕ) = t.val * 128 + (y 0 : ℕ) := by blk_simp [idx t]
  have e1 : ((cfg0.win 7).blk t).view.emb y 1 = (⟨y 1, (y 1).isLt⟩ : Fin 2048) := Fin.ext (by blk_simp [idx t])
  rw [e1]
  refine Eq.trans ?_ (out_point m c t ⟨y 0, (y 0).isLt⟩ ⟨y 1, (y 1).isLt⟩ _ e0)
  blk_simp
  rw [after0_7]
  exact congrArg _ (eq_ix2 y)

theorem pay5_at (v : Vec Ideal S1x64x3072 .f32) (r : Fin 64) (e : Fin 3072) : k0_pay5 v (ix2 r e) = v (ix3 0 r e) := by
  pointwise [k0_pay5]

theorem mix_point (c : Dev nD) (t : Fin cfg0.N) (r : Fin 64) (e : Fin 3072) (R : Fin 2048)
    (hR : (R : ℕ) = min t.val 31 * 64 + r) :
    (outsAt0 m c t).2.2.1 (ix2 r e) = m ((c : Thread nD τ).loc main_arg3) (ix3 (0 : Fin 2) R e) := by
  unfold outsAt0
  frame_out
  rw [pay5_at]
  blk_point [iblk, V, idx t]

theorem mix_final (c : Dev nD) : (dats m 0 c).arrAt 8 (cfgs 0).N
    = fun i => m ((c : Thread nD τ).loc main_arg3) (ix3 (0 : Fin 2) (i 0) (i 1)) := by
  refine (dats m 0 c).arrAt_eq_of_covers 8 _ (by decide +kernel) fun t hf y => ?_
  have e0 : (((cfg0.win 8).blk t).view.emb y 0 : ℕ) = min t.val 31 * 64 + (y 0 : ℕ) := by blk_simp [idx t]
  have e1 : ((cfg0.win 8).blk t).view.emb y 1 = (⟨y 1, (y 1).isLt⟩ : Fin 3072) := Fin.ext (by blk_simp [idx t])
  rw [e1]
  refine Eq.trans ?_ (mix_point m c t ⟨y 0, (y 0).isLt⟩ ⟨y 1, (y 1).isLt⟩ _ e0)
  blk_simp
  rw [after0_8]
  exact congrArg _ (eq_ix2 y)

theorem pay8_at (v : Vec Ideal S1x1x64x5504 .f32) (x : S1x64x5504.Idx) (r : Fin 64) (e : Fin 5504) (h1 : (x 1 : ℕ) = r)
    (h2 : (x 2 : ℕ) = e) : k0_pay8 v x = v (ix4 0 0 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  pointwise [k0_pay8]

theorem pay6_at (v : Vec Ideal S1x1x64x5504 .f32) (x : S1x64x5504.Idx) (r : Fin 64) (e : Fin 5504) (h1 : (x 1 : ℕ) = r)
    (h2 : (x 2 : ℕ) = e) : k0_pay6 v x = v (ix4 0 0 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  pointwise [k0_pay6]

theorem pay7_at (i : S1x64x128.Idx) : k0_pay7 (F := Ideal) i = (0 : EReal) := by
  pointwise [k0_pay7]

theorem pay1_at (i : S1x64x128.Idx) : k0_pay1 (F := Ideal) i = (0 : EReal) := by
  pointwise [k0_pay1]

theorem halves_point (c : Dev nD) (t : Fin cfg0.N) (p : Fin 2) (r : Fin 64) (e : Fin 5632) (R : Fin 2048)
    (hR : (R : ℕ) = min t.val 31 * 64 + r) :
    (outsAt0 m c t).2.2.2 (ix3 p r e) = Ffn.halves (m ((c : Thread nD τ).loc main_arg4)) p R e := by
  unfold outsAt0
  frame_out
  canon_tiles x h using View.cover_of_tiledBy _ ![1, 64, 128] (by sl_kernel_rfl) _
  all_goals unfold Ffn.halves
  · have e2 : (e : ℕ) = 5504 + (x 2 : ℕ) := h2
    rw [dif_neg (by omega)]
    exact pay1_at x
  · have e0 : (p : ℕ) = 1 + (x 0 : ℕ) := h0
    have e1 : (r : ℕ) = (x 1 : ℕ) := h1
    have e2 : (e : ℕ) = (x 2 : ℕ) := h2
    rw [dif_pos (by omega)]
    refine (pay8_at _ x r ⟨x 2, x2_lt⟩ h1.symm rfl).trans ?_
    blk_point [iblk, V, idx t]
  · have e2 : (e : ℕ) = 5504 + (x 2 : ℕ) := h2
    rw [dif_neg (by omega)]
    exact pay7_at x
  · have e0 : (p : ℕ) = (x 0 : ℕ) := h0
    have e1 : (r : ℕ) = (x 1 : ℕ) := h1
    have e2 : (e : ℕ) = (x 2 : ℕ) := h2
    rw [dif_pos (by omega)]
    refine (pay6_at _ x r ⟨x 2, x2_lt⟩ h1.symm rfl).trans ?_
    blk_point [iblk, V, idx t]

theorem halves_final (c : Dev nD) : (dats m 0 c).arrAt 9 (cfgs 0).N
    = fun i => Ffn.halves (m ((c : Thread nD τ).loc main_arg4)) (i 0) (i 1) (i 2) := by
  refine (dats m 0 c).arrAt_eq_of_covers 9 _ (by decide +kernel) fun t hf y => ?_
  have e0 : ((cfg0.win 9).blk t).view.emb y 0 = (⟨y 0, (y 0).isLt⟩ : Fin 2) := Fin.ext (by blk_simp [idx t])
  have e1 : (((cfg0.win 9).blk t).view.emb y 1 : ℕ) = min t.val 31 * 64 + (y 1 : ℕ) := by blk_simp [idx t]
  have e2 : ((cfg0.win 9).blk t).view.emb y 2 = (⟨y 2, (y 2).isLt⟩ : Fin 5632) := Fin.ext (by blk_simp [idx t])
  rw [e0, e2]
  refine Eq.trans ?_ (halves_point m c t ⟨y 0, (y 0).isLt⟩ ⟨y 1, (y 1).isLt⟩ ⟨y 2, (y 2).isLt⟩ _ e1)
  blk_simp
  rw [after0_9]
  exact congrArg _ (eq_ix3 y)

end Cert.Kernel2Ideal.Val

end
-- ==== Proof.Ffn.Ref.lean ====
/- What the reference of the gated input call computes, read at an index. -/
module

public import proofs.«01_k».proof.Proof.Gen.Reference2Ideal.Read
public import proofs.«01_k».proof.Proof.Ffn.Value
public import Idealize.ShloMosaic.Lib.Pointwise

@[expose] public section

set_option maxRecDepth 16384

noncomputable section

namespace Cert.Reference2Ideal.Ref

open Cert.Reference2Ideal Cert.Reference2Ideal.Gen Cert.Reference2Ideal.Read Idealize.ShloMosaic Idealize.ShloMosaic.TcCoe

/-- The gate's product. -/
theorem gate_at (h : FVec Ideal S8704x2048 .bf16) (w : FVec Ideal S2x2048x5632 .bf16) (R : Fin 8704) (C : Fin 5632) :
    val_main_v4 (F := Ideal) h w (ix2 R C) = ∑ k : Fin 2048, h (ix2 R k) * w (ix3 0 k C) := by
  rw [val_main_v4_apply]
  refine Finset.sum_congr rfl fun k _ => ?_
  rw [val_main_v3_apply, val_main_v2_apply, val_main_v1_apply]
  refine congrArg₂ (fun a b : EReal => a * b) (congrArg h ?_) (congrArg w ?_)
  · funext a
    match a with
    | ⟨0, _⟩ => rfl
    | ⟨1, _⟩ => rfl
  · funext a
    match a with
    | ⟨0, _⟩ => rfl
    | ⟨1, _⟩ => exact Fin.ext (by show ((k : ℕ) * 5632 + (C : ℕ)) / 5632 % 2048 = k; omega)
    | ⟨2, _⟩ => exact Fin.ext (by show ((k : ℕ) * 5632 + (C : ℕ)) % 5632 = C; omega)

/-- The other product. -/
theorem up_at (h : FVec Ideal S8704x2048 .bf16) (w : FVec Ideal S2x2048x5632 .bf16) (R : Fin 8704) (C : Fin 5632) :
    val_main_v9 (F := Ideal) h w (ix2 R C) = ∑ k : Fin 2048, h (ix2 R k) * w (ix3 1 k C) := by
  rw [val_main_v9_apply]
  refine Finset.sum_congr rfl fun k _ => ?_
  rw [val_main_v8_apply, val_main_v7_apply, val_main_v6_apply]
  refine congrArg₂ (fun a b : EReal => a * b) (congrArg h ?_) (congrArg w ?_)
  · funext a
    match a with
    | ⟨0, _⟩ => rfl
    | ⟨1, _⟩ => rfl
  · funext a
    match a with
    | ⟨0, _⟩ => rfl
    | ⟨1, _⟩ => exact Fin.ext (by show ((k : ℕ) * 5632 + (C : ℕ)) / 5632 % 2048 = k; omega)
    | ⟨2, _⟩ => exact Fin.ext (by show ((k : ℕ) * 5632 + (C : ℕ)) % 5632 = C; omega)

theorem hidden (h : FVec Ideal S8704x2048 .bf16) (w : FVec Ideal S2x2048x5632 .bf16) :
    val_main_v12 (F := Ideal) h w = fun i => Ffn.hidden h w (i 0) (i 1) := by
  funext i
  obtain ⟨R, C, rfl⟩ : ∃ (R : Fin 8704) (C : Fin 5632), i = ix2 R C := ⟨i 0, i 1, eq_ix2 i⟩
  rw [val_main_v12_apply, val_main_v11_apply, val_main_v10_apply, val_main_call0_v5_apply, val_main_call0_v4_apply,
    val_main_call0_v3_apply, val_main_call0_v2_apply, val_main_call0_v1_apply, val_main_call0_v0_apply,
    val_main_call0_cst_apply, val_main_call0_cst_0_apply, gate_at, up_at]
  show _ = Ffn.hidden h w R C
  rw [Ffn.hidden, Ideal.logistic]
  pointwise

theorem padded (w : FVec Ideal S4x2x5504x2048 .f32) :
    val_main_v17 (F := Ideal) w = fun i => Ffn.padded w (i 0) (i 1) := by
  funext i
  obtain ⟨R, C, rfl⟩ : ∃ (R : Fin 5632) (C : Fin 2048), i = ix2 R C := ⟨i 0, i 1, eq_ix2 i⟩
  show val_main_v17 (F := Ideal) w (ix2 R C) = Ffn.padded w R C
  pointwise [val_main_v17, val_main_v16, val_main_v15, val_main_v14, val_main_v13, val_main_cst, Ffn.padded]

theorem mixed (w : FVec Ideal S2x2048x3072 .f32) :
    val_main_v32 (F := Ideal) w = fun i => w (ix3 (0 : Fin 2) (i 0) (i 1)) := by
  funext i
  obtain ⟨R, C, rfl⟩ : ∃ (R : Fin 2048) (C : Fin 3072), i = ix2 R C := ⟨i 0, i 1, eq_ix2 i⟩
  show val_main_v32 (F := Ideal) w (ix2 R C) = w (ix3 (0 : Fin 2) R C)
  pointwise [val_main_v32, val_main_v31, val_main_v30]

theorem halves (w : FVec Ideal S4x2x2048x11008 .f32) :
    val_main_v29 (F := Ideal) w = fun i => Ffn.halves w (i 0) (i 1) (i 2) := by
  funext i
  obtain ⟨p, R, C, rfl⟩ : ∃ (p : Fin 2) (R : Fin 2048) (C : Fin 5632), i = ix3 p R C := ⟨i 0, i 1, i 2, eq_ix3 i⟩
  show val_main_v29 (F := Ideal) w (ix3 p R C) = Ffn.halves w p R C
  pointwise [val_main_v29, val_main_v28, val_main_v27, val_main_v26, val_main_v25, val_main_v24, val_main_v23, val_main_v22,
    val_main_v21, val_main_v20, val_main_v19, val_main_v18, val_main_cst_0, Ffn.halves]
  split
  · by_cases hp : (p : ℕ) < 1
    · obtain rfl : p = 0 := Fin.ext (by show (p : ℕ) = 0; omega)
      rw [dif_pos hp]
      exact congrArg w (congrArg (ix4 0 1 R) (Fin.ext (by show (C : ℕ) = 0 * 5504 + C; omega)))
    · obtain rfl : p = 1 := Fin.ext (by show (p : ℕ) = 1; omega)
      rw [dif_neg hp]
      exact congrArg w (congrArg (ix4 0 1 R) (Fin.ext (by show 5504 + (C : ℕ) = 1 * 5504 + C; omega)))
  · rfl

end Cert.Reference2Ideal.Ref

end
-- ==== Proof.Ffn.Claims.lean ====
module
public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Ffn.Ref
public import Idealize.ShloMosaic.Lib.Claim
public import Idealize.ShloMosaic.Lib.Quiescent
@[expose] public section
/-! The claims of the gated input call of the feed-forward part. -/
set_option maxRecDepth 32768

noncomputable section

open Idealize.ShloMosaic Idealize.ShloMosaic.TcCoe Idealize.SL.Sem

namespace Cert.Proof.FfnClaims

theorem frame_p : Cert.quiescent_Kernel2 := fun m ρ _ => Cert.Kernel2.Gen.frame m ρ
theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

theorem preserves : Cert.preserves_Kernel2_Kernel2Ideal := trivial

section

open Cert.Reference2Ideal Cert.Reference2Ideal.Read

variable (m : (ℓ : Loc Cert.Kernel2Ideal.nD Cert.Kernel2Ideal.τ Cert.Kernel2Ideal.sig) → Buf (Elt Ideal) ℓ)
  (m' : (ℓ : Loc nD τ sig) → Buf (Elt Ideal) ℓ) (c : Dev nD)

/-- The reference's second result, of the kernel's arguments. -/
theorem result_1
    (a2 : m' ((c.tc : Thread nD τ).loc main_arg2) = m ((c.tc : Thread _ _).loc Cert.Kernel2Ideal.main_arg2)) :
    val_main_v17 (F := Ideal) (m' ((c.tc : Thread nD τ).loc main_arg2))
      = fun i => Ffn.padded (m ((c.tc : Thread _ _).loc Cert.Kernel2Ideal.main_arg2)) (i 0) (i 1) := by
  rw [a2]
  exact Ref.padded _

/-- The reference's fourth result, of the kernel's arguments. -/
theorem result_3
    (a4 : m' ((c.tc : Thread nD τ).loc main_arg4) = m ((c.tc : Thread _ _).loc Cert.Kernel2Ideal.main_arg4)) :
    val_main_v29 (F := Ideal) (m' ((c.tc : Thread nD τ).loc main_arg4))
      = fun i => Ffn.halves (m ((c.tc : Thread _ _).loc Cert.Kernel2Ideal.main_arg4)) (i 0) (i 1) (i 2) := by
  rw [a4]
  exact Ref.halves _

end

/-- The kernel's four results are the reference's: the gated hidden row, the padded output weights, the mixer's weights and
    the two halves of the next input weights. -/
theorem algebraic : Cert.algebraic_Kernel2Ideal_Reference2Ideal := by
  pair_intro
  · run_from Cert.Kernel2Ideal.Gen.run_main m g
  · run_from Cert.Reference2Ideal.Value.run m' g'
    · exact (Cert.Reference2Ideal.Ref.hidden _ _).trans (Cert.Kernel2Ideal.Val.hidden_final m c).symm
    · exact (result_1 m m' c (hagree c).2.2.1).trans (Cert.Kernel2Ideal.Val.out_final m c).symm
    · exact (Cert.Reference2Ideal.Ref.mixed _).trans (Cert.Kernel2Ideal.Val.mix_final m c).symm
    · exact (result_3 m m' c (hagree c).2.2.2.2).trans (Cert.Kernel2Ideal.Val.halves_final m c).symm

end Cert.Proof.FfnClaims

end
-- ==== Proof.Out.Params.lean ====
/- The parameter rows that the host code gathers for the output call, read at the row the call uses. -/
module

public import proofs.«01_k».proof.Proof.Gen.Kernel3Ideal.Frame
public import Idealize.ShloMosaic.Lib.StableHlo.RunRead
public import Idealize.ShloMosaic.Lib.Pointwise
public import Idealize.ShloMosaic.Lib.Claim

@[expose] public section

set_option maxRecDepth 32768

noncomputable section

namespace Cert.Kernel3Ideal.Val

open Cert.Kernel3Ideal Cert.Kernel3Ideal.Gen Idealize.ShloMosaic Idealize.ShloMosaic.TcCoe Idealize.SL.Sem

/-- The fourth of thirteen joined arrays. -/
theorem pick_three (y0 y1 y2 y3 y4 y5 y6 y7 y8 y9 y10 y11 y12 : FVec Ideal S1x3x8x2048 .f32) (g : Fin 3) (r : Fin 8) (e : Fin 2048) :
    concatenate S13x3x8x2048 0 [⟨S1x3x8x2048, y0⟩, ⟨S1x3x8x2048, y1⟩, ⟨S1x3x8x2048, y2⟩, ⟨S1x3x8x2048, y3⟩, ⟨S1x3x8x2048, y4⟩, ⟨S1x3x8x2048, y5⟩, ⟨S1x3x8x2048, y6⟩, ⟨S1x3x8x2048, y7⟩, ⟨S1x3x8x2048, y8⟩, ⟨S1x3x8x2048, y9⟩, ⟨S1x3x8x2048, y10⟩, ⟨S1x3x8x2048, y11⟩, ⟨S1x3x8x2048, y12⟩]
      concatenates_S1x3x8x2048_S1x3x8x2048_S1x3x8x2048_S1x3x8x2048_S1x3x8x2048_S1x3x8x2048_S1x3x8x2048_S1x3x8x2048_S1x3x8x2048_S1x3x8x2048_S1x3x8x2048_S1x3x8x2048_S1x3x8x2048_S13x3x8x2048_d0 (ix4 (3 : Fin 13) g r e) = y3 (ix4 (0 : Fin 1) g r e) := by
  pointwise []

variable (m : (ℓ : Loc nD τ sig) → Buf (Elt Ideal) ℓ)

/-- The call's parameter rows are the fourth of the gathered ones. -/
theorem gathered (c : Dev nD) (g : Fin 3) (r : Fin 8) (e : Fin 2048) :
    V m c main_v277 (ix4 (3 : Fin 13) g r e) = V m c main_v267 (ix4 (0 : Fin 1) g r e) := by
  unfold V
  generalize (fun b => m (c, b)) = W
  simp (disch := decide) only [StableHlo.readAfter, StableHlo.readUpto, StableHlo.nary_result']
  exact pick_three _ _ _ _ _ _ _ _ _ _ _ _ _ g r e

/-- Row 0: the norm's factors after the product. -/
theorem post_row (c : Dev nD) (g : Fin 3) (e : Fin 2048) :
    V m c main_v267 (ix4 (0 : Fin 1) g (0 : Fin 8) e)
      = m ((c : Thread nD τ).loc main_arg4) (ix3 (0 : Fin 4) (5 : Fin 6) e) := by
  unfold V
  after_reads_simp
  pointwise
  after_reads_simp
  pointwise

/-- Row 1: the residual's gate. -/
theorem gate_row (c : Dev nD) (g : Fin 3) (e : Fin 2048) :
    V m c main_v267 (ix4 (0 : Fin 1) g (1 : Fin 8) e)
      = m ((c : Thread nD τ).loc main_arg3) (ix3 (0 : Fin 4) (⟨g, by omega⟩ : Fin 8) (⟨8 * 2048 + e, by omega⟩ : Fin 18432)) := by
  unfold V
  after_reads_simp
  pointwise
  after_reads_simp
  pointwise

/-- Row 2: the next norm's factors. -/
theorem pre_row (c : Dev nD) (g : Fin 3) (e : Fin 2048) :
    V m c main_v267 (ix4 (0 : Fin 1) g (2 : Fin 8) e)
      = m ((c : Thread nD τ).loc main_arg4) (ix3 (1 : Fin 4) (0 : Fin 6) e) := by
  unfold V
  after_reads_simp
  pointwise
  after_reads_simp
  pointwise

/-- Row 3: the next modulation's scale. -/
theorem scale_row (c : Dev nD) (g : Fin 3) (e : Fin 2048) :
    V m c main_v267 (ix4 (0 : Fin 1) g (3 : Fin 8) e)
      = m ((c : Thread nD τ).loc main_arg3) (ix3 (1 : Fin 4) (⟨g, by omega⟩ : Fin 8) (⟨2048 + e, by omega⟩ : Fin 18432)) := by
  unfold V
  after_reads_simp
  pointwise
  after_reads_simp
  pointwise

/-- Row 4: the next modulation's shift. -/
theorem shift_row (c : Dev nD) (g : Fin 3) (e : Fin 2048) :
    V m c main_v267 (ix4 (0 : Fin 1) g (4 : Fin 8) e)
      = m ((c : Thread nD τ).loc main_arg3) (ix3 (1 : Fin 4) (⟨g, by omega⟩ : Fin 8) (⟨e, by omega⟩ : Fin 18432)) := by
  unfold V
  after_reads_simp
  pointwise
  after_reads_simp
  pointwise

end Cert.Kernel3Ideal.Val

end
-- ==== Proof.Out.Value.lean ====
/-
What the output call computes: the residual stream after the layer's output product, and the next layer's input.

Grid point `t` of 17 is a block of 512 rows, stored as two halves. The rows' modulation group is `t / 8`: 4096 rows, 4096
rows, 512 rows.
-/
module

public import proofs.«01_k».proof.Proof.Gen.Kernel3Ideal.Value
public import proofs.«01_k».proof.Proof.Out.Params
public import Idealize.ShloMosaic.Lib.Pipeline.ValueKit
public import Idealize.ShloMosaic.Lib.Pointwise

@[expose] public section

set_option maxRecDepth 16384

noncomputable section

namespace Out

open Idealize.ShloMosaic

/-- A row over the root of its mean square. -/
def rms (v : Fin 2048 → EReal) (C : Fin 2048) : EReal :=
  v C * Ideal.rsqrt (Ideal.div (∑ j : Fin 2048, v j * v j) (Ideal.ofBits .f32 0x45000000#32) + Ideal.ofBits .f32 0x358637BD#32)

/-- The stream: the product's row normed, times the norm's factors, the gate and one half, added to the row before. -/
def add (y x gate post : Fin 2048 → EReal) (C : Fin 2048) : EReal :=
  x C + rms y C * (Ideal.ofBits .f32 0x3F000000#32 * (gate C * post C))

/-- A row normed, times the norm's factors, scaled and shifted. -/
def norm (v pre scale shift : Fin 2048 → EReal) (C : Fin 2048) : EReal :=
  rms v C * (pre C * (Ideal.ofBits .f32 0x3F800000#32 + scale C)) + shift C

variable (a : FVec Ideal ⟨2, ![8704, 5632]⟩ .bf16) (w : FVec Ideal ⟨2, ![5632, 2048]⟩ .bf16)
  (x : FVec Ideal ⟨2, ![8704, 2048]⟩ .f32) (mods : FVec Ideal ⟨3, ![4, 8, 18432]⟩ .f32) (g : FVec Ideal ⟨3, ![4, 6, 2048]⟩ .f32)

/-- A row's modulation group. -/
def grp (R : Fin 8704) : Fin 8 := ⟨R / 4096, by omega⟩

/-- The stream after the output product. -/
def stream (R : Fin 8704) : Fin 2048 → EReal :=
  add (fun j => ∑ k : Fin 5632, a (ix2 R k) * w (ix2 k j)) (fun j => x (ix2 R j))
    (fun j => mods (ix3 (0 : Fin 4) (grp R) (⟨8 * 2048 + j, by omega⟩ : Fin 18432))) (fun j => g (ix3 (0 : Fin 4) (5 : Fin 6) j))

/-- The next layer's input. -/
def next (R : Fin 8704) : Fin 2048 → EReal :=
  norm (stream a w x mods g R) (fun j => g (ix3 (1 : Fin 4) (0 : Fin 6) j))
    (fun j => mods (ix3 (1 : Fin 4) (grp R) (⟨2048 + j, by omega⟩ : Fin 18432)))
    (fun j => mods (ix3 (1 : Fin 4) (grp R) (⟨j, by omega⟩ : Fin 18432)))

end Out

namespace Cert.Kernel3Ideal.Val

open Cert.Kernel3Ideal Cert.Kernel3Ideal.Gen Idealize.ShloMosaic Idealize.ShloMosaic.TcCoe Idealize.SL.Sem
open Idealize.ShloMosaic.Pipeline (Dat)

/-! ## The stored pieces, over the blocks read -/

theorem pay3_at (v0 v2 : Vec Ideal S1x1x1x2048 .f32) (v7 : Vec Ideal S256x5632 .bf16) (v8 : Vec Ideal S5632x2048 .bf16)
    (v10 : Vec Ideal S256x2048 .f32) (r : Fin 256) (e : Fin 2048) :
    k0_pay3 v0 v2 v7 v8 v10 (ix2 r e)
      = Out.add (fun j => ∑ k : Fin 5632, v7 (ix2 r k) * v8 (ix2 k j)) (fun j => v10 (ix2 r j)) (fun j => v0 (ix4 0 0 0 j))
          (fun j => v2 (ix4 0 0 0 j)) e := by
  unfold Out.add Out.rms
  pointwise [k0_pay3, k0_pay2]

theorem pay7_at (v0 v2 : Vec Ideal S1x1x1x2048 .f32) (v7 : Vec Ideal S256x5632 .bf16) (v8 : Vec Ideal S5632x2048 .bf16)
    (v10 : Vec Ideal S256x2048 .f32) (r : Fin 256) (e : Fin 2048) :
    k0_pay7 (k0_pay2 v0 v2) v7 v8 v10 (ix2 r e)
      = Out.add (fun j => ∑ k : Fin 5632, v7 (ix2 r k) * v8 (ix2 k j)) (fun j => v10 (ix2 r j)) (fun j => v0 (ix4 0 0 0 j))
          (fun j => v2 (ix4 0 0 0 j)) e := by
  unfold Out.add Out.rms
  pointwise [k0_pay7, k0_pay2]

theorem pay6_at (v : FVec Ideal S256x2048 .f32) (p s h : Vec Ideal S1x1x1x2048 .f32) (r : Fin 256) (e : Fin 2048) :
    k0_pay6 v (k0_pay4 p) (k0_pay5 s) h (ix2 r e)
      = Out.norm (fun j => v (ix2 r j)) (fun j => p (ix4 0 0 0 j)) (fun j => s (ix4 0 0 0 j)) (fun j => h (ix4 0 0 0 j)) e := by
  unfold Out.norm Out.rms
  pointwise [k0_pay6, k0_pay4, k0_pay5]

theorem pay1_at (v : FVec Ideal S256x2048 .f32) (p s h : Vec Ideal S1x1x1x2048 .f32) (r : Fin 256) (e : Fin 2048) :
    k0_pay1 v p s h (ix2 r e)
      = Out.norm (fun j => v (ix2 r j)) (fun j => p (ix4 0 0 0 j)) (fun j => s (ix4 0 0 0 j)) (fun j => h (ix4 0 0 0 j)) e := by
  unfold Out.norm Out.rms
  pointwise [k0_pay1]

variable (m : (ℓ : Loc nD τ sig) → Buf (Elt Ideal) ℓ)

theorem idx : ∀ t : Fin cfg0.N, win0_0.index t = ![t.val, 0] ∧ win0_1.index t = ![0, 0]
    ∧ win0_2.index t = ![3, t.val / 8, 0, 0] ∧ win0_3.index t = ![t.val, 0]
    ∧ win0_4.index t = ![t.val, 0] ∧ win0_5.index t = ![t.val, 0] :=
  (by decide +kernel : ∀ t : Fin grid0.N, _)

/-! ## The blocks read at a point -/

theorem ld_a (v : Vec Ideal S512x5632 .bf16) (r : Fin 256) (k : Fin 5632) :
    View.ld v r0_2 (ix2 r k) = v (ix2 (⟨r, by omega⟩ : Fin 512) k) := by
  exact View.ld_unit_apply_of _ _ _ _ _ _ fun a => match a with
    | ⟨0, _⟩ => (Nat.zero_add _).symm
    | ⟨1, _⟩ => (Nat.zero_add _).symm

theorem ld_a' (v : Vec Ideal S512x5632 .bf16) (r : Fin 256) (k : Fin 5632) :
    View.ld v r0_8 (ix2 r k) = v (ix2 (⟨256 + r, by omega⟩ : Fin 512) k) := by
  exact View.ld_unit_apply_of _ _ _ _ _ _ fun a => match a with
    | ⟨0, _⟩ => rfl
    | ⟨1, _⟩ => (Nat.zero_add _).symm

theorem ld_w (v : Vec Ideal S5632x2048 .bf16) (k : Fin 5632) (e : Fin 2048) : View.ld v r0_3 (ix2 k e) = v (ix2 k e) := by
  exact View.ld_unit_apply_of _ _ _ _ _ _ fun a => match a with
    | ⟨0, _⟩ => (Nat.zero_add _).symm
    | ⟨1, _⟩ => (Nat.zero_add _).symm

theorem ld_x (v : Vec Ideal S512x2048 .f32) (r : Fin 256) (e : Fin 2048) :
    View.ld v r0_4 (ix2 r e) = v (ix2 (⟨r, by omega⟩ : Fin 512) e) := by
  exact View.ld_unit_apply_of _ _ _ _ _ _ fun a => match a with
    | ⟨0, _⟩ => (Nat.zero_add _).symm
    | ⟨1, _⟩ => (Nat.zero_add _).symm

theorem ld_x' (v : Vec Ideal S512x2048 .f32) (r : Fin 256) (e : Fin 2048) :
    View.ld v r0_9 (ix2 r e) = v (ix2 (⟨256 + r, by omega⟩ : Fin 512) e) := by
  exact View.ld_unit_apply_of _ _ _ _ _ _ fun a => match a with
    | ⟨0, _⟩ => rfl
    | ⟨1, _⟩ => (Nat.zero_add _).symm

theorem ld_post (v : Vec Ideal S1x1x8x2048 .f32) (e : Fin 2048) :
    View.ld v r0_1 (ix4 0 0 0 e) = v (ix4 (0 : Fin 1) (0 : Fin 1) (0 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_gate (v : Vec Ideal S1x1x8x2048 .f32) (e : Fin 2048) :
    View.ld v r0_0 (ix4 0 0 0 e) = v (ix4 (0 : Fin 1) (0 : Fin 1) (1 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_pre (v : Vec Ideal S1x1x8x2048 .f32) (e : Fin 2048) :
    View.ld v r0_5 (ix4 0 0 0 e) = v (ix4 (0 : Fin 1) (0 : Fin 1) (2 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_scale (v : Vec Ideal S1x1x8x2048 .f32) (e : Fin 2048) :
    View.ld v r0_6 (ix4 0 0 0 e) = v (ix4 (0 : Fin 1) (0 : Fin 1) (3 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_shift (v : Vec Ideal S1x1x8x2048 .f32) (e : Fin 2048) :
    View.ld v r0_7 (ix4 0 0 0 e) = v (ix4 (0 : Fin 1) (0 : Fin 1) (4 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

variable (c : Dev nD) (t : Fin cfg0.N)

theorem load_a (r : Fin 512) (k : Fin 5632) (R : Fin 8704) (hR : (R : ℕ) = t.val * 512 + r) :
    iblk m c 0 t (ix2 r k) = m ((c : Thread nD τ).loc main_arg0) (ix2 R k) := by
  rw [← V_main_arg0 m c]
  unfold iblk
  generalize V m c = W
  blk_point [idx t]

theorem load_w (k : Fin 5632) (e : Fin 2048) :
    iblk m c 1 t (ix2 k e) = m ((c : Thread nD τ).loc main_arg1) (ix2 k e) := by
  rw [← V_main_arg1 m c]
  unfold iblk
  generalize V m c = W
  blk_point [idx t]

theorem load_x (r : Fin 512) (e : Fin 2048) (R : Fin 8704) (hR : (R : ℕ) = t.val * 512 + r) :
    iblk m c 3 t (ix2 r e) = m ((c : Thread nD τ).loc main_arg2) (ix2 R e) := by
  rw [← V_main_arg2 m c]
  unfold iblk
  generalize V m c = W
  blk_point [idx t]

/-- A row of the parameters of the point's group. -/
theorem load_p (r : Fin 8) (e : Fin 2048) (g : Fin 3) (hg : (g : ℕ) = t.val / 8) :
    iblk m c 2 t (ix4 (0 : Fin 1) (0 : Fin 1) r e) = V m c main_v267 (ix4 (0 : Fin 1) g r e) := by
  rw [← gathered]
  unfold iblk
  generalize V m c = W
  blk_point [idx t]

variable (R : Fin 8704) (hR : (R : ℕ) / 512 = t.val)
include hR

theorem load_post (e : Fin 2048) : View.ld (iblk m c 2 t) r0_1 (ix4 0 0 0 e)
    = m ((c : Thread nD τ).loc main_arg4) (ix3 (0 : Fin 4) (5 : Fin 6) e) := by
  rw [← post_row m c ⟨t.val / 8, by omega⟩ e, ← load_p m c t 0 e _ rfl]
  exact ld_post _ e

theorem load_gate (e : Fin 2048) : View.ld (iblk m c 2 t) r0_0 (ix4 0 0 0 e)
    = m ((c : Thread nD τ).loc main_arg3) (ix3 (0 : Fin 4) (Out.grp R) (⟨8 * 2048 + e, by omega⟩ : Fin 18432)) := by
  have hg : Out.grp R = ⟨t.val / 8, by omega⟩ := Fin.ext (by show (R : ℕ) / 4096 = t.val / 8; omega)
  rw [hg, ← gate_row m c ⟨t.val / 8, by omega⟩ e, ← load_p m c t 1 e _ rfl]
  exact ld_gate _ e

theorem load_pre (e : Fin 2048) : View.ld (iblk m c 2 t) r0_5 (ix4 0 0 0 e)
    = m ((c : Thread nD τ).loc main_arg4) (ix3 (1 : Fin 4) (0 : Fin 6) e) := by
  rw [← pre_row m c ⟨t.val / 8, by omega⟩ e, ← load_p m c t 2 e _ rfl]
  exact ld_pre _ e

theorem load_scale (e : Fin 2048) : View.ld (iblk m c 2 t) r0_6 (ix4 0 0 0 e)
    = m ((c : Thread nD τ).loc main_arg3) (ix3 (1 : Fin 4) (Out.grp R) (⟨2048 + e, by omega⟩ : Fin 18432)) := by
  have hg : Out.grp R = ⟨t.val / 8, by omega⟩ := Fin.ext (by show (R : ℕ) / 4096 = t.val / 8; omega)
  rw [hg, ← scale_row m c ⟨t.val / 8, by omega⟩ e, ← load_p m c t 3 e _ rfl]
  exact ld_scale _ e

theorem load_shift (e : Fin 2048) : View.ld (iblk m c 2 t) r0_7 (ix4 0 0 0 e)
    = m ((c : Thread nD τ).loc main_arg3) (ix3 (1 : Fin 4) (Out.grp R) (⟨e, by omega⟩ : Fin 18432)) := by
  have hg : Out.grp R = ⟨t.val / 8, by omega⟩ := Fin.ext (by show (R : ℕ) / 4096 = t.val / 8; omega)
  rw [hg, ← shift_row m c ⟨t.val / 8, by omega⟩ e, ← load_p m c t 4 e _ rfl]
  exact ld_shift _ e

omit hR

/-! ## The stream -/

/-- The stream's row, of the kernel's arguments. -/
abbrev streamOf : Fin 2048 → EReal :=
  Out.stream (m ((c : Thread nD τ).loc main_arg0)) (m ((c : Thread nD τ).loc main_arg1)) (m ((c : Thread nD τ).loc main_arg2))
    (m ((c : Thread nD τ).loc main_arg3)) (m ((c : Thread nD τ).loc main_arg4)) R

/-- The next input's row, of the kernel's arguments. -/
abbrev nextOf : Fin 2048 → EReal :=
  Out.next (m ((c : Thread nD τ).loc main_arg0)) (m ((c : Thread nD τ).loc main_arg1)) (m ((c : Thread nD τ).loc main_arg2))
    (m ((c : Thread nD τ).loc main_arg3)) (m ((c : Thread nD τ).loc main_arg4)) R

/-- Equal parts make equal streams. -/
theorem add_of {y x g p y' x' g' p' : Fin 2048 → EReal} (hy : ∀ j, y j = y' j) (hx : ∀ j, x j = x' j) (hg : ∀ j, g j = g' j)
    (hp : ∀ j, p j = p' j) (e : Fin 2048) : Out.add y x g p e = Out.add y' x' g' p' e := by
  rw [funext hy, funext hx, funext hg, funext hp]

/-- Equal parts make equal normed rows. -/
theorem norm_of {v p s h v' p' s' h' : Fin 2048 → EReal} (hv : ∀ j, v j = v' j) (hp : ∀ j, p j = p' j) (hs : ∀ j, s j = s' j)
    (hh : ∀ j, h j = h' j) (e : Fin 2048) : Out.norm v p s h e = Out.norm v' p' s' h' e := by
  rw [funext hv, funext hp, funext hs, funext hh]

/-- The upper half's stream. -/
theorem upper (r : Fin 256) (hr : (R : ℕ) = t.val * 512 + r) (e : Fin 2048) :
    k0_pay3 (View.ld (iblk m c 2 t) r0_0) (View.ld (iblk m c 2 t) r0_1) (View.ld (iblk m c 0 t) r0_2) (View.ld (iblk m c 1 t) r0_3)
      (View.ld (iblk m c 3 t) r0_4) (ix2 r e) = streamOf m c R e :=
  (pay3_at _ _ _ _ _ r e).trans (add_of
    (fun j => Finset.sum_congr rfl fun k _ => congrArg₂ (fun a b : EReal => a * b)
      ((ld_a _ r k).trans (load_a m c t _ k R hr)) ((ld_w _ k j).trans (load_w m c t k j)))
    (fun j => (ld_x _ r j).trans (load_x m c t _ j R hr))
    (load_gate m c t R (by omega)) (load_post m c t R (by omega)) e)

/-- The lower half's stream. -/
theorem lower (r : Fin 256) (hr : (R : ℕ) = t.val * 512 + (256 + r)) (e : Fin 2048) :
    k0_pay8 (iblk m c 0 t) (iblk m c 1 t) (iblk m c 2 t) (iblk m c 3 t) (ix2 r e) = streamOf m c R e :=
  (pay7_at _ _ _ _ _ r e).trans (add_of
    (fun j => Finset.sum_congr rfl fun k _ => congrArg₂ (fun a b : EReal => a * b)
      ((ld_a' _ r k).trans (load_a m c t _ k R hr)) ((ld_w _ k j).trans (load_w m c t k j)))
    (fun j => (ld_x' _ r j).trans (load_x m c t _ j R hr))
    (load_gate m c t R (by omega)) (load_post m c t R (by omega)) e)

theorem stream_point (y : S512x2048.Idx) (C : Fin 2048) (h0 : (R : ℕ) = t.val * 512 + (y 0 : ℕ)) (h1 : (C : ℕ) = (y 1 : ℕ)) :
    out0_4 (iblk m c 0 t) (iblk m c 1 t) (iblk m c 2 t) (iblk m c 3 t) y = streamOf m c R C := by
  unfold out0_4
  canon_tiles x h
  · have hC : C = ⟨x 1, x1_lt⟩ := Fin.ext (by show (C : ℕ) = x 1; omega)
    rw [eq_ix2 x, hC]
    exact lower m c t R ⟨x 0, x0_lt⟩ (by show (R : ℕ) = _ + (256 + (x 0 : ℕ)); omega) _
  · have hC : C = ⟨x 1, x1_lt⟩ := Fin.ext (by show (C : ℕ) = x 1; omega)
    rw [eq_ix2 x, hC]
    exact upper m c t R ⟨x 0, x0_lt⟩ (by show (R : ℕ) = _ + (x 0 : ℕ); omega) _

theorem stream_final : (dats m 0 c).arrAt 4 (cfgs 0).N = fun i => streamOf m c (i 0) (i 1) := by
  refine (dats m 0 c).arrAt_eq_of_covers 4 _ (by decide +kernel) fun t hf y => ?_
  have e0 : (((cfg0.win 4).blk t).view.emb y 0 : ℕ) = t.val * 512 + (y 0 : ℕ) := by blk_simp [idx t]
  have e1 : (((cfg0.win 4).blk t).view.emb y 1 : ℕ) = (y 1 : ℕ) := by blk_simp [idx t]
  refine Eq.trans ?_ (stream_point m c t _ y _ e0 e1)
  blk_simp
  rw [after0_4]

/-! ## The next input -/

theorem next_point (y : S512x2048.Idx) (C : Fin 2048) (h0 : (R : ℕ) = t.val * 512 + (y 0 : ℕ)) (h1 : (C : ℕ) = (y 1 : ℕ)) :
    out0_5 (iblk m c 0 t) (iblk m c 1 t) (iblk m c 2 t) (iblk m c 3 t) y = nextOf m c R C := by
  unfold out0_5
  canon_tiles x h
  · have hC : C = ⟨x 1, x1_lt⟩ := Fin.ext (by show (C : ℕ) = x 1; omega)
    rw [eq_ix2 x, hC]
    exact (pay1_at _ _ _ _ ⟨x 0, x0_lt⟩ ⟨x 1, x1_lt⟩).trans (norm_of
      (lower m c t R ⟨x 0, x0_lt⟩ (by show (R : ℕ) = _ + (256 + (x 0 : ℕ)); omega)) (load_pre m c t R (by omega))
      (load_scale m c t R (by omega)) (load_shift m c t R (by omega)) _)
  · have hC : C = ⟨x 1, x1_lt⟩ := Fin.ext (by show (C : ℕ) = x 1; omega)
    rw [eq_ix2 x, hC]
    exact (pay6_at _ _ _ _ ⟨x 0, x0_lt⟩ ⟨x 1, x1_lt⟩).trans (norm_of
      (upper m c t R ⟨x 0, x0_lt⟩ (by show (R : ℕ) = _ + (x 0 : ℕ); omega)) (load_pre m c t R (by omega))
      (load_scale m c t R (by omega)) (load_shift m c t R (by omega)) _)

theorem next_final : (dats m 0 c).arrAt 5 (cfgs 0).N = fun i => nextOf m c (i 0) (i 1) := by
  refine (dats m 0 c).arrAt_eq_of_covers 5 _ (by decide +kernel) fun t hf y => ?_
  have e0 : (((cfg0.win 5).blk t).view.emb y 0 : ℕ) = t.val * 512 + (y 0 : ℕ) := by blk_simp [idx t]
  have e1 : (((cfg0.win 5).blk t).view.emb y 1 : ℕ) = (y 1 : ℕ) := by blk_simp [idx t]
  refine Eq.trans ?_ (next_point m c t _ y _ e0 e1)
  blk_simp
  rw [after0_5]

end Cert.Kernel3Ideal.Val

end
-- ==== Proof.Out.Ref.lean ====
/- What the reference of the output call computes, read at an index. -/
module

public import proofs.«01_k».proof.Proof.Gen.Reference3Ideal.Read
public import proofs.«01_k».proof.Proof.Out.Value
public import Idealize.ShloMosaic.Lib.Pointwise

@[expose] public section

set_option maxRecDepth 16384

noncomputable section

namespace Cert.Reference3Ideal.Ref

open Cert.Reference3Ideal Cert.Reference3Ideal.Gen Cert.Reference3Ideal.Read Idealize.ShloMosaic Idealize.ShloMosaic.TcCoe

variable (a : FVec Ideal S8704x5632 .bf16) (w : FVec Ideal S5632x2048 .bf16) (x : FVec Ideal S8704x2048 .f32)
  (mods : FVec Ideal S4x8x18432 .f32) (g : FVec Ideal S4x6x2048 .f32)

/-- The output product. -/
theorem prod_at (R : Fin 8704) (C : Fin 2048) :
    val_main_v8 (F := Ideal) a w (ix2 R C) = ∑ k : Fin 5632, a (ix2 R k) * w (ix2 k C) := by
  rw [val_main_v8_apply]
  refine Finset.sum_congr rfl fun k _ => ?_
  rw [val_main_v6_apply, val_main_v7_apply]
  refine congrArg₂ (fun a b : EReal => a * b) (congrArg a ?_) (congrArg w ?_)
  · funext a
    match a with
    | ⟨0, _⟩ => rfl
    | ⟨1, _⟩ => rfl
  · funext a
    match a with
    | ⟨0, _⟩ => rfl
    | ⟨1, _⟩ => rfl

theorem grp_eq (R : Fin 8704) (k : Fin 8) (h : (R : ℕ) / 4096 = k) : Out.grp R = k := Fin.ext h

theorem regroup (h m y g : EReal) : h * (m * (y * g)) = y * (h * (m * g)) := by ac_rfl

/-- The gate of a row. -/
theorem gate_at (R : Fin 8704) (C : Fin 2048) :
    val_main_v20 (F := Ideal) mods (ix2 R C) = mods (ix3 (0 : Fin 4) (Out.grp R) (⟨8 * 2048 + C, by omega⟩ : Fin 18432)) := by
  pointwise [val_main_v20, val_main_v19, val_main_v18, val_main_v17, val_main_v16, val_main_v15, val_main_v14, val_main_v13,
    val_main_v12, val_main_v11, val_main_v10, val_main_v9, val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The next scale of a row. -/
theorem scale_at (R : Fin 8704) (C : Fin 2048) :
    val_main_v66 (F := Ideal) mods (ix2 R C) = mods (ix3 (1 : Fin 4) (Out.grp R) (⟨2048 + C, by omega⟩ : Fin 18432)) := by
  pointwise [val_main_v66, val_main_v65, val_main_v64, val_main_v63, val_main_v62, val_main_v61, val_main_v60, val_main_v59,
    val_main_v58, val_main_v57, val_main_v56, val_main_v55, val_main_v5, val_main_v4, val_main_v3]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The next shift of a row. -/
theorem shift_at (R : Fin 8704) (C : Fin 2048) :
    val_main_v81 (F := Ideal) mods (ix2 R C) = mods (ix3 (1 : Fin 4) (Out.grp R) (⟨C, by omega⟩ : Fin 18432)) := by
  pointwise [val_main_v81, val_main_v80, val_main_v79, val_main_v78, val_main_v77, val_main_v76, val_main_v75, val_main_v74,
    val_main_v73, val_main_v72, val_main_v71, val_main_v70, val_main_v5, val_main_v4, val_main_v3]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

theorem post_at (R : Fin 8704) (C : Fin 2048) :
    val_main_v34 (F := Ideal) g (ix2 R C) = g (ix3 (0 : Fin 4) (5 : Fin 6) C) := by
  pointwise [val_main_v34, val_main_v33, val_main_v22, val_main_v21]

theorem pre_at (R : Fin 8704) (C : Fin 2048) :
    val_main_v53 (F := Ideal) g (ix2 R C) = g (ix3 (1 : Fin 4) (0 : Fin 6) C) := by
  pointwise [val_main_v53, val_main_v52, val_main_v41, val_main_v40]

/-- The product's row normed. -/
theorem rms_prod (R : Fin 8704) (C : Fin 2048) :
    val_main_v32 (F := Ideal) a w (ix2 R C) = Out.rms (fun j => ∑ k : Fin 5632, a (ix2 R k) * w (ix2 k j)) C := by
  simp only [Out.rms, ← prod_at]
  unfold val_main_v32 val_main_v31 val_main_v30 val_main_v29 val_main_v28 val_main_v27 val_main_v26 val_main_v25 val_main_v24
    val_main_v23 val_main_cst val_main_cst_0 val_main_cst_1
  generalize val_main_v8 (F := Ideal) a w = y
  pointwise

theorem stream_at (R : Fin 8704) (C : Fin 2048) :
    val_main_v39 (F := Ideal) a w x mods g (ix2 R C) = Out.stream a w x mods g R C := by
  rw [val_main_v39_apply, val_main_v38_apply, val_main_v37_apply, val_main_v36_apply, val_main_v35_apply, val_main_cst_2_apply,
    rms_prod, gate_at, post_at]
  show _ = _ + _
  refine congrArg (fun v : EReal => x (ix2 R C) + v) ?_
  exact regroup _ _ _ _

/-- The stream's row normed. -/
theorem rms_stream (R : Fin 8704) (C : Fin 2048) :
    val_main_v51 (F := Ideal) a w x mods g (ix2 R C) = Out.rms (Out.stream a w x mods g R) C := by
  rw [show Out.stream a w x mods g R = fun j => val_main_v39 (F := Ideal) a w x mods g (ix2 R j) from
    funext fun j => (stream_at a w x mods g R j).symm]
  unfold Out.rms val_main_v51 val_main_v50 val_main_v49 val_main_v48 val_main_v47 val_main_v46 val_main_v45 val_main_v44
    val_main_v43 val_main_v42 val_main_cst_3 val_main_cst_4 val_main_cst_5
  generalize val_main_v39 (F := Ideal) a w x mods g = y
  pointwise

theorem next_at (R : Fin 8704) (C : Fin 2048) :
    val_main_v83 (F := Ideal) a w x mods g (ix2 R C) = Out.next a w x mods g R C := by
  rw [val_main_v83_apply, val_main_v82_apply, val_main_v69_apply, val_main_v68_apply, val_main_v67_apply, val_main_v54_apply,
    val_main_cst_6_apply, rms_stream, scale_at, shift_at, pre_at]
  show _ * _ * (Ideal.ofBits .f32 0x3F800000#32 + _) + _ = _ * (_ * (_ + _)) + _
  rw [mul_assoc]

theorem stream : val_main_v39 (F := Ideal) a w x mods g = fun i => Out.stream a w x mods g (i 0) (i 1) := by
  funext i
  obtain ⟨R, C, rfl⟩ : ∃ (R : Fin 8704) (C : Fin 2048), i = ix2 R C := ⟨i 0, i 1, eq_ix2 i⟩
  exact stream_at a w x mods g R C

theorem next : val_main_v83 (F := Ideal) a w x mods g = fun i => Out.next a w x mods g (i 0) (i 1) := by
  funext i
  obtain ⟨R, C, rfl⟩ : ∃ (R : Fin 8704) (C : Fin 2048), i = ix2 R C := ⟨i 0, i 1, eq_ix2 i⟩
  exact next_at a w x mods g R C

end Cert.Reference3Ideal.Ref

end
-- ==== Proof.Out.Claims.lean ====
module
public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Out.Ref
public import Idealize.ShloMosaic.Lib.Claim
public import Idealize.ShloMosaic.Lib.Quiescent
@[expose] public section
/-! The claims of the output call of the feed-forward part. -/
set_option maxRecDepth 32768

noncomputable section

open Idealize.ShloMosaic Idealize.ShloMosaic.TcCoe Idealize.SL.Sem

namespace Cert.Proof.OutClaims

theorem frame_p : Cert.quiescent_Kernel3 := fun m ρ _ => Cert.Kernel3.Gen.frame m ρ
theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem preserves : Cert.preserves_Kernel3_Kernel3Ideal := trivial

section

open Cert.Reference3Ideal Cert.Reference3Ideal.Read

variable (m : (ℓ : Loc Cert.Kernel3Ideal.nD Cert.Kernel3Ideal.τ Cert.Kernel3Ideal.sig) → Buf (Elt Ideal) ℓ)
  (m' : (ℓ : Loc nD τ sig) → Buf (Elt Ideal) ℓ) (c : Dev nD)
  (a3 : m' ((c.tc : Thread nD τ).loc main_arg3) = m ((c.tc : Thread _ _).loc Cert.Kernel3Ideal.main_arg3))

include a3

/-- The reference's stream, of the kernel's arguments. -/
theorem result_0 :
    val_main_v39 (F := Ideal) (m (c.tc.loc Cert.Kernel3Ideal.main_arg0)) (m (c.tc.loc Cert.Kernel3Ideal.main_arg1))
        (m (c.tc.loc Cert.Kernel3Ideal.main_arg2)) (m' (c.tc.loc main_arg3)) (m (c.tc.loc Cert.Kernel3Ideal.main_arg4))
      = fun i => Cert.Kernel3Ideal.Val.streamOf m c (i 0) (i 1) := by
  rw [a3]
  exact Ref.stream _ _ _ _ _

end

/-- The reference's next input, of the kernel's arguments. -/
theorem result_1 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Reference3Ideal.nD)
    (h : m' (c.tc.loc Cert.Reference3Ideal.main_arg0) = m (c.tc.loc Cert.Kernel3Ideal.main_arg0)
      ∧ m' (c.tc.loc Cert.Reference3Ideal.main_arg1) = m (c.tc.loc Cert.Kernel3Ideal.main_arg1)
      ∧ m' (c.tc.loc Cert.Reference3Ideal.main_arg2) = m (c.tc.loc Cert.Kernel3Ideal.main_arg2)
      ∧ m' (c.tc.loc Cert.Reference3Ideal.main_arg3) = m (c.tc.loc Cert.Kernel3Ideal.main_arg3)
      ∧ m' (c.tc.loc Cert.Reference3Ideal.main_arg4) = m (c.tc.loc Cert.Kernel3Ideal.main_arg4)) :
    Cert.Reference3Ideal.Value.res_main_v83 m' c = fun i => Cert.Kernel3Ideal.Val.nextOf m c (i 0) (i 1) := by
  obtain ⟨a0, a1, a2, a3, a4⟩ := h
  rw [Cert.Reference3Ideal.Read.val_main_v83_eq, a0, a1, a2, a3, a4]
  exact Cert.Reference3Ideal.Ref.next _ _ _ _ _

/-- The kernel's two results are the reference's: the residual stream and the next layer's input. -/
theorem algebraic : Cert.algebraic_Kernel3Ideal_Reference3Ideal := by
  pair_intro
  · run_from Cert.Kernel3Ideal.Gen.run_main m g
  · run_from Cert.Reference3Ideal.Value.run m' g'
    · exact (result_0 m m' c (hagree c).2.2.2.1).trans (Cert.Kernel3Ideal.Val.stream_final m c).symm
    · exact (result_1 m m' c (hagree c)).trans (Cert.Kernel3Ideal.Val.next_final m c).symm

end Cert.Proof.OutClaims

end
-- ==== Proof.Gelu.Value.lean ====
/-
What the gMLP's input call computes: the gelu of its product, and two weight arrays that later calls read.

Grid point `t` of 48 is row block `t % 8` of 1088 rows (as two halves) at column block `t / 8` of 2048 columns.
-/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Gelu

open Idealize.ShloMosaic

/-- The factor of the cube inside the tangent: the product of the words of `√(2/π)` and `0.044715`. -/
def cube : ℝ := (6693141 / 8388608) * (12003091 / 268435456)

/-- The gelu as the kernel writes it. -/
def gelu (y : EReal) : EReal :=
  Ideal.ofBits .f32 0x3F000000#32 * y
    + Ideal.ofBits .f32 0x3F000000#32 * y
        * Ideal.tanh (y * (Ideal.ofBits .f32 0x3F4C422A#32 + ((cube : ℝ) : EReal) * (y * y)))

/-- One entry of the product. -/
def product (h : FVec Ideal ⟨2, ![8704, 2048]⟩ .bf16) (w : FVec Ideal ⟨2, ![2048, 12288]⟩ .bf16) (R : Fin 8704)
    (C : Fin 12288) : EReal := ∑ k : Fin 2048, h (ix2 R k) * w (ix2 k C)

/-- The next input weights in two halves, each with columns of zeros. -/
def halves (w : FVec Ideal ⟨4, ![4, 2, 2048, 11008]⟩ .f32) (p : Fin 2) (R : Fin 2048) (C : Fin 5632) : EReal :=
  if h : (C : ℕ) < 5504 then w (ix4 1 1 R ⟨p * 5504 + C, by omega⟩) else 0

end Gelu

namespace Cert.Kernel4Ideal.Val

open Cert.Kernel4Ideal Cert.Kernel4Ideal.Gen Idealize.ShloMosaic Idealize.ShloMosaic.TcCoe Idealize.SL.Sem
open Idealize.ShloMosaic.Pipeline (Dat)

/-! ## The gelu of the product -/

/-- The named constant is the factor of the cube. -/
theorem cube : (Named.named κ "cube" 0x3D122279#32 : Ideal .f32) = ((Gelu.cube : ℝ) : EReal) :=
  IdealRules.named_const.ideal_named_scalar _ _ _ _ rfl

theorem pay6_at (v0 : Vec Ideal S544x2048 .bf16) (v1 : Vec Ideal S2048x2048 .bf16) (r : Fin 544) (e : Fin 2048) :
    k0_pay6 v0 v1 (ix2 r e) = Gelu.gelu (∑ k : Fin 2048, v0 (ix2 r k) * v1 (ix2 k e)) := by
  rw [Gelu.gelu, ← cube]
  pointwise [k0_pay6]

theorem pay7_at (v0 : Vec Ideal S544x2048 .bf16) (v1 : Vec Ideal S2048x2048 .bf16) (r : Fin 544) (e : Fin 2048) :
    k0_pay7 v0 v1 (ix2 r e) = Gelu.gelu (∑ k : Fin 2048, v0 (ix2 r k) * v1 (ix2 k e)) := by
  rw [Gelu.gelu, ← cube]
  pointwise [k0_pay7]

variable (m : (ℓ : Loc nD τ sig) → Buf (Elt Ideal) ℓ)

theorem idx : ∀ t : Fin cfg0.N, win0_0.index t = ![t.val % 8, 0] ∧ win0_1.index t = ![0, t.val / 8]
    ∧ win0_2.index t = ![0, t.val, 0] ∧ win0_3.index t = ![1, 1, min t.val 31, 0]
    ∧ win0_4.index t = ![t.val % 8, t.val / 8] ∧ win0_5.index t = ![t.val, 0]
    ∧ win0_6.index t = ![0, min t.val 31, 0] :=
  (by decide +kernel : ∀ t : Fin grid0.N, _)

/-- A stored entry, from the values of the blocks read. -/
theorem entry_of (v0 : Vec Ideal S544x2048 .bf16) (v1 : Vec Ideal S2048x2048 .bf16) (h : FVec Ideal S8704x2048 .bf16)
    (w : FVec Ideal S2048x12288 .bf16) (R : Fin 8704) (C : Fin 12288) (r : Fin 544) (e : Fin 2048)
    (a : ∀ k : Fin 2048, v0 (ix2 r k) = h (ix2 R k)) (b : ∀ k : Fin 2048, v1 (ix2 k e) = w (ix2 k C)) :
    Gelu.gelu (∑ k : Fin 2048, v0 (ix2 r k) * v1 (ix2 k e)) = Gelu.gelu (Gelu.product h w R C) := by
  simp only [Gelu.product, a, b]

/-- What a point stores of the gelu. -/
theorem gelu_point (c : Dev nD) (t : Fin cfg0.N) (y : S1088x2048.Idx) (R : Fin 8704) (C : Fin 12288)
    (hR : (R : ℕ) = t.val % 8 * 1088 + (y 0 : ℕ)) (hC : (C : ℕ) = t.val / 8 * 2048 + (y 1 : ℕ)) :
    (outsAt0 m c t).1 y
      = Gelu.gelu (Gelu.product (m ((c : Thread nD τ).loc main_arg0)) (m ((c : Thread nD τ).loc main_arg1)) R C) := by
  unfold outsAt0
  frame_out
  canon_tiles x h
  · rw [eq_ix2 x]
    refine (pay7_at _ _ ⟨x 0, x0_lt⟩ ⟨x 1, x1_lt⟩).trans (entry_of _ _ _ _ R C _ _ (fun k => ?_) fun k => ?_)
    all_goals blk_point [iblk, V, idx t]
  · rw [eq_ix2 x]
    refine (pay6_at _ _ ⟨x 0, x0_lt⟩ ⟨x 1, x1_lt⟩).trans (entry_of _ _ _ _ R C _ _ (fun k => ?_) fun k => ?_)
    all_goals blk_point [iblk, V, idx t]

theorem gelu_final (c : Dev nD) : (dats m 0 c).arrAt 4 (cfgs 0).N
    = fun i => Gelu.gelu (Gelu.product (m ((c : Thread nD τ).loc main_arg0)) (m ((c : Thread nD τ).loc main_arg1)) (i 0) (i 1)) := by
  refine (dats m 0 c).arrAt_eq_of_covers 4 _ (by decide +kernel) fun t hf y => ?_
  have e0 : (((cfg0.win 4).blk t).view.emb y 0 : ℕ) = t.val % 8 * 1088 + (y 0 : ℕ) := by blk_simp [idx t]
  have e1 : (((cfg0.win 4).blk t).view.emb y 1 : ℕ) = t.val / 8 * 2048 + (y 1 : ℕ) := by blk_simp [idx t]
  refine Eq.trans ?_ (gelu_point m c t y _ _ e0 e1)
  blk_simp
  rw [after0_4]

/-! ## The weights -/

theorem pay1_at (v : Vec Ideal S1x128x2048 .f32) (r : Fin 128) (e : Fin 2048) : k0_pay1 v (ix2 r e) = v (ix3 0 r e) := by
  pointwise [k0_pay1]

theorem mix_point (c : Dev nD) (t : Fin cfg0.N) (r : Fin 128) (e : Fin 2048) (R : Fin 6144)
    (hR : (R : ℕ) = t.val * 128 + r) :
    (outsAt0 m c t).2.1 (ix2 r e) = m ((c : Thread nD τ).loc main_arg2) (ix3 (0 : Fin 1) R e) := by
  unfold outsAt0
  frame_out
  rw [pay1_at]
  blk_point [iblk, V, idx t]

theorem mix_final (c : Dev nD) : (dats m 0 c).arrAt 5 (cfgs 0).N
    = fun i => m ((c : Thread nD τ).loc main_arg2) (ix3 (0 : Fin 1) (i 0) (i 1)) := by
  refine (dats m 0 c).arrAt_eq_of_covers 5 _ (by decide +kernel) fun t hf y => ?_
  have e0 : (((cfg0.win 5).blk t).view.emb y 0 : ℕ) = t.val * 128 + (y 0 : ℕ) := by blk_simp [idx t]
  have e1 : ((cfg0.win 5).blk t).view.emb y 1 = (⟨y 1, (y 1).isLt⟩ : Fin 2048) := Fin.ext (by blk_simp [idx t])
  rw [e1]
  refine Eq.trans ?_ (mix_point m c t ⟨y 0, (y 0).isLt⟩ ⟨y 1, (y 1).isLt⟩ _ e0)
  blk_simp
  rw [after0_5]
  exact congrArg _ (eq_ix2 y)

theorem pay4_at (v : Vec Ideal S1x1x64x5504 .f32) (x : S1x64x5504.Idx) (r : Fin 64) (e : Fin 5504) (h1 : (x 1 : ℕ) = r)
    (h2 : (x 2 : ℕ) = e) : k0_pay4 v x = v (ix4 0 0 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  pointwise [k0_pay4]

theorem pay2_at (v : Vec Ideal S1x1x64x5504 .f32) (x : S1x64x5504.Idx) (r : Fin 64) (e : Fin 5504) (h1 : (x 1 : ℕ) = r)
    (h2 : (x 2 : ℕ) = e) : k0_pay2 v x = v (ix4 0 0 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  pointwise [k0_pay2]

theorem pay3_at (i : S1x64x128.Idx) : k0_pay3 (F := Ideal) i = (0 : EReal) := by
  pointwise [k0_pay3]

theorem pay5_at (i : S1x64x128.Idx) : k0_pay5 (F := Ideal) i = (0 : EReal) := by
  pointwise [k0_pay5]

theorem halves_point (c : Dev nD) (t : Fin cfg0.N) (p : Fin 2) (r : Fin 64) (e : Fin 5632) (R : Fin 2048)
    (hR : (R : ℕ) = min t.val 31 * 64 + r) :
    (outsAt0 m c t).2.2 (ix3 p r e) = Gelu.halves (m ((c : Thread nD τ).loc main_arg3)) p R e := by
  unfold outsAt0
  frame_out
  canon_tiles x h using View.cover_of_tiledBy _ ![1, 64, 128] (by sl_kernel_rfl) _
  all_goals unfold Gelu.halves
  · have e2 : (e : ℕ) = 5504 + (x 2 : ℕ) := h2
    rw [dif_neg (by omega)]
    exact pay5_at x
  · have e0 : (p : ℕ) = 1 + (x 0 : ℕ) := h0
    have e1 : (r : ℕ) = (x 1 : ℕ) := h1
    have e2 : (e : ℕ) = (x 2 : ℕ) := h2
    rw [dif_pos (by omega)]
    refine (pay4_at _ x r ⟨x 2, x2_lt⟩ h1.symm rfl).trans ?_
    blk_point [iblk, V, idx t]
  · have e2 : (e : ℕ) = 5504 + (x 2 : ℕ) := h2
    rw [dif_neg (by omega)]
    exact pay3_at x
  · have e0 : (p : ℕ) = (x 0 : ℕ) := h0
    have e1 : (r : ℕ) = (x 1 : ℕ) := h1
    have e2 : (e : ℕ) = (x 2 : ℕ) := h2
    rw [dif_pos (by omega)]
    refine (pay2_at _ x r ⟨x 2, x2_lt⟩ h1.symm rfl).trans ?_
    blk_point [iblk, V, idx t]

theorem halves_final (c : Dev nD) : (dats m 0 c).arrAt 6 (cfgs 0).N
    = fun i => Gelu.halves (m ((c : Thread nD τ).loc main_arg3)) (i 0) (i 1) (i 2) := by
  refine (dats m 0 c).arrAt_eq_of_covers 6 _ (by decide +kernel) fun t hf y => ?_
  have e0 : ((cfg0.win 6).blk t).view.emb y 0 = (⟨y 0, (y 0).isLt⟩ : Fin 2) := Fin.ext (by blk_simp [idx t])
  have e1 : (((cfg0.win 6).blk t).view.emb y 1 : ℕ) = min t.val 31 * 64 + (y 1 : ℕ) := by blk_simp [idx t]
  have e2 : ((cfg0.win 6).blk t).view.emb y 2 = (⟨y 2, (y 2).isLt⟩ : Fin 5632) := Fin.ext (by blk_simp [idx t])
  rw [e0, e2]
  refine Eq.trans ?_ (halves_point m c t ⟨y 0, (y 0).isLt⟩ ⟨y 1, (y 1).isLt⟩ ⟨y 2, (y 2).isLt⟩ _ e1)
  blk_simp
  rw [after0_6]
  exact congrArg _ (eq_ix3 y)

end Cert.Kernel4Ideal.Val

end
-- ==== Proof.Gelu.Ref.lean ====
/- What the reference of the gMLP's input call computes, read at an index. -/
module

public import proofs.«01_k».proof.Proof.Gen.Reference4Ideal.Read
public import proofs.«01_k».proof.Proof.Gen.Pre_finite4
public import proofs.«01_k».proof.Proof.Gelu.Value
public import proofs.«01_k».proof.Proof.Attn.Finite
public import Idealize.ShloMosaic.Lib.Pointwise
public import Idealize.ShloMosaic.Lib.IdealHost

@[expose] public section

set_option maxRecDepth 16384

noncomputable section

namespace Gelu

open Idealize.ShloMosaic

/-- The word of `√(2/π)`. -/
theorem root : Ideal.ofBits .f32 0x3F4C422A#32 = ((6693141 / 8388608 : ℝ) : EReal) := by
  simp [Ideal.ofBits, Ideal.ieee, -EReal.coe_mul]
  norm_num

/-- The word of `0.044715`. -/
theorem third : Ideal.ofBits .f32 0x3D372713#32 = ((12003091 / 268435456 : ℝ) : EReal) := by
  simp [Ideal.ofBits, Ideal.ieee, -EReal.coe_mul]
  norm_num

theorem half : Ideal.ofBits .f32 0x3F000000#32 = ((1 / 2 : ℝ) : EReal) := by
  simp [Ideal.ofBits, Ideal.ieee, -EReal.coe_mul]
  norm_num

theorem one : Ideal.ofBits .f32 0x3F800000#32 = ((1 : ℝ) : EReal) := Ideal.ofBits_one_f32

/-- The reference's gelu of a real number is the kernel's. -/
theorem gelu_real (y : ℝ) :
    (y : EReal) * (Ideal.ofBits .f32 0x3F000000#32 * (Ideal.ofBits .f32 0x3F800000#32
        + Ideal.tanh (Ideal.ofBits .f32 0x3F4C422A#32 * ((y : EReal)
            + Ideal.ofBits .f32 0x3D372713#32 * ((y : EReal) * (y : EReal) * (y : EReal))))))
      = gelu (y : EReal) := by
  have tanh_real : ∀ r : ℝ, Ideal.tanh (r : EReal) = ((Real.tanh r : ℝ) : EReal) := fun _ => rfl
  rw [gelu, root, third, half, one, cube]
  simp only [← EReal.coe_mul, ← EReal.coe_add, tanh_real]
  rw [show (6693141 / 8388608 : ℝ) * (y + 12003091 / 268435456 * (y * y * y))
      = y * (6693141 / 8388608 + 6693141 / 8388608 * (12003091 / 268435456) * (y * y)) by ring]
  congr 1
  ring

/-- A product of real rows and columns is real. -/
theorem product_real (h : FVec Ideal ⟨2, ![8704, 2048]⟩ .bf16) (w : FVec Ideal ⟨2, ![2048, 12288]⟩ .bf16)
    (hh : ∀ i, h i = (((h i).toReal : ℝ) : EReal)) (hw : ∀ i, w i = (((w i).toReal : ℝ) : EReal)) (R : Fin 8704)
    (C : Fin 12288) : ∃ y : ℝ, product h w R C = (y : EReal) := by
  refine ⟨∑ k : Fin 2048, (h (ix2 R k)).toReal * (w (ix2 k C)).toReal, ?_⟩
  rw [product, ← Attn.coe_sum]
  exact Finset.sum_congr rfl fun k _ => by rw [hh, hw, EReal.coe_mul]; rfl

section
open Cert.Pre_finite4 Cert.Pre_finite4.Gen
variable (h : FVec Ideal S8704x2048 .bf16) (w : FVec Ideal S2048x12288 .bf16) (a : FVec Ideal S1x6144x2048 .f32)
  (b : FVec Ideal S4x2x2048x11008 .f32)

/-- The precondition makes the rows real. -/
theorem finite_h (p : (fn (F := Ideal) h w a b).1 = fun _ => 1#1) (i : S8704x2048.Idx) :
    h i = (((h i).toReal : ℝ) : EReal) := Attn.real_of_test _ (congrFun p i)

/-- The precondition makes the weights real. -/
theorem finite_w (p : (fn (F := Ideal) h w a b).2 = fun _ => 1#1) (i : S2048x12288.Idx) :
    w i = (((w i).toReal : ℝ) : EReal) := Attn.real_of_test _ (congrFun p i)

end

end Gelu

namespace Cert.Reference4Ideal.Ref

open Cert.Reference4Ideal Cert.Reference4Ideal.Gen Cert.Reference4Ideal.Read Idealize.ShloMosaic Idealize.ShloMosaic.TcCoe

/-- The product. -/
theorem product_at (h : FVec Ideal S8704x2048 .bf16) (w : FVec Ideal S2048x12288 .bf16) (R : Fin 8704) (C : Fin 12288) :
    val_main_v2 (F := Ideal) h w (ix2 R C) = Gelu.product h w R C := by
  rw [val_main_v2_apply]
  refine Finset.sum_congr rfl fun k _ => ?_
  rw [val_main_v1_apply, val_main_v0_apply]
  refine congrArg₂ (fun a b : EReal => a * b) (congrArg h ?_) (congrArg w ?_)
  all_goals
    funext a
    match a with
    | ⟨0, _⟩ => rfl
    | ⟨1, _⟩ => rfl

theorem gelu (h : FVec Ideal S8704x2048 .bf16) (w : FVec Ideal S2048x12288 .bf16)
    (hh : ∀ i, h i = (((h i).toReal : ℝ) : EReal)) (hw : ∀ i, w i = (((w i).toReal : ℝ) : EReal)) :
    val_main_v16 (F := Ideal) h w = fun i => Gelu.gelu (Gelu.product h w (i 0) (i 1)) := by
  funext i
  obtain ⟨R, C, rfl⟩ : ∃ (R : Fin 8704) (C : Fin 12288), i = ix2 R C := ⟨i 0, i 1, eq_ix2 i⟩
  show _ = Gelu.gelu (Gelu.product h w R C)
  rw [val_main_v16_apply, val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_v3_apply, val_main_cst_apply, val_main_cst_0_apply, val_main_cst_1_apply,
    val_main_cst_2_apply, product_at]
  obtain ⟨y, hy⟩ := Gelu.product_real h w hh hw R C
  rw [hy]
  exact Gelu.gelu_real y

theorem cast (w : FVec Ideal S1x6144x2048 .f32) :
    val_main_v30 (F := Ideal) w = fun i => w (ix3 (0 : Fin 1) (i 0) (i 1)) := by
  funext i
  obtain ⟨R, C, rfl⟩ : ∃ (R : Fin 6144) (C : Fin 2048), i = ix2 R C := ⟨i 0, i 1, eq_ix2 i⟩
  show val_main_v30 (F := Ideal) w (ix2 R C) = w (ix3 (0 : Fin 1) R C)
  pointwise [val_main_v30, val_main_v29]

theorem halves (w : FVec Ideal S4x2x2048x11008 .f32) :
    val_main_v28 (F := Ideal) w = fun i => Gelu.halves w (i 0) (i 1) (i 2) := by
  funext i
  obtain ⟨p, R, C, rfl⟩ : ∃ (p : Fin 2) (R : Fin 2048) (C : Fin 5632), i = ix3 p R C := ⟨i 0, i 1, i 2, eq_ix3 i⟩
  show val_main_v28 (F := Ideal) w (ix3 p R C) = Gelu.halves w p R C
  pointwise [val_main_v28, val_main_v27, val_main_v26, val_main_v25, val_main_v24, val_main_v23, val_main_v22, val_main_v21,
    val_main_v20, val_main_v19, val_main_v18, val_main_v17, val_main_cst_3, Gelu.halves]
  split
  · by_cases hp : (p : ℕ) < 1
    · obtain rfl : p = 0 := Fin.ext (by show (p : ℕ) = 0; omega)
      rw [dif_pos hp]
      exact congrArg w (congrArg (ix4 1 1 R) (Fin.ext (by show (C : ℕ) = 0 * 5504 + C; omega)))
    · obtain rfl : p = 1 := Fin.ext (by show (p : ℕ) = 1; omega)
      rw [dif_neg hp]
      exact congrArg w (congrArg (ix4 1 1 R) (Fin.ext (by show 5504 + (C : ℕ) = 1 * 5504 + C; omega)))
  · rfl

end Cert.Reference4Ideal.Ref

end
-- ==== Proof.Gelu.Claims.lean ====
module
public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gelu.Ref
public import Idealize.ShloMosaic.Lib.Claim
public import Idealize.ShloMosaic.Lib.Quiescent
@[expose] public section
/-! The claims of the gMLP's input call. -/
set_option maxRecDepth 32768

noncomputable section

open Idealize.ShloMosaic Idealize.ShloMosaic.TcCoe Idealize.SL.Sem

namespace Cert.Proof.GeluClaims

theorem frame_p : Cert.quiescent_Kernel4 := fun m ρ _ => Cert.Kernel4.Gen.frame m ρ
theorem frame_pi : Cert.quiescent_Kernel4Ideal := fun m ρ _ => Cert.Kernel4Ideal.Gen.frame m ρ
theorem frame_pi' : Cert.quiescent_Kernel4Ideal_pre_finite4 := fun m ρ _ => Cert.Kernel4Ideal.Gen.frame m ρ

theorem frame_ri : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run (F := Ideal) m ρ)

theorem frame_ri' : Cert.quiescent_Reference4Ideal_pre_finite4 := fun m ρ _ => frame_ri m ρ trivial

/-- The named constant is the product of the gelu's two factors. -/
theorem preserves : Cert.preserves_Kernel4_Kernel4Ideal :=
  IdealRules.named_const.statement Cert.Kernel4Ideal.κ "cube" .f32 _ _ rfl

section

open Cert.Reference4Ideal Cert.Reference4Ideal.Read

variable (m : (ℓ : Loc Cert.Kernel4Ideal.nD Cert.Kernel4Ideal.τ Cert.Kernel4Ideal.sig) → Buf (Elt Ideal) ℓ)
  (m' : (ℓ : Loc nD τ sig) → Buf (Elt Ideal) ℓ) (c : Dev nD)

/-- The reference's third result, of the kernel's arguments. -/
theorem result_2
    (a3 : m' ((c.tc : Thread nD τ).loc main_arg3) = m ((c.tc : Thread _ _).loc Cert.Kernel4Ideal.main_arg3)) :
    val_main_v28 (F := Ideal) (m' ((c.tc : Thread nD τ).loc main_arg3))
      = fun i => Gelu.halves (m ((c.tc : Thread _ _).loc Cert.Kernel4Ideal.main_arg3)) (i 0) (i 1) (i 2) := by
  rw [a3]
  exact Ref.halves _

end

/-- The kernel's three results are the reference's: the gelu of the product, the gMLP's output weights and the two halves of
    the next input weights. -/
theorem algebraic : Cert.algebraic_Kernel4Ideal_Reference4Ideal_pre_finite4 := by
  pair_intro
  · run_from Cert.Kernel4Ideal.Gen.run_main m g
  · run_from Cert.Reference4Ideal.Value.run m' g'
    · exact (Cert.Reference4Ideal.Ref.gelu _ _ (Gelu.finite_h _ _ _ _ (hpre c).1) (Gelu.finite_w _ _ _ _ (hpre c).2)).trans
        (Cert.Kernel4Ideal.Val.gelu_final m c).symm
    · exact (Cert.Reference4Ideal.Ref.cast _).trans (Cert.Kernel4Ideal.Val.mix_final m c).symm
    · exact (result_2 m m' c (hagree c).2.2.2).trans (Cert.Kernel4Ideal.Val.halves_final m c).symm

end Cert.Proof.GeluClaims

end
-- ==== Proof.Rope.Spec.lean ====
/-
What the rotation call of a layer with column-major heads computes, entry by entry, over the exact extended reals.

The product of the rows with the layer's first weights has 6144 columns: 24 pieces of 256, each two heads of 128. Pieces 0 to
15 hold queries and keys, which a rotation turns pair by pair at the latent rows; the other pieces and the context rows keep
the product. The pair `j` of a head turns by the latent token's grid row (`j < 32`) or grid column, times a frequency.
-/
module

public import Idealize.ShloMosaic.Lib.Pointwise
public import proofs.«01_k».proof.Proof.Attn.Online

@[expose] public section

set_option maxRecDepth 16384

noncomputable section

namespace Rope

open Idealize.ShloMosaic

/-- The `j`th frequency, `10000 ^ (-2 j / 64)`, as both programs compute it. -/
def freq (j : ℕ) : EReal :=
  Ideal.pow (Ideal.ofBits .f32 0x461C4000#32)
    (Ideal.div (-(Ideal.ofBits .f32 0x40000000#32 * (FloatOps.sitofp (F := Ideal) FTy.f32 (BitVec.ofNat 32 j) : EReal)))
      (Ideal.ofBits .f32 0x42800000#32))

/-- The angle by which pair `j` of a head turns at token `n`. -/
def ang (n j : ℕ) : EReal :=
  if j < 32 then (FloatOps.sitofp (F := Ideal) FTy.f32 (BitVec.ofNat 32 (n / 64)) : EReal) * freq j
  else (FloatOps.sitofp (F := Ideal) FTy.f32 (BitVec.ofNat 32 (n % 64)) : EReal) * freq (j - 32)

/-- The other column of a column's pair. -/
def partner (e : Fin 256) : Fin 256 := ⟨if (e : ℕ) % 2 = 0 then e + 1 else e - 1, by split <;> omega⟩

/-- A column of a piece turned with its partner, at row `R` (two sets of 4096 latent tokens one below the other). -/
def turn (R : ℕ) (y : Fin 256 → EReal) (e : Fin 256) : EReal :=
  if (e : ℕ) % 2 = 0 then
    y e * Ideal.cos (ang (R % 4096) (e % 128 / 2)) - y (partner e) * Ideal.sin (ang (R % 4096) (e % 128 / 2))
  else y (partner e) * Ideal.sin (ang (R % 4096) (e % 128 / 2)) + y e * Ideal.cos (ang (R % 4096) (e % 128 / 2))

/-- One entry of the product. -/
def product (h : FVec Ideal ⟨2, ![8704, 2048]⟩ .bf16) (w : FVec Ideal ⟨2, ![2048, 6144]⟩ .bf16) (n : Fin 24) (R : Fin 8704)
    (e : Fin 256) : EReal := ∑ k : Fin 2048, h (ix2 R k) * w (ix2 k ⟨n * 256 + e, by omega⟩)

/-- One entry of the call's first result. -/
def piece (h : FVec Ideal ⟨2, ![8704, 2048]⟩ .bf16) (w : FVec Ideal ⟨2, ![2048, 6144]⟩ .bf16) (n : Fin 24) (R : Fin 8704)
    (e : Fin 256) : EReal :=
  if (n : ℕ) < 16 ∧ (R : ℕ) < 8192 then turn R (product h w n R) e else product h w n R e

/-- A product of real rows and columns is real. -/
theorem product_real (h : FVec Ideal ⟨2, ![8704, 2048]⟩ .bf16) (w : FVec Ideal ⟨2, ![2048, 6144]⟩ .bf16)
    (hh : ∀ i, h i = (((h i).toReal : ℝ) : EReal)) (hw : ∀ i, w i = (((w i).toReal : ℝ) : EReal)) (n : Fin 24) (R : Fin 8704)
    (e : Fin 256) : ∃ y : ℝ, product h w n R e = (y : EReal) := by
  refine ⟨∑ k : Fin 2048, (h (ix2 R k)).toReal * (w (ix2 k ⟨n * 256 + e, by omega⟩)).toReal, ?_⟩
  rw [product, ← Attn.coe_sum]
  exact Finset.sum_congr rfl fun k _ => by rw [hh, hw, EReal.coe_mul]; rfl

/-- The columns of a table that picks the partner out of a row. -/
def swap (k e : Fin 256) : EReal := if k = partner e then 1 else 0

theorem sum_swap (y : Fin 256 → EReal) (e : Fin 256) : ∑ k, y k * swap k e = y (partner e) := by
  unfold swap
  simp

/-- The sign of a column's sine. -/
def sign (e : Fin 256) : EReal := if (e : ℕ) % 2 = 0 then -1 else 1

/-- A real row, split in itself and a rest of zero, exchanged with the table and added back, is the row turned. -/
theorem turned (R : ℕ) (y : Fin 256 → EReal) (hy : ∀ e, ∃ r : ℝ, y e = (r : EReal)) (e : Fin 256) :
    y e * Ideal.cos (ang (R % 4096) (e % 128 / 2))
        + ((∑ k, y k * swap k e) + ∑ k, (y k - y k) * swap k e) * (Ideal.sin (ang (R % 4096) (e % 128 / 2)) * sign e)
      = turn R y e := by
  have z : ∀ k, y k - y k = 0 := fun k => by
    obtain ⟨r, hr⟩ := hy k
    rw [hr, ← EReal.coe_sub, sub_self, EReal.coe_zero]
  have s : ∑ k, (y k - y k) * swap k e = 0 := Finset.sum_eq_zero fun k _ => by rw [z, zero_mul]
  rw [s, add_zero, sum_swap]
  unfold turn sign
  split
  · rw [mul_neg, mul_one, mul_neg, sub_eq_add_neg]
  · rw [mul_one, add_comm]

/-- With cosine one and sine zero the row is kept. -/
theorem kept (y q : EReal) : y * 1 + q * 0 = y := by rw [mul_one, mul_zero, add_zero]

end Rope

end
-- ==== Proof.Rope.Tables.lean ====
/- The tables that the host code makes for the rotation: cosines, signed sines and the exchange of neighbours. -/
module

public import proofs.«01_k».proof.Proof.Gen.Kernel5Ideal.Frame
public import proofs.«01_k».proof.Proof.Rope.Spec
public import Idealize.ShloMosaic.Lib.IdealHost
public import Idealize.ShloMosaic.Lib.StableHlo.RunRead
public import Idealize.ShloMosaic.Lib.Pointwise
public import Idealize.ShloMosaic.Lib.Claim

@[expose] public section

set_option maxRecDepth 32768

noncomputable section

namespace Cert.Kernel5Ideal.Val

open Cert.Kernel5Ideal Cert.Kernel5Ideal.Gen Idealize.ShloMosaic Idealize.ShloMosaic.TcCoe Idealize.SL.Sem

/-- Two tables put one below the other. -/
theorem join_rows (Y : FVec Ideal S8192x256 .f32) (Z : FVec Ideal S512x256 .f32) (R : Fin 8704) (e : Fin 256) :
    concatenate S8704x256 0 [⟨S8192x256, Y⟩, ⟨S512x256, Z⟩] concatenates_S8192x256_S512x256_S8704x256_d0 (ix2 R e)
      = if h : (R : ℕ) < 8192 then Y (ix2 ⟨R, h⟩ e) else Z (ix2 ⟨R - 8192, by omega⟩ e) := by
  pointwise []

theorem sign_word (e : Fin 256) : Ideal.ofBits FTy.f32 (lit0 (S2.rowMajor (ix1 (⟨(e : ℕ) % 128 % 2, by omega⟩ : Fin 2)))) = Rope.sign e := by
  have h : ∀ k : Fin 2, Ideal.ofBits FTy.f32 (lit0 (S2.rowMajor (ix1 k))) = if (k : ℕ) = 0 then -1 else 1 := fun k => by
    match k with
    | 0 =>
      show Ideal.ofBits FTy.f32 0xBF800000#32 = -1
      simp [Ideal.ofBits, Ideal.ieee]
      rw [← EReal.coe_mul, ← EReal.coe_one]
      norm_num
    | 1 =>
      show Ideal.ofBits FTy.f32 0x3F800000#32 = _
      rw [Ideal.ofBits_one_f32]; rfl
  rw [h, Rope.sign]
  show (if (e : ℕ) % 128 % 2 = 0 then (-1 : EReal) else 1) = _
  rw [show (e : ℕ) % 128 % 2 = (e : ℕ) % 2 by omega]

/-- The table of ones at each column's partner, entry by entry. -/
theorem swap_word (k e : Fin 256) :
    (FloatOps.uitofp (F := Ideal) FTy.bf16 (IntOp.cmpi CmpIPredicate.eq (BitVec.ofNat 32 ↑k) (IntOp.xori (BitVec.ofNat 32 ↑e) 1#32)) : EReal)
      = Rope.swap k e := by
  have hx : ∀ e : Fin 256, IntOp.xori (BitVec.ofNat 32 ↑e) 1#32 = BitVec.ofNat 32 (Rope.partner e : ℕ) := by decide +kernel
  rw [hx, Rope.swap]
  by_cases h : k = Rope.partner e
  · rw [if_pos h, h]
    simp only [IntOp.cmpi, beq_self_eq_true]
    show (((1 : ℕ) : ℝ) : EReal) = 1
    rw [Nat.cast_one, EReal.coe_one]
  · rw [if_neg h]
    have : BitVec.ofNat 32 (k : ℕ) ≠ BitVec.ofNat 32 (Rope.partner e : ℕ) := fun hb => h (Fin.ext (by
      have := congrArg BitVec.toNat hb
      simp only [BitVec.toNat_ofNat] at this
      omega))
    rw [show IntOp.cmpi CmpIPredicate.eq (BitVec.ofNat 32 (k : ℕ)) (BitVec.ofNat 32 (Rope.partner e : ℕ)) = 0#1 by
      simp only [IntOp.cmpi, beq_eq_false_iff_ne.mpr this]; rfl]
    show (((0 : ℕ) : ℝ) : EReal) = 0
    rw [Nat.cast_zero, EReal.coe_zero]

variable (m : (ℓ : Loc nD τ sig) → Buf (Elt Ideal) ℓ)

theorem cos_joined (c : Dev nD) (R : Fin 8704) (e : Fin 256) :
    V m c main_v44 (ix2 R e) = if h : (R : ℕ) < 8192 then V m c main_v42 (ix2 ⟨R, h⟩ e) else V m c main_v43 (ix2 ⟨R - 8192, by omega⟩ e) := by
  unfold V
  generalize (fun b => m (c, b)) = W
  simp (disch := decide) only [StableHlo.readAfter, StableHlo.readUpto, StableHlo.binary_result']
  exact join_rows _ _ R e

theorem sin_joined (c : Dev nD) (R : Fin 8704) (e : Fin 256) :
    V m c main_v49 (ix2 R e) = if h : (R : ℕ) < 8192 then V m c main_v47 (ix2 ⟨R, h⟩ e) else V m c main_v48 (ix2 ⟨R - 8192, by omega⟩ e) := by
  unfold V
  generalize (fun b => m (c, b)) = W
  simp (disch := decide) only [StableHlo.readAfter, StableHlo.readUpto, StableHlo.binary_result']
  exact join_rows _ _ R e

theorem ang_low (c : Dev nD) (R : Fin 4096) (j : Fin 32) :
    V m c main_v21 (ix2 R j)
      = (FloatOps.sitofp (F := Ideal) FTy.f32 (BitVec.ofNat 32 ((R : ℕ) / 64)) : EReal) * Rope.freq j := by
  unfold V Rope.freq
  after_reads_simp
  pointwise

theorem ang_high (c : Dev nD) (R : Fin 4096) (j : Fin 32) :
    V m c main_v26 (ix2 R j)
      = (FloatOps.sitofp (F := Ideal) FTy.f32 (BitVec.ofNat 32 ((R : ℕ) % 64)) : EReal) * Rope.freq j := by
  unfold V Rope.freq
  after_reads_simp
  pointwise

/-- The angles' table. -/
theorem ang_at (c : Dev nD) (R : Fin 4096) (j : Fin 64) : V m c main_v27 (ix2 R j) = Rope.ang R j := by
  have e : V m c main_v27 (ix2 R j)
      = if h : (j : ℕ) < 32 then V m c main_v21 (ix2 R ⟨j, h⟩) else V m c main_v26 (ix2 R ⟨j - 32, by omega⟩) := by
    unfold V
    after_reads_simp
    pointwise
  rw [e, Rope.ang]
  split
  · rw [ang_low]
  · rw [ang_high]

theorem cos_one (c : Dev nD) (R : Fin 4096) (j : Fin 64) :
    V m c main_v28 (ix2 R j) = Ideal.cos (V m c main_v27 (ix2 R j)) := by
  unfold V
  generalize (fun b => m (c, b)) = W
  simp (disch := decide) only [StableHlo.readAfter, StableHlo.readUpto, StableHlo.unary_result']
  rfl

theorem sin_one (c : Dev nD) (R : Fin 4096) (j : Fin 64) :
    V m c main_v31 (ix2 R j) = Ideal.sin (V m c main_v27 (ix2 R j)) := by
  unfold V
  generalize (fun b => m (c, b)) = W
  simp (disch := decide) only [StableHlo.readAfter, StableHlo.readUpto, StableHlo.unary_result']
  rfl

theorem cos_rows (c : Dev nD) (R : Fin 8192) (e : Fin 256) :
    V m c main_v42 (ix2 R e)
      = Ideal.cos (V m c main_v27 (ix2 ⟨(R : ℕ) % 4096, Nat.mod_lt _ (by omega)⟩ ⟨(e : ℕ) % 128 / 2, by omega⟩)) := by
  rw [← cos_one]
  unfold V
  after_reads_simp
  pointwise

theorem sin_rows (c : Dev nD) (R : Fin 8192) (e : Fin 256) :
    V m c main_v47 (ix2 R e)
      = Ideal.sin (V m c main_v27 (ix2 ⟨(R : ℕ) % 4096, Nat.mod_lt _ (by omega)⟩ ⟨(e : ℕ) % 128 / 2, by omega⟩))
        * Rope.sign e := by
  rw [← sign_word, ← sin_one]
  unfold V
  after_reads_simp
  pointwise

theorem one_at (c : Dev nD) (R : Fin 512) (j : Fin 256) : V m c main_v43 (ix2 R j) = (1 : EReal) := by
  unfold V
  after_reads_simp
  pointwise

theorem zero_at (c : Dev nD) (R : Fin 512) (j : Fin 256) : V m c main_v48 (ix2 R j) = (0 : EReal) := by
  unfold V
  after_reads_simp
  pointwise

/-- The cosines: the angle's at the latent rows, one at the context rows. -/
theorem cos_at (c : Dev nD) (R : Fin 8704) (e : Fin 256) :
    V m c main_v44 (ix2 R e) = if (R : ℕ) < 8192 then Ideal.cos (Rope.ang (R % 4096) (e % 128 / 2)) else 1 := by
  rw [cos_joined]
  by_cases h : (R : ℕ) < 8192
  · rw [dif_pos h, if_pos h, cos_rows, ang_at]
  · rw [dif_neg h, if_neg h, one_at]

/-- The sines: the angle's with the column's sign at the latent rows, zero at the context rows. -/
theorem sin_at (c : Dev nD) (R : Fin 8704) (e : Fin 256) :
    V m c main_v49 (ix2 R e)
      = if (R : ℕ) < 8192 then Ideal.sin (Rope.ang (R % 4096) (e % 128 / 2)) * Rope.sign e else 0 := by
  rw [sin_joined]
  by_cases h : (R : ℕ) < 8192
  · rw [dif_pos h, if_pos h, sin_rows, ang_at]
  · rw [dif_neg h, if_neg h, zero_at]

/-- The exchange of neighbours. -/
theorem swap_at (c : Dev nD) (k e : Fin 256) : V m c main_v58 (ix2 k e) = Rope.swap k e := by
  rw [← swap_word]
  unfold V
  after_reads_simp
  pointwise

end Cert.Kernel5Ideal.Val

end
-- ==== Proof.Rope.Value.lean ====
/-
What the rotation call computes: the product, its first sixteen pieces turned at the latent rows, and a weight array that a
later call reads.

Grid point `t` of 48 is row block `t / 12` of 2176 rows at pieces `2 (t % 12)` and `2 (t % 12) + 1`; it turns where
`t % 12 ≤ 7`.
-/
module

public import proofs.«01_k».proof.Proof.Gen.Kernel5Ideal.Value
public import proofs.«01_k».proof.Proof.Rope.Tables
public import Idealize.ShloMosaic.Lib.Pipeline.ValueKit
public import Idealize.ShloMosaic.Lib.Pointwise

@[expose] public section

set_option maxRecDepth 32768

noncomputable section

namespace Cert.Kernel5Ideal.Val

open Cert.Kernel5Ideal Cert.Kernel5Ideal.Gen Idealize.ShloMosaic Idealize.ShloMosaic.TcCoe Idealize.SL.Sem
open Idealize.ShloMosaic.Pipeline (Dat)

/-! ## The stored pieces, over the blocks read -/

theorem pay3_at (h : Vec Ideal S2176x2048 .bf16) (w : Vec Ideal S2048x512 .bf16) (x : S1x2176x256.Idx) (r : Fin 2176)
    (e : Fin 256) (h1 : (x 1 : ℕ) = r) (h2 : (x 2 : ℕ) = e) :
    k0_pay3 h w x = ∑ k : Fin 2048, h (ix2 r k) * w (ix2 k ⟨e, by omega⟩) := by
  have hx : x = ix3 (0 : Fin 1) r e := funext fun a => match a with
    | ⟨0, _⟩ => Subsingleton.elim (α := Fin 1) _ _
    | ⟨1, _⟩ => Fin.ext h1
    | ⟨2, _⟩ => Fin.ext h2
  refine (congrArg (k0_pay3 h w) hx).trans ?_
  pointwise [k0_pay3, k0_pay2]

theorem pay4_at (h : Vec Ideal S2176x2048 .bf16) (w : Vec Ideal S2048x512 .bf16) (x : S1x2176x256.Idx) (r : Fin 2176)
    (e : Fin 256) (h1 : (x 1 : ℕ) = r) (h2 : (x 2 : ℕ) = e) :
    k0_pay4 h w x = ∑ k : Fin 2048, h (ix2 r k) * w (ix2 k ⟨256 + e, by omega⟩) := by
  have hx : x = ix3 (0 : Fin 1) r e := funext fun a => match a with
    | ⟨0, _⟩ => Subsingleton.elim (α := Fin 1) _ _
    | ⟨1, _⟩ => Fin.ext h1
    | ⟨2, _⟩ => Fin.ext h2
  refine (congrArg (k0_pay4 h w) hx).trans ?_
  pointwise [k0_pay4, k0_pay2]

theorem pay12_at (h : Vec Ideal S2176x2048 .bf16) (co si : Vec Ideal S2176x256 .f32) (sw : Vec Ideal S256x256 .bf16)
    (w : Vec Ideal S2048x512 .bf16) (y : Fin 256 → EReal) (x : S1x2176x256.Idx) (r : Fin 2176)
    (e : Fin 256) (h1 : (x 1 : ℕ) = r) (h2 : (x 2 : ℕ) = e)
    (hy : ∀ e : Fin 256, ∑ k : Fin 2048, h (ix2 r k) * w (ix2 k ⟨e, by omega⟩) = y e) :
    k0_pay12 h co si sw w x
      = y e * co (ix2 r e)
        + ((∑ k, y k * sw (ix2 k e)) + ∑ k, (y k - y k) * sw (ix2 k e)) * si (ix2 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  simp only [← hy]
  pointwise [k0_pay12, k0_pay6, k0_pay7, k0_pay8, k0_pay9, k0_pay10, k0_pay11]

theorem pay13_at (h : Vec Ideal S2176x2048 .bf16) (co si : Vec Ideal S2176x256 .f32) (sw : Vec Ideal S256x256 .bf16)
    (w : Vec Ideal S2048x512 .bf16) (y : Fin 256 → EReal) (x : S1x2176x256.Idx) (r : Fin 2176)
    (e : Fin 256) (h1 : (x 1 : ℕ) = r) (h2 : (x 2 : ℕ) = e)
    (hy : ∀ e : Fin 256, ∑ k : Fin 2048, h (ix2 r k) * w (ix2 k ⟨256 + e, by omega⟩) = y e) :
    k0_pay1 (k0_pay13 h co si sw w) x
      = y e * co (ix2 r e)
        + ((∑ k, y k * sw (ix2 k e)) + ∑ k, (y k - y k) * sw (ix2 k e)) * si (ix2 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  simp only [← hy]
  pointwise [k0_pay1, k0_pay13, k0_pay6, k0_pay7, k0_pay8, k0_pay9, k0_pay10, k0_pay11]

theorem pay5_at (v : Vec Ideal S1x64x2048 .f32) (r : Fin 64) (e : Fin 2048) : k0_pay5 v (ix2 r e) = v (ix3 0 r e) := by
  pointwise [k0_pay5]

variable (m : (ℓ : Loc nD τ sig) → Buf (Elt Ideal) ℓ)

theorem idx : ∀ t : Fin cfg0.N, win0_0.index t = ![t.val / 12, 0] ∧ win0_1.index t = ![0, t.val % 12]
    ∧ win0_2.index t = ![t.val / 12, 0] ∧ win0_3.index t = ![t.val / 12, 0] ∧ win0_4.index t = ![0, 0]
    ∧ win0_5.index t = ![0, min t.val 31, 0]
    ∧ win0_6.index t = ![t.val % 12, t.val / 12, 0] ∧ win0_7.index t = ![min t.val 31, 0] :=
  (by decide +kernel : ∀ t : Fin grid0.N, _)

/-! ## The blocks read at a point -/

theorem h_block (c : Dev nD) (t : Fin cfg0.N) (r : Fin 2176) (k : Fin 2048) (R : Fin 8704)
    (hR : (R : ℕ) = t.val / 12 * 2176 + r) : iblk m c 0 t (ix2 r k) = m ((c : Thread nD τ).loc main_arg0) (ix2 R k) := by
  blk_point [iblk, V, idx t]

theorem w_block (c : Dev nD) (t : Fin cfg0.N) (k : Fin 2048) (e : Fin 512) (C : Fin 6144)
    (hC : (C : ℕ) = t.val % 12 * 512 + e) : iblk m c 1 t (ix2 k e) = m ((c : Thread nD τ).loc main_arg1) (ix2 k C) := by
  blk_point [iblk, V, idx t]

theorem cos_block (c : Dev nD) (t : Fin cfg0.N) (r : Fin 2176) (e : Fin 256) (R : Fin 8704)
    (hR : (R : ℕ) = t.val / 12 * 2176 + r) : iblk m c 2 t (ix2 r e) = V m c main_v44 (ix2 R e) := by
  unfold iblk
  generalize V m c = W
  blk_point [idx t]

theorem sin_block (c : Dev nD) (t : Fin cfg0.N) (r : Fin 2176) (e : Fin 256) (R : Fin 8704)
    (hR : (R : ℕ) = t.val / 12 * 2176 + r) : iblk m c 3 t (ix2 r e) = V m c main_v49 (ix2 R e) := by
  unfold iblk
  generalize V m c = W
  blk_point [idx t]

theorem swap_block (c : Dev nD) (t : Fin cfg0.N) (k e : Fin 256) : iblk m c 4 t (ix2 k e) = V m c main_v58 (ix2 k e) := by
  unfold iblk
  generalize V m c = W
  blk_point [idx t]

theorem out_block (c : Dev nD) (t : Fin cfg0.N) (r : Fin 64) (e : Fin 2048) (R : Fin 2048)
    (hR : (R : ℕ) = min t.val 31 * 64 + r) :
    iblk m c 5 t (ix3 (0 : Fin 1) r e) = m ((c : Thread nD τ).loc main_arg2) (ix3 (0 : Fin 1) R e) := by
  blk_point [iblk, V, idx t]

/-! ## The weights -/

theorem weight_point (c : Dev nD) (t : Fin cfg0.N) (r : Fin 64) (e : Fin 2048) (R : Fin 2048)
    (hR : (R : ℕ) = min t.val 31 * 64 + r) :
    (outsAt0 m c t.val t.isLt).2 (ix2 r e) = m ((c : Thread nD τ).loc main_arg2) (ix3 (0 : Fin 1) R e) := by
  rw [← out_block m c t r e R hR]
  by_cases h0 : t.val % 12 ≤ 7
  · rw [outsAt0_A m c t h0 (by omega)]
    frame_out
    rw [pay5_at]
  · rw [outsAt0_B m c t h0 (by omega)]
    frame_out
    rw [pay5_at]

theorem weight_final (c : Dev nD) : (dats m 0 c).arrAt 7 (cfgs 0).N
    = fun i => m ((c : Thread nD τ).loc main_arg2) (ix3 (0 : Fin 1) (i 0) (i 1)) := by
  refine (dats m 0 c).arrAt_eq_of_covers 7 _ (by decide +kernel) fun t hf y => ?_
  have e0 : (((cfg0.win 7).blk t).view.emb y 0 : ℕ) = min t.val 31 * 64 + (y 0 : ℕ) := by blk_simp [idx t]
  have e1 : ((cfg0.win 7).blk t).view.emb y 1 = (⟨y 1, (y 1).isLt⟩ : Fin 2048) := Fin.ext (by blk_simp [idx t])
  rw [e1]
  refine Eq.trans ?_ (weight_point m c t ⟨y 0, (y 0).isLt⟩ ⟨y 1, (y 1).isLt⟩ _ e0)
  blk_simp
  rw [after0_7]
  exact congrArg _ (eq_ix2 y)

/-! ## The pieces -/

/-- A product of blocks is the call's, where the blocks' entries are the arrays'. -/
theorem product_of (a : Vec Ideal S2176x2048 .bf16) (b : Vec Ideal S2048x512 .bf16) (h : FVec Ideal S8704x2048 .bf16)
    (w : FVec Ideal S2048x6144 .bf16) (r : Fin 2176) (f : Fin 512) (n : Fin 24) (R : Fin 8704) (e : Fin 256)
    (ha : ∀ k : Fin 2048, a (ix2 r k) = h (ix2 R k)) (hb : ∀ k : Fin 2048, b (ix2 k f) = w (ix2 k ⟨n * 256 + e, by omega⟩)) :
    ∑ k : Fin 2048, a (ix2 r k) * b (ix2 k f) = Rope.product h w n R e := by
  simp only [Rope.product, ha, hb]

theorem product_block (c : Dev nD) (t : Fin cfg0.N) (r : Fin 2176) (f : Fin 512) (n : Fin 24) (R : Fin 8704) (e : Fin 256)
    (hf : (n : ℕ) * 256 + e = t.val % 12 * 512 + f) (hR : (R : ℕ) = t.val / 12 * 2176 + r) (a : Vec Ideal S2176x2048 .bf16)
    (b : Vec Ideal S2048x512 .bf16) (ha : a = iblk m c 0 t) (hb : b = iblk m c 1 t) :
    ∑ k : Fin 2048, a (ix2 r k) * b (ix2 k f)
      = Rope.product (m ((c : Thread nD τ).loc main_arg0)) (m ((c : Thread nD τ).loc main_arg1)) n R e :=
  product_of a b _ _ r f n R e (fun k => ha ▸ h_block m c t r k R hR) fun k => hb ▸ w_block m c t k f ⟨n * 256 + e, by omega⟩ hf

/-- The rotation's formula over the tables is the piece, turned at the latent rows. -/
theorem formula_of (co si : Vec Ideal S2176x256 .f32) (sw : Vec Ideal S256x256 .bf16) (r : Fin 2176) (R : ℕ) (e : Fin 256)
    (hc : co (ix2 r e) = if R < 8192 then Ideal.cos (Rope.ang (R % 4096) (e % 128 / 2)) else 1)
    (hs : si (ix2 r e) = if R < 8192 then Ideal.sin (Rope.ang (R % 4096) (e % 128 / 2)) * Rope.sign e else 0)
    (hw : ∀ k : Fin 256, sw (ix2 k e) = Rope.swap k e) (y : Fin 256 → EReal) (hy : ∀ e, ∃ a : ℝ, y e = (a : EReal)) :
    y e * co (ix2 r e) + ((∑ k, y k * sw (ix2 k e)) + ∑ k, (y k - y k) * sw (ix2 k e)) * si (ix2 r e)
      = if R < 8192 then Rope.turn R y e else y e := by
  simp only [hw]
  rw [hc, hs]
  by_cases h : R < 8192
  · rw [if_pos h, if_pos h, if_pos h]
    exact Rope.turned R y hy e
  · rw [if_neg h, if_neg h, if_neg h]
    exact Rope.kept _ _

theorem formula (c : Dev nD) (t : Fin cfg0.N) (r : Fin 2176) (R : Fin 8704) (e : Fin 256)
    (hR : (R : ℕ) = t.val / 12 * 2176 + r) (y : Fin 256 → EReal) (hy : ∀ e, ∃ a : ℝ, y e = (a : EReal))
    (co si : Vec Ideal S2176x256 .f32) (sw : Vec Ideal S256x256 .bf16) (hc : co = iblk m c 2 t) (hs : si = iblk m c 3 t)
    (hw : sw = iblk m c 4 t) :
    y e * co (ix2 r e) + ((∑ k, y k * sw (ix2 k e)) + ∑ k, (y k - y k) * sw (ix2 k e)) * si (ix2 r e)
      = if (R : ℕ) < 8192 then Rope.turn R y e else y e :=
  formula_of co si sw r R e (hc ▸ (cos_block m c t r e R hR).trans (cos_at m c R e))
    (hs ▸ (sin_block m c t r e R hR).trans (sin_at m c R e))
    (fun k => hw ▸ (swap_block m c t k e).trans (swap_at m c k e)) y hy

section

variable (hr : ∀ (c : Dev nD) (n : Fin 24) (R : Fin 8704) (e : Fin 256), ∃ a : ℝ,
  Rope.product (m ((c : Thread nD τ).loc main_arg0)) (m ((c : Thread nD τ).loc main_arg1)) n R e = (a : EReal))
include hr

theorem piece_point (c : Dev nD) (t : Fin cfg0.N) (p : Fin 2) (r : Fin 2176) (e : Fin 256) (n : Fin 24) (R : Fin 8704)
    (hn : (n : ℕ) = t.val % 12 * 2 + p) (hR : (R : ℕ) = t.val / 12 * 2176 + r) :
    (outsAt0 m c t.val t.isLt).1 (ix3 p r e)
      = Rope.piece (m ((c : Thread nD τ).loc main_arg0)) (m ((c : Thread nD τ).loc main_arg1)) n R e := by
  by_cases g : t.val % 12 ≤ 7
  · rw [outsAt0_A m c t g (by omega)]
    frame_out
    have hp : Rope.piece (m ((c : Thread nD τ).loc main_arg0)) (m ((c : Thread nD τ).loc main_arg1)) n R e
        = if (R : ℕ) < 8192 then
            Rope.turn R (Rope.product (m ((c : Thread nD τ).loc main_arg0)) (m ((c : Thread nD τ).loc main_arg1)) n R) e
          else Rope.product (m ((c : Thread nD τ).loc main_arg0)) (m ((c : Thread nD τ).loc main_arg1)) n R e := by
      unfold Rope.piece
      exact if_congr (and_iff_right (by omega)) rfl rfl
    rw [hp]
    canon_tiles x h
    · have e0 : (p : ℕ) = 1 + (x 0 : ℕ) := h0
      refine (pay13_at _ _ _ _ _ _ x r e h1.symm h2.symm fun e => ?_).trans (formula m c t r R e hR _ (hr c n R) _ _ _ rfl rfl rfl)
      exact product_block m c t r _ n R e (by show _ = t.val % 12 * 512 + (256 + (e : ℕ)); omega) hR _ _ rfl rfl
    · have e0 : (p : ℕ) = (x 0 : ℕ) := h0
      refine (pay12_at _ _ _ _ _ _ x r e h1.symm h2.symm fun e => ?_).trans (formula m c t r R e hR _ (hr c n R) _ _ _ rfl rfl rfl)
      exact product_block m c t r _ n R e (by show _ = t.val % 12 * 512 + (e : ℕ); omega) hR _ _ rfl rfl
  · rw [outsAt0_B m c t g (by omega)]
    frame_out
    have hp : Rope.piece (m ((c : Thread nD τ).loc main_arg0)) (m ((c : Thread nD τ).loc main_arg1)) n R e
        = Rope.product (m ((c : Thread nD τ).loc main_arg0)) (m ((c : Thread nD τ).loc main_arg1)) n R e := by
      unfold Rope.piece
      exact if_neg fun q => by omega
    rw [hp]
    canon_tiles x h
    · have e0 : (p : ℕ) = 1 + (x 0 : ℕ) := h0
      refine (pay4_at _ _ x r e h1.symm h2.symm).trans ?_
      exact product_block m c t r _ n R e (by show _ = t.val % 12 * 512 + (256 + (e : ℕ)); omega) hR _ _ rfl rfl
    · have e0 : (p : ℕ) = (x 0 : ℕ) := h0
      refine (pay3_at _ _ x r e h1.symm h2.symm).trans ?_
      exact product_block m c t r _ n R e (by show _ = t.val % 12 * 512 + (e : ℕ); omega) hR _ _ rfl rfl

/-- The first result: the product's pieces, the queries and keys turned at the latent rows. -/
theorem piece_final (c : Dev nD) : (dats m 0 c).arrAt 6 (cfgs 0).N
    = fun i => Rope.piece (m ((c : Thread nD τ).loc main_arg0)) (m ((c : Thread nD τ).loc main_arg1)) (i 0) (i 1) (i 2) := by
  refine (dats m 0 c).arrAt_eq_of_covers 6 _ (by decide +kernel) fun t hf y => ?_
  have e0 : (((cfg0.win 6).blk t).view.emb y 0 : ℕ) = t.val % 12 * 2 + (y 0 : ℕ) := by blk_simp [idx t]
  have e1 : (((cfg0.win 6).blk t).view.emb y 1 : ℕ) = t.val / 12 * 2176 + (y 1 : ℕ) := by blk_simp [idx t]
  have e2 : ((cfg0.win 6).blk t).view.emb y 2 = (⟨y 2, (y 2).isLt⟩ : Fin 256) := Fin.ext (by blk_simp [idx t])
  rw [e2]
  refine Eq.trans ?_ (piece_point m hr c t ⟨y 0, (y 0).isLt⟩ ⟨y 1, (y 1).isLt⟩ ⟨y 2, (y 2).isLt⟩ _ _ e0 e1)
  blk_simp
  rw [after0_6]
  exact congrArg _ (eq_ix3 y)

end

end Cert.Kernel5Ideal.Val

end
-- ==== Proof.Rope.Ref.lean ====
/- What the reference of the rotation call computes, and what its precondition gives. -/
module

public import proofs.«01_k».proof.Proof.Gen.Reference5Ideal.Read
public import proofs.«01_k».proof.Proof.Gen.Pre_finite5
public import proofs.«01_k».proof.Proof.Attn.Finite
public import proofs.«01_k».proof.Proof.Rope.Spec
public import Idealize.ShloMosaic.Lib.Pointwise

@[expose] public section

set_option maxRecDepth 32768

noncomputable section

open Idealize.ShloMosaic

namespace Rope

section
open Cert.Pre_finite5 Cert.Pre_finite5.Gen
variable (h : FVec Ideal S8704x2048 .bf16) (w : FVec Ideal S2048x6144 .bf16) (a : FVec Ideal S1x2048x2048 .f32)

/-- The precondition makes the rows real. -/
theorem finite_h (p : (fn (F := Ideal) h w a).1 = fun _ => 1#1) (i : S8704x2048.Idx) :
    h i = (((h i).toReal : ℝ) : EReal) := Attn.real_of_test _ (congrFun p i)

/-- The precondition makes the weights real. -/
theorem finite_w (p : (fn (F := Ideal) h w a).2 = fun _ => 1#1) (i : S2048x6144.Idx) :
    w i = (((w i).toReal : ℝ) : EReal) := Attn.real_of_test _ (congrFun p i)

end

end Rope

namespace Cert.Reference5Ideal.Ref

open Cert.Reference5Ideal Cert.Reference5Ideal.Gen Cert.Reference5Ideal.Read

/-! ## The angles -/

theorem ang_low (R : Fin 4096) (j : Fin 32) :
    val_main_v24 (F := Ideal) (ix2 R j)
      = (FloatOps.sitofp (F := Ideal) FTy.f32 (BitVec.ofNat 32 ((R : ℕ) / 64)) : EReal) * Rope.freq j := by
  unfold Rope.freq
  pointwise [val_main_v3, val_main_v4, val_main_v5, val_main_v10, val_main_v11, val_main_v12, val_main_v13, val_main_v14,
    val_main_v15, val_main_v16, val_main_v17, val_main_v18, val_main_v19, val_main_v20, val_main_v21, val_main_v22,
    val_main_v23, val_main_v24, val_main_cst, val_main_cst_0, val_main_cst_1, val_main_cst_2]

theorem ang_high (R : Fin 4096) (j : Fin 32) :
    val_main_v29 (F := Ideal) (ix2 R j)
      = (FloatOps.sitofp (F := Ideal) FTy.f32 (BitVec.ofNat 32 ((R : ℕ) % 64)) : EReal) * Rope.freq j := by
  unfold Rope.freq
  pointwise [val_main_v6, val_main_v7, val_main_v8, val_main_v9, val_main_v10, val_main_v11, val_main_v12, val_main_v13,
    val_main_v14, val_main_v15, val_main_v16, val_main_v17, val_main_v18, val_main_v19, val_main_v25, val_main_v26,
    val_main_v27, val_main_v28, val_main_v29, val_main_cst, val_main_cst_0, val_main_cst_1, val_main_cst_2]

theorem join_ang (Y Z : FVec Ideal S4096x32 .f32) (R : Fin 4096) (j : Fin 64) :
    concatenate S4096x64 1 [⟨S4096x32, Y⟩, ⟨S4096x32, Z⟩] concatenates_S4096x32_S4096x32_S4096x64_d1 (ix2 R j)
      = if h : (j : ℕ) < 32 then Y (ix2 R ⟨j, h⟩) else Z (ix2 R ⟨j - 32, by omega⟩) := by
  pointwise []

theorem ang_at (R : Fin 4096) (j : Fin 64) : val_main_v30 (F := Ideal) (ix2 R j) = Rope.ang R j := by
  unfold val_main_v30
  rw [join_ang, Rope.ang]
  split
  · rw [ang_low]
  · rw [ang_high]

theorem cos_at (b : Fin 2) (n : Fin 4096) (g : Fin 32) (j : Fin 64) :
    val_main_v42 (F := Ideal) (ix4 b n g j) = Ideal.cos (Rope.ang n j) := by
  rw [← ang_at]
  unfold val_main_v42 val_main_v41 val_main_v32 val_main_v31
  generalize val_main_v30 (F := Ideal) = A
  pointwise []

theorem sin_at (b : Fin 2) (n : Fin 4096) (g : Fin 32) (j : Fin 64) :
    val_main_v45 (F := Ideal) (ix4 b n g j) = Ideal.sin (Rope.ang n j) := by
  rw [← ang_at]
  unfold val_main_v45 val_main_v44 val_main_v34 val_main_v33
  generalize val_main_v30 (F := Ideal) = A
  pointwise []

theorem sin_at' (b : Fin 2) (n : Fin 4096) (g : Fin 32) (j : Fin 64) :
    val_main_v49 (F := Ideal) (ix4 b n g j) = Ideal.sin (Rope.ang n j) := by
  rw [← ang_at]
  unfold val_main_v49 val_main_v48 val_main_v34 val_main_v33
  generalize val_main_v30 (F := Ideal) = A
  pointwise []

theorem cos_at' (b : Fin 2) (n : Fin 4096) (g : Fin 32) (j : Fin 64) :
    val_main_v52 (F := Ideal) (ix4 b n g j) = Ideal.cos (Rope.ang n j) := by
  rw [← ang_at]
  unfold val_main_v52 val_main_v51 val_main_v32 val_main_v31
  generalize val_main_v30 (F := Ideal) = A
  pointwise []

section

variable (h : FVec Ideal S8704x2048 .bf16) (w : FVec Ideal S2048x6144 .bf16)

/-! ## The pairs -/

theorem even_at (b : Fin 2) (n : Fin 4096) (g : Fin 32) (j : Fin 64) :
    val_main_v38 (F := Ideal) h w (ix4 b n g j)
      = val_main_v2 (F := Ideal) h w (ix2 (⟨b * 4096 + n, by omega⟩ : Fin 8704) (⟨g * 128 + j * 2, by omega⟩ : Fin 6144)) := by
  unfold val_main_v38 val_main_v37 val_main_v36 val_main_v35
  generalize val_main_v2 (F := Ideal) h w = Y
  pointwise []

theorem odd_at (b : Fin 2) (n : Fin 4096) (g : Fin 32) (j : Fin 64) :
    val_main_v40 (F := Ideal) h w (ix4 b n g j)
      = val_main_v2 (F := Ideal) h w (ix2 (⟨b * 4096 + n, by omega⟩ : Fin 8704) (⟨g * 128 + j * 2 + 1, by omega⟩ : Fin 6144)) := by
  unfold val_main_v40 val_main_v39 val_main_v36 val_main_v35
  generalize val_main_v2 (F := Ideal) h w = Y
  pointwise []

/-- The turned columns, from the even and the odd ones. -/
theorem joined_at (R : Fin 8192) (C : Fin 4096) :
    val_main_v58 (F := Ideal) h w (ix2 R C)
      = if (C : ℕ) % 2 = 0 then
          val_main_v47 (F := Ideal) h w (ix4 (⟨R / 4096, by omega⟩ : Fin 2) (⟨R % 4096, Nat.mod_lt _ (by omega)⟩ : Fin 4096)
            (⟨C / 128, by omega⟩ : Fin 32) (⟨C / 2 % 64, by omega⟩ : Fin 64))
        else
          val_main_v54 (F := Ideal) h w (ix4 (⟨R / 4096, by omega⟩ : Fin 2) (⟨R % 4096, Nat.mod_lt _ (by omega)⟩ : Fin 4096)
            (⟨C / 128, by omega⟩ : Fin 32) (⟨C / 2 % 64, by omega⟩ : Fin 64)) := by
  unfold val_main_v58 val_main_v57 val_main_v56 val_main_v55
  generalize val_main_v47 (F := Ideal) h w = Y
  generalize val_main_v54 (F := Ideal) h w = Z
  pointwise []
  by_cases hc : (C : ℕ) % 2 = 0
  · rw [dif_pos (by omega), if_pos hc]
  · rw [dif_neg (by omega), if_neg hc]

/-- The first result, from the product and the turned columns. -/
theorem result_at (n : Fin 24) (R : Fin 8704) (e : Fin 256) :
    val_main_v65 (F := Ideal) h w (ix3 n R e)
      = if hR : (R : ℕ) < 8192 then
          if hn : (n : ℕ) < 16 then val_main_v58 (F := Ideal) h w (ix2 (⟨R, hR⟩ : Fin 8192) (⟨n * 256 + e, by omega⟩ : Fin 4096))
          else val_main_v2 (F := Ideal) h w (ix2 R (⟨n * 256 + e, by omega⟩ : Fin 6144))
        else val_main_v2 (F := Ideal) h w (ix2 R (⟨n * 256 + e, by omega⟩ : Fin 6144)) := by
  unfold val_main_v65 val_main_v64 val_main_v63 val_main_v62 val_main_v61 val_main_v60 val_main_v59
  generalize val_main_v58 (F := Ideal) h w = Y
  generalize val_main_v2 (F := Ideal) h w = Z
  pointwise []
  by_cases hR : (R : ℕ) < 8192
  · rw [dif_pos hR, dif_pos hR]
    by_cases hn : (n : ℕ) < 16
    · rw [dif_pos (by omega), dif_pos hn]
    · rw [dif_neg (by omega), dif_neg hn]
      exact congrArg Z (congrArg (ix2 R) (Fin.ext (by show 4096 + ((n : ℕ) * 256 + e - 4096) = n * 256 + e; omega)))
  · rw [dif_neg hR, dif_neg hR]
    exact congrArg Z (congrArg (fun r => ix2 r _) (Fin.ext (by show 8192 + ((R : ℕ) - 8192) = R; omega)))

theorem product_at (n : Fin 24) (R : Fin 8704) (e : Fin 256) (R' : Fin 8704) (C : Fin 6144) (hR : (R' : ℕ) = R)
    (hC : (C : ℕ) = n * 256 + e) : val_main_v2 (F := Ideal) h w (ix2 R' C) = Rope.product h w n R e := by
  obtain rfl : R' = R := Fin.ext hR
  rw [show C = ⟨n * 256 + e, by omega⟩ from Fin.ext hC]
  unfold Rope.product
  pointwise [val_main_v2, val_main_v1, val_main_v0]

/-- The turned columns are the pieces' products turned. -/
theorem turn_at (n : Fin 24) (hn : (n : ℕ) < 16) (R : Fin 8704) (hR : (R : ℕ) < 8192) (e : Fin 256) :
    val_main_v58 (F := Ideal) h w (ix2 (⟨R, hR⟩ : Fin 8192) (⟨n * 256 + e, by omega⟩ : Fin 4096))
      = Rope.turn R (Rope.product h w n R) e := by
  have hj : ((n : ℕ) * 256 + e) / 2 % 64 = (e : ℕ) % 128 / 2 := by omega
  have hr : (R : ℕ) / 4096 * 4096 + R % 4096 = R := by omega
  rw [joined_at, Rope.turn]
  by_cases he : (e : ℕ) % 2 = 0
  · rw [if_pos (by show ((n : ℕ) * 256 + e) % 2 = 0; omega), if_pos he, val_main_v47_apply, val_main_v43_apply,
      val_main_v46_apply, even_at, odd_at, cos_at, sin_at,
      product_at h w n R e _ _ hr (by show ((n : ℕ) * 256 + e) / 128 * 128 + ((n : ℕ) * 256 + e) / 2 % 64 * 2 = _; omega),
      product_at h w n R (Rope.partner e) _ _ hr (by
        show ((n : ℕ) * 256 + e) / 128 * 128 + ((n : ℕ) * 256 + e) / 2 % 64 * 2 + 1
          = n * 256 + (if (e : ℕ) % 2 = 0 then (e : ℕ) + 1 else e - 1)
        rw [if_pos he]; omega)]
    show _ * Ideal.cos (Rope.ang (R % 4096) (((n : ℕ) * 256 + e) / 2 % 64))
      - _ * Ideal.sin (Rope.ang (R % 4096) (((n : ℕ) * 256 + e) / 2 % 64)) = _
    rw [hj]
  · rw [if_neg (by show ¬((n : ℕ) * 256 + e) % 2 = 0; omega), if_neg he, val_main_v54_apply, val_main_v50_apply,
      val_main_v53_apply, even_at, odd_at, cos_at', sin_at',
      product_at h w n R (Rope.partner e) _ _ hr (by
        show ((n : ℕ) * 256 + e) / 128 * 128 + ((n : ℕ) * 256 + e) / 2 % 64 * 2
          = n * 256 + (if (e : ℕ) % 2 = 0 then (e : ℕ) + 1 else e - 1)
        rw [if_neg he]; omega),
      product_at h w n R e _ _ hr (by show ((n : ℕ) * 256 + e) / 128 * 128 + ((n : ℕ) * 256 + e) / 2 % 64 * 2 + 1 = _; omega)]
    show _ * Ideal.sin (Rope.ang (R % 4096) (((n : ℕ) * 256 + e) / 2 % 64))
      + _ * Ideal.cos (Rope.ang (R % 4096) (((n : ℕ) * 256 + e) / 2 % 64)) = _
    rw [hj]

theorem piece : val_main_v65 (F := Ideal) h w = fun i => Rope.piece h w (i 0) (i 1) (i 2) := by
  funext i
  obtain ⟨n, R, e, rfl⟩ : ∃ (n : Fin 24) (R : Fin 8704) (e : Fin 256), i = ix3 n R e := ⟨i 0, i 1, i 2, eq_ix3 i⟩
  show val_main_v65 (F := Ideal) h w (ix3 n R e) = Rope.piece h w n R e
  rw [result_at, Rope.piece]
  by_cases hR : (R : ℕ) < 8192
  · rw [dif_pos hR]
    by_cases hn : (n : ℕ) < 16
    · rw [dif_pos hn, if_pos ⟨hn, hR⟩, turn_at h w n hn R hR e]
    · rw [dif_neg hn, if_neg fun q => hn q.1, product_at h w n R e _ _ rfl rfl]
  · rw [dif_neg hR, if_neg fun q => hR q.2, product_at h w n R e _ _ rfl rfl]

end

theorem cast (w : FVec Ideal S1x2048x2048 .f32) :
    val_main_v67 (F := Ideal) w = fun i => w (ix3 (0 : Fin 1) (i 0) (i 1)) := by
  funext i
  obtain ⟨R, C, rfl⟩ : ∃ (R : Fin 2048) (C : Fin 2048), i = ix2 R C := ⟨i 0, i 1, eq_ix2 i⟩
  show val_main_v67 (F := Ideal) w (ix2 R C) = w (ix3 (0 : Fin 1) R C)
  pointwise [val_main_v67, val_main_v66]

end Cert.Reference5Ideal.Ref

end
-- ==== Proof.Rope.Claims.lean ====
module
public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Rope.Value
public import proofs.«01_k».proof.Proof.Rope.Ref
public import Idealize.ShloMosaic.Lib.Claim
public import Idealize.ShloMosaic.Lib.Quiescent
@[expose] public section
/-! The claims of the rotation call. -/
set_option maxRecDepth 32768

noncomputable section

open Idealize.ShloMosaic Idealize.ShloMosaic.TcCoe Idealize.SL.Sem

namespace Cert.Proof.RopeClaims

theorem frame_p : Cert.quiescent_Kernel5 := fun m ρ _ => Cert.Kernel5.Gen.frame m ρ
theorem frame_pi : Cert.quiescent_Kernel5Ideal := fun m ρ _ => Cert.Kernel5Ideal.Gen.frame m ρ
theorem frame_pi' : Cert.quiescent_Kernel5Ideal_pre_finite5 := fun m ρ _ => Cert.Kernel5Ideal.Gen.frame m ρ

theorem frame_ri : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

theorem frame_ri' : Cert.quiescent_Reference5Ideal_pre_finite5 := fun m ρ _ => frame_ri m ρ trivial

theorem preserves : Cert.preserves_Kernel5_Kernel5Ideal := trivial

section

open Cert.Reference5Ideal Cert.Reference5Ideal.Read

variable (m : (ℓ : Loc Cert.Kernel5Ideal.nD Cert.Kernel5Ideal.τ Cert.Kernel5Ideal.sig) → Buf (Elt Ideal) ℓ)
  (m' : (ℓ : Loc nD τ sig) → Buf (Elt Ideal) ℓ) (c : Dev nD)

/-- The reference's first result, of the kernel's arguments. -/
theorem result_0 (a0 : m' ((c.tc : Thread nD τ).loc main_arg0) = m ((c.tc : Thread _ _).loc Cert.Kernel5Ideal.main_arg0))
    (a1 : m' ((c.tc : Thread nD τ).loc main_arg1) = m ((c.tc : Thread _ _).loc Cert.Kernel5Ideal.main_arg1)) :
    Cert.Reference5Ideal.Value.res_main_v65 m' c
      = fun i => Rope.piece (m ((c.tc : Thread _ _).loc Cert.Kernel5Ideal.main_arg0))
          (m ((c.tc : Thread _ _).loc Cert.Kernel5Ideal.main_arg1)) (i 0) (i 1) (i 2) := by
  rw [val_main_v65_eq, a0, a1]
  exact Ref.piece _ _

/-- The reference's second result, of the kernel's arguments. -/
theorem result_1 (a2 : m' ((c.tc : Thread nD τ).loc main_arg2) = m ((c.tc : Thread _ _).loc Cert.Kernel5Ideal.main_arg2)) :
    val_main_v67 (F := Ideal) (m' ((c.tc : Thread nD τ).loc main_arg2))
      = fun i => m ((c.tc : Thread _ _).loc Cert.Kernel5Ideal.main_arg2) (ix3 (0 : Fin 1) (i 0) (i 1)) := by
  rw [a2]
  exact Ref.cast _

end

set_option maxHeartbeats 1600000 in
/-- The kernel's two results are the reference's: the product with its queries and keys turned, and the weights of the output
    projection. -/
theorem algebraic : Cert.algebraic_Kernel5Ideal_Reference5Ideal_pre_finite5 := by
  pair_intro
  · run_from Cert.Kernel5Ideal.Gen.run_main m g
  · refine θ_run_mono (Cert.Reference5Ideal.Value.run m' g') ?_
    intro r hr c
    obtain ⟨h0, h1, h⟩ := hr c
    refine ⟨?_, ?_, h⟩
    · exact (h0.trans (result_0 m m' c (hagree c).1 (hagree c).2.1)).trans (Cert.Kernel5Ideal.Val.piece_final m
        (fun c n R e => Rope.product_real _ _ (Rope.finite_h _ _ _ (hpre c).1) (Rope.finite_w _ _ _ (hpre c).2) n R e) c).symm
    · exact (h1.trans (result_1 m m' c (hagree c).2.2)).trans (Cert.Kernel5Ideal.Val.weight_final m c).symm

end Cert.Proof.RopeClaims

end
-- ==== Proof.Rope2.Spec.lean ====
/-
What the rotation call of a layer with row-major heads computes, entry by entry, over the exact extended reals.

The product of the rows with the layer's first weights has 3072 columns: 12 pieces of 256, each two heads of 128. Pieces 0 to
9 hold queries and keys, which a rotation turns pair by pair at the latent rows; the other pieces and the context rows keep
the product.
-/
module

public import proofs.«01_k».proof.Proof.Rope.Spec

@[expose] public section

set_option maxRecDepth 16384

noncomputable section

namespace Rope2

open Idealize.ShloMosaic

/-- One entry of the product. -/
def product (h : FVec Ideal ⟨2, ![8704, 2048]⟩ .bf16) (w : FVec Ideal ⟨2, ![2048, 3072]⟩ .bf16) (n : Fin 12) (R : Fin 8704)
    (e : Fin 256) : EReal := ∑ k : Fin 2048, h (ix2 R k) * w (ix2 k ⟨n * 256 + e, by omega⟩)

/-- One entry of the call's first result. -/
def piece (h : FVec Ideal ⟨2, ![8704, 2048]⟩ .bf16) (w : FVec Ideal ⟨2, ![2048, 3072]⟩ .bf16) (n : Fin 12) (R : Fin 8704)
    (e : Fin 256) : EReal :=
  if (n : ℕ) < 10 ∧ (R : ℕ) < 8192 then Rope.turn R (product h w n R) e else product h w n R e

/-- The first result's entry at a row and a column. -/
def entry (h : FVec Ideal ⟨2, ![8704, 2048]⟩ .bf16) (w : FVec Ideal ⟨2, ![2048, 3072]⟩ .bf16) (R : Fin 8704) (C : Fin 3072) :
    EReal := piece h w ⟨C / 256, by omega⟩ R ⟨C % 256, Nat.mod_lt _ (by omega)⟩

/-- A product of real rows and columns is real. -/
theorem product_real (h : FVec Ideal ⟨2, ![8704, 2048]⟩ .bf16) (w : FVec Ideal ⟨2, ![2048, 3072]⟩ .bf16)
    (hh : ∀ i, h i = (((h i).toReal : ℝ) : EReal)) (hw : ∀ i, w i = (((w i).toReal : ℝ) : EReal)) (n : Fin 12) (R : Fin 8704)
    (e : Fin 256) : ∃ y : ℝ, product h w n R e = (y : EReal) := by
  refine ⟨∑ k : Fin 2048, (h (ix2 R k)).toReal * (w (ix2 k ⟨n * 256 + e, by omega⟩)).toReal, ?_⟩
  rw [product, ← Attn.coe_sum]
  exact Finset.sum_congr rfl fun k _ => by rw [hh, hw, EReal.coe_mul]; rfl

end Rope2

end
-- ==== Proof.Rope2.Tables.lean ====
/- The tables that the host code makes for the rotation: cosines, signed sines and the exchange of neighbours. -/
module

public import proofs.«01_k».proof.Proof.Gen.Kernel6Ideal.Frame
public import proofs.«01_k».proof.Proof.Rope2.Spec
public import Idealize.ShloMosaic.Lib.IdealHost
public import Idealize.ShloMosaic.Lib.StableHlo.RunRead
public import Idealize.ShloMosaic.Lib.Pointwise
public import Idealize.ShloMosaic.Lib.Claim

@[expose] public section

set_option maxRecDepth 32768

noncomputable section

namespace Cert.Kernel6Ideal.Val

open Cert.Kernel6Ideal Cert.Kernel6Ideal.Gen Idealize.ShloMosaic Idealize.ShloMosaic.TcCoe Idealize.SL.Sem

/-- Two tables put one below the other. -/
theorem join_rows (Y : FVec Ideal S8192x256 .f32) (Z : FVec Ideal S512x256 .f32) (R : Fin 8704) (e : Fin 256) :
    concatenate S8704x256 0 [⟨S8192x256, Y⟩, ⟨S512x256, Z⟩] concatenates_S8192x256_S512x256_S8704x256_d0 (ix2 R e)
      = if h : (R : ℕ) < 8192 then Y (ix2 ⟨R, h⟩ e) else Z (ix2 ⟨R - 8192, by omega⟩ e) := by
  pointwise []

theorem sign_word (e : Fin 256) : Ideal.ofBits FTy.f32 (lit0 (S2.rowMajor (ix1 (⟨(e : ℕ) % 128 % 2, by omega⟩ : Fin 2)))) = Rope.sign e := by
  have h : ∀ k : Fin 2, Ideal.ofBits FTy.f32 (lit0 (S2.rowMajor (ix1 k))) = if (k : ℕ) = 0 then -1 else 1 := fun k => by
    match k with
    | 0 =>
      show Ideal.ofBits FTy.f32 0xBF800000#32 = -1
      simp [Ideal.ofBits, Ideal.ieee]
      rw [← EReal.coe_mul, ← EReal.coe_one]
      norm_num
    | 1 =>
      show Ideal.ofBits FTy.f32 0x3F800000#32 = _
      rw [Ideal.ofBits_one_f32]; rfl
  rw [h, Rope.sign]
  show (if (e : ℕ) % 128 % 2 = 0 then (-1 : EReal) else 1) = _
  rw [show (e : ℕ) % 128 % 2 = (e : ℕ) % 2 by omega]

/-- The table of ones at each column's partner, entry by entry. -/
theorem swap_word (k e : Fin 256) :
    (FloatOps.uitofp (F := Ideal) FTy.bf16 (IntOp.cmpi CmpIPredicate.eq (BitVec.ofNat 32 ↑k) (IntOp.xori (BitVec.ofNat 32 ↑e) 1#32)) : EReal)
      = Rope.swap k e := by
  have hx : ∀ e : Fin 256, IntOp.xori (BitVec.ofNat 32 ↑e) 1#32 = BitVec.ofNat 32 (Rope.partner e : ℕ) := by decide +kernel
  rw [hx, Rope.swap]
  by_cases h : k = Rope.partner e
  · rw [if_pos h, h]
    simp only [IntOp.cmpi, beq_self_eq_true]
    show (((1 : ℕ) : ℝ) : EReal) = 1
    rw [Nat.cast_one, EReal.coe_one]
  · rw [if_neg h]
    have : BitVec.ofNat 32 (k : ℕ) ≠ BitVec.ofNat 32 (Rope.partner e : ℕ) := fun hb => h (Fin.ext (by
      have := congrArg BitVec.toNat hb
      simp only [BitVec.toNat_ofNat] at this
      omega))
    rw [show IntOp.cmpi CmpIPredicate.eq (BitVec.ofNat 32 (k : ℕ)) (BitVec.ofNat 32 (Rope.partner e : ℕ)) = 0#1 by
      simp only [IntOp.cmpi, beq_eq_false_iff_ne.mpr this]; rfl]
    show (((0 : ℕ) : ℝ) : EReal) = 0
    rw [Nat.cast_zero, EReal.coe_zero]

variable (m : (ℓ : Loc nD τ sig) → Buf (Elt Ideal) ℓ)

theorem cos_joined (c : Dev nD) (R : Fin 8704) (e : Fin 256) :
    V m c main_v44 (ix2 R e) = if h : (R : ℕ) < 8192 then V m c main_v42 (ix2 ⟨R, h⟩ e) else V m c main_v43 (ix2 ⟨R - 8192, by omega⟩ e) := by
  unfold V
  generalize (fun b => m (c, b)) = W
  simp (disch := decide) only [StableHlo.readAfter, StableHlo.readUpto, StableHlo.binary_result']
  exact join_rows _ _ R e

theorem sin_joined (c : Dev nD) (R : Fin 8704) (e : Fin 256) :
    V m c main_v49 (ix2 R e) = if h : (R : ℕ) < 8192 then V m c main_v47 (ix2 ⟨R, h⟩ e) else V m c main_v48 (ix2 ⟨R - 8192, by omega⟩ e) := by
  unfold V
  generalize (fun b => m (c, b)) = W
  simp (disch := decide) only [StableHlo.readAfter, StableHlo.readUpto, StableHlo.binary_result']
  exact join_rows _ _ R e

theorem ang_low (c : Dev nD) (R : Fin 4096) (j : Fin 32) :
    V m c main_v21 (ix2 R j)
      = (FloatOps.sitofp (F := Ideal) FTy.f32 (BitVec.ofNat 32 ((R : ℕ) / 64)) : EReal) * Rope.freq j := by
  unfold V Rope.freq
  after_reads_simp
  pointwise

theorem ang_high (c : Dev nD) (R : Fin 4096) (j : Fin 32) :
    V m c main_v26 (ix2 R j)
      = (FloatOps.sitofp (F := Ideal) FTy.f32 (BitVec.ofNat 32 ((R : ℕ) % 64)) : EReal) * Rope.freq j := by
  unfold V Rope.freq
  after_reads_simp
  pointwise

/-- The angles' table. -/
theorem ang_at (c : Dev nD) (R : Fin 4096) (j : Fin 64) : V m c main_v27 (ix2 R j) = Rope.ang R j := by
  have e : V m c main_v27 (ix2 R j)
      = if h : (j : ℕ) < 32 then V m c main_v21 (ix2 R ⟨j, h⟩) else V m c main_v26 (ix2 R ⟨j - 32, by omega⟩) := by
    unfold V
    after_reads_simp
    pointwise
  rw [e, Rope.ang]
  split
  · rw [ang_low]
  · rw [ang_high]

theorem cos_one (c : Dev nD) (R : Fin 4096) (j : Fin 64) :
    V m c main_v28 (ix2 R j) = Ideal.cos (V m c main_v27 (ix2 R j)) := by
  unfold V
  generalize (fun b => m (c, b)) = W
  simp (disch := decide) only [StableHlo.readAfter, StableHlo.readUpto, StableHlo.unary_result']
  rfl

theorem sin_one (c : Dev nD) (R : Fin 4096) (j : Fin 64) :
    V m c main_v31 (ix2 R j) = Ideal.sin (V m c main_v27 (ix2 R j)) := by
  unfold V
  generalize (fun b => m (c, b)) = W
  simp (disch := decide) only [StableHlo.readAfter, StableHlo.readUpto, StableHlo.unary_result']
  rfl

theorem cos_rows (c : Dev nD) (R : Fin 8192) (e : Fin 256) :
    V m c main_v42 (ix2 R e)
      = Ideal.cos (V m c main_v27 (ix2 ⟨(R : ℕ) % 4096, Nat.mod_lt _ (by omega)⟩ ⟨(e : ℕ) % 128 / 2, by omega⟩)) := by
  rw [← cos_one]
  unfold V
  after_reads_simp
  pointwise

theorem sin_rows (c : Dev nD) (R : Fin 8192) (e : Fin 256) :
    V m c main_v47 (ix2 R e)
      = Ideal.sin (V m c main_v27 (ix2 ⟨(R : ℕ) % 4096, Nat.mod_lt _ (by omega)⟩ ⟨(e : ℕ) % 128 / 2, by omega⟩))
        * Rope.sign e := by
  rw [← sign_word, ← sin_one]
  unfold V
  after_reads_simp
  pointwise

theorem one_at (c : Dev nD) (R : Fin 512) (j : Fin 256) : V m c main_v43 (ix2 R j) = (1 : EReal) := by
  unfold V
  after_reads_simp
  pointwise

theorem zero_at (c : Dev nD) (R : Fin 512) (j : Fin 256) : V m c main_v48 (ix2 R j) = (0 : EReal) := by
  unfold V
  after_reads_simp
  pointwise

/-- The cosines: the angle's at the latent rows, one at the context rows. -/
theorem cos_at (c : Dev nD) (R : Fin 8704) (e : Fin 256) :
    V m c main_v44 (ix2 R e) = if (R : ℕ) < 8192 then Ideal.cos (Rope.ang (R % 4096) (e % 128 / 2)) else 1 := by
  rw [cos_joined]
  by_cases h : (R : ℕ) < 8192
  · rw [dif_pos h, if_pos h, cos_rows, ang_at]
  · rw [dif_neg h, if_neg h, one_at]

/-- The sines: the angle's with the column's sign at the latent rows, zero at the context rows. -/
theorem sin_at (c : Dev nD) (R : Fin 8704) (e : Fin 256) :
    V m c main_v49 (ix2 R e)
      = if (R : ℕ) < 8192 then Ideal.sin (Rope.ang (R % 4096) (e % 128 / 2)) * Rope.sign e else 0 := by
  rw [sin_joined]
  by_cases h : (R : ℕ) < 8192
  · rw [dif_pos h, if_pos h, sin_rows, ang_at]
  · rw [dif_neg h, if_neg h, zero_at]

/-- The exchange of neighbours. -/
theorem swap_at (c : Dev nD) (k e : Fin 256) : V m c main_v58 (ix2 k e) = Rope.swap k e := by
  rw [← swap_word]
  unfold V
  after_reads_simp
  pointwise

end Cert.Kernel6Ideal.Val

end
-- ==== Proof.Rope2.Value.lean ====
/-
What the rotation call computes: the product, its first ten pieces turned at the latent rows, and a weight array that a
later call reads.

Grid point `t` of 24 is row block `t / 6` of 2176 rows at pieces `2 (t % 6)` and `2 (t % 6) + 1`; it turns where
`t % 6 ≤ 4`.
-/
module

public import proofs.«01_k».proof.Proof.Gen.Kernel6Ideal.Value
public import proofs.«01_k».proof.Proof.Rope2.Tables
public import Idealize.ShloMosaic.Lib.Pipeline.ValueKit
public import Idealize.ShloMosaic.Lib.Pointwise

@[expose] public section

set_option maxRecDepth 32768

noncomputable section

namespace Cert.Kernel6Ideal.Val

open Cert.Kernel6Ideal Cert.Kernel6Ideal.Gen Idealize.ShloMosaic Idealize.ShloMosaic.TcCoe Idealize.SL.Sem
open Idealize.ShloMosaic.Pipeline (Dat)

/-! ## The stored pieces, over the blocks read -/

theorem pay10_at (h : Vec Ideal S2176x2048 .bf16) (w : Vec Ideal S2048x512 .bf16) (x : S2176x256.Idx) (r : Fin 2176)
    (e : Fin 256) (h0 : (x 0 : ℕ) = r) (h1 : (x 1 : ℕ) = e) :
    k0_pay10 h w x = ∑ k : Fin 2048, h (ix2 r k) * w (ix2 k ⟨e, by omega⟩) := by
  have hx : x = ix2 r e := funext fun a => match a with
    | ⟨0, _⟩ => Fin.ext h0
    | ⟨1, _⟩ => Fin.ext h1
  refine (congrArg (k0_pay10 h w) hx).trans ?_
  pointwise [k0_pay10, k0_pay9]

theorem pay11_at (h : Vec Ideal S2176x2048 .bf16) (w : Vec Ideal S2048x512 .bf16) (x : S2176x256.Idx) (r : Fin 2176)
    (e : Fin 256) (h0 : (x 0 : ℕ) = r) (h1 : (x 1 : ℕ) = e) :
    k0_pay11 h w x = ∑ k : Fin 2048, h (ix2 r k) * w (ix2 k ⟨256 + e, by omega⟩) := by
  have hx : x = ix2 r e := funext fun a => match a with
    | ⟨0, _⟩ => Fin.ext h0
    | ⟨1, _⟩ => Fin.ext h1
  refine (congrArg (k0_pay11 h w) hx).trans ?_
  pointwise [k0_pay11, k0_pay9]

theorem pay7_at (h : Vec Ideal S2176x2048 .bf16) (co si : Vec Ideal S2176x256 .f32) (sw : Vec Ideal S256x256 .bf16)
    (w : Vec Ideal S2048x512 .bf16) (y : Fin 256 → EReal) (x : S2176x256.Idx) (r : Fin 2176)
    (e : Fin 256) (h0 : (x 0 : ℕ) = r) (h1 : (x 1 : ℕ) = e)
    (hy : ∀ e : Fin 256, ∑ k : Fin 2048, h (ix2 r k) * w (ix2 k ⟨e, by omega⟩) = y e) :
    k0_pay7 h co si sw w x
      = y e * co (ix2 r e)
        + ((∑ k, y k * sw (ix2 k e)) + ∑ k, (y k - y k) * sw (ix2 k e)) * si (ix2 r e) := by
  have hx : x = ix2 r e := funext fun a => match a with
    | ⟨0, _⟩ => Fin.ext h0
    | ⟨1, _⟩ => Fin.ext h1
  rw [hx]
  simp only [← hy]
  pointwise [k0_pay7, k0_pay1, k0_pay2, k0_pay3, k0_pay4, k0_pay5, k0_pay6]

theorem pay8_at (h : Vec Ideal S2176x2048 .bf16) (co si : Vec Ideal S2176x256 .f32) (sw : Vec Ideal S256x256 .bf16)
    (w : Vec Ideal S2048x512 .bf16) (y : Fin 256 → EReal) (x : S2176x256.Idx) (r : Fin 2176)
    (e : Fin 256) (h0 : (x 0 : ℕ) = r) (h1 : (x 1 : ℕ) = e)
    (hy : ∀ e : Fin 256, ∑ k : Fin 2048, h (ix2 r k) * w (ix2 k ⟨256 + e, by omega⟩) = y e) :
    k0_pay8 h co si sw w x
      = y e * co (ix2 r e)
        + ((∑ k, y k * sw (ix2 k e)) + ∑ k, (y k - y k) * sw (ix2 k e)) * si (ix2 r e) := by
  have hx : x = ix2 r e := funext fun a => match a with
    | ⟨0, _⟩ => Fin.ext h0
    | ⟨1, _⟩ => Fin.ext h1
  rw [hx]
  simp only [← hy]
  pointwise [k0_pay8, k0_pay1, k0_pay2, k0_pay3, k0_pay4, k0_pay5, k0_pay6]

theorem pay12_at (v : Vec Ideal S1x128x2048 .f32) (r : Fin 128) (e : Fin 2048) : k0_pay12 v (ix2 r e) = v (ix3 0 r e) := by
  pointwise [k0_pay12]

variable (m : (ℓ : Loc nD τ sig) → Buf (Elt Ideal) ℓ)

theorem idx : ∀ t : Fin cfg0.N, win0_0.index t = ![t.val / 6, 0] ∧ win0_1.index t = ![0, t.val % 6]
    ∧ win0_2.index t = ![t.val / 6, 0] ∧ win0_3.index t = ![t.val / 6, 0] ∧ win0_4.index t = ![0, 0]
    ∧ win0_5.index t = ![0, min t.val 15, 0]
    ∧ win0_6.index t = ![t.val / 6, t.val % 6] ∧ win0_7.index t = ![min t.val 15, 0] :=
  (by decide +kernel : ∀ t : Fin grid0.N, _)

/-! ## The blocks read at a point -/

theorem h_block (c : Dev nD) (t : Fin cfg0.N) (r : Fin 2176) (k : Fin 2048) (R : Fin 8704)
    (hR : (R : ℕ) = t.val / 6 * 2176 + r) : iblk m c 0 t (ix2 r k) = m ((c : Thread nD τ).loc main_arg0) (ix2 R k) := by
  blk_point [iblk, V, idx t]

theorem w_block (c : Dev nD) (t : Fin cfg0.N) (k : Fin 2048) (e : Fin 512) (C : Fin 3072)
    (hC : (C : ℕ) = t.val % 6 * 512 + e) : iblk m c 1 t (ix2 k e) = m ((c : Thread nD τ).loc main_arg1) (ix2 k C) := by
  blk_point [iblk, V, idx t]

theorem cos_block (c : Dev nD) (t : Fin cfg0.N) (r : Fin 2176) (e : Fin 256) (R : Fin 8704)
    (hR : (R : ℕ) = t.val / 6 * 2176 + r) : iblk m c 2 t (ix2 r e) = V m c main_v44 (ix2 R e) := by
  unfold iblk
  generalize V m c = W
  blk_point [idx t]

theorem sin_block (c : Dev nD) (t : Fin cfg0.N) (r : Fin 2176) (e : Fin 256) (R : Fin 8704)
    (hR : (R : ℕ) = t.val / 6 * 2176 + r) : iblk m c 3 t (ix2 r e) = V m c main_v49 (ix2 R e) := by
  unfold iblk
  generalize V m c = W
  blk_point [idx t]

theorem swap_block (c : Dev nD) (t : Fin cfg0.N) (k e : Fin 256) : iblk m c 4 t (ix2 k e) = V m c main_v58 (ix2 k e) := by
  unfold iblk
  generalize V m c = W
  blk_point [idx t]

theorem out_block (c : Dev nD) (t : Fin cfg0.N) (r : Fin 128) (e : Fin 2048) (R : Fin 2048)
    (hR : (R : ℕ) = min t.val 15 * 128 + r) :
    iblk m c 5 t (ix3 (0 : Fin 1) r e) = m ((c : Thread nD τ).loc main_arg2) (ix3 (0 : Fin 2) R e) := by
  blk_point [iblk, V, idx t]

/-! ## The weights -/

theorem weight_point (c : Dev nD) (t : Fin cfg0.N) (r : Fin 128) (e : Fin 2048) (R : Fin 2048)
    (hR : (R : ℕ) = min t.val 15 * 128 + r) :
    (outsAt0 m c t.val t.isLt).2 (ix2 r e) = m ((c : Thread nD τ).loc main_arg2) (ix3 (0 : Fin 2) R e) := by
  rw [← out_block m c t r e R hR]
  by_cases h0 : t.val % 6 ≤ 4
  · rw [outsAt0_A m c t h0 (by omega)]
    frame_out
    rw [pay12_at]
  · rw [outsAt0_B m c t h0 (by omega)]
    frame_out
    rw [pay12_at]

theorem weight_final (c : Dev nD) : (dats m 0 c).arrAt 7 (cfgs 0).N
    = fun i => m ((c : Thread nD τ).loc main_arg2) (ix3 (0 : Fin 2) (i 0) (i 1)) := by
  refine (dats m 0 c).arrAt_eq_of_covers 7 _ (by decide +kernel) fun t hf y => ?_
  have e0 : (((cfg0.win 7).blk t).view.emb y 0 : ℕ) = min t.val 15 * 128 + (y 0 : ℕ) := by blk_simp [idx t]
  have e1 : ((cfg0.win 7).blk t).view.emb y 1 = (⟨y 1, (y 1).isLt⟩ : Fin 2048) := Fin.ext (by blk_simp [idx t])
  rw [e1]
  refine Eq.trans ?_ (weight_point m c t ⟨y 0, (y 0).isLt⟩ ⟨y 1, (y 1).isLt⟩ _ e0)
  blk_simp
  rw [after0_7]
  exact congrArg _ (eq_ix2 y)

/-! ## The pieces -/

/-- A product of blocks is the call's, where the blocks' entries are the arrays'. -/
theorem product_of (a : Vec Ideal S2176x2048 .bf16) (b : Vec Ideal S2048x512 .bf16) (h : FVec Ideal S8704x2048 .bf16)
    (w : FVec Ideal S2048x3072 .bf16) (r : Fin 2176) (f : Fin 512) (n : Fin 12) (R : Fin 8704) (e : Fin 256)
    (ha : ∀ k : Fin 2048, a (ix2 r k) = h (ix2 R k)) (hb : ∀ k : Fin 2048, b (ix2 k f) = w (ix2 k ⟨n * 256 + e, by omega⟩)) :
    ∑ k : Fin 2048, a (ix2 r k) * b (ix2 k f) = Rope2.product h w n R e := by
  simp only [Rope2.product, ha, hb]

theorem product_block (c : Dev nD) (t : Fin cfg0.N) (r : Fin 2176) (f : Fin 512) (n : Fin 12) (R : Fin 8704) (e : Fin 256)
    (hf : (n : ℕ) * 256 + e = t.val % 6 * 512 + f) (hR : (R : ℕ) = t.val / 6 * 2176 + r) (a : Vec Ideal S2176x2048 .bf16)
    (b : Vec Ideal S2048x512 .bf16) (ha : a = iblk m c 0 t) (hb : b = iblk m c 1 t) :
    ∑ k : Fin 2048, a (ix2 r k) * b (ix2 k f)
      = Rope2.product (m ((c : Thread nD τ).loc main_arg0)) (m ((c : Thread nD τ).loc main_arg1)) n R e :=
  product_of a b _ _ r f n R e (fun k => ha ▸ h_block m c t r k R hR) fun k => hb ▸ w_block m c t k f ⟨n * 256 + e, by omega⟩ hf

/-- The rotation's formula over the tables is the piece, turned at the latent rows. -/
theorem formula_of (co si : Vec Ideal S2176x256 .f32) (sw : Vec Ideal S256x256 .bf16) (r : Fin 2176) (R : ℕ) (e : Fin 256)
    (hc : co (ix2 r e) = if R < 8192 then Ideal.cos (Rope.ang (R % 4096) (e % 128 / 2)) else 1)
    (hs : si (ix2 r e) = if R < 8192 then Ideal.sin (Rope.ang (R % 4096) (e % 128 / 2)) * Rope.sign e else 0)
    (hw : ∀ k : Fin 256, sw (ix2 k e) = Rope.swap k e) (y : Fin 256 → EReal) (hy : ∀ e, ∃ a : ℝ, y e = (a : EReal)) :
    y e * co (ix2 r e) + ((∑ k, y k * sw (ix2 k e)) + ∑ k, (y k - y k) * sw (ix2 k e)) * si (ix2 r e)
      = if R < 8192 then Rope.turn R y e else y e := by
  simp only [hw]
  rw [hc, hs]
  by_cases h : R < 8192
  · rw [if_pos h, if_pos h, if_pos h]
    exact Rope.turned R y hy e
  · rw [if_neg h, if_neg h, if_neg h]
    exact Rope.kept _ _

theorem formula (c : Dev nD) (t : Fin cfg0.N) (r : Fin 2176) (R : Fin 8704) (e : Fin 256)
    (hR : (R : ℕ) = t.val / 6 * 2176 + r) (y : Fin 256 → EReal) (hy : ∀ e, ∃ a : ℝ, y e = (a : EReal))
    (co si : Vec Ideal S2176x256 .f32) (sw : Vec Ideal S256x256 .bf16) (hc : co = iblk m c 2 t) (hs : si = iblk m c 3 t)
    (hw : sw = iblk m c 4 t) :
    y e * co (ix2 r e) + ((∑ k, y k * sw (ix2 k e)) + ∑ k, (y k - y k) * sw (ix2 k e)) * si (ix2 r e)
      = if (R : ℕ) < 8192 then Rope.turn R y e else y e :=
  formula_of co si sw r R e (hc ▸ (cos_block m c t r e R hR).trans (cos_at m c R e))
    (hs ▸ (sin_block m c t r e R hR).trans (sin_at m c R e))
    (fun k => hw ▸ (swap_block m c t k e).trans (swap_at m c k e)) y hy

section

variable (hr : ∀ (c : Dev nD) (n : Fin 12) (R : Fin 8704) (e : Fin 256), ∃ a : ℝ,
  Rope2.product (m ((c : Thread nD τ).loc main_arg0)) (m ((c : Thread nD τ).loc main_arg1)) n R e = (a : EReal))
include hr

theorem piece_point (c : Dev nD) (t : Fin cfg0.N) (y : S2176x512.Idx) (r : Fin 2176) (e : Fin 256) (n : Fin 12) (R : Fin 8704)
    (hr0 : (r : ℕ) = (y 0 : ℕ)) (hn : (n : ℕ) * 256 + e = t.val % 6 * 512 + (y 1 : ℕ)) (hR : (R : ℕ) = t.val / 6 * 2176 + r) :
    (outsAt0 m c t.val t.isLt).1 y
      = Rope2.piece (m ((c : Thread nD τ).loc main_arg0)) (m ((c : Thread nD τ).loc main_arg1)) n R e := by
  have hy1 : (y 1 : ℕ) < 512 := (y 1).isLt
  by_cases g : t.val % 6 ≤ 4
  · rw [outsAt0_A m c t g (by omega)]
    frame_out
    have hp : Rope2.piece (m ((c : Thread nD τ).loc main_arg0)) (m ((c : Thread nD τ).loc main_arg1)) n R e
        = if (R : ℕ) < 8192 then
            Rope.turn R (Rope2.product (m ((c : Thread nD τ).loc main_arg0)) (m ((c : Thread nD τ).loc main_arg1)) n R) e
          else Rope2.product (m ((c : Thread nD τ).loc main_arg0)) (m ((c : Thread nD τ).loc main_arg1)) n R e := by
      unfold Rope2.piece
      exact if_congr (and_iff_right (by omega)) rfl rfl
    rw [hp]
    canon_tiles x h
    · have e1 : (y 1 : ℕ) = 256 + (x 1 : ℕ) := h1
      refine (pay8_at _ _ _ _ _ _ x r e (by omega) (by omega) fun e' => ?_).trans
        (formula m c t r R e hR _ (hr c n R) _ _ _ rfl rfl rfl)
      exact product_block m c t r _ n R e' (by show _ = t.val % 6 * 512 + (256 + (e' : ℕ)); omega) hR _ _ rfl rfl
    · have e1 : (y 1 : ℕ) = (x 1 : ℕ) := h1
      refine (pay7_at _ _ _ _ _ _ x r e (by omega) (by omega) fun e' => ?_).trans
        (formula m c t r R e hR _ (hr c n R) _ _ _ rfl rfl rfl)
      exact product_block m c t r _ n R e' (by show _ = t.val % 6 * 512 + (e' : ℕ); omega) hR _ _ rfl rfl
  · rw [outsAt0_B m c t g (by omega)]
    frame_out
    have hp : Rope2.piece (m ((c : Thread nD τ).loc main_arg0)) (m ((c : Thread nD τ).loc main_arg1)) n R e
        = Rope2.product (m ((c : Thread nD τ).loc main_arg0)) (m ((c : Thread nD τ).loc main_arg1)) n R e := by
      unfold Rope2.piece
      exact if_neg fun q => by omega
    rw [hp]
    canon_tiles x h
    · have e1 : (y 1 : ℕ) = 256 + (x 1 : ℕ) := h1
      refine (pay11_at _ _ x r e (by omega) (by omega)).trans ?_
      exact product_block m c t r _ n R e (by show _ = t.val % 6 * 512 + (256 + (e : ℕ)); omega) hR _ _ rfl rfl
    · have e1 : (y 1 : ℕ) = (x 1 : ℕ) := h1
      refine (pay10_at _ _ x r e (by omega) (by omega)).trans ?_
      exact product_block m c t r _ n R e (by show _ = t.val % 6 * 512 + (e : ℕ); omega) hR _ _ rfl rfl

/-- The first result: the product, the queries and keys turned at the latent rows. -/
theorem piece_final (c : Dev nD) : (dats m 0 c).arrAt 6 (cfgs 0).N
    = fun i => Rope2.entry (m ((c : Thread nD τ).loc main_arg0)) (m ((c : Thread nD τ).loc main_arg1)) (i 0) (i 1) := by
  refine (dats m 0 c).arrAt_eq_of_covers 6 _ (by decide +kernel) fun t hf y => ?_
  have e0 : (((cfg0.win 6).blk t).view.emb y 0 : ℕ) = t.val / 6 * 2176 + (y 0 : ℕ) := by blk_simp [idx t]
  have e1 : (((cfg0.win 6).blk t).view.emb y 1 : ℕ) = t.val % 6 * 512 + (y 1 : ℕ) := by blk_simp [idx t]
  unfold Rope2.entry
  refine Eq.trans ?_ (piece_point m hr c t y ⟨y 0, (y 0).isLt⟩ _ _ _ rfl ?_ e0)
  · blk_simp
    rw [after0_6]
  · refine Eq.trans ?_ e1
    show (((cfg0.win 6).blk t).view.emb y 1 : ℕ) / 256 * 256 + (((cfg0.win 6).blk t).view.emb y 1 : ℕ) % 256 = _
    omega

end

end Cert.Kernel6Ideal.Val

end
-- ==== Proof.Rope2.Ref.lean ====
/- What the reference of the rotation call computes, and what its precondition gives. -/
module

public import proofs.«01_k».proof.Proof.Gen.Reference6Ideal.Read
public import proofs.«01_k».proof.Proof.Gen.Pre_finite6
public import proofs.«01_k».proof.Proof.Attn.Finite
public import proofs.«01_k».proof.Proof.Rope2.Spec
public import Idealize.ShloMosaic.Lib.Pointwise

@[expose] public section

set_option maxRecDepth 32768

noncomputable section

open Idealize.ShloMosaic

namespace Rope2

section
open Cert.Pre_finite6 Cert.Pre_finite6.Gen
variable (h : FVec Ideal S8704x2048 .bf16) (w : FVec Ideal S2048x3072 .bf16) (a : FVec Ideal S2x2048x2048 .f32)

/-- The precondition makes the rows real. -/
theorem finite_h (p : (fn (F := Ideal) h w a).1 = fun _ => 1#1) (i : S8704x2048.Idx) :
    h i = (((h i).toReal : ℝ) : EReal) := Attn.real_of_test _ (congrFun p i)

/-- The precondition makes the weights real. -/
theorem finite_w (p : (fn (F := Ideal) h w a).2 = fun _ => 1#1) (i : S2048x3072.Idx) :
    w i = (((w i).toReal : ℝ) : EReal) := Attn.real_of_test _ (congrFun p i)

end

end Rope2

namespace Cert.Reference6Ideal.Ref

open Cert.Reference6Ideal Cert.Reference6Ideal.Gen Cert.Reference6Ideal.Read

/-! ## The angles -/

theorem ang_low (R : Fin 4096) (j : Fin 32) :
    val_main_v24 (F := Ideal) (ix2 R j)
      = (FloatOps.sitofp (F := Ideal) FTy.f32 (BitVec.ofNat 32 ((R : ℕ) / 64)) : EReal) * Rope.freq j := by
  unfold Rope.freq
  pointwise [val_main_v3, val_main_v4, val_main_v5, val_main_v10, val_main_v11, val_main_v12, val_main_v13, val_main_v14,
    val_main_v15, val_main_v16, val_main_v17, val_main_v18, val_main_v19, val_main_v20, val_main_v21, val_main_v22,
    val_main_v23, val_main_v24, val_main_cst, val_main_cst_0, val_main_cst_1, val_main_cst_2]

theorem ang_high (R : Fin 4096) (j : Fin 32) :
    val_main_v29 (F := Ideal) (ix2 R j)
      = (FloatOps.sitofp (F := Ideal) FTy.f32 (BitVec.ofNat 32 ((R : ℕ) % 64)) : EReal) * Rope.freq j := by
  unfold Rope.freq
  pointwise [val_main_v6, val_main_v7, val_main_v8, val_main_v9, val_main_v10, val_main_v11, val_main_v12, val_main_v13,
    val_main_v14, val_main_v15, val_main_v16, val_main_v17, val_main_v18, val_main_v19, val_main_v25, val_main_v26,
    val_main_v27, val_main_v28, val_main_v29, val_main_cst, val_main_cst_0, val_main_cst_1, val_main_cst_2]

theorem join_ang (Y Z : FVec Ideal S4096x32 .f32) (R : Fin 4096) (j : Fin 64) :
    concatenate S4096x64 1 [⟨S4096x32, Y⟩, ⟨S4096x32, Z⟩] concatenates_S4096x32_S4096x32_S4096x64_d1 (ix2 R j)
      = if h : (j : ℕ) < 32 then Y (ix2 R ⟨j, h⟩) else Z (ix2 R ⟨j - 32, by omega⟩) := by
  pointwise []

theorem ang_at (R : Fin 4096) (j : Fin 64) : val_main_v30 (F := Ideal) (ix2 R j) = Rope.ang R j := by
  unfold val_main_v30
  rw [join_ang, Rope.ang]
  split
  · rw [ang_low]
  · rw [ang_high]

theorem cos_at (b : Fin 2) (n : Fin 4096) (g : Fin 20) (j : Fin 64) :
    val_main_v42 (F := Ideal) (ix4 b n g j) = Ideal.cos (Rope.ang n j) := by
  rw [← ang_at]
  unfold val_main_v42 val_main_v41 val_main_v32 val_main_v31
  generalize val_main_v30 (F := Ideal) = A
  pointwise []

theorem sin_at (b : Fin 2) (n : Fin 4096) (g : Fin 20) (j : Fin 64) :
    val_main_v45 (F := Ideal) (ix4 b n g j) = Ideal.sin (Rope.ang n j) := by
  rw [← ang_at]
  unfold val_main_v45 val_main_v44 val_main_v34 val_main_v33
  generalize val_main_v30 (F := Ideal) = A
  pointwise []

theorem sin_at' (b : Fin 2) (n : Fin 4096) (g : Fin 20) (j : Fin 64) :
    val_main_v49 (F := Ideal) (ix4 b n g j) = Ideal.sin (Rope.ang n j) := by
  rw [← ang_at]
  unfold val_main_v49 val_main_v48 val_main_v34 val_main_v33
  generalize val_main_v30 (F := Ideal) = A
  pointwise []

theorem cos_at' (b : Fin 2) (n : Fin 4096) (g : Fin 20) (j : Fin 64) :
    val_main_v52 (F := Ideal) (ix4 b n g j) = Ideal.cos (Rope.ang n j) := by
  rw [← ang_at]
  unfold val_main_v52 val_main_v51 val_main_v32 val_main_v31
  generalize val_main_v30 (F := Ideal) = A
  pointwise []

section

variable (h : FVec Ideal S8704x2048 .bf16) (w : FVec Ideal S2048x3072 .bf16)

/-! ## The pairs -/

theorem even_at (b : Fin 2) (n : Fin 4096) (g : Fin 20) (j : Fin 64) :
    val_main_v38 (F := Ideal) h w (ix4 b n g j)
      = val_main_v2 (F := Ideal) h w (ix2 (⟨b * 4096 + n, by omega⟩ : Fin 8704) (⟨g * 128 + j * 2, by omega⟩ : Fin 3072)) := by
  unfold val_main_v38 val_main_v37 val_main_v36 val_main_v35
  generalize val_main_v2 (F := Ideal) h w = Y
  pointwise []

theorem odd_at (b : Fin 2) (n : Fin 4096) (g : Fin 20) (j : Fin 64) :
    val_main_v40 (F := Ideal) h w (ix4 b n g j)
      = val_main_v2 (F := Ideal) h w (ix2 (⟨b * 4096 + n, by omega⟩ : Fin 8704) (⟨g * 128 + j * 2 + 1, by omega⟩ : Fin 3072)) := by
  unfold val_main_v40 val_main_v39 val_main_v36 val_main_v35
  generalize val_main_v2 (F := Ideal) h w = Y
  pointwise []

/-- The turned columns, from the even and the odd ones. -/
theorem joined_at (R : Fin 8192) (C : Fin 2560) :
    val_main_v58 (F := Ideal) h w (ix2 R C)
      = if (C : ℕ) % 2 = 0 then
          val_main_v47 (F := Ideal) h w (ix4 (⟨R / 4096, by omega⟩ : Fin 2) (⟨R % 4096, Nat.mod_lt _ (by omega)⟩ : Fin 4096)
            (⟨C / 128, by omega⟩ : Fin 20) (⟨C / 2 % 64, by omega⟩ : Fin 64))
        else
          val_main_v54 (F := Ideal) h w (ix4 (⟨R / 4096, by omega⟩ : Fin 2) (⟨R % 4096, Nat.mod_lt _ (by omega)⟩ : Fin 4096)
            (⟨C / 128, by omega⟩ : Fin 20) (⟨C / 2 % 64, by omega⟩ : Fin 64)) := by
  unfold val_main_v58 val_main_v57 val_main_v56 val_main_v55
  generalize val_main_v47 (F := Ideal) h w = Y
  generalize val_main_v54 (F := Ideal) h w = Z
  pointwise []
  by_cases hc : (C : ℕ) % 2 = 0
  · rw [dif_pos (by omega), if_pos hc]
  · rw [dif_neg (by omega), if_neg hc]

/-- The first result, from the product and the turned columns. -/
theorem result_at (n : Fin 12) (R : Fin 8704) (e : Fin 256) :
    val_main_v63 (F := Ideal) h w (ix2 R (⟨n * 256 + e, by omega⟩ : Fin 3072))
      = if hR : (R : ℕ) < 8192 then
          if hn : (n : ℕ) < 10 then val_main_v58 (F := Ideal) h w (ix2 (⟨R, hR⟩ : Fin 8192) (⟨n * 256 + e, by omega⟩ : Fin 2560))
          else val_main_v2 (F := Ideal) h w (ix2 R (⟨n * 256 + e, by omega⟩ : Fin 3072))
        else val_main_v2 (F := Ideal) h w (ix2 R (⟨n * 256 + e, by omega⟩ : Fin 3072)) := by
  unfold val_main_v63 val_main_v62 val_main_v61 val_main_v60 val_main_v59
  generalize val_main_v58 (F := Ideal) h w = Y
  generalize val_main_v2 (F := Ideal) h w = Z
  pointwise []
  by_cases hR : (R : ℕ) < 8192
  · rw [dif_pos hR, dif_pos hR]
    by_cases hn : (n : ℕ) < 10
    · rw [dif_pos (by omega), dif_pos hn]
    · rw [dif_neg (by omega), dif_neg hn]
      exact congrArg Z (congrArg (ix2 R) (Fin.ext (by show 2560 + ((n : ℕ) * 256 + e - 2560) = n * 256 + e; omega)))
  · rw [dif_neg hR, dif_neg hR]
    exact congrArg Z (congrArg (fun r => ix2 r _) (Fin.ext (by show 8192 + ((R : ℕ) - 8192) = R; omega)))

theorem product_at (n : Fin 12) (R : Fin 8704) (e : Fin 256) (R' : Fin 8704) (C : Fin 3072) (hR : (R' : ℕ) = R)
    (hC : (C : ℕ) = n * 256 + e) : val_main_v2 (F := Ideal) h w (ix2 R' C) = Rope2.product h w n R e := by
  obtain rfl : R' = R := Fin.ext hR
  rw [show C = ⟨n * 256 + e, by omega⟩ from Fin.ext hC]
  unfold Rope2.product
  pointwise [val_main_v2, val_main_v1, val_main_v0]

/-- The turned columns are the pieces' products turned. -/
theorem turn_at (n : Fin 12) (hn : (n : ℕ) < 10) (R : Fin 8704) (hR : (R : ℕ) < 8192) (e : Fin 256) :
    val_main_v58 (F := Ideal) h w (ix2 (⟨R, hR⟩ : Fin 8192) (⟨n * 256 + e, by omega⟩ : Fin 2560))
      = Rope.turn R (Rope2.product h w n R) e := by
  have hj : ((n : ℕ) * 256 + e) / 2 % 64 = (e : ℕ) % 128 / 2 := by omega
  have hr : (R : ℕ) / 4096 * 4096 + R % 4096 = R := by omega
  rw [joined_at, Rope.turn]
  by_cases he : (e : ℕ) % 2 = 0
  · rw [if_pos (by show ((n : ℕ) * 256 + e) % 2 = 0; omega), if_pos he, val_main_v47_apply, val_main_v43_apply,
      val_main_v46_apply, even_at, odd_at, cos_at, sin_at,
      product_at h w n R e _ _ hr (by show ((n : ℕ) * 256 + e) / 128 * 128 + ((n : ℕ) * 256 + e) / 2 % 64 * 2 = _; omega),
      product_at h w n R (Rope.partner e) _ _ hr (by
        show ((n : ℕ) * 256 + e) / 128 * 128 + ((n : ℕ) * 256 + e) / 2 % 64 * 2 + 1
          = n * 256 + (if (e : ℕ) % 2 = 0 then (e : ℕ) + 1 else e - 1)
        rw [if_pos he]; omega)]
    show _ * Ideal.cos (Rope.ang (R % 4096) (((n : ℕ) * 256 + e) / 2 % 64))
      - _ * Ideal.sin (Rope.ang (R % 4096) (((n : ℕ) * 256 + e) / 2 % 64)) = _
    rw [hj]
  · rw [if_neg (by show ¬((n : ℕ) * 256 + e) % 2 = 0; omega), if_neg he, val_main_v54_apply, val_main_v50_apply,
      val_main_v53_apply, even_at, odd_at, cos_at', sin_at',
      product_at h w n R (Rope.partner e) _ _ hr (by
        show ((n : ℕ) * 256 + e) / 128 * 128 + ((n : ℕ) * 256 + e) / 2 % 64 * 2
          = n * 256 + (if (e : ℕ) % 2 = 0 then (e : ℕ) + 1 else e - 1)
        rw [if_neg he]; omega),
      product_at h w n R e _ _ hr (by show ((n : ℕ) * 256 + e) / 128 * 128 + ((n : ℕ) * 256 + e) / 2 % 64 * 2 + 1 = _; omega)]
    show _ * Ideal.sin (Rope.ang (R % 4096) (((n : ℕ) * 256 + e) / 2 % 64))
      + _ * Ideal.cos (Rope.ang (R % 4096) (((n : ℕ) * 256 + e) / 2 % 64)) = _
    rw [hj]

theorem piece_at (n : Fin 12) (R : Fin 8704) (e : Fin 256) :
    val_main_v63 (F := Ideal) h w (ix2 R (⟨n * 256 + e, by omega⟩ : Fin 3072)) = Rope2.piece h w n R e := by
  rw [result_at, Rope2.piece]
  by_cases hR : (R : ℕ) < 8192
  · rw [dif_pos hR]
    by_cases hn : (n : ℕ) < 10
    · rw [dif_pos hn, if_pos ⟨hn, hR⟩, turn_at h w n hn R hR e]
    · rw [dif_neg hn, if_neg fun q => hn q.1, product_at h w n R e _ _ rfl rfl]
  · rw [dif_neg hR, if_neg fun q => hR q.2, product_at h w n R e _ _ rfl rfl]

theorem piece : val_main_v63 (F := Ideal) h w = fun i => Rope2.entry h w (i 0) (i 1) := by
  funext i
  obtain ⟨R, C, rfl⟩ : ∃ (R : Fin 8704) (C : Fin 3072), i = ix2 R C := ⟨i 0, i 1, eq_ix2 i⟩
  refine Eq.trans ?_ (piece_at h w ⟨C / 256, by omega⟩ R ⟨C % 256, Nat.mod_lt _ (by omega)⟩)
  refine congrArg (fun c => val_main_v63 (F := Ideal) h w (ix2 R c)) (Fin.ext ?_)
  show (C : ℕ) = C / 256 * 256 + C % 256
  omega

end

theorem cast (w : FVec Ideal S2x2048x2048 .f32) :
    val_main_v66 (F := Ideal) w = fun i => w (ix3 (0 : Fin 2) (i 0) (i 1)) := by
  funext i
  obtain ⟨R, C, rfl⟩ : ∃ (R : Fin 2048) (C : Fin 2048), i = ix2 R C := ⟨i 0, i 1, eq_ix2 i⟩
  show val_main_v66 (F := Ideal) w (ix2 R C) = w (ix3 (0 : Fin 2) R C)
  pointwise [val_main_v66, val_main_v65, val_main_v64]

end Cert.Reference6Ideal.Ref

end
-- ==== Proof.Rope2.Claims.lean ====
module
public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Rope2.Value
public import proofs.«01_k».proof.Proof.Rope2.Ref
public import Idealize.ShloMosaic.Lib.Claim
public import Idealize.ShloMosaic.Lib.Quiescent
@[expose] public section
/-! The claims of the rotation call with row-major heads. -/
set_option maxRecDepth 32768

noncomputable section

open Idealize.ShloMosaic Idealize.ShloMosaic.TcCoe Idealize.SL.Sem

namespace Cert.Proof.Rope2Claims

theorem frame_p : Cert.quiescent_Kernel6 := fun m ρ _ => Cert.Kernel6.Gen.frame m ρ
theorem frame_pi : Cert.quiescent_Kernel6Ideal := fun m ρ _ => Cert.Kernel6Ideal.Gen.frame m ρ
theorem frame_pi' : Cert.quiescent_Kernel6Ideal_pre_finite6 := fun m ρ _ => Cert.Kernel6Ideal.Gen.frame m ρ

theorem frame_ri : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

theorem frame_ri' : Cert.quiescent_Reference6Ideal_pre_finite6 := fun m ρ _ => frame_ri m ρ trivial

theorem preserves : Cert.preserves_Kernel6_Kernel6Ideal := trivial

section

open Cert.Reference6Ideal Cert.Reference6Ideal.Read

variable (m : (ℓ : Loc Cert.Kernel6Ideal.nD Cert.Kernel6Ideal.τ Cert.Kernel6Ideal.sig) → Buf (Elt Ideal) ℓ)
  (m' : (ℓ : Loc nD τ sig) → Buf (Elt Ideal) ℓ) (c : Dev nD)

/-- The reference's first result, of the kernel's arguments. -/
theorem result_0 (a0 : m' ((c.tc : Thread nD τ).loc main_arg0) = m ((c.tc : Thread _ _).loc Cert.Kernel6Ideal.main_arg0))
    (a1 : m' ((c.tc : Thread nD τ).loc main_arg1) = m ((c.tc : Thread _ _).loc Cert.Kernel6Ideal.main_arg1)) :
    Cert.Reference6Ideal.Value.res_main_v63 m' c
      = fun i => Rope2.entry (m ((c.tc : Thread _ _).loc Cert.Kernel6Ideal.main_arg0))
          (m ((c.tc : Thread _ _).loc Cert.Kernel6Ideal.main_arg1)) (i 0) (i 1) := by
  rw [val_main_v63_eq, a0, a1]
  exact Ref.piece _ _

/-- The reference's second result, of the kernel's arguments. -/
theorem result_1 (a2 : m' ((c.tc : Thread nD τ).loc main_arg2) = m ((c.tc : Thread _ _).loc Cert.Kernel6Ideal.main_arg2)) :
    val_main_v66 (F := Ideal) (m' ((c.tc : Thread nD τ).loc main_arg2))
      = fun i => m ((c.tc : Thread _ _).loc Cert.Kernel6Ideal.main_arg2) (ix3 (0 : Fin 2) (i 0) (i 1)) := by
  rw [a2]
  exact Ref.cast _

end

set_option maxHeartbeats 1600000 in
/-- The kernel's two results are the reference's: the product with its queries and keys turned, and the weights of the output
    projection. -/
theorem algebraic : Cert.algebraic_Kernel6Ideal_Reference6Ideal_pre_finite6 := by
  pair_intro
  · run_from Cert.Kernel6Ideal.Gen.run_main m g
  · refine θ_run_mono (Cert.Reference6Ideal.Value.run m' g') ?_
    intro r hr c
    obtain ⟨h0, h1, h⟩ := hr c
    refine ⟨?_, ?_, h⟩
    · exact (h0.trans (result_0 m m' c (hagree c).1 (hagree c).2.1)).trans (Cert.Kernel6Ideal.Val.piece_final m
        (fun c n R e => Rope2.product_real _ _ (Rope2.finite_h _ _ _ (hpre c).1) (Rope2.finite_w _ _ _ (hpre c).2) n R e) c).symm
    · exact (h1.trans (result_1 m m' c (hagree c).2.2)).trans (Cert.Kernel6Ideal.Val.weight_final m c).symm

end Cert.Proof.Rope2Claims

end
-- ==== Proof.Mix.Params.lean ====
/- The parameter rows that the host code gathers for the call behind an attention mixer, read at the row the call uses. -/
module

public import proofs.«01_k».proof.Proof.Gen.Kernel7Ideal.Frame
public import Idealize.ShloMosaic.Lib.StableHlo.RunRead
public import Idealize.ShloMosaic.Lib.Pointwise
public import Idealize.ShloMosaic.Lib.Claim

@[expose] public section

set_option maxRecDepth 32768

noncomputable section

namespace Cert.Kernel7Ideal.Val

open Cert.Kernel7Ideal Cert.Kernel7Ideal.Gen Idealize.ShloMosaic Idealize.ShloMosaic.TcCoe Idealize.SL.Sem

/-- The third of thirteen joined arrays. -/
theorem pick_two (y0 y1 y2 y3 y4 y5 y6 y7 y8 y9 y10 y11 y12 : FVec Ideal S1x3x8x2048 .f32) (g : Fin 3) (r : Fin 8) (e : Fin 2048) :
    concatenate S13x3x8x2048 0 [⟨S1x3x8x2048, y0⟩, ⟨S1x3x8x2048, y1⟩, ⟨S1x3x8x2048, y2⟩, ⟨S1x3x8x2048, y3⟩, ⟨S1x3x8x2048, y4⟩, ⟨S1x3x8x2048, y5⟩, ⟨S1x3x8x2048, y6⟩, ⟨S1x3x8x2048, y7⟩, ⟨S1x3x8x2048, y8⟩, ⟨S1x3x8x2048, y9⟩, ⟨S1x3x8x2048, y10⟩, ⟨S1x3x8x2048, y11⟩, ⟨S1x3x8x2048, y12⟩]
      concatenates_S1x3x8x2048_S1x3x8x2048_S1x3x8x2048_S1x3x8x2048_S1x3x8x2048_S1x3x8x2048_S1x3x8x2048_S1x3x8x2048_S1x3x8x2048_S1x3x8x2048_S1x3x8x2048_S1x3x8x2048_S1x3x8x2048_S13x3x8x2048_d0 (ix4 (2 : Fin 13) g r e) = y2 (ix4 (0 : Fin 1) g r e) := by
  pointwise []

variable (m : (ℓ : Loc nD τ sig) → Buf (Elt Ideal) ℓ)

/-- The call's parameter rows are the third of the gathered ones. -/
theorem gathered (c : Dev nD) (g : Fin 3) (r : Fin 8) (e : Fin 2048) :
    V m c main_v277 (ix4 (2 : Fin 13) g r e) = V m c main_v266 (ix4 (0 : Fin 1) g r e) := by
  unfold V
  generalize (fun b => m (c, b)) = W
  simp (disch := decide) only [StableHlo.readAfter, StableHlo.readUpto, StableHlo.nary_result']
  exact pick_two _ _ _ _ _ _ _ _ _ _ _ _ _ g r e

/-- Row 0: the norm's factors after the product. -/
theorem post_row (c : Dev nD) (g : Fin 3) (e : Fin 2048) :
    V m c main_v266 (ix4 (0 : Fin 1) g (0 : Fin 8) e)
      = m ((c : Thread nD τ).loc main_arg4) (ix3 (0 : Fin 4) (3 : Fin 6) e) := by
  unfold V
  after_reads_simp
  pointwise
  after_reads_simp
  pointwise

/-- Row 1: the residual's gate. -/
theorem gate_row (c : Dev nD) (g : Fin 3) (e : Fin 2048) :
    V m c main_v266 (ix4 (0 : Fin 1) g (1 : Fin 8) e)
      = m ((c : Thread nD τ).loc main_arg3) (ix3 (0 : Fin 4) (⟨g, by omega⟩ : Fin 8) (⟨5 * 2048 + e, by omega⟩ : Fin 18432)) := by
  unfold V
  after_reads_simp
  pointwise
  after_reads_simp
  pointwise

/-- Row 2: the next norm's factors. -/
theorem pre_row (c : Dev nD) (g : Fin 3) (e : Fin 2048) :
    V m c main_v266 (ix4 (0 : Fin 1) g (2 : Fin 8) e)
      = m ((c : Thread nD τ).loc main_arg4) (ix3 (0 : Fin 4) (4 : Fin 6) e) := by
  unfold V
  after_reads_simp
  pointwise
  after_reads_simp
  pointwise

/-- Row 3: the next modulation's scale. -/
theorem scale_row (c : Dev nD) (g : Fin 3) (e : Fin 2048) :
    V m c main_v266 (ix4 (0 : Fin 1) g (3 : Fin 8) e)
      = m ((c : Thread nD τ).loc main_arg3) (ix3 (0 : Fin 4) (⟨g, by omega⟩ : Fin 8) (⟨7 * 2048 + e, by omega⟩ : Fin 18432)) := by
  unfold V
  after_reads_simp
  pointwise
  after_reads_simp
  pointwise

/-- Row 4: the next modulation's shift. -/
theorem shift_row (c : Dev nD) (g : Fin 3) (e : Fin 2048) :
    V m c main_v266 (ix4 (0 : Fin 1) g (4 : Fin 8) e)
      = m ((c : Thread nD τ).loc main_arg3) (ix3 (0 : Fin 4) (⟨g, by omega⟩ : Fin 8) (⟨6 * 2048 + e, by omega⟩ : Fin 18432)) := by
  unfold V
  after_reads_simp
  pointwise
  after_reads_simp
  pointwise

end Cert.Kernel7Ideal.Val

end
-- ==== Proof.Mix.Value.lean ====
/-
What the output call behind an attention mixer computes: the residual stream after the mixer's output product, and the input
of the feed-forward part that follows.

Grid point `t` of 17 is a block of 512 rows, stored as two halves. The rows' modulation group is `t / 8`: 4096 rows, 4096
rows, 512 rows.
-/
module

public import proofs.«01_k».proof.Proof.Gen.Kernel7Ideal.Value
public import proofs.«01_k».proof.Proof.Mix.Params
public import Idealize.ShloMosaic.Lib.Pipeline.ValueKit
public import Idealize.ShloMosaic.Lib.Pointwise
public import Idealize.ShloMosaic.Lib.IdealHost

@[expose] public section

set_option maxRecDepth 16384

noncomputable section

namespace Mix

open Idealize.ShloMosaic

/-- A row over the root of its mean square. -/
def rms (v : Fin 2048 → EReal) (C : Fin 2048) : EReal :=
  v C * Ideal.rsqrt (Ideal.div (∑ j : Fin 2048, v j * v j) (Ideal.ofBits .f32 0x45000000#32) + Ideal.ofBits .f32 0x358637BD#32)

/-- The stream: the product's row normed, times the norm's factors and the gate, added to the row before. -/
def add (y x gate post : Fin 2048 → EReal) (C : Fin 2048) : EReal :=
  x C + rms y C * (gate C * post C)

/-- A row normed, times the norm's factors, scaled and shifted. -/
def norm (v pre scale shift : Fin 2048 → EReal) (C : Fin 2048) : EReal :=
  rms v C * (pre C * (Ideal.ofBits .f32 0x3F800000#32 + scale C)) + shift C

variable (a : FVec Ideal ⟨2, ![8704, 2048]⟩ .bf16) (w : FVec Ideal ⟨2, ![2048, 2048]⟩ .bf16)
  (x : FVec Ideal ⟨2, ![8704, 2048]⟩ .f32) (mods : FVec Ideal ⟨3, ![4, 8, 18432]⟩ .f32) (g : FVec Ideal ⟨3, ![4, 6, 2048]⟩ .f32)

/-- A row's modulation group. -/
def grp (R : Fin 8704) : Fin 8 := ⟨R / 4096, by omega⟩

/-- The stream after the output product. -/
def stream (R : Fin 8704) : Fin 2048 → EReal :=
  add (fun j => ∑ k : Fin 2048, a (ix2 R k) * w (ix2 k j)) (fun j => x (ix2 R j))
    (fun j => mods (ix3 (0 : Fin 4) (grp R) (⟨5 * 2048 + j, by omega⟩ : Fin 18432))) (fun j => g (ix3 (0 : Fin 4) (3 : Fin 6) j))

/-- The next part's input. -/
def next (R : Fin 8704) : Fin 2048 → EReal :=
  norm (stream a w x mods g R) (fun j => g (ix3 (0 : Fin 4) (4 : Fin 6) j))
    (fun j => mods (ix3 (0 : Fin 4) (grp R) (⟨7 * 2048 + j, by omega⟩ : Fin 18432)))
    (fun j => mods (ix3 (0 : Fin 4) (grp R) (⟨6 * 2048 + j, by omega⟩ : Fin 18432)))

end Mix

namespace Cert.Kernel7Ideal.Val

open Cert.Kernel7Ideal Cert.Kernel7Ideal.Gen Idealize.ShloMosaic Idealize.ShloMosaic.TcCoe Idealize.SL.Sem
open Idealize.ShloMosaic.Pipeline (Dat)

/-! ## The stored pieces, over the blocks read -/

theorem pay3_at (v0 v2 : Vec Ideal S1x1x1x2048 .f32) (v7 : Vec Ideal S256x2048 .bf16) (v8 : Vec Ideal S2048x2048 .bf16)
    (v10 : Vec Ideal S256x2048 .f32) (r : Fin 256) (e : Fin 2048) :
    k0_pay3 v0 v2 v7 v8 v10 (ix2 r e)
      = Mix.add (fun j => ∑ k : Fin 2048, v7 (ix2 r k) * v8 (ix2 k j)) (fun j => v10 (ix2 r j)) (fun j => v0 (ix4 0 0 0 j))
          (fun j => v2 (ix4 0 0 0 j)) e := by
  unfold Mix.add Mix.rms
  pointwise [k0_pay3, k0_pay2, Ideal.ofBits_one_f32, one_mul]

theorem pay7_at (v0 v2 : Vec Ideal S1x1x1x2048 .f32) (v7 : Vec Ideal S256x2048 .bf16) (v8 : Vec Ideal S2048x2048 .bf16)
    (v10 : Vec Ideal S256x2048 .f32) (r : Fin 256) (e : Fin 2048) :
    k0_pay7 (k0_pay2 v0 v2) v7 v8 v10 (ix2 r e)
      = Mix.add (fun j => ∑ k : Fin 2048, v7 (ix2 r k) * v8 (ix2 k j)) (fun j => v10 (ix2 r j)) (fun j => v0 (ix4 0 0 0 j))
          (fun j => v2 (ix4 0 0 0 j)) e := by
  unfold Mix.add Mix.rms
  pointwise [k0_pay7, k0_pay2, Ideal.ofBits_one_f32, one_mul]

theorem pay6_at (v : FVec Ideal S256x2048 .f32) (p s h : Vec Ideal S1x1x1x2048 .f32) (r : Fin 256) (e : Fin 2048) :
    k0_pay6 v (k0_pay4 p) (k0_pay5 s) h (ix2 r e)
      = Mix.norm (fun j => v (ix2 r j)) (fun j => p (ix4 0 0 0 j)) (fun j => s (ix4 0 0 0 j)) (fun j => h (ix4 0 0 0 j)) e := by
  unfold Mix.norm Mix.rms
  pointwise [k0_pay6, k0_pay4, k0_pay5]

theorem pay1_at (v : FVec Ideal S256x2048 .f32) (p s h : Vec Ideal S1x1x1x2048 .f32) (r : Fin 256) (e : Fin 2048) :
    k0_pay1 v p s h (ix2 r e)
      = Mix.norm (fun j => v (ix2 r j)) (fun j => p (ix4 0 0 0 j)) (fun j => s (ix4 0 0 0 j)) (fun j => h (ix4 0 0 0 j)) e := by
  unfold Mix.norm Mix.rms
  pointwise [k0_pay1]

variable (m : (ℓ : Loc nD τ sig) → Buf (Elt Ideal) ℓ)

theorem idx : ∀ t : Fin cfg0.N, win0_0.index t = ![t.val, 0] ∧ win0_1.index t = ![0, 0]
    ∧ win0_2.index t = ![2, t.val / 8, 0, 0] ∧ win0_3.index t = ![t.val, 0]
    ∧ win0_4.index t = ![t.val, 0] ∧ win0_5.index t = ![t.val, 0] :=
  (by decide +kernel : ∀ t : Fin grid0.N, _)

/-! ## The blocks read at a point -/

theorem ld_a (v : Vec Ideal S512x2048 .bf16) (r : Fin 256) (k : Fin 2048) :
    View.ld v r0_2 (ix2 r k) = v (ix2 (⟨r, by omega⟩ : Fin 512) k) := by
  exact View.ld_unit_apply_of _ _ _ _ _ _ fun a => match a with
    | ⟨0, _⟩ => (Nat.zero_add _).symm
    | ⟨1, _⟩ => (Nat.zero_add _).symm

theorem ld_a' (v : Vec Ideal S512x2048 .bf16) (r : Fin 256) (k : Fin 2048) :
    View.ld v r0_7 (ix2 r k) = v (ix2 (⟨256 + r, by omega⟩ : Fin 512) k) := by
  exact View.ld_unit_apply_of _ _ _ _ _ _ fun a => match a with
    | ⟨0, _⟩ => rfl
    | ⟨1, _⟩ => (Nat.zero_add _).symm

theorem ld_w (v : Vec Ideal S2048x2048 .bf16) (k : Fin 2048) (e : Fin 2048) : View.ld v r0_3 (ix2 k e) = v (ix2 k e) := by
  exact View.ld_unit_apply_of _ _ _ _ _ _ fun a => match a with
    | ⟨0, _⟩ => (Nat.zero_add _).symm
    | ⟨1, _⟩ => (Nat.zero_add _).symm

theorem ld_x (v : Vec Ideal S512x2048 .f32) (r : Fin 256) (e : Fin 2048) :
    View.ld v r0_2 (ix2 r e) = v (ix2 (⟨r, by omega⟩ : Fin 512) e) := by
  exact View.ld_unit_apply_of _ _ _ _ _ _ fun a => match a with
    | ⟨0, _⟩ => (Nat.zero_add _).symm
    | ⟨1, _⟩ => (Nat.zero_add _).symm

theorem ld_x' (v : Vec Ideal S512x2048 .f32) (r : Fin 256) (e : Fin 2048) :
    View.ld v r0_7 (ix2 r e) = v (ix2 (⟨256 + r, by omega⟩ : Fin 512) e) := by
  exact View.ld_unit_apply_of _ _ _ _ _ _ fun a => match a with
    | ⟨0, _⟩ => rfl
    | ⟨1, _⟩ => (Nat.zero_add _).symm

theorem ld_post (v : Vec Ideal S1x1x8x2048 .f32) (e : Fin 2048) :
    View.ld v r0_1 (ix4 0 0 0 e) = v (ix4 (0 : Fin 1) (0 : Fin 1) (0 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_gate (v : Vec Ideal S1x1x8x2048 .f32) (e : Fin 2048) :
    View.ld v r0_0 (ix4 0 0 0 e) = v (ix4 (0 : Fin 1) (0 : Fin 1) (1 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_pre (v : Vec Ideal S1x1x8x2048 .f32) (e : Fin 2048) :
    View.ld v r0_4 (ix4 0 0 0 e) = v (ix4 (0 : Fin 1) (0 : Fin 1) (2 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_scale (v : Vec Ideal S1x1x8x2048 .f32) (e : Fin 2048) :
    View.ld v r0_5 (ix4 0 0 0 e) = v (ix4 (0 : Fin 1) (0 : Fin 1) (3 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_shift (v : Vec Ideal S1x1x8x2048 .f32) (e : Fin 2048) :
    View.ld v r0_6 (ix4 0 0 0 e) = v (ix4 (0 : Fin 1) (0 : Fin 1) (4 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

variable (c : Dev nD) (t : Fin cfg0.N)

theorem load_a (r : Fin 512) (k : Fin 2048) (R : Fin 8704) (hR : (R : ℕ) = t.val * 512 + r) :
    iblk m c 0 t (ix2 r k) = m ((c : Thread nD τ).loc main_arg0) (ix2 R k) := by
  rw [← V_main_arg0 m c]
  unfold iblk
  generalize V m c = W
  blk_point [idx t]

theorem load_w (k : Fin 2048) (e : Fin 2048) :
    iblk m c 1 t (ix2 k e) = m ((c : Thread nD τ).loc main_arg1) (ix2 k e) := by
  rw [← V_main_arg1 m c]
  unfold iblk
  generalize V m c = W
  blk_point [idx t]

theorem load_x (r : Fin 512) (e : Fin 2048) (R : Fin 8704) (hR : (R : ℕ) = t.val * 512 + r) :
    iblk m c 3 t (ix2 r e) = m ((c : Thread nD τ).loc main_arg2) (ix2 R e) := by
  rw [← V_main_arg2 m c]
  unfold iblk
  generalize V m c = W
  blk_point [idx t]

/-- A row of the parameters of the point's group. -/
theorem load_p (r : Fin 8) (e : Fin 2048) (g : Fin 3) (hg : (g : ℕ) = t.val / 8) :
    iblk m c 2 t (ix4 (0 : Fin 1) (0 : Fin 1) r e) = V m c main_v266 (ix4 (0 : Fin 1) g r e) := by
  rw [← gathered]
  unfold iblk
  generalize V m c = W
  blk_point [idx t]

variable (R : Fin 8704) (hR : (R : ℕ) / 512 = t.val)
include hR

theorem load_post (e : Fin 2048) : View.ld (iblk m c 2 t) r0_1 (ix4 0 0 0 e)
    = m ((c : Thread nD τ).loc main_arg4) (ix3 (0 : Fin 4) (3 : Fin 6) e) := by
  rw [← post_row m c ⟨t.val / 8, by omega⟩ e, ← load_p m c t 0 e _ rfl]
  exact ld_post _ e

theorem load_gate (e : Fin 2048) : View.ld (iblk m c 2 t) r0_0 (ix4 0 0 0 e)
    = m ((c : Thread nD τ).loc main_arg3) (ix3 (0 : Fin 4) (Mix.grp R) (⟨5 * 2048 + e, by omega⟩ : Fin 18432)) := by
  have hg : Mix.grp R = ⟨t.val / 8, by omega⟩ := Fin.ext (by show (R : ℕ) / 4096 = t.val / 8; omega)
  rw [hg, ← gate_row m c ⟨t.val / 8, by omega⟩ e, ← load_p m c t 1 e _ rfl]
  exact ld_gate _ e

theorem load_pre (e : Fin 2048) : View.ld (iblk m c 2 t) r0_4 (ix4 0 0 0 e)
    = m ((c : Thread nD τ).loc main_arg4) (ix3 (0 : Fin 4) (4 : Fin 6) e) := by
  rw [← pre_row m c ⟨t.val / 8, by omega⟩ e, ← load_p m c t 2 e _ rfl]
  exact ld_pre _ e

theorem load_scale (e : Fin 2048) : View.ld (iblk m c 2 t) r0_5 (ix4 0 0 0 e)
    = m ((c : Thread nD τ).loc main_arg3) (ix3 (0 : Fin 4) (Mix.grp R) (⟨7 * 2048 + e, by omega⟩ : Fin 18432)) := by
  have hg : Mix.grp R = ⟨t.val / 8, by omega⟩ := Fin.ext (by show (R : ℕ) / 4096 = t.val / 8; omega)
  rw [hg, ← scale_row m c ⟨t.val / 8, by omega⟩ e, ← load_p m c t 3 e _ rfl]
  exact ld_scale _ e

theorem load_shift (e : Fin 2048) : View.ld (iblk m c 2 t) r0_6 (ix4 0 0 0 e)
    = m ((c : Thread nD τ).loc main_arg3) (ix3 (0 : Fin 4) (Mix.grp R) (⟨6 * 2048 + e, by omega⟩ : Fin 18432)) := by
  have hg : Mix.grp R = ⟨t.val / 8, by omega⟩ := Fin.ext (by show (R : ℕ) / 4096 = t.val / 8; omega)
  rw [hg, ← shift_row m c ⟨t.val / 8, by omega⟩ e, ← load_p m c t 4 e _ rfl]
  exact ld_shift _ e

omit hR

/-! ## The stream -/

/-- The stream's row, of the kernel's arguments. -/
abbrev streamOf : Fin 2048 → EReal :=
  Mix.stream (m ((c : Thread nD τ).loc main_arg0)) (m ((c : Thread nD τ).loc main_arg1)) (m ((c : Thread nD τ).loc main_arg2))
    (m ((c : Thread nD τ).loc main_arg3)) (m ((c : Thread nD τ).loc main_arg4)) R

/-- The next input's row, of the kernel's arguments. -/
abbrev nextOf : Fin 2048 → EReal :=
  Mix.next (m ((c : Thread nD τ).loc main_arg0)) (m ((c : Thread nD τ).loc main_arg1)) (m ((c : Thread nD τ).loc main_arg2))
    (m ((c : Thread nD τ).loc main_arg3)) (m ((c : Thread nD τ).loc main_arg4)) R

/-- Equal parts make equal streams. -/
theorem add_of {y x g p y' x' g' p' : Fin 2048 → EReal} (hy : ∀ j, y j = y' j) (hx : ∀ j, x j = x' j) (hg : ∀ j, g j = g' j)
    (hp : ∀ j, p j = p' j) (e : Fin 2048) : Mix.add y x g p e = Mix.add y' x' g' p' e := by
  rw [funext hy, funext hx, funext hg, funext hp]

/-- Equal parts make equal normed rows. -/
theorem norm_of {v p s h v' p' s' h' : Fin 2048 → EReal} (hv : ∀ j, v j = v' j) (hp : ∀ j, p j = p' j) (hs : ∀ j, s j = s' j)
    (hh : ∀ j, h j = h' j) (e : Fin 2048) : Mix.norm v p s h e = Mix.norm v' p' s' h' e := by
  rw [funext hv, funext hp, funext hs, funext hh]

/-- The upper half's stream. -/
theorem upper (r : Fin 256) (hr : (R : ℕ) = t.val * 512 + r) (e : Fin 2048) :
    k0_pay3 (View.ld (iblk m c 2 t) r0_0) (View.ld (iblk m c 2 t) r0_1) (View.ld (iblk m c 0 t) r0_2) (View.ld (iblk m c 1 t) r0_3)
      (View.ld (iblk m c 3 t) r0_2) (ix2 r e) = streamOf m c R e :=
  (pay3_at _ _ _ _ _ r e).trans (add_of
    (fun j => Finset.sum_congr rfl fun k _ => congrArg₂ (fun a b : EReal => a * b)
      ((ld_a _ r k).trans (load_a m c t _ k R hr)) ((ld_w _ k j).trans (load_w m c t k j)))
    (fun j => (ld_x _ r j).trans (load_x m c t _ j R hr))
    (load_gate m c t R (by omega)) (load_post m c t R (by omega)) e)

/-- The lower half's stream. -/
theorem lower (r : Fin 256) (hr : (R : ℕ) = t.val * 512 + (256 + r)) (e : Fin 2048) :
    k0_pay8 (iblk m c 0 t) (iblk m c 1 t) (iblk m c 2 t) (iblk m c 3 t) (ix2 r e) = streamOf m c R e :=
  (pay7_at _ _ _ _ _ r e).trans (add_of
    (fun j => Finset.sum_congr rfl fun k _ => congrArg₂ (fun a b : EReal => a * b)
      ((ld_a' _ r k).trans (load_a m c t _ k R hr)) ((ld_w _ k j).trans (load_w m c t k j)))
    (fun j => (ld_x' _ r j).trans (load_x m c t _ j R hr))
    (load_gate m c t R (by omega)) (load_post m c t R (by omega)) e)

theorem stream_point (y : S512x2048.Idx) (C : Fin 2048) (h0 : (R : ℕ) = t.val * 512 + (y 0 : ℕ)) (h1 : (C : ℕ) = (y 1 : ℕ)) :
    out0_4 (iblk m c 0 t) (iblk m c 1 t) (iblk m c 2 t) (iblk m c 3 t) y = streamOf m c R C := by
  unfold out0_4
  canon_tiles x h
  · have hC : C = ⟨x 1, x1_lt⟩ := Fin.ext (by show (C : ℕ) = x 1; omega)
    rw [eq_ix2 x, hC]
    exact lower m c t R ⟨x 0, x0_lt⟩ (by show (R : ℕ) = _ + (256 + (x 0 : ℕ)); omega) _
  · have hC : C = ⟨x 1, x1_lt⟩ := Fin.ext (by show (C : ℕ) = x 1; omega)
    rw [eq_ix2 x, hC]
    exact upper m c t R ⟨x 0, x0_lt⟩ (by show (R : ℕ) = _ + (x 0 : ℕ); omega) _

theorem stream_final : (dats m 0 c).arrAt 4 (cfgs 0).N = fun i => streamOf m c (i 0) (i 1) := by
  refine (dats m 0 c).arrAt_eq_of_covers 4 _ (by decide +kernel) fun t hf y => ?_
  have e0 : (((cfg0.win 4).blk t).view.emb y 0 : ℕ) = t.val * 512 + (y 0 : ℕ) := by blk_simp [idx t]
  have e1 : (((cfg0.win 4).blk t).view.emb y 1 : ℕ) = (y 1 : ℕ) := by blk_simp [idx t]
  refine Eq.trans ?_ (stream_point m c t _ y _ e0 e1)
  blk_simp
  rw [after0_4]

/-! ## The next input -/

theorem next_point (y : S512x2048.Idx) (C : Fin 2048) (h0 : (R : ℕ) = t.val * 512 + (y 0 : ℕ)) (h1 : (C : ℕ) = (y 1 : ℕ)) :
    out0_5 (iblk m c 0 t) (iblk m c 1 t) (iblk m c 2 t) (iblk m c 3 t) y = nextOf m c R C := by
  unfold out0_5
  canon_tiles x h
  · have hC : C = ⟨x 1, x1_lt⟩ := Fin.ext (by show (C : ℕ) = x 1; omega)
    rw [eq_ix2 x, hC]
    exact (pay1_at _ _ _ _ ⟨x 0, x0_lt⟩ ⟨x 1, x1_lt⟩).trans (norm_of
      (lower m c t R ⟨x 0, x0_lt⟩ (by show (R : ℕ) = _ + (256 + (x 0 : ℕ)); omega)) (load_pre m c t R (by omega))
      (load_scale m c t R (by omega)) (load_shift m c t R (by omega)) _)
  · have hC : C = ⟨x 1, x1_lt⟩ := Fin.ext (by show (C : ℕ) = x 1; omega)
    rw [eq_ix2 x, hC]
    exact (pay6_at _ _ _ _ ⟨x 0, x0_lt⟩ ⟨x 1, x1_lt⟩).trans (norm_of
      (upper m c t R ⟨x 0, x0_lt⟩ (by show (R : ℕ) = _ + (x 0 : ℕ); omega)) (load_pre m c t R (by omega))
      (load_scale m c t R (by omega)) (load_shift m c t R (by omega)) _)

theorem next_final : (dats m 0 c).arrAt 5 (cfgs 0).N = fun i => nextOf m c (i 0) (i 1) := by
  refine (dats m 0 c).arrAt_eq_of_covers 5 _ (by decide +kernel) fun t hf y => ?_
  have e0 : (((cfg0.win 5).blk t).view.emb y 0 : ℕ) = t.val * 512 + (y 0 : ℕ) := by blk_simp [idx t]
  have e1 : (((cfg0.win 5).blk t).view.emb y 1 : ℕ) = (y 1 : ℕ) := by blk_simp [idx t]
  refine Eq.trans ?_ (next_point m c t _ y _ e0 e1)
  blk_simp
  rw [after0_5]

end Cert.Kernel7Ideal.Val

end
-- ==== Proof.Mix.Ref.lean ====
/- What the reference of the output call behind an attention mixer computes, read at an index. -/
module

public import proofs.«01_k».proof.Proof.Gen.Reference7Ideal.Read
public import proofs.«01_k».proof.Proof.Mix.Value
public import Idealize.ShloMosaic.Lib.Pointwise

@[expose] public section

set_option maxRecDepth 16384

noncomputable section

namespace Cert.Reference7Ideal.Ref

open Cert.Reference7Ideal Cert.Reference7Ideal.Gen Cert.Reference7Ideal.Read Idealize.ShloMosaic Idealize.ShloMosaic.TcCoe

variable (a : FVec Ideal S8704x2048 .bf16) (w : FVec Ideal S2048x2048 .bf16) (x : FVec Ideal S8704x2048 .f32)
  (mods : FVec Ideal S4x8x18432 .f32) (g : FVec Ideal S4x6x2048 .f32)

/-- The output product. -/
theorem prod_at (R : Fin 8704) (C : Fin 2048) :
    val_main_v5 (F := Ideal) a w (ix2 R C) = ∑ k : Fin 2048, a (ix2 R k) * w (ix2 k C) := by
  rw [val_main_v5_apply]
  refine Finset.sum_congr rfl fun k _ => ?_
  rw [val_main_v3_apply, val_main_v4_apply]
  refine congrArg₂ (fun a b : EReal => a * b) (congrArg a ?_) (congrArg w ?_)
  · funext a
    match a with
    | ⟨0, _⟩ => rfl
    | ⟨1, _⟩ => rfl
  · funext a
    match a with
    | ⟨0, _⟩ => rfl
    | ⟨1, _⟩ => rfl

theorem grp_eq (R : Fin 8704) (k : Fin 8) (h : (R : ℕ) / 4096 = k) : Mix.grp R = k := Fin.ext h

theorem regroup (m y g : EReal) : m * (y * g) = y * (m * g) := by ac_rfl

/-- The gate of a row. -/
theorem gate_at (R : Fin 8704) (C : Fin 2048) :
    val_main_v17 (F := Ideal) mods (ix2 R C) = mods (ix3 (0 : Fin 4) (Mix.grp R) (⟨5 * 2048 + C, by omega⟩ : Fin 18432)) := by
  pointwise [val_main_v17, val_main_v16, val_main_v15, val_main_v14, val_main_v13, val_main_v12, val_main_v11,
    val_main_v10, val_main_v9, val_main_v8, val_main_v7, val_main_v6, val_main_v2, val_main_v1,
    val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The next scale of a row. -/
theorem scale_at (R : Fin 8704) (C : Fin 2048) :
    val_main_v61 (F := Ideal) mods (ix2 R C) = mods (ix3 (0 : Fin 4) (Mix.grp R) (⟨7 * 2048 + C, by omega⟩ : Fin 18432)) := by
  pointwise [val_main_v61, val_main_v60, val_main_v59, val_main_v58, val_main_v57, val_main_v56, val_main_v55,
    val_main_v54, val_main_v53, val_main_v52, val_main_v51, val_main_v50,
    val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The next shift of a row. -/
theorem shift_at (R : Fin 8704) (C : Fin 2048) :
    val_main_v76 (F := Ideal) mods (ix2 R C) = mods (ix3 (0 : Fin 4) (Mix.grp R) (⟨6 * 2048 + C, by omega⟩ : Fin 18432)) := by
  pointwise [val_main_v76, val_main_v75, val_main_v74, val_main_v73, val_main_v72, val_main_v71, val_main_v70,
    val_main_v69, val_main_v68, val_main_v67, val_main_v66, val_main_v65,
    val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

theorem post_at (R : Fin 8704) (C : Fin 2048) :
    val_main_v31 (F := Ideal) g (ix2 R C) = g (ix3 (0 : Fin 4) (3 : Fin 6) C) := by
  pointwise [val_main_v31, val_main_v30, val_main_v19, val_main_v18]

theorem pre_at (R : Fin 8704) (C : Fin 2048) :
    val_main_v48 (F := Ideal) g (ix2 R C) = g (ix3 (0 : Fin 4) (4 : Fin 6) C) := by
  pointwise [val_main_v48, val_main_v47, val_main_v36, val_main_v35]

/-- The product's row normed. -/
theorem rms_prod (R : Fin 8704) (C : Fin 2048) :
    val_main_v29 (F := Ideal) a w (ix2 R C) = Mix.rms (fun j => ∑ k : Fin 2048, a (ix2 R k) * w (ix2 k j)) C := by
  simp only [Mix.rms, ← prod_at]
  unfold val_main_v29 val_main_v28 val_main_v27 val_main_v26 val_main_v25 val_main_v24 val_main_v23 val_main_v22
    val_main_v21 val_main_v20 val_main_cst val_main_cst_0
    val_main_cst_1
  generalize val_main_v5 (F := Ideal) a w = y
  pointwise

theorem stream_at (R : Fin 8704) (C : Fin 2048) :
    val_main_v34 (F := Ideal) a w x mods g (ix2 R C) = Mix.stream a w x mods g R C := by
  rw [val_main_v34_apply, val_main_v33_apply, val_main_v32_apply, rms_prod, gate_at, post_at]
  show _ = _ + _
  refine congrArg (fun v : EReal => x (ix2 R C) + v) ?_
  exact regroup _ _ _

/-- The stream's row normed. -/
theorem rms_stream (R : Fin 8704) (C : Fin 2048) :
    val_main_v46 (F := Ideal) a w x mods g (ix2 R C) = Mix.rms (Mix.stream a w x mods g R) C := by
  rw [show Mix.stream a w x mods g R = fun j => val_main_v34 (F := Ideal) a w x mods g (ix2 R j) from
    funext fun j => (stream_at a w x mods g R j).symm]
  unfold Mix.rms val_main_v46 val_main_v45 val_main_v44 val_main_v43 val_main_v42 val_main_v41 val_main_v40 val_main_v39
    val_main_v38 val_main_v37 val_main_cst_2 val_main_cst_3
    val_main_cst_4
  generalize val_main_v34 (F := Ideal) a w x mods g = y
  pointwise

theorem next_at (R : Fin 8704) (C : Fin 2048) :
    val_main_v78 (F := Ideal) a w x mods g (ix2 R C) = Mix.next a w x mods g R C := by
  rw [val_main_v78_apply, val_main_v77_apply, val_main_v64_apply, val_main_v63_apply, val_main_v62_apply, val_main_v49_apply,
    val_main_cst_5_apply, rms_stream, scale_at, shift_at, pre_at]
  show _ * _ * (Ideal.ofBits .f32 0x3F800000#32 + _) + _ = _ * (_ * (_ + _)) + _
  rw [mul_assoc]

theorem stream : val_main_v34 (F := Ideal) a w x mods g = fun i => Mix.stream a w x mods g (i 0) (i 1) := by
  funext i
  obtain ⟨R, C, rfl⟩ : ∃ (R : Fin 8704) (C : Fin 2048), i = ix2 R C := ⟨i 0, i 1, eq_ix2 i⟩
  exact stream_at a w x mods g R C

theorem next : val_main_v78 (F := Ideal) a w x mods g = fun i => Mix.next a w x mods g (i 0) (i 1) := by
  funext i
  obtain ⟨R, C, rfl⟩ : ∃ (R : Fin 8704) (C : Fin 2048), i = ix2 R C := ⟨i 0, i 1, eq_ix2 i⟩
  exact next_at a w x mods g R C

end Cert.Reference7Ideal.Ref

end
-- ==== Proof.Mix.Claims.lean ====
module
public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Mix.Ref
public import Idealize.ShloMosaic.Lib.Claim
public import Idealize.ShloMosaic.Lib.Quiescent
@[expose] public section
/-! The claims of the output call behind an attention mixer. -/
set_option maxRecDepth 32768

noncomputable section

open Idealize.ShloMosaic Idealize.ShloMosaic.TcCoe Idealize.SL.Sem

namespace Cert.Proof.MixClaims

theorem frame_p : Cert.quiescent_Kernel7 := fun m ρ _ => Cert.Kernel7.Gen.frame m ρ
theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

theorem preserves : Cert.preserves_Kernel7_Kernel7Ideal := trivial

section

open Cert.Reference7Ideal Cert.Reference7Ideal.Read

variable (m : (ℓ : Loc Cert.Kernel7Ideal.nD Cert.Kernel7Ideal.τ Cert.Kernel7Ideal.sig) → Buf (Elt Ideal) ℓ)
  (m' : (ℓ : Loc nD τ sig) → Buf (Elt Ideal) ℓ) (c : Dev nD)
  (a3 : m' ((c.tc : Thread nD τ).loc main_arg3) = m ((c.tc : Thread _ _).loc Cert.Kernel7Ideal.main_arg3))

include a3

/-- The reference's stream, of the kernel's arguments. -/
theorem result_0 :
    val_main_v34 (F := Ideal) (m (c.tc.loc Cert.Kernel7Ideal.main_arg0)) (m (c.tc.loc Cert.Kernel7Ideal.main_arg1))
        (m (c.tc.loc Cert.Kernel7Ideal.main_arg2)) (m' (c.tc.loc main_arg3)) (m (c.tc.loc Cert.Kernel7Ideal.main_arg4))
      = fun i => Cert.Kernel7Ideal.Val.streamOf m c (i 0) (i 1) := by
  rw [a3]
  exact Ref.stream _ _ _ _ _

end

/-- The reference's next input, of the kernel's arguments. -/
theorem result_1 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Reference7Ideal.nD)
    (h : m' (c.tc.loc Cert.Reference7Ideal.main_arg0) = m (c.tc.loc Cert.Kernel7Ideal.main_arg0)
      ∧ m' (c.tc.loc Cert.Reference7Ideal.main_arg1) = m (c.tc.loc Cert.Kernel7Ideal.main_arg1)
      ∧ m' (c.tc.loc Cert.Reference7Ideal.main_arg2) = m (c.tc.loc Cert.Kernel7Ideal.main_arg2)
      ∧ m' (c.tc.loc Cert.Reference7Ideal.main_arg3) = m (c.tc.loc Cert.Kernel7Ideal.main_arg3)
      ∧ m' (c.tc.loc Cert.Reference7Ideal.main_arg4) = m (c.tc.loc Cert.Kernel7Ideal.main_arg4)) :
    Cert.Reference7Ideal.Value.res_main_v78 m' c = fun i => Cert.Kernel7Ideal.Val.nextOf m c (i 0) (i 1) := by
  obtain ⟨a0, a1, a2, a3, a4⟩ := h
  rw [Cert.Reference7Ideal.Read.val_main_v78_eq, a0, a1, a2, a3, a4]
  exact Cert.Reference7Ideal.Ref.next _ _ _ _ _

/-- The kernel's two results are the reference's: the residual stream and the next part's input. -/
theorem algebraic : Cert.algebraic_Kernel7Ideal_Reference7Ideal := by
  pair_intro
  · run_from Cert.Kernel7Ideal.Gen.run_main m g
  · run_from Cert.Reference7Ideal.Value.run m' g'
    · exact (result_0 m m' c (hagree c).2.2.2.1).trans (Cert.Kernel7Ideal.Val.stream_final m c).symm
    · exact (result_1 m m' c (hagree c)).trans (Cert.Kernel7Ideal.Val.next_final m c).symm

end Cert.Proof.MixClaims

end
-- ==== Proof.Mix2.Params.lean ====
/- The parameter rows that the host code gathers for the call behind the gated mixer, read at the row the call uses. -/
module

public import proofs.«01_k».proof.Proof.Gen.Kernel8Ideal.Frame
public import Idealize.ShloMosaic.Lib.StableHlo.RunRead
public import Idealize.ShloMosaic.Lib.Pointwise
public import Idealize.ShloMosaic.Lib.Claim

@[expose] public section

set_option maxRecDepth 32768

noncomputable section

namespace Cert.Kernel8Ideal.Val

open Cert.Kernel8Ideal Cert.Kernel8Ideal.Gen Idealize.ShloMosaic Idealize.ShloMosaic.TcCoe Idealize.SL.Sem

/-- The sixth of thirteen joined arrays. -/
theorem pick_five (y0 y1 y2 y3 y4 y5 y6 y7 y8 y9 y10 y11 y12 : FVec Ideal S1x3x8x2048 .f32) (g : Fin 3) (r : Fin 8) (e : Fin 2048) :
    concatenate S13x3x8x2048 0 [⟨S1x3x8x2048, y0⟩, ⟨S1x3x8x2048, y1⟩, ⟨S1x3x8x2048, y2⟩, ⟨S1x3x8x2048, y3⟩, ⟨S1x3x8x2048, y4⟩, ⟨S1x3x8x2048, y5⟩, ⟨S1x3x8x2048, y6⟩, ⟨S1x3x8x2048, y7⟩, ⟨S1x3x8x2048, y8⟩, ⟨S1x3x8x2048, y9⟩, ⟨S1x3x8x2048, y10⟩, ⟨S1x3x8x2048, y11⟩, ⟨S1x3x8x2048, y12⟩]
      concatenates_S1x3x8x2048_S1x3x8x2048_S1x3x8x2048_S1x3x8x2048_S1x3x8x2048_S1x3x8x2048_S1x3x8x2048_S1x3x8x2048_S1x3x8x2048_S1x3x8x2048_S1x3x8x2048_S1x3x8x2048_S1x3x8x2048_S13x3x8x2048_d0 (ix4 (5 : Fin 13) g r e) = y5 (ix4 (0 : Fin 1) g r e) := by
  pointwise []

variable (m : (ℓ : Loc nD τ sig) → Buf (Elt Ideal) ℓ)

/-- The call's parameter rows are the sixth of the gathered ones. -/
theorem gathered (c : Dev nD) (g : Fin 3) (r : Fin 8) (e : Fin 2048) :
    V m c main_v277 (ix4 (5 : Fin 13) g r e) = V m c main_v269 (ix4 (0 : Fin 1) g r e) := by
  unfold V
  generalize (fun b => m (c, b)) = W
  simp (disch := decide) only [StableHlo.readAfter, StableHlo.readUpto, StableHlo.nary_result']
  exact pick_five _ _ _ _ _ _ _ _ _ _ _ _ _ g r e

/-- Row 0: the norm's factors after the product. -/
theorem post_row (c : Dev nD) (g : Fin 3) (e : Fin 2048) :
    V m c main_v269 (ix4 (0 : Fin 1) g (0 : Fin 8) e)
      = m ((c : Thread nD τ).loc main_arg4) (ix3 (1 : Fin 4) (3 : Fin 6) e) := by
  unfold V
  after_reads_simp
  pointwise
  after_reads_simp
  pointwise

/-- Row 1: the residual's gate. -/
theorem gate_row (c : Dev nD) (g : Fin 3) (e : Fin 2048) :
    V m c main_v269 (ix4 (0 : Fin 1) g (1 : Fin 8) e)
      = m ((c : Thread nD τ).loc main_arg3) (ix3 (1 : Fin 4) (⟨g, by omega⟩ : Fin 8) (⟨5 * 2048 + e, by omega⟩ : Fin 18432)) := by
  unfold V
  after_reads_simp
  pointwise
  after_reads_simp
  pointwise

/-- Row 2: the next norm's factors. -/
theorem pre_row (c : Dev nD) (g : Fin 3) (e : Fin 2048) :
    V m c main_v269 (ix4 (0 : Fin 1) g (2 : Fin 8) e)
      = m ((c : Thread nD τ).loc main_arg4) (ix3 (1 : Fin 4) (4 : Fin 6) e) := by
  unfold V
  after_reads_simp
  pointwise
  after_reads_simp
  pointwise

/-- Row 3: the next modulation's scale. -/
theorem scale_row (c : Dev nD) (g : Fin 3) (e : Fin 2048) :
    V m c main_v269 (ix4 (0 : Fin 1) g (3 : Fin 8) e)
      = m ((c : Thread nD τ).loc main_arg3) (ix3 (1 : Fin 4) (⟨g, by omega⟩ : Fin 8) (⟨7 * 2048 + e, by omega⟩ : Fin 18432)) := by
  unfold V
  after_reads_simp
  pointwise
  after_reads_simp
  pointwise

/-- Row 4: the next modulation's shift. -/
theorem shift_row (c : Dev nD) (g : Fin 3) (e : Fin 2048) :
    V m c main_v269 (ix4 (0 : Fin 1) g (4 : Fin 8) e)
      = m ((c : Thread nD τ).loc main_arg3) (ix3 (1 : Fin 4) (⟨g, by omega⟩ : Fin 8) (⟨6 * 2048 + e, by omega⟩ : Fin 18432)) := by
  unfold V
  after_reads_simp
  pointwise
  after_reads_simp
  pointwise

end Cert.Kernel8Ideal.Val

end
-- ==== Proof.Mix2.Value.lean ====
/-
What the output call behind the gated mixer computes: the residual stream after the mixer's output product, and the input
of the feed-forward part that follows.

Grid point `t` of 17 is a block of 512 rows, stored as two halves. The rows' modulation group is `t / 8`: 4096 rows, 4096
rows, 512 rows.
-/
module

public import proofs.«01_k».proof.Proof.Gen.Kernel8Ideal.Value
public import proofs.«01_k».proof.Proof.Mix2.Params
public import Idealize.ShloMosaic.Lib.Pipeline.ValueKit
public import Idealize.ShloMosaic.Lib.Pointwise
public import Idealize.ShloMosaic.Lib.IdealHost

@[expose] public section

set_option maxRecDepth 16384

noncomputable section

namespace Mix2

open Idealize.ShloMosaic

/-- A row over the root of its mean square. -/
def rms (v : Fin 2048 → EReal) (C : Fin 2048) : EReal :=
  v C * Ideal.rsqrt (Ideal.div (∑ j : Fin 2048, v j * v j) (Ideal.ofBits .f32 0x45000000#32) + Ideal.ofBits .f32 0x358637BD#32)

/-- The stream: the product's row normed, times the norm's factors and the gate, added to the row before. -/
def add (y x gate post : Fin 2048 → EReal) (C : Fin 2048) : EReal :=
  x C + rms y C * (gate C * post C)

/-- A row normed, times the norm's factors, scaled and shifted. -/
def norm (v pre scale shift : Fin 2048 → EReal) (C : Fin 2048) : EReal :=
  rms v C * (pre C * (Ideal.ofBits .f32 0x3F800000#32 + scale C)) + shift C

variable (a : FVec Ideal ⟨2, ![8704, 6144]⟩ .bf16) (w : FVec Ideal ⟨2, ![6144, 2048]⟩ .bf16)
  (x : FVec Ideal ⟨2, ![8704, 2048]⟩ .f32) (mods : FVec Ideal ⟨3, ![4, 8, 18432]⟩ .f32) (g : FVec Ideal ⟨3, ![4, 6, 2048]⟩ .f32)

/-- A row's modulation group. -/
def grp (R : Fin 8704) : Fin 8 := ⟨R / 4096, by omega⟩

/-- The stream after the output product. -/
def stream (R : Fin 8704) : Fin 2048 → EReal :=
  add (fun j => ∑ k : Fin 6144, a (ix2 R k) * w (ix2 k j)) (fun j => x (ix2 R j))
    (fun j => mods (ix3 (1 : Fin 4) (grp R) (⟨5 * 2048 + j, by omega⟩ : Fin 18432))) (fun j => g (ix3 (1 : Fin 4) (3 : Fin 6) j))

/-- The next part's input. -/
def next (R : Fin 8704) : Fin 2048 → EReal :=
  norm (stream a w x mods g R) (fun j => g (ix3 (1 : Fin 4) (4 : Fin 6) j))
    (fun j => mods (ix3 (1 : Fin 4) (grp R) (⟨7 * 2048 + j, by omega⟩ : Fin 18432)))
    (fun j => mods (ix3 (1 : Fin 4) (grp R) (⟨6 * 2048 + j, by omega⟩ : Fin 18432)))

end Mix2

namespace Cert.Kernel8Ideal.Val

open Cert.Kernel8Ideal Cert.Kernel8Ideal.Gen Idealize.ShloMosaic Idealize.ShloMosaic.TcCoe Idealize.SL.Sem
open Idealize.ShloMosaic.Pipeline (Dat)

/-! ## The stored pieces, over the blocks read -/

theorem pay3_at (v0 v2 : Vec Ideal S1x1x1x2048 .f32) (v7 : Vec Ideal S256x6144 .bf16) (v8 : Vec Ideal S6144x2048 .bf16)
    (v10 : Vec Ideal S256x2048 .f32) (r : Fin 256) (e : Fin 2048) :
    k0_pay3 v0 v2 v7 v8 v10 (ix2 r e)
      = Mix2.add (fun j => ∑ k : Fin 6144, v7 (ix2 r k) * v8 (ix2 k j)) (fun j => v10 (ix2 r j)) (fun j => v0 (ix4 0 0 0 j))
          (fun j => v2 (ix4 0 0 0 j)) e := by
  unfold Mix2.add Mix2.rms
  pointwise [k0_pay3, k0_pay2, Ideal.ofBits_one_f32, one_mul]

theorem pay7_at (v0 v2 : Vec Ideal S1x1x1x2048 .f32) (v7 : Vec Ideal S256x6144 .bf16) (v8 : Vec Ideal S6144x2048 .bf16)
    (v10 : Vec Ideal S256x2048 .f32) (r : Fin 256) (e : Fin 2048) :
    k0_pay7 (k0_pay2 v0 v2) v7 v8 v10 (ix2 r e)
      = Mix2.add (fun j => ∑ k : Fin 6144, v7 (ix2 r k) * v8 (ix2 k j)) (fun j => v10 (ix2 r j)) (fun j => v0 (ix4 0 0 0 j))
          (fun j => v2 (ix4 0 0 0 j)) e := by
  unfold Mix2.add Mix2.rms
  pointwise [k0_pay7, k0_pay2, Ideal.ofBits_one_f32, one_mul]

theorem pay6_at (v : FVec Ideal S256x2048 .f32) (p s h : Vec Ideal S1x1x1x2048 .f32) (r : Fin 256) (e : Fin 2048) :
    k0_pay6 v (k0_pay4 p) (k0_pay5 s) h (ix2 r e)
      = Mix2.norm (fun j => v (ix2 r j)) (fun j => p (ix4 0 0 0 j)) (fun j => s (ix4 0 0 0 j)) (fun j => h (ix4 0 0 0 j)) e := by
  unfold Mix2.norm Mix2.rms
  pointwise [k0_pay6, k0_pay4, k0_pay5]

theorem pay1_at (v : FVec Ideal S256x2048 .f32) (p s h : Vec Ideal S1x1x1x2048 .f32) (r : Fin 256) (e : Fin 2048) :
    k0_pay1 v p s h (ix2 r e)
      = Mix2.norm (fun j => v (ix2 r j)) (fun j => p (ix4 0 0 0 j)) (fun j => s (ix4 0 0 0 j)) (fun j => h (ix4 0 0 0 j)) e := by
  unfold Mix2.norm Mix2.rms
  pointwise [k0_pay1]

variable (m : (ℓ : Loc nD τ sig) → Buf (Elt Ideal) ℓ)

theorem idx : ∀ t : Fin cfg0.N, win0_0.index t = ![t.val, 0] ∧ win0_1.index t = ![0, 0]
    ∧ win0_2.index t = ![5, t.val / 8, 0, 0] ∧ win0_3.index t = ![t.val, 0]
    ∧ win0_4.index t = ![t.val, 0] ∧ win0_5.index t = ![t.val, 0] :=
  (by decide +kernel : ∀ t : Fin grid0.N, _)

/-! ## The blocks read at a point -/

theorem ld_a (v : Vec Ideal S512x6144 .bf16) (r : Fin 256) (k : Fin 6144) :
    View.ld v r0_2 (ix2 r k) = v (ix2 (⟨r, by omega⟩ : Fin 512) k) := by
  exact View.ld_unit_apply_of _ _ _ _ _ _ fun a => match a with
    | ⟨0, _⟩ => (Nat.zero_add _).symm
    | ⟨1, _⟩ => (Nat.zero_add _).symm

theorem ld_a' (v : Vec Ideal S512x6144 .bf16) (r : Fin 256) (k : Fin 6144) :
    View.ld v r0_8 (ix2 r k) = v (ix2 (⟨256 + r, by omega⟩ : Fin 512) k) := by
  exact View.ld_unit_apply_of _ _ _ _ _ _ fun a => match a with
    | ⟨0, _⟩ => rfl
    | ⟨1, _⟩ => (Nat.zero_add _).symm

theorem ld_w (v : Vec Ideal S6144x2048 .bf16) (k : Fin 6144) (e : Fin 2048) : View.ld v r0_3 (ix2 k e) = v (ix2 k e) := by
  exact View.ld_unit_apply_of _ _ _ _ _ _ fun a => match a with
    | ⟨0, _⟩ => (Nat.zero_add _).symm
    | ⟨1, _⟩ => (Nat.zero_add _).symm

theorem ld_x (v : Vec Ideal S512x2048 .f32) (r : Fin 256) (e : Fin 2048) :
    View.ld v r0_4 (ix2 r e) = v (ix2 (⟨r, by omega⟩ : Fin 512) e) := by
  exact View.ld_unit_apply_of _ _ _ _ _ _ fun a => match a with
    | ⟨0, _⟩ => (Nat.zero_add _).symm
    | ⟨1, _⟩ => (Nat.zero_add _).symm

theorem ld_x' (v : Vec Ideal S512x2048 .f32) (r : Fin 256) (e : Fin 2048) :
    View.ld v r0_9 (ix2 r e) = v (ix2 (⟨256 + r, by omega⟩ : Fin 512) e) := by
  exact View.ld_unit_apply_of _ _ _ _ _ _ fun a => match a with
    | ⟨0, _⟩ => rfl
    | ⟨1, _⟩ => (Nat.zero_add _).symm

theorem ld_post (v : Vec Ideal S1x1x8x2048 .f32) (e : Fin 2048) :
    View.ld v r0_1 (ix4 0 0 0 e) = v (ix4 (0 : Fin 1) (0 : Fin 1) (0 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_gate (v : Vec Ideal S1x1x8x2048 .f32) (e : Fin 2048) :
    View.ld v r0_0 (ix4 0 0 0 e) = v (ix4 (0 : Fin 1) (0 : Fin 1) (1 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_pre (v : Vec Ideal S1x1x8x2048 .f32) (e : Fin 2048) :
    View.ld v r0_5 (ix4 0 0 0 e) = v (ix4 (0 : Fin 1) (0 : Fin 1) (2 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_scale (v : Vec Ideal S1x1x8x2048 .f32) (e : Fin 2048) :
    View.ld v r0_6 (ix4 0 0 0 e) = v (ix4 (0 : Fin 1) (0 : Fin 1) (3 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

theorem ld_shift (v : Vec Ideal S1x1x8x2048 .f32) (e : Fin 2048) :
    View.ld v r0_7 (ix4 0 0 0 e) = v (ix4 (0 : Fin 1) (0 : Fin 1) (4 : Fin 8) e) := by
  exact View.ld_unit_apply_of _ _ _ _ _ _ fun a => match a with
    | ⟨0, _⟩ => rfl
    | ⟨1, _⟩ => rfl
    | ⟨2, _⟩ => rfl
    | ⟨3, _⟩ => (Nat.zero_add _).symm

variable (c : Dev nD) (t : Fin cfg0.N)

theorem load_a (r : Fin 512) (k : Fin 6144) (R : Fin 8704) (hR : (R : ℕ) = t.val * 512 + r) :
    iblk m c 0 t (ix2 r k) = m ((c : Thread nD τ).loc main_arg0) (ix2 R k) := by
  rw [← V_main_arg0 m c]
  unfold iblk
  generalize V m c = W
  blk_point [idx t]

theorem load_w (k : Fin 6144) (e : Fin 2048) :
    iblk m c 1 t (ix2 k e) = m ((c : Thread nD τ).loc main_arg1) (ix2 k e) := by
  rw [← V_main_arg1 m c]
  unfold iblk
  generalize V m c = W
  blk_point [idx t]

theorem load_x (r : Fin 512) (e : Fin 2048) (R : Fin 8704) (hR : (R : ℕ) = t.val * 512 + r) :
    iblk m c 3 t (ix2 r e) = m ((c : Thread nD τ).loc main_arg2) (ix2 R e) := by
  rw [← V_main_arg2 m c]
  unfold iblk
  generalize V m c = W
  blk_point [idx t]

/-- A row of the parameters of the point's group. -/
theorem load_p (r : Fin 8) (e : Fin 2048) (g : Fin 3) (hg : (g : ℕ) = t.val / 8) :
    iblk m c 2 t (ix4 (0 : Fin 1) (0 : Fin 1) r e) = V m c main_v269 (ix4 (0 : Fin 1) g r e) := by
  rw [← gathered]
  unfold iblk
  generalize V m c = W
  blk_point [idx t]

variable (R : Fin 8704) (hR : (R : ℕ) / 512 = t.val)
include hR

theorem load_post (e : Fin 2048) : View.ld (iblk m c 2 t) r0_1 (ix4 0 0 0 e)
    = m ((c : Thread nD τ).loc main_arg4) (ix3 (1 : Fin 4) (3 : Fin 6) e) := by
  rw [← post_row m c ⟨t.val / 8, by omega⟩ e, ← load_p m c t 0 e _ rfl]
  exact ld_post _ e

theorem load_gate (e : Fin 2048) : View.ld (iblk m c 2 t) r0_0 (ix4 0 0 0 e)
    = m ((c : Thread nD τ).loc main_arg3) (ix3 (1 : Fin 4) (Mix2.grp R) (⟨5 * 2048 + e, by omega⟩ : Fin 18432)) := by
  have hg : Mix2.grp R = ⟨t.val / 8, by omega⟩ := Fin.ext (by show (R : ℕ) / 4096 = t.val / 8; omega)
  rw [hg, ← gate_row m c ⟨t.val / 8, by omega⟩ e, ← load_p m c t 1 e _ rfl]
  exact ld_gate _ e

theorem load_pre (e : Fin 2048) : View.ld (iblk m c 2 t) r0_5 (ix4 0 0 0 e)
    = m ((c : Thread nD τ).loc main_arg4) (ix3 (1 : Fin 4) (4 : Fin 6) e) := by
  rw [← pre_row m c ⟨t.val / 8, by omega⟩ e, ← load_p m c t 2 e _ rfl]
  exact ld_pre _ e

theorem load_scale (e : Fin 2048) : View.ld (iblk m c 2 t) r0_6 (ix4 0 0 0 e)
    = m ((c : Thread nD τ).loc main_arg3) (ix3 (1 : Fin 4) (Mix2.grp R) (⟨7 * 2048 + e, by omega⟩ : Fin 18432)) := by
  have hg : Mix2.grp R = ⟨t.val / 8, by omega⟩ := Fin.ext (by show (R : ℕ) / 4096 = t.val / 8; omega)
  rw [hg, ← scale_row m c ⟨t.val / 8, by omega⟩ e, ← load_p m c t 3 e _ rfl]
  exact ld_scale _ e

theorem load_shift (e : Fin 2048) : View.ld (iblk m c 2 t) r0_7 (ix4 0 0 0 e)
    = m ((c : Thread nD τ).loc main_arg3) (ix3 (1 : Fin 4) (Mix2.grp R) (⟨6 * 2048 + e, by omega⟩ : Fin 18432)) := by
  have hg : Mix2.grp R = ⟨t.val / 8, by omega⟩ := Fin.ext (by show (R : ℕ) / 4096 = t.val / 8; omega)
  rw [hg, ← shift_row m c ⟨t.val / 8, by omega⟩ e, ← load_p m c t 4 e _ rfl]
  exact ld_shift _ e

omit hR

/-! ## The stream -/

/-- The stream's row, of the kernel's arguments. -/
abbrev streamOf : Fin 2048 → EReal :=
  Mix2.stream (m ((c : Thread nD τ).loc main_arg0)) (m ((c : Thread nD τ).loc main_arg1)) (m ((c : Thread nD τ).loc main_arg2))
    (m ((c : Thread nD τ).loc main_arg3)) (m ((c : Thread nD τ).loc main_arg4)) R

/-- The next input's row, of the kernel's arguments. -/
abbrev nextOf : Fin 2048 → EReal :=
  Mix2.next (m ((c : Thread nD τ).loc main_arg0)) (m ((c : Thread nD τ).loc main_arg1)) (m ((c : Thread nD τ).loc main_arg2))
    (m ((c : Thread nD τ).loc main_arg3)) (m ((c : Thread nD τ).loc main_arg4)) R

/-- Equal parts make equal streams. -/
theorem add_of {y x g p y' x' g' p' : Fin 2048 → EReal} (hy : ∀ j, y j = y' j) (hx : ∀ j, x j = x' j) (hg : ∀ j, g j = g' j)
    (hp : ∀ j, p j = p' j) (e : Fin 2048) : Mix2.add y x g p e = Mix2.add y' x' g' p' e := by
  rw [funext hy, funext hx, funext hg, funext hp]

/-- Equal parts make equal normed rows. -/
theorem norm_of {v p s h v' p' s' h' : Fin 2048 → EReal} (hv : ∀ j, v j = v' j) (hp : ∀ j, p j = p' j) (hs : ∀ j, s j = s' j)
    (hh : ∀ j, h j = h' j) (e : Fin 2048) : Mix2.norm v p s h e = Mix2.norm v' p' s' h' e := by
  rw [funext hv, funext hp, funext hs, funext hh]

/-- The upper half's stream. -/
theorem upper (r : Fin 256) (hr : (R : ℕ) = t.val * 512 + r) (e : Fin 2048) :
    k0_pay3 (View.ld (iblk m c 2 t) r0_0) (View.ld (iblk m c 2 t) r0_1) (View.ld (iblk m c 0 t) r0_2) (View.ld (iblk m c 1 t) r0_3)
      (View.ld (iblk m c 3 t) r0_4) (ix2 r e) = streamOf m c R e :=
  (pay3_at _ _ _ _ _ r e).trans (add_of
    (fun j => Finset.sum_congr rfl fun k _ => congrArg₂ (fun a b : EReal => a * b)
      ((ld_a _ r k).trans (load_a m c t _ k R hr)) ((ld_w _ k j).trans (load_w m c t k j)))
    (fun j => (ld_x _ r j).trans (load_x m c t _ j R hr))
    (load_gate m c t R (by omega)) (load_post m c t R (by omega)) e)

/-- The lower half's stream. -/
theorem lower (r : Fin 256) (hr : (R : ℕ) = t.val * 512 + (256 + r)) (e : Fin 2048) :
    k0_pay8 (iblk m c 0 t) (iblk m c 1 t) (iblk m c 2 t) (iblk m c 3 t) (ix2 r e) = streamOf m c R e :=
  (pay7_at _ _ _ _ _ r e).trans (add_of
    (fun j => Finset.sum_congr rfl fun k _ => congrArg₂ (fun a b : EReal => a * b)
      ((ld_a' _ r k).trans (load_a m c t _ k R hr)) ((ld_w _ k j).trans (load_w m c t k j)))
    (fun j => (ld_x' _ r j).trans (load_x m c t _ j R hr))
    (load_gate m c t R (by omega)) (load_post m c t R (by omega)) e)

theorem stream_point (y : S512x2048.Idx) (C : Fin 2048) (h0 : (R : ℕ) = t.val * 512 + (y 0 : ℕ)) (h1 : (C : ℕ) = (y 1 : ℕ)) :
    out0_4 (iblk m c 0 t) (iblk m c 1 t) (iblk m c 2 t) (iblk m c 3 t) y = streamOf m c R C := by
  unfold out0_4
  canon_tiles x h
  · have hC : C = ⟨x 1, x1_lt⟩ := Fin.ext (by show (C : ℕ) = x 1; omega)
    rw [eq_ix2 x, hC]
    exact lower m c t R ⟨x 0, x0_lt⟩ (by show (R : ℕ) = _ + (256 + (x 0 : ℕ)); omega) _
  · have hC : C = ⟨x 1, x1_lt⟩ := Fin.ext (by show (C : ℕ) = x 1; omega)
    rw [eq_ix2 x, hC]
    exact upper m c t R ⟨x 0, x0_lt⟩ (by show (R : ℕ) = _ + (x 0 : ℕ); omega) _

theorem stream_final : (dats m 0 c).arrAt 4 (cfgs 0).N = fun i => streamOf m c (i 0) (i 1) := by
  refine (dats m 0 c).arrAt_eq_of_covers 4 _ (by decide +kernel) fun t hf y => ?_
  have e0 : (((cfg0.win 4).blk t).view.emb y 0 : ℕ) = t.val * 512 + (y 0 : ℕ) := by blk_simp [idx t]
  have e1 : (((cfg0.win 4).blk t).view.emb y 1 : ℕ) = (y 1 : ℕ) := by blk_simp [idx t]
  refine Eq.trans ?_ (stream_point m c t _ y _ e0 e1)
  blk_simp
  rw [after0_4]

/-! ## The next input -/

theorem next_point (y : S512x2048.Idx) (C : Fin 2048) (h0 : (R : ℕ) = t.val * 512 + (y 0 : ℕ)) (h1 : (C : ℕ) = (y 1 : ℕ)) :
    out0_5 (iblk m c 0 t) (iblk m c 1 t) (iblk m c 2 t) (iblk m c 3 t) y = nextOf m c R C := by
  unfold out0_5
  canon_tiles x h
  · have hC : C = ⟨x 1, x1_lt⟩ := Fin.ext (by show (C : ℕ) = x 1; omega)
    rw [eq_ix2 x, hC]
    exact (pay1_at _ _ _ _ ⟨x 0, x0_lt⟩ ⟨x 1, x1_lt⟩).trans (norm_of
      (lower m c t R ⟨x 0, x0_lt⟩ (by show (R : ℕ) = _ + (256 + (x 0 : ℕ)); omega)) (load_pre m c t R (by omega))
      (load_scale m c t R (by omega)) (load_shift m c t R (by omega)) _)
  · have hC : C = ⟨x 1, x1_lt⟩ := Fin.ext (by show (C : ℕ) = x 1; omega)
    rw [eq_ix2 x, hC]
    exact (pay6_at _ _ _ _ ⟨x 0, x0_lt⟩ ⟨x 1, x1_lt⟩).trans (norm_of
      (upper m c t R ⟨x 0, x0_lt⟩ (by show (R : ℕ) = _ + (x 0 : ℕ); omega)) (load_pre m c t R (by omega))
      (load_scale m c t R (by omega)) (load_shift m c t R (by omega)) _)

theorem next_final : (dats m 0 c).arrAt 5 (cfgs 0).N = fun i => nextOf m c (i 0) (i 1) := by
  refine (dats m 0 c).arrAt_eq_of_covers 5 _ (by decide +kernel) fun t hf y => ?_
  have e0 : (((cfg0.win 5).blk t).view.emb y 0 : ℕ) = t.val * 512 + (y 0 : ℕ) := by blk_simp [idx t]
  have e1 : (((cfg0.win 5).blk t).view.emb y 1 : ℕ) = (y 1 : ℕ) := by blk_simp [idx t]
  refine Eq.trans ?_ (next_point m c t _ y _ e0 e1)
  blk_simp
  rw [after0_5]

end Cert.Kernel8Ideal.Val

end
-- ==== Proof.Mix2.Ref.lean ====
/- What the reference of the output call behind the gated mixer computes, read at an index. -/
module

public import proofs.«01_k».proof.Proof.Gen.Reference8Ideal.Read
public import proofs.«01_k».proof.Proof.Mix2.Value
public import Idealize.ShloMosaic.Lib.Pointwise

@[expose] public section

set_option maxRecDepth 16384

noncomputable section

namespace Cert.Reference8Ideal.Ref

open Cert.Reference8Ideal Cert.Reference8Ideal.Gen Cert.Reference8Ideal.Read Idealize.ShloMosaic Idealize.ShloMosaic.TcCoe

variable (a : FVec Ideal S8704x6144 .bf16) (w : FVec Ideal S6144x2048 .bf16) (x : FVec Ideal S8704x2048 .f32)
  (mods : FVec Ideal S4x8x18432 .f32) (g : FVec Ideal S4x6x2048 .f32)

/-- The output product. -/
theorem prod_at (R : Fin 8704) (C : Fin 2048) :
    val_main_v5 (F := Ideal) a w (ix2 R C) = ∑ k : Fin 6144, a (ix2 R k) * w (ix2 k C) := by
  rw [val_main_v5_apply]
  refine Finset.sum_congr rfl fun k _ => ?_
  rw [val_main_v3_apply, val_main_v4_apply]
  refine congrArg₂ (fun a b : EReal => a * b) (congrArg a ?_) (congrArg w ?_)
  · funext a
    match a with
    | ⟨0, _⟩ => rfl
    | ⟨1, _⟩ => rfl
  · funext a
    match a with
    | ⟨0, _⟩ => rfl
    | ⟨1, _⟩ => rfl

theorem grp_eq (R : Fin 8704) (k : Fin 8) (h : (R : ℕ) / 4096 = k) : Mix2.grp R = k := Fin.ext h

theorem regroup (m y g : EReal) : m * (y * g) = y * (m * g) := by ac_rfl

/-- The gate of a row. -/
theorem gate_at (R : Fin 8704) (C : Fin 2048) :
    val_main_v17 (F := Ideal) mods (ix2 R C) = mods (ix3 (1 : Fin 4) (Mix2.grp R) (⟨5 * 2048 + C, by omega⟩ : Fin 18432))
    := by
  pointwise [val_main_v17, val_main_v16, val_main_v15, val_main_v14, val_main_v13, val_main_v12, val_main_v11,
    val_main_v10, val_main_v9, val_main_v8, val_main_v7, val_main_v6, val_main_v2, val_main_v1,
    val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The next scale of a row. -/
theorem scale_at (R : Fin 8704) (C : Fin 2048) :
    val_main_v61 (F := Ideal) mods (ix2 R C) = mods (ix3 (1 : Fin 4) (Mix2.grp R) (⟨7 * 2048 + C, by omega⟩ : Fin 18432))
    := by
  pointwise [val_main_v61, val_main_v60, val_main_v59, val_main_v58, val_main_v57, val_main_v56, val_main_v55,
    val_main_v54, val_main_v53, val_main_v52, val_main_v51, val_main_v50,
    val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The next shift of a row. -/
theorem shift_at (R : Fin 8704) (C : Fin 2048) :
    val_main_v76 (F := Ideal) mods (ix2 R C) = mods (ix3 (1 : Fin 4) (Mix2.grp R) (⟨6 * 2048 + C, by omega⟩ : Fin 18432))
    := by
  pointwise [val_main_v76, val_main_v75, val_main_v74, val_main_v73, val_main_v72, val_main_v71, val_main_v70,
    val_main_v69, val_main_v68, val_main_v67, val_main_v66, val_main_v65,
    val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

theorem post_at (R : Fin 8704) (C : Fin 2048) :
    val_main_v31 (F := Ideal) g (ix2 R C) = g (ix3 (1 : Fin 4) (3 : Fin 6) C) := by
  pointwise [val_main_v31, val_main_v30, val_main_v19, val_main_v18]

theorem pre_at (R : Fin 8704) (C : Fin 2048) :
    val_main_v48 (F := Ideal) g (ix2 R C) = g (ix3 (1 : Fin 4) (4 : Fin 6) C) := by
  pointwise [val_main_v48, val_main_v47, val_main_v36, val_main_v35]

/-- The product's row normed. -/
theorem rms_prod (R : Fin 8704) (C : Fin 2048) :
    val_main_v29 (F := Ideal) a w (ix2 R C) = Mix2.rms (fun j => ∑ k : Fin 6144, a (ix2 R k) * w (ix2 k j)) C := by
  simp only [Mix2.rms, ← prod_at]
  unfold val_main_v29 val_main_v28 val_main_v27 val_main_v26 val_main_v25 val_main_v24 val_main_v23 val_main_v22
    val_main_v21 val_main_v20 val_main_cst val_main_cst_0
    val_main_cst_1
  generalize val_main_v5 (F := Ideal) a w = y
  pointwise

theorem stream_at (R : Fin 8704) (C : Fin 2048) :
    val_main_v34 (F := Ideal) a w x mods g (ix2 R C) = Mix2.stream a w x mods g R C := by
  rw [val_main_v34_apply, val_main_v33_apply, val_main_v32_apply, rms_prod, gate_at, post_at]
  show _ = _ + _
  refine congrArg (fun v : EReal => x (ix2 R C) + v) ?_
  exact regroup _ _ _

/-- The stream's row normed. -/
theorem rms_stream (R : Fin 8704) (C : Fin 2048) :
    val_main_v46 (F := Ideal) a w x mods g (ix2 R C) = Mix2.rms (Mix2.stream a w x mods g R) C := by
  rw [show Mix2.stream a w x mods g R = fun j => val_main_v34 (F := Ideal) a w x mods g (ix2 R j) from
    funext fun j => (stream_at a w x mods g R j).symm]
  unfold Mix2.rms val_main_v46 val_main_v45 val_main_v44 val_main_v43 val_main_v42 val_main_v41 val_main_v40 val_main_v39
    val_main_v38 val_main_v37 val_main_cst_2 val_main_cst_3
    val_main_cst_4
  generalize val_main_v34 (F := Ideal) a w x mods g = y
  pointwise

theorem next_at (R : Fin 8704) (C : Fin 2048) :
    val_main_v78 (F := Ideal) a w x mods g (ix2 R C) = Mix2.next a w x mods g R C := by
  rw [val_main_v78_apply, val_main_v77_apply, val_main_v64_apply, val_main_v63_apply, val_main_v62_apply, val_main_v49_apply,
    val_main_cst_5_apply, rms_stream, scale_at, shift_at, pre_at]
  show _ * _ * (Ideal.ofBits .f32 0x3F800000#32 + _) + _ = _ * (_ * (_ + _)) + _
  rw [mul_assoc]

theorem stream : val_main_v34 (F := Ideal) a w x mods g = fun i => Mix2.stream a w x mods g (i 0) (i 1) := by
  funext i
  obtain ⟨R, C, rfl⟩ : ∃ (R : Fin 8704) (C : Fin 2048), i = ix2 R C := ⟨i 0, i 1, eq_ix2 i⟩
  exact stream_at a w x mods g R C

theorem next : val_main_v78 (F := Ideal) a w x mods g = fun i => Mix2.next a w x mods g (i 0) (i 1) := by
  funext i
  obtain ⟨R, C, rfl⟩ : ∃ (R : Fin 8704) (C : Fin 2048), i = ix2 R C := ⟨i 0, i 1, eq_ix2 i⟩
  exact next_at a w x mods g R C

end Cert.Reference8Ideal.Ref

end
-- ==== Proof.Mix2.Claims.lean ====
module
public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Mix2.Ref
public import Idealize.ShloMosaic.Lib.Claim
public import Idealize.ShloMosaic.Lib.Quiescent
@[expose] public section
/-! The claims of the output call behind the gated mixer. -/
set_option maxRecDepth 32768

noncomputable section

open Idealize.ShloMosaic Idealize.ShloMosaic.TcCoe Idealize.SL.Sem

namespace Cert.Proof.Mix2Claims

theorem frame_p : Cert.quiescent_Kernel8 := fun m ρ _ => Cert.Kernel8.Gen.frame m ρ
theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

theorem preserves : Cert.preserves_Kernel8_Kernel8Ideal := trivial

section

open Cert.Reference8Ideal Cert.Reference8Ideal.Read

variable (m : (ℓ : Loc Cert.Kernel8Ideal.nD Cert.Kernel8Ideal.τ Cert.Kernel8Ideal.sig) → Buf (Elt Ideal) ℓ)
  (m' : (ℓ : Loc nD τ sig) → Buf (Elt Ideal) ℓ) (c : Dev nD)
  (a3 : m' ((c.tc : Thread nD τ).loc main_arg3) = m ((c.tc : Thread _ _).loc Cert.Kernel8Ideal.main_arg3))

include a3

/-- The reference's stream, of the kernel's arguments. -/
theorem result_0 :
    val_main_v34 (F := Ideal) (m (c.tc.loc Cert.Kernel8Ideal.main_arg0)) (m (c.tc.loc Cert.Kernel8Ideal.main_arg1))
        (m (c.tc.loc Cert.Kernel8Ideal.main_arg2)) (m' (c.tc.loc main_arg3)) (m (c.tc.loc Cert.Kernel8Ideal.main_arg4))
      = fun i => Cert.Kernel8Ideal.Val.streamOf m c (i 0) (i 1) := by
  rw [a3]
  exact Ref.stream _ _ _ _ _

end

/-- The reference's next input, of the kernel's arguments. -/
theorem result_1 (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ)
    (c : Dev Cert.Reference8Ideal.nD)
    (h : m' (c.tc.loc Cert.Reference8Ideal.main_arg0) = m (c.tc.loc Cert.Kernel8Ideal.main_arg0)
      ∧ m' (c.tc.loc Cert.Reference8Ideal.main_arg1) = m (c.tc.loc Cert.Kernel8Ideal.main_arg1)
      ∧ m' (c.tc.loc Cert.Reference8Ideal.main_arg2) = m (c.tc.loc Cert.Kernel8Ideal.main_arg2)
      ∧ m' (c.tc.loc Cert.Reference8Ideal.main_arg3) = m (c.tc.loc Cert.Kernel8Ideal.main_arg3)
      ∧ m' (c.tc.loc Cert.Reference8Ideal.main_arg4) = m (c.tc.loc Cert.Kernel8Ideal.main_arg4)) :
    Cert.Reference8Ideal.Value.res_main_v78 m' c = fun i => Cert.Kernel8Ideal.Val.nextOf m c (i 0) (i 1) := by
  obtain ⟨a0, a1, a2, a3, a4⟩ := h
  rw [Cert.Reference8Ideal.Read.val_main_v78_eq, a0, a1, a2, a3, a4]
  exact Cert.Reference8Ideal.Ref.next _ _ _ _ _

/-- The kernel's two results are the reference's: the residual stream and the next part's input. -/
theorem algebraic : Cert.algebraic_Kernel8Ideal_Reference8Ideal := by
  pair_intro
  · run_from Cert.Kernel8Ideal.Gen.run_main m g
  · run_from Cert.Reference8Ideal.Value.run m' g'
    · exact (result_0 m m' c (hagree c).2.2.2.1).trans (Cert.Kernel8Ideal.Val.stream_final m c).symm
    · exact (result_1 m m' c (hagree c)).trans (Cert.Kernel8Ideal.Val.next_final m c).symm

end Cert.Proof.Mix2Claims

end
-- ==== Proof.Gate.Spec.lean ====
/- What the gated mixer's middle call computes, entry by entry, over the exact extended reals. -/
module

public import Idealize.ShloMosaic.Lib.Pointwise

@[expose] public section

set_option maxRecDepth 16384

noncomputable section

namespace Gate

open Idealize.ShloMosaic

/-- The mean of a row. -/
def mean (v : Fin 6144 → EReal) : EReal := Ideal.div (∑ j, v j) (Ideal.ofBits .f32 0x45C00000#32)

/-- A row's layer norm: centred, over the root of the mean square, times the gain, plus the offset. -/
def layer (v g b : Fin 6144 → EReal) (C : Fin 6144) : EReal :=
  (v C - mean v) * Ideal.rsqrt (mean (fun j => (v j - mean v) * (v j - mean v)) + Ideal.ofBits .f32 0x358637BD#32) * g C + b C

variable (z : FVec Ideal ⟨2, ![8704, 12288]⟩ .bf16) (g b : FVec Ideal ⟨2, ![1, 6144]⟩ .f32)
  (ws : FVec Ideal ⟨4, ![1, 8, 128, 128]⟩ .f32) (bs : FVec Ideal ⟨3, ![1, 8, 128]⟩ .f32)

/-- The second half's layer norm at a row and a column. -/
def normed (R : Fin 8704) (C : Fin 6144) : EReal :=
  layer (fun j => z (ix2 R (⟨6144 + j, by omega⟩ : Fin 12288))) (fun j => g (ix2 (0 : Fin 1) j)) (fun j => b (ix2 (0 : Fin 1) j)) C

/-- The call's result: the first half times the mixed positions of the row's chunk, by the matrix of the column's group. -/
def gate (R : Fin 8704) (C : Fin 6144) : EReal :=
  z (ix2 R (⟨C, by omega⟩ : Fin 12288))
    * ((∑ q : Fin 128, ws (ix4 (0 : Fin 1) (⟨C / 768, by omega⟩ : Fin 8) (⟨R % 128, by omega⟩ : Fin 128) q)
          * normed z g b (⟨R / 128 * 128 + q, by omega⟩ : Fin 8704) C)
        + bs (ix3 (0 : Fin 1) (⟨C / 768, by omega⟩ : Fin 8) (⟨R % 128, by omega⟩ : Fin 128)))

end Gate

end
-- ==== Proof.Gate.Pieces.lean ====
/- The sixteen pieces that a point of the gated mixer's middle call stores, each at an index. -/
module

public import proofs.«01_k».proof.Proof.Gen.Kernel9Ideal.Frame
public import proofs.«01_k».proof.Proof.Gate.Spec
public import Idealize.ShloMosaic.Lib.Pipeline.ValueKit
public import Idealize.ShloMosaic.Lib.Pointwise

@[expose] public section

set_option maxRecDepth 16384

noncomputable section

namespace Cert.Kernel9Ideal.Val

open Cert.Kernel9Ideal Cert.Kernel9Ideal.Gen Idealize.ShloMosaic Idealize.ShloMosaic.TcCoe Idealize.SL.Sem

/-- The layer norm of a block. -/
theorem pay3_at (v : Vec Ideal S256x6144 .bf16) (g b : Vec Ideal S1x6144 .f32) (r : Fin 256) (C : Fin 6144) :
    k0_pay3 v g b (ix2 r C)
      = Gate.layer (fun j => v (ix2 r j)) (fun j => g (ix2 (0 : Fin 1) j)) (fun j => b (ix2 (0 : Fin 1) j)) C := by
  unfold Gate.layer Gate.mean
  pointwise [k0_pay3]

/-- A mixed entry: the first half's entry times the mixed column of the chunk at row `o`, in the group at column `q`. -/
abbrev mixed (o q : ℕ) (ho : o ≤ 128) (hq : q ≤ 5376) (y : FVec Ideal S256x6144 .bf16) (w : Vec Ideal S1x128x128 .f32)
    (b : Vec Ideal S128x1 .f32) (u : Vec Ideal S128x768 .bf16) (p : Fin 128) (e : Fin 768) : EReal :=
  u (ix2 p e) * ((∑ k : Fin 128, w (ix3 (0 : Fin 1) p k) * y (ix2 (⟨o + k, by omega⟩ : Fin 256) (⟨q + e, by omega⟩ : Fin 6144)))
    + b (ix2 p (0 : Fin 1)))

variable (y : FVec Ideal S256x6144 .bf16) (w : Vec Ideal S1x128x128 .f32) (b : Vec Ideal S128x1 .f32) (u : Vec Ideal S128x768 .bf16)
  (p : Fin 128) (e : Fin 768)

theorem pay2_at : k0_pay2 y (k0_pay27 w) b u (ix2 p e) = mixed 128 5376 (by omega) (by omega) y w b u p e := by
  unfold mixed
  pointwise [k0_pay2, k0_pay27]

theorem pay1_at : k0_pay1 (k0_pay28 y w) (k0_pay29 b) u (ix2 p e) = mixed 0 5376 (by omega) (by omega) y w b u p e := by
  unfold mixed
  pointwise [k0_pay1, k0_pay28, k0_pay29, k0_pay27]

theorem pay26_at : k0_pay26 y w b u (ix2 p e) = mixed 128 4608 (by omega) (by omega) y w b u p e := by
  unfold mixed
  pointwise [k0_pay26, k0_pay24]

theorem pay25_at : k0_pay25 y w b u (ix2 p e) = mixed 0 4608 (by omega) (by omega) y w b u p e := by
  unfold mixed
  pointwise [k0_pay25, k0_pay24]

theorem pay23_at : k0_pay23 y w b u (ix2 p e) = mixed 128 3840 (by omega) (by omega) y w b u p e := by
  unfold mixed
  pointwise [k0_pay23, k0_pay21]

theorem pay22_at : k0_pay22 y w b u (ix2 p e) = mixed 0 3840 (by omega) (by omega) y w b u p e := by
  unfold mixed
  pointwise [k0_pay22, k0_pay21]

theorem pay20_at : k0_pay20 y (k0_pay18 w) b u (ix2 p e) = mixed 128 3072 (by omega) (by omega) y w b u p e := by
  unfold mixed
  pointwise [k0_pay20, k0_pay18]

theorem pay19_at : k0_pay19 y w b u (ix2 p e) = mixed 0 3072 (by omega) (by omega) y w b u p e := by
  unfold mixed
  pointwise [k0_pay19, k0_pay18]

theorem pay17_at : k0_pay17 y (k0_pay14 w) b u (ix2 p e) = mixed 128 2304 (by omega) (by omega) y w b u p e := by
  unfold mixed
  pointwise [k0_pay17, k0_pay14]

theorem pay16_at : k0_pay16 (k0_pay15 y w) b u (ix2 p e) = mixed 0 2304 (by omega) (by omega) y w b u p e := by
  unfold mixed
  pointwise [k0_pay16, k0_pay15, k0_pay14]

theorem pay13_at : k0_pay13 y w b u (ix2 p e) = mixed 128 1536 (by omega) (by omega) y w b u p e := by
  unfold mixed
  pointwise [k0_pay13, k0_pay11]

theorem pay12_at : k0_pay12 y w b u (ix2 p e) = mixed 0 1536 (by omega) (by omega) y w b u p e := by
  unfold mixed
  pointwise [k0_pay12, k0_pay11]

theorem pay10_at : k0_pay10 (k0_pay9 y w b) u (ix2 p e) = mixed 128 768 (by omega) (by omega) y w b u p e := by
  unfold mixed
  pointwise [k0_pay10, k0_pay9, k0_pay7]

theorem pay8_at : k0_pay8 y w b u (ix2 p e) = mixed 0 768 (by omega) (by omega) y w b u p e := by
  unfold mixed
  pointwise [k0_pay8, k0_pay7]

theorem pay6_at : k0_pay6 y (k0_pay4 w) b u (ix2 p e) = mixed 128 0 (by omega) (by omega) y w b u p e := by
  unfold mixed
  pointwise [k0_pay6, k0_pay4]

theorem pay5_at (v : Vec Ideal S256x6144 .bf16) (g c : Vec Ideal S1x6144 .f32) :
    k0_pay5 v g c w b u (ix2 p e) = mixed 0 0 (by omega) (by omega) (k0_pay3 v g c) w b u p e := by
  unfold mixed k0_pay5
  generalize k0_pay3 v g c = y
  pointwise [k0_pay4]

end Cert.Kernel9Ideal.Val

end
-- ==== Proof.Gate.Value.lean ====
/-
What the gated mixer's middle call computes.

Grid point `t` of 34 is a block of 256 rows: two chunks of 128 positions, each in eight groups of 768 columns.
-/
module

public import proofs.«01_k».proof.Proof.Gen.Kernel9Ideal.Value
public import proofs.«01_k».proof.Proof.Gate.Pieces
public import Idealize.ShloMosaic.Lib.Pipeline.ValueKit
public import Idealize.ShloMosaic.Lib.StableHlo.RunRead
public import Idealize.ShloMosaic.Lib.Pointwise
public import Idealize.ShloMosaic.Lib.Claim

@[expose] public section

set_option maxRecDepth 16384

noncomputable section

namespace Cert.Kernel9Ideal.Val

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 1]
    ∧ win0_2.index t = ![0, 0] ∧ win0_3.index t = ![0, 0] ∧ win0_4.index t = ![0, 0, 0]
    ∧ win0_5.index t = ![0, 0] ∧ win0_6.index t = ![t.val, 0] :=
  (by decide +kernel : ∀ t : Fin grid0.N, _)

/-! ## What the host code hands over -/

theorem gain (c : Dev nD) (j : Fin 6144) :
    V m c main_v1 (ix2 (0 : Fin 1) j) = m ((c : Thread nD τ).loc main_arg1) (ix2 (0 : Fin 1) j) := by
  unfold V
  after_reads_simp
  pointwise

theorem offset (c : Dev nD) (j : Fin 6144) :
    V m c main_v3 (ix2 (0 : Fin 1) j) = m ((c : Thread nD τ).loc main_arg2) (ix2 (0 : Fin 1) j) := by
  unfold V
  after_reads_simp
  pointwise

theorem matrix (c : Dev nD) (k : Fin 8) (p q : Fin 128) :
    V m c main_v4 (ix3 k p q) = m ((c : Thread nD τ).loc main_arg3) (ix4 (0 : Fin 1) k p q) := by
  unfold V
  after_reads_simp
  pointwise

theorem bias (c : Dev nD) (p : Fin 128) (k : Fin 8) :
    V m c main_v6 (ix2 p k) = m ((c : Thread nD τ).loc main_arg4) (ix3 (0 : Fin 1) k p) := by
  unfold V
  after_reads_simp
  pointwise

/-! ## The blocks read at a point -/

variable (c : Dev nD) (t : Fin cfg0.N)

theorem load_u (r : Fin 256) (C : Fin 6144) (R : Fin 8704) (hR : (R : ℕ) = t.val * 256 + r) :
    iblk m c 0 t (ix2 r C) = m ((c : Thread nD τ).loc main_arg0) (ix2 R (⟨C, by omega⟩ : Fin 12288)) := by
  rw [← V_main_arg0 m c]
  unfold iblk
  generalize V m c = W
  blk_point [idx t]

theorem load_v (r : Fin 256) (C : Fin 6144) (R : Fin 8704) (hR : (R : ℕ) = t.val * 256 + r) :
    iblk m c 1 t (ix2 r C) = m ((c : Thread nD τ).loc main_arg0) (ix2 R (⟨6144 + C, by omega⟩ : Fin 12288)) := by
  rw [← V_main_arg0 m c]
  unfold iblk
  generalize V m c = W
  blk_point [idx t]

theorem load_g (j : Fin 6144) : iblk m c 2 t (ix2 (0 : Fin 1) j) = m ((c : Thread nD τ).loc main_arg1) (ix2 (0 : Fin 1) j) := by
  rw [← gain m c]
  unfold iblk
  generalize V m c = W
  blk_point [idx t]

theorem load_b (j : Fin 6144) : iblk m c 3 t (ix2 (0 : Fin 1) j) = m ((c : Thread nD τ).loc main_arg2) (ix2 (0 : Fin 1) j) := by
  rw [← offset m c]
  unfold iblk
  generalize V m c = W
  blk_point [idx t]

theorem load_w (k : Fin 8) (p q : Fin 128) :
    iblk m c 4 t (ix3 k p q) = m ((c : Thread nD τ).loc main_arg3) (ix4 (0 : Fin 1) k p q) := by
  rw [← matrix m c]
  unfold iblk
  generalize V m c = W
  blk_point [idx t]

theorem load_s (p : Fin 128) (k : Fin 8) :
    iblk m c 5 t (ix2 p k) = m ((c : Thread nD τ).loc main_arg4) (ix3 (0 : Fin 1) k p) := by
  rw [← bias m c]
  unfold iblk
  generalize V m c = W
  blk_point [idx t]

theorem ld_all (v : Vec Ideal S256x6144 .bf16) (r : Fin 256) (C : Fin 6144) : View.ld v r0_0 (ix2 r C) = v (ix2 r C) := by
  exact View.ld_unit_apply_of _ _ _ _ _ _ fun a => match a with
    | ⟨0, _⟩ => (Nat.zero_add _).symm
    | ⟨1, _⟩ => (Nat.zero_add _).symm

theorem ld_row (v : Vec Ideal S1x6144 .f32) (j : Fin 6144) : View.ld v r0_1 (ix2 (0 : Fin 1) j) = v (ix2 (0 : Fin 1) j) := by
  exact View.ld_unit_apply_of _ _ _ _ _ _ fun a => match a with
    | ⟨0, _⟩ => rfl
    | ⟨1, _⟩ => (Nat.zero_add _).symm

/-- The layer norm of the point's block, of the kernel's arguments. -/
theorem normed (r : Fin 256) (C : Fin 6144) (R : Fin 8704) (hR : (R : ℕ) = t.val * 256 + r) :
    k0_pay3 (View.ld (iblk m c 1 t) r0_0) (View.ld (iblk m c 2 t) r0_1) (View.ld (iblk m c 3 t) r0_1) (ix2 r C)
      = Gate.normed (m ((c : Thread nD τ).loc main_arg0)) (m ((c : Thread nD τ).loc main_arg1))
          (m ((c : Thread nD τ).loc main_arg2)) R C := by
  rw [pay3_at]
  unfold Gate.normed
  rw [funext fun j => (ld_all (iblk m c 1 t) r j).trans (load_v m c t r j R hR),
    funext fun j => (ld_row (iblk m c 2 t) j).trans (load_g m c t j),
    funext fun j => (ld_row (iblk m c 3 t) j).trans (load_b m c t j)]

/-- The result, of the kernel's arguments. -/
abbrev gateOf (R : Fin 8704) (C : Fin 6144) : EReal :=
  Gate.gate (m ((c : Thread nD τ).loc main_arg0)) (m ((c : Thread nD τ).loc main_arg1)) (m ((c : Thread nD τ).loc main_arg2))
    (m ((c : Thread nD τ).loc main_arg3)) (m ((c : Thread nD τ).loc main_arg4)) R C

/-- A stored piece's entry is the result's. -/
theorem cell (o q k : ℕ) (ho : o ≤ 128) (hq : q ≤ 5376) (hk : k < 8) (ho' : o % 128 = 0) (hq' : q = k * 768)
    (h1 : ∀ a, (![o, q] : Fin 2 → ℕ) a + S128x768.size a ≤ S256x6144.size a)
    (h2 : ∀ a, (![k, 0, 0] : Fin 3 → ℕ) a + S1x128x128.size a ≤ S8x128x128.size a)
    (h3 : ∀ a, (![0, k] : Fin 2 → ℕ) a + S128x1.size a ≤ S128x8.size a)
    (p : Fin 128) (e : Fin 768) (R : Fin 8704) (C : Fin 6144) (hR : (R : ℕ) = t.val * 256 + (o + p)) (hC : (C : ℕ) = q + e) :
    mixed o q ho hq (k0_pay3 (View.ld (iblk m c 1 t) r0_0) (View.ld (iblk m c 2 t) r0_1) (View.ld (iblk m c 3 t) r0_1))
        (View.ld (iblk m c 4 t) (Rect.unit (s := S8x128x128) ![k, 0, 0] S1x128x128.size h2))
        (View.ld (iblk m c 5 t) (Rect.unit (s := S128x8) ![0, k] S128x1.size h3))
        (View.ld (iblk m c 0 t) (Rect.unit (s := S256x6144) ![o, q] S128x768.size h1)) p e
      = gateOf m c R C := by
  have eC : (⟨q + e, by omega⟩ : Fin 6144) = C := Fin.ext hC.symm
  have eR : (⟨R % 128, by omega⟩ : Fin 128) = p := Fin.ext (by show (R : ℕ) % 128 = p; omega)
  have eK : (⟨C / 768, by omega⟩ : Fin 8) = ⟨k, hk⟩ := Fin.ext (by show (C : ℕ) / 768 = k; omega)
  have hu : View.ld (iblk m c 0 t) (Rect.unit (s := S256x6144) ![o, q] S128x768.size h1) (ix2 p e)
      = m ((c : Thread nD τ).loc main_arg0) (ix2 R (⟨C, by omega⟩ : Fin 12288)) := by
    refine Eq.trans ?_ (load_u m c t (⟨o + p, by omega⟩ : Fin 256) C R hR)
    exact View.ld_unit_apply_of _ _ _ _ _ _ fun a => match a with
      | ⟨0, _⟩ => rfl
      | ⟨1, _⟩ => hC
  have hw : ∀ j : Fin 128, View.ld (iblk m c 4 t) (Rect.unit (s := S8x128x128) ![k, 0, 0] S1x128x128.size h2) (ix3 (0 : Fin 1) p j)
      = m ((c : Thread nD τ).loc main_arg3) (ix4 (0 : Fin 1) (⟨k, hk⟩ : Fin 8) p j) := fun j => by
    refine Eq.trans ?_ (load_w m c t ⟨k, hk⟩ p j)
    exact View.ld_unit_apply_of _ _ _ _ _ _ fun a => match a with
      | ⟨0, _⟩ => rfl
      | ⟨1, _⟩ => (Nat.zero_add _).symm
      | ⟨2, _⟩ => (Nat.zero_add _).symm
  have hs : View.ld (iblk m c 5 t) (Rect.unit (s := S128x8) ![0, k] S128x1.size h3) (ix2 p (0 : Fin 1))
      = m ((c : Thread nD τ).loc main_arg4) (ix3 (0 : Fin 1) (⟨k, hk⟩ : Fin 8) p) := by
    refine Eq.trans ?_ (load_s m c t p ⟨k, hk⟩)
    exact View.ld_unit_apply_of _ _ _ _ _ _ fun a => match a with
      | ⟨0, _⟩ => (Nat.zero_add _).symm
      | ⟨1, _⟩ => rfl
  unfold gateOf Gate.gate mixed
  rw [eC, eR, eK]
  exact congrArg₂ (fun a b : EReal => a * b) hu (congrArg₂ (fun a b : EReal => a + b)
    (Finset.sum_congr rfl fun j _ => congrArg₂ (fun a b : EReal => a * b) (hw j)
      (normed m c t _ C _ (by show (R : ℕ) / 128 * 128 + (j : ℕ) = t.val * 256 + (o + j); omega))) hs)

theorem gate_point (y : S256x6144.Idx) (R : Fin 8704) (C : Fin 6144) (h0 : (R : ℕ) = t.val * 256 + (y 0 : ℕ))
    (h1 : (C : ℕ) = (y 1 : ℕ)) :
    out0_6 (iblk m c 0 t) (iblk m c 1 t) (iblk m c 2 t) (iblk m c 3 t) (iblk m c 4 t) (iblk m c 5 t) y = gateOf m c R C := by
  unfold out0_6 k0_pay30
  canon_tiles x h
  · rw [eq_ix2 x]
    exact (pay2_at _ _ _ _ ⟨x 0, x0_lt⟩ ⟨x 1, x1_lt⟩).trans (cell m c t 128 5376 7 (by omega) (by omega) (by omega) rfl rfl _ _ _
      _ _ R C (by show (R : ℕ) = _ + (128 + (x 0 : ℕ)); omega) (by show (C : ℕ) = 5376 + (x 1 : ℕ); omega))
  · rw [eq_ix2 x]
    exact (pay1_at _ _ _ _ ⟨x 0, x0_lt⟩ ⟨x 1, x1_lt⟩).trans (cell m c t 0 5376 7 (by omega) (by omega) (by omega) rfl rfl _ _ _
      _ _ R C (by show (R : ℕ) = _ + (0 + (x 0 : ℕ)); omega) (by show (C : ℕ) = 5376 + (x 1 : ℕ); omega))
  · rw [eq_ix2 x]
    exact (pay26_at _ _ _ _ ⟨x 0, x0_lt⟩ ⟨x 1, x1_lt⟩).trans (cell m c t 128 4608 6 (by omega) (by omega) (by omega) rfl rfl _ _ _
      _ _ R C (by show (R : ℕ) = _ + (128 + (x 0 : ℕ)); omega) (by show (C : ℕ) = 4608 + (x 1 : ℕ); omega))
  · rw [eq_ix2 x]
    exact (pay25_at _ _ _ _ ⟨x 0, x0_lt⟩ ⟨x 1, x1_lt⟩).trans (cell m c t 0 4608 6 (by omega) (by omega) (by omega) rfl rfl _ _ _
      _ _ R C (by show (R : ℕ) = _ + (0 + (x 0 : ℕ)); omega) (by show (C : ℕ) = 4608 + (x 1 : ℕ); omega))
  · rw [eq_ix2 x]
    exact (pay23_at _ _ _ _ ⟨x 0, x0_lt⟩ ⟨x 1, x1_lt⟩).trans (cell m c t 128 3840 5 (by omega) (by omega) (by omega) rfl rfl _ _ _
      _ _ R C (by show (R : ℕ) = _ + (128 + (x 0 : ℕ)); omega) (by show (C : ℕ) = 3840 + (x 1 : ℕ); omega))
  · rw [eq_ix2 x]
    exact (pay22_at _ _ _ _ ⟨x 0, x0_lt⟩ ⟨x 1, x1_lt⟩).trans (cell m c t 0 3840 5 (by omega) (by omega) (by omega) rfl rfl _ _ _
      _ _ R C (by show (R : ℕ) = _ + (0 + (x 0 : ℕ)); omega) (by show (C : ℕ) = 3840 + (x 1 : ℕ); omega))
  · rw [eq_ix2 x]
    exact (pay20_at _ _ _ _ ⟨x 0, x0_lt⟩ ⟨x 1, x1_lt⟩).trans (cell m c t 128 3072 4 (by omega) (by omega) (by omega) rfl rfl _ _ _
      _ _ R C (by show (R : ℕ) = _ + (128 + (x 0 : ℕ)); omega) (by show (C : ℕ) = 3072 + (x 1 : ℕ); omega))
  · rw [eq_ix2 x]
    exact (pay19_at _ _ _ _ ⟨x 0, x0_lt⟩ ⟨x 1, x1_lt⟩).trans (cell m c t 0 3072 4 (by omega) (by omega) (by omega) rfl rfl _ _ _
      _ _ R C (by show (R : ℕ) = _ + (0 + (x 0 : ℕ)); omega) (by show (C : ℕ) = 3072 + (x 1 : ℕ); omega))
  · rw [eq_ix2 x]
    exact (pay17_at _ _ _ _ ⟨x 0, x0_lt⟩ ⟨x 1, x1_lt⟩).trans (cell m c t 128 2304 3 (by omega) (by omega) (by omega) rfl rfl _ _ _
      _ _ R C (by show (R : ℕ) = _ + (128 + (x 0 : ℕ)); omega) (by show (C : ℕ) = 2304 + (x 1 : ℕ); omega))
  · rw [eq_ix2 x]
    exact (pay16_at _ _ _ _ ⟨x 0, x0_lt⟩ ⟨x 1, x1_lt⟩).trans (cell m c t 0 2304 3 (by omega) (by omega) (by omega) rfl rfl _ _ _
      _ _ R C (by show (R : ℕ) = _ + (0 + (x 0 : ℕ)); omega) (by show (C : ℕ) = 2304 + (x 1 : ℕ); omega))
  · rw [eq_ix2 x]
    exact (pay13_at _ _ _ _ ⟨x 0, x0_lt⟩ ⟨x 1, x1_lt⟩).trans (cell m c t 128 1536 2 (by omega) (by omega) (by omega) rfl rfl _ _ _
      _ _ R C (by show (R : ℕ) = _ + (128 + (x 0 : ℕ)); omega) (by show (C : ℕ) = 1536 + (x 1 : ℕ); omega))
  · rw [eq_ix2 x]
    exact (pay12_at _ _ _ _ ⟨x 0, x0_lt⟩ ⟨x 1, x1_lt⟩).trans (cell m c t 0 1536 2 (by omega) (by omega) (by omega) rfl rfl _ _ _
      _ _ R C (by show (R : ℕ) = _ + (0 + (x 0 : ℕ)); omega) (by show (C : ℕ) = 1536 + (x 1 : ℕ); omega))
  · rw [eq_ix2 x]
    exact (pay10_at _ _ _ _ ⟨x 0, x0_lt⟩ ⟨x 1, x1_lt⟩).trans (cell m c t 128 768 1 (by omega) (by omega) (by omega) rfl rfl _ _ _
      _ _ R C (by show (R : ℕ) = _ + (128 + (x 0 : ℕ)); omega) (by show (C : ℕ) = 768 + (x 1 : ℕ); omega))
  · rw [eq_ix2 x]
    exact (pay8_at _ _ _ _ ⟨x 0, x0_lt⟩ ⟨x 1, x1_lt⟩).trans (cell m c t 0 768 1 (by omega) (by omega) (by omega) rfl rfl _ _ _
      _ _ R C (by show (R : ℕ) = _ + (0 + (x 0 : ℕ)); omega) (by show (C : ℕ) = 768 + (x 1 : ℕ); omega))
  · rw [eq_ix2 x]
    exact (pay6_at _ _ _ _ ⟨x 0, x0_lt⟩ ⟨x 1, x1_lt⟩).trans (cell m c t 128 0 0 (by omega) (by omega) (by omega) rfl rfl _ _ _
      _ _ R C (by show (R : ℕ) = _ + (128 + (x 0 : ℕ)); omega) (by show (C : ℕ) = 0 + (x 1 : ℕ); omega))
  · rw [eq_ix2 x]
    exact (pay5_at _ _ _ ⟨x 0, x0_lt⟩ ⟨x 1, x1_lt⟩ _ _ _).trans (cell m c t 0 0 0 (by omega) (by omega) (by omega) rfl rfl _ _ _
      _ _ R C (by show (R : ℕ) = _ + (0 + (x 0 : ℕ)); omega) (by show (C : ℕ) = 0 + (x 1 : ℕ); omega))

theorem gate_final : (dats m 0 c).arrAt 6 (cfgs 0).N = fun i => gateOf m c (i 0) (i 1) := by
  refine (dats m 0 c).arrAt_eq_of_covers 6 _ (by decide +kernel) fun t hf y => ?_
  have e0 : (((cfg0.win 6).blk t).view.emb y 0 : ℕ) = t.val * 256 + (y 0 : ℕ) := by blk_simp [idx t]
  have e1 : (((cfg0.win 6).blk t).view.emb y 1 : ℕ) = (y 1 : ℕ) := by blk_simp [idx t]
  refine Eq.trans ?_ (gate_point m c t y _ _ e0 e1)
  blk_simp
  rw [after0_6]

end Cert.Kernel9Ideal.Val

end
-- ==== Proof.Gate.Ref.lean ====
/- What the reference of the gated mixer's middle call computes, read at an index. -/
module

public import proofs.«01_k».proof.Proof.Gen.Reference9Ideal.Read
public import proofs.«01_k».proof.Proof.Gate.Spec
public import Idealize.ShloMosaic.Lib.Pointwise

@[expose] public section

set_option maxRecDepth 16384

noncomputable section

namespace Cert.Reference9Ideal.Ref

open Cert.Reference9Ideal Cert.Reference9Ideal.Gen Cert.Reference9Ideal.Read Idealize.ShloMosaic Idealize.ShloMosaic.TcCoe

variable (z : FVec Ideal S8704x12288 .bf16) (g b : FVec Ideal S1x6144 .f32) (ws : FVec Ideal S1x8x128x128 .f32)
  (bs : FVec Ideal S1x8x128 .f32)

/-- The second half. -/
theorem half_at (R : Fin 8704) (j : Fin 6144) : val_main_v2 (F := Ideal) z (ix2 R j) = z (ix2 R (⟨6144 + j, by omega⟩ : Fin 12288)) := by
  pointwise [val_main_v2, val_main_v0]

/-- The layer norm of the second half. -/
theorem normed_at (R : Fin 8704) (C : Fin 6144) : val_main_v26 (F := Ideal) z g b (ix2 R C) = Gate.normed z g b R C := by
  unfold Gate.normed
  simp only [← half_at]
  unfold Gate.layer Gate.mean val_main_v26 val_main_v22 val_main_v18 val_main_v17 val_main_v16 val_main_v15 val_main_v14 val_main_v13
    val_main_v12 val_main_v11 val_main_v10 val_main_v9 val_main_v8 val_main_v7 val_main_v6 val_main_v5 val_main_v4 val_main_v3
    val_main_v25 val_main_v24 val_main_v23 val_main_v21 val_main_v20 val_main_v19 val_main_cst val_main_cst_0 val_main_cst_1
    val_main_cst_2 val_main_cst_3
  generalize val_main_v2 (F := Ideal) z = y
  pointwise

/-- The mixed positions, by chunk, position, group and column. -/
theorem mixed_at (n : Fin 68) (p : Fin 128) (k : Fin 8) (e : Fin 768) :
    val_main_v36 (F := Ideal) z g b ws bs (ix4 n p k e)
      = (∑ q : Fin 128, ws (ix4 (0 : Fin 1) k p q)
          * Gate.normed z g b (⟨n * 128 + q, by omega⟩ : Fin 8704) (⟨k * 768 + e, by omega⟩ : Fin 6144))
        + bs (ix3 (0 : Fin 1) k p) := by
  simp only [← normed_at, mul_comm (ws _)]
  unfold val_main_v36 val_main_v35 val_main_v34 val_main_v33 val_main_v32 val_main_v31 val_main_v30 val_main_v29 val_main_v28
    val_main_v27
  generalize val_main_v26 (F := Ideal) z g b = y
  pointwise

theorem gate_at (R : Fin 8704) (C : Fin 6144) : val_main_v39 (F := Ideal) z g b ws bs (ix2 R C) = Gate.gate z g b ws bs R C := by
  have eC : (⟨(⟨C / 768, by omega⟩ : Fin 8) * 768 + (⟨C % 768, by omega⟩ : Fin 768), by omega⟩ : Fin 6144) = C :=
    Fin.ext (by show (C : ℕ) / 768 * 768 + C % 768 = C; omega)
  have e := mixed_at z g b ws bs (⟨R / 128, by omega⟩ : Fin 68) (⟨R % 128, by omega⟩ : Fin 128) (⟨C / 768, by omega⟩ : Fin 8)
    (⟨C % 768, by omega⟩ : Fin 768)
  rw [eC] at e
  unfold Gate.gate
  rw [← e]
  unfold val_main_v39 val_main_v38 val_main_v37 val_main_v1 val_main_v0
  generalize val_main_v36 (F := Ideal) z g b ws bs = y
  pointwise

theorem gate : val_main_v39 (F := Ideal) z g b ws bs = fun i => Gate.gate z g b ws bs (i 0) (i 1) := by
  funext i
  obtain ⟨R, C, rfl⟩ : ∃ (R : Fin 8704) (C : Fin 6144), i = ix2 R C := ⟨i 0, i 1, eq_ix2 i⟩
  exact gate_at z g b ws bs R C

end Cert.Reference9Ideal.Ref

end
-- ==== Proof.Gate.Claims.lean ====
module
public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gate.Value
public import proofs.«01_k».proof.Proof.Gate.Ref
public import Idealize.ShloMosaic.Lib.Claim
public import Idealize.ShloMosaic.Lib.Quiescent
@[expose] public section
/-! The claims of the gated mixer's middle call. -/
set_option maxRecDepth 32768

noncomputable section

open Idealize.ShloMosaic Idealize.ShloMosaic.TcCoe Idealize.SL.Sem

namespace Cert.Proof.GateClaims

theorem frame_p : Cert.quiescent_Kernel9 := fun m ρ _ => Cert.Kernel9.Gen.frame m ρ
theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem preserves : Cert.preserves_Kernel9_Kernel9Ideal := trivial

/-- The kernel's result is the reference's. -/
theorem algebraic : Cert.algebraic_Kernel9Ideal_Reference9Ideal := by
  pair_intro
  · run_from Cert.Kernel9Ideal.Gen.run_main m g
  · run_from Cert.Reference9Ideal.Value.run m' g'
    · exact (Cert.Reference9Ideal.Ref.gate _ _ _ _ _).trans (Cert.Kernel9Ideal.Val.gate_final m c).symm

end Cert.Proof.GateClaims

end
-- ==== Proof.Win.Bits.lean ====
/- What the windowed attention computes with 32-bit numbers, as natural numbers. -/
module

public import Idealize.ShloMosaic.Lib.Pointwise

@[expose] public section

set_option maxRecDepth 16384

namespace Cert.Kernel10Ideal.Val

open Idealize.ShloMosaic

theorem lane_128 : ∀ C : Fin 512, IntOp.cmpi .sge (BitVec.ofNat 32 C) 128#32 = if 128 ≤ (C : ℕ) then 1#1 else 0#1 := by decide +kernel

theorem lane_256 : ∀ C : Fin 512, IntOp.cmpi .sge (BitVec.ofNat 32 C) 256#32 = if 256 ≤ (C : ℕ) then 1#1 else 0#1 := by decide +kernel

theorem lane_384 : ∀ C : Fin 512, IntOp.cmpi .sge (BitVec.ofNat 32 C) 384#32 = if 384 ≤ (C : ℕ) then 1#1 else 0#1 := by decide +kernel

theorem low_bits : ∀ C : Fin 512, IntOp.andi (BitVec.ofNat 32 C) 127#32 = BitVec.ofNat 32 ((C : ℕ) % 128) := by decide +kernel

theorem first_block : ∀ n : Fin 32, Scalar.select (IntOp.cmpi .sgt (BitVec.ofNat 32 n) 0#32) 0#32 256#32
    = BitVec.ofNat 32 (if 0 < (n : ℕ) then 0 else 256) := by decide +kernel

theorem last_block : ∀ n : Fin 32, Scalar.select (IntOp.cmpi .slt (BitVec.ofNat 32 n) 31#32) 0#32 256#32
    = BitVec.ofNat 32 (if (n : ℕ) < 31 then 0 else 256) := by decide +kernel

theorem left_0 : ∀ i j : Fin 128, IntOp.cmpi .sge (BitVec.ofNat 32 j) (IntOp.addi (BitVec.ofNat 32 i) (BitVec.ofNat 32 0)) = 1#1
    ↔ (i : ℕ) + 0 ≤ j := by decide +kernel

theorem left_256 : ∀ i j : Fin 128, IntOp.cmpi .sge (BitVec.ofNat 32 j) (IntOp.addi (BitVec.ofNat 32 i) (BitVec.ofNat 32 256)) = 1#1
    ↔ (i : ℕ) + 256 ≤ j := by decide +kernel

theorem right_0 : ∀ i j : Fin 128, IntOp.cmpi .sle (BitVec.ofNat 32 j) (IntOp.subi (BitVec.ofNat 32 i) (BitVec.ofNat 32 0)) = 1#1
    ↔ (j : ℕ) + 0 ≤ i := by decide +kernel

theorem right_256 : ∀ i j : Fin 128, IntOp.cmpi .sle (BitVec.ofNat 32 j) (IntOp.subi (BitVec.ofNat 32 i) (BitVec.ofNat 32 256)) = 1#1
    ↔ (j : ℕ) + 256 ≤ i := by decide +kernel

end Cert.Kernel10Ideal.Val

end
-- ==== Proof.Win.Spec.lean ====
/-
The mathematics of the windowed attention with a sink.

A row's result is a weighted mean of values, the weights exponentials of scaled scores and the sink one more weight.
`Weighs` says what a score, real or `⊥`, weighs; `quot` reads the mean off one maximum, `band` splits the keys that a
query sees into the three blocks of 128 around it.
-/
module

public import proofs.«01_k».proof.Proof.Attn.Online

@[expose] public section

noncomputable section

namespace Win

open Idealize.ShloMosaic Attn

/-! ## Scores, real or `⊥` -/

/-- A score's weight is `w`, relative to any real maximum, and the score is not `⊤`. -/
def Weighs (s : EReal) (w : ℝ) : Prop :=
  s ≠ ⊤ ∧ ∀ μ : ℝ, Ideal.exp2 ((s - (μ : EReal)) * ((κ₂ : ℝ) : EReal)) = ((Real.exp (-μ * σ) * w : ℝ) : EReal)

theorem κ₂_pos : 0 < κ₂ := by
  unfold κ₂
  have := Real.log_pos one_lt_two
  positivity

theorem weighs_coe (s : ℝ) : Weighs (s : EReal) (Real.exp (s * σ)) := ⟨EReal.coe_ne_top s, fun μ => exp2_sub s μ⟩

theorem weighs_bot : Weighs ⊥ 0 := by
  refine ⟨bot_ne_top, fun μ => ?_⟩
  rw [EReal.bot_sub, EReal.bot_mul_coe_of_pos κ₂_pos, mul_zero]
  rfl

theorem weighs_if (p : Prop) [Decidable p] (s : ℝ) :
    Weighs (if p then (s : EReal) else ⊥) (if p then Real.exp (s * σ) else 0) := by
  split
  · exact weighs_coe s
  · exact weighs_bot

theorem fold_ne_top {ι : Type} [Fintype ι] (S : ι → EReal) (h : ∀ k, S k ≠ ⊤) : Finset.univ.fold max (⊥ : EReal) S ≠ ⊤ := by
  classical
  have key : ∀ t : Finset ι, t.fold max (⊥ : EReal) S ≠ ⊤ := by
    intro t
    induction t using Finset.induction_on with
    | empty => simp
    | insert a t ha ih =>
      rw [Finset.fold_insert ha]
      intro e
      rcases max_choice (S a) (t.fold max ⊥ S) with h' | h'
      · exact h a (h' ▸ e)
      · exact ih (h' ▸ e)
  exact key _

theorem max_real (a : ℝ) (b : EReal) (h : b ≠ ⊤) : ∃ μ : ℝ, max (a : EReal) b = (μ : EReal) := by
  rcases max_choice (a : EReal) b with e | e
  · exact ⟨a, e⟩
  · refine ⟨b.toReal, ?_⟩
    rw [e]
    refine (EReal.coe_toReal h ?_).symm
    rintro rfl
    simp at e

section
variable {ι₁ ι₂ ι₃ ι₄ : Type} [Fintype ι₁] [Fintype ι₂] [Fintype ι₃] [Fintype ι₄]

theorem part_den {ι : Type} [Fintype ι] (S : ι → EReal) (w : ι → ℝ) (h : ∀ k, Weighs (S k) (w k)) (μ : ℝ) :
    ∑ k, Ideal.exp2 ((S k - (μ : EReal)) * ((κ₂ : ℝ) : EReal)) = ((Real.exp (-μ * σ) * ∑ k, w k : ℝ) : EReal) := by
  rw [Finset.sum_congr rfl fun k _ => (h k).2 μ, coe_sum, Finset.mul_sum]

theorem part_num {ι : Type} [Fintype ι] (S : ι → EReal) (w v : ι → ℝ) (h : ∀ k, Weighs (S k) (w k)) (μ : ℝ) :
    ∑ k, (v k : EReal) * Ideal.exp2 ((S k - (μ : EReal)) * ((κ₂ : ℝ) : EReal))
      = ((Real.exp (-μ * σ) * ∑ k, v k * w k : ℝ) : EReal) := by
  rw [Finset.sum_congr rfl fun k _ => by rw [(h k).2 μ, ← EReal.coe_mul], coe_sum, Finset.mul_sum]
  congr 1
  exact Finset.sum_congr rfl fun k _ => by ring

/-- One piece of keys and the sink. -/
theorem quot_one (z w₀ : ℝ) (S₁ : ι₁ → EReal) (w₁ v₁ : ι₁ → ℝ) (h₀ : Weighs (z : EReal) w₀) (h₁ : ∀ k, Weighs (S₁ k) (w₁ k))
    (hpos : 0 < w₀ + ∑ k, w₁ k) (M : EReal) (hM : M = max (z : EReal) (Finset.univ.fold max (⊥ : EReal) S₁)) :
    Ideal.div (∑ k, (v₁ k : EReal) * Ideal.exp2 ((S₁ k - M) * ((κ₂ : ℝ) : EReal)))
        (Ideal.exp2 (((z : EReal) - M) * ((κ₂ : ℝ) : EReal)) + ∑ k, Ideal.exp2 ((S₁ k - M) * ((κ₂ : ℝ) : EReal)))
      = (((∑ k, v₁ k * w₁ k) / (w₀ + ∑ k, w₁ k) : ℝ) : EReal) := by
  obtain ⟨μ, hμ⟩ := max_real z _ (fold_ne_top S₁ fun k => (h₁ k).1)
  rw [hμ] at hM
  subst hM
  rw [part_num S₁ w₁ v₁ h₁, part_den S₁ w₁ h₁, h₀.2, ← EReal.coe_add, ← mul_add,
    div_real _ _ (mul_pos (Real.exp_pos _) hpos), mul_div_mul_left _ _ (Real.exp_pos _).ne']

/-- Four pieces of keys and the sink. -/
theorem quot_four (z w₀ : ℝ) (S₁ : ι₁ → EReal) (w₁ v₁ : ι₁ → ℝ) (S₂ : ι₂ → EReal) (w₂ v₂ : ι₂ → ℝ) (S₃ : ι₃ → EReal)
    (w₃ v₃ : ι₃ → ℝ) (S₄ : ι₄ → EReal) (w₄ v₄ : ι₄ → ℝ) (h₀ : Weighs (z : EReal) w₀) (h₁ : ∀ k, Weighs (S₁ k) (w₁ k))
    (h₂ : ∀ k, Weighs (S₂ k) (w₂ k)) (h₃ : ∀ k, Weighs (S₃ k) (w₃ k)) (h₄ : ∀ k, Weighs (S₄ k) (w₄ k))
    (hpos : 0 < w₀ + ∑ k, w₁ k + ∑ k, w₂ k + ∑ k, w₃ k + ∑ k, w₄ k) (M : EReal)
    (hM : M = max (max (max (max (z : EReal) (Finset.univ.fold max (⊥ : EReal) S₁)) (Finset.univ.fold max (⊥ : EReal) S₂))
      (Finset.univ.fold max (⊥ : EReal) S₃)) (Finset.univ.fold max (⊥ : EReal) S₄)) :
    Ideal.div (∑ k, (v₁ k : EReal) * Ideal.exp2 ((S₁ k - M) * ((κ₂ : ℝ) : EReal))
          + ∑ k, (v₂ k : EReal) * Ideal.exp2 ((S₂ k - M) * ((κ₂ : ℝ) : EReal))
          + ∑ k, (v₃ k : EReal) * Ideal.exp2 ((S₃ k - M) * ((κ₂ : ℝ) : EReal))
          + ∑ k, (v₄ k : EReal) * Ideal.exp2 ((S₄ k - M) * ((κ₂ : ℝ) : EReal)))
        (Ideal.exp2 (((z : EReal) - M) * ((κ₂ : ℝ) : EReal)) + ∑ k, Ideal.exp2 ((S₁ k - M) * ((κ₂ : ℝ) : EReal))
          + ∑ k, Ideal.exp2 ((S₂ k - M) * ((κ₂ : ℝ) : EReal)) + ∑ k, Ideal.exp2 ((S₃ k - M) * ((κ₂ : ℝ) : EReal))
          + ∑ k, Ideal.exp2 ((S₄ k - M) * ((κ₂ : ℝ) : EReal)))
      = (((∑ k, v₁ k * w₁ k + ∑ k, v₂ k * w₂ k + ∑ k, v₃ k * w₃ k + ∑ k, v₄ k * w₄ k)
          / (w₀ + ∑ k, w₁ k + ∑ k, w₂ k + ∑ k, w₃ k + ∑ k, w₄ k) : ℝ) : EReal) := by
  obtain ⟨μ₁, e₁⟩ := max_real z _ (fold_ne_top S₁ fun k => (h₁ k).1)
  obtain ⟨μ₂, e₂⟩ := max_real μ₁ _ (fold_ne_top S₂ fun k => (h₂ k).1)
  obtain ⟨μ₃, e₃⟩ := max_real μ₂ _ (fold_ne_top S₃ fun k => (h₃ k).1)
  obtain ⟨μ, e₄⟩ := max_real μ₃ _ (fold_ne_top S₄ fun k => (h₄ k).1)
  rw [e₁, e₂, e₃, e₄] at hM
  subst hM
  rw [part_num S₁ w₁ v₁ h₁, part_num S₂ w₂ v₂ h₂, part_num S₃ w₃ v₃ h₃, part_num S₄ w₄ v₄ h₄, part_den S₁ w₁ h₁,
    part_den S₂ w₂ h₂, part_den S₃ w₃ h₃, part_den S₄ w₄ h₄, h₀.2]
  simp only [← EReal.coe_add, ← mul_add]
  rw [div_real _ _ (mul_pos (Real.exp_pos _) hpos), mul_div_mul_left _ _ (Real.exp_pos _).ne']

end

/-! ## The keys that a query sees -/

theorem sum_blocks (f : ℕ → ℝ) (N : ℕ) :
    ∑ k ∈ Finset.range (128 * N), f k = ∑ b ∈ Finset.range N, ∑ j ∈ Finset.range 128, f (128 * b + j) := by
  induction N with
  | zero => simp
  | succ N ih => rw [Finset.sum_range_succ, ← ih, Nat.mul_succ, Finset.sum_range_add]

/-- The block that a point reads at distance `-1` and `+1` from its own, held inside the sequence. -/
abbrev lft (n : ℕ) : ℕ := n - 1
abbrev rgt (n : ℕ) : ℕ := min (n + 1) 31

/-- Two positions at most 128 apart. -/
abbrev near (i k : ℕ) : Prop := i ≤ k + 128 ∧ k ≤ i + 128

/-- The keys near a query of block `n` are in three blocks. -/
theorem band (f : ℕ → ℝ) (n i : ℕ) (hn : n < 32) (hi : i < 128) :
    ∑ k : Fin 4096, (if near (128 * n + i) k then f k else 0)
      = ∑ j : Fin 128, (if i + (if 0 < n then 0 else 256) ≤ j then f (128 * lft n + j) else 0)
        + ∑ j : Fin 128, f (128 * n + j)
        + ∑ j : Fin 128, (if (j : ℕ) + (if n < 31 then 0 else 256) ≤ i then f (128 * rgt n + j) else 0) := by
  rw [Fin.sum_univ_eq_sum_range (fun k => if near (128 * n + i) k then f k else 0) 4096,
    Fin.sum_univ_eq_sum_range (fun j => if i + (if 0 < n then 0 else 256) ≤ j then f (128 * lft n + j) else 0) 128,
    Fin.sum_univ_eq_sum_range (fun j => f (128 * n + j)) 128,
    Fin.sum_univ_eq_sum_range (fun j => if j + (if n < 31 then 0 else 256) ≤ i then f (128 * rgt n + j) else 0) 128,
    show 4096 = 128 * 32 from rfl, sum_blocks]
  generalize hL : (∑ j ∈ Finset.range 128, if i + (if 0 < n then 0 else 256) ≤ j then f (128 * lft n + j) else 0) = L
  generalize hR : (∑ j ∈ Finset.range 128, if j + (if n < 31 then 0 else 256) ≤ i then f (128 * rgt n + j) else 0) = R
  have hL0 : n = 0 → L = 0 := by
    rintro rfl
    rw [← hL]
    refine Finset.sum_eq_zero fun j hj => if_neg ?_
    have := Finset.mem_range.mp hj
    simp only [lt_self_iff_false, if_false]; omega
  have hR0 : n = 31 → R = 0 := by
    rintro rfl
    rw [← hR]
    refine Finset.sum_eq_zero fun j hj => if_neg ?_
    have := Finset.mem_range.mp hj
    simp only [lt_self_iff_false, if_false]; omega
  have key : ∀ b ∈ Finset.range 32, (∑ j ∈ Finset.range 128, if near (128 * n + i) (128 * b + j) then f (128 * b + j) else 0)
      = (if b = lft n then L * (if 0 < n then 1 else 0) else 0) + (if b = n then ∑ j ∈ Finset.range 128, f (128 * n + j) else 0)
        + (if b = rgt n then R * (if n < 31 then 1 else 0) else 0) := by
    intro b hb
    have hb := Finset.mem_range.mp hb
    by_cases c1 : b + 1 = n
    · rw [if_pos (show b = lft n by unfold lft; omega), if_neg (show ¬b = n by omega),
        if_neg (show ¬b = rgt n by unfold rgt; omega), if_pos (show 0 < n by omega), ← hL, add_zero, add_zero, mul_one]
      refine Finset.sum_congr rfl fun j hj => ?_
      have := Finset.mem_range.mp hj
      rw [if_pos (show 0 < n by omega), show lft n = b by unfold lft; omega]
      exact if_congr (by unfold near; omega) rfl rfl
    by_cases c2 : b = n
    · have c3 : ¬(b = lft n ∧ 0 < n) := by unfold lft; omega
      have c4 : ¬(b = rgt n ∧ n < 31) := by unfold rgt; omega
      have z1 : (if b = lft n then L * (if 0 < n then 1 else 0) else 0) = 0 := by
        split
        · rw [if_neg (by tauto), mul_zero]
        · rfl
      have z2 : (if b = rgt n then R * (if n < 31 then 1 else 0) else 0) = 0 := by
        split
        · rw [if_neg (by tauto), mul_zero]
        · rfl
      rw [z1, z2, if_pos c2, add_zero, zero_add]
      refine Finset.sum_congr rfl fun j hj => ?_
      have := Finset.mem_range.mp hj
      subst c2
      exact if_pos (by unfold near; omega)
    by_cases c3 : b = n + 1
    · rw [if_neg (show ¬b = lft n by unfold lft; omega), if_neg c2, if_pos (show b = rgt n by unfold rgt; omega),
        if_pos (show n < 31 by omega), ← hR, zero_add, zero_add, mul_one]
      refine Finset.sum_congr rfl fun j hj => ?_
      have := Finset.mem_range.mp hj
      rw [if_pos (show n < 31 by omega), show rgt n = b by unfold rgt; omega]
      exact if_congr (by unfold near; omega) rfl rfl
    · have c4 : ¬(b = lft n ∧ 0 < n) := by unfold lft; omega
      have c5 : ¬(b = rgt n ∧ n < 31) := by unfold rgt; omega
      have z1 : (if b = lft n then L * (if 0 < n then 1 else 0) else 0) = 0 := by
        split
        · rw [if_neg (by tauto), mul_zero]
        · rfl
      have z2 : (if b = rgt n then R * (if n < 31 then 1 else 0) else 0) = 0 := by
        split
        · rw [if_neg (by tauto), mul_zero]
        · rfl
      rw [z1, z2, if_neg c2, add_zero, add_zero]
      refine Finset.sum_eq_zero fun j hj => if_neg ?_
      have := Finset.mem_range.mp hj
      unfold near; omega
  rw [Finset.sum_congr rfl key, Finset.sum_add_distrib, Finset.sum_add_distrib, Finset.sum_ite_eq', Finset.sum_ite_eq',
    Finset.sum_ite_eq', if_pos (Finset.mem_range.mpr (by unfold lft; omega)), if_pos (Finset.mem_range.mpr hn),
    if_pos (Finset.mem_range.mpr (by unfold rgt; omega))]
  have eL : L * (if 0 < n then 1 else 0) = L := by
    by_cases h : 0 < n
    · rw [if_pos h, mul_one]
    · rw [hL0 (by omega), zero_mul]
  have eR : R * (if n < 31 then 1 else 0) = R := by
    by_cases h : n < 31
    · rw [if_pos h, mul_one]
    · rw [hR0 (by omega), zero_mul]
  rw [eL, eR]

/-! ## The result -/

variable (a : ℕ → ℕ → ℝ) (z : ℕ → ℝ)

/-- The score of the query row `R` and the key row `j` in head `h`, four heads of queries to one of keys. -/
def score (h R j : ℕ) : ℝ := ∑ e : Fin 128, a j (2048 + h / 4 * 128 + e) * a R (h * 128 + e)

/-- The weight. -/
def wt (h R j : ℕ) : ℝ := Real.exp (score a h R j * σ)

/-- The value. -/
def val (h j d : ℕ) : ℝ := a j (2560 + h / 4 * 128 + d)

/-- The context's weights and weighted values. -/
def denC (h R b : ℕ) : ℝ := ∑ l : Fin 256, wt a h R (8192 + b * 256 + l)
def numC (h R b d : ℕ) : ℝ := ∑ l : Fin 256, val a h (8192 + b * 256 + l) d * wt a h R (8192 + b * 256 + l)

/-- The weights and weighted values of the latent keys near position `i`. -/
def denL (h R b i : ℕ) : ℝ := ∑ k : Fin 4096, if near i k then wt a h R (b * 4096 + k) else 0
def numL (h R b i d : ℕ) : ℝ := ∑ k : Fin 4096, if near i k then val a h (b * 4096 + k) d * wt a h R (b * 4096 + k) else 0

/-- The result of a row in head `h` at column `d`. -/
def out (h R d : ℕ) : ℝ :=
  if R < 8192 then (numC a h R (R / 4096) d + numL a h R (R / 4096) (R % 4096) d)
    / (Real.exp (z h) + denC a h R (R / 4096) + denL a h R (R / 4096) (R % 4096))
  else numC a h R ((R - 8192) / 256) d / (Real.exp (z h) + denC a h R ((R - 8192) / 256))

theorem denC_nonneg (h R b : ℕ) : 0 ≤ denC a h R b := Finset.sum_nonneg fun _ _ => (Real.exp_pos _).le

theorem denL_nonneg (h R b i : ℕ) : 0 ≤ denL a h R b i :=
  Finset.sum_nonneg fun _ _ => by split; exacts [(Real.exp_pos _).le, le_rfl]

end Win

end
-- ==== Proof.Win.Pieces.lean ====
/-
One head of keys of the windowed attention, as a composition of the program's pieces, and each piece at an index.
-/
module

public import proofs.«01_k».proof.Proof.Gen.Kernel10Ideal.Value
public import proofs.«01_k».proof.Proof.Win.Bits
public import proofs.«01_k».proof.Proof.Win.Spec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Val

open Cert.Kernel10Ideal Cert.Kernel10Ideal.Gen Idealize.ShloMosaic Idealize.ShloMosaic.TcCoe Idealize.SL.Sem
open Attn

theorem expo : (Named.named (F := Ideal) κ "expo" 0x3E0293EE#32 : Ideal .f32) = ((κ₂ : ℝ) : EReal) := rfl

theorem mask : (Named.named (F := Ideal) κ "mask" 0xF149F2CA#32 : Ideal .f32) = (⊥ : EReal) := rfl

theorem neg_inf : Ideal.ofBits .f32 0xFF800000#32 = ⊥ := by simp [Ideal.ofBits, Ideal.ieee]

abbrev scaleWord : EReal := Ideal.ofBits .f32 0x3DB504F3#32

abbrev lanes : IVec S1x512 32 := iota .tc S1x512 32 [1] iota_S1x512_d1_w32
abbrev rowsOf : IVec S128x512 32 := iota .tc S128x512 32 [0] iota_S128x512_d0_w32

section
variable (q0 q1 q2 q3 : Vec Ideal S128x128 .bf16) (s0 s1 s2 s3 : Elt Ideal .f32)

/-- The queries of four heads, one below the other. -/
theorem q4_at (C : Fin 512) (e : Fin 128) : k0_pay7 q0 q1 q2 q3 (ix2 C e)
    = if h : (C : ℕ) < 128 then q0 (ix2 ⟨C, h⟩ e) else if h : (C : ℕ) - 128 < 128 then q1 (ix2 ⟨C - 128, h⟩ e)
      else if h : (C : ℕ) - 128 - 128 < 128 then q2 (ix2 ⟨C - 128 - 128, h⟩ e)
      else q3 (ix2 ⟨C - 128 - 128 - 128, by omega⟩ e) := by
  pointwise [k0_pay7]

/-- The sinks of four heads, over the scale. -/
theorem sink_at (C : Fin 512) : k0_pay9 lanes (k0_pay8 s0) s1 s2 s3 (ix2 (0 : Fin 1) C)
    = if 384 ≤ (C : ℕ) then Ideal.div s3 scaleWord else if 256 ≤ (C : ℕ) then Ideal.div s2 scaleWord
      else if 128 ≤ (C : ℕ) then Ideal.div s1 scaleWord else Ideal.div s0 scaleWord := by
  pointwise [k0_pay9, k0_pay8]
  rw [lane_384, lane_256, lane_128]
  unfold Scalar.select
  split_ifs <;> first | rfl | omega | simp_all

end

section
variable (n : BitVec 32) (q : FVec Ideal S512x128 .bf16) (k : Vec Ideal S128x128 .bf16) (kc : Vec Ideal S256x128 .bf16)

/-- A piece's scores. -/
theorem pay12_at (l : Fin 256) (C : Fin 512) : k0_pay12 q kc (ix2 l C) = ∑ e : Fin 128, kc (ix2 l e) * q (ix2 C e) := by
  pointwise [k0_pay12]

theorem pay13_at (l : Fin 128) (C : Fin 512) : k0_pay13 q k (ix2 l C) = ∑ e : Fin 128, k (ix2 l e) * q (ix2 C e) := by
  pointwise [k0_pay13]

theorem pay10_at (b : IVec S128x512 1) (l : Fin 128) (C : Fin 512) :
    k0_pay10 b q k (ix2 l C) = if b (ix2 l C) = 1#1 then ∑ e : Fin 128, k (ix2 l e) * q (ix2 C e) else ⊥ := by
  unfold k0_pay10
  rw [mask]
  pointwise
  rfl

theorem pay11_at (b : IVec S128x512 1) (l : Fin 128) (C : Fin 512) :
    k0_pay11 b q k (ix2 l C) = if b (ix2 l C) = 1#1 then ∑ e : Fin 128, k (ix2 l e) * q (ix2 C e) else ⊥ := by
  unfold k0_pay11
  rw [mask]
  pointwise
  rfl

end

section
variable (sk : FVec Ideal S1x512 .f32) (sl sr sm : FVec Ideal S128x512 .f32) (sc : FVec Ideal S256x512 .f32)
variable (vc : Vec Ideal S256x128 .bf16) (vl vm vr : Vec Ideal S128x128 .bf16)

theorem pay20_at (C : Fin 512) : k0_pay20 sk sl sr sc sm (ix2 (0 : Fin 1) C)
    = max (max (max (max (sk (ix2 (0 : Fin 1) C)) (Finset.univ.fold max (⊥ : EReal) fun l : Fin 256 => sc (ix2 l C)))
        (Finset.univ.fold max (⊥ : EReal) fun l : Fin 128 => sl (ix2 l C)))
        (Finset.univ.fold max (⊥ : EReal) fun l : Fin 128 => sm (ix2 l C)))
        (Finset.univ.fold max (⊥ : EReal) fun l : Fin 128 => sr (ix2 l C)) := by
  rw [← neg_inf]
  pointwise [k0_pay20]

theorem pay21_at (l : Fin 256) (C : Fin 512) : k0_pay21 sk sl sr sc sm (ix2 l C)
    = Ideal.exp2 ((sc (ix2 l C) - k0_pay20 sk sl sr sc sm (ix2 (0 : Fin 1) C)) * ((κ₂ : ℝ) : EReal)) := by
  unfold k0_pay21
  rw [expo]
  generalize k0_pay20 sk sl sr sc sm = M
  pointwise
  rfl

theorem pay22_at (C : Fin 512) : k0_pay22 sk sl sr sc sm (ix2 (0 : Fin 1) C)
    = Ideal.exp2 ((sk (ix2 (0 : Fin 1) C) - k0_pay20 sk sl sr sc sm (ix2 (0 : Fin 1) C)) * ((κ₂ : ℝ) : EReal))
      + ∑ l : Fin 256, k0_pay21 sk sl sr sc sm (ix2 l C) := by
  unfold k0_pay22
  rw [expo]
  generalize k0_pay20 sk sl sr sc sm = M
  generalize k0_pay21 sk sl sr sc sm = P
  pointwise
  rfl

theorem pay23_at (M : FVec Ideal S1x512 .f32) (P : FVec Ideal S256x512 .f32) (D : FVec Ideal S1x512 .f32) (d : Fin 128) (C : Fin 512) :
    k0_pay23 sl sr vc vl sm vm vr M P D (ix2 d C)
      = Ideal.div (∑ l : Fin 256, vc (ix2 l d) * P (ix2 l C)
          + ∑ l : Fin 128, vl (ix2 l d) * Ideal.exp2 ((sl (ix2 l C) - M (ix2 (0 : Fin 1) C)) * ((κ₂ : ℝ) : EReal))
          + ∑ l : Fin 128, vm (ix2 l d) * Ideal.exp2 ((sm (ix2 l C) - M (ix2 (0 : Fin 1) C)) * ((κ₂ : ℝ) : EReal))
          + ∑ l : Fin 128, vr (ix2 l d) * Ideal.exp2 ((sr (ix2 l C) - M (ix2 (0 : Fin 1) C)) * ((κ₂ : ℝ) : EReal)))
        (D (ix2 (0 : Fin 1) C)
          + ∑ l : Fin 128, Ideal.exp2 ((sl (ix2 l C) - M (ix2 (0 : Fin 1) C)) * ((κ₂ : ℝ) : EReal))
          + ∑ l : Fin 128, Ideal.exp2 ((sm (ix2 l C) - M (ix2 (0 : Fin 1) C)) * ((κ₂ : ℝ) : EReal))
          + ∑ l : Fin 128, Ideal.exp2 ((sr (ix2 l C) - M (ix2 (0 : Fin 1) C)) * ((κ₂ : ℝ) : EReal))) := by
  unfold k0_pay23
  rw [expo]
  pointwise
  rfl

theorem pay74_at (M S E : FVec Ideal S1x512 .f32) (d : Fin 128) (C : Fin 512) :
    k0_pay74 sc vc M S E (ix2 d C)
      = Ideal.div (∑ l : Fin 256, vc (ix2 l d) * Ideal.exp2 ((sc (ix2 l C) - M (ix2 (0 : Fin 1) C)) * ((κ₂ : ℝ) : EReal)))
        (Ideal.exp2 (S (ix2 (0 : Fin 1) C) * E (ix2 (0 : Fin 1) C))
          + ∑ l : Fin 256, Ideal.exp2 ((sc (ix2 l C) - M (ix2 (0 : Fin 1) C)) * ((κ₂ : ℝ) : EReal))) := by
  unfold k0_pay74
  rw [expo]
  pointwise
  rfl

end

/-- Where a left and a right key is near. -/

theorem pay5_at (n : Fin 32) (j : Fin 128) (C : Fin 512) (i : ℕ) (hi : i = (C : ℕ) % 128) :
    k0_pay5 (BitVec.ofNat 32 n) k0_pay1 rowsOf (ix2 j C) = 1#1 ↔ i + (if 0 < (n : ℕ) then 0 else 256) ≤ j := by
  subst hi
  have e : k0_pay5 (BitVec.ofNat 32 n) k0_pay1 rowsOf (ix2 j C)
      = IntOp.cmpi .sge (BitVec.ofNat 32 j) (IntOp.addi (BitVec.ofNat 32 ((C : ℕ) % 128)) (BitVec.ofNat 32 (if 0 < (n : ℕ) then 0 else 256))) := by
    rw [← low_bits, ← first_block]
    pointwise [k0_pay5, k0_pay1]
    rfl
  rw [e]
  split
  · exact left_0 ⟨(C : ℕ) % 128, Nat.mod_lt _ (by omega)⟩ j
  · exact left_256 ⟨(C : ℕ) % 128, Nat.mod_lt _ (by omega)⟩ j

theorem pay6_at (n : Fin 32) (j : Fin 128) (C : Fin 512) (i : ℕ) (hi : i = (C : ℕ) % 128) :
    k0_pay6 (BitVec.ofNat 32 n) k0_pay1 rowsOf (ix2 j C) = 1#1 ↔ (j : ℕ) + (if (n : ℕ) < 31 then 0 else 256) ≤ i := by
  subst hi
  have e : k0_pay6 (BitVec.ofNat 32 n) k0_pay1 rowsOf (ix2 j C)
      = IntOp.cmpi .sle (BitVec.ofNat 32 j) (IntOp.subi (BitVec.ofNat 32 ((C : ℕ) % 128)) (BitVec.ofNat 32 (if (n : ℕ) < 31 then 0 else 256))) := by
    rw [← low_bits, ← last_block]
    pointwise [k0_pay6, k0_pay1]
    rfl
  rw [e]
  split
  · exact right_0 ⟨(C : ℕ) % 128, Nat.mod_lt _ (by omega)⟩ j
  · exact right_256 ⟨(C : ℕ) % 128, Nat.mod_lt _ (by omega)⟩ j

/-! ## One head of keys -/

/-- The four heads of latent queries over one head of keys and values, transposed. -/
def lat (n : BitVec 32) (q0 q1 q2 q3 : Vec Ideal S128x128 .bf16) (s0 s1 s2 s3 : Elt Ideal .f32) (kc vc : Vec Ideal S256x128 .bf16)
    (kl vl km vm kr vr : Vec Ideal S128x128 .bf16) : FVec Ideal S128x512 .f32 :=
  k0_pay23 (k0_pay10 (k0_pay5 n k0_pay1 rowsOf) (k0_pay7 q0 q1 q2 q3) kl) (k0_pay11 (k0_pay6 n k0_pay1 rowsOf) (k0_pay7 q0 q1 q2 q3) kr)
    vc vl (k0_pay13 (k0_pay7 q0 q1 q2 q3) km) vm vr
    (k0_pay20 (k0_pay9 lanes (k0_pay8 s0) s1 s2 s3) (k0_pay10 (k0_pay5 n k0_pay1 rowsOf) (k0_pay7 q0 q1 q2 q3) kl)
      (k0_pay11 (k0_pay6 n k0_pay1 rowsOf) (k0_pay7 q0 q1 q2 q3) kr) (k0_pay12 (k0_pay7 q0 q1 q2 q3) kc) (k0_pay13 (k0_pay7 q0 q1 q2 q3) km))
    (k0_pay21 (k0_pay9 lanes (k0_pay8 s0) s1 s2 s3) (k0_pay10 (k0_pay5 n k0_pay1 rowsOf) (k0_pay7 q0 q1 q2 q3) kl)
      (k0_pay11 (k0_pay6 n k0_pay1 rowsOf) (k0_pay7 q0 q1 q2 q3) kr) (k0_pay12 (k0_pay7 q0 q1 q2 q3) kc) (k0_pay13 (k0_pay7 q0 q1 q2 q3) km))
    (k0_pay22 (k0_pay9 lanes (k0_pay8 s0) s1 s2 s3) (k0_pay10 (k0_pay5 n k0_pay1 rowsOf) (k0_pay7 q0 q1 q2 q3) kl)
      (k0_pay11 (k0_pay6 n k0_pay1 rowsOf) (k0_pay7 q0 q1 q2 q3) kr) (k0_pay12 (k0_pay7 q0 q1 q2 q3) kc) (k0_pay13 (k0_pay7 q0 q1 q2 q3) km))

/-- The four heads of context queries over one head of context keys and values, transposed. -/
def ctx (q0 q1 q2 q3 : Vec Ideal S128x128 .bf16) (s0 s1 s2 s3 : Elt Ideal .f32) (kc vc : Vec Ideal S256x128 .bf16) : FVec Ideal S128x512 .f32 :=
  k0_pay74 (k0_pay70 q0 q1 q2 q3 kc) vc (k0_pay71 lanes q0 q1 q2 q3 s0 s1 s2 s3 kc) (k0_pay72 lanes q0 q1 q2 q3 s0 s1 s2 s3 kc) k0_pay73

theorem dot_real (f g : Fin 128 → EReal) (f' g' : Fin 128 → ℝ) (hf : ∀ e, f e = (f' e : EReal)) (hg : ∀ e, g e = (g' e : EReal)) :
    ∑ e, f e * g e = ((∑ e, f' e * g' e : ℝ) : EReal) := by
  rw [← coe_sum]
  exact Finset.sum_congr rfl fun e _ => by rw [hf, hg, EReal.coe_mul]

theorem scale_real : scaleWord = ((σ : ℝ) : EReal) := by
  simp [Ideal.ofBits, Ideal.ieee, σ, -EReal.coe_mul]
  norm_num

theorem sink_weighs (τ : ℝ) : ∃ z : ℝ, Ideal.div (τ : EReal) scaleWord = (z : EReal) ∧ Win.Weighs (z : EReal) (Real.exp τ) := by
  have hσ : 0 < σ := by unfold σ; norm_num
  refine ⟨τ / σ, by rw [scale_real, div_real _ _ hσ], ?_⟩
  have := Win.weighs_coe (τ / σ)
  rwa [div_mul_cancel₀ _ hσ.ne'] at this

section
variable (q0 q1 q2 q3 : Vec Ideal S128x128 .bf16) (s0 s1 s2 s3 : Elt Ideal .f32) (kc vc : Vec Ideal S256x128 .bf16)
variable (kl vl km vm kr vr : Vec Ideal S128x128 .bf16) (C : Fin 512) (d : Fin 128)
variable (rq : Fin 128 → ℝ) (τ : ℝ) (rkc : Fin 256 → Fin 128 → ℝ) (rvc : Fin 256 → ℝ)
variable (rkl rkm rkr : Fin 128 → Fin 128 → ℝ) (rvl rvm rvr : Fin 128 → ℝ)

theorem lat_at (n : Fin 32) (i : ℕ) (hi : i = (C : ℕ) % 128) (hq : ∀ e, k0_pay7 q0 q1 q2 q3 (ix2 C e) = (rq e : EReal))
    (hs : k0_pay9 lanes (k0_pay8 s0) s1 s2 s3 (ix2 (0 : Fin 1) C) = Ideal.div (τ : EReal) scaleWord)
    (hkc : ∀ l e, kc (ix2 l e) = (rkc l e : EReal)) (hvc : ∀ l, vc (ix2 l d) = (rvc l : EReal))
    (hkl : ∀ l e, kl (ix2 l e) = (rkl l e : EReal)) (hvl : ∀ l, vl (ix2 l d) = (rvl l : EReal))
    (hkm : ∀ l e, km (ix2 l e) = (rkm l e : EReal)) (hvm : ∀ l, vm (ix2 l d) = (rvm l : EReal))
    (hkr : ∀ l e, kr (ix2 l e) = (rkr l e : EReal)) (hvr : ∀ l, vr (ix2 l d) = (rvr l : EReal)) :
    lat (BitVec.ofNat 32 n) q0 q1 q2 q3 s0 s1 s2 s3 kc vc kl vl km vm kr vr (ix2 d C)
      = (((∑ l, rvc l * Real.exp ((∑ e, rkc l e * rq e) * σ)
          + ∑ j : Fin 128, rvl j * (if i + (if 0 < (n : ℕ) then 0 else 256) ≤ j then Real.exp ((∑ e, rkl j e * rq e) * σ) else 0)
          + ∑ j, rvm j * Real.exp ((∑ e, rkm j e * rq e) * σ)
          + ∑ j : Fin 128, rvr j * (if (j : ℕ) + (if (n : ℕ) < 31 then 0 else 256) ≤ i then Real.exp ((∑ e, rkr j e * rq e) * σ) else 0))
        / (Real.exp τ + ∑ l, Real.exp ((∑ e, rkc l e * rq e) * σ)
          + ∑ j : Fin 128, (if i + (if 0 < (n : ℕ) then 0 else 256) ≤ j then Real.exp ((∑ e, rkl j e * rq e) * σ) else 0)
          + ∑ j, Real.exp ((∑ e, rkm j e * rq e) * σ)
          + ∑ j : Fin 128, (if (j : ℕ) + (if (n : ℕ) < 31 then 0 else 256) ≤ i then Real.exp ((∑ e, rkr j e * rq e) * σ) else 0)) : ℝ) : EReal) := by
  obtain ⟨z, hz, hw⟩ := sink_weighs τ
  have hM := pay20_at (k0_pay9 lanes (k0_pay8 s0) s1 s2 s3) (k0_pay10 (k0_pay5 (BitVec.ofNat 32 n) k0_pay1 rowsOf) (k0_pay7 q0 q1 q2 q3) kl)
    (k0_pay11 (k0_pay6 (BitVec.ofNat 32 n) k0_pay1 rowsOf) (k0_pay7 q0 q1 q2 q3) kr) (k0_pay13 (k0_pay7 q0 q1 q2 q3) km)
    (k0_pay12 (k0_pay7 q0 q1 q2 q3) kc) C
  unfold lat
  rw [pay23_at, pay22_at]
  simp only [pay21_at]
  rw [hs, hz] at hM ⊢
  simp only [hvc, hvl, hvm, hvr]
  refine Win.quot_four z (Real.exp τ) _ _ rvc _ _ rvl _ _ rvm _ _ rvr hw ?_ ?_ ?_ ?_ ?_ _ hM
  · intro l
    rw [pay12_at, dot_real _ _ _ _ (hkc l) hq]
    exact Win.weighs_coe _
  · intro l
    rw [pay10_at, dot_real _ _ _ _ (hkl l) hq]
    exact (if_congr (pay5_at n l C i hi) rfl rfl : _ = (if _ then _ else _ : EReal)) ▸ Win.weighs_if _ _
  · intro l
    rw [pay13_at, dot_real _ _ _ _ (hkm l) hq]
    exact Win.weighs_coe _
  · intro l
    rw [pay11_at, dot_real _ _ _ _ (hkr l) hq]
    exact (if_congr (pay6_at n l C i hi) rfl rfl : _ = (if _ then _ else _ : EReal)) ▸ Win.weighs_if _ _
  · have h1 : 0 < Real.exp τ := Real.exp_pos τ
    have h2 : 0 ≤ ∑ l, Real.exp ((∑ e, rkc l e * rq e) * σ) := Finset.sum_nonneg fun _ _ => (Real.exp_pos _).le
    have h3 : 0 ≤ ∑ j : Fin 128, (if i + (if 0 < (n : ℕ) then 0 else 256) ≤ j then Real.exp ((∑ e, rkl j e * rq e) * σ) else 0) :=
      Finset.sum_nonneg fun _ _ => by split_ifs <;> first | exact (Real.exp_pos _).le | exact le_rfl
    have h4 : 0 ≤ ∑ l, Real.exp ((∑ e, rkm l e * rq e) * σ) := Finset.sum_nonneg fun _ _ => (Real.exp_pos _).le
    have h5 : 0 ≤ ∑ j : Fin 128, (if (j : ℕ) + (if (n : ℕ) < 31 then 0 else 256) ≤ i then Real.exp ((∑ e, rkr j e * rq e) * σ) else 0) :=
      Finset.sum_nonneg fun _ _ => by split_ifs <;> first | exact (Real.exp_pos _).le | exact le_rfl
    linarith

theorem ctx_at (hq : ∀ e, k0_pay7 q0 q1 q2 q3 (ix2 C e) = (rq e : EReal))
    (hs : k0_pay9 lanes (k0_pay8 s0) s1 s2 s3 (ix2 (0 : Fin 1) C) = Ideal.div (τ : EReal) scaleWord)
    (hkc : ∀ l e, kc (ix2 l e) = (rkc l e : EReal)) (hvc : ∀ l, vc (ix2 l d) = (rvc l : EReal)) :
    ctx q0 q1 q2 q3 s0 s1 s2 s3 kc vc (ix2 d C)
      = (((∑ l, rvc l * Real.exp ((∑ e, rkc l e * rq e) * σ))
        / (Real.exp τ + ∑ l, Real.exp ((∑ e, rkc l e * rq e) * σ)) : ℝ) : EReal) := by
  obtain ⟨z, hz, hw⟩ := sink_weighs τ
  have hS : k0_pay69 lanes s0 s1 s2 s3 (ix2 (0 : Fin 1) C) = (z : EReal) := hs.trans hz
  have hM : k0_pay71 lanes q0 q1 q2 q3 s0 s1 s2 s3 kc (ix2 (0 : Fin 1) C)
      = max (k0_pay69 lanes s0 s1 s2 s3 (ix2 (0 : Fin 1) C)) (Finset.univ.fold max (⊥ : EReal) fun l : Fin 256 => k0_pay12 (k0_pay7 q0 q1 q2 q3) kc (ix2 l C)) := by
    show k0_pay71 lanes q0 q1 q2 q3 s0 s1 s2 s3 kc (ix2 (0 : Fin 1) C)
      = max (k0_pay69 lanes s0 s1 s2 s3 (ix2 (0 : Fin 1) C)) (Finset.univ.fold max (⊥ : EReal) fun l : Fin 256 => k0_pay70 q0 q1 q2 q3 kc (ix2 l C))
    unfold k0_pay71
    generalize k0_pay70 q0 q1 q2 q3 kc = P
    generalize k0_pay69 lanes s0 s1 s2 s3 = Q
    rw [← neg_inf]
    pointwise
  have hD : k0_pay72 lanes q0 q1 q2 q3 s0 s1 s2 s3 kc (ix2 (0 : Fin 1) C)
      = k0_pay69 lanes s0 s1 s2 s3 (ix2 (0 : Fin 1) C) - k0_pay71 lanes q0 q1 q2 q3 s0 s1 s2 s3 kc (ix2 (0 : Fin 1) C) := rfl
  have hE : (k0_pay73 (F := Ideal)) (ix2 (0 : Fin 1) C) = ((κ₂ : ℝ) : EReal) := rfl
  rw [hS] at hM hD
  unfold ctx
  rw [pay74_at, hD, hE]
  simp only [hvc]
  refine Win.quot_one z (Real.exp τ) _ _ rvc hw ?_ ?_ _ hM
  · intro l
    show Win.Weighs (k0_pay12 (k0_pay7 q0 q1 q2 q3) kc (ix2 l C)) _
    rw [pay12_at, dot_real _ _ _ _ (hkc l) hq]
    exact Win.weighs_coe _
  · exact add_pos_of_pos_of_nonneg (Real.exp_pos τ) (Finset.sum_nonneg fun _ _ => (Real.exp_pos _).le)

end

end Cert.Kernel10Ideal.Val

end
-- ==== Proof.Win.Value.lean ====
/-
What the windowed attention's call computes.

Grid point `t` of 68 is a block of 128 queries: for each of the two elements 32 blocks of latent positions, then two of context.
-/
module

public import proofs.«01_k».proof.Proof.Gen.Kernel10Ideal.Value
public import proofs.«01_k».proof.Proof.Win.Pieces
public import Idealize.ShloMosaic.Lib.Pipeline.ValueKit
public import Idealize.ShloMosaic.Lib.StableHlo.RunRead
public import Idealize.ShloMosaic.Lib.Pointwise
public import Idealize.ShloMosaic.Lib.Claim

@[expose] public section

set_option maxRecDepth 16384

noncomputable section

namespace Win

variable (a : ℕ → ℕ → ℝ) (z : ℕ → ℝ)

/-- A latent row's result, its keys taken from the three blocks around its own. -/
theorem out_lat (b n i h R d : ℕ) (hb : b < 2) (hn : n < 32) (hi : i < 128) (hR : R = b * 4096 + (128 * n + i)) :
    (∑ l : Fin 256, val a h (8192 + b * 256 + l) d * wt a h R (8192 + b * 256 + l)
        + ∑ j : Fin 128, val a h (b * 4096 + (128 * lft n + j)) d
          * (if i + (if 0 < n then 0 else 256) ≤ j then wt a h R (b * 4096 + (128 * lft n + j)) else 0)
        + ∑ j : Fin 128, val a h (b * 4096 + (128 * n + j)) d * wt a h R (b * 4096 + (128 * n + j))
        + ∑ j : Fin 128, val a h (b * 4096 + (128 * rgt n + j)) d
          * (if (j : ℕ) + (if n < 31 then 0 else 256) ≤ i then wt a h R (b * 4096 + (128 * rgt n + j)) else 0))
      / (Real.exp (z h) + ∑ l : Fin 256, wt a h R (8192 + b * 256 + l)
        + ∑ j : Fin 128, (if i + (if 0 < n then 0 else 256) ≤ j then wt a h R (b * 4096 + (128 * lft n + j)) else 0)
        + ∑ j : Fin 128, wt a h R (b * 4096 + (128 * n + j))
        + ∑ j : Fin 128, (if (j : ℕ) + (if n < 31 then 0 else 256) ≤ i then wt a h R (b * 4096 + (128 * rgt n + j)) else 0))
      = out a z h R d := by
  have e1 : R / 4096 = b := by omega
  have e2 : R % 4096 = 128 * n + i := by omega
  unfold out
  rw [if_pos (by omega : R < 8192), e1, e2]
  unfold numL denL
  rw [band (fun k => val a h (b * 4096 + k) d * wt a h R (b * 4096 + k)) n i hn hi, band (fun k => wt a h R (b * 4096 + k)) n i hn hi]
  simp only [mul_ite, mul_zero]
  unfold numC denC
  simp only [add_assoc]

theorem out_ctx (b h R d : ℕ) (hR : 8192 + b * 256 ≤ R) (hR' : R < 8192 + b * 256 + 256) :
    (∑ l : Fin 256, val a h (8192 + b * 256 + l) d * wt a h R (8192 + b * 256 + l))
      / (Real.exp (z h) + ∑ l : Fin 256, wt a h R (8192 + b * 256 + l)) = out a z h R d := by
  have e1 : (R - 8192) / 256 = b := by omega
  unfold out
  rw [if_neg (by omega : ¬R < 8192), e1]
  rfl

end Win

namespace Cert.Kernel10Ideal.Val

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The block of queries of a grid point. -/
def qb (t : ℕ) : ℕ := if t % 34 < 32 then t / 34 * 32 + t % 34 else 64 + t / 34 * 2 + (t % 34 - 32)

theorem idx : ∀ t : Fin cfg0.N, win0_0.index t = ![0] ∧ win0_1.index t = ![qb t.val, 0]
    ∧ win0_2.index t = ![t.val / 34, 2] ∧ win0_3.index t = ![32 + t.val / 34, 2] ∧ win0_4.index t = ![qb t.val, 0] :=
  (by decide +kernel : ∀ t : Fin grid0.N, _)

theorem place : ∀ t : Fin cfg0.N, BitVec.ofNat 32 (grid0.coords t 1).val = BitVec.ofNat 32 (t.val % 34) :=
  (by decide +kernel : ∀ t : Fin grid0.N, _)

theorem qb_lt (t : ℕ) (ht : t < 68) : qb t < 68 := by unfold qb; split <;> omega

theorem N_eq : cfg0.N = 68 := by decide +kernel

theorem off1 : ∀ t : Fin cfg0.N, t.val % 34 ≤ 31 → (k0_off1 (grid0.coords t) 4294967295#32 0 = 128 * Win.lft (t.val % 34) ∧ k0_off1 (grid0.coords t) 4294967295#32 1 = 0)
    ∧ (k0_off1 (grid0.coords t) 0#32 0 = 128 * (t.val % 34) ∧ k0_off1 (grid0.coords t) 0#32 1 = 0)
    ∧ (k0_off1 (grid0.coords t) 1#32 0 = 128 * Win.rgt (t.val % 34) ∧ k0_off1 (grid0.coords t) 1#32 1 = 0) :=
  (by decide +kernel : ∀ t : Fin grid0.N, _)

theorem off2 : ∀ t : Fin cfg0.N, t.val % 34 ≤ 31 → (k0_off2 (grid0.coords t) 4294967295#32 0 = 128 * Win.lft (t.val % 34) ∧ k0_off2 (grid0.coords t) 4294967295#32 1 = 512)
    ∧ (k0_off2 (grid0.coords t) 0#32 0 = 128 * (t.val % 34) ∧ k0_off2 (grid0.coords t) 0#32 1 = 512)
    ∧ (k0_off2 (grid0.coords t) 1#32 0 = 128 * Win.rgt (t.val % 34) ∧ k0_off2 (grid0.coords t) 1#32 1 = 512) :=
  (by decide +kernel : ∀ t : Fin grid0.N, _)

theorem off3 : ∀ t : Fin cfg0.N, t.val % 34 ≤ 31 → (k0_off3 (grid0.coords t) 4294967295#32 0 = 128 * Win.lft (t.val % 34) ∧ k0_off3 (grid0.coords t) 4294967295#32 1 = 128)
    ∧ (k0_off3 (grid0.coords t) 0#32 0 = 128 * (t.val % 34) ∧ k0_off3 (grid0.coords t) 0#32 1 = 128)
    ∧ (k0_off3 (grid0.coords t) 1#32 0 = 128 * Win.rgt (t.val % 34) ∧ k0_off3 (grid0.coords t) 1#32 1 = 128) :=
  (by decide +kernel : ∀ t : Fin grid0.N, _)

theorem off4 : ∀ t : Fin cfg0.N, t.val % 34 ≤ 31 → (k0_off4 (grid0.coords t) 4294967295#32 0 = 128 * Win.lft (t.val % 34) ∧ k0_off4 (grid0.coords t) 4294967295#32 1 = 640)
    ∧ (k0_off4 (grid0.coords t) 0#32 0 = 128 * (t.val % 34) ∧ k0_off4 (grid0.coords t) 0#32 1 = 640)
    ∧ (k0_off4 (grid0.coords t) 1#32 0 = 128 * Win.rgt (t.val % 34) ∧ k0_off4 (grid0.coords t) 1#32 1 = 640) :=
  (by decide +kernel : ∀ t : Fin grid0.N, _)

theorem off5 : ∀ t : Fin cfg0.N, t.val % 34 ≤ 31 → (k0_off5 (grid0.coords t) 4294967295#32 0 = 128 * Win.lft (t.val % 34) ∧ k0_off5 (grid0.coords t) 4294967295#32 1 = 256)
    ∧ (k0_off5 (grid0.coords t) 0#32 0 = 128 * (t.val % 34) ∧ k0_off5 (grid0.coords t) 0#32 1 = 256)
    ∧ (k0_off5 (grid0.coords t) 1#32 0 = 128 * Win.rgt (t.val % 34) ∧ k0_off5 (grid0.coords t) 1#32 1 = 256) :=
  (by decide +kernel : ∀ t : Fin grid0.N, _)

theorem off6 : ∀ t : Fin cfg0.N, t.val % 34 ≤ 31 → (k0_off6 (grid0.coords t) 4294967295#32 0 = 128 * Win.lft (t.val % 34) ∧ k0_off6 (grid0.coords t) 4294967295#32 1 = 768)
    ∧ (k0_off6 (grid0.coords t) 0#32 0 = 128 * (t.val % 34) ∧ k0_off6 (grid0.coords t) 0#32 1 = 768)
    ∧ (k0_off6 (grid0.coords t) 1#32 0 = 128 * Win.rgt (t.val % 34) ∧ k0_off6 (grid0.coords t) 1#32 1 = 768) :=
  (by decide +kernel : ∀ t : Fin grid0.N, _)

theorem off7 : ∀ t : Fin cfg0.N, t.val % 34 ≤ 31 → (k0_off7 (grid0.coords t) 4294967295#32 0 = 128 * Win.lft (t.val % 34) ∧ k0_off7 (grid0.coords t) 4294967295#32 1 = 384)
    ∧ (k0_off7 (grid0.coords t) 0#32 0 = 128 * (t.val % 34) ∧ k0_off7 (grid0.coords t) 0#32 1 = 384)
    ∧ (k0_off7 (grid0.coords t) 1#32 0 = 128 * Win.rgt (t.val % 34) ∧ k0_off7 (grid0.coords t) 1#32 1 = 384) :=
  (by decide +kernel : ∀ t : Fin grid0.N, _)

theorem off8 : ∀ t : Fin cfg0.N, t.val % 34 ≤ 31 → (k0_off8 (grid0.coords t) 4294967295#32 0 = 128 * Win.lft (t.val % 34) ∧ k0_off8 (grid0.coords t) 4294967295#32 1 = 896)
    ∧ (k0_off8 (grid0.coords t) 0#32 0 = 128 * (t.val % 34) ∧ k0_off8 (grid0.coords t) 0#32 1 = 896)
    ∧ (k0_off8 (grid0.coords t) 1#32 0 = 128 * Win.rgt (t.val % 34) ∧ k0_off8 (grid0.coords t) 1#32 1 = 896) :=
  (by decide +kernel : ∀ t : Fin grid0.N, _)

/-! ## The tiles stored -/

/-- Head 0 of the four, with its queries as rows again. -/
def tile0 (O : FVec Ideal S128x512 .f32) : FVec Ideal S128x128 .bf16 :=
  truncf .bf16 (transpose S128x128 [1, 0] (extractStridedSlice S128x128 ![0, 0] O slices_S128x512_o0_0_S128x128)
    transposes_S128x128_p1_0_S128x128) bitsLt_bf16_f32

theorem tile0_at (O : FVec Ideal S128x512 .f32) (r e : Fin 128) : tile0 O (ix2 r e) = O (ix2 e (⟨0 * 128 + r, by omega⟩ : Fin 512)) := by
  pointwise [tile0]

/-- Head 1 of the four, with its queries as rows again. -/
def tile1 (O : FVec Ideal S128x512 .f32) : FVec Ideal S128x128 .bf16 :=
  truncf .bf16 (transpose S128x128 [1, 0] (extractStridedSlice S128x128 ![0, 128] O slices_S128x512_o0_128_S128x128)
    transposes_S128x128_p1_0_S128x128) bitsLt_bf16_f32

theorem tile1_at (O : FVec Ideal S128x512 .f32) (r e : Fin 128) : tile1 O (ix2 r e) = O (ix2 e (⟨1 * 128 + r, by omega⟩ : Fin 512)) := by
  pointwise [tile1]

/-- Head 2 of the four, with its queries as rows again. -/
def tile2 (O : FVec Ideal S128x512 .f32) : FVec Ideal S128x128 .bf16 :=
  truncf .bf16 (transpose S128x128 [1, 0] (extractStridedSlice S128x128 ![0, 256] O slices_S128x512_o0_256_S128x128)
    transposes_S128x128_p1_0_S128x128) bitsLt_bf16_f32

theorem tile2_at (O : FVec Ideal S128x512 .f32) (r e : Fin 128) : tile2 O (ix2 r e) = O (ix2 e (⟨2 * 128 + r, by omega⟩ : Fin 512)) := by
  pointwise [tile2]

/-- Head 3 of the four, with its queries as rows again. -/
def tile3 (O : FVec Ideal S128x512 .f32) : FVec Ideal S128x128 .bf16 :=
  truncf .bf16 (transpose S128x128 [1, 0] (extractStridedSlice S128x128 ![0, 384] O slices_S128x512_o0_384_S128x128)
    transposes_S128x128_p1_0_S128x128) bitsLt_bf16_f32

theorem tile3_at (O : FVec Ideal S128x512 .f32) (r e : Fin 128) : tile3 O (ix2 r e) = O (ix2 e (⟨3 * 128 + r, by omega⟩ : Fin 512)) := by
  pointwise [tile3]

/-! ## The blocks read at a point -/

theorem sink (c : Dev nD) (k : Fin 16) : V m c main_v1 (ix1 k) = m ((c : Thread nD τ).loc main_arg1) (ix2 (0 : Fin 2) k) := by
  unfold V
  after_reads_simp
  pointwise

variable (c : Dev nD) (t : Fin cfg0.N)

theorem load_q (r : Fin 128) (C : Fin 2048) (R : Fin 8704) (hR : (R : ℕ) = qb t.val * 128 + r) :
    X0_1 m c t (ix2 r C) = m ((c : Thread nD τ).loc main_arg0) (ix2 R (⟨C, by omega⟩ : Fin 3072)) := by
  rw [← V_main_arg0 m c]
  unfold X0_1 Pipeline.Window.fill
  rw [dif_pos (moved0_1 t _)]
  unfold iblk
  generalize V m c = W
  blk_point [idx t]

theorem load_l (r : Fin 4096) (C : Fin 1024) (R : Fin 8704) (hR : (R : ℕ) = t.val / 34 * 4096 + r) :
    X0_2 m c t (ix2 r C) = m ((c : Thread nD τ).loc main_arg0) (ix2 R (⟨2048 + C, by omega⟩ : Fin 3072)) := by
  rw [← V_main_arg0 m c]
  unfold X0_2 Pipeline.Window.fill
  rw [dif_pos (moved0_2 t _)]
  unfold iblk
  generalize V m c = W
  blk_point [idx t]

theorem load_c (r : Fin 256) (C : Fin 1024) (R : Fin 8704) (hR : (R : ℕ) = (32 + t.val / 34) * 256 + r) :
    iblk m c 3 t (ix2 r C) = m ((c : Thread nD τ).loc main_arg0) (ix2 R (⟨2048 + C, by omega⟩ : Fin 3072)) := by
  rw [← V_main_arg0 m c]
  unfold iblk
  generalize V m c = W
  blk_point [idx t]

theorem load_s (k : Fin 16) : iblk m c 0 t (ix1 k) = m ((c : Thread nD τ).loc main_arg1) (ix2 (0 : Fin 2) k) := by
  rw [← sink m c]
  unfold iblk
  generalize V m c = W
  blk_point [idx t]

variable (x : ℕ → ℕ → ℝ) (z : ℕ → ℝ)
  (hx : ∀ (R : Fin 8704) (C : Fin 3072), m ((c : Thread nD τ).loc main_arg0) (ix2 R C) = ((x R C : ℝ) : EReal))
  (hz : ∀ k : Fin 16, m ((c : Thread nD τ).loc main_arg1) (ix2 (0 : Fin 2) k) = ((z k : ℝ) : EReal))

include hx in
theorem ldq (o : ℕ) (H : ∀ a, (![0, o] : Fin 2 → ℕ) a + S128x128.size a ≤ S128x2048.size a) (r e : Fin 128) (R C : ℕ)
    (hR : R = qb t.val * 128 + r) (hC : C = o + e) :
    View.ld (X0_1 m c t) (Rect.unit (s := S128x2048) ![0, o] S128x128.size H) (ix2 r e) = ((x R C : ℝ) : EReal) := by
  have h1 : o + 128 ≤ 2048 := H 1
  have h2 := qb_lt t.val (t.isLt.trans_eq N_eq)
  subst hR hC
  refine Eq.trans ?_ ((load_q m c t r (⟨o + e, by omega⟩ : Fin 2048) (⟨qb t.val * 128 + r, by omega⟩ : Fin 8704) rfl).trans (hx _ _))
  exact View.ld_unit_apply_of _ _ _ _ _ _ fun a => match a with
    | ⟨0, _⟩ => (Nat.zero_add _).symm
    | ⟨1, _⟩ => rfl

include hx in
theorem ldl (o : Fin 2 → ℕ) (H : ∀ a, o a + S128x128.size a ≤ S4096x1024.size a) (r e : Fin 128) (R C : ℕ)
    (hR : R = t.val / 34 * 4096 + (o 0 + r)) (hC : C = 2048 + (o 1 + e)) :
    View.ld (X0_2 m c t) (Rect.unit (s := S4096x1024) o S128x128.size H) (ix2 r e) = ((x R C : ℝ) : EReal) := by
  have h1 : o 1 + 128 ≤ 1024 := H 1
  have h0 : o 0 + 128 ≤ 4096 := H 0
  have h2 := t.isLt.trans_eq N_eq
  subst hR hC
  refine Eq.trans ?_ ((load_l m c t (⟨o 0 + r, by omega⟩ : Fin 4096) (⟨o 1 + e, by omega⟩ : Fin 1024)
    (⟨t.val / 34 * 4096 + (o 0 + r), by omega⟩ : Fin 8704) rfl).trans (hx _ _))
  exact View.ld_unit_apply_of _ _ _ _ _ _ fun a => match a with
    | ⟨0, _⟩ => rfl
    | ⟨1, _⟩ => rfl

include hx in
theorem ldc (o : ℕ) (H : ∀ a, (![0, o] : Fin 2 → ℕ) a + S256x128.size a ≤ S256x1024.size a) (r : Fin 256) (e : Fin 128) (R C : ℕ)
    (hR : R = 8192 + t.val / 34 * 256 + r) (hC : C = 2048 + (o + e)) :
    View.ld (iblk m c 3 t) (Rect.unit (s := S256x1024) ![0, o] S256x128.size H) (ix2 r e) = ((x R C : ℝ) : EReal) := by
  have h1 : o + 128 ≤ 1024 := H 1
  have h2 := t.isLt.trans_eq N_eq
  subst hC
  refine Eq.trans ?_ ((load_c m c t r (⟨o + e, by omega⟩ : Fin 1024) (⟨R, by omega⟩ : Fin 8704)
    (by show R = _; omega)).trans (hx _ _))
  exact View.ld_unit_apply_of _ _ _ _ _ _ fun a => match a with
    | ⟨0, _⟩ => (Nat.zero_add _).symm
    | ⟨1, _⟩ => rfl

include hz in
theorem lds (k : ℕ) (H : ∀ a, (![k] : Fin 1 → ℕ) a + S1.size a ≤ S16.size a) (p : S1.Idx) :
    View.ld (iblk m c 0 t) (Rect.unit (s := S16) ![k] S1.size H) p = ((z k : ℝ) : EReal) := by
  have h1 : k + 1 ≤ 16 := H 0
  refine Eq.trans ?_ ((load_s m c t (⟨k, by omega⟩ : Fin 16)).trans (hz _))
  refine View.ld_unit_apply_of _ _ _ _ _ _ fun a => match a with
    | ⟨0, _⟩ => ?_
  have hp : (p 0 : ℕ) < 1 := (p 0).isLt
  show k = k + (p 0 : ℕ)
  omega

/-! ## Queries and sinks of four heads -/

section Four

variable (h : ℕ) (o0 o1 o2 o3 k0 k1 k2 k3 : ℕ) (e0 : o0 = h / 4 * 512) (e1 : o1 = h / 4 * 512 + 128) (e2 : o2 = h / 4 * 512 + 256)
  (e3 : o3 = h / 4 * 512 + 384) (f0 : k0 = h / 4 * 4) (f1 : k1 = h / 4 * 4 + 1) (f2 : k2 = h / 4 * 4 + 2) (f3 : k3 = h / 4 * 4 + 3)
  (H0 : ∀ a, (![0, o0] : Fin 2 → ℕ) a + S128x128.size a ≤ S128x2048.size a)
  (H1 : ∀ a, (![0, o1] : Fin 2 → ℕ) a + S128x128.size a ≤ S128x2048.size a)
  (H2 : ∀ a, (![0, o2] : Fin 2 → ℕ) a + S128x128.size a ≤ S128x2048.size a)
  (H3 : ∀ a, (![0, o3] : Fin 2 → ℕ) a + S128x128.size a ≤ S128x2048.size a)
  (K0 : ∀ a, (![k0] : Fin 1 → ℕ) a + S1.size a ≤ S16.size a) (K1 : ∀ a, (![k1] : Fin 1 → ℕ) a + S1.size a ≤ S16.size a)
  (K2 : ∀ a, (![k2] : Fin 1 → ℕ) a + S1.size a ≤ S16.size a) (K3 : ∀ a, (![k3] : Fin 1 → ℕ) a + S1.size a ≤ S16.size a)
  (p0 p1 p2 p3 : S1.Idx)

include hx e0 e1 e2 e3 in
theorem queries (i : Fin 128) (C : Fin 512) (hC : (C : ℕ) = h % 4 * 128 + i) (R : ℕ) (hR : R = qb t.val * 128 + i) (e : Fin 128) :
    k0_pay7 (View.ld (X0_1 m c t) (Rect.unit (s := S128x2048) ![0, o0] S128x128.size H0))
      (View.ld (X0_1 m c t) (Rect.unit (s := S128x2048) ![0, o1] S128x128.size H1))
      (View.ld (X0_1 m c t) (Rect.unit (s := S128x2048) ![0, o2] S128x128.size H2))
      (View.ld (X0_1 m c t) (Rect.unit (s := S128x2048) ![0, o3] S128x128.size H3)) (ix2 C e)
      = ((x R (h * 128 + e) : ℝ) : EReal) := by
  have hi := i.isLt
  rw [q4_at]
  split_ifs
  · exact ldq m c t x hx o0 H0 _ e R _ (by show R = qb t.val * 128 + (C : ℕ); omega) (by omega)
  · exact ldq m c t x hx o1 H1 _ e R _ (by show R = qb t.val * 128 + ((C : ℕ) - 128); omega) (by omega)
  · exact ldq m c t x hx o2 H2 _ e R _ (by show R = qb t.val * 128 + ((C : ℕ) - 128 - 128); omega) (by omega)
  · exact ldq m c t x hx o3 H3 _ e R _ (by show R = qb t.val * 128 + ((C : ℕ) - 128 - 128 - 128); omega) (by omega)

include hz f0 f1 f2 f3 in
theorem sinks (i : Fin 128) (C : Fin 512) (hC : (C : ℕ) = h % 4 * 128 + i) :
    k0_pay9 lanes (k0_pay8 (View.ld (iblk m c 0 t) (Rect.unit (s := S16) ![k0] S1.size K0) p0))
      (View.ld (iblk m c 0 t) (Rect.unit (s := S16) ![k1] S1.size K1) p1)
      (View.ld (iblk m c 0 t) (Rect.unit (s := S16) ![k2] S1.size K2) p2)
      (View.ld (iblk m c 0 t) (Rect.unit (s := S16) ![k3] S1.size K3) p3) (ix2 (0 : Fin 1) C)
      = Ideal.div ((z h : ℝ) : EReal) scaleWord := by
  have hi := i.isLt
  rw [sink_at, lds m c t z hz, lds m c t z hz, lds m c t z hz, lds m c t z hz]
  split_ifs
  · rw [show k3 = h by omega]
  · rw [show k2 = h by omega]
  · rw [show k1 = h by omega]
  · rw [show k0 = h by omega]

variable (ck cv : ℕ) (ec : ck = h / 4 * 128) (ev : cv = 512 + h / 4 * 128)
  (HC : ∀ a, (![0, ck] : Fin 2 → ℕ) a + S256x128.size a ≤ S256x1024.size a)
  (HV : ∀ a, (![0, cv] : Fin 2 → ℕ) a + S256x128.size a ≤ S256x1024.size a)

include hx hz e0 e1 e2 e3 f0 f1 f2 f3 ec ev in
theorem cell_ctx (hB : 32 ≤ t.val % 34) (i d : Fin 128) (C : Fin 512) (hC : (C : ℕ) = h % 4 * 128 + i) (R : ℕ)
    (hR : R = qb t.val * 128 + i) :
    ctx (View.ld (X0_1 m c t) (Rect.unit (s := S128x2048) ![0, o0] S128x128.size H0))
      (View.ld (X0_1 m c t) (Rect.unit (s := S128x2048) ![0, o1] S128x128.size H1))
      (View.ld (X0_1 m c t) (Rect.unit (s := S128x2048) ![0, o2] S128x128.size H2))
      (View.ld (X0_1 m c t) (Rect.unit (s := S128x2048) ![0, o3] S128x128.size H3))
      (View.ld (iblk m c 0 t) (Rect.unit (s := S16) ![k0] S1.size K0) p0)
      (View.ld (iblk m c 0 t) (Rect.unit (s := S16) ![k1] S1.size K1) p1)
      (View.ld (iblk m c 0 t) (Rect.unit (s := S16) ![k2] S1.size K2) p2)
      (View.ld (iblk m c 0 t) (Rect.unit (s := S16) ![k3] S1.size K3) p3)
      (View.ld (iblk m c 3 t) (Rect.unit (s := S256x1024) ![0, ck] S256x128.size HC))
      (View.ld (iblk m c 3 t) (Rect.unit (s := S256x1024) ![0, cv] S256x128.size HV)) (ix2 d C)
      = ((Win.out x z h R d : ℝ) : EReal) := by
  have hi := i.isLt
  have ht := t.isLt.trans_eq N_eq
  have hq : qb t.val = 64 + t.val / 34 * 2 + (t.val % 34 - 32) := by unfold qb; rw [if_neg (by omega)]
  rw [← Win.out_ctx x z (t.val / 34) h R d (by omega) (by omega)]
  exact ctx_at _ _ _ _ _ _ _ _ _ _ C d (fun e => x R (h * 128 + e)) (z h)
    (fun l e => x (8192 + t.val / 34 * 256 + l) (2048 + h / 4 * 128 + e))
    (fun l => x (8192 + t.val / 34 * 256 + l) (2560 + h / 4 * 128 + d))
    (fun e => queries m c t x hx h o0 o1 o2 o3 e0 e1 e2 e3 H0 H1 H2 H3 i C hC R hR e)
    (sinks m c t z hz h k0 k1 k2 k3 f0 f1 f2 f3 K0 K1 K2 K3 p0 p1 p2 p3 i C hC)
    (fun l e => ldc m c t x hx ck HC l e _ _ rfl (by omega)) (fun l => ldc m c t x hx cv HV l d _ _ rfl (by omega))

variable (okl ovl okm ovm okr ovr : Fin 2 → ℕ)
  (g1 : okl 0 = 128 * Win.lft (t.val % 34) ∧ okl 1 = h / 4 * 128) (g2 : ovl 0 = 128 * Win.lft (t.val % 34) ∧ ovl 1 = 512 + h / 4 * 128)
  (g3 : okm 0 = 128 * (t.val % 34) ∧ okm 1 = h / 4 * 128) (g4 : ovm 0 = 128 * (t.val % 34) ∧ ovm 1 = 512 + h / 4 * 128)
  (g5 : okr 0 = 128 * Win.rgt (t.val % 34) ∧ okr 1 = h / 4 * 128) (g6 : ovr 0 = 128 * Win.rgt (t.val % 34) ∧ ovr 1 = 512 + h / 4 * 128)
  (G1 : ∀ a, okl a + S128x128.size a ≤ S4096x1024.size a) (G2 : ∀ a, ovl a + S128x128.size a ≤ S4096x1024.size a)
  (G3 : ∀ a, okm a + S128x128.size a ≤ S4096x1024.size a) (G4 : ∀ a, ovm a + S128x128.size a ≤ S4096x1024.size a)
  (G5 : ∀ a, okr a + S128x128.size a ≤ S4096x1024.size a) (G6 : ∀ a, ovr a + S128x128.size a ≤ S4096x1024.size a)

include hx hz e0 e1 e2 e3 f0 f1 f2 f3 ec ev g1 g2 g3 g4 g5 g6 in
theorem cell_lat (hA : t.val % 34 ≤ 31) (i d : Fin 128) (C : Fin 512) (hC : (C : ℕ) = h % 4 * 128 + i) (R : ℕ)
    (hR : R = qb t.val * 128 + i) :
    lat (BitVec.ofNat 32 (grid0.coords t 1).val)
      (View.ld (X0_1 m c t) (Rect.unit (s := S128x2048) ![0, o0] S128x128.size H0))
      (View.ld (X0_1 m c t) (Rect.unit (s := S128x2048) ![0, o1] S128x128.size H1))
      (View.ld (X0_1 m c t) (Rect.unit (s := S128x2048) ![0, o2] S128x128.size H2))
      (View.ld (X0_1 m c t) (Rect.unit (s := S128x2048) ![0, o3] S128x128.size H3))
      (View.ld (iblk m c 0 t) (Rect.unit (s := S16) ![k0] S1.size K0) p0)
      (View.ld (iblk m c 0 t) (Rect.unit (s := S16) ![k1] S1.size K1) p1)
      (View.ld (iblk m c 0 t) (Rect.unit (s := S16) ![k2] S1.size K2) p2)
      (View.ld (iblk m c 0 t) (Rect.unit (s := S16) ![k3] S1.size K3) p3)
      (View.ld (iblk m c 3 t) (Rect.unit (s := S256x1024) ![0, ck] S256x128.size HC))
      (View.ld (iblk m c 3 t) (Rect.unit (s := S256x1024) ![0, cv] S256x128.size HV))
      (View.ld (X0_2 m c t) (Rect.unit (s := S4096x1024) okl S128x128.size G1))
      (View.ld (X0_2 m c t) (Rect.unit (s := S4096x1024) ovl S128x128.size G2))
      (View.ld (X0_2 m c t) (Rect.unit (s := S4096x1024) okm S128x128.size G3))
      (View.ld (X0_2 m c t) (Rect.unit (s := S4096x1024) ovm S128x128.size G4))
      (View.ld (X0_2 m c t) (Rect.unit (s := S4096x1024) okr S128x128.size G5))
      (View.ld (X0_2 m c t) (Rect.unit (s := S4096x1024) ovr S128x128.size G6)) (ix2 d C)
      = ((Win.out x z h R d : ℝ) : EReal) := by
  have hi := i.isLt
  have ht := t.isLt.trans_eq N_eq
  have hq : qb t.val = t.val / 34 * 32 + t.val % 34 := by unfold qb; rw [if_pos (by omega)]
  rw [← Win.out_lat x z (t.val / 34) (t.val % 34) i h R d (by omega) (by omega) hi (by omega), place t]
  obtain ⟨g1, g1'⟩ := g1
  obtain ⟨g2, g2'⟩ := g2
  obtain ⟨g3, g3'⟩ := g3
  obtain ⟨g4, g4'⟩ := g4
  obtain ⟨g5, g5'⟩ := g5
  obtain ⟨g6, g6'⟩ := g6
  exact lat_at _ _ _ _ _ _ _ _ _ _ _ _ _ _ _ _ C d (fun e => x R (h * 128 + e)) (z h)
    (fun l e => x (8192 + t.val / 34 * 256 + l) (2048 + h / 4 * 128 + e))
    (fun l => x (8192 + t.val / 34 * 256 + l) (2560 + h / 4 * 128 + d))
    (fun j e => x (t.val / 34 * 4096 + (128 * Win.lft (t.val % 34) + j)) (2048 + h / 4 * 128 + e))
    (fun j e => x (t.val / 34 * 4096 + (128 * (t.val % 34) + j)) (2048 + h / 4 * 128 + e))
    (fun j e => x (t.val / 34 * 4096 + (128 * Win.rgt (t.val % 34) + j)) (2048 + h / 4 * 128 + e))
    (fun j => x (t.val / 34 * 4096 + (128 * Win.lft (t.val % 34) + j)) (2560 + h / 4 * 128 + d))
    (fun j => x (t.val / 34 * 4096 + (128 * (t.val % 34) + j)) (2560 + h / 4 * 128 + d))
    (fun j => x (t.val / 34 * 4096 + (128 * Win.rgt (t.val % 34) + j)) (2560 + h / 4 * 128 + d))
    (⟨t.val % 34, by omega⟩ : Fin 32) i (by omega)
    (fun e => queries m c t x hx h o0 o1 o2 o3 e0 e1 e2 e3 H0 H1 H2 H3 i C hC R hR e)
    (sinks m c t z hz h k0 k1 k2 k3 f0 f1 f2 f3 K0 K1 K2 K3 p0 p1 p2 p3 i C hC)
    (fun l e => ldc m c t x hx ck HC l e _ _ rfl (by omega)) (fun l => ldc m c t x hx cv HV l d _ _ rfl (by omega))
    (fun l e => ldl m c t x hx okl G1 l e _ _ (by rw [g1]) (by omega)) (fun l => ldl m c t x hx ovl G2 l d _ _ (by rw [g2]) (by omega))
    (fun l e => ldl m c t x hx okm G3 l e _ _ (by rw [g3]) (by omega)) (fun l => ldl m c t x hx ovm G4 l d _ _ (by rw [g4]) (by omega))
    (fun l e => ldl m c t x hx okr G5 l e _ _ (by rw [g5]) (by omega)) (fun l => ldl m c t x hx ovr G6 l d _ _ (by rw [g6]) (by omega))

end Four

/-! ## The result -/

include hx hz

theorem point_lat (hA : t.val % 34 ≤ 31) (y : S128x2048.Idx) (R h : ℕ) (d : Fin 128) (hR : R = qb t.val * 128 + (y 0 : ℕ))
    (hC : (y 1 : ℕ) = h * 128 + d) : outsAt0 m c t.val t.isLt y = ((Win.out x z h R d : ℝ) : EReal) := by
  have hd := d.isLt
  rw [outsAt0_A m c t hA (by omega)]
  frame_out
  canon_tiles v w
  · have e1 : 15 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_lat m c t x z hx hz 15 1536 1664 1792 1920 12 13 14 15 rfl rfl rfl rfl rfl rfl rfl rfl _ _ _ _ _ _ _ _ _ _ _ _ 384 896 rfl rfl _ _ _ _ _ _ _ _ (off7 t hA).1 (off8 t hA).1 (off7 t hA).2.1 (off8 t hA).2.1 (off7 t hA).2.2 (off8 t hA).2.2 _ _ _ _ _ _ hA
      ⟨v 0, v0_lt⟩ ⟨v 1, v1_lt⟩ _ rfl R (by show R = _ + (v 0 : ℕ); omega))
  · have e1 : 14 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_lat m c t x z hx hz 14 1536 1664 1792 1920 12 13 14 15 rfl rfl rfl rfl rfl rfl rfl rfl _ _ _ _ _ _ _ _ _ _ _ _ 384 896 rfl rfl _ _ _ _ _ _ _ _ (off7 t hA).1 (off8 t hA).1 (off7 t hA).2.1 (off8 t hA).2.1 (off7 t hA).2.2 (off8 t hA).2.2 _ _ _ _ _ _ hA
      ⟨v 0, v0_lt⟩ ⟨v 1, v1_lt⟩ _ rfl R (by show R = _ + (v 0 : ℕ); omega))
  · have e1 : 13 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_lat m c t x z hx hz 13 1536 1664 1792 1920 12 13 14 15 rfl rfl rfl rfl rfl rfl rfl rfl _ _ _ _ _ _ _ _ _ _ _ _ 384 896 rfl rfl _ _ _ _ _ _ _ _ (off7 t hA).1 (off8 t hA).1 (off7 t hA).2.1 (off8 t hA).2.1 (off7 t hA).2.2 (off8 t hA).2.2 _ _ _ _ _ _ hA
      ⟨v 0, v0_lt⟩ ⟨v 1, v1_lt⟩ _ rfl R (by show R = _ + (v 0 : ℕ); omega))
  · have e1 : 12 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_lat m c t x z hx hz 12 1536 1664 1792 1920 12 13 14 15 rfl rfl rfl rfl rfl rfl rfl rfl _ _ _ _ _ _ _ _ _ _ _ _ 384 896 rfl rfl _ _ _ _ _ _ _ _ (off7 t hA).1 (off8 t hA).1 (off7 t hA).2.1 (off8 t hA).2.1 (off7 t hA).2.2 (off8 t hA).2.2 _ _ _ _ _ _ hA
      ⟨v 0, v0_lt⟩ ⟨v 1, v1_lt⟩ _ rfl R (by show R = _ + (v 0 : ℕ); omega))
  · have e1 : 11 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_lat m c t x z hx hz 11 1024 1152 1280 1408 8 9 10 11 rfl rfl rfl rfl rfl rfl rfl rfl _ _ _ _ _ _ _ _ _ _ _ _ 256 768 rfl rfl _ _ _ _ _ _ _ _ (off5 t hA).1 (off6 t hA).1 (off5 t hA).2.1 (off6 t hA).2.1 (off5 t hA).2.2 (off6 t hA).2.2 _ _ _ _ _ _ hA
      ⟨v 0, v0_lt⟩ ⟨v 1, v1_lt⟩ _ rfl R (by show R = _ + (v 0 : ℕ); omega))
  · have e1 : 10 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_lat m c t x z hx hz 10 1024 1152 1280 1408 8 9 10 11 rfl rfl rfl rfl rfl rfl rfl rfl _ _ _ _ _ _ _ _ _ _ _ _ 256 768 rfl rfl _ _ _ _ _ _ _ _ (off5 t hA).1 (off6 t hA).1 (off5 t hA).2.1 (off6 t hA).2.1 (off5 t hA).2.2 (off6 t hA).2.2 _ _ _ _ _ _ hA
      ⟨v 0, v0_lt⟩ ⟨v 1, v1_lt⟩ _ rfl R (by show R = _ + (v 0 : ℕ); omega))
  · have e1 : 9 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_lat m c t x z hx hz 9 1024 1152 1280 1408 8 9 10 11 rfl rfl rfl rfl rfl rfl rfl rfl _ _ _ _ _ _ _ _ _ _ _ _ 256 768 rfl rfl _ _ _ _ _ _ _ _ (off5 t hA).1 (off6 t hA).1 (off5 t hA).2.1 (off6 t hA).2.1 (off5 t hA).2.2 (off6 t hA).2.2 _ _ _ _ _ _ hA
      ⟨v 0, v0_lt⟩ ⟨v 1, v1_lt⟩ _ rfl R (by show R = _ + (v 0 : ℕ); omega))
  · have e1 : 8 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_lat m c t x z hx hz 8 1024 1152 1280 1408 8 9 10 11 rfl rfl rfl rfl rfl rfl rfl rfl _ _ _ _ _ _ _ _ _ _ _ _ 256 768 rfl rfl _ _ _ _ _ _ _ _ (off5 t hA).1 (off6 t hA).1 (off5 t hA).2.1 (off6 t hA).2.1 (off5 t hA).2.2 (off6 t hA).2.2 _ _ _ _ _ _ hA
      ⟨v 0, v0_lt⟩ ⟨v 1, v1_lt⟩ _ rfl R (by show R = _ + (v 0 : ℕ); omega))
  · have e1 : 7 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_lat m c t x z hx hz 7 512 640 768 896 4 5 6 7 rfl rfl rfl rfl rfl rfl rfl rfl _ _ _ _ _ _ _ _ _ _ _ _ 128 640 rfl rfl _ _ _ _ _ _ _ _ (off3 t hA).1 (off4 t hA).1 (off3 t hA).2.1 (off4 t hA).2.1 (off3 t hA).2.2 (off4 t hA).2.2 _ _ _ _ _ _ hA
      ⟨v 0, v0_lt⟩ ⟨v 1, v1_lt⟩ _ rfl R (by show R = _ + (v 0 : ℕ); omega))
  · have e1 : 6 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_lat m c t x z hx hz 6 512 640 768 896 4 5 6 7 rfl rfl rfl rfl rfl rfl rfl rfl _ _ _ _ _ _ _ _ _ _ _ _ 128 640 rfl rfl _ _ _ _ _ _ _ _ (off3 t hA).1 (off4 t hA).1 (off3 t hA).2.1 (off4 t hA).2.1 (off3 t hA).2.2 (off4 t hA).2.2 _ _ _ _ _ _ hA
      ⟨v 0, v0_lt⟩ ⟨v 1, v1_lt⟩ _ rfl R (by show R = _ + (v 0 : ℕ); omega))
  · have e1 : 5 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_lat m c t x z hx hz 5 512 640 768 896 4 5 6 7 rfl rfl rfl rfl rfl rfl rfl rfl _ _ _ _ _ _ _ _ _ _ _ _ 128 640 rfl rfl _ _ _ _ _ _ _ _ (off3 t hA).1 (off4 t hA).1 (off3 t hA).2.1 (off4 t hA).2.1 (off3 t hA).2.2 (off4 t hA).2.2 _ _ _ _ _ _ hA
      ⟨v 0, v0_lt⟩ ⟨v 1, v1_lt⟩ _ rfl R (by show R = _ + (v 0 : ℕ); omega))
  · have e1 : 4 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_lat m c t x z hx hz 4 512 640 768 896 4 5 6 7 rfl rfl rfl rfl rfl rfl rfl rfl _ _ _ _ _ _ _ _ _ _ _ _ 128 640 rfl rfl _ _ _ _ _ _ _ _ (off3 t hA).1 (off4 t hA).1 (off3 t hA).2.1 (off4 t hA).2.1 (off3 t hA).2.2 (off4 t hA).2.2 _ _ _ _ _ _ hA
      ⟨v 0, v0_lt⟩ ⟨v 1, v1_lt⟩ _ rfl R (by show R = _ + (v 0 : ℕ); omega))
  · have e1 : 3 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_lat m c t x z hx hz 3 0 128 256 384 0 1 2 3 rfl rfl rfl rfl rfl rfl rfl rfl _ _ _ _ _ _ _ _ _ _ _ _ 0 512 rfl rfl _ _ _ _ _ _ _ _ (off1 t hA).1 (off2 t hA).1 (off1 t hA).2.1 (off2 t hA).2.1 (off1 t hA).2.2 (off2 t hA).2.2 _ _ _ _ _ _ hA
      ⟨v 0, v0_lt⟩ ⟨v 1, v1_lt⟩ _ rfl R (by show R = _ + (v 0 : ℕ); omega))
  · have e1 : 2 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_lat m c t x z hx hz 2 0 128 256 384 0 1 2 3 rfl rfl rfl rfl rfl rfl rfl rfl _ _ _ _ _ _ _ _ _ _ _ _ 0 512 rfl rfl _ _ _ _ _ _ _ _ (off1 t hA).1 (off2 t hA).1 (off1 t hA).2.1 (off2 t hA).2.1 (off1 t hA).2.2 (off2 t hA).2.2 _ _ _ _ _ _ hA
      ⟨v 0, v0_lt⟩ ⟨v 1, v1_lt⟩ _ rfl R (by show R = _ + (v 0 : ℕ); omega))
  · have e1 : 1 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_lat m c t x z hx hz 1 0 128 256 384 0 1 2 3 rfl rfl rfl rfl rfl rfl rfl rfl _ _ _ _ _ _ _ _ _ _ _ _ 0 512 rfl rfl _ _ _ _ _ _ _ _ (off1 t hA).1 (off2 t hA).1 (off1 t hA).2.1 (off2 t hA).2.1 (off1 t hA).2.2 (off2 t hA).2.2 _ _ _ _ _ _ hA
      ⟨v 0, v0_lt⟩ ⟨v 1, v1_lt⟩ _ rfl R (by show R = _ + (v 0 : ℕ); omega))
  · have e1 : 0 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_lat m c t x z hx hz 0 0 128 256 384 0 1 2 3 rfl rfl rfl rfl rfl rfl rfl rfl _ _ _ _ _ _ _ _ _ _ _ _ 0 512 rfl rfl _ _ _ _ _ _ _ _ (off1 t hA).1 (off2 t hA).1 (off1 t hA).2.1 (off2 t hA).2.1 (off1 t hA).2.2 (off2 t hA).2.2 _ _ _ _ _ _ hA
      ⟨v 0, v0_lt⟩ ⟨v 1, v1_lt⟩ _ rfl R (by show R = _ + (v 0 : ℕ); omega))

theorem point_ctx (hA : 32 ≤ t.val % 34) (y : S128x2048.Idx) (R h : ℕ) (d : Fin 128) (hR : R = qb t.val * 128 + (y 0 : ℕ))
    (hC : (y 1 : ℕ) = h * 128 + d) : outsAt0 m c t.val t.isLt y = ((Win.out x z h R d : ℝ) : EReal) := by
  have hd := d.isLt
  rw [outsAt0_B m c t (by omega) hA]
  frame_out
  canon_tiles v w
  · have e1 : 15 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_ctx m c t x z hx hz 15 1536 1664 1792 1920 12 13 14 15 rfl rfl rfl rfl rfl rfl rfl rfl _ _ _ _ _ _ _ _ _ _ _ _ 384 896 rfl rfl _ _ hA
      ⟨v 0, v0_lt⟩ ⟨v 1, v1_lt⟩ _ rfl R (by show R = _ + (v 0 : ℕ); omega))
  · have e1 : 14 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_ctx m c t x z hx hz 14 1536 1664 1792 1920 12 13 14 15 rfl rfl rfl rfl rfl rfl rfl rfl _ _ _ _ _ _ _ _ _ _ _ _ 384 896 rfl rfl _ _ hA
      ⟨v 0, v0_lt⟩ ⟨v 1, v1_lt⟩ _ rfl R (by show R = _ + (v 0 : ℕ); omega))
  · have e1 : 13 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_ctx m c t x z hx hz 13 1536 1664 1792 1920 12 13 14 15 rfl rfl rfl rfl rfl rfl rfl rfl _ _ _ _ _ _ _ _ _ _ _ _ 384 896 rfl rfl _ _ hA
      ⟨v 0, v0_lt⟩ ⟨v 1, v1_lt⟩ _ rfl R (by show R = _ + (v 0 : ℕ); omega))
  · have e1 : 12 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_ctx m c t x z hx hz 12 1536 1664 1792 1920 12 13 14 15 rfl rfl rfl rfl rfl rfl rfl rfl _ _ _ _ _ _ _ _ _ _ _ _ 384 896 rfl rfl _ _ hA
      ⟨v 0, v0_lt⟩ ⟨v 1, v1_lt⟩ _ rfl R (by show R = _ + (v 0 : ℕ); omega))
  · have e1 : 11 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_ctx m c t x z hx hz 11 1024 1152 1280 1408 8 9 10 11 rfl rfl rfl rfl rfl rfl rfl rfl _ _ _ _ _ _ _ _ _ _ _ _ 256 768 rfl rfl _ _ hA
      ⟨v 0, v0_lt⟩ ⟨v 1, v1_lt⟩ _ rfl R (by show R = _ + (v 0 : ℕ); omega))
  · have e1 : 10 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_ctx m c t x z hx hz 10 1024 1152 1280 1408 8 9 10 11 rfl rfl rfl rfl rfl rfl rfl rfl _ _ _ _ _ _ _ _ _ _ _ _ 256 768 rfl rfl _ _ hA
      ⟨v 0, v0_lt⟩ ⟨v 1, v1_lt⟩ _ rfl R (by show R = _ + (v 0 : ℕ); omega))
  · have e1 : 9 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_ctx m c t x z hx hz 9 1024 1152 1280 1408 8 9 10 11 rfl rfl rfl rfl rfl rfl rfl rfl _ _ _ _ _ _ _ _ _ _ _ _ 256 768 rfl rfl _ _ hA
      ⟨v 0, v0_lt⟩ ⟨v 1, v1_lt⟩ _ rfl R (by show R = _ + (v 0 : ℕ); omega))
  · have e1 : 8 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_ctx m c t x z hx hz 8 1024 1152 1280 1408 8 9 10 11 rfl rfl rfl rfl rfl rfl rfl rfl _ _ _ _ _ _ _ _ _ _ _ _ 256 768 rfl rfl _ _ hA
      ⟨v 0, v0_lt⟩ ⟨v 1, v1_lt⟩ _ rfl R (by show R = _ + (v 0 : ℕ); omega))
  · have e1 : 7 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_ctx m c t x z hx hz 7 512 640 768 896 4 5 6 7 rfl rfl rfl rfl rfl rfl rfl rfl _ _ _ _ _ _ _ _ _ _ _ _ 128 640 rfl rfl _ _ hA
      ⟨v 0, v0_lt⟩ ⟨v 1, v1_lt⟩ _ rfl R (by show R = _ + (v 0 : ℕ); omega))
  · have e1 : 6 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_ctx m c t x z hx hz 6 512 640 768 896 4 5 6 7 rfl rfl rfl rfl rfl rfl rfl rfl _ _ _ _ _ _ _ _ _ _ _ _ 128 640 rfl rfl _ _ hA
      ⟨v 0, v0_lt⟩ ⟨v 1, v1_lt⟩ _ rfl R (by show R = _ + (v 0 : ℕ); omega))
  · have e1 : 5 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_ctx m c t x z hx hz 5 512 640 768 896 4 5 6 7 rfl rfl rfl rfl rfl rfl rfl rfl _ _ _ _ _ _ _ _ _ _ _ _ 128 640 rfl rfl _ _ hA
      ⟨v 0, v0_lt⟩ ⟨v 1, v1_lt⟩ _ rfl R (by show R = _ + (v 0 : ℕ); omega))
  · have e1 : 4 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_ctx m c t x z hx hz 4 512 640 768 896 4 5 6 7 rfl rfl rfl rfl rfl rfl rfl rfl _ _ _ _ _ _ _ _ _ _ _ _ 128 640 rfl rfl _ _ hA
      ⟨v 0, v0_lt⟩ ⟨v 1, v1_lt⟩ _ rfl R (by show R = _ + (v 0 : ℕ); omega))
  · have e1 : 3 = h := by omega
    have e2 : (⟨v 1, v1_lt⟩ : Fin 128) = d := Fin.ext (by show (v 1 : ℕ) = d; omega)
    subst e1
    rw [eq_ix2 v, ← e2]
    exact (tile3_at _ ⟨v 0, v0_lt⟩ ⟨v 1, v1_lt⟩).trans (cell_ctx m c t x z hx hz 3 0 128 256 384 0 1 2 3 rfl rfl rfl rfl rfl rfl rfl rfl _ _ _ _ _ _ _ _ _ _ _ _ 0 512 rfl rfl _ _ hA
      ⟨v 0, v0_lt⟩ ⟨v 1, v1_lt⟩ _ rfl R (by show R = _ + (v 0 : ℕ); omega))
  · have e1 : 2 = h := by omega
    have e2 : (⟨v 1, v1_lt⟩ : Fin 128) = d := Fin.ext (by show (v 1 : ℕ) = d; omega)
    subst e1
    rw [eq_ix2 v, ← e2]
    exact (tile2_at _ ⟨v 0, v0_lt⟩ ⟨v 1, v1_lt⟩).trans (cell_ctx m c t x z hx hz 2 0 128 256 384 0 1 2 3 rfl rfl rfl rfl rfl rfl rfl rfl _ _ _ _ _ _ _ _ _ _ _ _ 0 512 rfl rfl _ _ hA
      ⟨v 0, v0_lt⟩ ⟨v 1, v1_lt⟩ _ rfl R (by show R = _ + (v 0 : ℕ); omega))
  · have e1 : 1 = h := by omega
    have e2 : (⟨v 1, v1_lt⟩ : Fin 128) = d := Fin.ext (by show (v 1 : ℕ) = d; omega)
    subst e1
    rw [eq_ix2 v, ← e2]
    exact (tile1_at _ ⟨v 0, v0_lt⟩ ⟨v 1, v1_lt⟩).trans (cell_ctx m c t x z hx hz 1 0 128 256 384 0 1 2 3 rfl rfl rfl rfl rfl rfl rfl rfl _ _ _ _ _ _ _ _ _ _ _ _ 0 512 rfl rfl _ _ hA
      ⟨v 0, v0_lt⟩ ⟨v 1, v1_lt⟩ _ rfl R (by show R = _ + (v 0 : ℕ); omega))
  · have e1 : 0 = h := by omega
    have e2 : (⟨v 1, v1_lt⟩ : Fin 128) = d := Fin.ext (by show (v 1 : ℕ) = d; omega)
    subst e1
    rw [eq_ix2 v, ← e2]
    exact (tile0_at _ ⟨v 0, v0_lt⟩ ⟨v 1, v1_lt⟩).trans (cell_ctx m c t x z hx hz 0 0 128 256 384 0 1 2 3 rfl rfl rfl rfl rfl rfl rfl rfl _ _ _ _ _ _ _ _ _ _ _ _ 0 512 rfl rfl _ _ hA
      ⟨v 0, v0_lt⟩ ⟨v 1, v1_lt⟩ _ rfl R (by show R = _ + (v 0 : ℕ); omega))

theorem final : (dats m 0 c).arrAt 4 (cfgs 0).N
    = fun i => ((Win.out x z ((i 1 : ℕ) / 128) (i 0) ((i 1 : ℕ) % 128) : ℝ) : EReal) := by
  refine (dats m 0 c).arrAt_eq_of_covers 4 _ (by decide +kernel) fun t hf y => ?_
  have e0 : (((cfg0.win 4).blk t).view.emb y 0 : ℕ) = qb t.val * 128 + (y 0 : ℕ) := by blk_simp [idx t]
  have e1 : (((cfg0.win 4).blk t).view.emb y 1 : ℕ) = (y 1 : ℕ) := by blk_simp [idx t]
  have key : outsAt0 m c t.val t.isLt y = ((Win.out x z ((((cfg0.win 4).blk t).view.emb y 1 : ℕ) / 128)
      (((cfg0.win 4).blk t).view.emb y 0) ((((cfg0.win 4).blk t).view.emb y 1 : ℕ) % 128) : ℝ) : EReal) := by
    rw [e0, e1]
    rcases Nat.lt_or_ge 31 (t.val % 34) with hA | hA
    · exact point_ctx m c t x z hx hz hA y _ _ ⟨(y 1 : ℕ) % 128, by omega⟩ rfl (by show (y 1 : ℕ) = (y 1 : ℕ) / 128 * 128 + (y 1 : ℕ) % 128; omega)
    · exact point_lat m c t x z hx hz hA y _ _ ⟨(y 1 : ℕ) % 128, by omega⟩ rfl (by show (y 1 : ℕ) = (y 1 : ℕ) / 128 * 128 + (y 1 : ℕ) % 128; omega)
  refine Eq.trans ?_ key
  blk_simp
  rw [after0_4]

end Cert.Kernel10Ideal.Val

end
-- ==== Proof.Win.Ref.lean ====
/- The reference's stages and its result, for real arguments. -/
module

public import proofs.«01_k».proof.Proof.Gen.Reference10Ideal.Read
public import proofs.«01_k».proof.Proof.Win.Spec
public import Idealize.ShloMosaic.Lib.Pipeline.ValueKit
public import Idealize.ShloMosaic.Lib.Pointwise

@[expose] public section

set_option maxRecDepth 16384

noncomputable section

namespace Cert.Reference10Ideal.Ref

open Cert.Reference10Ideal Cert.Reference10Ideal.Gen Cert.Reference10Ideal.Read Idealize.ShloMosaic Idealize.ShloMosaic.TcCoe
open Attn

theorem scale : Ideal.ofBits .f32 0x3DB504F3#32 = ((σ : ℝ) : EReal) := by
  simp [Ideal.ofBits, Ideal.ieee, σ, -EReal.coe_mul]
  norm_num

theorem exp_real (a : ℝ) : Ideal.exp (a : EReal) = ((Real.exp a : ℝ) : EReal) := Ideal.exp_coe a

theorem word_zero : FloatOps.sitofp (F := Ideal) .f32 0#32 = ((0 : ℝ) : EReal) := by
  show (((0#32 : BitVec 32).toInt : ℝ) : EReal) = _
  simp

/-! ## The mask -/

theorem up : ∀ d : Fin 4096, IntOp.cmpi .sle (IntOp.absi (BitVec.ofNat 32 d)) 128#32 = 1#1 ↔ (d : ℕ) ≤ 128 := by decide +kernel

theorem down : ∀ d : Fin 4096, IntOp.cmpi .sle (IntOp.absi (-BitVec.ofNat 32 d)) 128#32 = 1#1 ↔ (d : ℕ) ≤ 128 := by decide +kernel

theorem near_bits (i k : Fin 4096) :
    IntOp.cmpi .sle (IntOp.absi (IntOp.subi (BitVec.ofNat 32 i) (BitVec.ofNat 32 k))) 128#32 = 1#1 ↔ Win.near i k := by
  have hi := i.isLt
  have hk := k.isLt
  unfold Win.near
  rcases Nat.le_total (k : ℕ) i with h | h
  · have e : IntOp.subi (BitVec.ofNat 32 i) (BitVec.ofNat 32 k) = BitVec.ofNat 32 ((i : ℕ) - k) := by
      apply BitVec.eq_of_toNat_eq
      show (BitVec.ofNat 32 i - BitVec.ofNat 32 k).toNat = _
      simp only [BitVec.toNat_sub, BitVec.toNat_ofNat]
      omega
    rw [e]
    exact (up ⟨(i : ℕ) - k, by omega⟩).trans (by show (i : ℕ) - k ≤ 128 ↔ _; omega)
  · have e : IntOp.subi (BitVec.ofNat 32 i) (BitVec.ofNat 32 k) = -BitVec.ofNat 32 ((k : ℕ) - i) := by
      apply BitVec.eq_of_toNat_eq
      show (BitVec.ofNat 32 i - BitVec.ofNat 32 k).toNat = _
      simp only [BitVec.toNat_sub, BitVec.toNat_neg, BitVec.toNat_ofNat]
      omega
    rw [e]
    exact (down ⟨(k : ℕ) - i, by omega⟩).trans (by show (k : ℕ) - i ≤ 128 ↔ _; omega)

variable (X : FVec Ideal S8704x3072 .bf16) (x : ℕ → ℕ → ℝ) (Z : FVec Ideal S2x16 .f32) (z : ℕ → ℝ)

section
variable (hx : ∀ (R : Fin 8704) (C : Fin 3072), X (ix2 R C) = ((x R C : ℝ) : EReal))
variable (hz : ∀ k : Fin 16, Z (ix2 (0 : Fin 2) k) = ((z k : ℝ) : EReal))

include hx in
theorem entry (R : Fin 8704) (C : Fin 3072) (R' C' : ℕ) (hR : (R : ℕ) = R') (hC : (C : ℕ) = C') : X (ix2 R C) = ((x R' C' : ℝ) : EReal) := by
  subst hR hC
  exact hx R C

/-! ## Queries, keys and values -/

include hx in
theorem q_at (b : Fin 2) (q : Fin 4096) (k g : Fin 4) (e : Fin 128) :
    val_main_v6 (F := Ideal) X (ix5 b q k g e) = ((x (b * 4096 + q) ((4 * k + g) * 128 + e) : ℝ) : EReal) := by
  pointwise [val_main_v6, val_main_v5, val_main_v2, val_main_v1, val_main_v0]
  exact entry X x hx _ _ _ _ (by dsimp only <;> omega) (by dsimp only <;> omega)

include hx in
theorem k_at (b : Fin 2) (j : Fin 4096) (k : Fin 4) (e : Fin 128) :
    val_main_v8 (F := Ideal) X (ix4 b j k e) = ((x (b * 4096 + j) (2048 + k * 128 + e) : ℝ) : EReal) := by
  pointwise [val_main_v8, val_main_v7, val_main_v2, val_main_v1, val_main_v0]
  exact entry X x hx _ _ _ _ (by dsimp only <;> omega) (by dsimp only <;> omega)

include hx in
theorem v_at (b : Fin 2) (j : Fin 4096) (k : Fin 4) (e : Fin 128) :
    val_main_v10 (F := Ideal) X (ix4 b j k e) = ((x (b * 4096 + j) (2560 + k * 128 + e) : ℝ) : EReal) := by
  pointwise [val_main_v10, val_main_v9, val_main_v2, val_main_v1, val_main_v0]
  exact entry X x hx _ _ _ _ (by dsimp only <;> omega) (by dsimp only <;> omega)

include hx in
theorem qc_at (b : Fin 2) (q : Fin 256) (k g : Fin 4) (e : Fin 128) :
    val_main_v12 (F := Ideal) X (ix5 b q k g e) = ((x (8192 + b * 256 + q) ((4 * k + g) * 128 + e) : ℝ) : EReal) := by
  pointwise [val_main_v12, val_main_v11, val_main_v4, val_main_v3, val_main_v0]
  exact entry X x hx _ _ _ _ (by dsimp only <;> omega) (by dsimp only <;> omega)

include hx in
theorem kc_at (b : Fin 2) (j : Fin 256) (k : Fin 4) (e : Fin 128) :
    val_main_v14 (F := Ideal) X (ix4 b j k e) = ((x (8192 + b * 256 + j) (2048 + k * 128 + e) : ℝ) : EReal) := by
  pointwise [val_main_v14, val_main_v13, val_main_v4, val_main_v3, val_main_v0]
  exact entry X x hx _ _ _ _ (by dsimp only <;> omega) (by dsimp only <;> omega)

include hx in
theorem vc_at (b : Fin 2) (j : Fin 256) (k : Fin 4) (e : Fin 128) :
    val_main_v16 (F := Ideal) X (ix4 b j k e) = ((x (8192 + b * 256 + j) (2560 + k * 128 + e) : ℝ) : EReal) := by
  pointwise [val_main_v16, val_main_v15, val_main_v4, val_main_v3, val_main_v0]
  exact entry X x hx _ _ _ _ (by dsimp only <;> omega) (by dsimp only <;> omega)

include hz in
theorem sink_at (k g : Fin 4) :
    val_main_v30 (F := Ideal) Z (ix4 (0 : Fin 1) k g (0 : Fin 1)) = ((Real.exp (z (4 * k + g)) : ℝ) : EReal) := by
  have e : val_main_v27 (F := Ideal) Z (ix1 (⟨4 * k + g, by omega⟩ : Fin 16)) = ((z (4 * k + g) : ℝ) : EReal) := by
    refine Eq.trans ?_ (hz ⟨4 * k + g, by omega⟩)
    rw [val_main_v27_apply, val_main_v26_apply]
    refine congrArg Z (funext fun a => ?_)
    match a with
    | ⟨0, _⟩ => rfl
    | ⟨1, _⟩ => exact Fin.ext (by show (4 * (k : ℕ) + g) % 16 = 4 * (k : ℕ) + g; omega)
  have i : idx_main_v29 (idx_main_v30 (ix4 (0 : Fin 1) k g (0 : Fin 1))) = ix1 (⟨4 * k + g, by omega⟩ : Fin 16) := by
    funext a
    match a with
    | ⟨0, _⟩ => exact Fin.ext (by show (k : ℕ) * 4 + g = 4 * (k : ℕ) + g; omega)
  rw [val_main_v30_apply, val_main_v29_apply, val_main_v28_apply, i, e]
  exact exp_real _

/-! ## Weights -/

/-- The product of a key and a query. -/
theorem product (h R j : ℕ) (K Q : Fin 128 → EReal) (hK : ∀ e, K e = ((x j (2048 + h / 4 * 128 + e) : ℝ) : EReal))
    (hQ : ∀ e, Q e = ((x R (h * 128 + e) : ℝ) : EReal)) : Ideal.exp ((∑ e, K e * Q e) * Ideal.ofBits .f32 0x3DB504F3#32) = ((Win.wt x h R j : ℝ) : EReal) := by
  have e : ∑ e, K e * Q e = ((Win.score x h R j : ℝ) : EReal) := by
    unfold Win.score
    rw [← coe_sum]
    exact Finset.sum_congr rfl fun e _ => by rw [hK, hQ, EReal.coe_mul]
  rw [e, scale, ← EReal.coe_mul, exp_real]
  rfl

include hx in
theorem wC_at (b : Fin 2) (k g : Fin 4) (q : Fin 4096) (l : Fin 256) :
    val_main_v35 (F := Ideal) X (ix5 b k g q l) = ((Win.wt x (4 * k + g) (b * 4096 + q) (8192 + b * 256 + l) : ℝ) : EReal) := by
  have e : (4 * (k : ℕ) + g) / 4 = k := by omega
  rw [val_main_v35_apply, val_main_v34_apply, val_main_v33_apply, val_main_v32_apply, val_main_v31_apply, val_main_cst_apply]
  exact product x (4 * k + g) _ _ _ _ (fun d => (kc_at X x hx b l k d).trans (by rw [e])) (fun d => q_at X x hx b q k g d)

include hx in
theorem wL_at (b : Fin 2) (k g : Fin 4) (q j : Fin 4096) :
    val_main_v40 (F := Ideal) X (ix5 b k g q j) = ((Win.wt x (4 * k + g) (b * 4096 + q) (b * 4096 + j) : ℝ) : EReal) := by
  have e : (4 * (k : ℕ) + g) / 4 = k := by omega
  rw [val_main_v40_apply, val_main_v39_apply, val_main_v38_apply, val_main_v37_apply, val_main_v36_apply, val_main_cst_0_apply]
  exact product x (4 * k + g) _ _ _ _ (fun d => (k_at X x hx b j k d).trans (by rw [e])) (fun d => q_at X x hx b q k g d)

include hx in
theorem wX_at (b : Fin 2) (k g : Fin 4) (q l : Fin 256) :
    val_main_v59 (F := Ideal) X (ix5 b k g q l) = ((Win.wt x (4 * k + g) (8192 + b * 256 + q) (8192 + b * 256 + l) : ℝ) : EReal) := by
  have e : (4 * (k : ℕ) + g) / 4 = k := by omega
  rw [val_main_v59_apply, val_main_v58_apply, val_main_v57_apply, val_main_v56_apply, val_main_v55_apply, val_main_cst_4_apply]
  exact product x (4 * k + g) _ _ _ _ (fun d => (kc_at X x hx b l k d).trans (by rw [e])) (fun d => qc_at X x hx b q k g d)

theorem mask_at (q j : Fin 4096) : val_main_v25 (F := Ideal) (ix2 q j) = 1#1 ↔ Win.near q j := by
  rw [← near_bits, val_main_v25_apply, val_main_v24_apply, val_main_v23_apply, val_main_v22_apply, val_main_v21_apply,
    val_main_v20_apply, val_main_v19_apply, val_main_v18_apply, val_main_v17_apply, val_main_v17_apply, val_main_c_apply]
  rfl

include hx in
theorem wM_at (b : Fin 2) (k g : Fin 4) (q j : Fin 4096) :
    val_main_v41 (F := Ideal) X (ix5 b k g q j)
      = (((if Win.near q j then Win.wt x (4 * k + g) (b * 4096 + q) (b * 4096 + j) else 0 : ℝ)) : EReal) := by
  have i : idx_main_call0_v1 (ix5 b k g q j) = ix2 q j := by
    funext a
    match a with
    | ⟨0, _⟩ => rfl
    | ⟨1, _⟩ => rfl
  rw [val_main_v41_apply, val_main_call0_v1_apply, val_main_call0_v2_apply, val_main_call0_v0_apply, val_main_c_1_apply, i,
    wL_at X x hx, word_zero]
  by_cases h : Win.near q j
  · rw [if_pos h]
    exact if_pos ((mask_at q j).mpr h)
  · rw [if_neg h]
    exact if_neg fun h' => h ((mask_at q j).mp h')

/-! ## Denominators and numerators -/

theorem plus_zero (s : EReal) : Ideal.ofBits .f32 0x00000000#32 + s = s := by rw [Ideal.ofBits_zero_f32, zero_add]

include hx hz in
theorem den_at (b : Fin 2) (k g : Fin 4) (q : Fin 4096) :
    val_main_v46 (F := Ideal) X Z (ix4 b k g q) = ((Real.exp (z (4 * k + g)) + Win.denC x (4 * k + g) (b * 4096 + q) b
      + Win.denL x (4 * k + g) (b * 4096 + q) b q : ℝ) : EReal) := by
  have i0 : ∀ l : Fin 256, idx_main_v42 (ix4 b k g q) l = ix5 b k g q l := fun l => by
    funext a
    match a with
    | ⟨0, _⟩ => rfl
    | ⟨1, _⟩ => rfl
    | ⟨2, _⟩ => rfl
    | ⟨3, _⟩ => rfl
    | ⟨4, _⟩ => rfl
  have i1 : ∀ l : Fin 4096, idx_main_v45 (ix4 b k g q) l = ix5 b k g q l := fun l => by
    funext a
    match a with
    | ⟨0, _⟩ => rfl
    | ⟨1, _⟩ => rfl
    | ⟨2, _⟩ => rfl
    | ⟨3, _⟩ => rfl
    | ⟨4, _⟩ => rfl
  have i2 : idx_main_v43 (ix4 b k g q) = ix4 (0 : Fin 1) k g (0 : Fin 1) := by
    funext a
    match a with
    | ⟨0, _⟩ => rfl
    | ⟨1, _⟩ => rfl
    | ⟨2, _⟩ => rfl
    | ⟨3, _⟩ => rfl
  have h1 : val_main_v42 (F := Ideal) X (ix4 b k g q) = ((Win.denC x (4 * k + g) (b * 4096 + q) b : ℝ) : EReal) := by
    rw [val_main_v42_apply]
    refine (plus_zero _).trans ?_
    unfold Win.denC
    rw [← coe_sum]
    exact Finset.sum_congr rfl fun l _ => by rw [i0, wC_at X x hx]
  have h2 : val_main_v45 (F := Ideal) X (ix4 b k g q) = ((Win.denL x (4 * k + g) (b * 4096 + q) b q : ℝ) : EReal) := by
    rw [val_main_v45_apply]
    refine (plus_zero _).trans ?_
    unfold Win.denL
    rw [← coe_sum]
    exact Finset.sum_congr rfl fun l _ => by rw [i1, wM_at X x hx]
  rw [val_main_v46_apply, val_main_v44_apply, val_main_v43_apply, i2, sink_at Z z hz, h1, h2, EReal.coe_add, EReal.coe_add]
  rfl

include hx in
theorem num_at (b : Fin 2) (k g : Fin 4) (q : Fin 4096) (e : Fin 128) :
    val_main_v49 (F := Ideal) X (ix5 b k g q e) = ((Win.numC x (4 * k + g) (b * 4096 + q) b e
      + Win.numL x (4 * k + g) (b * 4096 + q) b q e : ℝ) : EReal) := by
  have eh : (4 * (k : ℕ) + g) / 4 = k := by omega
  have i0 : ∀ l : Fin 256, lidx_main_v47 (ix5 b k g q e) l = ix5 b k g q l := fun l => by
    funext a
    match a with
    | ⟨0, _⟩ => rfl
    | ⟨1, _⟩ => rfl
    | ⟨2, _⟩ => rfl
    | ⟨3, _⟩ => rfl
    | ⟨4, _⟩ => rfl
  have j0 : ∀ l : Fin 256, ridx_main_v47 (ix5 b k g q e) l = ix4 b l k e := fun l => by
    funext a
    match a with
    | ⟨0, _⟩ => rfl
    | ⟨1, _⟩ => rfl
    | ⟨2, _⟩ => rfl
    | ⟨3, _⟩ => rfl
  have i1 : ∀ l : Fin 4096, lidx_main_v48 (ix5 b k g q e) l = ix5 b k g q l := fun l => by
    funext a
    match a with
    | ⟨0, _⟩ => rfl
    | ⟨1, _⟩ => rfl
    | ⟨2, _⟩ => rfl
    | ⟨3, _⟩ => rfl
    | ⟨4, _⟩ => rfl
  have j1 : ∀ l : Fin 4096, ridx_main_v48 (ix5 b k g q e) l = ix4 b l k e := fun l => by
    funext a
    match a with
    | ⟨0, _⟩ => rfl
    | ⟨1, _⟩ => rfl
    | ⟨2, _⟩ => rfl
    | ⟨3, _⟩ => rfl
  have h1 : val_main_v47 (F := Ideal) X (ix5 b k g q e) = ((Win.numC x (4 * k + g) (b * 4096 + q) b e : ℝ) : EReal) := by
    rw [val_main_v47_apply]
    unfold Win.numC Win.val
    rw [← coe_sum, eh]
    exact Finset.sum_congr rfl fun l _ => by rw [i0, j0, wC_at X x hx, vc_at X x hx, EReal.coe_mul, mul_comm]
  have h2 : val_main_v48 (F := Ideal) X (ix5 b k g q e) = ((Win.numL x (4 * k + g) (b * 4096 + q) b q e : ℝ) : EReal) := by
    rw [val_main_v48_apply]
    unfold Win.numL Win.val
    rw [← coe_sum, eh]
    refine Finset.sum_congr rfl fun l _ => ?_
    rw [i1, j1, wM_at X x hx, v_at X x hx, ← EReal.coe_mul, ite_mul, zero_mul, mul_comm]
  rw [val_main_v49_apply, h1, h2, EReal.coe_add]
  rfl

include hx hz in
theorem lat_at (b : Fin 2) (k g : Fin 4) (q : Fin 4096) (e : Fin 128) :
    val_main_v52 (F := Ideal) X Z (ix5 b k g q e) = ((Win.out x z (4 * k + g) (b * 4096 + q) e : ℝ) : EReal) := by
  have i : idx_main_v50 (idx_main_v51 (ix5 b k g q e)) = ix4 b k g q := by
    funext a
    match a with
    | ⟨0, _⟩ => rfl
    | ⟨1, _⟩ => rfl
    | ⟨2, _⟩ => rfl
    | ⟨3, _⟩ => rfl
  have e1 : ((b : ℕ) * 4096 + q) / 4096 = b := by omega
  have e2 : ((b : ℕ) * 4096 + q) % 4096 = q := by omega
  rw [val_main_v52_apply, val_main_v51_apply, val_main_v50_apply, i, den_at X x Z z hx hz, num_at X x hx]
  unfold Win.out
  rw [if_pos (by omega : (b : ℕ) * 4096 + q < 8192), e1, e2]
  exact div_real _ _ (add_pos_of_pos_of_nonneg (add_pos_of_pos_of_nonneg (Real.exp_pos _) (Win.denC_nonneg x _ _ _))
    (Win.denL_nonneg x _ _ _ _))

include hx hz in
theorem ctx_at (b : Fin 2) (k g : Fin 4) (q : Fin 256) (e : Fin 128) :
    val_main_v66 (F := Ideal) X Z (ix5 b k g q e) = ((Win.out x z (4 * k + g) (8192 + b * 256 + q) e : ℝ) : EReal) := by
  have eh : (4 * (k : ℕ) + g) / 4 = k := by omega
  have i : idx_main_v64 (idx_main_v65 (ix5 b k g q e)) = ix4 b k g q := by
    funext a
    match a with
    | ⟨0, _⟩ => rfl
    | ⟨1, _⟩ => rfl
    | ⟨2, _⟩ => rfl
    | ⟨3, _⟩ => rfl
  have i0 : ∀ l : Fin 256, lidx_main_v60 (ix5 b k g q e) l = ix5 b k g q l := fun l => by
    funext a
    match a with
    | ⟨0, _⟩ => rfl
    | ⟨1, _⟩ => rfl
    | ⟨2, _⟩ => rfl
    | ⟨3, _⟩ => rfl
    | ⟨4, _⟩ => rfl
  have j0 : ∀ l : Fin 256, ridx_main_v60 (ix5 b k g q e) l = ix4 b l k e := fun l => by
    funext a
    match a with
    | ⟨0, _⟩ => rfl
    | ⟨1, _⟩ => rfl
    | ⟨2, _⟩ => rfl
    | ⟨3, _⟩ => rfl
  have i1 : ∀ l : Fin 256, idx_main_v61 (ix4 b k g q) l = ix5 b k g q l := fun l => by
    funext a
    match a with
    | ⟨0, _⟩ => rfl
    | ⟨1, _⟩ => rfl
    | ⟨2, _⟩ => rfl
    | ⟨3, _⟩ => rfl
    | ⟨4, _⟩ => rfl
  have i2 : idx_main_v62 (ix4 b k g q) = ix4 (0 : Fin 1) k g (0 : Fin 1) := by
    funext a
    match a with
    | ⟨0, _⟩ => rfl
    | ⟨1, _⟩ => rfl
    | ⟨2, _⟩ => rfl
    | ⟨3, _⟩ => rfl
  have h1 : val_main_v61 (F := Ideal) X (ix4 b k g q) = ((Win.denC x (4 * k + g) (8192 + b * 256 + q) b : ℝ) : EReal) := by
    rw [val_main_v61_apply]
    refine (plus_zero _).trans ?_
    unfold Win.denC
    rw [← coe_sum]
    exact Finset.sum_congr rfl fun l _ => by rw [i1, wX_at X x hx]
  have h2 : val_main_v60 (F := Ideal) X (ix5 b k g q e) = ((Win.numC x (4 * k + g) (8192 + b * 256 + q) b e : ℝ) : EReal) := by
    rw [val_main_v60_apply]
    unfold Win.numC Win.val
    rw [← coe_sum, eh]
    exact Finset.sum_congr rfl fun l _ => by rw [i0, j0, wX_at X x hx, vc_at X x hx, EReal.coe_mul, mul_comm]
  have h3 : val_main_v63 (F := Ideal) X Z (ix4 b k g q)
      = ((Real.exp (z (4 * k + g)) + Win.denC x (4 * k + g) (8192 + b * 256 + q) b : ℝ) : EReal) := by
    rw [val_main_v63_apply, val_main_v62_apply, i2, sink_at Z z hz, h1, EReal.coe_add]
    rfl
  have e1 : (8192 + (b : ℕ) * 256 + q - 8192) / 256 = b := by omega
  rw [val_main_v66_apply, val_main_v65_apply, val_main_v64_apply, i, h3, h2]
  unfold Win.out
  rw [if_neg (by omega : ¬8192 + (b : ℕ) * 256 + q < 8192), e1]
  exact div_real _ _ (add_pos_of_pos_of_nonneg (Real.exp_pos _) (Win.denC_nonneg x _ _ _))

/-! ## The result -/

include hx hz in
theorem low_at (R : Fin 8192) (C : Fin 2048) :
    val_main_v54 (F := Ideal) X Z (ix2 R C) = ((Win.out x z ((C : ℕ) / 128) R ((C : ℕ) % 128) : ℝ) : EReal) := by
  have i : idx_main_v53 (idx_main_v54 (ix2 R C)) = ix5 (⟨(R : ℕ) / 4096, by omega⟩ : Fin 2) (⟨(C : ℕ) / 512, by omega⟩ : Fin 4)
      (⟨(C : ℕ) / 128 % 4, by omega⟩ : Fin 4) (⟨(R : ℕ) % 4096, by omega⟩ : Fin 4096) (⟨(C : ℕ) % 128, by omega⟩ : Fin 128) := by
    funext a
    match a with
    | ⟨0, _⟩ => exact Fin.ext (by show ((R : ℕ) * 2048 + C) / 8388608 = (R : ℕ) / 4096; omega)
    | ⟨1, _⟩ => exact Fin.ext (by show ((R : ℕ) * 2048 + C) / 512 % 4 = (C : ℕ) / 512; omega)
    | ⟨2, _⟩ => exact Fin.ext (by show ((R : ℕ) * 2048 + C) / 128 % 4 = (C : ℕ) / 128 % 4; omega)
    | ⟨3, _⟩ => exact Fin.ext (by show ((R : ℕ) * 2048 + C) / 2048 % 4096 = (R : ℕ) % 4096; omega)
    | ⟨4, _⟩ => exact Fin.ext (by show ((R : ℕ) * 2048 + C) % 128 = (C : ℕ) % 128; omega)
  rw [val_main_v54_apply, val_main_v53_apply, i, lat_at X x Z z hx hz]
  show ((Win.out x z (4 * ((C : ℕ) / 512) + (C : ℕ) / 128 % 4) ((R : ℕ) / 4096 * 4096 + (R : ℕ) % 4096) ((C : ℕ) % 128) : ℝ) : EReal) = _
  rw [show 4 * ((C : ℕ) / 512) + (C : ℕ) / 128 % 4 = (C : ℕ) / 128 by omega, show (R : ℕ) / 4096 * 4096 + (R : ℕ) % 4096 = R by omega]

include hx hz in
theorem high_at (R : Fin 512) (C : Fin 2048) :
    val_main_v68 (F := Ideal) X Z (ix2 R C) = ((Win.out x z ((C : ℕ) / 128) (8192 + R) ((C : ℕ) % 128) : ℝ) : EReal) := by
  have i : idx_main_v67 (idx_main_v68 (ix2 R C)) = ix5 (⟨(R : ℕ) / 256, by omega⟩ : Fin 2) (⟨(C : ℕ) / 512, by omega⟩ : Fin 4)
      (⟨(C : ℕ) / 128 % 4, by omega⟩ : Fin 4) (⟨(R : ℕ) % 256, by omega⟩ : Fin 256) (⟨(C : ℕ) % 128, by omega⟩ : Fin 128) := by
    funext a
    match a with
    | ⟨0, _⟩ => exact Fin.ext (by show ((R : ℕ) * 2048 + C) / 524288 = (R : ℕ) / 256; omega)
    | ⟨1, _⟩ => exact Fin.ext (by show ((R : ℕ) * 2048 + C) / 512 % 4 = (C : ℕ) / 512; omega)
    | ⟨2, _⟩ => exact Fin.ext (by show ((R : ℕ) * 2048 + C) / 128 % 4 = (C : ℕ) / 128 % 4; omega)
    | ⟨3, _⟩ => exact Fin.ext (by show ((R : ℕ) * 2048 + C) / 2048 % 256 = (R : ℕ) % 256; omega)
    | ⟨4, _⟩ => exact Fin.ext (by show ((R : ℕ) * 2048 + C) % 128 = (C : ℕ) % 128; omega)
  rw [val_main_v68_apply, val_main_v67_apply, i, ctx_at X x Z z hx hz]
  show ((Win.out x z (4 * ((C : ℕ) / 512) + (C : ℕ) / 128 % 4) (8192 + (R : ℕ) / 256 * 256 + (R : ℕ) % 256) ((C : ℕ) % 128) : ℝ) : EReal) = _
  rw [show 4 * ((C : ℕ) / 512) + (C : ℕ) / 128 % 4 = (C : ℕ) / 128 by omega, show 8192 + (R : ℕ) / 256 * 256 + (R : ℕ) % 256 = 8192 + R by omega]

/-- Two arrays put one below the other. -/
theorem below (Y : FVec Ideal S8192x2048 .f32) (W : FVec Ideal S512x2048 .f32) (R : Fin 8704) (C : Fin 2048) :
    concatenate S8704x2048 0 [⟨S8192x2048, Y⟩, ⟨S512x2048, W⟩] concatenates_S8192x2048_S512x2048_S8704x2048_d0 (ix2 R C)
      = if h : (R : ℕ) < 8192 then Y (ix2 ⟨R, h⟩ C) else W (ix2 ⟨R - 8192, by omega⟩ C) := by
  pointwise []

include hx hz in
theorem out_at (R : Fin 8704) (C : Fin 2048) :
    val_main_v70 (F := Ideal) X Z (ix2 R C) = ((Win.out x z ((C : ℕ) / 128) R ((C : ℕ) % 128) : ℝ) : EReal) := by
  rw [val_main_v70_apply]
  show val_main_v69 (F := Ideal) X Z (ix2 R C) = _
  unfold val_main_v69
  rw [below]
  by_cases h : (R : ℕ) < 8192
  · rw [dif_pos h, low_at X x Z z hx hz]
  · rw [dif_neg h, high_at X x Z z hx hz]
    show ((Win.out x z _ (8192 + ((R : ℕ) - 8192)) _ : ℝ) : EReal) = _
    rw [show 8192 + ((R : ℕ) - 8192) = R by omega]

end

end Cert.Reference10Ideal.Ref

end
-- ==== Proof.Win.Claims.lean ====
module
public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Pre_finite10
public import proofs.«01_k».proof.Proof.Attn.Finite
public import proofs.«01_k».proof.Proof.Win.Value
public import proofs.«01_k».proof.Proof.Win.Ref
public import Idealize.ShloMosaic.Lib.Claim
public import Idealize.ShloMosaic.Lib.Quiescent
@[expose] public section
/-! The claims of the windowed attention. -/
set_option maxRecDepth 32768

noncomputable section

open Idealize.ShloMosaic Idealize.ShloMosaic.TcCoe Idealize.SL.Sem

namespace Win

open Cert.Pre_finite10 Cert.Pre_finite10.Gen

variable (X : FVec Ideal S8704x3072 .bf16) (Z : FVec Ideal S2x16 .f32)

/-- The real numbers of the projections, by position. -/
def table (i j : ℕ) : ℝ := if h : i < 8704 ∧ j < 3072 then (X (ix2 ⟨i, h.1⟩ ⟨j, h.2⟩)).toReal else 0

/-- The real numbers of the first layer's sinks. -/
def sinks (k : ℕ) : ℝ := if h : k < 16 then (Z (ix2 (0 : Fin 2) ⟨k, h⟩)).toReal else 0

theorem table_at (h : (fn (F := Ideal) X Z).1 = fun _ => 1#1) (R : Fin 8704) (C : Fin 3072) :
    X (ix2 R C) = ((table X R C : ℝ) : EReal) := by
  rw [table, dif_pos ⟨R.isLt, C.isLt⟩]
  exact Attn.real_of_test _ (congrFun h _)

theorem sinks_at (h : (fn (F := Ideal) X Z).2 = fun _ => 1#1) (k : Fin 16) : Z (ix2 (0 : Fin 2) k) = ((sinks Z k : ℝ) : EReal) := by
  rw [sinks, dif_pos k.isLt]
  exact Attn.real_of_test _ (congrFun h _)

end Win

namespace Cert.Reference10Ideal.Ref

open Cert.Reference10Ideal Cert.Reference10Ideal.Gen Cert.Reference10Ideal.Read

/-- The reference's result array, for real arguments. -/
theorem result (X : FVec Ideal S8704x3072 .bf16) (Z : FVec Ideal S2x16 .f32) (x : ℕ → ℕ → ℝ) (z : ℕ → ℝ)
    (hx : ∀ (R : Fin 8704) (C : Fin 3072), X (ix2 R C) = ((x R C : ℝ) : EReal))
    (hz : ∀ k : Fin 16, Z (ix2 (0 : Fin 2) k) = ((z k : ℝ) : EReal)) :
    val_main_v70 (F := Ideal) X Z = fun i => ((Win.out x z ((i 1 : ℕ) / 128) (i 0) ((i 1 : ℕ) % 128) : ℝ) : EReal) := by
  funext i
  rw [eq_ix2 i]
  exact out_at X x Z z hx hz (i 0) (i 1)

end Cert.Reference10Ideal.Ref

namespace Cert.Proof.WinClaims

theorem frame_p : Cert.quiescent_Kernel10 := fun m ρ _ => Cert.Kernel10.Gen.frame m ρ
theorem frame_pi : Cert.quiescent_Kernel10Ideal := fun m ρ _ => Cert.Kernel10Ideal.Gen.frame m ρ
theorem frame_pi' : Cert.quiescent_Kernel10Ideal_pre_finite10 := fun m ρ _ => Cert.Kernel10Ideal.Gen.frame m ρ

theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem frame_ri' : Cert.quiescent_Reference10Ideal_pre_finite10 := fun m ρ _ => frame_ri m ρ trivial

/-- The named constants are the mask, which is minus infinity, and the scale in base two. -/
theorem preserves : Cert.preserves_Kernel10_Kernel10Ideal :=
  ⟨IdealRules.named_const.statement Cert.Kernel10Ideal.κ "mask" .f32 _ _ rfl,
    IdealRules.named_const.statement Cert.Kernel10Ideal.κ "expo" .f32 _ _ rfl⟩

/-- The kernel's attention and the reference's are one function of real arguments. -/
theorem algebraic : Cert.algebraic_Kernel10Ideal_Reference10Ideal_pre_finite10 := by
  pair_intro
  · run_from Cert.Kernel10Ideal.Gen.run_main m g
  · run_from Cert.Reference10Ideal.Value.run m' g'
    obtain ⟨a0, a1⟩ := hagree c
    obtain ⟨p0, p1⟩ := hpre c
    refine (Cert.Reference10Ideal.Read.val_main_v70_eq m' c).trans ?_
    show Cert.Reference10Ideal.Read.val_main_v70 (F := Ideal) (m' ((c.tc : Thread _ _).loc Cert.Reference10Ideal.main_arg0))
      (m' ((c.tc : Thread _ _).loc Cert.Reference10Ideal.main_arg1)) = _
    rw [a0, a1]
    refine (Cert.Reference10Ideal.Ref.result _ _ _ _ (Win.table_at _ _ p0) (Win.sinks_at _ _ p1)).trans ?_
    exact (Cert.Kernel10Ideal.Val.final m c _ _ (Win.table_at _ _ p0) (Win.sinks_at _ _ p1)).symm

end Cert.Proof.WinClaims

end
-- ==== Proof.Ada.Spec.lean ====
/- The modulation vectors: what one entry is, and its sum in pieces. -/
module

public import Idealize.ShloMosaic.PureOps
public import Idealize.ShloMosaic.Lib.ValueIdx
public import Mathlib.Algebra.BigOperators.Fin

@[expose] public section

noncomputable section

namespace Ada

open Idealize.ShloMosaic

/-- One product of an entry: a conditioning number, gated by its own logistic, times its weight; nothing past the last. -/
def term (x : Fin 2048 → EReal) (w : Fin 2048 → EReal) (j : ℕ) : EReal :=
  if h : j < 2048 then x ⟨j, h⟩ * Ideal.logistic (x ⟨j, h⟩) * w ⟨j, h⟩ else 0

/-- One entry of the modulation vectors: the bias plus the gated conditioning row times a column. -/
def entry (x w : Fin 2048 → EReal) (b : EReal) : EReal := b + ∑ k : Fin 2048, x k * Ideal.logistic (x k) * w k

/-- A sum over blocks of 128 is one sum. -/
theorem blocks (f : ℕ → EReal) (n : ℕ) :
    ∑ s ∈ Finset.range n, ∑ k : Fin 128, f (s * 128 + k) = ∑ j ∈ Finset.range (n * 128), f j := by
  induction n with
  | zero => simp
  | succ n ih =>
    rw [Finset.sum_range_succ, ih, Nat.succ_mul, Finset.sum_range_add, Finset.sum_range (fun x => f (n * 128 + x))]

/-- Sixteen blocks of an entry's products, on top of the bias, are the entry. -/
theorem entry_eq (x w : Fin 2048 → EReal) (b : EReal) :
    b + ∑ s ∈ Finset.range 16, ∑ k : Fin 128, term x w (s * 128 + k) = entry x w b := by
  rw [blocks, Finset.sum_range]
  refine congrArg (b + ·) (Finset.sum_congr rfl fun k _ => ?_)
  exact dif_pos k.isLt

end Ada

end
-- ==== Proof.Ada.Value.lean ====
/-
What the call that makes the modulation vectors computes.

Grid point `t` of 64 is layer `t / 16` at inputs `t % 16 * 128` on: the bias first, then one block's products on top of
what the points before left.
-/
module

public import proofs.«01_k».proof.Proof.Gen.Kernel11Ideal.Value
public import proofs.«01_k».proof.Proof.Ada.Spec
public import Idealize.ShloMosaic.Lib.Pipeline.ValueKit
public import Idealize.ShloMosaic.Lib.StableHlo.RunRead
public import Idealize.ShloMosaic.Lib.Pointwise
public import Idealize.ShloMosaic.Lib.Claim

@[expose] public section

set_option maxRecDepth 16384

noncomputable section

namespace Cert.Kernel11Ideal.Val

open Cert.Kernel11Ideal Cert.Kernel11Ideal.Gen Idealize.ShloMosaic Idealize.ShloMosaic.TcCoe Idealize.SL.Sem
open Idealize.ShloMosaic.Pipeline (Dat)

theorem idx : ∀ t : Fin cfg0.N, win0_0.index t = ![0, t.val % 16] ∧ win0_1.index t = ![t.val / 16, t.val % 16, 0]
    ∧ win0_2.index t = ![t.val / 16, 0, 0] :=
  (by decide +kernel : ∀ t : Fin grid0.N, _)

/-- The bias, spread over the rows. -/
theorem pay1_at (b : Vec Ideal S1x1x18432 .f32) (r : Fin 8) (C : Fin 18432) :
    k0_pay1 b (ix3 (0 : Fin 1) r C) = b (ix3 (0 : Fin 1) (0 : Fin 1) C) := by
  pointwise [k0_pay1]

/-- One block's products on top of what was there. -/
theorem pay2_at (x : Vec Ideal S8x128 .f32) (y : Vec Ideal S1x8x18432 .f32) (w : Vec Ideal S1x128x18432 .f32) (r : Fin 8)
    (C : Fin 18432) :
    k0_pay2 x y w (ix3 (0 : Fin 1) r C)
      = y (ix3 (0 : Fin 1) r C)
        + ∑ k : Fin 128, x (ix2 r k) * Ideal.logistic (x (ix2 r k)) * w (ix3 (0 : Fin 1) k C) := by
  pointwise [k0_pay2]

variable (m : (ℓ : Loc nD τ sig) → Buf (Elt Ideal) ℓ) (c : Dev nD)

/-- The bias as the host code hands it over. -/
theorem bias (l : Fin 4) (C : Fin 18432) :
    V m c main_v0 (ix3 l (0 : Fin 1) C) = m ((c : Thread nD τ).loc main_arg2) (ix2 l C) := by
  unfold V
  after_reads_simp
  pointwise

theorem load_x (t : Fin cfg0.N) (r : Fin 8) (k : Fin 128) (K : Fin 2048) (hK : (K : ℕ) = t.val % 16 * 128 + k) :
    iblk m c 0 t (ix2 r k) = m ((c : Thread nD τ).loc main_arg0) (ix2 r K) := by
  rw [← V_main_arg0 m c]
  unfold iblk
  generalize V m c = W
  blk_point [idx t]

theorem load_w (t : Fin cfg0.N) (k : Fin 128) (C : Fin 18432) (l : Fin 4) (K : Fin 2048) (hl : (l : ℕ) = t.val / 16)
    (hK : (K : ℕ) = t.val % 16 * 128 + k) :
    iblk m c 1 t (ix3 (0 : Fin 1) k C) = m ((c : Thread nD τ).loc main_arg1) (ix3 l K C) := by
  rw [← V_main_arg1 m c]
  unfold iblk
  generalize V m c = W
  blk_point [idx t]

theorem load_b (t : Fin cfg0.N) (C : Fin 18432) (l : Fin 4) (hl : (l : ℕ) = t.val / 16) :
    iblk m c 2 t (ix3 (0 : Fin 1) (0 : Fin 1) C) = m ((c : Thread nD τ).loc main_arg2) (ix2 l C) := by
  rw [← bias m c]
  unfold iblk
  generalize V m c = W
  blk_point [idx t]

/-- The conditioning row, the column and the bias of an entry. -/
abbrev row (r : Fin 8) (k : Fin 2048) : EReal := m ((c : Thread nD τ).loc main_arg0) (ix2 r k)
abbrev col (l : Fin 4) (C : Fin 18432) (k : Fin 2048) : EReal := m ((c : Thread nD τ).loc main_arg1) (ix3 l k C)
abbrev off (l : Fin 4) (C : Fin 18432) : EReal := m ((c : Thread nD τ).loc main_arg2) (ix2 l C)

/-- What a point adds, its blocks being the row's and the column's. -/
theorem added (x : Vec Ideal S8x128 .f32) (w : Vec Ideal S1x128x18432 .f32) (l : Fin 4) (s : ℕ) (hs : s < 16) (r : Fin 8)
    (C : Fin 18432)
    (hx : ∀ (k : Fin 128) (K : Fin 2048), (K : ℕ) = s * 128 + k → x (ix2 r k) = row m c r K)
    (hw : ∀ (k : Fin 128) (K : Fin 2048), (K : ℕ) = s * 128 + k → w (ix3 (0 : Fin 1) k C) = col m c l C K) :
    (∑ k : Fin 128, x (ix2 r k) * Ideal.logistic (x (ix2 r k)) * w (ix3 (0 : Fin 1) k C))
      = ∑ k : Fin 128, Ada.term (row m c r) (col m c l C) (s * 128 + k) := by
  refine Finset.sum_congr rfl fun k _ => ?_
  have h : s * 128 + (k : ℕ) < 2048 := by omega
  rw [Ada.term, dif_pos h, hx k ⟨_, h⟩ rfl, hw k ⟨_, h⟩ rfl]

/-- What point `n` of a layer adds. -/
theorem added_at (n : ℕ) (h : n < cfg0.N) (l : Fin 4) (h1 : 16 * (l : ℕ) ≤ n) (h2 : n ≤ 16 * (l : ℕ) + 15) (r : Fin 8)
    (C : Fin 18432) (y : Vec Ideal S1x8x18432 .f32) :
    k0_pay2 (iblk m c 0 ⟨n, h⟩) y (iblk m c 1 ⟨n, h⟩) (ix3 (0 : Fin 1) r C)
      = y (ix3 (0 : Fin 1) r C)
        + ∑ k : Fin 128, Ada.term (row m c r) (col m c l C) ((n - 16 * (l : ℕ)) * 128 + k) := by
  refine (pay2_at _ _ _ r C).trans (congrArg (fun b : EReal => y (ix3 (0 : Fin 1) r C) + b) ?_)
  refine added m c _ _ l _ (by omega) r C (fun k K hK => ?_) (fun k K hK => ?_)
  · exact load_x m c ⟨n, h⟩ r k K (by rw [hK]; show _ = n % 16 * 128 + k; omega)
  · exact load_w m c ⟨n, h⟩ k C l K (by show (l : ℕ) = n / 16; omega) (by rw [hK]; show _ = n % 16 * 128 + k; omega)

/-- What a layer's sixteen points leave. -/
theorem fold (l : Fin 4) (h : 16 * (l : ℕ) + 15 < cfg0.N) (r : Fin 8) (C : Fin 18432) :
    Pipeline.accAt (Value.reset3 m c) (Value.step3 m c) (16 * (l : ℕ)) 15 h (ix3 (0 : Fin 1) r C)
      = Ada.entry (row m c r) (col m c l C) (off m c l C) := by
  have hN : cfg0.N = 64 := N_0
  refine (Pipeline.accAt_add_apply (Value.reset3 m c) (Value.step3 m c) (fun i => off m c l (i 2))
    (fun n i => ∑ k : Fin 128, Ada.term (row m c (i 1)) (col m c l (i 2)) ((n - 16 * (l : ℕ)) * 128 + k))
    (16 * (l : ℕ)) 15 ?_ ?_ 15 le_rfl h (ix3 (0 : Fin 1) r C)).trans ?_
  · intro h i
    obtain ⟨r, C, rfl⟩ : ∃ (r : Fin 8) (C : Fin 18432), i = ix3 (0 : Fin 1) r C :=
      ⟨i 1, i 2, (eq_ix3 i).trans (by rw [Subsingleton.elim (α := Fin 1) (i 0) 0])⟩
    refine (added_at m c _ h l le_rfl (by omega) r C _).trans (congrArg (fun b : EReal => b + _) ?_)
    exact (pay1_at _ r C).trans (load_b m c ⟨_, h⟩ C l (by show (l : ℕ) = 16 * (l : ℕ) / 16; omega))
  · intro n h acc i h1 h2
    obtain ⟨r, C, rfl⟩ : ∃ (r : Fin 8) (C : Fin 18432), i = ix3 (0 : Fin 1) r C :=
      ⟨i 1, i 2, (eq_ix3 i).trans (by rw [Subsingleton.elim (α := Fin 1) (i 0) 0])⟩
    exact added_at m c n h l (by omega) h2 r C acc
  · rw [← Ada.entry_eq]
    refine congrArg (fun b : EReal => off m c l C + b) (Finset.sum_congr rfl fun s _ => ?_)
    rw [Nat.add_sub_cancel_left]
    rfl

/-- The whole result, of the kernel's arguments. -/
theorem final : Value.G3 m c
    = fun i => Ada.entry (row m c (i 1)) (col m c (i 0) (i 2)) (off m c (i 0) (i 2)) := by
  have hN : cfg0.N = 64 := N_0
  funext i
  obtain ⟨l, r, C, rfl⟩ : ∃ (l : Fin 4) (r : Fin 8) (C : Fin 18432), i = ix3 l r C := ⟨i 0, i 1, i 2, eq_ix3 i⟩
  have hrun : Value.run3Of (ix3 l r C) = l := by
    show 1 * ((l : ℕ) / 1 - 0) + 1 * ((r : ℕ) / 8 - 0) + 1 * ((C : ℕ) / 18432 - 0) = l
    omega
  have hloc : Value.loc3Of (ix3 l r C) = ix3 (0 : Fin 1) r C := by
    funext a
    match a with
    | ⟨0, _⟩ => exact Subsingleton.elim (α := Fin 1) _ _
    | ⟨1, _⟩ => exact Fin.ext (by show (r : ℕ) % 8 = r; omega)
    | ⟨2, _⟩ => exact Fin.ext (by show (C : ℕ) % 18432 = C; omega)
  have hb : 16 * (l : ℕ) + 15 < cfg0.N := by omega
  have e : ∀ (n : ℕ) (h : 16 * n + 15 < cfg0.N) (i : S1x8x18432.Idx), n = l → i = ix3 (0 : Fin 1) r C →
      Pipeline.accAt (Value.reset3 m c) (Value.step3 m c) (16 * n) 15 h i
        = Ada.entry (row m c r) (col m c l C) (off m c l C) := by
    intro n h i hn hi
    subst hn hi
    exact fold m c l h r C
  exact (dif_pos (by rw [hrun]; exact hb)).trans (e _ (by rw [hrun]; exact hb) _ hrun hloc)

end Cert.Kernel11Ideal.Val

end
-- ==== Proof.Ada.Ref.lean ====
/- What the reference of the modulation vectors computes, read at an index. -/
module

public import proofs.«01_k».proof.Proof.Gen.Reference11Ideal.Read
public import proofs.«01_k».proof.Proof.Ada.Spec
public import Idealize.ShloMosaic.Lib.Pointwise

@[expose] public section

set_option maxRecDepth 16384

noncomputable section

namespace Cert.Reference11Ideal.Ref

open Cert.Reference11Ideal Cert.Reference11Ideal.Gen Cert.Reference11Ideal.Read Idealize.ShloMosaic Idealize.ShloMosaic.TcCoe

variable (x : FVec Ideal S8x2048 .f32) (w : FVec Ideal S4x2048x18432 .f32) (b : FVec Ideal S4x18432 .f32)

/-- The gated conditioning row. -/
theorem gated_at (r : Fin 8) (k : Fin 2048) :
    val_main_v0 (F := Ideal) x (ix2 r k) = x (ix2 r k) * Ideal.logistic (x (ix2 r k)) := by
  rw [val_main_v0_apply, val_main_call0_v5_apply, val_main_call0_v4_apply,
    val_main_call0_v3_apply, val_main_call0_v2_apply, val_main_call0_v1_apply, val_main_call0_v0_apply,
    val_main_call0_cst_apply, val_main_call0_cst_0_apply, Ideal.logistic]
  pointwise

/-- The result. -/
theorem result : val_main_v5 (F := Ideal) x w b
    = fun i => Ada.entry (fun k => x (ix2 (i 1) k)) (fun k => w (ix3 (i 0) k (i 2))) (b (ix2 (i 0) (i 2))) := by
  funext i
  obtain ⟨l, r, C, rfl⟩ : ∃ (l : Fin 4) (r : Fin 8) (C : Fin 18432), i = ix3 l r C := ⟨i 0, i 1, i 2, eq_ix3 i⟩
  have hb : val_main_v4 (F := Ideal) b (ix3 l r C) = b (ix2 l C) := by
    pointwise [val_main_v4, val_main_v3]
  have hs : val_main_v2 (F := Ideal) x w (ix3 l r C)
      = ∑ k : Fin 2048, (w (ix3 l k C) : EReal) * (val_main_v0 (F := Ideal) x (ix2 r k) : EReal) := by
    unfold val_main_v2 val_main_v1
    generalize val_main_v0 (F := Ideal) x = y
    pointwise
  rw [val_main_v5_apply, hb, hs]
  show (∑ k : Fin 2048, (w (ix3 l k C) : EReal) * (val_main_v0 (F := Ideal) x (ix2 r k) : EReal)) + b (ix2 l C) = _
  rw [add_comm]
  refine congrArg (fun y : EReal => b (ix2 l C) + y) (Finset.sum_congr rfl fun k _ => ?_)
  rw [gated_at, mul_comm]
  rfl

end Cert.Reference11Ideal.Ref

end
-- ==== Proof.Ada.Claims.lean ====
module
public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Ada.Value
public import proofs.«01_k».proof.Proof.Ada.Ref
public import Idealize.ShloMosaic.Lib.Claim
public import Idealize.ShloMosaic.Lib.Quiescent
@[expose] public section
/-! The claims of the modulation vectors. -/
set_option maxRecDepth 32768

noncomputable section

open Idealize.ShloMosaic Idealize.ShloMosaic.TcCoe Idealize.SL.Sem

namespace Cert.Proof.AdaClaims

theorem frame_p : Cert.quiescent_Kernel11 := fun m ρ _ => Cert.Kernel11.Gen.frame m ρ
theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem preserves : Cert.preserves_Kernel11_Kernel11Ideal := trivial

/-- The kernel's result is the reference's. -/
theorem algebraic : Cert.algebraic_Kernel11Ideal_Reference11Ideal := by
  pair_intro
  · run_from Cert.Kernel11Ideal.Value.run m g
  · run_from Cert.Reference11Ideal.Value.run m' g'
    · exact (Cert.Reference11Ideal.Ref.result _ _ _).trans (Cert.Kernel11Ideal.Val.final m c).symm

end Cert.Proof.AdaClaims

end
-- ==== Proof.Pre.Params.lean ====
/- The parameter rows that the host code gathers for the first pre-norm, read at the row the call uses. -/
module

public import proofs.«01_k».proof.Proof.Gen.Kernel12Ideal.Frame
public import Idealize.ShloMosaic.Lib.StableHlo.RunRead
public import Idealize.ShloMosaic.Lib.Pointwise
public import Idealize.ShloMosaic.Lib.Claim

@[expose] public section

set_option maxRecDepth 32768

noncomputable section

namespace Cert.Kernel12Ideal.Val

open Cert.Kernel12Ideal Cert.Kernel12Ideal.Gen Idealize.ShloMosaic Idealize.ShloMosaic.TcCoe Idealize.SL.Sem

/-- The first of thirteen joined arrays. -/
theorem pick_zero (y0 y1 y2 y3 y4 y5 y6 y7 y8 y9 y10 y11 y12 : FVec Ideal S1x3x8x2048 .f32) (g : Fin 3) (r : Fin 8) (e : Fin 2048) :
    concatenate S13x3x8x2048 0 [⟨S1x3x8x2048, y0⟩, ⟨S1x3x8x2048, y1⟩, ⟨S1x3x8x2048, y2⟩, ⟨S1x3x8x2048, y3⟩, ⟨S1x3x8x2048, y4⟩, ⟨S1x3x8x2048, y5⟩, ⟨S1x3x8x2048, y6⟩, ⟨S1x3x8x2048, y7⟩, ⟨S1x3x8x2048, y8⟩, ⟨S1x3x8x2048, y9⟩, ⟨S1x3x8x2048, y10⟩, ⟨S1x3x8x2048, y11⟩, ⟨S1x3x8x2048, y12⟩]
      concatenates_S1x3x8x2048_S1x3x8x2048_S1x3x8x2048_S1x3x8x2048_S1x3x8x2048_S1x3x8x2048_S1x3x8x2048_S1x3x8x2048_S1x3x8x2048_S1x3x8x2048_S1x3x8x2048_S1x3x8x2048_S1x3x8x2048_S13x3x8x2048_d0 (ix4 (0 : Fin 13) g r e) = y0 (ix4 (0 : Fin 1) g r e) := by
  pointwise []

variable (m : (ℓ : Loc nD τ sig) → Buf (Elt Ideal) ℓ)

/-- The call's parameter rows are the first of the gathered ones. -/
theorem gathered (c : Dev nD) (g : Fin 3) (r : Fin 8) (e : Fin 2048) :
    V m c main_v279 (ix4 (0 : Fin 13) g r e) = V m c main_v266 (ix4 (0 : Fin 1) g r e) := by
  unfold V
  generalize (fun b => m (c, b)) = W
  simp (disch := decide) only [StableHlo.readAfter, StableHlo.readUpto, StableHlo.nary_result']
  exact pick_zero _ _ _ _ _ _ _ _ _ _ _ _ _ g r e

/-- Row 2: the norm's factors. -/
theorem pre_row (c : Dev nD) (g : Fin 3) (e : Fin 2048) :
    V m c main_v266 (ix4 (0 : Fin 1) g (2 : Fin 8) e)
      = m ((c : Thread nD τ).loc main_arg3) (ix3 (0 : Fin 4) (0 : Fin 6) e) := by
  unfold V
  after_reads_simp
  pointwise
  after_reads_simp
  pointwise

/-- Row 3: the modulation's scale. -/
theorem scale_row (c : Dev nD) (g : Fin 3) (e : Fin 2048) :
    V m c main_v266 (ix4 (0 : Fin 1) g (3 : Fin 8) e)
      = m ((c : Thread nD τ).loc main_arg2) (ix3 (0 : Fin 4) (⟨g, by omega⟩ : Fin 8) (⟨2048 + e, by omega⟩ : Fin 18432)) := by
  unfold V
  after_reads_simp
  pointwise
  after_reads_simp
  pointwise

/-- Row 4: the modulation's shift. -/
theorem shift_row (c : Dev nD) (g : Fin 3) (e : Fin 2048) :
    V m c main_v266 (ix4 (0 : Fin 1) g (4 : Fin 8) e)
      = m ((c : Thread nD τ).loc main_arg2) (ix3 (0 : Fin 4) (⟨g, by omega⟩ : Fin 8) (⟨e, by omega⟩ : Fin 18432)) := by
  unfold V
  after_reads_simp
  pointwise
  after_reads_simp
  pointwise

/-- The latent rows, one batch entry after the other. -/
theorem latent (c : Dev nD) (R : Fin 8192) (e : Fin 2048) :
    V m c main_v0 (ix2 R e)
      = m ((c : Thread nD τ).loc main_arg0) (ix3 (⟨R / 4096, by omega⟩ : Fin 2) (⟨R % 4096, by omega⟩ : Fin 4096) e) := by
  unfold V
  after_reads_simp
  pointwise

/-- The context rows, one batch entry after the other. -/
theorem context (c : Dev nD) (R : Fin 512) (e : Fin 2048) :
    V m c main_v1 (ix2 R e)
      = m ((c : Thread nD τ).loc main_arg1) (ix3 (⟨R / 256, by omega⟩ : Fin 2) (⟨R % 256, by omega⟩ : Fin 256) e) := by
  unfold V
  after_reads_simp
  pointwise

end Cert.Kernel12Ideal.Val

end
-- ==== Proof.Pre.Value.lean ====
/-
What the first pre-norm computes: the input of the first feed-forward part, and beside it the weights which that part reads.

Grid point `t` of 17 is a block of 512 rows: sixteen of latent rows, the last of context rows. The rows' modulation group is
`t / 8`.
-/
module

public import proofs.«01_k».proof.Proof.Gen.Kernel12Ideal.Value
public import proofs.«01_k».proof.Proof.Pre.Params
public import proofs.«01_k».proof.Proof.Mix.Value
public import Idealize.ShloMosaic.Lib.Pipeline.ValueKit
public import Idealize.ShloMosaic.Lib.Pointwise
public import Idealize.ShloMosaic.Lib.IdealHost

@[expose] public section

set_option maxRecDepth 16384

noncomputable section

namespace Pre

open Idealize.ShloMosaic

variable (x : FVec Ideal ⟨3, ![2, 4096, 2048]⟩ .f32) (y : FVec Ideal ⟨3, ![2, 256, 2048]⟩ .f32)
  (mods : FVec Ideal ⟨3, ![4, 8, 18432]⟩ .f32) (g : FVec Ideal ⟨3, ![4, 6, 2048]⟩ .f32)
  (w : FVec Ideal ⟨4, ![4, 2, 2048, 11008]⟩ .f32)

/-- A token's row: the latent tokens of both batch entries, then the context's. -/
def token (R : Fin 8704) (C : Fin 2048) : EReal :=
  if h : (R : ℕ) < 8192 then x (ix3 (⟨R / 4096, by omega⟩ : Fin 2) (⟨R % 4096, by omega⟩ : Fin 4096) C)
  else y (ix3 (⟨(R - 8192) / 256, by omega⟩ : Fin 2) (⟨(R - 8192) % 256, by omega⟩ : Fin 256) C)

/-- The first part's input. -/
def input (R : Fin 8704) : Fin 2048 → EReal :=
  Mix.norm (token x y R) (fun j => g (ix3 (0 : Fin 4) (0 : Fin 6) j))
    (fun j => mods (ix3 (0 : Fin 4) (Mix.grp R) (⟨2048 + j, by omega⟩ : Fin 18432)))
    (fun j => mods (ix3 (0 : Fin 4) (Mix.grp R) (⟨j, by omega⟩ : Fin 18432)))

/-- The first input weights in two halves, each with 128 columns of zeros behind. -/
def halves (p : Fin 2) (R : Fin 2048) (C : Fin 5632) : EReal :=
  if h : (C : ℕ) < 5504 then w (ix4 (0 : Fin 4) (0 : Fin 2) R (⟨p * 5504 + C, by omega⟩ : Fin 11008)) else 0

end Pre

namespace Cert.Kernel12Ideal.Val

open Cert.Kernel12Ideal Cert.Kernel12Ideal.Gen Idealize.ShloMosaic Idealize.ShloMosaic.TcCoe Idealize.SL.Sem
open Idealize.ShloMosaic.Pipeline (Dat)

/-- Whether a point's rows are latent. -/
abbrev lat (i : grid0.Coords) : BitVec 1 := Scalar.cmpi .slt (BitVec.ofNat 32 (i 0).val) 16#32

theorem lat_iff : ∀ t : Fin cfg0.N, lat (grid0.coords t) = 1#1 ↔ t.val < 16 :=
  (by decide +kernel : ∀ t : Fin grid0.N, _)

theorem pay5_at (i : grid0.Coords) (v w : Vec Ideal S512x2048 .f32) (p s h : Vec Ideal S1x1x1x2048 .f32) (r : Fin 512) (e : Fin 2048) :
    k0_pay5 i v w p s h (ix2 r e)
      = Mix.norm (fun j => if lat i = 1#1 then v (ix2 r j) else w (ix2 r j)) (fun j => p (ix4 0 0 0 j)) (fun j => s (ix4 0 0 0 j))
          (fun j => h (ix4 0 0 0 j)) e := by
  have key : ∀ u : Vec Ideal S512x2048 .f32, Scalar.select (lat i) v w = u → k0_pay5 i v w p s h (ix2 r e)
      = Mix.norm (fun j => u (ix2 r j)) (fun j => p (ix4 0 0 0 j)) (fun j => s (ix4 0 0 0 j)) (fun j => h (ix4 0 0 0 j)) e := by
    intro u hu
    unfold Mix.norm Mix.rms k0_pay5
    simp only [shapeCast_self]
    rw [hu]
    pointwise
  by_cases hb : lat i = 1#1
  · rw [key v (by simp [Scalar.select, hb])]
    simp only [if_pos hb]
  · rw [key w (by simp [Scalar.select, hb])]
    simp only [if_neg hb]

variable (m : (ℓ : Loc nD τ sig) → Buf (Elt Ideal) ℓ)

theorem idx : ∀ t : Fin cfg0.N, win0_0.index t = ![min t.val 15, 0] ∧ win0_1.index t = ![t.val - 16, 0]
    ∧ win0_2.index t = ![0, t.val / 8, 0, 0] ∧ win0_3.index t = ![0, 0, min t.val 15, 0]
    ∧ win0_4.index t = ![t.val, 0] ∧ win0_5.index t = ![0, min t.val 15, 0] :=
  (by decide +kernel : ∀ t : Fin grid0.N, _)

variable (c : Dev nD) (t : Fin cfg0.N)

theorem load_x (ht : t.val < 16) (r : Fin 512) (e : Fin 2048) (R : Fin 8192) (hR : (R : ℕ) = t.val * 512 + r) :
    iblk m c 0 t (ix2 r e)
      = m ((c : Thread nD τ).loc main_arg0) (ix3 (⟨R / 4096, by omega⟩ : Fin 2) (⟨R % 4096, by omega⟩ : Fin 4096) e) := by
  rw [← latent m c]
  unfold iblk
  generalize V m c = W
  have hm : min t.val 15 = t.val := by omega
  blk_point [idx t]

theorem load_y (ht : ¬ t.val < 16) (r : Fin 512) (e : Fin 2048) :
    iblk m c 1 t (ix2 r e)
      = m ((c : Thread nD τ).loc main_arg1) (ix3 (⟨r / 256, by omega⟩ : Fin 2) (⟨r % 256, by omega⟩ : Fin 256) e) := by
  have h17 : t.val < 17 := t.isLt
  rw [← context m c]
  unfold iblk
  generalize V m c = W
  blk_point [idx t]

/-- A row of the parameters of the point's group. -/
theorem load_p (r : Fin 8) (e : Fin 2048) (g : Fin 3) (hg : (g : ℕ) = t.val / 8) :
    iblk m c 2 t (ix4 (0 : Fin 1) (0 : Fin 1) r e) = V m c main_v266 (ix4 (0 : Fin 1) g r e) := by
  rw [← gathered]
  unfold iblk
  generalize V m c = W
  blk_point [idx t]

theorem load_w (r : Fin 128) (e : Fin 11008) (R : Fin 2048) (hR : (R : ℕ) = min t.val 15 * 128 + r) :
    iblk m c 3 t (ix4 (0 : Fin 1) (0 : Fin 1) r e) = m ((c : Thread nD τ).loc main_arg4) (ix4 (0 : Fin 4) (0 : Fin 2) R e) := by
  rw [← V_main_arg4 m c]
  unfold iblk
  generalize V m c = W
  blk_point [idx t]

variable (R : Fin 8704) (hR : (R : ℕ) / 512 = t.val)

/-- The first part's input, of the kernel's arguments. -/
abbrev inputOf : Fin 2048 → EReal :=
  Pre.input (m ((c : Thread nD τ).loc main_arg0)) (m ((c : Thread nD τ).loc main_arg1)) (m ((c : Thread nD τ).loc main_arg2))
    (m ((c : Thread nD τ).loc main_arg3)) R

/-- The row the point reads is the token's. -/
theorem load_row (r : Fin 512) (hr : (R : ℕ) = t.val * 512 + r) (e : Fin 2048) :
    (if lat (grid0.coords t) = 1#1 then iblk m c 0 t (ix2 r e) else iblk m c 1 t (ix2 r e))
      = Pre.token (m ((c : Thread nD τ).loc main_arg0)) (m ((c : Thread nD τ).loc main_arg1)) R e := by
  have h17 : t.val < 17 := t.isLt
  unfold Pre.token
  by_cases ht : t.val < 16
  · rw [if_pos ((lat_iff t).2 ht), dif_pos (by omega)]
    exact load_x m c t ht r e ⟨R, by omega⟩ hr
  · rw [if_neg (fun h => ht ((lat_iff t).1 h)), dif_neg (by omega), load_y m c t ht r e]
    have hr' : (R : ℕ) - 8192 = r := by omega
    refine congrArg (m ((c : Thread nD τ).loc main_arg1)) ?_
    exact congrArg₂ (fun a b => ix3 a b e) (Fin.ext (by show (r : ℕ) / 256 = (R - 8192) / 256; rw [hr']))
      (Fin.ext (by show (r : ℕ) % 256 = (R - 8192) % 256; rw [hr']))

include hR

theorem load_pre (e : Fin 2048) : iblk m c 2 t (ix4 (0 : Fin 1) (0 : Fin 1) (2 : Fin 8) e)
    = m ((c : Thread nD τ).loc main_arg3) (ix3 (0 : Fin 4) (0 : Fin 6) e) := by
  rw [← pre_row m c ⟨t.val / 8, by omega⟩ e, ← load_p m c t 2 e _ rfl]

theorem load_scale (e : Fin 2048) : iblk m c 2 t (ix4 (0 : Fin 1) (0 : Fin 1) (3 : Fin 8) e)
    = m ((c : Thread nD τ).loc main_arg2) (ix3 (0 : Fin 4) (Mix.grp R) (⟨2048 + e, by omega⟩ : Fin 18432)) := by
  have hg : Mix.grp R = ⟨t.val / 8, by omega⟩ := Fin.ext (by show (R : ℕ) / 4096 = t.val / 8; omega)
  rw [hg, ← scale_row m c ⟨t.val / 8, by omega⟩ e, ← load_p m c t 3 e _ rfl]

theorem load_shift (e : Fin 2048) : iblk m c 2 t (ix4 (0 : Fin 1) (0 : Fin 1) (4 : Fin 8) e)
    = m ((c : Thread nD τ).loc main_arg2) (ix3 (0 : Fin 4) (Mix.grp R) (⟨e, by omega⟩ : Fin 18432)) := by
  have hg : Mix.grp R = ⟨t.val / 8, by omega⟩ := Fin.ext (by show (R : ℕ) / 4096 = t.val / 8; omega)
  rw [hg, ← shift_row m c ⟨t.val / 8, by omega⟩ e, ← load_p m c t 4 e _ rfl]

omit hR

theorem input_point (r : Fin 512) (e : Fin 2048) (hr : (R : ℕ) = t.val * 512 + r) :
    (outsAt0 m c t).1 (ix2 r e) = inputOf m c R e := by
  unfold outsAt0
  frame_out
  refine (pay5_at _ _ _ _ _ _ r e).trans (Cert.Kernel7Ideal.Val.norm_of ?_ ?_ ?_ ?_ e)
  · exact load_row m c t R r hr
  · intro j
    refine Eq.trans ?_ (load_pre m c t R (by omega) j)
    exact View.ld_unit_apply_of _ _ _ _ _ _ fun a => match a with
      | ⟨0, _⟩ => rfl
      | ⟨1, _⟩ => rfl
      | ⟨2, _⟩ => rfl
      | ⟨3, _⟩ => (Nat.zero_add _).symm
  · intro j
    refine Eq.trans ?_ (load_scale m c t R (by omega) j)
    exact View.ld_unit_apply_of _ _ _ _ _ _ fun a => match a with
      | ⟨0, _⟩ => rfl
      | ⟨1, _⟩ => rfl
      | ⟨2, _⟩ => rfl
      | ⟨3, _⟩ => (Nat.zero_add _).symm
  · intro j
    refine Eq.trans ?_ (load_shift m c t R (by omega) j)
    exact View.ld_unit_apply_of _ _ _ _ _ _ fun a => match a with
      | ⟨0, _⟩ => rfl
      | ⟨1, _⟩ => rfl
      | ⟨2, _⟩ => rfl
      | ⟨3, _⟩ => (Nat.zero_add _).symm

theorem input_final : (dats m 0 c).arrAt 4 (cfgs 0).N = fun i => inputOf m c (i 0) (i 1) := by
  refine (dats m 0 c).arrAt_eq_of_covers 4 _ (by decide +kernel) fun t hf y => ?_
  have e0 : (((cfg0.win 4).blk t).view.emb y 0 : ℕ) = t.val * 512 + (y 0 : ℕ) := by blk_simp [idx t]
  have e1 : ((cfg0.win 4).blk t).view.emb y 1 = (⟨y 1, (y 1).isLt⟩ : Fin 2048) := Fin.ext (by blk_simp [idx t])
  show _ = inputOf m c (((cfg0.win 4).blk t).view.emb y 0) (((cfg0.win 4).blk t).view.emb y 1)
  rw [e1]
  refine Eq.trans ?_ (input_point m c t _ ⟨y 0, (y 0).isLt⟩ ⟨y 1, (y 1).isLt⟩ e0)
  rw [show ix2 (⟨y 0, (y 0).isLt⟩ : Fin 512) (⟨y 1, (y 1).isLt⟩ : Fin 2048) = y from (eq_ix2 y).symm]
  blk_simp
  rw [after0_4]

/-! ## The weights -/

theorem pay1_at (v : Vec Ideal S1x1x128x5504 .f32) (x : S1x128x5504.Idx) (r : Fin 128) (e : Fin 5504) (h1 : (x 1 : ℕ) = r)
    (h2 : (x 2 : ℕ) = e) : k0_pay1 v x = v (ix4 0 0 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  pointwise [k0_pay1]

theorem pay3_at (v : Vec Ideal S1x1x128x5504 .f32) (x : S1x128x5504.Idx) (r : Fin 128) (e : Fin 5504) (h1 : (x 1 : ℕ) = r)
    (h2 : (x 2 : ℕ) = e) : k0_pay3 v x = v (ix4 0 0 r e) := by
  have hx : x = ix3 (0 : Fin 1) r e := funext fun a => match a with
    | ⟨0, _⟩ => Subsingleton.elim (α := Fin 1) _ _
    | ⟨1, _⟩ => Fin.ext h1
    | ⟨2, _⟩ => Fin.ext h2
  rw [hx]
  pointwise [k0_pay3]

theorem pay2_at (i : S1x128x128.Idx) : k0_pay2 (F := Ideal) i = (0 : EReal) := by
  pointwise [k0_pay2]

theorem pay4_at (i : S1x128x128.Idx) : k0_pay4 (F := Ideal) i = (0 : EReal) := by
  pointwise [k0_pay4]

theorem halves_point (c : Dev nD) (t : Fin cfg0.N) (p : Fin 2) (r : Fin 128) (e : Fin 5632) (R : Fin 2048)
    (hR : (R : ℕ) = min t.val 15 * 128 + r) :
    (outsAt0 m c t).2 (ix3 p r e) = Pre.halves (m ((c : Thread nD τ).loc main_arg4)) p R e := by
  unfold outsAt0
  frame_out
  canon_tiles x h using View.cover_of_tiledBy _ ![1, 128, 128] (by sl_kernel_rfl) _
  all_goals unfold Pre.halves
  · have e2 : (e : ℕ) = 5504 + (x 2 : ℕ) := h2
    rw [dif_neg (by omega)]
    exact pay4_at x
  · have e0 : (p : ℕ) = 1 + (x 0 : ℕ) := h0
    have e1 : (r : ℕ) = (x 1 : ℕ) := h1
    have e2 : (e : ℕ) = (x 2 : ℕ) := h2
    rw [dif_pos (by omega)]
    refine (pay3_at _ x r ⟨x 2, x2_lt⟩ h1.symm rfl).trans ?_
    blk_point [iblk, V, idx t]
  · have e2 : (e : ℕ) = 5504 + (x 2 : ℕ) := h2
    rw [dif_neg (by omega)]
    exact pay2_at x
  · have e0 : (p : ℕ) = (x 0 : ℕ) := h0
    have e1 : (r : ℕ) = (x 1 : ℕ) := h1
    have e2 : (e : ℕ) = (x 2 : ℕ) := h2
    rw [dif_pos (by omega)]
    refine (pay1_at _ x r ⟨x 2, x2_lt⟩ h1.symm rfl).trans ?_
    blk_point [iblk, V, idx t]

theorem halves_final (c : Dev nD) : (dats m 0 c).arrAt 5 (cfgs 0).N
    = fun i => Pre.halves (m ((c : Thread nD τ).loc main_arg4)) (i 0) (i 1) (i 2) := by
  refine (dats m 0 c).arrAt_eq_of_covers 5 _ (by decide +kernel) fun t hf y => ?_
  have e0 : ((cfg0.win 5).blk t).view.emb y 0 = (⟨y 0, (y 0).isLt⟩ : Fin 2) := Fin.ext (by blk_simp [idx t])
  have e1 : (((cfg0.win 5).blk t).view.emb y 1 : ℕ) = min t.val 15 * 128 + (y 1 : ℕ) := by blk_simp [idx t]
  have e2 : ((cfg0.win 5).blk t).view.emb y 2 = (⟨y 2, (y 2).isLt⟩ : Fin 5632) := Fin.ext (by blk_simp [idx t])
  rw [e0, e2]
  refine Eq.trans ?_ (halves_point m c t ⟨y 0, (y 0).isLt⟩ ⟨y 1, (y 1).isLt⟩ ⟨y 2, (y 2).isLt⟩ _ e1)
  blk_simp
  rw [after0_5]
  exact congrArg _ (eq_ix3 y)

end Cert.Kernel12Ideal.Val

end
-- ==== Proof.Pre.Ref.lean ====
/- What the reference of the first pre-norm computes, read at an index. -/
module

public import proofs.«01_k».proof.Proof.Gen.Reference12Ideal.Read
public import proofs.«01_k».proof.Proof.Pre.Value
public import Idealize.ShloMosaic.Lib.Pointwise

@[expose] public section

set_option maxRecDepth 16384

noncomputable section

namespace Cert.Reference12Ideal.Ref

open Cert.Reference12Ideal Cert.Reference12Ideal.Gen Cert.Reference12Ideal.Read Idealize.ShloMosaic Idealize.ShloMosaic.TcCoe

variable (x : FVec Ideal S2x4096x2048 .f32) (y : FVec Ideal S2x256x2048 .f32)
  (mods : FVec Ideal S4x8x18432 .f32) (g : FVec Ideal S4x6x2048 .f32)

theorem grp_eq (R : Fin 8704) (k : Fin 8) (h : (R : ℕ) / 4096 = k) : Mix.grp R = k := Fin.ext h

/-- A token's row. -/
theorem token_at (R : Fin 8704) (C : Fin 2048) : val_main_v5 (F := Ideal) x y (ix2 R C) = Pre.token x y R C := by
  pointwise [val_main_v5, val_main_v4, val_main_v3, Pre.token]

/-- The scale of a row. -/
theorem scale_at (R : Fin 8704) (C : Fin 2048) :
    val_main_v32 (F := Ideal) mods (ix2 R C) = mods (ix3 (0 : Fin 4) (Mix.grp R) (⟨2048 + C, by omega⟩ : Fin 18432)) := by
  pointwise [val_main_v32, val_main_v31, val_main_v30, val_main_v29, val_main_v28, val_main_v27,
    val_main_v26, val_main_v25, val_main_v24, val_main_v23, val_main_v22, val_main_v21,
    val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

/-- The shift of a row. -/
theorem shift_at (R : Fin 8704) (C : Fin 2048) :
    val_main_v47 (F := Ideal) mods (ix2 R C) = mods (ix3 (0 : Fin 4) (Mix.grp R) (⟨C, by omega⟩ : Fin 18432)) := by
  pointwise [val_main_v47, val_main_v46, val_main_v45, val_main_v44, val_main_v43, val_main_v42,
    val_main_v41, val_main_v40, val_main_v39, val_main_v38, val_main_v37, val_main_v36,
    val_main_v2, val_main_v1, val_main_v0]
  split
  · rw [grp_eq R 0 (by show (R : ℕ) / 4096 = 0; omega)]
  · split
    · rw [grp_eq R 1 (by show (R : ℕ) / 4096 = 1; omega)]
    · rw [grp_eq R 2 (by show (R : ℕ) / 4096 = 2; omega)]

theorem pre_at (R : Fin 8704) (C : Fin 2048) :
    val_main_v19 (F := Ideal) g (ix2 R C) = g (ix3 (0 : Fin 4) (0 : Fin 6) C) := by
  pointwise [val_main_v19, val_main_v18, val_main_v17, val_main_v16]

/-- The token's row normed. -/
theorem rms_token (R : Fin 8704) (C : Fin 2048) :
    val_main_v15 (F := Ideal) x y (ix2 R C) = Mix.rms (Pre.token x y R) C := by
  rw [show Pre.token x y R = fun j => val_main_v5 (F := Ideal) x y (ix2 R j) from
    funext fun j => (token_at x y R j).symm]
  unfold Mix.rms val_main_v15 val_main_v14 val_main_v13 val_main_v12 val_main_v11 val_main_v10 val_main_v9 val_main_v8
    val_main_v7 val_main_v6 val_main_cst val_main_cst_0 val_main_cst_1
  generalize val_main_v5 (F := Ideal) x y = z
  pointwise

theorem input_at (R : Fin 8704) (C : Fin 2048) :
    val_main_v61 (F := Ideal) x y mods g (ix2 R C) = Pre.input x y mods g R C := by
  rw [val_main_v61_apply, val_main_v48_apply, val_main_v35_apply, val_main_v34_apply, val_main_v33_apply, val_main_v20_apply,
    val_main_cst_2_apply, rms_token, scale_at, shift_at, pre_at]
  show _ * _ * (Ideal.ofBits .f32 0x3F800000#32 + _) + _ = _ * (_ * (_ + _)) + _
  rw [mul_assoc]

theorem input : val_main_v61 (F := Ideal) x y mods g = fun i => Pre.input x y mods g (i 0) (i 1) := by
  funext i
  obtain ⟨R, C, rfl⟩ : ∃ (R : Fin 8704) (C : Fin 2048), i = ix2 R C := ⟨i 0, i 1, eq_ix2 i⟩
  exact input_at x y mods g R C

theorem halves (w : FVec Ideal S4x2x2048x11008 .f32) :
    val_main_v60 (F := Ideal) w = fun i => Pre.halves w (i 0) (i 1) (i 2) := by
  funext i
  obtain ⟨p, R, C, rfl⟩ : ∃ (p : Fin 2) (R : Fin 2048) (C : Fin 5632), i = ix3 p R C := ⟨i 0, i 1, i 2, eq_ix3 i⟩
  show val_main_v60 (F := Ideal) w (ix3 p R C) = Pre.halves w p R C
  pointwise [val_main_v60, val_main_v59, val_main_v58, val_main_v57, val_main_v56, val_main_v55, val_main_v54, val_main_v53,
    val_main_v52, val_main_v51, val_main_v50, val_main_v49, val_main_cst_3, Pre.halves]
  split
  · by_cases hp : (p : ℕ) < 1
    · obtain rfl : p = 0 := Fin.ext (by show (p : ℕ) = 0; omega)
      rw [dif_pos hp]
      exact congrArg w (congrArg (ix4 0 0 R) (Fin.ext (by show (C : ℕ) = 0 * 5504 + C; omega)))
    · obtain rfl : p = 1 := Fin.ext (by show (p : ℕ) = 1; omega)
      rw [dif_neg hp]
      exact congrArg w (congrArg (ix4 0 0 R) (Fin.ext (by show 5504 + (C : ℕ) = 1 * 5504 + C; omega)))
  · rfl

end Cert.Reference12Ideal.Ref

end
-- ==== Proof.Pre.Claims.lean ====
module
public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Pre.Value
public import proofs.«01_k».proof.Proof.Pre.Ref
public import Idealize.ShloMosaic.Lib.Claim
public import Idealize.ShloMosaic.Lib.Quiescent
@[expose] public section
/-! The claims of the first pre-norm, with the weights beside it. -/
set_option maxRecDepth 32768

noncomputable section

open Idealize.ShloMosaic Idealize.ShloMosaic.TcCoe Idealize.SL.Sem

namespace Cert.Proof.PreClaims

theorem frame_p : Cert.quiescent_Kernel12 := fun m ρ _ => Cert.Kernel12.Gen.frame m ρ
theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono
    (fun r h => ⟨fun c => (h c).2.2, sem_eq_zero_of_no_sems (by decide) r.2⟩)
    (Cert.Reference12Ideal.Value.run (F := Ideal) m ρ)

theorem preserves : Cert.preserves_Kernel12_Kernel12Ideal := trivial

section

open Cert.Reference12Ideal Cert.Reference12Ideal.Read

variable (m : (ℓ : Loc Cert.Kernel12Ideal.nD Cert.Kernel12Ideal.τ Cert.Kernel12Ideal.sig) → Buf (Elt Ideal) ℓ)
  (m' : (ℓ : Loc nD τ sig) → Buf (Elt Ideal) ℓ) (c : Dev nD)

/-- The reference's first result, of the kernel's arguments. -/
theorem result_0
    (a0 : m' ((c.tc : Thread nD τ).loc main_arg0) = m ((c.tc : Thread _ _).loc Cert.Kernel12Ideal.main_arg0))
    (a1 : m' ((c.tc : Thread nD τ).loc main_arg1) = m ((c.tc : Thread _ _).loc Cert.Kernel12Ideal.main_arg1))
    (a2 : m' ((c.tc : Thread nD τ).loc main_arg2) = m ((c.tc : Thread _ _).loc Cert.Kernel12Ideal.main_arg2))
    (a3 : m' ((c.tc : Thread nD τ).loc main_arg3) = m ((c.tc : Thread _ _).loc Cert.Kernel12Ideal.main_arg3)) :
    val_main_v61 (F := Ideal) (m' ((c.tc : Thread nD τ).loc main_arg0))
        (m' ((c.tc : Thread nD τ).loc main_arg1))
        (m' ((c.tc : Thread nD τ).loc main_arg2))
        (m' ((c.tc : Thread nD τ).loc main_arg3))
      = fun i => Cert.Kernel12Ideal.Val.inputOf m c (i 0) (i 1) := by
  rw [a0, a1, a2, a3]
  exact Ref.input _ _ _ _

/-- The reference's second result, of the kernel's arguments. -/
theorem result_1
    (a4 : m' ((c.tc : Thread nD τ).loc main_arg4) = m ((c.tc : Thread _ _).loc Cert.Kernel12Ideal.main_arg4)) :
    val_main_v60 (F := Ideal) (m' ((c.tc : Thread nD τ).loc main_arg4))
      = fun i => Pre.halves (m ((c.tc : Thread _ _).loc Cert.Kernel12Ideal.main_arg4)) (i 0) (i 1) (i 2) := by
  rw [a4]
  exact Ref.halves _

end

/-- The kernel's two results are the reference's: the first part's input, and the two halves of the first input weights. -/
theorem algebraic : Cert.algebraic_Kernel12Ideal_Reference12Ideal := by
  pair_intro
  · run_from Cert.Kernel12Ideal.Gen.run_main m g
  · run_from Cert.Reference12Ideal.Value.run m' g'
    · exact (result_0 m m' c (hagree c).1 (hagree c).2.1 (hagree c).2.2.1 (hagree c).2.2.2.1).trans
        (Cert.Kernel12Ideal.Val.input_final m c).symm
    · exact (result_1 m m' c (hagree c).2.2.2.2).trans (Cert.Kernel12Ideal.Val.halves_final m c).symm

end Cert.Proof.PreClaims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Pre_finite4
public import proofs.«01_k».proof.Proof.Gen.Pre_finite5
public import proofs.«01_k».proof.Proof.Gen.Pre_finite6
public import proofs.«01_k».proof.Proof.Gen.Pre_finite10
public import proofs.«01_k».proof.Proof.Attn.Claims
public import proofs.«01_k».proof.Proof.Ffn.Claims
public import proofs.«01_k».proof.Proof.Out.Claims
public import proofs.«01_k».proof.Proof.Gelu.Claims
public import proofs.«01_k».proof.Proof.Rope.Claims
public import proofs.«01_k».proof.Proof.Rope2.Claims
public import proofs.«01_k».proof.Proof.Mix.Claims
public import proofs.«01_k».proof.Proof.Mix2.Claims
public import proofs.«01_k».proof.Proof.Gate.Claims
public import proofs.«01_k».proof.Proof.Win.Claims
public import proofs.«01_k».proof.Proof.Ada.Claims
public import proofs.«01_k».proof.Proof.Pre.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Pre_finite.Gen.facts, Cert.Pre_finite4.Gen.facts, Cert.Pre_finite5.Gen.facts,
    Cert.Pre_finite6.Gen.facts, Cert.Pre_finite10.Gen.facts,
    AttnClaims.frame_p, AttnClaims.frame_pi, AttnClaims.frame_pi', AttnClaims.frame_ri, AttnClaims.frame_ri',
    FfnClaims.frame_p, FfnClaims.frame_pi, FfnClaims.frame_ri,
    OutClaims.frame_p, OutClaims.frame_pi, OutClaims.frame_ri,
    GeluClaims.frame_p, GeluClaims.frame_pi, GeluClaims.frame_pi', GeluClaims.frame_ri, GeluClaims.frame_ri',
    RopeClaims.frame_p, RopeClaims.frame_pi, RopeClaims.frame_pi', RopeClaims.frame_ri, RopeClaims.frame_ri',
    Rope2Claims.frame_p, Rope2Claims.frame_pi, Rope2Claims.frame_pi', Rope2Claims.frame_ri, Rope2Claims.frame_ri',
    MixClaims.frame_p, MixClaims.frame_pi, MixClaims.frame_ri,
    Mix2Claims.frame_p, Mix2Claims.frame_pi, Mix2Claims.frame_ri,
    GateClaims.frame_p, GateClaims.frame_pi, GateClaims.frame_ri,
    WinClaims.frame_p, WinClaims.frame_pi, WinClaims.frame_pi', WinClaims.frame_ri, WinClaims.frame_ri',
    AdaClaims.frame_p, AdaClaims.frame_pi, AdaClaims.frame_ri,
    PreClaims.frame_p, PreClaims.frame_pi, PreClaims.frame_ri,
    AttnClaims.preserves, AttnClaims.algebraic, FfnClaims.preserves, FfnClaims.algebraic,
    OutClaims.preserves, OutClaims.algebraic, GeluClaims.preserves, GeluClaims.algebraic,
    RopeClaims.preserves, RopeClaims.algebraic, Rope2Claims.preserves, Rope2Claims.algebraic,
    MixClaims.preserves, MixClaims.algebraic, Mix2Claims.preserves, Mix2Claims.algebraic,
    GateClaims.preserves, GateClaims.algebraic, WinClaims.preserves, WinClaims.algebraic,
    AdaClaims.preserves, AdaClaims.algebraic,
    PreClaims.preserves, PreClaims.algebraic⟩

end Cert.Proof

end
